-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FDownT (m : (ℓ : Loc Cert.FDownT.nD Cert.FDownT.τ Cert.FDownT.sig) → Buf (Elt Bits) ℓ) : Prop :=
  True

def Pre_FDownTIdeal (m : (ℓ : Loc Cert.FDownTIdeal.nD Cert.FDownTIdeal.τ Cert.FDownTIdeal.sig) → Buf (Elt Ideal) ℓ) : Prop :=
  True

def Pre_FDownTRefIdeal (m : (ℓ : Loc Cert.FDownTRefIdeal.nD Cert.FDownTRefIdeal.τ Cert.FDownTRefIdeal.sig) → Buf (Elt Ideal) ℓ) : Prop :=
  True

def Pre_FDownG (m : (ℓ : Loc Cert.FDownG.nD Cert.FDownG.τ Cert.FDownG.sig) → Buf (Elt Bits) ℓ) : Prop :=
  True

def Pre_FDownGIdeal (m : (ℓ : Loc Cert.FDownGIdeal.nD Cert.FDownGIdeal.τ Cert.FDownGIdeal.sig) → Buf (Elt Ideal) ℓ) : Prop :=
  True

def Pre_FDownGRefIdeal (m : (ℓ : Loc Cert.FDownGRefIdeal.nD Cert.FDownGRefIdeal.τ Cert.FDownGRefIdeal.sig) → Buf (Elt Ideal) ℓ) : Prop :=
  True

def Pre_FUpT (m : (ℓ : Loc Cert.FUpT.nD Cert.FUpT.τ Cert.FUpT.sig) → Buf (Elt Bits) ℓ) : Prop :=
  True

def Pre_FUpTIdeal (m : (ℓ : Loc Cert.FUpTIdeal.nD Cert.FUpTIdeal.τ Cert.FUpTIdeal.sig) → Buf (Elt Ideal) ℓ) : Prop :=
  True

def Pre_FUpTRefIdeal (m : (ℓ : Loc Cert.FUpTRefIdeal.nD Cert.FUpTRefIdeal.τ Cert.FUpTRefIdeal.sig) → Buf (Elt Ideal) ℓ) : Prop :=
  True

def Pre_FUpG (m : (ℓ : Loc Cert.FUpG.nD Cert.FUpG.τ Cert.FUpG.sig) → Buf (Elt Bits) ℓ) : Prop :=
  True

def Pre_FUpGIdeal (m : (ℓ : Loc Cert.FUpGIdeal.nD Cert.FUpGIdeal.τ Cert.FUpGIdeal.sig) → Buf (Elt Ideal) ℓ) : Prop :=
  True

def Pre_FUpGRefIdeal (m : (ℓ : Loc Cert.FUpGRefIdeal.nD Cert.FUpGRefIdeal.τ Cert.FUpGRefIdeal.sig) → Buf (Elt Ideal) ℓ) : Prop :=
  True

def Pre_BOutT (m : (ℓ : Loc Cert.BOutT.nD Cert.BOutT.τ Cert.BOutT.sig) → Buf (Elt Bits) ℓ) : Prop :=
  True

def Pre_BOutTIdeal (m : (ℓ : Loc Cert.BOutTIdeal.nD Cert.BOutTIdeal.τ Cert.BOutTIdeal.sig) → Buf (Elt Ideal) ℓ) : Prop :=
  True

def Pre_BOutTRefIdeal (m : (ℓ : Loc Cert.BOutTRefIdeal.nD Cert.BOutTRefIdeal.τ Cert.BOutTRefIdeal.sig) → Buf (Elt Ideal) ℓ) : Prop :=
  True

def Pre_BOutG (m : (ℓ : Loc Cert.BOutG.nD Cert.BOutG.τ Cert.BOutG.sig) → Buf (Elt Bits) ℓ) : Prop :=
  True

def Pre_BOutGIdeal (m : (ℓ : Loc Cert.BOutGIdeal.nD Cert.BOutGIdeal.τ Cert.BOutGIdeal.sig) → Buf (Elt Ideal) ℓ) : Prop :=
  True

def Pre_BOutGRefIdeal (m : (ℓ : Loc Cert.BOutGRefIdeal.nD Cert.BOutGRefIdeal.τ Cert.BOutGRefIdeal.sig) → Buf (Elt Ideal) ℓ) : Prop :=
  True

def Pre_BInT (m : (ℓ : Loc Cert.BInT.nD Cert.BInT.τ Cert.BInT.sig) → Buf (Elt Bits) ℓ) : Prop :=
  True

def Pre_BInTIdeal (m : (ℓ : Loc Cert.BInTIdeal.nD Cert.BInTIdeal.τ Cert.BInTIdeal.sig) → Buf (Elt Ideal) ℓ) : Prop :=
  True

def Pre_BInTRefIdeal (m : (ℓ : Loc Cert.BInTRefIdeal.nD Cert.BInTRefIdeal.τ Cert.BInTRefIdeal.sig) → Buf (Elt Ideal) ℓ) : Prop :=
  True

def Pre_BInG (m : (ℓ : Loc Cert.BInG.nD Cert.BInG.τ Cert.BInG.sig) → Buf (Elt Bits) ℓ) : Prop :=
  True

def Pre_BInGIdeal (m : (ℓ : Loc Cert.BInGIdeal.nD Cert.BInGIdeal.τ Cert.BInGIdeal.sig) → Buf (Elt Ideal) ℓ) : Prop :=
  True

def Pre_BInGRefIdeal (m : (ℓ : Loc Cert.BInGRefIdeal.nD Cert.BInGRefIdeal.τ Cert.BInGRefIdeal.sig) → Buf (Elt Ideal) ℓ) : Prop :=
  True

def Pre_AInT (m : (ℓ : Loc Cert.AInT.nD Cert.AInT.τ Cert.AInT.sig) → Buf (Elt Bits) ℓ) : Prop :=
  True

def Pre_AInTIdeal (m : (ℓ : Loc Cert.AInTIdeal.nD Cert.AInTIdeal.τ Cert.AInTIdeal.sig) → Buf (Elt Ideal) ℓ) : Prop :=
  True

def Pre_AInTRefIdeal (m : (ℓ : Loc Cert.AInTRefIdeal.nD Cert.AInTRefIdeal.τ Cert.AInTRefIdeal.sig) → Buf (Elt Ideal) ℓ) : Prop :=
  True

def Pre_AInG (m : (ℓ : Loc Cert.AInG.nD Cert.AInG.τ Cert.AInG.sig) → Buf (Elt Bits) ℓ) : Prop :=
  True

def Pre_AInGIdeal (m : (ℓ : Loc Cert.AInGIdeal.nD Cert.AInGIdeal.τ Cert.AInGIdeal.sig) → Buf (Elt Ideal) ℓ) : Prop :=
  True

def Pre_AInGRefIdeal (m : (ℓ : Loc Cert.AInGRefIdeal.nD Cert.AInGRefIdeal.τ Cert.AInGRefIdeal.sig) → Buf (Elt Ideal) ℓ) : Prop :=
  True

def Pre_FUp (m : (ℓ : Loc Cert.FUp.nD Cert.FUp.τ Cert.FUp.sig) → Buf (Elt Bits) ℓ) : Prop :=
  True

def Pre_FUpIdeal (m : (ℓ : Loc Cert.FUpIdeal.nD Cert.FUpIdeal.τ Cert.FUpIdeal.sig) → Buf (Elt Ideal) ℓ) : Prop :=
  True

def Pre_FUpRefIdeal (m : (ℓ : Loc Cert.FUpRefIdeal.nD Cert.FUpRefIdeal.τ Cert.FUpRefIdeal.sig) → Buf (Elt Ideal) ℓ) : Prop :=
  True

def Pre_FDown (m : (ℓ : Loc Cert.FDown.nD Cert.FDown.τ Cert.FDown.sig) → Buf (Elt Bits) ℓ) : Prop :=
  True

def Pre_FDownIdeal (m : (ℓ : Loc Cert.FDownIdeal.nD Cert.FDownIdeal.τ Cert.FDownIdeal.sig) → Buf (Elt Ideal) ℓ) : Prop :=
  True

def Pre_FDownRefIdeal (m : (ℓ : Loc Cert.FDownRefIdeal.nD Cert.FDownRefIdeal.τ Cert.FDownRefIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_BOut (m : (ℓ : Loc Cert.BOut.nD Cert.BOut.τ Cert.BOut.sig) → Buf (Elt Bits) ℓ) : Prop :=
  True

def Pre_BOutIdeal (m : (ℓ : Loc Cert.BOutIdeal.nD Cert.BOutIdeal.τ Cert.BOutIdeal.sig) → Buf (Elt Ideal) ℓ) : Prop :=
  True

def Pre_BOutRefIdeal (m : (ℓ : Loc Cert.BOutRefIdeal.nD Cert.BOutRefIdeal.τ Cert.BOutRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_BwdMid (m : (ℓ : Loc Cert.BwdMid.nD Cert.BwdMid.τ Cert.BwdMid.sig) → Buf (Elt Bits) ℓ) : Prop :=
  True

def Pre_BwdMidIdeal (m : (ℓ : Loc Cert.BwdMidIdeal.nD Cert.BwdMidIdeal.τ Cert.BwdMidIdeal.sig) → Buf (Elt Ideal) ℓ) : Prop :=
  True

def Pre_BwdMidRefIdeal (m : (ℓ : Loc Cert.BwdMidRefIdeal.nD Cert.BwdMidRefIdeal.τ Cert.BwdMidRefIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdMid (m : (ℓ : Loc Cert.FwdMid.nD Cert.FwdMid.τ Cert.FwdMid.sig) → Buf (Elt Bits) ℓ) : Prop :=
  True

def Pre_FwdMidIdeal (m : (ℓ : Loc Cert.FwdMidIdeal.nD Cert.FwdMidIdeal.τ Cert.FwdMidIdeal.sig) → Buf (Elt Ideal) ℓ) : Prop :=
  True

def Pre_FwdMidRefIdeal (m : (ℓ : Loc Cert.FwdMidRefIdeal.nD Cert.FwdMidRefIdeal.τ Cert.FwdMidRefIdeal.sig) → Buf (Elt Ideal) ℓ) : Prop :=
  True

def Pre_UpF1 (m : (ℓ : Loc Cert.UpF1.nD Cert.UpF1.τ Cert.UpF1.sig) → Buf (Elt Bits) ℓ) : Prop :=
  True

def Pre_UpF1Ideal (m : (ℓ : Loc Cert.UpF1Ideal.nD Cert.UpF1Ideal.τ Cert.UpF1Ideal.sig) → Buf (Elt Ideal) ℓ) : Prop :=
  True

def Pre_UpF1RefIdeal (m : (ℓ : Loc Cert.UpF1RefIdeal.nD Cert.UpF1RefIdeal.τ Cert.UpF1RefIdeal.sig) → Buf (Elt Ideal) ℓ) : Prop :=
  True

def Pre_UpF2 (m : (ℓ : Loc Cert.UpF2.nD Cert.UpF2.τ Cert.UpF2.sig) → Buf (Elt Bits) ℓ) : Prop :=
  True

def Pre_UpF2Ideal (m : (ℓ : Loc Cert.UpF2Ideal.nD Cert.UpF2Ideal.τ Cert.UpF2Ideal.sig) → Buf (Elt Ideal) ℓ) : Prop :=
  True

def Pre_UpF2RefIdeal (m : (ℓ : Loc Cert.UpF2RefIdeal.nD Cert.UpF2RefIdeal.τ Cert.UpF2RefIdeal.sig) → Buf (Elt Ideal) ℓ) : Prop :=
  True

def Pre_UpBIn (m : (ℓ : Loc Cert.UpBIn.nD Cert.UpBIn.τ Cert.UpBIn.sig) → Buf (Elt Bits) ℓ) : Prop :=
  True

def Pre_UpBInIdeal (m : (ℓ : Loc Cert.UpBInIdeal.nD Cert.UpBInIdeal.τ Cert.UpBInIdeal.sig) → Buf (Elt Ideal) ℓ) : Prop :=
  True

def Pre_UpBInRefIdeal (m : (ℓ : Loc Cert.UpBInRefIdeal.nD Cert.UpBInRefIdeal.τ Cert.UpBInRefIdeal.sig) → Buf (Elt Ideal) ℓ) : Prop :=
  True

def Pre_UpOut (m : (ℓ : Loc Cert.UpOut.nD Cert.UpOut.τ Cert.UpOut.sig) → Buf (Elt Bits) ℓ) : Prop :=
  True

def Pre_UpOutIdeal (m : (ℓ : Loc Cert.UpOutIdeal.nD Cert.UpOutIdeal.τ Cert.UpOutIdeal.sig) → Buf (Elt Ideal) ℓ) : Prop :=
  True

def Pre_UpOutRefIdeal (m : (ℓ : Loc Cert.UpOutRefIdeal.nD Cert.UpOutRefIdeal.τ Cert.UpOutRefIdeal.sig) → Buf (Elt Ideal) ℓ) : Prop :=
  True

def Pre_UpAIn (m : (ℓ : Loc Cert.UpAIn.nD Cert.UpAIn.τ Cert.UpAIn.sig) → Buf (Elt Bits) ℓ) : Prop :=
  True

def Pre_UpAInIdeal (m : (ℓ : Loc Cert.UpAInIdeal.nD Cert.UpAInIdeal.τ Cert.UpAInIdeal.sig) → Buf (Elt Ideal) ℓ) : Prop :=
  True

def Pre_UpAInRefIdeal (m : (ℓ : Loc Cert.UpAInRefIdeal.nD Cert.UpAInRefIdeal.τ Cert.UpAInRefIdeal.sig) → Buf (Elt Ideal) ℓ) : Prop :=
  True

def Pre_UpVec (m : (ℓ : Loc Cert.UpVec.nD Cert.UpVec.τ Cert.UpVec.sig) → Buf (Elt Bits) ℓ) : Prop :=
  True

def Pre_UpVecIdeal (m : (ℓ : Loc Cert.UpVecIdeal.nD Cert.UpVecIdeal.τ Cert.UpVecIdeal.sig) → Buf (Elt Ideal) ℓ) : Prop :=
  True

def Pre_UpVecRefIdeal (m : (ℓ : Loc Cert.UpVecRefIdeal.nD Cert.UpVecRefIdeal.τ Cert.UpVecRefIdeal.sig) → Buf (Elt Ideal) ℓ) : Prop :=
  True

def Pre_UpConv (m : (ℓ : Loc Cert.UpConv.nD Cert.UpConv.τ Cert.UpConv.sig) → Buf (Elt Bits) ℓ) : Prop :=
  True

def Pre_UpConvIdeal (m : (ℓ : Loc Cert.UpConvIdeal.nD Cert.UpConvIdeal.τ Cert.UpConvIdeal.sig) → Buf (Elt Ideal) ℓ) : Prop :=
  True

def Pre_UpConvRefIdeal (m : (ℓ : Loc Cert.UpConvRefIdeal.nD Cert.UpConvRefIdeal.τ Cert.UpConvRefIdeal.sig) → Buf (Elt Ideal) ℓ) : Prop :=
  True

def Pre_BConv (m : (ℓ : Loc Cert.BConv.nD Cert.BConv.τ Cert.BConv.sig) → Buf (Elt Bits) ℓ) : Prop :=
  True

def Pre_BConvIdeal (m : (ℓ : Loc Cert.BConvIdeal.nD Cert.BConvIdeal.τ Cert.BConvIdeal.sig) → Buf (Elt Ideal) ℓ) : Prop :=
  True

def Pre_BConvRefIdeal (m : (ℓ : Loc Cert.BConvRefIdeal.nD Cert.BConvRefIdeal.τ Cert.BConvRefIdeal.sig) → Buf (Elt Ideal) ℓ) : Prop :=
  True

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulRefIdeal (m : (ℓ : Loc Cert.ModulRefIdeal.nD Cert.ModulRefIdeal.τ Cert.ModulRefIdeal.sig) → Buf (Elt Ideal) ℓ) : Prop :=
  True

def Pre_ModUp (m : (ℓ : Loc Cert.ModUp.nD Cert.ModUp.τ Cert.ModUp.sig) → Buf (Elt Bits) ℓ) : Prop :=
  True

def Pre_ModUpIdeal (m : (ℓ : Loc Cert.ModUpIdeal.nD Cert.ModUpIdeal.τ Cert.ModUpIdeal.sig) → Buf (Elt Ideal) ℓ) : Prop :=
  True

def Pre_ModUpRefIdeal (m : (ℓ : Loc Cert.ModUpRefIdeal.nD Cert.ModUpRefIdeal.τ Cert.ModUpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FDownT [hFDownT : Cert.FDownT.Facts] : Prop :=
  ∀ (m : (ℓ : Loc Cert.FDownT.nD Cert.FDownT.τ Cert.FDownT.sig) → Buf (Elt Bits) ℓ) (g : Dev Cert.FDownT.nD → PrngReg), Pre_FDownT m →
    θ_run (Cert.FDownT.defs (F := Bits)) (onTc (τ := Cert.FDownT.τ) (Cert.FDownT.main (F := Bits))) ⟨m, fun _ => 0, g⟩ (fun r => (∀ c : Dev Cert.FDownT.nD,
      r.2.mem ((c.tc : Thread Cert.FDownT.nD Cert.FDownT.τ).loc Cert.FDownT.main_arg0) = m ((c.tc : Thread Cert.FDownT.nD Cert.FDownT.τ).loc Cert.FDownT.main_arg0)
      ∧ r.2.mem ((c.tc : Thread Cert.FDownT.nD Cert.FDownT.τ).loc Cert.FDownT.main_arg1) = m ((c.tc : Thread Cert.FDownT.nD Cert.FDownT.τ).loc Cert.FDownT.main_arg1)
      ∧ r.2.mem ((c.tc : Thread Cert.FDownT.nD Cert.FDownT.τ).loc Cert.FDownT.main_arg2) = m ((c.tc : Thread Cert.FDownT.nD Cert.FDownT.τ).loc Cert.FDownT.main_arg2))
      ∧ r.2.sem = fun _ => 0)

def quiescent_FDownTIdeal [hFDownTIdeal : Cert.FDownTIdeal.Facts] : Prop :=
  ∀ (m : (ℓ : Loc Cert.FDownTIdeal.nD Cert.FDownTIdeal.τ Cert.FDownTIdeal.sig) → Buf (Elt Ideal) ℓ) (g : Dev Cert.FDownTIdeal.nD → PrngReg), Pre_FDownTIdeal m →
    θ_run (Cert.FDownTIdeal.defs (F := Ideal)) (onTc (τ := Cert.FDownTIdeal.τ) (Cert.FDownTIdeal.main (F := Ideal))) ⟨m, fun _ => 0, g⟩ (fun r => (∀ c : Dev Cert.FDownTIdeal.nD,
      r.2.mem ((c.tc : Thread Cert.FDownTIdeal.nD Cert.FDownTIdeal.τ).loc Cert.FDownTIdeal.main_arg0) = m ((c.tc : Thread Cert.FDownTIdeal.nD Cert.FDownTIdeal.τ).loc Cert.FDownTIdeal.main_arg0)
      ∧ r.2.mem ((c.tc : Thread Cert.FDownTIdeal.nD Cert.FDownTIdeal.τ).loc Cert.FDownTIdeal.main_arg1) = m ((c.tc : Thread Cert.FDownTIdeal.nD Cert.FDownTIdeal.τ).loc Cert.FDownTIdeal.main_arg1)
      ∧ r.2.mem ((c.tc : Thread Cert.FDownTIdeal.nD Cert.FDownTIdeal.τ).loc Cert.FDownTIdeal.main_arg2) = m ((c.tc : Thread Cert.FDownTIdeal.nD Cert.FDownTIdeal.τ).loc Cert.FDownTIdeal.main_arg2))
      ∧ r.2.sem = fun _ => 0)

def quiescent_FDownTRefIdeal [hFDownTRefIdeal : Cert.FDownTRefIdeal.Facts] : Prop :=
  ∀ (m : (ℓ : Loc Cert.FDownTRefIdeal.nD Cert.FDownTRefIdeal.τ Cert.FDownTRefIdeal.sig) → Buf (Elt Ideal) ℓ) (g : Dev Cert.FDownTRefIdeal.nD → PrngReg), Pre_FDownTRefIdeal m →
    θ_run (Cert.FDownTRefIdeal.defs (F := Ideal)) (onTc (τ := Cert.FDownTRefIdeal.τ) (Cert.FDownTRefIdeal.main (F := Ideal))) ⟨m, fun _ => 0, g⟩ (fun r => (∀ c : Dev Cert.FDownTRefIdeal.nD,
      r.2.mem ((c.tc : Thread Cert.FDownTRefIdeal.nD Cert.FDownTRefIdeal.τ).loc Cert.FDownTRefIdeal.main_arg0) = m ((c.tc : Thread Cert.FDownTRefIdeal.nD Cert.FDownTRefIdeal.τ).loc Cert.FDownTRefIdeal.main_arg0)
      ∧ r.2.mem ((c.tc : Thread Cert.FDownTRefIdeal.nD Cert.FDownTRefIdeal.τ).loc Cert.FDownTRefIdeal.main_arg1) = m ((c.tc : Thread Cert.FDownTRefIdeal.nD Cert.FDownTRefIdeal.τ).loc Cert.FDownTRefIdeal.main_arg1)
      ∧ r.2.mem ((c.tc : Thread Cert.FDownTRefIdeal.nD Cert.FDownTRefIdeal.τ).loc Cert.FDownTRefIdeal.main_arg2) = m ((c.tc : Thread Cert.FDownTRefIdeal.nD Cert.FDownTRefIdeal.τ).loc Cert.FDownTRefIdeal.main_arg2))
      ∧ r.2.sem = fun _ => 0)

def quiescent_FDownG [hFDownG : Cert.FDownG.Facts] : Prop :=
  ∀ (m : (ℓ : Loc Cert.FDownG.nD Cert.FDownG.τ Cert.FDownG.sig) → Buf (Elt Bits) ℓ) (g : Dev Cert.FDownG.nD → PrngReg), Pre_FDownG m →
    θ_run (Cert.FDownG.defs (F := Bits)) (onTc (τ := Cert.FDownG.τ) (Cert.FDownG.main (F := Bits))) ⟨m, fun _ => 0, g⟩ (fun r => (∀ c : Dev Cert.FDownG.nD,
      r.2.mem ((c.tc : Thread Cert.FDownG.nD Cert.FDownG.τ).loc Cert.FDownG.main_arg0) = m ((c.tc : Thread Cert.FDownG.nD Cert.FDownG.τ).loc Cert.FDownG.main_arg0)
      ∧ r.2.mem ((c.tc : Thread Cert.FDownG.nD Cert.FDownG.τ).loc Cert.FDownG.main_arg1) = m ((c.tc : Thread Cert.FDownG.nD Cert.FDownG.τ).loc Cert.FDownG.main_arg1))
      ∧ r.2.sem = fun _ => 0)

def quiescent_FDownGIdeal [hFDownGIdeal : Cert.FDownGIdeal.Facts] : Prop :=
  ∀ (m : (ℓ : Loc Cert.FDownGIdeal.nD Cert.FDownGIdeal.τ Cert.FDownGIdeal.sig) → Buf (Elt Ideal) ℓ) (g : Dev Cert.FDownGIdeal.nD → PrngReg), Pre_FDownGIdeal m →
    θ_run (Cert.FDownGIdeal.defs (F := Ideal)) (onTc (τ := Cert.FDownGIdeal.τ) (Cert.FDownGIdeal.main (F := Ideal))) ⟨m, fun _ => 0, g⟩ (fun r => (∀ c : Dev Cert.FDownGIdeal.nD,
      r.2.mem ((c.tc : Thread Cert.FDownGIdeal.nD Cert.FDownGIdeal.τ).loc Cert.FDownGIdeal.main_arg0) = m ((c.tc : Thread Cert.FDownGIdeal.nD Cert.FDownGIdeal.τ).loc Cert.FDownGIdeal.main_arg0)
      ∧ r.2.mem ((c.tc : Thread Cert.FDownGIdeal.nD Cert.FDownGIdeal.τ).loc Cert.FDownGIdeal.main_arg1) = m ((c.tc : Thread Cert.FDownGIdeal.nD Cert.FDownGIdeal.τ).loc Cert.FDownGIdeal.main_arg1))
      ∧ r.2.sem = fun _ => 0)

def quiescent_FDownGRefIdeal [hFDownGRefIdeal : Cert.FDownGRefIdeal.Facts] : Prop :=
  ∀ (m : (ℓ : Loc Cert.FDownGRefIdeal.nD Cert.FDownGRefIdeal.τ Cert.FDownGRefIdeal.sig) → Buf (Elt Ideal) ℓ) (g : Dev Cert.FDownGRefIdeal.nD → PrngReg), Pre_FDownGRefIdeal m →
    θ_run (Cert.FDownGRefIdeal.defs (F := Ideal)) (onTc (τ := Cert.FDownGRefIdeal.τ) (Cert.FDownGRefIdeal.main (F := Ideal))) ⟨m, fun _ => 0, g⟩ (fun r => (∀ c : Dev Cert.FDownGRefIdeal.nD,
      r.2.mem ((c.tc : Thread Cert.FDownGRefIdeal.nD Cert.FDownGRefIdeal.τ).loc Cert.FDownGRefIdeal.main_arg0) = m ((c.tc : Thread Cert.FDownGRefIdeal.nD Cert.FDownGRefIdeal.τ).loc Cert.FDownGRefIdeal.main_arg0)
      ∧ r.2.mem ((c.tc : Thread Cert.FDownGRefIdeal.nD Cert.FDownGRefIdeal.τ).loc Cert.FDownGRefIdeal.main_arg1) = m ((c.tc : Thread Cert.FDownGRefIdeal.nD Cert.FDownGRefIdeal.τ).loc Cert.FDownGRefIdeal.main_arg1))
      ∧ r.2.sem = fun _ => 0)

def quiescent_FUpT [hFUpT : Cert.FUpT.Facts] : Prop :=
  ∀ (m : (ℓ : Loc Cert.FUpT.nD Cert.FUpT.τ Cert.FUpT.sig) → Buf (Elt Bits) ℓ) (g : Dev Cert.FUpT.nD → PrngReg), Pre_FUpT m →
    θ_run (Cert.FUpT.defs (F := Bits)) (onTc (τ := Cert.FUpT.τ) (Cert.FUpT.main (F := Bits))) ⟨m, fun _ => 0, g⟩ (fun r => (∀ c : Dev Cert.FUpT.nD,
      r.2.mem ((c.tc : Thread Cert.FUpT.nD Cert.FUpT.τ).loc Cert.FUpT.main_arg0) = m ((c.tc : Thread Cert.FUpT.nD Cert.FUpT.τ).loc Cert.FUpT.main_arg0)
      ∧ r.2.mem ((c.tc : Thread Cert.FUpT.nD Cert.FUpT.τ).loc Cert.FUpT.main_arg1) = m ((c.tc : Thread Cert.FUpT.nD Cert.FUpT.τ).loc Cert.FUpT.main_arg1))
      ∧ r.2.sem = fun _ => 0)

def quiescent_FUpTIdeal [hFUpTIdeal : Cert.FUpTIdeal.Facts] : Prop :=
  ∀ (m : (ℓ : Loc Cert.FUpTIdeal.nD Cert.FUpTIdeal.τ Cert.FUpTIdeal.sig) → Buf (Elt Ideal) ℓ) (g : Dev Cert.FUpTIdeal.nD → PrngReg), Pre_FUpTIdeal m →
    θ_run (Cert.FUpTIdeal.defs (F := Ideal)) (onTc (τ := Cert.FUpTIdeal.τ) (Cert.FUpTIdeal.main (F := Ideal))) ⟨m, fun _ => 0, g⟩ (fun r => (∀ c : Dev Cert.FUpTIdeal.nD,
      r.2.mem ((c.tc : Thread Cert.FUpTIdeal.nD Cert.FUpTIdeal.τ).loc Cert.FUpTIdeal.main_arg0) = m ((c.tc : Thread Cert.FUpTIdeal.nD Cert.FUpTIdeal.τ).loc Cert.FUpTIdeal.main_arg0)
      ∧ r.2.mem ((c.tc : Thread Cert.FUpTIdeal.nD Cert.FUpTIdeal.τ).loc Cert.FUpTIdeal.main_arg1) = m ((c.tc : Thread Cert.FUpTIdeal.nD Cert.FUpTIdeal.τ).loc Cert.FUpTIdeal.main_arg1))
      ∧ r.2.sem = fun _ => 0)

def quiescent_FUpTRefIdeal [hFUpTRefIdeal : Cert.FUpTRefIdeal.Facts] : Prop :=
  ∀ (m : (ℓ : Loc Cert.FUpTRefIdeal.nD Cert.FUpTRefIdeal.τ Cert.FUpTRefIdeal.sig) → Buf (Elt Ideal) ℓ) (g : Dev Cert.FUpTRefIdeal.nD → PrngReg), Pre_FUpTRefIdeal m →
    θ_run (Cert.FUpTRefIdeal.defs (F := Ideal)) (onTc (τ := Cert.FUpTRefIdeal.τ) (Cert.FUpTRefIdeal.main (F := Ideal))) ⟨m, fun _ => 0, g⟩ (fun r => (∀ c : Dev Cert.FUpTRefIdeal.nD,
      r.2.mem ((c.tc : Thread Cert.FUpTRefIdeal.nD Cert.FUpTRefIdeal.τ).loc Cert.FUpTRefIdeal.main_arg0) = m ((c.tc : Thread Cert.FUpTRefIdeal.nD Cert.FUpTRefIdeal.τ).loc Cert.FUpTRefIdeal.main_arg0)
      ∧ r.2.mem ((c.tc : Thread Cert.FUpTRefIdeal.nD Cert.FUpTRefIdeal.τ).loc Cert.FUpTRefIdeal.main_arg1) = m ((c.tc : Thread Cert.FUpTRefIdeal.nD Cert.FUpTRefIdeal.τ).loc Cert.FUpTRefIdeal.main_arg1))
      ∧ r.2.sem = fun _ => 0)

def quiescent_FUpG [hFUpG : Cert.FUpG.Facts] : Prop :=
  ∀ (m : (ℓ : Loc Cert.FUpG.nD Cert.FUpG.τ Cert.FUpG.sig) → Buf (Elt Bits) ℓ) (g : Dev Cert.FUpG.nD → PrngReg), Pre_FUpG m →
    θ_run (Cert.FUpG.defs (F := Bits)) (onTc (τ := Cert.FUpG.τ) (Cert.FUpG.main (F := Bits))) ⟨m, fun _ => 0, g⟩ (fun r => (∀ c : Dev Cert.FUpG.nD,
      r.2.mem ((c.tc : Thread Cert.FUpG.nD Cert.FUpG.τ).loc Cert.FUpG.main_arg0) = m ((c.tc : Thread Cert.FUpG.nD Cert.FUpG.τ).loc Cert.FUpG.main_arg0)
      ∧ r.2.mem ((c.tc : Thread Cert.FUpG.nD Cert.FUpG.τ).loc Cert.FUpG.main_arg1) = m ((c.tc : Thread Cert.FUpG.nD Cert.FUpG.τ).loc Cert.FUpG.main_arg1))
      ∧ r.2.sem = fun _ => 0)

def quiescent_FUpGIdeal [hFUpGIdeal : Cert.FUpGIdeal.Facts] : Prop :=
  ∀ (m : (ℓ : Loc Cert.FUpGIdeal.nD Cert.FUpGIdeal.τ Cert.FUpGIdeal.sig) → Buf (Elt Ideal) ℓ) (g : Dev Cert.FUpGIdeal.nD → PrngReg), Pre_FUpGIdeal m →
    θ_run (Cert.FUpGIdeal.defs (F := Ideal)) (onTc (τ := Cert.FUpGIdeal.τ) (Cert.FUpGIdeal.main (F := Ideal))) ⟨m, fun _ => 0, g⟩ (fun r => (∀ c : Dev Cert.FUpGIdeal.nD,
      r.2.mem ((c.tc : Thread Cert.FUpGIdeal.nD Cert.FUpGIdeal.τ).loc Cert.FUpGIdeal.main_arg0) = m ((c.tc : Thread Cert.FUpGIdeal.nD Cert.FUpGIdeal.τ).loc Cert.FUpGIdeal.main_arg0)
      ∧ r.2.mem ((c.tc : Thread Cert.FUpGIdeal.nD Cert.FUpGIdeal.τ).loc Cert.FUpGIdeal.main_arg1) = m ((c.tc : Thread Cert.FUpGIdeal.nD Cert.FUpGIdeal.τ).loc Cert.FUpGIdeal.main_arg1))
      ∧ r.2.sem = fun _ => 0)

def quiescent_FUpGRefIdeal [hFUpGRefIdeal : Cert.FUpGRefIdeal.Facts] : Prop :=
  ∀ (m : (ℓ : Loc Cert.FUpGRefIdeal.nD Cert.FUpGRefIdeal.τ Cert.FUpGRefIdeal.sig) → Buf (Elt Ideal) ℓ) (g : Dev Cert.FUpGRefIdeal.nD → PrngReg), Pre_FUpGRefIdeal m →
    θ_run (Cert.FUpGRefIdeal.defs (F := Ideal)) (onTc (τ := Cert.FUpGRefIdeal.τ) (Cert.FUpGRefIdeal.main (F := Ideal))) ⟨m, fun _ => 0, g⟩ (fun r => (∀ c : Dev Cert.FUpGRefIdeal.nD,
      r.2.mem ((c.tc : Thread Cert.FUpGRefIdeal.nD Cert.FUpGRefIdeal.τ).loc Cert.FUpGRefIdeal.main_arg0) = m ((c.tc : Thread Cert.FUpGRefIdeal.nD Cert.FUpGRefIdeal.τ).loc Cert.FUpGRefIdeal.main_arg0)
      ∧ r.2.mem ((c.tc : Thread Cert.FUpGRefIdeal.nD Cert.FUpGRefIdeal.τ).loc Cert.FUpGRefIdeal.main_arg1) = m ((c.tc : Thread Cert.FUpGRefIdeal.nD Cert.FUpGRefIdeal.τ).loc Cert.FUpGRefIdeal.main_arg1))
      ∧ r.2.sem = fun _ => 0)

def quiescent_BOutT [hBOutT : Cert.BOutT.Facts] : Prop :=
  ∀ (m : (ℓ : Loc Cert.BOutT.nD Cert.BOutT.τ Cert.BOutT.sig) → Buf (Elt Bits) ℓ) (g : Dev Cert.BOutT.nD → PrngReg), Pre_BOutT m →
    θ_run (Cert.BOutT.defs (F := Bits)) (onTc (τ := Cert.BOutT.τ) (Cert.BOutT.main (F := Bits))) ⟨m, fun _ => 0, g⟩ (fun r => (∀ c : Dev Cert.BOutT.nD,
      r.2.mem ((c.tc : Thread Cert.BOutT.nD Cert.BOutT.τ).loc Cert.BOutT.main_arg0) = m ((c.tc : Thread Cert.BOutT.nD Cert.BOutT.τ).loc Cert.BOutT.main_arg0)
      ∧ r.2.mem ((c.tc : Thread Cert.BOutT.nD Cert.BOutT.τ).loc Cert.BOutT.main_arg1) = m ((c.tc : Thread Cert.BOutT.nD Cert.BOutT.τ).loc Cert.BOutT.main_arg1))
      ∧ r.2.sem = fun _ => 0)

def quiescent_BOutTIdeal [hBOutTIdeal : Cert.BOutTIdeal.Facts] : Prop :=
  ∀ (m : (ℓ : Loc Cert.BOutTIdeal.nD Cert.BOutTIdeal.τ Cert.BOutTIdeal.sig) → Buf (Elt Ideal) ℓ) (g : Dev Cert.BOutTIdeal.nD → PrngReg), Pre_BOutTIdeal m →
    θ_run (Cert.BOutTIdeal.defs (F := Ideal)) (onTc (τ := Cert.BOutTIdeal.τ) (Cert.BOutTIdeal.main (F := Ideal))) ⟨m, fun _ => 0, g⟩ (fun r => (∀ c : Dev Cert.BOutTIdeal.nD,
      r.2.mem ((c.tc : Thread Cert.BOutTIdeal.nD Cert.BOutTIdeal.τ).loc Cert.BOutTIdeal.main_arg0) = m ((c.tc : Thread Cert.BOutTIdeal.nD Cert.BOutTIdeal.τ).loc Cert.BOutTIdeal.main_arg0)
      ∧ r.2.mem ((c.tc : Thread Cert.BOutTIdeal.nD Cert.BOutTIdeal.τ).loc Cert.BOutTIdeal.main_arg1) = m ((c.tc : Thread Cert.BOutTIdeal.nD Cert.BOutTIdeal.τ).loc Cert.BOutTIdeal.main_arg1))
      ∧ r.2.sem = fun _ => 0)

def quiescent_BOutTRefIdeal [hBOutTRefIdeal : Cert.BOutTRefIdeal.Facts] : Prop :=
  ∀ (m : (ℓ : Loc Cert.BOutTRefIdeal.nD Cert.BOutTRefIdeal.τ Cert.BOutTRefIdeal.sig) → Buf (Elt Ideal) ℓ) (g : Dev Cert.BOutTRefIdeal.nD → PrngReg), Pre_BOutTRefIdeal m →
    θ_run (Cert.BOutTRefIdeal.defs (F := Ideal)) (onTc (τ := Cert.BOutTRefIdeal.τ) (Cert.BOutTRefIdeal.main (F := Ideal))) ⟨m, fun _ => 0, g⟩ (fun r => (∀ c : Dev Cert.BOutTRefIdeal.nD,
      r.2.mem ((c.tc : Thread Cert.BOutTRefIdeal.nD Cert.BOutTRefIdeal.τ).loc Cert.BOutTRefIdeal.main_arg0) = m ((c.tc : Thread Cert.BOutTRefIdeal.nD Cert.BOutTRefIdeal.τ).loc Cert.BOutTRefIdeal.main_arg0)
      ∧ r.2.mem ((c.tc : Thread Cert.BOutTRefIdeal.nD Cert.BOutTRefIdeal.τ).loc Cert.BOutTRefIdeal.main_arg1) = m ((c.tc : Thread Cert.BOutTRefIdeal.nD Cert.BOutTRefIdeal.τ).loc Cert.BOutTRefIdeal.main_arg1))
      ∧ r.2.sem = fun _ => 0)

def quiescent_BOutG [hBOutG : Cert.BOutG.Facts] : Prop :=
  ∀ (m : (ℓ : Loc Cert.BOutG.nD Cert.BOutG.τ Cert.BOutG.sig) → Buf (Elt Bits) ℓ) (g : Dev Cert.BOutG.nD → PrngReg), Pre_BOutG m →
    θ_run (Cert.BOutG.defs (F := Bits)) (onTc (τ := Cert.BOutG.τ) (Cert.BOutG.main (F := Bits))) ⟨m, fun _ => 0, g⟩ (fun r => (∀ c : Dev Cert.BOutG.nD,
      r.2.mem ((c.tc : Thread Cert.BOutG.nD Cert.BOutG.τ).loc Cert.BOutG.main_arg0) = m ((c.tc : Thread Cert.BOutG.nD Cert.BOutG.τ).loc Cert.BOutG.main_arg0)
      ∧ r.2.mem ((c.tc : Thread Cert.BOutG.nD Cert.BOutG.τ).loc Cert.BOutG.main_arg1) = m ((c.tc : Thread Cert.BOutG.nD Cert.BOutG.τ).loc Cert.BOutG.main_arg1))
      ∧ r.2.sem = fun _ => 0)

def quiescent_BOutGIdeal [hBOutGIdeal : Cert.BOutGIdeal.Facts] : Prop :=
  ∀ (m : (ℓ : Loc Cert.BOutGIdeal.nD Cert.BOutGIdeal.τ Cert.BOutGIdeal.sig) → Buf (Elt Ideal) ℓ) (g : Dev Cert.BOutGIdeal.nD → PrngReg), Pre_BOutGIdeal m →
    θ_run (Cert.BOutGIdeal.defs (F := Ideal)) (onTc (τ := Cert.BOutGIdeal.τ) (Cert.BOutGIdeal.main (F := Ideal))) ⟨m, fun _ => 0, g⟩ (fun r => (∀ c : Dev Cert.BOutGIdeal.nD,
      r.2.mem ((c.tc : Thread Cert.BOutGIdeal.nD Cert.BOutGIdeal.τ).loc Cert.BOutGIdeal.main_arg0) = m ((c.tc : Thread Cert.BOutGIdeal.nD Cert.BOutGIdeal.τ).loc Cert.BOutGIdeal.main_arg0)
      ∧ r.2.mem ((c.tc : Thread Cert.BOutGIdeal.nD Cert.BOutGIdeal.τ).loc Cert.BOutGIdeal.main_arg1) = m ((c.tc : Thread Cert.BOutGIdeal.nD Cert.BOutGIdeal.τ).loc Cert.BOutGIdeal.main_arg1))
      ∧ r.2.sem = fun _ => 0)

def quiescent_BOutGRefIdeal [hBOutGRefIdeal : Cert.BOutGRefIdeal.Facts] : Prop :=
  ∀ (m : (ℓ : Loc Cert.BOutGRefIdeal.nD Cert.BOutGRefIdeal.τ Cert.BOutGRefIdeal.sig) → Buf (Elt Ideal) ℓ) (g : Dev Cert.BOutGRefIdeal.nD → PrngReg), Pre_BOutGRefIdeal m →
    θ_run (Cert.BOutGRefIdeal.defs (F := Ideal)) (onTc (τ := Cert.BOutGRefIdeal.τ) (Cert.BOutGRefIdeal.main (F := Ideal))) ⟨m, fun _ => 0, g⟩ (fun r => (∀ c : Dev Cert.BOutGRefIdeal.nD,
      r.2.mem ((c.tc : Thread Cert.BOutGRefIdeal.nD Cert.BOutGRefIdeal.τ).loc Cert.BOutGRefIdeal.main_arg0) = m ((c.tc : Thread Cert.BOutGRefIdeal.nD Cert.BOutGRefIdeal.τ).loc Cert.BOutGRefIdeal.main_arg0)
      ∧ r.2.mem ((c.tc : Thread Cert.BOutGRefIdeal.nD Cert.BOutGRefIdeal.τ).loc Cert.BOutGRefIdeal.main_arg1) = m ((c.tc : Thread Cert.BOutGRefIdeal.nD Cert.BOutGRefIdeal.τ).loc Cert.BOutGRefIdeal.main_arg1))
      ∧ r.2.sem = fun _ => 0)

def quiescent_BInT [hBInT : Cert.BInT.Facts] : Prop :=
  ∀ (m : (ℓ : Loc Cert.BInT.nD Cert.BInT.τ Cert.BInT.sig) → Buf (Elt Bits) ℓ) (g : Dev Cert.BInT.nD → PrngReg), Pre_BInT m →
    θ_run (Cert.BInT.defs (F := Bits)) (onTc (τ := Cert.BInT.τ) (Cert.BInT.main (F := Bits))) ⟨m, fun _ => 0, g⟩ (fun r => (∀ c : Dev Cert.BInT.nD,
      r.2.mem ((c.tc : Thread Cert.BInT.nD Cert.BInT.τ).loc Cert.BInT.main_arg0) = m ((c.tc : Thread Cert.BInT.nD Cert.BInT.τ).loc Cert.BInT.main_arg0)
      ∧ r.2.mem ((c.tc : Thread Cert.BInT.nD Cert.BInT.τ).loc Cert.BInT.main_arg1) = m ((c.tc : Thread Cert.BInT.nD Cert.BInT.τ).loc Cert.BInT.main_arg1))
      ∧ r.2.sem = fun _ => 0)

def quiescent_BInTIdeal [hBInTIdeal : Cert.BInTIdeal.Facts] : Prop :=
  ∀ (m : (ℓ : Loc Cert.BInTIdeal.nD Cert.BInTIdeal.τ Cert.BInTIdeal.sig) → Buf (Elt Ideal) ℓ) (g : Dev Cert.BInTIdeal.nD → PrngReg), Pre_BInTIdeal m →
    θ_run (Cert.BInTIdeal.defs (F := Ideal)) (onTc (τ := Cert.BInTIdeal.τ) (Cert.BInTIdeal.main (F := Ideal))) ⟨m, fun _ => 0, g⟩ (fun r => (∀ c : Dev Cert.BInTIdeal.nD,
      r.2.mem ((c.tc : Thread Cert.BInTIdeal.nD Cert.BInTIdeal.τ).loc Cert.BInTIdeal.main_arg0) = m ((c.tc : Thread Cert.BInTIdeal.nD Cert.BInTIdeal.τ).loc Cert.BInTIdeal.main_arg0)
      ∧ r.2.mem ((c.tc : Thread Cert.BInTIdeal.nD Cert.BInTIdeal.τ).loc Cert.BInTIdeal.main_arg1) = m ((c.tc : Thread Cert.BInTIdeal.nD Cert.BInTIdeal.τ).loc Cert.BInTIdeal.main_arg1))
      ∧ r.2.sem = fun _ => 0)

def quiescent_BInTRefIdeal [hBInTRefIdeal : Cert.BInTRefIdeal.Facts] : Prop :=
  ∀ (m : (ℓ : Loc Cert.BInTRefIdeal.nD Cert.BInTRefIdeal.τ Cert.BInTRefIdeal.sig) → Buf (Elt Ideal) ℓ) (g : Dev Cert.BInTRefIdeal.nD → PrngReg), Pre_BInTRefIdeal m →
    θ_run (Cert.BInTRefIdeal.defs (F := Ideal)) (onTc (τ := Cert.BInTRefIdeal.τ) (Cert.BInTRefIdeal.main (F := Ideal))) ⟨m, fun _ => 0, g⟩ (fun r => (∀ c : Dev Cert.BInTRefIdeal.nD,
      r.2.mem ((c.tc : Thread Cert.BInTRefIdeal.nD Cert.BInTRefIdeal.τ).loc Cert.BInTRefIdeal.main_arg0) = m ((c.tc : Thread Cert.BInTRefIdeal.nD Cert.BInTRefIdeal.τ).loc Cert.BInTRefIdeal.main_arg0)
      ∧ r.2.mem ((c.tc : Thread Cert.BInTRefIdeal.nD Cert.BInTRefIdeal.τ).loc Cert.BInTRefIdeal.main_arg1) = m ((c.tc : Thread Cert.BInTRefIdeal.nD Cert.BInTRefIdeal.τ).loc Cert.BInTRefIdeal.main_arg1))
      ∧ r.2.sem = fun _ => 0)

def quiescent_BInG [hBInG : Cert.BInG.Facts] : Prop :=
  ∀ (m : (ℓ : Loc Cert.BInG.nD Cert.BInG.τ Cert.BInG.sig) → Buf (Elt Bits) ℓ) (g : Dev Cert.BInG.nD → PrngReg), Pre_BInG m →
    θ_run (Cert.BInG.defs (F := Bits)) (onTc (τ := Cert.BInG.τ) (Cert.BInG.main (F := Bits))) ⟨m, fun _ => 0, g⟩ (fun r => (∀ c : Dev Cert.BInG.nD,
      r.2.mem ((c.tc : Thread Cert.BInG.nD Cert.BInG.τ).loc Cert.BInG.main_arg0) = m ((c.tc : Thread Cert.BInG.nD Cert.BInG.τ).loc Cert.BInG.main_arg0)
      ∧ r.2.mem ((c.tc : Thread Cert.BInG.nD Cert.BInG.τ).loc Cert.BInG.main_arg1) = m ((c.tc : Thread Cert.BInG.nD Cert.BInG.τ).loc Cert.BInG.main_arg1))
      ∧ r.2.sem = fun _ => 0)

def quiescent_BInGIdeal [hBInGIdeal : Cert.BInGIdeal.Facts] : Prop :=
  ∀ (m : (ℓ : Loc Cert.BInGIdeal.nD Cert.BInGIdeal.τ Cert.BInGIdeal.sig) → Buf (Elt Ideal) ℓ) (g : Dev Cert.BInGIdeal.nD → PrngReg), Pre_BInGIdeal m →
    θ_run (Cert.BInGIdeal.defs (F := Ideal)) (onTc (τ := Cert.BInGIdeal.τ) (Cert.BInGIdeal.main (F := Ideal))) ⟨m, fun _ => 0, g⟩ (fun r => (∀ c : Dev Cert.BInGIdeal.nD,
      r.2.mem ((c.tc : Thread Cert.BInGIdeal.nD Cert.BInGIdeal.τ).loc Cert.BInGIdeal.main_arg0) = m ((c.tc : Thread Cert.BInGIdeal.nD Cert.BInGIdeal.τ).loc Cert.BInGIdeal.main_arg0)
      ∧ r.2.mem ((c.tc : Thread Cert.BInGIdeal.nD Cert.BInGIdeal.τ).loc Cert.BInGIdeal.main_arg1) = m ((c.tc : Thread Cert.BInGIdeal.nD Cert.BInGIdeal.τ).loc Cert.BInGIdeal.main_arg1))
      ∧ r.2.sem = fun _ => 0)

def quiescent_BInGRefIdeal [hBInGRefIdeal : Cert.BInGRefIdeal.Facts] : Prop :=
  ∀ (m : (ℓ : Loc Cert.BInGRefIdeal.nD Cert.BInGRefIdeal.τ Cert.BInGRefIdeal.sig) → Buf (Elt Ideal) ℓ) (g : Dev Cert.BInGRefIdeal.nD → PrngReg), Pre_BInGRefIdeal m →
    θ_run (Cert.BInGRefIdeal.defs (F := Ideal)) (onTc (τ := Cert.BInGRefIdeal.τ) (Cert.BInGRefIdeal.main (F := Ideal))) ⟨m, fun _ => 0, g⟩ (fun r => (∀ c : Dev Cert.BInGRefIdeal.nD,
      r.2.mem ((c.tc : Thread Cert.BInGRefIdeal.nD Cert.BInGRefIdeal.τ).loc Cert.BInGRefIdeal.main_arg0) = m ((c.tc : Thread Cert.BInGRefIdeal.nD Cert.BInGRefIdeal.τ).loc Cert.BInGRefIdeal.main_arg0)
      ∧ r.2.mem ((c.tc : Thread Cert.BInGRefIdeal.nD Cert.BInGRefIdeal.τ).loc Cert.BInGRefIdeal.main_arg1) = m ((c.tc : Thread Cert.BInGRefIdeal.nD Cert.BInGRefIdeal.τ).loc Cert.BInGRefIdeal.main_arg1))
      ∧ r.2.sem = fun _ => 0)

def quiescent_AInT [hAInT : Cert.AInT.Facts] : Prop :=
  ∀ (m : (ℓ : Loc Cert.AInT.nD Cert.AInT.τ Cert.AInT.sig) → Buf (Elt Bits) ℓ) (g : Dev Cert.AInT.nD → PrngReg), Pre_AInT m →
    θ_run (Cert.AInT.defs (F := Bits)) (onTc (τ := Cert.AInT.τ) (Cert.AInT.main (F := Bits))) ⟨m, fun _ => 0, g⟩ (fun r => (∀ c : Dev Cert.AInT.nD,
      r.2.mem ((c.tc : Thread Cert.AInT.nD Cert.AInT.τ).loc Cert.AInT.main_arg0) = m ((c.tc : Thread Cert.AInT.nD Cert.AInT.τ).loc Cert.AInT.main_arg0)
      ∧ r.2.mem ((c.tc : Thread Cert.AInT.nD Cert.AInT.τ).loc Cert.AInT.main_arg1) = m ((c.tc : Thread Cert.AInT.nD Cert.AInT.τ).loc Cert.AInT.main_arg1))
      ∧ r.2.sem = fun _ => 0)

def quiescent_AInTIdeal [hAInTIdeal : Cert.AInTIdeal.Facts] : Prop :=
  ∀ (m : (ℓ : Loc Cert.AInTIdeal.nD Cert.AInTIdeal.τ Cert.AInTIdeal.sig) → Buf (Elt Ideal) ℓ) (g : Dev Cert.AInTIdeal.nD → PrngReg), Pre_AInTIdeal m →
    θ_run (Cert.AInTIdeal.defs (F := Ideal)) (onTc (τ := Cert.AInTIdeal.τ) (Cert.AInTIdeal.main (F := Ideal))) ⟨m, fun _ => 0, g⟩ (fun r => (∀ c : Dev Cert.AInTIdeal.nD,
      r.2.mem ((c.tc : Thread Cert.AInTIdeal.nD Cert.AInTIdeal.τ).loc Cert.AInTIdeal.main_arg0) = m ((c.tc : Thread Cert.AInTIdeal.nD Cert.AInTIdeal.τ).loc Cert.AInTIdeal.main_arg0)
      ∧ r.2.mem ((c.tc : Thread Cert.AInTIdeal.nD Cert.AInTIdeal.τ).loc Cert.AInTIdeal.main_arg1) = m ((c.tc : Thread Cert.AInTIdeal.nD Cert.AInTIdeal.τ).loc Cert.AInTIdeal.main_arg1))
      ∧ r.2.sem = fun _ => 0)

def quiescent_AInTRefIdeal [hAInTRefIdeal : Cert.AInTRefIdeal.Facts] : Prop :=
  ∀ (m : (ℓ : Loc Cert.AInTRefIdeal.nD Cert.AInTRefIdeal.τ Cert.AInTRefIdeal.sig) → Buf (Elt Ideal) ℓ) (g : Dev Cert.AInTRefIdeal.nD → PrngReg), Pre_AInTRefIdeal m →
    θ_run (Cert.AInTRefIdeal.defs (F := Ideal)) (onTc (τ := Cert.AInTRefIdeal.τ) (Cert.AInTRefIdeal.main (F := Ideal))) ⟨m, fun _ => 0, g⟩ (fun r => (∀ c : Dev Cert.AInTRefIdeal.nD,
      r.2.mem ((c.tc : Thread Cert.AInTRefIdeal.nD Cert.AInTRefIdeal.τ).loc Cert.AInTRefIdeal.main_arg0) = m ((c.tc : Thread Cert.AInTRefIdeal.nD Cert.AInTRefIdeal.τ).loc Cert.AInTRefIdeal.main_arg0)
      ∧ r.2.mem ((c.tc : Thread Cert.AInTRefIdeal.nD Cert.AInTRefIdeal.τ).loc Cert.AInTRefIdeal.main_arg1) = m ((c.tc : Thread Cert.AInTRefIdeal.nD Cert.AInTRefIdeal.τ).loc Cert.AInTRefIdeal.main_arg1))
      ∧ r.2.sem = fun _ => 0)

def quiescent_AInG [hAInG : Cert.AInG.Facts] : Prop :=
  ∀ (m : (ℓ : Loc Cert.AInG.nD Cert.AInG.τ Cert.AInG.sig) → Buf (Elt Bits) ℓ) (g : Dev Cert.AInG.nD → PrngReg), Pre_AInG m →
    θ_run (Cert.AInG.defs (F := Bits)) (onTc (τ := Cert.AInG.τ) (Cert.AInG.main (F := Bits))) ⟨m, fun _ => 0, g⟩ (fun r => (∀ c : Dev Cert.AInG.nD,
      r.2.mem ((c.tc : Thread Cert.AInG.nD Cert.AInG.τ).loc Cert.AInG.main_arg0) = m ((c.tc : Thread Cert.AInG.nD Cert.AInG.τ).loc Cert.AInG.main_arg0)
      ∧ r.2.mem ((c.tc : Thread Cert.AInG.nD Cert.AInG.τ).loc Cert.AInG.main_arg1) = m ((c.tc : Thread Cert.AInG.nD Cert.AInG.τ).loc Cert.AInG.main_arg1))
      ∧ r.2.sem = fun _ => 0)

def quiescent_AInGIdeal [hAInGIdeal : Cert.AInGIdeal.Facts] : Prop :=
  ∀ (m : (ℓ : Loc Cert.AInGIdeal.nD Cert.AInGIdeal.τ Cert.AInGIdeal.sig) → Buf (Elt Ideal) ℓ) (g : Dev Cert.AInGIdeal.nD → PrngReg), Pre_AInGIdeal m →
    θ_run (Cert.AInGIdeal.defs (F := Ideal)) (onTc (τ := Cert.AInGIdeal.τ) (Cert.AInGIdeal.main (F := Ideal))) ⟨m, fun _ => 0, g⟩ (fun r => (∀ c : Dev Cert.AInGIdeal.nD,
      r.2.mem ((c.tc : Thread Cert.AInGIdeal.nD Cert.AInGIdeal.τ).loc Cert.AInGIdeal.main_arg0) = m ((c.tc : Thread Cert.AInGIdeal.nD Cert.AInGIdeal.τ).loc Cert.AInGIdeal.main_arg0)
      ∧ r.2.mem ((c.tc : Thread Cert.AInGIdeal.nD Cert.AInGIdeal.τ).loc Cert.AInGIdeal.main_arg1) = m ((c.tc : Thread Cert.AInGIdeal.nD Cert.AInGIdeal.τ).loc Cert.AInGIdeal.main_arg1))
      ∧ r.2.sem = fun _ => 0)

def quiescent_AInGRefIdeal [hAInGRefIdeal : Cert.AInGRefIdeal.Facts] : Prop :=
  ∀ (m : (ℓ : Loc Cert.AInGRefIdeal.nD Cert.AInGRefIdeal.τ Cert.AInGRefIdeal.sig) → Buf (Elt Ideal) ℓ) (g : Dev Cert.AInGRefIdeal.nD → PrngReg), Pre_AInGRefIdeal m →
    θ_run (Cert.AInGRefIdeal.defs (F := Ideal)) (onTc (τ := Cert.AInGRefIdeal.τ) (Cert.AInGRefIdeal.main (F := Ideal))) ⟨m, fun _ => 0, g⟩ (fun r => (∀ c : Dev Cert.AInGRefIdeal.nD,
      r.2.mem ((c.tc : Thread Cert.AInGRefIdeal.nD Cert.AInGRefIdeal.τ).loc Cert.AInGRefIdeal.main_arg0) = m ((c.tc : Thread Cert.AInGRefIdeal.nD Cert.AInGRefIdeal.τ).loc Cert.AInGRefIdeal.main_arg0)
      ∧ r.2.mem ((c.tc : Thread Cert.AInGRefIdeal.nD Cert.AInGRefIdeal.τ).loc Cert.AInGRefIdeal.main_arg1) = m ((c.tc : Thread Cert.AInGRefIdeal.nD Cert.AInGRefIdeal.τ).loc Cert.AInGRefIdeal.main_arg1))
      ∧ r.2.sem = fun _ => 0)

def quiescent_FUp [hFUp : Cert.FUp.Facts] : Prop :=
  ∀ (m : (ℓ : Loc Cert.FUp.nD Cert.FUp.τ Cert.FUp.sig) → Buf (Elt Bits) ℓ) (g : Dev Cert.FUp.nD → PrngReg), Pre_FUp m →
    θ_run (Cert.FUp.defs (F := Bits)) (onTc (τ := Cert.FUp.τ) (Cert.FUp.main (F := Bits))) ⟨m, fun _ => 0, g⟩ (fun r => (∀ c : Dev Cert.FUp.nD,
      r.2.mem ((c.tc : Thread Cert.FUp.nD Cert.FUp.τ).loc Cert.FUp.main_arg0) = m ((c.tc : Thread Cert.FUp.nD Cert.FUp.τ).loc Cert.FUp.main_arg0)
      ∧ r.2.mem ((c.tc : Thread Cert.FUp.nD Cert.FUp.τ).loc Cert.FUp.main_arg1) = m ((c.tc : Thread Cert.FUp.nD Cert.FUp.τ).loc Cert.FUp.main_arg1))
      ∧ r.2.sem = fun _ => 0)

def quiescent_FUpIdeal [hFUpIdeal : Cert.FUpIdeal.Facts] : Prop :=
  ∀ (m : (ℓ : Loc Cert.FUpIdeal.nD Cert.FUpIdeal.τ Cert.FUpIdeal.sig) → Buf (Elt Ideal) ℓ) (g : Dev Cert.FUpIdeal.nD → PrngReg), Pre_FUpIdeal m →
    θ_run (Cert.FUpIdeal.defs (F := Ideal)) (onTc (τ := Cert.FUpIdeal.τ) (Cert.FUpIdeal.main (F := Ideal))) ⟨m, fun _ => 0, g⟩ (fun r => (∀ c : Dev Cert.FUpIdeal.nD,
      r.2.mem ((c.tc : Thread Cert.FUpIdeal.nD Cert.FUpIdeal.τ).loc Cert.FUpIdeal.main_arg0) = m ((c.tc : Thread Cert.FUpIdeal.nD Cert.FUpIdeal.τ).loc Cert.FUpIdeal.main_arg0)
      ∧ r.2.mem ((c.tc : Thread Cert.FUpIdeal.nD Cert.FUpIdeal.τ).loc Cert.FUpIdeal.main_arg1) = m ((c.tc : Thread Cert.FUpIdeal.nD Cert.FUpIdeal.τ).loc Cert.FUpIdeal.main_arg1))
      ∧ r.2.sem = fun _ => 0)

def quiescent_FUpRefIdeal [hFUpRefIdeal : Cert.FUpRefIdeal.Facts] : Prop :=
  ∀ (m : (ℓ : Loc Cert.FUpRefIdeal.nD Cert.FUpRefIdeal.τ Cert.FUpRefIdeal.sig) → Buf (Elt Ideal) ℓ) (g : Dev Cert.FUpRefIdeal.nD → PrngReg), Pre_FUpRefIdeal m →
    θ_run (Cert.FUpRefIdeal.defs (F := Ideal)) (onTc (τ := Cert.FUpRefIdeal.τ) (Cert.FUpRefIdeal.main (F := Ideal))) ⟨m, fun _ => 0, g⟩ (fun r => (∀ c : Dev Cert.FUpRefIdeal.nD,
      r.2.mem ((c.tc : Thread Cert.FUpRefIdeal.nD Cert.FUpRefIdeal.τ).loc Cert.FUpRefIdeal.main_arg0) = m ((c.tc : Thread Cert.FUpRefIdeal.nD Cert.FUpRefIdeal.τ).loc Cert.FUpRefIdeal.main_arg0)
      ∧ r.2.mem ((c.tc : Thread Cert.FUpRefIdeal.nD Cert.FUpRefIdeal.τ).loc Cert.FUpRefIdeal.main_arg1) = m ((c.tc : Thread Cert.FUpRefIdeal.nD Cert.FUpRefIdeal.τ).loc Cert.FUpRefIdeal.main_arg1))
      ∧ r.2.sem = fun _ => 0)

def quiescent_FDown [hFDown : Cert.FDown.Facts] : Prop :=
  ∀ (m : (ℓ : Loc Cert.FDown.nD Cert.FDown.τ Cert.FDown.sig) → Buf (Elt Bits) ℓ) (g : Dev Cert.FDown.nD → PrngReg), Pre_FDown m →
    θ_run (Cert.FDown.defs (F := Bits)) (onTc (τ := Cert.FDown.τ) (Cert.FDown.main (F := Bits))) ⟨m, fun _ => 0, g⟩ (fun r => (∀ c : Dev Cert.FDown.nD,
      r.2.mem ((c.tc : Thread Cert.FDown.nD Cert.FDown.τ).loc Cert.FDown.main_arg0) = m ((c.tc : Thread Cert.FDown.nD Cert.FDown.τ).loc Cert.FDown.main_arg0)
      ∧ r.2.mem ((c.tc : Thread Cert.FDown.nD Cert.FDown.τ).loc Cert.FDown.main_arg1) = m ((c.tc : Thread Cert.FDown.nD Cert.FDown.τ).loc Cert.FDown.main_arg1))
      ∧ r.2.sem = fun _ => 0)

def quiescent_FDownIdeal [hFDownIdeal : Cert.FDownIdeal.Facts] : Prop :=
  ∀ (m : (ℓ : Loc Cert.FDownIdeal.nD Cert.FDownIdeal.τ Cert.FDownIdeal.sig) → Buf (Elt Ideal) ℓ) (g : Dev Cert.FDownIdeal.nD → PrngReg), Pre_FDownIdeal m →
    θ_run (Cert.FDownIdeal.defs (F := Ideal)) (onTc (τ := Cert.FDownIdeal.τ) (Cert.FDownIdeal.main (F := Ideal))) ⟨m, fun _ => 0, g⟩ (fun r => (∀ c : Dev Cert.FDownIdeal.nD,
      r.2.mem ((c.tc : Thread Cert.FDownIdeal.nD Cert.FDownIdeal.τ).loc Cert.FDownIdeal.main_arg0) = m ((c.tc : Thread Cert.FDownIdeal.nD Cert.FDownIdeal.τ).loc Cert.FDownIdeal.main_arg0)
      ∧ r.2.mem ((c.tc : Thread Cert.FDownIdeal.nD Cert.FDownIdeal.τ).loc Cert.FDownIdeal.main_arg1) = m ((c.tc : Thread Cert.FDownIdeal.nD Cert.FDownIdeal.τ).loc Cert.FDownIdeal.main_arg1))
      ∧ r.2.sem = fun _ => 0)

def quiescent_FDownRefIdeal [hFDownRefIdeal : Cert.FDownRefIdeal.Facts] : Prop :=
  ∀ (m : (ℓ : Loc Cert.FDownRefIdeal.nD Cert.FDownRefIdeal.τ Cert.FDownRefIdeal.sig) → Buf (Elt Ideal) ℓ) (g : Dev Cert.FDownRefIdeal.nD → PrngReg), Pre_FDownRefIdeal m →
    θ_run (Cert.FDownRefIdeal.defs (F := Ideal)) (onTc (τ := Cert.FDownRefIdeal.τ) (Cert.FDownRefIdeal.main (F := Ideal))) ⟨m, fun _ => 0, g⟩ (fun r => (∀ c : Dev Cert.FDownRefIdeal.nD,
      r.2.mem ((c.tc : Thread Cert.FDownRefIdeal.nD Cert.FDownRefIdeal.τ).loc Cert.FDownRefIdeal.main_arg0) = m ((c.tc : Thread Cert.FDownRefIdeal.nD Cert.FDownRefIdeal.τ).loc Cert.FDownRefIdeal.main_arg0)
      ∧ r.2.mem ((c.tc : Thread Cert.FDownRefIdeal.nD Cert.FDownRefIdeal.τ).loc Cert.FDownRefIdeal.main_arg1) = m ((c.tc : Thread Cert.FDownRefIdeal.nD Cert.FDownRefIdeal.τ).loc Cert.FDownRefIdeal.main_arg1))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1))
      ∧ r.2.sem = fun _ => 0)

def quiescent_BOut [hBOut : Cert.BOut.Facts] : Prop :=
  ∀ (m : (ℓ : Loc Cert.BOut.nD Cert.BOut.τ Cert.BOut.sig) → Buf (Elt Bits) ℓ) (g : Dev Cert.BOut.nD → PrngReg), Pre_BOut m →
    θ_run (Cert.BOut.defs (F := Bits)) (onTc (τ := Cert.BOut.τ) (Cert.BOut.main (F := Bits))) ⟨m, fun _ => 0, g⟩ (fun r => (∀ c : Dev Cert.BOut.nD,
      r.2.mem ((c.tc : Thread Cert.BOut.nD Cert.BOut.τ).loc Cert.BOut.main_arg0) = m ((c.tc : Thread Cert.BOut.nD Cert.BOut.τ).loc Cert.BOut.main_arg0)
      ∧ r.2.mem ((c.tc : Thread Cert.BOut.nD Cert.BOut.τ).loc Cert.BOut.main_arg1) = m ((c.tc : Thread Cert.BOut.nD Cert.BOut.τ).loc Cert.BOut.main_arg1))
      ∧ r.2.sem = fun _ => 0)

def quiescent_BOutIdeal [hBOutIdeal : Cert.BOutIdeal.Facts] : Prop :=
  ∀ (m : (ℓ : Loc Cert.BOutIdeal.nD Cert.BOutIdeal.τ Cert.BOutIdeal.sig) → Buf (Elt Ideal) ℓ) (g : Dev Cert.BOutIdeal.nD → PrngReg), Pre_BOutIdeal m →
    θ_run (Cert.BOutIdeal.defs (F := Ideal)) (onTc (τ := Cert.BOutIdeal.τ) (Cert.BOutIdeal.main (F := Ideal))) ⟨m, fun _ => 0, g⟩ (fun r => (∀ c : Dev Cert.BOutIdeal.nD,
      r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
      ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1))
      ∧ r.2.sem = fun _ => 0)

def quiescent_BOutRefIdeal [hBOutRefIdeal : Cert.BOutRefIdeal.Facts] : Prop :=
  ∀ (m : (ℓ : Loc Cert.BOutRefIdeal.nD Cert.BOutRefIdeal.τ Cert.BOutRefIdeal.sig) → Buf (Elt Ideal) ℓ) (g : Dev Cert.BOutRefIdeal.nD → PrngReg), Pre_BOutRefIdeal m →
    θ_run (Cert.BOutRefIdeal.defs (F := Ideal)) (onTc (τ := Cert.BOutRefIdeal.τ) (Cert.BOutRefIdeal.main (F := Ideal))) ⟨m, fun _ => 0, g⟩ (fun r => (∀ c : Dev Cert.BOutRefIdeal.nD,
      r.2.mem ((c.tc : Thread Cert.BOutRefIdeal.nD Cert.BOutRefIdeal.τ).loc Cert.BOutRefIdeal.main_arg0) = m ((c.tc : Thread Cert.BOutRefIdeal.nD Cert.BOutRefIdeal.τ).loc Cert.BOutRefIdeal.main_arg0)
      ∧ r.2.mem ((c.tc : Thread Cert.BOutRefIdeal.nD Cert.BOutRefIdeal.τ).loc Cert.BOutRefIdeal.main_arg1) = m ((c.tc : Thread Cert.BOutRefIdeal.nD Cert.BOutRefIdeal.τ).loc Cert.BOutRefIdeal.main_arg1))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2))
      ∧ r.2.sem = fun _ => 0)

def quiescent_BwdMid [hBwdMid : Cert.BwdMid.Facts] : Prop :=
  ∀ (m : (ℓ : Loc Cert.BwdMid.nD Cert.BwdMid.τ Cert.BwdMid.sig) → Buf (Elt Bits) ℓ) (g : Dev Cert.BwdMid.nD → PrngReg), Pre_BwdMid m →
    θ_run (Cert.BwdMid.defs (F := Bits)) (onTc (τ := Cert.BwdMid.τ) (Cert.BwdMid.main (F := Bits))) ⟨m, fun _ => 0, g⟩ (fun r => (∀ c : Dev Cert.BwdMid.nD,
      r.2.mem ((c.tc : Thread Cert.BwdMid.nD Cert.BwdMid.τ).loc Cert.BwdMid.main_arg0) = m ((c.tc : Thread Cert.BwdMid.nD Cert.BwdMid.τ).loc Cert.BwdMid.main_arg0)
      ∧ r.2.mem ((c.tc : Thread Cert.BwdMid.nD Cert.BwdMid.τ).loc Cert.BwdMid.main_arg1) = m ((c.tc : Thread Cert.BwdMid.nD Cert.BwdMid.τ).loc Cert.BwdMid.main_arg1)
      ∧ r.2.mem ((c.tc : Thread Cert.BwdMid.nD Cert.BwdMid.τ).loc Cert.BwdMid.main_arg2) = m ((c.tc : Thread Cert.BwdMid.nD Cert.BwdMid.τ).loc Cert.BwdMid.main_arg2)
      ∧ r.2.mem ((c.tc : Thread Cert.BwdMid.nD Cert.BwdMid.τ).loc Cert.BwdMid.main_arg3) = m ((c.tc : Thread Cert.BwdMid.nD Cert.BwdMid.τ).loc Cert.BwdMid.main_arg3)
      ∧ r.2.mem ((c.tc : Thread Cert.BwdMid.nD Cert.BwdMid.τ).loc Cert.BwdMid.main_arg4) = m ((c.tc : Thread Cert.BwdMid.nD Cert.BwdMid.τ).loc Cert.BwdMid.main_arg4)
      ∧ r.2.mem ((c.tc : Thread Cert.BwdMid.nD Cert.BwdMid.τ).loc Cert.BwdMid.main_arg5) = m ((c.tc : Thread Cert.BwdMid.nD Cert.BwdMid.τ).loc Cert.BwdMid.main_arg5)
      ∧ r.2.mem ((c.tc : Thread Cert.BwdMid.nD Cert.BwdMid.τ).loc Cert.BwdMid.main_arg6) = m ((c.tc : Thread Cert.BwdMid.nD Cert.BwdMid.τ).loc Cert.BwdMid.main_arg6)
      ∧ r.2.mem ((c.tc : Thread Cert.BwdMid.nD Cert.BwdMid.τ).loc Cert.BwdMid.main_arg7) = m ((c.tc : Thread Cert.BwdMid.nD Cert.BwdMid.τ).loc Cert.BwdMid.main_arg7))
      ∧ r.2.sem = fun _ => 0)

def quiescent_BwdMidIdeal [hBwdMidIdeal : Cert.BwdMidIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg), Pre_BwdMidIdeal m →
    θ_run (Cert.BwdMidIdeal.defs (F := Ideal)) (onTc (τ := Cert.BwdMidIdeal.τ) (Cert.BwdMidIdeal.main (F := Ideal))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
      ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
      ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7))
      ∧ r.2.sem = fun _ => 0)

def quiescent_BwdMidRefIdeal [hBwdMidRefIdeal : Cert.BwdMidRefIdeal.Facts] : Prop :=
  ∀ (m : (ℓ : Loc Cert.BwdMidRefIdeal.nD Cert.BwdMidRefIdeal.τ Cert.BwdMidRefIdeal.sig) → Buf (Elt Ideal) ℓ) (g : Dev Cert.BwdMidRefIdeal.nD → PrngReg), Pre_BwdMidRefIdeal m →
    θ_run (Cert.BwdMidRefIdeal.defs (F := Ideal)) (onTc (τ := Cert.BwdMidRefIdeal.τ) (Cert.BwdMidRefIdeal.main (F := Ideal))) ⟨m, fun _ => 0, g⟩ (fun r => (∀ c : Dev Cert.BwdMidRefIdeal.nD,
      r.2.mem ((c.tc : Thread Cert.BwdMidRefIdeal.nD Cert.BwdMidRefIdeal.τ).loc Cert.BwdMidRefIdeal.main_arg0) = m ((c.tc : Thread Cert.BwdMidRefIdeal.nD Cert.BwdMidRefIdeal.τ).loc Cert.BwdMidRefIdeal.main_arg0)
      ∧ r.2.mem ((c.tc : Thread Cert.BwdMidRefIdeal.nD Cert.BwdMidRefIdeal.τ).loc Cert.BwdMidRefIdeal.main_arg1) = m ((c.tc : Thread Cert.BwdMidRefIdeal.nD Cert.BwdMidRefIdeal.τ).loc Cert.BwdMidRefIdeal.main_arg1)
      ∧ r.2.mem ((c.tc : Thread Cert.BwdMidRefIdeal.nD Cert.BwdMidRefIdeal.τ).loc Cert.BwdMidRefIdeal.main_arg2) = m ((c.tc : Thread Cert.BwdMidRefIdeal.nD Cert.BwdMidRefIdeal.τ).loc Cert.BwdMidRefIdeal.main_arg2)
      ∧ r.2.mem ((c.tc : Thread Cert.BwdMidRefIdeal.nD Cert.BwdMidRefIdeal.τ).loc Cert.BwdMidRefIdeal.main_arg3) = m ((c.tc : Thread Cert.BwdMidRefIdeal.nD Cert.BwdMidRefIdeal.τ).loc Cert.BwdMidRefIdeal.main_arg3)
      ∧ r.2.mem ((c.tc : Thread Cert.BwdMidRefIdeal.nD Cert.BwdMidRefIdeal.τ).loc Cert.BwdMidRefIdeal.main_arg4) = m ((c.tc : Thread Cert.BwdMidRefIdeal.nD Cert.BwdMidRefIdeal.τ).loc Cert.BwdMidRefIdeal.main_arg4)
      ∧ r.2.mem ((c.tc : Thread Cert.BwdMidRefIdeal.nD Cert.BwdMidRefIdeal.τ).loc Cert.BwdMidRefIdeal.main_arg5) = m ((c.tc : Thread Cert.BwdMidRefIdeal.nD Cert.BwdMidRefIdeal.τ).loc Cert.BwdMidRefIdeal.main_arg5)
      ∧ r.2.mem ((c.tc : Thread Cert.BwdMidRefIdeal.nD Cert.BwdMidRefIdeal.τ).loc Cert.BwdMidRefIdeal.main_arg6) = m ((c.tc : Thread Cert.BwdMidRefIdeal.nD Cert.BwdMidRefIdeal.τ).loc Cert.BwdMidRefIdeal.main_arg6)
      ∧ r.2.mem ((c.tc : Thread Cert.BwdMidRefIdeal.nD Cert.BwdMidRefIdeal.τ).loc Cert.BwdMidRefIdeal.main_arg7) = m ((c.tc : Thread Cert.BwdMidRefIdeal.nD Cert.BwdMidRefIdeal.τ).loc Cert.BwdMidRefIdeal.main_arg7))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2)
      ∧ r.2.mem ((c.tc : Thread Cert.FwdIn.nD Cert.FwdIn.τ).loc Cert.FwdIn.main_arg3) = m ((c.tc : Thread Cert.FwdIn.nD Cert.FwdIn.τ).loc Cert.FwdIn.main_arg3))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
      ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2)
      ∧ r.2.mem ((c.tc : Thread Cert.FwdInRefIdeal.nD Cert.FwdInRefIdeal.τ).loc Cert.FwdInRefIdeal.main_arg3) = m ((c.tc : Thread Cert.FwdInRefIdeal.nD Cert.FwdInRefIdeal.τ).loc Cert.FwdInRefIdeal.main_arg3))
      ∧ r.2.sem = fun _ => 0)

def quiescent_FwdMid [hFwdMid : Cert.FwdMid.Facts] : Prop :=
  ∀ (m : (ℓ : Loc Cert.FwdMid.nD Cert.FwdMid.τ Cert.FwdMid.sig) → Buf (Elt Bits) ℓ) (g : Dev Cert.FwdMid.nD → PrngReg), Pre_FwdMid m →
    θ_run (Cert.FwdMid.defs (F := Bits)) (onTc (τ := Cert.FwdMid.τ) (Cert.FwdMid.main (F := Bits))) ⟨m, fun _ => 0, g⟩ (fun r => (∀ c : Dev Cert.FwdMid.nD,
      r.2.mem ((c.tc : Thread Cert.FwdMid.nD Cert.FwdMid.τ).loc Cert.FwdMid.main_arg0) = m ((c.tc : Thread Cert.FwdMid.nD Cert.FwdMid.τ).loc Cert.FwdMid.main_arg0)
      ∧ r.2.mem ((c.tc : Thread Cert.FwdMid.nD Cert.FwdMid.τ).loc Cert.FwdMid.main_arg1) = m ((c.tc : Thread Cert.FwdMid.nD Cert.FwdMid.τ).loc Cert.FwdMid.main_arg1)
      ∧ r.2.mem ((c.tc : Thread Cert.FwdMid.nD Cert.FwdMid.τ).loc Cert.FwdMid.main_arg2) = m ((c.tc : Thread Cert.FwdMid.nD Cert.FwdMid.τ).loc Cert.FwdMid.main_arg2)
      ∧ r.2.mem ((c.tc : Thread Cert.FwdMid.nD Cert.FwdMid.τ).loc Cert.FwdMid.main_arg3) = m ((c.tc : Thread Cert.FwdMid.nD Cert.FwdMid.τ).loc Cert.FwdMid.main_arg3)
      ∧ r.2.mem ((c.tc : Thread Cert.FwdMid.nD Cert.FwdMid.τ).loc Cert.FwdMid.main_arg4) = m ((c.tc : Thread Cert.FwdMid.nD Cert.FwdMid.τ).loc Cert.FwdMid.main_arg4)
      ∧ r.2.mem ((c.tc : Thread Cert.FwdMid.nD Cert.FwdMid.τ).loc Cert.FwdMid.main_arg5) = m ((c.tc : Thread Cert.FwdMid.nD Cert.FwdMid.τ).loc Cert.FwdMid.main_arg5)
      ∧ r.2.mem ((c.tc : Thread Cert.FwdMid.nD Cert.FwdMid.τ).loc Cert.FwdMid.main_arg6) = m ((c.tc : Thread Cert.FwdMid.nD Cert.FwdMid.τ).loc Cert.FwdMid.main_arg6))
      ∧ r.2.sem = fun _ => 0)

def quiescent_FwdMidIdeal [hFwdMidIdeal : Cert.FwdMidIdeal.Facts] : Prop :=
  ∀ (m : (ℓ : Loc Cert.FwdMidIdeal.nD Cert.FwdMidIdeal.τ Cert.FwdMidIdeal.sig) → Buf (Elt Ideal) ℓ) (g : Dev Cert.FwdMidIdeal.nD → PrngReg), Pre_FwdMidIdeal m →
    θ_run (Cert.FwdMidIdeal.defs (F := Ideal)) (onTc (τ := Cert.FwdMidIdeal.τ) (Cert.FwdMidIdeal.main (F := Ideal))) ⟨m, fun _ => 0, g⟩ (fun r => (∀ c : Dev Cert.FwdMidIdeal.nD,
      r.2.mem ((c.tc : Thread Cert.FwdMidIdeal.nD Cert.FwdMidIdeal.τ).loc Cert.FwdMidIdeal.main_arg0) = m ((c.tc : Thread Cert.FwdMidIdeal.nD Cert.FwdMidIdeal.τ).loc Cert.FwdMidIdeal.main_arg0)
      ∧ r.2.mem ((c.tc : Thread Cert.FwdMidIdeal.nD Cert.FwdMidIdeal.τ).loc Cert.FwdMidIdeal.main_arg1) = m ((c.tc : Thread Cert.FwdMidIdeal.nD Cert.FwdMidIdeal.τ).loc Cert.FwdMidIdeal.main_arg1)
      ∧ r.2.mem ((c.tc : Thread Cert.FwdMidIdeal.nD Cert.FwdMidIdeal.τ).loc Cert.FwdMidIdeal.main_arg2) = m ((c.tc : Thread Cert.FwdMidIdeal.nD Cert.FwdMidIdeal.τ).loc Cert.FwdMidIdeal.main_arg2)
      ∧ r.2.mem ((c.tc : Thread Cert.FwdMidIdeal.nD Cert.FwdMidIdeal.τ).loc Cert.FwdMidIdeal.main_arg3) = m ((c.tc : Thread Cert.FwdMidIdeal.nD Cert.FwdMidIdeal.τ).loc Cert.FwdMidIdeal.main_arg3)
      ∧ r.2.mem ((c.tc : Thread Cert.FwdMidIdeal.nD Cert.FwdMidIdeal.τ).loc Cert.FwdMidIdeal.main_arg4) = m ((c.tc : Thread Cert.FwdMidIdeal.nD Cert.FwdMidIdeal.τ).loc Cert.FwdMidIdeal.main_arg4)
      ∧ r.2.mem ((c.tc : Thread Cert.FwdMidIdeal.nD Cert.FwdMidIdeal.τ).loc Cert.FwdMidIdeal.main_arg5) = m ((c.tc : Thread Cert.FwdMidIdeal.nD Cert.FwdMidIdeal.τ).loc Cert.FwdMidIdeal.main_arg5)
      ∧ r.2.mem ((c.tc : Thread Cert.FwdMidIdeal.nD Cert.FwdMidIdeal.τ).loc Cert.FwdMidIdeal.main_arg6) = m ((c.tc : Thread Cert.FwdMidIdeal.nD Cert.FwdMidIdeal.τ).loc Cert.FwdMidIdeal.main_arg6))
      ∧ r.2.sem = fun _ => 0)

def quiescent_FwdMidRefIdeal [hFwdMidRefIdeal : Cert.FwdMidRefIdeal.Facts] : Prop :=
  ∀ (m : (ℓ : Loc Cert.FwdMidRefIdeal.nD Cert.FwdMidRefIdeal.τ Cert.FwdMidRefIdeal.sig) → Buf (Elt Ideal) ℓ) (g : Dev Cert.FwdMidRefIdeal.nD → PrngReg), Pre_FwdMidRefIdeal m →
    θ_run (Cert.FwdMidRefIdeal.defs (F := Ideal)) (onTc (τ := Cert.FwdMidRefIdeal.τ) (Cert.FwdMidRefIdeal.main (F := Ideal))) ⟨m, fun _ => 0, g⟩ (fun r => (∀ c : Dev Cert.FwdMidRefIdeal.nD,
      r.2.mem ((c.tc : Thread Cert.FwdMidRefIdeal.nD Cert.FwdMidRefIdeal.τ).loc Cert.FwdMidRefIdeal.main_arg0) = m ((c.tc : Thread Cert.FwdMidRefIdeal.nD Cert.FwdMidRefIdeal.τ).loc Cert.FwdMidRefIdeal.main_arg0)
      ∧ r.2.mem ((c.tc : Thread Cert.FwdMidRefIdeal.nD Cert.FwdMidRefIdeal.τ).loc Cert.FwdMidRefIdeal.main_arg1) = m ((c.tc : Thread Cert.FwdMidRefIdeal.nD Cert.FwdMidRefIdeal.τ).loc Cert.FwdMidRefIdeal.main_arg1)
      ∧ r.2.mem ((c.tc : Thread Cert.FwdMidRefIdeal.nD Cert.FwdMidRefIdeal.τ).loc Cert.FwdMidRefIdeal.main_arg2) = m ((c.tc : Thread Cert.FwdMidRefIdeal.nD Cert.FwdMidRefIdeal.τ).loc Cert.FwdMidRefIdeal.main_arg2)
      ∧ r.2.mem ((c.tc : Thread Cert.FwdMidRefIdeal.nD Cert.FwdMidRefIdeal.τ).loc Cert.FwdMidRefIdeal.main_arg3) = m ((c.tc : Thread Cert.FwdMidRefIdeal.nD Cert.FwdMidRefIdeal.τ).loc Cert.FwdMidRefIdeal.main_arg3)
      ∧ r.2.mem ((c.tc : Thread Cert.FwdMidRefIdeal.nD Cert.FwdMidRefIdeal.τ).loc Cert.FwdMidRefIdeal.main_arg4) = m ((c.tc : Thread Cert.FwdMidRefIdeal.nD Cert.FwdMidRefIdeal.τ).loc Cert.FwdMidRefIdeal.main_arg4)
      ∧ r.2.mem ((c.tc : Thread Cert.FwdMidRefIdeal.nD Cert.FwdMidRefIdeal.τ).loc Cert.FwdMidRefIdeal.main_arg5) = m ((c.tc : Thread Cert.FwdMidRefIdeal.nD Cert.FwdMidRefIdeal.τ).loc Cert.FwdMidRefIdeal.main_arg5)
      ∧ r.2.mem ((c.tc : Thread Cert.FwdMidRefIdeal.nD Cert.FwdMidRefIdeal.τ).loc Cert.FwdMidRefIdeal.main_arg6) = m ((c.tc : Thread Cert.FwdMidRefIdeal.nD Cert.FwdMidRefIdeal.τ).loc Cert.FwdMidRefIdeal.main_arg6))
      ∧ r.2.sem = fun _ => 0)

def quiescent_UpF1 [hUpF1 : Cert.UpF1.Facts] : Prop :=
  ∀ (m : (ℓ : Loc Cert.UpF1.nD Cert.UpF1.τ Cert.UpF1.sig) → Buf (Elt Bits) ℓ) (g : Dev Cert.UpF1.nD → PrngReg), Pre_UpF1 m →
    θ_run (Cert.UpF1.defs (F := Bits)) (onTc (τ := Cert.UpF1.τ) (Cert.UpF1.main (F := Bits))) ⟨m, fun _ => 0, g⟩ (fun r => (∀ c : Dev Cert.UpF1.nD,
      r.2.mem ((c.tc : Thread Cert.UpF1.nD Cert.UpF1.τ).loc Cert.UpF1.main_arg0) = m ((c.tc : Thread Cert.UpF1.nD Cert.UpF1.τ).loc Cert.UpF1.main_arg0)
      ∧ r.2.mem ((c.tc : Thread Cert.UpF1.nD Cert.UpF1.τ).loc Cert.UpF1.main_arg1) = m ((c.tc : Thread Cert.UpF1.nD Cert.UpF1.τ).loc Cert.UpF1.main_arg1)
      ∧ r.2.mem ((c.tc : Thread Cert.UpF1.nD Cert.UpF1.τ).loc Cert.UpF1.main_arg2) = m ((c.tc : Thread Cert.UpF1.nD Cert.UpF1.τ).loc Cert.UpF1.main_arg2)
      ∧ r.2.mem ((c.tc : Thread Cert.UpF1.nD Cert.UpF1.τ).loc Cert.UpF1.main_arg3) = m ((c.tc : Thread Cert.UpF1.nD Cert.UpF1.τ).loc Cert.UpF1.main_arg3)
      ∧ r.2.mem ((c.tc : Thread Cert.UpF1.nD Cert.UpF1.τ).loc Cert.UpF1.main_arg4) = m ((c.tc : Thread Cert.UpF1.nD Cert.UpF1.τ).loc Cert.UpF1.main_arg4)
      ∧ r.2.mem ((c.tc : Thread Cert.UpF1.nD Cert.UpF1.τ).loc Cert.UpF1.main_arg5) = m ((c.tc : Thread Cert.UpF1.nD Cert.UpF1.τ).loc Cert.UpF1.main_arg5)
      ∧ r.2.mem ((c.tc : Thread Cert.UpF1.nD Cert.UpF1.τ).loc Cert.UpF1.main_arg6) = m ((c.tc : Thread Cert.UpF1.nD Cert.UpF1.τ).loc Cert.UpF1.main_arg6))
      ∧ r.2.sem = fun _ => 0)

def quiescent_UpF1Ideal [hUpF1Ideal : Cert.UpF1Ideal.Facts] : Prop :=
  ∀ (m : (ℓ : Loc Cert.UpF1Ideal.nD Cert.UpF1Ideal.τ Cert.UpF1Ideal.sig) → Buf (Elt Ideal) ℓ) (g : Dev Cert.UpF1Ideal.nD → PrngReg), Pre_UpF1Ideal m →
    θ_run (Cert.UpF1Ideal.defs (F := Ideal)) (onTc (τ := Cert.UpF1Ideal.τ) (Cert.UpF1Ideal.main (F := Ideal))) ⟨m, fun _ => 0, g⟩ (fun r => (∀ c : Dev Cert.UpF1Ideal.nD,
      r.2.mem ((c.tc : Thread Cert.UpF1Ideal.nD Cert.UpF1Ideal.τ).loc Cert.UpF1Ideal.main_arg0) = m ((c.tc : Thread Cert.UpF1Ideal.nD Cert.UpF1Ideal.τ).loc Cert.UpF1Ideal.main_arg0)
      ∧ r.2.mem ((c.tc : Thread Cert.UpF1Ideal.nD Cert.UpF1Ideal.τ).loc Cert.UpF1Ideal.main_arg1) = m ((c.tc : Thread Cert.UpF1Ideal.nD Cert.UpF1Ideal.τ).loc Cert.UpF1Ideal.main_arg1)
      ∧ r.2.mem ((c.tc : Thread Cert.UpF1Ideal.nD Cert.UpF1Ideal.τ).loc Cert.UpF1Ideal.main_arg2) = m ((c.tc : Thread Cert.UpF1Ideal.nD Cert.UpF1Ideal.τ).loc Cert.UpF1Ideal.main_arg2)
      ∧ r.2.mem ((c.tc : Thread Cert.UpF1Ideal.nD Cert.UpF1Ideal.τ).loc Cert.UpF1Ideal.main_arg3) = m ((c.tc : Thread Cert.UpF1Ideal.nD Cert.UpF1Ideal.τ).loc Cert.UpF1Ideal.main_arg3)
      ∧ r.2.mem ((c.tc : Thread Cert.UpF1Ideal.nD Cert.UpF1Ideal.τ).loc Cert.UpF1Ideal.main_arg4) = m ((c.tc : Thread Cert.UpF1Ideal.nD Cert.UpF1Ideal.τ).loc Cert.UpF1Ideal.main_arg4)
      ∧ r.2.mem ((c.tc : Thread Cert.UpF1Ideal.nD Cert.UpF1Ideal.τ).loc Cert.UpF1Ideal.main_arg5) = m ((c.tc : Thread Cert.UpF1Ideal.nD Cert.UpF1Ideal.τ).loc Cert.UpF1Ideal.main_arg5)
      ∧ r.2.mem ((c.tc : Thread Cert.UpF1Ideal.nD Cert.UpF1Ideal.τ).loc Cert.UpF1Ideal.main_arg6) = m ((c.tc : Thread Cert.UpF1Ideal.nD Cert.UpF1Ideal.τ).loc Cert.UpF1Ideal.main_arg6))
      ∧ r.2.sem = fun _ => 0)

def quiescent_UpF1RefIdeal [hUpF1RefIdeal : Cert.UpF1RefIdeal.Facts] : Prop :=
  ∀ (m : (ℓ : Loc Cert.UpF1RefIdeal.nD Cert.UpF1RefIdeal.τ Cert.UpF1RefIdeal.sig) → Buf (Elt Ideal) ℓ) (g : Dev Cert.UpF1RefIdeal.nD → PrngReg), Pre_UpF1RefIdeal m →
    θ_run (Cert.UpF1RefIdeal.defs (F := Ideal)) (onTc (τ := Cert.UpF1RefIdeal.τ) (Cert.UpF1RefIdeal.main (F := Ideal))) ⟨m, fun _ => 0, g⟩ (fun r => (∀ c : Dev Cert.UpF1RefIdeal.nD,
      r.2.mem ((c.tc : Thread Cert.UpF1RefIdeal.nD Cert.UpF1RefIdeal.τ).loc Cert.UpF1RefIdeal.main_arg0) = m ((c.tc : Thread Cert.UpF1RefIdeal.nD Cert.UpF1RefIdeal.τ).loc Cert.UpF1RefIdeal.main_arg0)
      ∧ r.2.mem ((c.tc : Thread Cert.UpF1RefIdeal.nD Cert.UpF1RefIdeal.τ).loc Cert.UpF1RefIdeal.main_arg1) = m ((c.tc : Thread Cert.UpF1RefIdeal.nD Cert.UpF1RefIdeal.τ).loc Cert.UpF1RefIdeal.main_arg1)
      ∧ r.2.mem ((c.tc : Thread Cert.UpF1RefIdeal.nD Cert.UpF1RefIdeal.τ).loc Cert.UpF1RefIdeal.main_arg2) = m ((c.tc : Thread Cert.UpF1RefIdeal.nD Cert.UpF1RefIdeal.τ).loc Cert.UpF1RefIdeal.main_arg2)
      ∧ r.2.mem ((c.tc : Thread Cert.UpF1RefIdeal.nD Cert.UpF1RefIdeal.τ).loc Cert.UpF1RefIdeal.main_arg3) = m ((c.tc : Thread Cert.UpF1RefIdeal.nD Cert.UpF1RefIdeal.τ).loc Cert.UpF1RefIdeal.main_arg3)
      ∧ r.2.mem ((c.tc : Thread Cert.UpF1RefIdeal.nD Cert.UpF1RefIdeal.τ).loc Cert.UpF1RefIdeal.main_arg4) = m ((c.tc : Thread Cert.UpF1RefIdeal.nD Cert.UpF1RefIdeal.τ).loc Cert.UpF1RefIdeal.main_arg4)
      ∧ r.2.mem ((c.tc : Thread Cert.UpF1RefIdeal.nD Cert.UpF1RefIdeal.τ).loc Cert.UpF1RefIdeal.main_arg5) = m ((c.tc : Thread Cert.UpF1RefIdeal.nD Cert.UpF1RefIdeal.τ).loc Cert.UpF1RefIdeal.main_arg5)
      ∧ r.2.mem ((c.tc : Thread Cert.UpF1RefIdeal.nD Cert.UpF1RefIdeal.τ).loc Cert.UpF1RefIdeal.main_arg6) = m ((c.tc : Thread Cert.UpF1RefIdeal.nD Cert.UpF1RefIdeal.τ).loc Cert.UpF1RefIdeal.main_arg6))
      ∧ r.2.sem = fun _ => 0)

def quiescent_UpF2 [hUpF2 : Cert.UpF2.Facts] : Prop :=
  ∀ (m : (ℓ : Loc Cert.UpF2.nD Cert.UpF2.τ Cert.UpF2.sig) → Buf (Elt Bits) ℓ) (g : Dev Cert.UpF2.nD → PrngReg), Pre_UpF2 m →
    θ_run (Cert.UpF2.defs (F := Bits)) (onTc (τ := Cert.UpF2.τ) (Cert.UpF2.main (F := Bits))) ⟨m, fun _ => 0, g⟩ (fun r => (∀ c : Dev Cert.UpF2.nD,
      r.2.mem ((c.tc : Thread Cert.UpF2.nD Cert.UpF2.τ).loc Cert.UpF2.main_arg0) = m ((c.tc : Thread Cert.UpF2.nD Cert.UpF2.τ).loc Cert.UpF2.main_arg0)
      ∧ r.2.mem ((c.tc : Thread Cert.UpF2.nD Cert.UpF2.τ).loc Cert.UpF2.main_arg1) = m ((c.tc : Thread Cert.UpF2.nD Cert.UpF2.τ).loc Cert.UpF2.main_arg1)
      ∧ r.2.mem ((c.tc : Thread Cert.UpF2.nD Cert.UpF2.τ).loc Cert.UpF2.main_arg2) = m ((c.tc : Thread Cert.UpF2.nD Cert.UpF2.τ).loc Cert.UpF2.main_arg2)
      ∧ r.2.mem ((c.tc : Thread Cert.UpF2.nD Cert.UpF2.τ).loc Cert.UpF2.main_arg3) = m ((c.tc : Thread Cert.UpF2.nD Cert.UpF2.τ).loc Cert.UpF2.main_arg3)
      ∧ r.2.mem ((c.tc : Thread Cert.UpF2.nD Cert.UpF2.τ).loc Cert.UpF2.main_arg4) = m ((c.tc : Thread Cert.UpF2.nD Cert.UpF2.τ).loc Cert.UpF2.main_arg4)
      ∧ r.2.mem ((c.tc : Thread Cert.UpF2.nD Cert.UpF2.τ).loc Cert.UpF2.main_arg5) = m ((c.tc : Thread Cert.UpF2.nD Cert.UpF2.τ).loc Cert.UpF2.main_arg5)
      ∧ r.2.mem ((c.tc : Thread Cert.UpF2.nD Cert.UpF2.τ).loc Cert.UpF2.main_arg6) = m ((c.tc : Thread Cert.UpF2.nD Cert.UpF2.τ).loc Cert.UpF2.main_arg6))
      ∧ r.2.sem = fun _ => 0)

def quiescent_UpF2Ideal [hUpF2Ideal : Cert.UpF2Ideal.Facts] : Prop :=
  ∀ (m : (ℓ : Loc Cert.UpF2Ideal.nD Cert.UpF2Ideal.τ Cert.UpF2Ideal.sig) → Buf (Elt Ideal) ℓ) (g : Dev Cert.UpF2Ideal.nD → PrngReg), Pre_UpF2Ideal m →
    θ_run (Cert.UpF2Ideal.defs (F := Ideal)) (onTc (τ := Cert.UpF2Ideal.τ) (Cert.UpF2Ideal.main (F := Ideal))) ⟨m, fun _ => 0, g⟩ (fun r => (∀ c : Dev Cert.UpF2Ideal.nD,
      r.2.mem ((c.tc : Thread Cert.UpF2Ideal.nD Cert.UpF2Ideal.τ).loc Cert.UpF2Ideal.main_arg0) = m ((c.tc : Thread Cert.UpF2Ideal.nD Cert.UpF2Ideal.τ).loc Cert.UpF2Ideal.main_arg0)
      ∧ r.2.mem ((c.tc : Thread Cert.UpF2Ideal.nD Cert.UpF2Ideal.τ).loc Cert.UpF2Ideal.main_arg1) = m ((c.tc : Thread Cert.UpF2Ideal.nD Cert.UpF2Ideal.τ).loc Cert.UpF2Ideal.main_arg1)
      ∧ r.2.mem ((c.tc : Thread Cert.UpF2Ideal.nD Cert.UpF2Ideal.τ).loc Cert.UpF2Ideal.main_arg2) = m ((c.tc : Thread Cert.UpF2Ideal.nD Cert.UpF2Ideal.τ).loc Cert.UpF2Ideal.main_arg2)
      ∧ r.2.mem ((c.tc : Thread Cert.UpF2Ideal.nD Cert.UpF2Ideal.τ).loc Cert.UpF2Ideal.main_arg3) = m ((c.tc : Thread Cert.UpF2Ideal.nD Cert.UpF2Ideal.τ).loc Cert.UpF2Ideal.main_arg3)
      ∧ r.2.mem ((c.tc : Thread Cert.UpF2Ideal.nD Cert.UpF2Ideal.τ).loc Cert.UpF2Ideal.main_arg4) = m ((c.tc : Thread Cert.UpF2Ideal.nD Cert.UpF2Ideal.τ).loc Cert.UpF2Ideal.main_arg4)
      ∧ r.2.mem ((c.tc : Thread Cert.UpF2Ideal.nD Cert.UpF2Ideal.τ).loc Cert.UpF2Ideal.main_arg5) = m ((c.tc : Thread Cert.UpF2Ideal.nD Cert.UpF2Ideal.τ).loc Cert.UpF2Ideal.main_arg5)
      ∧ r.2.mem ((c.tc : Thread Cert.UpF2Ideal.nD Cert.UpF2Ideal.τ).loc Cert.UpF2Ideal.main_arg6) = m ((c.tc : Thread Cert.UpF2Ideal.nD Cert.UpF2Ideal.τ).loc Cert.UpF2Ideal.main_arg6))
      ∧ r.2.sem = fun _ => 0)

def quiescent_UpF2RefIdeal [hUpF2RefIdeal : Cert.UpF2RefIdeal.Facts] : Prop :=
  ∀ (m : (ℓ : Loc Cert.UpF2RefIdeal.nD Cert.UpF2RefIdeal.τ Cert.UpF2RefIdeal.sig) → Buf (Elt Ideal) ℓ) (g : Dev Cert.UpF2RefIdeal.nD → PrngReg), Pre_UpF2RefIdeal m →
    θ_run (Cert.UpF2RefIdeal.defs (F := Ideal)) (onTc (τ := Cert.UpF2RefIdeal.τ) (Cert.UpF2RefIdeal.main (F := Ideal))) ⟨m, fun _ => 0, g⟩ (fun r => (∀ c : Dev Cert.UpF2RefIdeal.nD,
      r.2.mem ((c.tc : Thread Cert.UpF2RefIdeal.nD Cert.UpF2RefIdeal.τ).loc Cert.UpF2RefIdeal.main_arg0) = m ((c.tc : Thread Cert.UpF2RefIdeal.nD Cert.UpF2RefIdeal.τ).loc Cert.UpF2RefIdeal.main_arg0)
      ∧ r.2.mem ((c.tc : Thread Cert.UpF2RefIdeal.nD Cert.UpF2RefIdeal.τ).loc Cert.UpF2RefIdeal.main_arg1) = m ((c.tc : Thread Cert.UpF2RefIdeal.nD Cert.UpF2RefIdeal.τ).loc Cert.UpF2RefIdeal.main_arg1)
      ∧ r.2.mem ((c.tc : Thread Cert.UpF2RefIdeal.nD Cert.UpF2RefIdeal.τ).loc Cert.UpF2RefIdeal.main_arg2) = m ((c.tc : Thread Cert.UpF2RefIdeal.nD Cert.UpF2RefIdeal.τ).loc Cert.UpF2RefIdeal.main_arg2)
      ∧ r.2.mem ((c.tc : Thread Cert.UpF2RefIdeal.nD Cert.UpF2RefIdeal.τ).loc Cert.UpF2RefIdeal.main_arg3) = m ((c.tc : Thread Cert.UpF2RefIdeal.nD Cert.UpF2RefIdeal.τ).loc Cert.UpF2RefIdeal.main_arg3)
      ∧ r.2.mem ((c.tc : Thread Cert.UpF2RefIdeal.nD Cert.UpF2RefIdeal.τ).loc Cert.UpF2RefIdeal.main_arg4) = m ((c.tc : Thread Cert.UpF2RefIdeal.nD Cert.UpF2RefIdeal.τ).loc Cert.UpF2RefIdeal.main_arg4)
      ∧ r.2.mem ((c.tc : Thread Cert.UpF2RefIdeal.nD Cert.UpF2RefIdeal.τ).loc Cert.UpF2RefIdeal.main_arg5) = m ((c.tc : Thread Cert.UpF2RefIdeal.nD Cert.UpF2RefIdeal.τ).loc Cert.UpF2RefIdeal.main_arg5)
      ∧ r.2.mem ((c.tc : Thread Cert.UpF2RefIdeal.nD Cert.UpF2RefIdeal.τ).loc Cert.UpF2RefIdeal.main_arg6) = m ((c.tc : Thread Cert.UpF2RefIdeal.nD Cert.UpF2RefIdeal.τ).loc Cert.UpF2RefIdeal.main_arg6))
      ∧ r.2.sem = fun _ => 0)

def quiescent_UpBIn [hUpBIn : Cert.UpBIn.Facts] : Prop :=
  ∀ (m : (ℓ : Loc Cert.UpBIn.nD Cert.UpBIn.τ Cert.UpBIn.sig) → Buf (Elt Bits) ℓ) (g : Dev Cert.UpBIn.nD → PrngReg), Pre_UpBIn m →
    θ_run (Cert.UpBIn.defs (F := Bits)) (onTc (τ := Cert.UpBIn.τ) (Cert.UpBIn.main (F := Bits))) ⟨m, fun _ => 0, g⟩ (fun r => (∀ c : Dev Cert.UpBIn.nD,
      r.2.mem ((c.tc : Thread Cert.UpBIn.nD Cert.UpBIn.τ).loc Cert.UpBIn.main_arg0) = m ((c.tc : Thread Cert.UpBIn.nD Cert.UpBIn.τ).loc Cert.UpBIn.main_arg0)
      ∧ r.2.mem ((c.tc : Thread Cert.UpBIn.nD Cert.UpBIn.τ).loc Cert.UpBIn.main_arg1) = m ((c.tc : Thread Cert.UpBIn.nD Cert.UpBIn.τ).loc Cert.UpBIn.main_arg1)
      ∧ r.2.mem ((c.tc : Thread Cert.UpBIn.nD Cert.UpBIn.τ).loc Cert.UpBIn.main_arg2) = m ((c.tc : Thread Cert.UpBIn.nD Cert.UpBIn.τ).loc Cert.UpBIn.main_arg2)
      ∧ r.2.mem ((c.tc : Thread Cert.UpBIn.nD Cert.UpBIn.τ).loc Cert.UpBIn.main_arg3) = m ((c.tc : Thread Cert.UpBIn.nD Cert.UpBIn.τ).loc Cert.UpBIn.main_arg3)
      ∧ r.2.mem ((c.tc : Thread Cert.UpBIn.nD Cert.UpBIn.τ).loc Cert.UpBIn.main_arg4) = m ((c.tc : Thread Cert.UpBIn.nD Cert.UpBIn.τ).loc Cert.UpBIn.main_arg4))
      ∧ r.2.sem = fun _ => 0)

def quiescent_UpBInIdeal [hUpBInIdeal : Cert.UpBInIdeal.Facts] : Prop :=
  ∀ (m : (ℓ : Loc Cert.UpBInIdeal.nD Cert.UpBInIdeal.τ Cert.UpBInIdeal.sig) → Buf (Elt Ideal) ℓ) (g : Dev Cert.UpBInIdeal.nD → PrngReg), Pre_UpBInIdeal m →
    θ_run (Cert.UpBInIdeal.defs (F := Ideal)) (onTc (τ := Cert.UpBInIdeal.τ) (Cert.UpBInIdeal.main (F := Ideal))) ⟨m, fun _ => 0, g⟩ (fun r => (∀ c : Dev Cert.UpBInIdeal.nD,
      r.2.mem ((c.tc : Thread Cert.UpBInIdeal.nD Cert.UpBInIdeal.τ).loc Cert.UpBInIdeal.main_arg0) = m ((c.tc : Thread Cert.UpBInIdeal.nD Cert.UpBInIdeal.τ).loc Cert.UpBInIdeal.main_arg0)
      ∧ r.2.mem ((c.tc : Thread Cert.UpBInIdeal.nD Cert.UpBInIdeal.τ).loc Cert.UpBInIdeal.main_arg1) = m ((c.tc : Thread Cert.UpBInIdeal.nD Cert.UpBInIdeal.τ).loc Cert.UpBInIdeal.main_arg1)
      ∧ r.2.mem ((c.tc : Thread Cert.UpBInIdeal.nD Cert.UpBInIdeal.τ).loc Cert.UpBInIdeal.main_arg2) = m ((c.tc : Thread Cert.UpBInIdeal.nD Cert.UpBInIdeal.τ).loc Cert.UpBInIdeal.main_arg2)
      ∧ r.2.mem ((c.tc : Thread Cert.UpBInIdeal.nD Cert.UpBInIdeal.τ).loc Cert.UpBInIdeal.main_arg3) = m ((c.tc : Thread Cert.UpBInIdeal.nD Cert.UpBInIdeal.τ).loc Cert.UpBInIdeal.main_arg3)
      ∧ r.2.mem ((c.tc : Thread Cert.UpBInIdeal.nD Cert.UpBInIdeal.τ).loc Cert.UpBInIdeal.main_arg4) = m ((c.tc : Thread Cert.UpBInIdeal.nD Cert.UpBInIdeal.τ).loc Cert.UpBInIdeal.main_arg4))
      ∧ r.2.sem = fun _ => 0)

def quiescent_UpBInRefIdeal [hUpBInRefIdeal : Cert.UpBInRefIdeal.Facts] : Prop :=
  ∀ (m : (ℓ : Loc Cert.UpBInRefIdeal.nD Cert.UpBInRefIdeal.τ Cert.UpBInRefIdeal.sig) → Buf (Elt Ideal) ℓ) (g : Dev Cert.UpBInRefIdeal.nD → PrngReg), Pre_UpBInRefIdeal m →
    θ_run (Cert.UpBInRefIdeal.defs (F := Ideal)) (onTc (τ := Cert.UpBInRefIdeal.τ) (Cert.UpBInRefIdeal.main (F := Ideal))) ⟨m, fun _ => 0, g⟩ (fun r => (∀ c : Dev Cert.UpBInRefIdeal.nD,
      r.2.mem ((c.tc : Thread Cert.UpBInRefIdeal.nD Cert.UpBInRefIdeal.τ).loc Cert.UpBInRefIdeal.main_arg0) = m ((c.tc : Thread Cert.UpBInRefIdeal.nD Cert.UpBInRefIdeal.τ).loc Cert.UpBInRefIdeal.main_arg0)
      ∧ r.2.mem ((c.tc : Thread Cert.UpBInRefIdeal.nD Cert.UpBInRefIdeal.τ).loc Cert.UpBInRefIdeal.main_arg1) = m ((c.tc : Thread Cert.UpBInRefIdeal.nD Cert.UpBInRefIdeal.τ).loc Cert.UpBInRefIdeal.main_arg1)
      ∧ r.2.mem ((c.tc : Thread Cert.UpBInRefIdeal.nD Cert.UpBInRefIdeal.τ).loc Cert.UpBInRefIdeal.main_arg2) = m ((c.tc : Thread Cert.UpBInRefIdeal.nD Cert.UpBInRefIdeal.τ).loc Cert.UpBInRefIdeal.main_arg2)
      ∧ r.2.mem ((c.tc : Thread Cert.UpBInRefIdeal.nD Cert.UpBInRefIdeal.τ).loc Cert.UpBInRefIdeal.main_arg3) = m ((c.tc : Thread Cert.UpBInRefIdeal.nD Cert.UpBInRefIdeal.τ).loc Cert.UpBInRefIdeal.main_arg3)
      ∧ r.2.mem ((c.tc : Thread Cert.UpBInRefIdeal.nD Cert.UpBInRefIdeal.τ).loc Cert.UpBInRefIdeal.main_arg4) = m ((c.tc : Thread Cert.UpBInRefIdeal.nD Cert.UpBInRefIdeal.τ).loc Cert.UpBInRefIdeal.main_arg4))
      ∧ r.2.sem = fun _ => 0)

def quiescent_UpOut [hUpOut : Cert.UpOut.Facts] : Prop :=
  ∀ (m : (ℓ : Loc Cert.UpOut.nD Cert.UpOut.τ Cert.UpOut.sig) → Buf (Elt Bits) ℓ) (g : Dev Cert.UpOut.nD → PrngReg), Pre_UpOut m →
    θ_run (Cert.UpOut.defs (F := Bits)) (onTc (τ := Cert.UpOut.τ) (Cert.UpOut.main (F := Bits))) ⟨m, fun _ => 0, g⟩ (fun r => (∀ c : Dev Cert.UpOut.nD,
      r.2.mem ((c.tc : Thread Cert.UpOut.nD Cert.UpOut.τ).loc Cert.UpOut.main_arg0) = m ((c.tc : Thread Cert.UpOut.nD Cert.UpOut.τ).loc Cert.UpOut.main_arg0)
      ∧ r.2.mem ((c.tc : Thread Cert.UpOut.nD Cert.UpOut.τ).loc Cert.UpOut.main_arg1) = m ((c.tc : Thread Cert.UpOut.nD Cert.UpOut.τ).loc Cert.UpOut.main_arg1)
      ∧ r.2.mem ((c.tc : Thread Cert.UpOut.nD Cert.UpOut.τ).loc Cert.UpOut.main_arg2) = m ((c.tc : Thread Cert.UpOut.nD Cert.UpOut.τ).loc Cert.UpOut.main_arg2)
      ∧ r.2.mem ((c.tc : Thread Cert.UpOut.nD Cert.UpOut.τ).loc Cert.UpOut.main_arg3) = m ((c.tc : Thread Cert.UpOut.nD Cert.UpOut.τ).loc Cert.UpOut.main_arg3)
      ∧ r.2.mem ((c.tc : Thread Cert.UpOut.nD Cert.UpOut.τ).loc Cert.UpOut.main_arg4) = m ((c.tc : Thread Cert.UpOut.nD Cert.UpOut.τ).loc Cert.UpOut.main_arg4))
      ∧ r.2.sem = fun _ => 0)

def quiescent_UpOutIdeal [hUpOutIdeal : Cert.UpOutIdeal.Facts] : Prop :=
  ∀ (m : (ℓ : Loc Cert.UpOutIdeal.nD Cert.UpOutIdeal.τ Cert.UpOutIdeal.sig) → Buf (Elt Ideal) ℓ) (g : Dev Cert.UpOutIdeal.nD → PrngReg), Pre_UpOutIdeal m →
    θ_run (Cert.UpOutIdeal.defs (F := Ideal)) (onTc (τ := Cert.UpOutIdeal.τ) (Cert.UpOutIdeal.main (F := Ideal))) ⟨m, fun _ => 0, g⟩ (fun r => (∀ c : Dev Cert.UpOutIdeal.nD,
      r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
      ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
      ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
      ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3)
      ∧ r.2.mem ((c.tc : Thread Cert.UpOutIdeal.nD Cert.UpOutIdeal.τ).loc Cert.UpOutIdeal.main_arg4) = m ((c.tc : Thread Cert.UpOutIdeal.nD Cert.UpOutIdeal.τ).loc Cert.UpOutIdeal.main_arg4))
      ∧ r.2.sem = fun _ => 0)

def quiescent_UpOutRefIdeal [hUpOutRefIdeal : Cert.UpOutRefIdeal.Facts] : Prop :=
  ∀ (m : (ℓ : Loc Cert.UpOutRefIdeal.nD Cert.UpOutRefIdeal.τ Cert.UpOutRefIdeal.sig) → Buf (Elt Ideal) ℓ) (g : Dev Cert.UpOutRefIdeal.nD → PrngReg), Pre_UpOutRefIdeal m →
    θ_run (Cert.UpOutRefIdeal.defs (F := Ideal)) (onTc (τ := Cert.UpOutRefIdeal.τ) (Cert.UpOutRefIdeal.main (F := Ideal))) ⟨m, fun _ => 0, g⟩ (fun r => (∀ c : Dev Cert.UpOutRefIdeal.nD,
      r.2.mem ((c.tc : Thread Cert.UpOutRefIdeal.nD Cert.UpOutRefIdeal.τ).loc Cert.UpOutRefIdeal.main_arg0) = m ((c.tc : Thread Cert.UpOutRefIdeal.nD Cert.UpOutRefIdeal.τ).loc Cert.UpOutRefIdeal.main_arg0)
      ∧ r.2.mem ((c.tc : Thread Cert.UpOutRefIdeal.nD Cert.UpOutRefIdeal.τ).loc Cert.UpOutRefIdeal.main_arg1) = m ((c.tc : Thread Cert.UpOutRefIdeal.nD Cert.UpOutRefIdeal.τ).loc Cert.UpOutRefIdeal.main_arg1)
      ∧ r.2.mem ((c.tc : Thread Cert.UpOutRefIdeal.nD Cert.UpOutRefIdeal.τ).loc Cert.UpOutRefIdeal.main_arg2) = m ((c.tc : Thread Cert.UpOutRefIdeal.nD Cert.UpOutRefIdeal.τ).loc Cert.UpOutRefIdeal.main_arg2)
      ∧ r.2.mem ((c.tc : Thread Cert.UpOutRefIdeal.nD Cert.UpOutRefIdeal.τ).loc Cert.UpOutRefIdeal.main_arg3) = m ((c.tc : Thread Cert.UpOutRefIdeal.nD Cert.UpOutRefIdeal.τ).loc Cert.UpOutRefIdeal.main_arg3)
      ∧ r.2.mem ((c.tc : Thread Cert.UpOutRefIdeal.nD Cert.UpOutRefIdeal.τ).loc Cert.UpOutRefIdeal.main_arg4) = m ((c.tc : Thread Cert.UpOutRefIdeal.nD Cert.UpOutRefIdeal.τ).loc Cert.UpOutRefIdeal.main_arg4))
      ∧ r.2.sem = fun _ => 0)

def quiescent_UpAIn [hUpAIn : Cert.UpAIn.Facts] : Prop :=
  ∀ (m : (ℓ : Loc Cert.UpAIn.nD Cert.UpAIn.τ Cert.UpAIn.sig) → Buf (Elt Bits) ℓ) (g : Dev Cert.UpAIn.nD → PrngReg), Pre_UpAIn m →
    θ_run (Cert.UpAIn.defs (F := Bits)) (onTc (τ := Cert.UpAIn.τ) (Cert.UpAIn.main (F := Bits))) ⟨m, fun _ => 0, g⟩ (fun r => (∀ c : Dev Cert.UpAIn.nD,
      r.2.mem ((c.tc : Thread Cert.UpAIn.nD Cert.UpAIn.τ).loc Cert.UpAIn.main_arg0) = m ((c.tc : Thread Cert.UpAIn.nD Cert.UpAIn.τ).loc Cert.UpAIn.main_arg0)
      ∧ r.2.mem ((c.tc : Thread Cert.UpAIn.nD Cert.UpAIn.τ).loc Cert.UpAIn.main_arg1) = m ((c.tc : Thread Cert.UpAIn.nD Cert.UpAIn.τ).loc Cert.UpAIn.main_arg1)
      ∧ r.2.mem ((c.tc : Thread Cert.UpAIn.nD Cert.UpAIn.τ).loc Cert.UpAIn.main_arg2) = m ((c.tc : Thread Cert.UpAIn.nD Cert.UpAIn.τ).loc Cert.UpAIn.main_arg2)
      ∧ r.2.mem ((c.tc : Thread Cert.UpAIn.nD Cert.UpAIn.τ).loc Cert.UpAIn.main_arg3) = m ((c.tc : Thread Cert.UpAIn.nD Cert.UpAIn.τ).loc Cert.UpAIn.main_arg3)
      ∧ r.2.mem ((c.tc : Thread Cert.UpAIn.nD Cert.UpAIn.τ).loc Cert.UpAIn.main_arg4) = m ((c.tc : Thread Cert.UpAIn.nD Cert.UpAIn.τ).loc Cert.UpAIn.main_arg4))
      ∧ r.2.sem = fun _ => 0)

def quiescent_UpAInIdeal [hUpAInIdeal : Cert.UpAInIdeal.Facts] : Prop :=
  ∀ (m : (ℓ : Loc Cert.UpAInIdeal.nD Cert.UpAInIdeal.τ Cert.UpAInIdeal.sig) → Buf (Elt Ideal) ℓ) (g : Dev Cert.UpAInIdeal.nD → PrngReg), Pre_UpAInIdeal m →
    θ_run (Cert.UpAInIdeal.defs (F := Ideal)) (onTc (τ := Cert.UpAInIdeal.τ) (Cert.UpAInIdeal.main (F := Ideal))) ⟨m, fun _ => 0, g⟩ (fun r => (∀ c : Dev Cert.UpAInIdeal.nD,
      r.2.mem ((c.tc : Thread Cert.UpAInIdeal.nD Cert.UpAInIdeal.τ).loc Cert.UpAInIdeal.main_arg0) = m ((c.tc : Thread Cert.UpAInIdeal.nD Cert.UpAInIdeal.τ).loc Cert.UpAInIdeal.main_arg0)
      ∧ r.2.mem ((c.tc : Thread Cert.UpAInIdeal.nD Cert.UpAInIdeal.τ).loc Cert.UpAInIdeal.main_arg1) = m ((c.tc : Thread Cert.UpAInIdeal.nD Cert.UpAInIdeal.τ).loc Cert.UpAInIdeal.main_arg1)
      ∧ r.2.mem ((c.tc : Thread Cert.UpAInIdeal.nD Cert.UpAInIdeal.τ).loc Cert.UpAInIdeal.main_arg2) = m ((c.tc : Thread Cert.UpAInIdeal.nD Cert.UpAInIdeal.τ).loc Cert.UpAInIdeal.main_arg2)
      ∧ r.2.mem ((c.tc : Thread Cert.UpAInIdeal.nD Cert.UpAInIdeal.τ).loc Cert.UpAInIdeal.main_arg3) = m ((c.tc : Thread Cert.UpAInIdeal.nD Cert.UpAInIdeal.τ).loc Cert.UpAInIdeal.main_arg3)
      ∧ r.2.mem ((c.tc : Thread Cert.UpAInIdeal.nD Cert.UpAInIdeal.τ).loc Cert.UpAInIdeal.main_arg4) = m ((c.tc : Thread Cert.UpAInIdeal.nD Cert.UpAInIdeal.τ).loc Cert.UpAInIdeal.main_arg4))
      ∧ r.2.sem = fun _ => 0)

def quiescent_UpAInRefIdeal [hUpAInRefIdeal : Cert.UpAInRefIdeal.Facts] : Prop :=
  ∀ (m : (ℓ : Loc Cert.UpAInRefIdeal.nD Cert.UpAInRefIdeal.τ Cert.UpAInRefIdeal.sig) → Buf (Elt Ideal) ℓ) (g : Dev Cert.UpAInRefIdeal.nD → PrngReg), Pre_UpAInRefIdeal m →
    θ_run (Cert.UpAInRefIdeal.defs (F := Ideal)) (onTc (τ := Cert.UpAInRefIdeal.τ) (Cert.UpAInRefIdeal.main (F := Ideal))) ⟨m, fun _ => 0, g⟩ (fun r => (∀ c : Dev Cert.UpAInRefIdeal.nD,
      r.2.mem ((c.tc : Thread Cert.UpAInRefIdeal.nD Cert.UpAInRefIdeal.τ).loc Cert.UpAInRefIdeal.main_arg0) = m ((c.tc : Thread Cert.UpAInRefIdeal.nD Cert.UpAInRefIdeal.τ).loc Cert.UpAInRefIdeal.main_arg0)
      ∧ r.2.mem ((c.tc : Thread Cert.UpAInRefIdeal.nD Cert.UpAInRefIdeal.τ).loc Cert.UpAInRefIdeal.main_arg1) = m ((c.tc : Thread Cert.UpAInRefIdeal.nD Cert.UpAInRefIdeal.τ).loc Cert.UpAInRefIdeal.main_arg1)
      ∧ r.2.mem ((c.tc : Thread Cert.UpAInRefIdeal.nD Cert.UpAInRefIdeal.τ).loc Cert.UpAInRefIdeal.main_arg2) = m ((c.tc : Thread Cert.UpAInRefIdeal.nD Cert.UpAInRefIdeal.τ).loc Cert.UpAInRefIdeal.main_arg2)
      ∧ r.2.mem ((c.tc : Thread Cert.UpAInRefIdeal.nD Cert.UpAInRefIdeal.τ).loc Cert.UpAInRefIdeal.main_arg3) = m ((c.tc : Thread Cert.UpAInRefIdeal.nD Cert.UpAInRefIdeal.τ).loc Cert.UpAInRefIdeal.main_arg3)
      ∧ r.2.mem ((c.tc : Thread Cert.UpAInRefIdeal.nD Cert.UpAInRefIdeal.τ).loc Cert.UpAInRefIdeal.main_arg4) = m ((c.tc : Thread Cert.UpAInRefIdeal.nD Cert.UpAInRefIdeal.τ).loc Cert.UpAInRefIdeal.main_arg4))
      ∧ r.2.sem = fun _ => 0)

def quiescent_UpVec [hUpVec : Cert.UpVec.Facts] : Prop :=
  ∀ (m : (ℓ : Loc Cert.UpVec.nD Cert.UpVec.τ Cert.UpVec.sig) → Buf (Elt Bits) ℓ) (g : Dev Cert.UpVec.nD → PrngReg), Pre_UpVec m →
    θ_run (Cert.UpVec.defs (F := Bits)) (onTc (τ := Cert.UpVec.τ) (Cert.UpVec.main (F := Bits))) ⟨m, fun _ => 0, g⟩ (fun r => (∀ c : Dev Cert.UpVec.nD,
      r.2.mem ((c.tc : Thread Cert.UpVec.nD Cert.UpVec.τ).loc Cert.UpVec.main_arg0) = m ((c.tc : Thread Cert.UpVec.nD Cert.UpVec.τ).loc Cert.UpVec.main_arg0)
      ∧ r.2.mem ((c.tc : Thread Cert.UpVec.nD Cert.UpVec.τ).loc Cert.UpVec.main_arg1) = m ((c.tc : Thread Cert.UpVec.nD Cert.UpVec.τ).loc Cert.UpVec.main_arg1)
      ∧ r.2.mem ((c.tc : Thread Cert.UpVec.nD Cert.UpVec.τ).loc Cert.UpVec.main_arg2) = m ((c.tc : Thread Cert.UpVec.nD Cert.UpVec.τ).loc Cert.UpVec.main_arg2)
      ∧ r.2.mem ((c.tc : Thread Cert.UpVec.nD Cert.UpVec.τ).loc Cert.UpVec.main_arg3) = m ((c.tc : Thread Cert.UpVec.nD Cert.UpVec.τ).loc Cert.UpVec.main_arg3))
      ∧ r.2.sem = fun _ => 0)

def quiescent_UpVecIdeal [hUpVecIdeal : Cert.UpVecIdeal.Facts] : Prop :=
  ∀ (m : (ℓ : Loc Cert.UpVecIdeal.nD Cert.UpVecIdeal.τ Cert.UpVecIdeal.sig) → Buf (Elt Ideal) ℓ) (g : Dev Cert.UpVecIdeal.nD → PrngReg), Pre_UpVecIdeal m →
    θ_run (Cert.UpVecIdeal.defs (F := Ideal)) (onTc (τ := Cert.UpVecIdeal.τ) (Cert.UpVecIdeal.main (F := Ideal))) ⟨m, fun _ => 0, g⟩ (fun r => (∀ c : Dev Cert.UpVecIdeal.nD,
      r.2.mem ((c.tc : Thread Cert.UpVecIdeal.nD Cert.UpVecIdeal.τ).loc Cert.UpVecIdeal.main_arg0) = m ((c.tc : Thread Cert.UpVecIdeal.nD Cert.UpVecIdeal.τ).loc Cert.UpVecIdeal.main_arg0)
      ∧ r.2.mem ((c.tc : Thread Cert.UpVecIdeal.nD Cert.UpVecIdeal.τ).loc Cert.UpVecIdeal.main_arg1) = m ((c.tc : Thread Cert.UpVecIdeal.nD Cert.UpVecIdeal.τ).loc Cert.UpVecIdeal.main_arg1)
      ∧ r.2.mem ((c.tc : Thread Cert.UpVecIdeal.nD Cert.UpVecIdeal.τ).loc Cert.UpVecIdeal.main_arg2) = m ((c.tc : Thread Cert.UpVecIdeal.nD Cert.UpVecIdeal.τ).loc Cert.UpVecIdeal.main_arg2)
      ∧ r.2.mem ((c.tc : Thread Cert.UpVecIdeal.nD Cert.UpVecIdeal.τ).loc Cert.UpVecIdeal.main_arg3) = m ((c.tc : Thread Cert.UpVecIdeal.nD Cert.UpVecIdeal.τ).loc Cert.UpVecIdeal.main_arg3))
      ∧ r.2.sem = fun _ => 0)

def quiescent_UpVecRefIdeal [hUpVecRefIdeal : Cert.UpVecRefIdeal.Facts] : Prop :=
  ∀ (m : (ℓ : Loc Cert.UpVecRefIdeal.nD Cert.UpVecRefIdeal.τ Cert.UpVecRefIdeal.sig) → Buf (Elt Ideal) ℓ) (g : Dev Cert.UpVecRefIdeal.nD → PrngReg), Pre_UpVecRefIdeal m →
    θ_run (Cert.UpVecRefIdeal.defs (F := Ideal)) (onTc (τ := Cert.UpVecRefIdeal.τ) (Cert.UpVecRefIdeal.main (F := Ideal))) ⟨m, fun _ => 0, g⟩ (fun r => (∀ c : Dev Cert.UpVecRefIdeal.nD,
      r.2.mem ((c.tc : Thread Cert.UpVecRefIdeal.nD Cert.UpVecRefIdeal.τ).loc Cert.UpVecRefIdeal.main_arg0) = m ((c.tc : Thread Cert.UpVecRefIdeal.nD Cert.UpVecRefIdeal.τ).loc Cert.UpVecRefIdeal.main_arg0)
      ∧ r.2.mem ((c.tc : Thread Cert.UpVecRefIdeal.nD Cert.UpVecRefIdeal.τ).loc Cert.UpVecRefIdeal.main_arg1) = m ((c.tc : Thread Cert.UpVecRefIdeal.nD Cert.UpVecRefIdeal.τ).loc Cert.UpVecRefIdeal.main_arg1)
      ∧ r.2.mem ((c.tc : Thread Cert.UpVecRefIdeal.nD Cert.UpVecRefIdeal.τ).loc Cert.UpVecRefIdeal.main_arg2) = m ((c.tc : Thread Cert.UpVecRefIdeal.nD Cert.UpVecRefIdeal.τ).loc Cert.UpVecRefIdeal.main_arg2)
      ∧ r.2.mem ((c.tc : Thread Cert.UpVecRefIdeal.nD Cert.UpVecRefIdeal.τ).loc Cert.UpVecRefIdeal.main_arg3) = m ((c.tc : Thread Cert.UpVecRefIdeal.nD Cert.UpVecRefIdeal.τ).loc Cert.UpVecRefIdeal.main_arg3))
      ∧ r.2.sem = fun _ => 0)

def quiescent_UpConv [hUpConv : Cert.UpConv.Facts] : Prop :=
  ∀ (m : (ℓ : Loc Cert.UpConv.nD Cert.UpConv.τ Cert.UpConv.sig) → Buf (Elt Bits) ℓ) (g : Dev Cert.UpConv.nD → PrngReg), Pre_UpConv m →
    θ_run (Cert.UpConv.defs (F := Bits)) (onTc (τ := Cert.UpConv.τ) (Cert.UpConv.main (F := Bits))) ⟨m, fun _ => 0, g⟩ (fun r => (∀ c : Dev Cert.UpConv.nD,
      r.2.mem ((c.tc : Thread Cert.UpConv.nD Cert.UpConv.τ).loc Cert.UpConv.main_arg0) = m ((c.tc : Thread Cert.UpConv.nD Cert.UpConv.τ).loc Cert.UpConv.main_arg0)
      ∧ r.2.mem ((c.tc : Thread Cert.UpConv.nD Cert.UpConv.τ).loc Cert.UpConv.main_arg1) = m ((c.tc : Thread Cert.UpConv.nD Cert.UpConv.τ).loc Cert.UpConv.main_arg1)
      ∧ r.2.mem ((c.tc : Thread Cert.UpConv.nD Cert.UpConv.τ).loc Cert.UpConv.main_arg2) = m ((c.tc : Thread Cert.UpConv.nD Cert.UpConv.τ).loc Cert.UpConv.main_arg2)
      ∧ r.2.mem ((c.tc : Thread Cert.UpConv.nD Cert.UpConv.τ).loc Cert.UpConv.main_arg3) = m ((c.tc : Thread Cert.UpConv.nD Cert.UpConv.τ).loc Cert.UpConv.main_arg3))
      ∧ r.2.sem = fun _ => 0)

def quiescent_UpConvIdeal [hUpConvIdeal : Cert.UpConvIdeal.Facts] : Prop :=
  ∀ (m : (ℓ : Loc Cert.UpConvIdeal.nD Cert.UpConvIdeal.τ Cert.UpConvIdeal.sig) → Buf (Elt Ideal) ℓ) (g : Dev Cert.UpConvIdeal.nD → PrngReg), Pre_UpConvIdeal m →
    θ_run (Cert.UpConvIdeal.defs (F := Ideal)) (onTc (τ := Cert.UpConvIdeal.τ) (Cert.UpConvIdeal.main (F := Ideal))) ⟨m, fun _ => 0, g⟩ (fun r => (∀ c : Dev Cert.UpConvIdeal.nD,
      r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
      ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
      ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
      ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ r.2.sem = fun _ => 0)

def quiescent_UpConvRefIdeal [hUpConvRefIdeal : Cert.UpConvRefIdeal.Facts] : Prop :=
  ∀ (m : (ℓ : Loc Cert.UpConvRefIdeal.nD Cert.UpConvRefIdeal.τ Cert.UpConvRefIdeal.sig) → Buf (Elt Ideal) ℓ) (g : Dev Cert.UpConvRefIdeal.nD → PrngReg), Pre_UpConvRefIdeal m →
    θ_run (Cert.UpConvRefIdeal.defs (F := Ideal)) (onTc (τ := Cert.UpConvRefIdeal.τ) (Cert.UpConvRefIdeal.main (F := Ideal))) ⟨m, fun _ => 0, g⟩ (fun r => (∀ c : Dev Cert.UpConvRefIdeal.nD,
      r.2.mem ((c.tc : Thread Cert.UpConvRefIdeal.nD Cert.UpConvRefIdeal.τ).loc Cert.UpConvRefIdeal.main_arg0) = m ((c.tc : Thread Cert.UpConvRefIdeal.nD Cert.UpConvRefIdeal.τ).loc Cert.UpConvRefIdeal.main_arg0)
      ∧ r.2.mem ((c.tc : Thread Cert.UpConvRefIdeal.nD Cert.UpConvRefIdeal.τ).loc Cert.UpConvRefIdeal.main_arg1) = m ((c.tc : Thread Cert.UpConvRefIdeal.nD Cert.UpConvRefIdeal.τ).loc Cert.UpConvRefIdeal.main_arg1)
      ∧ r.2.mem ((c.tc : Thread Cert.UpConvRefIdeal.nD Cert.UpConvRefIdeal.τ).loc Cert.UpConvRefIdeal.main_arg2) = m ((c.tc : Thread Cert.UpConvRefIdeal.nD Cert.UpConvRefIdeal.τ).loc Cert.UpConvRefIdeal.main_arg2)
      ∧ r.2.mem ((c.tc : Thread Cert.UpConvRefIdeal.nD Cert.UpConvRefIdeal.τ).loc Cert.UpConvRefIdeal.main_arg3) = m ((c.tc : Thread Cert.UpConvRefIdeal.nD Cert.UpConvRefIdeal.τ).loc Cert.UpConvRefIdeal.main_arg3))
      ∧ r.2.sem = fun _ => 0)

def quiescent_BConv [hBConv : Cert.BConv.Facts] : Prop :=
  ∀ (m : (ℓ : Loc Cert.BConv.nD Cert.BConv.τ Cert.BConv.sig) → Buf (Elt Bits) ℓ) (g : Dev Cert.BConv.nD → PrngReg), Pre_BConv m →
    θ_run (Cert.BConv.defs (F := Bits)) (onTc (τ := Cert.BConv.τ) (Cert.BConv.main (F := Bits))) ⟨m, fun _ => 0, g⟩ (fun r => (∀ c : Dev Cert.BConv.nD,
      r.2.mem ((c.tc : Thread Cert.BConv.nD Cert.BConv.τ).loc Cert.BConv.main_arg0) = m ((c.tc : Thread Cert.BConv.nD Cert.BConv.τ).loc Cert.BConv.main_arg0)
      ∧ r.2.mem ((c.tc : Thread Cert.BConv.nD Cert.BConv.τ).loc Cert.BConv.main_arg1) = m ((c.tc : Thread Cert.BConv.nD Cert.BConv.τ).loc Cert.BConv.main_arg1))
      ∧ r.2.sem = fun _ => 0)

def quiescent_BConvIdeal [hBConvIdeal : Cert.BConvIdeal.Facts] : Prop :=
  ∀ (m : (ℓ : Loc Cert.BConvIdeal.nD Cert.BConvIdeal.τ Cert.BConvIdeal.sig) → Buf (Elt Ideal) ℓ) (g : Dev Cert.BConvIdeal.nD → PrngReg), Pre_BConvIdeal m →
    θ_run (Cert.BConvIdeal.defs (F := Ideal)) (onTc (τ := Cert.BConvIdeal.τ) (Cert.BConvIdeal.main (F := Ideal))) ⟨m, fun _ => 0, g⟩ (fun r => (∀ c : Dev Cert.BConvIdeal.nD,
      r.2.mem ((c.tc : Thread Cert.BConvIdeal.nD Cert.BConvIdeal.τ).loc Cert.BConvIdeal.main_arg0) = m ((c.tc : Thread Cert.BConvIdeal.nD Cert.BConvIdeal.τ).loc Cert.BConvIdeal.main_arg0)
      ∧ r.2.mem ((c.tc : Thread Cert.BConvIdeal.nD Cert.BConvIdeal.τ).loc Cert.BConvIdeal.main_arg1) = m ((c.tc : Thread Cert.BConvIdeal.nD Cert.BConvIdeal.τ).loc Cert.BConvIdeal.main_arg1))
      ∧ r.2.sem = fun _ => 0)

def quiescent_BConvRefIdeal [hBConvRefIdeal : Cert.BConvRefIdeal.Facts] : Prop :=
  ∀ (m : (ℓ : Loc Cert.BConvRefIdeal.nD Cert.BConvRefIdeal.τ Cert.BConvRefIdeal.sig) → Buf (Elt Ideal) ℓ) (g : Dev Cert.BConvRefIdeal.nD → PrngReg), Pre_BConvRefIdeal m →
    θ_run (Cert.BConvRefIdeal.defs (F := Ideal)) (onTc (τ := Cert.BConvRefIdeal.τ) (Cert.BConvRefIdeal.main (F := Ideal))) ⟨m, fun _ => 0, g⟩ (fun r => (∀ c : Dev Cert.BConvRefIdeal.nD,
      r.2.mem ((c.tc : Thread Cert.BConvRefIdeal.nD Cert.BConvRefIdeal.τ).loc Cert.BConvRefIdeal.main_arg0) = m ((c.tc : Thread Cert.BConvRefIdeal.nD Cert.BConvRefIdeal.τ).loc Cert.BConvRefIdeal.main_arg0)
      ∧ r.2.mem ((c.tc : Thread Cert.BConvRefIdeal.nD Cert.BConvRefIdeal.τ).loc Cert.BConvRefIdeal.main_arg1) = m ((c.tc : Thread Cert.BConvRefIdeal.nD Cert.BConvRefIdeal.τ).loc Cert.BConvRefIdeal.main_arg1))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def quiescent_ModulRefIdeal [hModulRefIdeal : Cert.ModulRefIdeal.Facts] : Prop :=
  ∀ (m : (ℓ : Loc Cert.ModulRefIdeal.nD Cert.ModulRefIdeal.τ Cert.ModulRefIdeal.sig) → Buf (Elt Ideal) ℓ) (g : Dev Cert.ModulRefIdeal.nD → PrngReg), Pre_ModulRefIdeal m →
    θ_run (Cert.ModulRefIdeal.defs (F := Ideal)) (onTc (τ := Cert.ModulRefIdeal.τ) (Cert.ModulRefIdeal.main (F := Ideal))) ⟨m, fun _ => 0, g⟩ (fun r => (∀ c : Dev Cert.ModulRefIdeal.nD,
      r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0)
      ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1)
      ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2))
      ∧ r.2.sem = fun _ => 0)

def quiescent_ModUp [hModUp : Cert.ModUp.Facts] : Prop :=
  ∀ (m : (ℓ : Loc Cert.ModUp.nD Cert.ModUp.τ Cert.ModUp.sig) → Buf (Elt Bits) ℓ) (g : Dev Cert.ModUp.nD → PrngReg), Pre_ModUp m →
    θ_run (Cert.ModUp.defs (F := Bits)) (onTc (τ := Cert.ModUp.τ) (Cert.ModUp.main (F := Bits))) ⟨m, fun _ => 0, g⟩ (fun r => (∀ c : Dev Cert.ModUp.nD,
      r.2.mem ((c.tc : Thread Cert.ModUp.nD Cert.ModUp.τ).loc Cert.ModUp.main_arg0) = m ((c.tc : Thread Cert.ModUp.nD Cert.ModUp.τ).loc Cert.ModUp.main_arg0)
      ∧ r.2.mem ((c.tc : Thread Cert.ModUp.nD Cert.ModUp.τ).loc Cert.ModUp.main_arg1) = m ((c.tc : Thread Cert.ModUp.nD Cert.ModUp.τ).loc Cert.ModUp.main_arg1)
      ∧ r.2.mem ((c.tc : Thread Cert.ModUp.nD Cert.ModUp.τ).loc Cert.ModUp.main_arg2) = m ((c.tc : Thread Cert.ModUp.nD Cert.ModUp.τ).loc Cert.ModUp.main_arg2)
      ∧ r.2.mem ((c.tc : Thread Cert.ModUp.nD Cert.ModUp.τ).loc Cert.ModUp.main_arg3) = m ((c.tc : Thread Cert.ModUp.nD Cert.ModUp.τ).loc Cert.ModUp.main_arg3)
      ∧ r.2.mem ((c.tc : Thread Cert.ModUp.nD Cert.ModUp.τ).loc Cert.ModUp.main_arg4) = m ((c.tc : Thread Cert.ModUp.nD Cert.ModUp.τ).loc Cert.ModUp.main_arg4))
      ∧ r.2.sem = fun _ => 0)

def quiescent_ModUpIdeal [hModUpIdeal : Cert.ModUpIdeal.Facts] : Prop :=
  ∀ (m : (ℓ : Loc Cert.ModUpIdeal.nD Cert.ModUpIdeal.τ Cert.ModUpIdeal.sig) → Buf (Elt Ideal) ℓ) (g : Dev Cert.ModUpIdeal.nD → PrngReg), Pre_ModUpIdeal m →
    θ_run (Cert.ModUpIdeal.defs (F := Ideal)) (onTc (τ := Cert.ModUpIdeal.τ) (Cert.ModUpIdeal.main (F := Ideal))) ⟨m, fun _ => 0, g⟩ (fun r => (∀ c : Dev Cert.ModUpIdeal.nD,
      r.2.mem ((c.tc : Thread Cert.ModUpIdeal.nD Cert.ModUpIdeal.τ).loc Cert.ModUpIdeal.main_arg0) = m ((c.tc : Thread Cert.ModUpIdeal.nD Cert.ModUpIdeal.τ).loc Cert.ModUpIdeal.main_arg0)
      ∧ r.2.mem ((c.tc : Thread Cert.ModUpIdeal.nD Cert.ModUpIdeal.τ).loc Cert.ModUpIdeal.main_arg1) = m ((c.tc : Thread Cert.ModUpIdeal.nD Cert.ModUpIdeal.τ).loc Cert.ModUpIdeal.main_arg1)
      ∧ r.2.mem ((c.tc : Thread Cert.ModUpIdeal.nD Cert.ModUpIdeal.τ).loc Cert.ModUpIdeal.main_arg2) = m ((c.tc : Thread Cert.ModUpIdeal.nD Cert.ModUpIdeal.τ).loc Cert.ModUpIdeal.main_arg2)
      ∧ r.2.mem ((c.tc : Thread Cert.ModUpIdeal.nD Cert.ModUpIdeal.τ).loc Cert.ModUpIdeal.main_arg3) = m ((c.tc : Thread Cert.ModUpIdeal.nD Cert.ModUpIdeal.τ).loc Cert.ModUpIdeal.main_arg3)
      ∧ r.2.mem ((c.tc : Thread Cert.ModUpIdeal.nD Cert.ModUpIdeal.τ).loc Cert.ModUpIdeal.main_arg4) = m ((c.tc : Thread Cert.ModUpIdeal.nD Cert.ModUpIdeal.τ).loc Cert.ModUpIdeal.main_arg4))
      ∧ r.2.sem = fun _ => 0)

def quiescent_ModUpRefIdeal [hModUpRefIdeal : Cert.ModUpRefIdeal.Facts] : Prop :=
  ∀ (m : (ℓ : Loc Cert.ModUpRefIdeal.nD Cert.ModUpRefIdeal.τ Cert.ModUpRefIdeal.sig) → Buf (Elt Ideal) ℓ) (g : Dev Cert.ModUpRefIdeal.nD → PrngReg), Pre_ModUpRefIdeal m →
    θ_run (Cert.ModUpRefIdeal.defs (F := Ideal)) (onTc (τ := Cert.ModUpRefIdeal.τ) (Cert.ModUpRefIdeal.main (F := Ideal))) ⟨m, fun _ => 0, g⟩ (fun r => (∀ c : Dev Cert.ModUpRefIdeal.nD,
      r.2.mem ((c.tc : Thread Cert.ModUpRefIdeal.nD Cert.ModUpRefIdeal.τ).loc Cert.ModUpRefIdeal.main_arg0) = m ((c.tc : Thread Cert.ModUpRefIdeal.nD Cert.ModUpRefIdeal.τ).loc Cert.ModUpRefIdeal.main_arg0)
      ∧ r.2.mem ((c.tc : Thread Cert.ModUpRefIdeal.nD Cert.ModUpRefIdeal.τ).loc Cert.ModUpRefIdeal.main_arg1) = m ((c.tc : Thread Cert.ModUpRefIdeal.nD Cert.ModUpRefIdeal.τ).loc Cert.ModUpRefIdeal.main_arg1)
      ∧ r.2.mem ((c.tc : Thread Cert.ModUpRefIdeal.nD Cert.ModUpRefIdeal.τ).loc Cert.ModUpRefIdeal.main_arg2) = m ((c.tc : Thread Cert.ModUpRefIdeal.nD Cert.ModUpRefIdeal.τ).loc Cert.ModUpRefIdeal.main_arg2)
      ∧ r.2.mem ((c.tc : Thread Cert.ModUpRefIdeal.nD Cert.ModUpRefIdeal.τ).loc Cert.ModUpRefIdeal.main_arg3) = m ((c.tc : Thread Cert.ModUpRefIdeal.nD Cert.ModUpRefIdeal.τ).loc Cert.ModUpRefIdeal.main_arg3)
      ∧ r.2.mem ((c.tc : Thread Cert.ModUpRefIdeal.nD Cert.ModUpRefIdeal.τ).loc Cert.ModUpRefIdeal.main_arg4) = m ((c.tc : Thread Cert.ModUpRefIdeal.nD Cert.ModUpRefIdeal.τ).loc Cert.ModUpRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FDownT_FDownTIdeal : Prop :=
  True

def algebraic_FDownTIdeal_FDownTRefIdeal [hFDownTIdeal : Cert.FDownTIdeal.Facts] [hFDownTRefIdeal : Cert.FDownTRefIdeal.Facts] : Prop :=
  ∀ (m : (ℓ : Loc Cert.FDownTIdeal.nD Cert.FDownTIdeal.τ Cert.FDownTIdeal.sig) → Buf (Elt Ideal) ℓ) (g : Dev Cert.FDownTIdeal.nD → PrngReg)
    (m' : (ℓ : Loc Cert.FDownTRefIdeal.nD Cert.FDownTRefIdeal.τ Cert.FDownTRefIdeal.sig) → Buf (Elt Ideal) ℓ) (g' : Dev Cert.FDownTRefIdeal.nD → PrngReg), Pre_FDownTIdeal m →
    (∀ c : Dev Cert.FDownTIdeal.nD,
      m' ((c.tc : Thread Cert.FDownTRefIdeal.nD Cert.FDownTRefIdeal.τ).loc Cert.FDownTRefIdeal.main_arg0) = m ((c.tc : Thread Cert.FDownTIdeal.nD Cert.FDownTIdeal.τ).loc Cert.FDownTIdeal.main_arg0)
      ∧ m' ((c.tc : Thread Cert.FDownTRefIdeal.nD Cert.FDownTRefIdeal.τ).loc Cert.FDownTRefIdeal.main_arg1) = m ((c.tc : Thread Cert.FDownTIdeal.nD Cert.FDownTIdeal.τ).loc Cert.FDownTIdeal.main_arg1)
      ∧ m' ((c.tc : Thread Cert.FDownTRefIdeal.nD Cert.FDownTRefIdeal.τ).loc Cert.FDownTRefIdeal.main_arg2) = m ((c.tc : Thread Cert.FDownTIdeal.nD Cert.FDownTIdeal.τ).loc Cert.FDownTIdeal.main_arg2)) →
    ∃ (v0 : (c : Dev Cert.FDownTIdeal.nD) → Buf (Elt Ideal) ((c.tc : Thread Cert.FDownTIdeal.nD Cert.FDownTIdeal.τ).loc Cert.FDownTIdeal.main_v1)),
      θ_run (Cert.FDownTIdeal.defs (F := Ideal)) (onTc (τ := Cert.FDownTIdeal.τ) (Cert.FDownTIdeal.main (F := Ideal))) ⟨m, fun _ => 0, g⟩ (fun r => ∀ c : Dev Cert.FDownTIdeal.nD,
          r.2.mem ((c.tc : Thread Cert.FDownTIdeal.nD Cert.FDownTIdeal.τ).loc Cert.FDownTIdeal.main_v1) = v0 c
          ∧ r.2.mem ((c.tc : Thread Cert.FDownTIdeal.nD Cert.FDownTIdeal.τ).loc Cert.FDownTIdeal.main_arg0) = m ((c.tc : Thread Cert.FDownTIdeal.nD Cert.FDownTIdeal.τ).loc Cert.FDownTIdeal.main_arg0)
          ∧ r.2.mem ((c.tc : Thread Cert.FDownTIdeal.nD Cert.FDownTIdeal.τ).loc Cert.FDownTIdeal.main_arg1) = m ((c.tc : Thread Cert.FDownTIdeal.nD Cert.FDownTIdeal.τ).loc Cert.FDownTIdeal.main_arg1)
          ∧ r.2.mem ((c.tc : Thread Cert.FDownTIdeal.nD Cert.FDownTIdeal.τ).loc Cert.FDownTIdeal.main_arg2) = m ((c.tc : Thread Cert.FDownTIdeal.nD Cert.FDownTIdeal.τ).loc Cert.FDownTIdeal.main_arg2))
      ∧ θ_run (Cert.FDownTRefIdeal.defs (F := Ideal)) (onTc (τ := Cert.FDownTRefIdeal.τ) (Cert.FDownTRefIdeal.main (F := Ideal))) ⟨m', fun _ => 0, g'⟩ (fun r => ∀ c : Dev Cert.FDownTRefIdeal.nD,
          r.2.mem ((c.tc : Thread Cert.FDownTRefIdeal.nD Cert.FDownTRefIdeal.τ).loc Cert.FDownTRefIdeal.main_v16) = v0 c
          ∧ r.2.mem ((c.tc : Thread Cert.FDownTRefIdeal.nD Cert.FDownTRefIdeal.τ).loc Cert.FDownTRefIdeal.main_arg0) = m' ((c.tc : Thread Cert.FDownTRefIdeal.nD Cert.FDownTRefIdeal.τ).loc Cert.FDownTRefIdeal.main_arg0)
          ∧ r.2.mem ((c.tc : Thread Cert.FDownTRefIdeal.nD Cert.FDownTRefIdeal.τ).loc Cert.FDownTRefIdeal.main_arg1) = m' ((c.tc : Thread Cert.FDownTRefIdeal.nD Cert.FDownTRefIdeal.τ).loc Cert.FDownTRefIdeal.main_arg1)
          ∧ r.2.mem ((c.tc : Thread Cert.FDownTRefIdeal.nD Cert.FDownTRefIdeal.τ).loc Cert.FDownTRefIdeal.main_arg2) = m' ((c.tc : Thread Cert.FDownTRefIdeal.nD Cert.FDownTRefIdeal.τ).loc Cert.FDownTRefIdeal.main_arg2))

def preserves_FDownG_FDownGIdeal : Prop :=
  True

def algebraic_FDownGIdeal_FDownGRefIdeal [hFDownGIdeal : Cert.FDownGIdeal.Facts] [hFDownGRefIdeal : Cert.FDownGRefIdeal.Facts] : Prop :=
  ∀ (m : (ℓ : Loc Cert.FDownGIdeal.nD Cert.FDownGIdeal.τ Cert.FDownGIdeal.sig) → Buf (Elt Ideal) ℓ) (g : Dev Cert.FDownGIdeal.nD → PrngReg)
    (m' : (ℓ : Loc Cert.FDownGRefIdeal.nD Cert.FDownGRefIdeal.τ Cert.FDownGRefIdeal.sig) → Buf (Elt Ideal) ℓ) (g' : Dev Cert.FDownGRefIdeal.nD → PrngReg), Pre_FDownGIdeal m →
    (∀ c : Dev Cert.FDownGIdeal.nD,
      m' ((c.tc : Thread Cert.FDownGRefIdeal.nD Cert.FDownGRefIdeal.τ).loc Cert.FDownGRefIdeal.main_arg0) = m ((c.tc : Thread Cert.FDownGIdeal.nD Cert.FDownGIdeal.τ).loc Cert.FDownGIdeal.main_arg0)
      ∧ m' ((c.tc : Thread Cert.FDownGRefIdeal.nD Cert.FDownGRefIdeal.τ).loc Cert.FDownGRefIdeal.main_arg1) = m ((c.tc : Thread Cert.FDownGIdeal.nD Cert.FDownGIdeal.τ).loc Cert.FDownGIdeal.main_arg1)) →
    ∃ (v0 : (c : Dev Cert.FDownGIdeal.nD) → Buf (Elt Ideal) ((c.tc : Thread Cert.FDownGIdeal.nD Cert.FDownGIdeal.τ).loc Cert.FDownGIdeal.main_v0)),
      θ_run (Cert.FDownGIdeal.defs (F := Ideal)) (onTc (τ := Cert.FDownGIdeal.τ) (Cert.FDownGIdeal.main (F := Ideal))) ⟨m, fun _ => 0, g⟩ (fun r => ∀ c : Dev Cert.FDownGIdeal.nD,
          r.2.mem ((c.tc : Thread Cert.FDownGIdeal.nD Cert.FDownGIdeal.τ).loc Cert.FDownGIdeal.main_v0) = v0 c
          ∧ r.2.mem ((c.tc : Thread Cert.FDownGIdeal.nD Cert.FDownGIdeal.τ).loc Cert.FDownGIdeal.main_arg0) = m ((c.tc : Thread Cert.FDownGIdeal.nD Cert.FDownGIdeal.τ).loc Cert.FDownGIdeal.main_arg0)
          ∧ r.2.mem ((c.tc : Thread Cert.FDownGIdeal.nD Cert.FDownGIdeal.τ).loc Cert.FDownGIdeal.main_arg1) = m ((c.tc : Thread Cert.FDownGIdeal.nD Cert.FDownGIdeal.τ).loc Cert.FDownGIdeal.main_arg1))
      ∧ θ_run (Cert.FDownGRefIdeal.defs (F := Ideal)) (onTc (τ := Cert.FDownGRefIdeal.τ) (Cert.FDownGRefIdeal.main (F := Ideal))) ⟨m', fun _ => 0, g'⟩ (fun r => ∀ c : Dev Cert.FDownGRefIdeal.nD,
          r.2.mem ((c.tc : Thread Cert.FDownGRefIdeal.nD Cert.FDownGRefIdeal.τ).loc Cert.FDownGRefIdeal.main_v6) = v0 c
          ∧ r.2.mem ((c.tc : Thread Cert.FDownGRefIdeal.nD Cert.FDownGRefIdeal.τ).loc Cert.FDownGRefIdeal.main_arg0) = m' ((c.tc : Thread Cert.FDownGRefIdeal.nD Cert.FDownGRefIdeal.τ).loc Cert.FDownGRefIdeal.main_arg0)
          ∧ r.2.mem ((c.tc : Thread Cert.FDownGRefIdeal.nD Cert.FDownGRefIdeal.τ).loc Cert.FDownGRefIdeal.main_arg1) = m' ((c.tc : Thread Cert.FDownGRefIdeal.nD Cert.FDownGRefIdeal.τ).loc Cert.FDownGRefIdeal.main_arg1))

def preserves_FUpT_FUpTIdeal : Prop :=
  True

def algebraic_FUpTIdeal_FUpTRefIdeal [hFUpTIdeal : Cert.FUpTIdeal.Facts] [hFUpTRefIdeal : Cert.FUpTRefIdeal.Facts] : Prop :=
  ∀ (m : (ℓ : Loc Cert.FUpTIdeal.nD Cert.FUpTIdeal.τ Cert.FUpTIdeal.sig) → Buf (Elt Ideal) ℓ) (g : Dev Cert.FUpTIdeal.nD → PrngReg)
    (m' : (ℓ : Loc Cert.FUpTRefIdeal.nD Cert.FUpTRefIdeal.τ Cert.FUpTRefIdeal.sig) → Buf (Elt Ideal) ℓ) (g' : Dev Cert.FUpTRefIdeal.nD → PrngReg), Pre_FUpTIdeal m →
    (∀ c : Dev Cert.FUpTIdeal.nD,
      m' ((c.tc : Thread Cert.FUpTRefIdeal.nD Cert.FUpTRefIdeal.τ).loc Cert.FUpTRefIdeal.main_arg0) = m ((c.tc : Thread Cert.FUpTIdeal.nD Cert.FUpTIdeal.τ).loc Cert.FUpTIdeal.main_arg0)
      ∧ m' ((c.tc : Thread Cert.FUpTRefIdeal.nD Cert.FUpTRefIdeal.τ).loc Cert.FUpTRefIdeal.main_arg1) = m ((c.tc : Thread Cert.FUpTIdeal.nD Cert.FUpTIdeal.τ).loc Cert.FUpTIdeal.main_arg1)) →
    ∃ (v0 : (c : Dev Cert.FUpTIdeal.nD) → Buf (Elt Ideal) ((c.tc : Thread Cert.FUpTIdeal.nD Cert.FUpTIdeal.τ).loc Cert.FUpTIdeal.main_v0)),
      θ_run (Cert.FUpTIdeal.defs (F := Ideal)) (onTc (τ := Cert.FUpTIdeal.τ) (Cert.FUpTIdeal.main (F := Ideal))) ⟨m, fun _ => 0, g⟩ (fun r => ∀ c : Dev Cert.FUpTIdeal.nD,
          r.2.mem ((c.tc : Thread Cert.FUpTIdeal.nD Cert.FUpTIdeal.τ).loc Cert.FUpTIdeal.main_v0) = v0 c
          ∧ r.2.mem ((c.tc : Thread Cert.FUpTIdeal.nD Cert.FUpTIdeal.τ).loc Cert.FUpTIdeal.main_arg0) = m ((c.tc : Thread Cert.FUpTIdeal.nD Cert.FUpTIdeal.τ).loc Cert.FUpTIdeal.main_arg0)
          ∧ r.2.mem ((c.tc : Thread Cert.FUpTIdeal.nD Cert.FUpTIdeal.τ).loc Cert.FUpTIdeal.main_arg1) = m ((c.tc : Thread Cert.FUpTIdeal.nD Cert.FUpTIdeal.τ).loc Cert.FUpTIdeal.main_arg1))
      ∧ θ_run (Cert.FUpTRefIdeal.defs (F := Ideal)) (onTc (τ := Cert.FUpTRefIdeal.τ) (Cert.FUpTRefIdeal.main (F := Ideal))) ⟨m', fun _ => 0, g'⟩ (fun r => ∀ c : Dev Cert.FUpTRefIdeal.nD,
          r.2.mem ((c.tc : Thread Cert.FUpTRefIdeal.nD Cert.FUpTRefIdeal.τ).loc Cert.FUpTRefIdeal.main_v4) = v0 c
          ∧ r.2.mem ((c.tc : Thread Cert.FUpTRefIdeal.nD Cert.FUpTRefIdeal.τ).loc Cert.FUpTRefIdeal.main_arg0) = m' ((c.tc : Thread Cert.FUpTRefIdeal.nD Cert.FUpTRefIdeal.τ).loc Cert.FUpTRefIdeal.main_arg0)
          ∧ r.2.mem ((c.tc : Thread Cert.FUpTRefIdeal.nD Cert.FUpTRefIdeal.τ).loc Cert.FUpTRefIdeal.main_arg1) = m' ((c.tc : Thread Cert.FUpTRefIdeal.nD Cert.FUpTRefIdeal.τ).loc Cert.FUpTRefIdeal.main_arg1))

def preserves_FUpG_FUpGIdeal : Prop :=
  True

def algebraic_FUpGIdeal_FUpGRefIdeal [hFUpGIdeal : Cert.FUpGIdeal.Facts] [hFUpGRefIdeal : Cert.FUpGRefIdeal.Facts] : Prop :=
  ∀ (m : (ℓ : Loc Cert.FUpGIdeal.nD Cert.FUpGIdeal.τ Cert.FUpGIdeal.sig) → Buf (Elt Ideal) ℓ) (g : Dev Cert.FUpGIdeal.nD → PrngReg)
    (m' : (ℓ : Loc Cert.FUpGRefIdeal.nD Cert.FUpGRefIdeal.τ Cert.FUpGRefIdeal.sig) → Buf (Elt Ideal) ℓ) (g' : Dev Cert.FUpGRefIdeal.nD → PrngReg), Pre_FUpGIdeal m →
    (∀ c : Dev Cert.FUpGIdeal.nD,
      m' ((c.tc : Thread Cert.FUpGRefIdeal.nD Cert.FUpGRefIdeal.τ).loc Cert.FUpGRefIdeal.main_arg0) = m ((c.tc : Thread Cert.FUpGIdeal.nD Cert.FUpGIdeal.τ).loc Cert.FUpGIdeal.main_arg0)
      ∧ m' ((c.tc : Thread Cert.FUpGRefIdeal.nD Cert.FUpGRefIdeal.τ).loc Cert.FUpGRefIdeal.main_arg1) = m ((c.tc : Thread Cert.FUpGIdeal.nD Cert.FUpGIdeal.τ).loc Cert.FUpGIdeal.main_arg1)) →
    ∃ (v0 : (c : Dev Cert.FUpGIdeal.nD) → Buf (Elt Ideal) ((c.tc : Thread Cert.FUpGIdeal.nD Cert.FUpGIdeal.τ).loc Cert.FUpGIdeal.main_v0)),
      θ_run (Cert.FUpGIdeal.defs (F := Ideal)) (onTc (τ := Cert.FUpGIdeal.τ) (Cert.FUpGIdeal.main (F := Ideal))) ⟨m, fun _ => 0, g⟩ (fun r => ∀ c : Dev Cert.FUpGIdeal.nD,
          r.2.mem ((c.tc : Thread Cert.FUpGIdeal.nD Cert.FUpGIdeal.τ).loc Cert.FUpGIdeal.main_v0) = v0 c
          ∧ r.2.mem ((c.tc : Thread Cert.FUpGIdeal.nD Cert.FUpGIdeal.τ).loc Cert.FUpGIdeal.main_arg0) = m ((c.tc : Thread Cert.FUpGIdeal.nD Cert.FUpGIdeal.τ).loc Cert.FUpGIdeal.main_arg0)
          ∧ r.2.mem ((c.tc : Thread Cert.FUpGIdeal.nD Cert.FUpGIdeal.τ).loc Cert.FUpGIdeal.main_arg1) = m ((c.tc : Thread Cert.FUpGIdeal.nD Cert.FUpGIdeal.τ).loc Cert.FUpGIdeal.main_arg1))
      ∧ θ_run (Cert.FUpGRefIdeal.defs (F := Ideal)) (onTc (τ := Cert.FUpGRefIdeal.τ) (Cert.FUpGRefIdeal.main (F := Ideal))) ⟨m', fun _ => 0, g'⟩ (fun r => ∀ c : Dev Cert.FUpGRefIdeal.nD,
          r.2.mem ((c.tc : Thread Cert.FUpGRefIdeal.nD Cert.FUpGRefIdeal.τ).loc Cert.FUpGRefIdeal.main_v8) = v0 c
          ∧ r.2.mem ((c.tc : Thread Cert.FUpGRefIdeal.nD Cert.FUpGRefIdeal.τ).loc Cert.FUpGRefIdeal.main_arg0) = m' ((c.tc : Thread Cert.FUpGRefIdeal.nD Cert.FUpGRefIdeal.τ).loc Cert.FUpGRefIdeal.main_arg0)
          ∧ r.2.mem ((c.tc : Thread Cert.FUpGRefIdeal.nD Cert.FUpGRefIdeal.τ).loc Cert.FUpGRefIdeal.main_arg1) = m' ((c.tc : Thread Cert.FUpGRefIdeal.nD Cert.FUpGRefIdeal.τ).loc Cert.FUpGRefIdeal.main_arg1))

def preserves_BOutT_BOutTIdeal : Prop :=
  True

def algebraic_BOutTIdeal_BOutTRefIdeal [hBOutTIdeal : Cert.BOutTIdeal.Facts] [hBOutTRefIdeal : Cert.BOutTRefIdeal.Facts] : Prop :=
  ∀ (m : (ℓ : Loc Cert.BOutTIdeal.nD Cert.BOutTIdeal.τ Cert.BOutTIdeal.sig) → Buf (Elt Ideal) ℓ) (g : Dev Cert.BOutTIdeal.nD → PrngReg)
    (m' : (ℓ : Loc Cert.BOutTRefIdeal.nD Cert.BOutTRefIdeal.τ Cert.BOutTRefIdeal.sig) → Buf (Elt Ideal) ℓ) (g' : Dev Cert.BOutTRefIdeal.nD → PrngReg), Pre_BOutTIdeal m →
    (∀ c : Dev Cert.BOutTIdeal.nD,
      m' ((c.tc : Thread Cert.BOutTRefIdeal.nD Cert.BOutTRefIdeal.τ).loc Cert.BOutTRefIdeal.main_arg0) = m ((c.tc : Thread Cert.BOutTIdeal.nD Cert.BOutTIdeal.τ).loc Cert.BOutTIdeal.main_arg0)
      ∧ m' ((c.tc : Thread Cert.BOutTRefIdeal.nD Cert.BOutTRefIdeal.τ).loc Cert.BOutTRefIdeal.main_arg1) = m ((c.tc : Thread Cert.BOutTIdeal.nD Cert.BOutTIdeal.τ).loc Cert.BOutTIdeal.main_arg1)) →
    ∃ (v0 : (c : Dev Cert.BOutTIdeal.nD) → Buf (Elt Ideal) ((c.tc : Thread Cert.BOutTIdeal.nD Cert.BOutTIdeal.τ).loc Cert.BOutTIdeal.main_v1)),
      θ_run (Cert.BOutTIdeal.defs (F := Ideal)) (onTc (τ := Cert.BOutTIdeal.τ) (Cert.BOutTIdeal.main (F := Ideal))) ⟨m, fun _ => 0, g⟩ (fun r => ∀ c : Dev Cert.BOutTIdeal.nD,
          r.2.mem ((c.tc : Thread Cert.BOutTIdeal.nD Cert.BOutTIdeal.τ).loc Cert.BOutTIdeal.main_v1) = v0 c
          ∧ r.2.mem ((c.tc : Thread Cert.BOutTIdeal.nD Cert.BOutTIdeal.τ).loc Cert.BOutTIdeal.main_arg0) = m ((c.tc : Thread Cert.BOutTIdeal.nD Cert.BOutTIdeal.τ).loc Cert.BOutTIdeal.main_arg0)
          ∧ r.2.mem ((c.tc : Thread Cert.BOutTIdeal.nD Cert.BOutTIdeal.τ).loc Cert.BOutTIdeal.main_arg1) = m ((c.tc : Thread Cert.BOutTIdeal.nD Cert.BOutTIdeal.τ).loc Cert.BOutTIdeal.main_arg1))
      ∧ θ_run (Cert.BOutTRefIdeal.defs (F := Ideal)) (onTc (τ := Cert.BOutTRefIdeal.τ) (Cert.BOutTRefIdeal.main (F := Ideal))) ⟨m', fun _ => 0, g'⟩ (fun r => ∀ c : Dev Cert.BOutTRefIdeal.nD,
          r.2.mem ((c.tc : Thread Cert.BOutTRefIdeal.nD Cert.BOutTRefIdeal.τ).loc Cert.BOutTRefIdeal.main_v5) = v0 c
          ∧ r.2.mem ((c.tc : Thread Cert.BOutTRefIdeal.nD Cert.BOutTRefIdeal.τ).loc Cert.BOutTRefIdeal.main_arg0) = m' ((c.tc : Thread Cert.BOutTRefIdeal.nD Cert.BOutTRefIdeal.τ).loc Cert.BOutTRefIdeal.main_arg0)
          ∧ r.2.mem ((c.tc : Thread Cert.BOutTRefIdeal.nD Cert.BOutTRefIdeal.τ).loc Cert.BOutTRefIdeal.main_arg1) = m' ((c.tc : Thread Cert.BOutTRefIdeal.nD Cert.BOutTRefIdeal.τ).loc Cert.BOutTRefIdeal.main_arg1))

def preserves_BOutG_BOutGIdeal : Prop :=
  True

def algebraic_BOutGIdeal_BOutGRefIdeal [hBOutGIdeal : Cert.BOutGIdeal.Facts] [hBOutGRefIdeal : Cert.BOutGRefIdeal.Facts] : Prop :=
  ∀ (m : (ℓ : Loc Cert.BOutGIdeal.nD Cert.BOutGIdeal.τ Cert.BOutGIdeal.sig) → Buf (Elt Ideal) ℓ) (g : Dev Cert.BOutGIdeal.nD → PrngReg)
    (m' : (ℓ : Loc Cert.BOutGRefIdeal.nD Cert.BOutGRefIdeal.τ Cert.BOutGRefIdeal.sig) → Buf (Elt Ideal) ℓ) (g' : Dev Cert.BOutGRefIdeal.nD → PrngReg), Pre_BOutGIdeal m →
    (∀ c : Dev Cert.BOutGIdeal.nD,
      m' ((c.tc : Thread Cert.BOutGRefIdeal.nD Cert.BOutGRefIdeal.τ).loc Cert.BOutGRefIdeal.main_arg0) = m ((c.tc : Thread Cert.BOutGIdeal.nD Cert.BOutGIdeal.τ).loc Cert.BOutGIdeal.main_arg0)
      ∧ m' ((c.tc : Thread Cert.BOutGRefIdeal.nD Cert.BOutGRefIdeal.τ).loc Cert.BOutGRefIdeal.main_arg1) = m ((c.tc : Thread Cert.BOutGIdeal.nD Cert.BOutGIdeal.τ).loc Cert.BOutGIdeal.main_arg1)) →
    ∃ (v0 : (c : Dev Cert.BOutGIdeal.nD) → Buf (Elt Ideal) ((c.tc : Thread Cert.BOutGIdeal.nD Cert.BOutGIdeal.τ).loc Cert.BOutGIdeal.main_v0)),
      θ_run (Cert.BOutGIdeal.defs (F := Ideal)) (onTc (τ := Cert.BOutGIdeal.τ) (Cert.BOutGIdeal.main (F := Ideal))) ⟨m, fun _ => 0, g⟩ (fun r => ∀ c : Dev Cert.BOutGIdeal.nD,
          r.2.mem ((c.tc : Thread Cert.BOutGIdeal.nD Cert.BOutGIdeal.τ).loc Cert.BOutGIdeal.main_v0) = v0 c
          ∧ r.2.mem ((c.tc : Thread Cert.BOutGIdeal.nD Cert.BOutGIdeal.τ).loc Cert.BOutGIdeal.main_arg0) = m ((c.tc : Thread Cert.BOutGIdeal.nD Cert.BOutGIdeal.τ).loc Cert.BOutGIdeal.main_arg0)
          ∧ r.2.mem ((c.tc : Thread Cert.BOutGIdeal.nD Cert.BOutGIdeal.τ).loc Cert.BOutGIdeal.main_arg1) = m ((c.tc : Thread Cert.BOutGIdeal.nD Cert.BOutGIdeal.τ).loc Cert.BOutGIdeal.main_arg1))
      ∧ θ_run (Cert.BOutGRefIdeal.defs (F := Ideal)) (onTc (τ := Cert.BOutGRefIdeal.τ) (Cert.BOutGRefIdeal.main (F := Ideal))) ⟨m', fun _ => 0, g'⟩ (fun r => ∀ c : Dev Cert.BOutGRefIdeal.nD,
          r.2.mem ((c.tc : Thread Cert.BOutGRefIdeal.nD Cert.BOutGRefIdeal.τ).loc Cert.BOutGRefIdeal.main_v6) = v0 c
          ∧ r.2.mem ((c.tc : Thread Cert.BOutGRefIdeal.nD Cert.BOutGRefIdeal.τ).loc Cert.BOutGRefIdeal.main_arg0) = m' ((c.tc : Thread Cert.BOutGRefIdeal.nD Cert.BOutGRefIdeal.τ).loc Cert.BOutGRefIdeal.main_arg0)
          ∧ r.2.mem ((c.tc : Thread Cert.BOutGRefIdeal.nD Cert.BOutGRefIdeal.τ).loc Cert.BOutGRefIdeal.main_arg1) = m' ((c.tc : Thread Cert.BOutGRefIdeal.nD Cert.BOutGRefIdeal.τ).loc Cert.BOutGRefIdeal.main_arg1))

def preserves_BInT_BInTIdeal : Prop :=
  True

def algebraic_BInTIdeal_BInTRefIdeal [hBInTIdeal : Cert.BInTIdeal.Facts] [hBInTRefIdeal : Cert.BInTRefIdeal.Facts] : Prop :=
  ∀ (m : (ℓ : Loc Cert.BInTIdeal.nD Cert.BInTIdeal.τ Cert.BInTIdeal.sig) → Buf (Elt Ideal) ℓ) (g : Dev Cert.BInTIdeal.nD → PrngReg)
    (m' : (ℓ : Loc Cert.BInTRefIdeal.nD Cert.BInTRefIdeal.τ Cert.BInTRefIdeal.sig) → Buf (Elt Ideal) ℓ) (g' : Dev Cert.BInTRefIdeal.nD → PrngReg), Pre_BInTIdeal m →
    (∀ c : Dev Cert.BInTIdeal.nD,
      m' ((c.tc : Thread Cert.BInTRefIdeal.nD Cert.BInTRefIdeal.τ).loc Cert.BInTRefIdeal.main_arg0) = m ((c.tc : Thread Cert.BInTIdeal.nD Cert.BInTIdeal.τ).loc Cert.BInTIdeal.main_arg0)
      ∧ m' ((c.tc : Thread Cert.BInTRefIdeal.nD Cert.BInTRefIdeal.τ).loc Cert.BInTRefIdeal.main_arg1) = m ((c.tc : Thread Cert.BInTIdeal.nD Cert.BInTIdeal.τ).loc Cert.BInTIdeal.main_arg1)) →
    ∃ (v0 : (c : Dev Cert.BInTIdeal.nD) → Buf (Elt Ideal) ((c.tc : Thread Cert.BInTIdeal.nD Cert.BInTIdeal.τ).loc Cert.BInTIdeal.main_v0)),
      θ_run (Cert.BInTIdeal.defs (F := Ideal)) (onTc (τ := Cert.BInTIdeal.τ) (Cert.BInTIdeal.main (F := Ideal))) ⟨m, fun _ => 0, g⟩ (fun r => ∀ c : Dev Cert.BInTIdeal.nD,
          r.2.mem ((c.tc : Thread Cert.BInTIdeal.nD Cert.BInTIdeal.τ).loc Cert.BInTIdeal.main_v0) = v0 c
          ∧ r.2.mem ((c.tc : Thread Cert.BInTIdeal.nD Cert.BInTIdeal.τ).loc Cert.BInTIdeal.main_arg0) = m ((c.tc : Thread Cert.BInTIdeal.nD Cert.BInTIdeal.τ).loc Cert.BInTIdeal.main_arg0)
          ∧ r.2.mem ((c.tc : Thread Cert.BInTIdeal.nD Cert.BInTIdeal.τ).loc Cert.BInTIdeal.main_arg1) = m ((c.tc : Thread Cert.BInTIdeal.nD Cert.BInTIdeal.τ).loc Cert.BInTIdeal.main_arg1))
      ∧ θ_run (Cert.BInTRefIdeal.defs (F := Ideal)) (onTc (τ := Cert.BInTRefIdeal.τ) (Cert.BInTRefIdeal.main (F := Ideal))) ⟨m', fun _ => 0, g'⟩ (fun r => ∀ c : Dev Cert.BInTRefIdeal.nD,
          r.2.mem ((c.tc : Thread Cert.BInTRefIdeal.nD Cert.BInTRefIdeal.τ).loc Cert.BInTRefIdeal.main_v4) = v0 c
          ∧ r.2.mem ((c.tc : Thread Cert.BInTRefIdeal.nD Cert.BInTRefIdeal.τ).loc Cert.BInTRefIdeal.main_arg0) = m' ((c.tc : Thread Cert.BInTRefIdeal.nD Cert.BInTRefIdeal.τ).loc Cert.BInTRefIdeal.main_arg0)
          ∧ r.2.mem ((c.tc : Thread Cert.BInTRefIdeal.nD Cert.BInTRefIdeal.τ).loc Cert.BInTRefIdeal.main_arg1) = m' ((c.tc : Thread Cert.BInTRefIdeal.nD Cert.BInTRefIdeal.τ).loc Cert.BInTRefIdeal.main_arg1))

def preserves_BInG_BInGIdeal : Prop :=
  True

def algebraic_BInGIdeal_BInGRefIdeal [hBInGIdeal : Cert.BInGIdeal.Facts] [hBInGRefIdeal : Cert.BInGRefIdeal.Facts] : Prop :=
  ∀ (m : (ℓ : Loc Cert.BInGIdeal.nD Cert.BInGIdeal.τ Cert.BInGIdeal.sig) → Buf (Elt Ideal) ℓ) (g : Dev Cert.BInGIdeal.nD → PrngReg)
    (m' : (ℓ : Loc Cert.BInGRefIdeal.nD Cert.BInGRefIdeal.τ Cert.BInGRefIdeal.sig) → Buf (Elt Ideal) ℓ) (g' : Dev Cert.BInGRefIdeal.nD → PrngReg), Pre_BInGIdeal m →
    (∀ c : Dev Cert.BInGIdeal.nD,
      m' ((c.tc : Thread Cert.BInGRefIdeal.nD Cert.BInGRefIdeal.τ).loc Cert.BInGRefIdeal.main_arg0) = m ((c.tc : Thread Cert.BInGIdeal.nD Cert.BInGIdeal.τ).loc Cert.BInGIdeal.main_arg0)
      ∧ m' ((c.tc : Thread Cert.BInGRefIdeal.nD Cert.BInGRefIdeal.τ).loc Cert.BInGRefIdeal.main_arg1) = m ((c.tc : Thread Cert.BInGIdeal.nD Cert.BInGIdeal.τ).loc Cert.BInGIdeal.main_arg1)) →
    ∃ (v0 : (c : Dev Cert.BInGIdeal.nD) → Buf (Elt Ideal) ((c.tc : Thread Cert.BInGIdeal.nD Cert.BInGIdeal.τ).loc Cert.BInGIdeal.main_v0)),
      θ_run (Cert.BInGIdeal.defs (F := Ideal)) (onTc (τ := Cert.BInGIdeal.τ) (Cert.BInGIdeal.main (F := Ideal))) ⟨m, fun _ => 0, g⟩ (fun r => ∀ c : Dev Cert.BInGIdeal.nD,
          r.2.mem ((c.tc : Thread Cert.BInGIdeal.nD Cert.BInGIdeal.τ).loc Cert.BInGIdeal.main_v0) = v0 c
          ∧ r.2.mem ((c.tc : Thread Cert.BInGIdeal.nD Cert.BInGIdeal.τ).loc Cert.BInGIdeal.main_arg0) = m ((c.tc : Thread Cert.BInGIdeal.nD Cert.BInGIdeal.τ).loc Cert.BInGIdeal.main_arg0)
          ∧ r.2.mem ((c.tc : Thread Cert.BInGIdeal.nD Cert.BInGIdeal.τ).loc Cert.BInGIdeal.main_arg1) = m ((c.tc : Thread Cert.BInGIdeal.nD Cert.BInGIdeal.τ).loc Cert.BInGIdeal.main_arg1))
      ∧ θ_run (Cert.BInGRefIdeal.defs (F := Ideal)) (onTc (τ := Cert.BInGRefIdeal.τ) (Cert.BInGRefIdeal.main (F := Ideal))) ⟨m', fun _ => 0, g'⟩ (fun r => ∀ c : Dev Cert.BInGRefIdeal.nD,
          r.2.mem ((c.tc : Thread Cert.BInGRefIdeal.nD Cert.BInGRefIdeal.τ).loc Cert.BInGRefIdeal.main_v8) = v0 c
          ∧ r.2.mem ((c.tc : Thread Cert.BInGRefIdeal.nD Cert.BInGRefIdeal.τ).loc Cert.BInGRefIdeal.main_arg0) = m' ((c.tc : Thread Cert.BInGRefIdeal.nD Cert.BInGRefIdeal.τ).loc Cert.BInGRefIdeal.main_arg0)
          ∧ r.2.mem ((c.tc : Thread Cert.BInGRefIdeal.nD Cert.BInGRefIdeal.τ).loc Cert.BInGRefIdeal.main_arg1) = m' ((c.tc : Thread Cert.BInGRefIdeal.nD Cert.BInGRefIdeal.τ).loc Cert.BInGRefIdeal.main_arg1))

def preserves_AInT_AInTIdeal : Prop :=
  True

def algebraic_AInTIdeal_AInTRefIdeal [hAInTIdeal : Cert.AInTIdeal.Facts] [hAInTRefIdeal : Cert.AInTRefIdeal.Facts] : Prop :=
  ∀ (m : (ℓ : Loc Cert.AInTIdeal.nD Cert.AInTIdeal.τ Cert.AInTIdeal.sig) → Buf (Elt Ideal) ℓ) (g : Dev Cert.AInTIdeal.nD → PrngReg)
    (m' : (ℓ : Loc Cert.AInTRefIdeal.nD Cert.AInTRefIdeal.τ Cert.AInTRefIdeal.sig) → Buf (Elt Ideal) ℓ) (g' : Dev Cert.AInTRefIdeal.nD → PrngReg), Pre_AInTIdeal m →
    (∀ c : Dev Cert.AInTIdeal.nD,
      m' ((c.tc : Thread Cert.AInTRefIdeal.nD Cert.AInTRefIdeal.τ).loc Cert.AInTRefIdeal.main_arg0) = m ((c.tc : Thread Cert.AInTIdeal.nD Cert.AInTIdeal.τ).loc Cert.AInTIdeal.main_arg0)
      ∧ m' ((c.tc : Thread Cert.AInTRefIdeal.nD Cert.AInTRefIdeal.τ).loc Cert.AInTRefIdeal.main_arg1) = m ((c.tc : Thread Cert.AInTIdeal.nD Cert.AInTIdeal.τ).loc Cert.AInTIdeal.main_arg1)) →
    ∃ (v0 : (c : Dev Cert.AInTIdeal.nD) → Buf (Elt Ideal) ((c.tc : Thread Cert.AInTIdeal.nD Cert.AInTIdeal.τ).loc Cert.AInTIdeal.main_v0)),
      θ_run (Cert.AInTIdeal.defs (F := Ideal)) (onTc (τ := Cert.AInTIdeal.τ) (Cert.AInTIdeal.main (F := Ideal))) ⟨m, fun _ => 0, g⟩ (fun r => ∀ c : Dev Cert.AInTIdeal.nD,
          r.2.mem ((c.tc : Thread Cert.AInTIdeal.nD Cert.AInTIdeal.τ).loc Cert.AInTIdeal.main_v0) = v0 c
          ∧ r.2.mem ((c.tc : Thread Cert.AInTIdeal.nD Cert.AInTIdeal.τ).loc Cert.AInTIdeal.main_arg0) = m ((c.tc : Thread Cert.AInTIdeal.nD Cert.AInTIdeal.τ).loc Cert.AInTIdeal.main_arg0)
          ∧ r.2.mem ((c.tc : Thread Cert.AInTIdeal.nD Cert.AInTIdeal.τ).loc Cert.AInTIdeal.main_arg1) = m ((c.tc : Thread Cert.AInTIdeal.nD Cert.AInTIdeal.τ).loc Cert.AInTIdeal.main_arg1))
      ∧ θ_run (Cert.AInTRefIdeal.defs (F := Ideal)) (onTc (τ := Cert.AInTRefIdeal.τ) (Cert.AInTRefIdeal.main (F := Ideal))) ⟨m', fun _ => 0, g'⟩ (fun r => ∀ c : Dev Cert.AInTRefIdeal.nD,
          r.2.mem ((c.tc : Thread Cert.AInTRefIdeal.nD Cert.AInTRefIdeal.τ).loc Cert.AInTRefIdeal.main_v4) = v0 c
          ∧ r.2.mem ((c.tc : Thread Cert.AInTRefIdeal.nD Cert.AInTRefIdeal.τ).loc Cert.AInTRefIdeal.main_arg0) = m' ((c.tc : Thread Cert.AInTRefIdeal.nD Cert.AInTRefIdeal.τ).loc Cert.AInTRefIdeal.main_arg0)
          ∧ r.2.mem ((c.tc : Thread Cert.AInTRefIdeal.nD Cert.AInTRefIdeal.τ).loc Cert.AInTRefIdeal.main_arg1) = m' ((c.tc : Thread Cert.AInTRefIdeal.nD Cert.AInTRefIdeal.τ).loc Cert.AInTRefIdeal.main_arg1))

def preserves_AInG_AInGIdeal : Prop :=
  True

def algebraic_AInGIdeal_AInGRefIdeal [hAInGIdeal : Cert.AInGIdeal.Facts] [hAInGRefIdeal : Cert.AInGRefIdeal.Facts] : Prop :=
  ∀ (m : (ℓ : Loc Cert.AInGIdeal.nD Cert.AInGIdeal.τ Cert.AInGIdeal.sig) → Buf (Elt Ideal) ℓ) (g : Dev Cert.AInGIdeal.nD → PrngReg)
    (m' : (ℓ : Loc Cert.AInGRefIdeal.nD Cert.AInGRefIdeal.τ Cert.AInGRefIdeal.sig) → Buf (Elt Ideal) ℓ) (g' : Dev Cert.AInGRefIdeal.nD → PrngReg), Pre_AInGIdeal m →
    (∀ c : Dev Cert.AInGIdeal.nD,
      m' ((c.tc : Thread Cert.AInGRefIdeal.nD Cert.AInGRefIdeal.τ).loc Cert.AInGRefIdeal.main_arg0) = m ((c.tc : Thread Cert.AInGIdeal.nD Cert.AInGIdeal.τ).loc Cert.AInGIdeal.main_arg0)
      ∧ m' ((c.tc : Thread Cert.AInGRefIdeal.nD Cert.AInGRefIdeal.τ).loc Cert.AInGRefIdeal.main_arg1) = m ((c.tc : Thread Cert.AInGIdeal.nD Cert.AInGIdeal.τ).loc Cert.AInGIdeal.main_arg1)) →
    ∃ (v0 : (c : Dev Cert.AInGIdeal.nD) → Buf (Elt Ideal) ((c.tc : Thread Cert.AInGIdeal.nD Cert.AInGIdeal.τ).loc Cert.AInGIdeal.main_v0)),
      θ_run (Cert.AInGIdeal.defs (F := Ideal)) (onTc (τ := Cert.AInGIdeal.τ) (Cert.AInGIdeal.main (F := Ideal))) ⟨m, fun _ => 0, g⟩ (fun r => ∀ c : Dev Cert.AInGIdeal.nD,
          r.2.mem ((c.tc : Thread Cert.AInGIdeal.nD Cert.AInGIdeal.τ).loc Cert.AInGIdeal.main_v0) = v0 c
          ∧ r.2.mem ((c.tc : Thread Cert.AInGIdeal.nD Cert.AInGIdeal.τ).loc Cert.AInGIdeal.main_arg0) = m ((c.tc : Thread Cert.AInGIdeal.nD Cert.AInGIdeal.τ).loc Cert.AInGIdeal.main_arg0)
          ∧ r.2.mem ((c.tc : Thread Cert.AInGIdeal.nD Cert.AInGIdeal.τ).loc Cert.AInGIdeal.main_arg1) = m ((c.tc : Thread Cert.AInGIdeal.nD Cert.AInGIdeal.τ).loc Cert.AInGIdeal.main_arg1))
      ∧ θ_run (Cert.AInGRefIdeal.defs (F := Ideal)) (onTc (τ := Cert.AInGRefIdeal.τ) (Cert.AInGRefIdeal.main (F := Ideal))) ⟨m', fun _ => 0, g'⟩ (fun r => ∀ c : Dev Cert.AInGRefIdeal.nD,
          r.2.mem ((c.tc : Thread Cert.AInGRefIdeal.nD Cert.AInGRefIdeal.τ).loc Cert.AInGRefIdeal.main_v8) = v0 c
          ∧ r.2.mem ((c.tc : Thread Cert.AInGRefIdeal.nD Cert.AInGRefIdeal.τ).loc Cert.AInGRefIdeal.main_arg0) = m' ((c.tc : Thread Cert.AInGRefIdeal.nD Cert.AInGRefIdeal.τ).loc Cert.AInGRefIdeal.main_arg0)
          ∧ r.2.mem ((c.tc : Thread Cert.AInGRefIdeal.nD Cert.AInGRefIdeal.τ).loc Cert.AInGRefIdeal.main_arg1) = m' ((c.tc : Thread Cert.AInGRefIdeal.nD Cert.AInGRefIdeal.τ).loc Cert.AInGRefIdeal.main_arg1))

def preserves_FUp_FUpIdeal : Prop :=
  True

def algebraic_FUpIdeal_FUpRefIdeal [hFUpIdeal : Cert.FUpIdeal.Facts] [hFUpRefIdeal : Cert.FUpRefIdeal.Facts] : Prop :=
  ∀ (m : (ℓ : Loc Cert.FUpIdeal.nD Cert.FUpIdeal.τ Cert.FUpIdeal.sig) → Buf (Elt Ideal) ℓ) (g : Dev Cert.FUpIdeal.nD → PrngReg)
    (m' : (ℓ : Loc Cert.FUpRefIdeal.nD Cert.FUpRefIdeal.τ Cert.FUpRefIdeal.sig) → Buf (Elt Ideal) ℓ) (g' : Dev Cert.FUpRefIdeal.nD → PrngReg), Pre_FUpIdeal m →
    (∀ c : Dev Cert.FUpIdeal.nD,
      m' ((c.tc : Thread Cert.FUpRefIdeal.nD Cert.FUpRefIdeal.τ).loc Cert.FUpRefIdeal.main_arg0) = m ((c.tc : Thread Cert.FUpIdeal.nD Cert.FUpIdeal.τ).loc Cert.FUpIdeal.main_arg0)
      ∧ m' ((c.tc : Thread Cert.FUpRefIdeal.nD Cert.FUpRefIdeal.τ).loc Cert.FUpRefIdeal.main_arg1) = m ((c.tc : Thread Cert.FUpIdeal.nD Cert.FUpIdeal.τ).loc Cert.FUpIdeal.main_arg1)) →
    ∃ (v0 : (c : Dev Cert.FUpIdeal.nD) → Buf (Elt Ideal) ((c.tc : Thread Cert.FUpIdeal.nD Cert.FUpIdeal.τ).loc Cert.FUpIdeal.main_v0_0)) (v1 : (c : Dev Cert.FUpIdeal.nD) → Buf (Elt Ideal) ((c.tc : Thread Cert.FUpIdeal.nD Cert.FUpIdeal.τ).loc Cert.FUpIdeal.main_v0_1)),
      θ_run (Cert.FUpIdeal.defs (F := Ideal)) (onTc (τ := Cert.FUpIdeal.τ) (Cert.FUpIdeal.main (F := Ideal))) ⟨m, fun _ => 0, g⟩ (fun r => ∀ c : Dev Cert.FUpIdeal.nD,
          r.2.mem ((c.tc : Thread Cert.FUpIdeal.nD Cert.FUpIdeal.τ).loc Cert.FUpIdeal.main_v0_0) = v0 c
          ∧ r.2.mem ((c.tc : Thread Cert.FUpIdeal.nD Cert.FUpIdeal.τ).loc Cert.FUpIdeal.main_v0_1) = v1 c
          ∧ r.2.mem ((c.tc : Thread Cert.FUpIdeal.nD Cert.FUpIdeal.τ).loc Cert.FUpIdeal.main_arg0) = m ((c.tc : Thread Cert.FUpIdeal.nD Cert.FUpIdeal.τ).loc Cert.FUpIdeal.main_arg0)
          ∧ r.2.mem ((c.tc : Thread Cert.FUpIdeal.nD Cert.FUpIdeal.τ).loc Cert.FUpIdeal.main_arg1) = m ((c.tc : Thread Cert.FUpIdeal.nD Cert.FUpIdeal.τ).loc Cert.FUpIdeal.main_arg1))
      ∧ θ_run (Cert.FUpRefIdeal.defs (F := Ideal)) (onTc (τ := Cert.FUpRefIdeal.τ) (Cert.FUpRefIdeal.main (F := Ideal))) ⟨m', fun _ => 0, g'⟩ (fun r => ∀ c : Dev Cert.FUpRefIdeal.nD,
          r.2.mem ((c.tc : Thread Cert.FUpRefIdeal.nD Cert.FUpRefIdeal.τ).loc Cert.FUpRefIdeal.main_v5) = v0 c
          ∧ r.2.mem ((c.tc : Thread Cert.FUpRefIdeal.nD Cert.FUpRefIdeal.τ).loc Cert.FUpRefIdeal.main_v6) = v1 c
          ∧ r.2.mem ((c.tc : Thread Cert.FUpRefIdeal.nD Cert.FUpRefIdeal.τ).loc Cert.FUpRefIdeal.main_arg0) = m' ((c.tc : Thread Cert.FUpRefIdeal.nD Cert.FUpRefIdeal.τ).loc Cert.FUpRefIdeal.main_arg0)
          ∧ r.2.mem ((c.tc : Thread Cert.FUpRefIdeal.nD Cert.FUpRefIdeal.τ).loc Cert.FUpRefIdeal.main_arg1) = m' ((c.tc : Thread Cert.FUpRefIdeal.nD Cert.FUpRefIdeal.τ).loc Cert.FUpRefIdeal.main_arg1))

def preserves_FDown_FDownIdeal : Prop :=
  True

def algebraic_FDownIdeal_FDownRefIdeal [hFDownIdeal : Cert.FDownIdeal.Facts] [hFDownRefIdeal : Cert.FDownRefIdeal.Facts] : Prop :=
  ∀ (m : (ℓ : Loc Cert.FDownIdeal.nD Cert.FDownIdeal.τ Cert.FDownIdeal.sig) → Buf (Elt Ideal) ℓ) (g : Dev Cert.FDownIdeal.nD → PrngReg)
    (m' : (ℓ : Loc Cert.FDownRefIdeal.nD Cert.FDownRefIdeal.τ Cert.FDownRefIdeal.sig) → Buf (Elt Ideal) ℓ) (g' : Dev Cert.FDownRefIdeal.nD → PrngReg), Pre_FDownIdeal m →
    (∀ c : Dev Cert.FDownIdeal.nD,
      m' ((c.tc : Thread Cert.FDownRefIdeal.nD Cert.FDownRefIdeal.τ).loc Cert.FDownRefIdeal.main_arg0) = m ((c.tc : Thread Cert.FDownIdeal.nD Cert.FDownIdeal.τ).loc Cert.FDownIdeal.main_arg0)
      ∧ m' ((c.tc : Thread Cert.FDownRefIdeal.nD Cert.FDownRefIdeal.τ).loc Cert.FDownRefIdeal.main_arg1) = m ((c.tc : Thread Cert.FDownIdeal.nD Cert.FDownIdeal.τ).loc Cert.FDownIdeal.main_arg1)) →
    ∃ (v0 : (c : Dev Cert.FDownIdeal.nD) → Buf (Elt Ideal) ((c.tc : Thread Cert.FDownIdeal.nD Cert.FDownIdeal.τ).loc Cert.FDownIdeal.main_v1)),
      θ_run (Cert.FDownIdeal.defs (F := Ideal)) (onTc (τ := Cert.FDownIdeal.τ) (Cert.FDownIdeal.main (F := Ideal))) ⟨m, fun _ => 0, g⟩ (fun r => ∀ c : Dev Cert.FDownIdeal.nD,
          r.2.mem ((c.tc : Thread Cert.FDownIdeal.nD Cert.FDownIdeal.τ).loc Cert.FDownIdeal.main_v1) = v0 c
          ∧ r.2.mem ((c.tc : Thread Cert.FDownIdeal.nD Cert.FDownIdeal.τ).loc Cert.FDownIdeal.main_arg0) = m ((c.tc : Thread Cert.FDownIdeal.nD Cert.FDownIdeal.τ).loc Cert.FDownIdeal.main_arg0)
          ∧ r.2.mem ((c.tc : Thread Cert.FDownIdeal.nD Cert.FDownIdeal.τ).loc Cert.FDownIdeal.main_arg1) = m ((c.tc : Thread Cert.FDownIdeal.nD Cert.FDownIdeal.τ).loc Cert.FDownIdeal.main_arg1))
      ∧ θ_run (Cert.FDownRefIdeal.defs (F := Ideal)) (onTc (τ := Cert.FDownRefIdeal.τ) (Cert.FDownRefIdeal.main (F := Ideal))) ⟨m', fun _ => 0, g'⟩ (fun r => ∀ c : Dev Cert.FDownRefIdeal.nD,
          r.2.mem ((c.tc : Thread Cert.FDownRefIdeal.nD Cert.FDownRefIdeal.τ).loc Cert.FDownRefIdeal.main_v3) = v0 c
          ∧ r.2.mem ((c.tc : Thread Cert.FDownRefIdeal.nD Cert.FDownRefIdeal.τ).loc Cert.FDownRefIdeal.main_arg0) = m' ((c.tc : Thread Cert.FDownRefIdeal.nD Cert.FDownRefIdeal.τ).loc Cert.FDownRefIdeal.main_arg0)
          ∧ r.2.mem ((c.tc : Thread Cert.FDownRefIdeal.nD Cert.FDownRefIdeal.τ).loc Cert.FDownRefIdeal.main_arg1) = m' ((c.tc : Thread Cert.FDownRefIdeal.nD Cert.FDownRefIdeal.τ).loc Cert.FDownRefIdeal.main_arg1))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)) →
    ∃ (v0 : (c : Dev Cert.BInIdeal.nD) → Buf (Elt Ideal) ((c.tc : Thread Cert.BInIdeal.nD Cert.BInIdeal.τ).loc Cert.BInIdeal.main_v0)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v0) = v0 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v2) = v0 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1))

def preserves_BOut_BOutIdeal : Prop :=
  True

def algebraic_BOutIdeal_BOutRefIdeal [hBOutIdeal : Cert.BOutIdeal.Facts] [hBOutRefIdeal : Cert.BOutRefIdeal.Facts] : Prop :=
  ∀ (m : (ℓ : Loc Cert.BOutIdeal.nD Cert.BOutIdeal.τ Cert.BOutIdeal.sig) → Buf (Elt Ideal) ℓ) (g : Dev Cert.BOutIdeal.nD → PrngReg)
    (m' : (ℓ : Loc Cert.BOutRefIdeal.nD Cert.BOutRefIdeal.τ Cert.BOutRefIdeal.sig) → Buf (Elt Ideal) ℓ) (g' : Dev Cert.BOutRefIdeal.nD → PrngReg), Pre_BOutIdeal m →
    (∀ c : Dev Cert.BOutIdeal.nD,
      m' ((c.tc : Thread Cert.BOutRefIdeal.nD Cert.BOutRefIdeal.τ).loc Cert.BOutRefIdeal.main_arg0) = m ((c.tc : Thread Cert.BOutIdeal.nD Cert.BOutIdeal.τ).loc Cert.BOutIdeal.main_arg0)
      ∧ m' ((c.tc : Thread Cert.BOutRefIdeal.nD Cert.BOutRefIdeal.τ).loc Cert.BOutRefIdeal.main_arg1) = m ((c.tc : Thread Cert.BOutIdeal.nD Cert.BOutIdeal.τ).loc Cert.BOutIdeal.main_arg1)) →
    ∃ (v0 : (c : Dev Cert.BOutIdeal.nD) → Buf (Elt Ideal) ((c.tc : Thread Cert.BOutIdeal.nD Cert.BOutIdeal.τ).loc Cert.BOutIdeal.main_v1)),
      θ_run (Cert.BOutIdeal.defs (F := Ideal)) (onTc (τ := Cert.BOutIdeal.τ) (Cert.BOutIdeal.main (F := Ideal))) ⟨m, fun _ => 0, g⟩ (fun r => ∀ c : Dev Cert.BOutIdeal.nD,
          r.2.mem ((c.tc : Thread Cert.BOutIdeal.nD Cert.BOutIdeal.τ).loc Cert.BOutIdeal.main_v1) = v0 c
          ∧ r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
          ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1))
      ∧ θ_run (Cert.BOutRefIdeal.defs (F := Ideal)) (onTc (τ := Cert.BOutRefIdeal.τ) (Cert.BOutRefIdeal.main (F := Ideal))) ⟨m', fun _ => 0, g'⟩ (fun r => ∀ c : Dev Cert.BOutRefIdeal.nD,
          r.2.mem ((c.tc : Thread Cert.BOutRefIdeal.nD Cert.BOutRefIdeal.τ).loc Cert.BOutRefIdeal.main_v3) = v0 c
          ∧ r.2.mem ((c.tc : Thread Cert.BOutRefIdeal.nD Cert.BOutRefIdeal.τ).loc Cert.BOutRefIdeal.main_arg0) = m' ((c.tc : Thread Cert.BOutRefIdeal.nD Cert.BOutRefIdeal.τ).loc Cert.BOutRefIdeal.main_arg0)
          ∧ r.2.mem ((c.tc : Thread Cert.BOutRefIdeal.nD Cert.BOutRefIdeal.τ).loc Cert.BOutRefIdeal.main_arg1) = m' ((c.tc : Thread Cert.BOutRefIdeal.nD Cert.BOutRefIdeal.τ).loc Cert.BOutRefIdeal.main_arg1))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)) →
    ∃ (v0 : (c : Dev Cert.AInIdeal.nD) → Buf (Elt Ideal) ((c.tc : Thread Cert.AInIdeal.nD Cert.AInIdeal.τ).loc Cert.AInIdeal.main_v0)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v4) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)) →
    ∃ (v0 : (c : Dev Cert.AOutIdeal.nD) → Buf (Elt Ideal) ((c.tc : Thread Cert.AOutIdeal.nD Cert.AOutIdeal.τ).loc Cert.AOutIdeal.main_v1)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v1) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v5) = v0 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2))

def preserves_BwdMid_BwdMidIdeal : Prop :=
  True

def algebraic_BwdMidIdeal_BwdMidRefIdeal [hBwdMidIdeal : Cert.BwdMidIdeal.Facts] [hBwdMidRefIdeal : Cert.BwdMidRefIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg)
    (m' : (ℓ : Loc Cert.BwdMidRefIdeal.nD Cert.BwdMidRefIdeal.τ Cert.BwdMidRefIdeal.sig) → Buf (Elt Ideal) ℓ) (g' : Dev Cert.BwdMidRefIdeal.nD → PrngReg), Pre_BwdMidIdeal m →
    (∀ c : Dev Cert.BwdMidIdeal.nD,
      m' ((c.tc : Thread Cert.BwdMidRefIdeal.nD Cert.BwdMidRefIdeal.τ).loc Cert.BwdMidRefIdeal.main_arg0) = m ((c.tc : Thread Cert.BwdMidIdeal.nD Cert.BwdMidIdeal.τ).loc Cert.BwdMidIdeal.main_arg0)
      ∧ m' ((c.tc : Thread Cert.BwdMidRefIdeal.nD Cert.BwdMidRefIdeal.τ).loc Cert.BwdMidRefIdeal.main_arg1) = m ((c.tc : Thread Cert.BwdMidIdeal.nD Cert.BwdMidIdeal.τ).loc Cert.BwdMidIdeal.main_arg1)
      ∧ m' ((c.tc : Thread Cert.BwdMidRefIdeal.nD Cert.BwdMidRefIdeal.τ).loc Cert.BwdMidRefIdeal.main_arg2) = m ((c.tc : Thread Cert.BwdMidIdeal.nD Cert.BwdMidIdeal.τ).loc Cert.BwdMidIdeal.main_arg2)
      ∧ m' ((c.tc : Thread Cert.BwdMidRefIdeal.nD Cert.BwdMidRefIdeal.τ).loc Cert.BwdMidRefIdeal.main_arg3) = m ((c.tc : Thread Cert.BwdMidIdeal.nD Cert.BwdMidIdeal.τ).loc Cert.BwdMidIdeal.main_arg3)
      ∧ m' ((c.tc : Thread Cert.BwdMidRefIdeal.nD Cert.BwdMidRefIdeal.τ).loc Cert.BwdMidRefIdeal.main_arg4) = m ((c.tc : Thread Cert.BwdMidIdeal.nD Cert.BwdMidIdeal.τ).loc Cert.BwdMidIdeal.main_arg4)
      ∧ m' ((c.tc : Thread Cert.BwdMidRefIdeal.nD Cert.BwdMidRefIdeal.τ).loc Cert.BwdMidRefIdeal.main_arg5) = m ((c.tc : Thread Cert.BwdMidIdeal.nD Cert.BwdMidIdeal.τ).loc Cert.BwdMidIdeal.main_arg5)
      ∧ m' ((c.tc : Thread Cert.BwdMidRefIdeal.nD Cert.BwdMidRefIdeal.τ).loc Cert.BwdMidRefIdeal.main_arg6) = m ((c.tc : Thread Cert.BwdMidIdeal.nD Cert.BwdMidIdeal.τ).loc Cert.BwdMidIdeal.main_arg6)
      ∧ m' ((c.tc : Thread Cert.BwdMidRefIdeal.nD Cert.BwdMidRefIdeal.τ).loc Cert.BwdMidRefIdeal.main_arg7) = m ((c.tc : Thread Cert.BwdMidIdeal.nD Cert.BwdMidIdeal.τ).loc Cert.BwdMidIdeal.main_arg7)) →
    ∃ (v0 : (c : Dev Cert.BwdMidIdeal.nD) → Buf (Elt Ideal) ((c.tc : Thread Cert.BwdMidIdeal.nD Cert.BwdMidIdeal.τ).loc Cert.BwdMidIdeal.main_v0_0)) (v1 : (c : Dev Cert.BwdMidIdeal.nD) → Buf (Elt Ideal) ((c.tc : Thread Cert.BwdMidIdeal.nD Cert.BwdMidIdeal.τ).loc Cert.BwdMidIdeal.main_v0_1)) (v2 : (c : Dev Cert.BwdMidIdeal.nD) → Buf (Elt Ideal) ((c.tc : Thread Cert.BwdMidIdeal.nD Cert.BwdMidIdeal.τ).loc Cert.BwdMidIdeal.main_v0_2)),
      θ_run (Cert.BwdMidIdeal.defs (F := Ideal)) (onTc (τ := Cert.BwdMidIdeal.τ) (Cert.BwdMidIdeal.main (F := Ideal))) ⟨m, fun _ => 0, g⟩ (fun r => ∀ c : Dev Cert.BwdMidIdeal.nD,
          r.2.mem ((c.tc : Thread Cert.BwdMidIdeal.nD Cert.BwdMidIdeal.τ).loc Cert.BwdMidIdeal.main_v0_0) = v0 c
          ∧ r.2.mem ((c.tc : Thread Cert.BwdMidIdeal.nD Cert.BwdMidIdeal.τ).loc Cert.BwdMidIdeal.main_v0_1) = v1 c
          ∧ r.2.mem ((c.tc : Thread Cert.BwdMidIdeal.nD Cert.BwdMidIdeal.τ).loc Cert.BwdMidIdeal.main_v0_2) = v2 c
          ∧ r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
          ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
          ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
          ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
          ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
          ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
          ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
          ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7))
      ∧ θ_run (Cert.BwdMidRefIdeal.defs (F := Ideal)) (onTc (τ := Cert.BwdMidRefIdeal.τ) (Cert.BwdMidRefIdeal.main (F := Ideal))) ⟨m', fun _ => 0, g'⟩ (fun r => ∀ c : Dev Cert.BwdMidRefIdeal.nD,
          r.2.mem ((c.tc : Thread Cert.BwdMidRefIdeal.nD Cert.BwdMidRefIdeal.τ).loc Cert.BwdMidRefIdeal.main_v49) = v0 c
          ∧ r.2.mem ((c.tc : Thread Cert.BwdMidRefIdeal.nD Cert.BwdMidRefIdeal.τ).loc Cert.BwdMidRefIdeal.main_v98) = v1 c
          ∧ r.2.mem ((c.tc : Thread Cert.BwdMidRefIdeal.nD Cert.BwdMidRefIdeal.τ).loc Cert.BwdMidRefIdeal.main_v100) = v2 c
          ∧ r.2.mem ((c.tc : Thread Cert.BwdMidRefIdeal.nD Cert.BwdMidRefIdeal.τ).loc Cert.BwdMidRefIdeal.main_arg0) = m' ((c.tc : Thread Cert.BwdMidRefIdeal.nD Cert.BwdMidRefIdeal.τ).loc Cert.BwdMidRefIdeal.main_arg0)
          ∧ r.2.mem ((c.tc : Thread Cert.BwdMidRefIdeal.nD Cert.BwdMidRefIdeal.τ).loc Cert.BwdMidRefIdeal.main_arg1) = m' ((c.tc : Thread Cert.BwdMidRefIdeal.nD Cert.BwdMidRefIdeal.τ).loc Cert.BwdMidRefIdeal.main_arg1)
          ∧ r.2.mem ((c.tc : Thread Cert.BwdMidRefIdeal.nD Cert.BwdMidRefIdeal.τ).loc Cert.BwdMidRefIdeal.main_arg2) = m' ((c.tc : Thread Cert.BwdMidRefIdeal.nD Cert.BwdMidRefIdeal.τ).loc Cert.BwdMidRefIdeal.main_arg2)
          ∧ r.2.mem ((c.tc : Thread Cert.BwdMidRefIdeal.nD Cert.BwdMidRefIdeal.τ).loc Cert.BwdMidRefIdeal.main_arg3) = m' ((c.tc : Thread Cert.BwdMidRefIdeal.nD Cert.BwdMidRefIdeal.τ).loc Cert.BwdMidRefIdeal.main_arg3)
          ∧ r.2.mem ((c.tc : Thread Cert.BwdMidRefIdeal.nD Cert.BwdMidRefIdeal.τ).loc Cert.BwdMidRefIdeal.main_arg4) = m' ((c.tc : Thread Cert.BwdMidRefIdeal.nD Cert.BwdMidRefIdeal.τ).loc Cert.BwdMidRefIdeal.main_arg4)
          ∧ r.2.mem ((c.tc : Thread Cert.BwdMidRefIdeal.nD Cert.BwdMidRefIdeal.τ).loc Cert.BwdMidRefIdeal.main_arg5) = m' ((c.tc : Thread Cert.BwdMidRefIdeal.nD Cert.BwdMidRefIdeal.τ).loc Cert.BwdMidRefIdeal.main_arg5)
          ∧ r.2.mem ((c.tc : Thread Cert.BwdMidRefIdeal.nD Cert.BwdMidRefIdeal.τ).loc Cert.BwdMidRefIdeal.main_arg6) = m' ((c.tc : Thread Cert.BwdMidRefIdeal.nD Cert.BwdMidRefIdeal.τ).loc Cert.BwdMidRefIdeal.main_arg6)
          ∧ r.2.mem ((c.tc : Thread Cert.BwdMidRefIdeal.nD Cert.BwdMidRefIdeal.τ).loc Cert.BwdMidRefIdeal.main_arg7) = m' ((c.tc : Thread Cert.BwdMidRefIdeal.nD Cert.BwdMidRefIdeal.τ).loc Cert.BwdMidRefIdeal.main_arg7))

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v0_0)) (v1 : (c : Dev Cert.BwdInIdeal.nD) → Buf (Elt Ideal) ((c.tc : Thread Cert.BwdInIdeal.nD Cert.BwdInIdeal.τ).loc Cert.BwdInIdeal.main_v0_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v0_0) = v0 c
          ∧ r.2.mem ((c.tc : Thread Cert.BwdInIdeal.nD Cert.BwdInIdeal.τ).loc Cert.BwdInIdeal.main_v0_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v49) = v0 c
          ∧ r.2.mem ((c.tc : Thread Cert.BwdInRefIdeal.nD Cert.BwdInRefIdeal.τ).loc Cert.BwdInRefIdeal.main_v51) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v35) = v0 c
          ∧ r.2.mem ((c.tc : Thread Cert.LossRefIdeal.nD Cert.LossRefIdeal.τ).loc Cert.LossRefIdeal.main_v63) = v1 c
          ∧ r.2.mem ((c.tc : Thread Cert.LossRefIdeal.nD Cert.LossRefIdeal.τ).loc Cert.LossRefIdeal.main_v64) = v2 c
          ∧ r.2.mem ((c.tc : Thread Cert.LossRefIdeal.nD Cert.LossRefIdeal.τ).loc Cert.LossRefIdeal.main_v66) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)
      ∧ m' ((c.tc : Thread Cert.FwdInRefIdeal.nD Cert.FwdInRefIdeal.τ).loc Cert.FwdInRefIdeal.main_arg3) = m ((c.tc : Thread Cert.FwdInIdeal.nD Cert.FwdInIdeal.τ).loc Cert.FwdInIdeal.main_arg3)) →
    ∃ (v0 : (c : Dev Cert.FwdInIdeal.nD) → Buf (Elt Ideal) ((c.tc : Thread Cert.FwdInIdeal.nD Cert.FwdInIdeal.τ).loc Cert.FwdInIdeal.main_v0)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0) = v0 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
          ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v18) = v0 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2)
          ∧ r.2.mem ((c.tc : Thread Cert.FwdInRefIdeal.nD Cert.FwdInRefIdeal.τ).loc Cert.FwdInRefIdeal.main_arg3) = m' ((c.tc : Thread Cert.FwdInRefIdeal.nD Cert.FwdInRefIdeal.τ).loc Cert.FwdInRefIdeal.main_arg3))

def preserves_FwdMid_FwdMidIdeal : Prop :=
  True

def algebraic_FwdMidIdeal_FwdMidRefIdeal [hFwdMidIdeal : Cert.FwdMidIdeal.Facts] [hFwdMidRefIdeal : Cert.FwdMidRefIdeal.Facts] : Prop :=
  ∀ (m : (ℓ : Loc Cert.FwdMidIdeal.nD Cert.FwdMidIdeal.τ Cert.FwdMidIdeal.sig) → Buf (Elt Ideal) ℓ) (g : Dev Cert.FwdMidIdeal.nD → PrngReg)
    (m' : (ℓ : Loc Cert.FwdMidRefIdeal.nD Cert.FwdMidRefIdeal.τ Cert.FwdMidRefIdeal.sig) → Buf (Elt Ideal) ℓ) (g' : Dev Cert.FwdMidRefIdeal.nD → PrngReg), Pre_FwdMidIdeal m →
    (∀ c : Dev Cert.FwdMidIdeal.nD,
      m' ((c.tc : Thread Cert.FwdMidRefIdeal.nD Cert.FwdMidRefIdeal.τ).loc Cert.FwdMidRefIdeal.main_arg0) = m ((c.tc : Thread Cert.FwdMidIdeal.nD Cert.FwdMidIdeal.τ).loc Cert.FwdMidIdeal.main_arg0)
      ∧ m' ((c.tc : Thread Cert.FwdMidRefIdeal.nD Cert.FwdMidRefIdeal.τ).loc Cert.FwdMidRefIdeal.main_arg1) = m ((c.tc : Thread Cert.FwdMidIdeal.nD Cert.FwdMidIdeal.τ).loc Cert.FwdMidIdeal.main_arg1)
      ∧ m' ((c.tc : Thread Cert.FwdMidRefIdeal.nD Cert.FwdMidRefIdeal.τ).loc Cert.FwdMidRefIdeal.main_arg2) = m ((c.tc : Thread Cert.FwdMidIdeal.nD Cert.FwdMidIdeal.τ).loc Cert.FwdMidIdeal.main_arg2)
      ∧ m' ((c.tc : Thread Cert.FwdMidRefIdeal.nD Cert.FwdMidRefIdeal.τ).loc Cert.FwdMidRefIdeal.main_arg3) = m ((c.tc : Thread Cert.FwdMidIdeal.nD Cert.FwdMidIdeal.τ).loc Cert.FwdMidIdeal.main_arg3)
      ∧ m' ((c.tc : Thread Cert.FwdMidRefIdeal.nD Cert.FwdMidRefIdeal.τ).loc Cert.FwdMidRefIdeal.main_arg4) = m ((c.tc : Thread Cert.FwdMidIdeal.nD Cert.FwdMidIdeal.τ).loc Cert.FwdMidIdeal.main_arg4)
      ∧ m' ((c.tc : Thread Cert.FwdMidRefIdeal.nD Cert.FwdMidRefIdeal.τ).loc Cert.FwdMidRefIdeal.main_arg5) = m ((c.tc : Thread Cert.FwdMidIdeal.nD Cert.FwdMidIdeal.τ).loc Cert.FwdMidIdeal.main_arg5)
      ∧ m' ((c.tc : Thread Cert.FwdMidRefIdeal.nD Cert.FwdMidRefIdeal.τ).loc Cert.FwdMidRefIdeal.main_arg6) = m ((c.tc : Thread Cert.FwdMidIdeal.nD Cert.FwdMidIdeal.τ).loc Cert.FwdMidIdeal.main_arg6)) →
    ∃ (v0 : (c : Dev Cert.FwdMidIdeal.nD) → Buf (Elt Ideal) ((c.tc : Thread Cert.FwdMidIdeal.nD Cert.FwdMidIdeal.τ).loc Cert.FwdMidIdeal.main_v0_0)) (v1 : (c : Dev Cert.FwdMidIdeal.nD) → Buf (Elt Ideal) ((c.tc : Thread Cert.FwdMidIdeal.nD Cert.FwdMidIdeal.τ).loc Cert.FwdMidIdeal.main_v0_1)),
      θ_run (Cert.FwdMidIdeal.defs (F := Ideal)) (onTc (τ := Cert.FwdMidIdeal.τ) (Cert.FwdMidIdeal.main (F := Ideal))) ⟨m, fun _ => 0, g⟩ (fun r => ∀ c : Dev Cert.FwdMidIdeal.nD,
          r.2.mem ((c.tc : Thread Cert.FwdMidIdeal.nD Cert.FwdMidIdeal.τ).loc Cert.FwdMidIdeal.main_v0_0) = v0 c
          ∧ r.2.mem ((c.tc : Thread Cert.FwdMidIdeal.nD Cert.FwdMidIdeal.τ).loc Cert.FwdMidIdeal.main_v0_1) = v1 c
          ∧ r.2.mem ((c.tc : Thread Cert.FwdMidIdeal.nD Cert.FwdMidIdeal.τ).loc Cert.FwdMidIdeal.main_arg0) = m ((c.tc : Thread Cert.FwdMidIdeal.nD Cert.FwdMidIdeal.τ).loc Cert.FwdMidIdeal.main_arg0)
          ∧ r.2.mem ((c.tc : Thread Cert.FwdMidIdeal.nD Cert.FwdMidIdeal.τ).loc Cert.FwdMidIdeal.main_arg1) = m ((c.tc : Thread Cert.FwdMidIdeal.nD Cert.FwdMidIdeal.τ).loc Cert.FwdMidIdeal.main_arg1)
          ∧ r.2.mem ((c.tc : Thread Cert.FwdMidIdeal.nD Cert.FwdMidIdeal.τ).loc Cert.FwdMidIdeal.main_arg2) = m ((c.tc : Thread Cert.FwdMidIdeal.nD Cert.FwdMidIdeal.τ).loc Cert.FwdMidIdeal.main_arg2)
          ∧ r.2.mem ((c.tc : Thread Cert.FwdMidIdeal.nD Cert.FwdMidIdeal.τ).loc Cert.FwdMidIdeal.main_arg3) = m ((c.tc : Thread Cert.FwdMidIdeal.nD Cert.FwdMidIdeal.τ).loc Cert.FwdMidIdeal.main_arg3)
          ∧ r.2.mem ((c.tc : Thread Cert.FwdMidIdeal.nD Cert.FwdMidIdeal.τ).loc Cert.FwdMidIdeal.main_arg4) = m ((c.tc : Thread Cert.FwdMidIdeal.nD Cert.FwdMidIdeal.τ).loc Cert.FwdMidIdeal.main_arg4)
          ∧ r.2.mem ((c.tc : Thread Cert.FwdMidIdeal.nD Cert.FwdMidIdeal.τ).loc Cert.FwdMidIdeal.main_arg5) = m ((c.tc : Thread Cert.FwdMidIdeal.nD Cert.FwdMidIdeal.τ).loc Cert.FwdMidIdeal.main_arg5)
          ∧ r.2.mem ((c.tc : Thread Cert.FwdMidIdeal.nD Cert.FwdMidIdeal.τ).loc Cert.FwdMidIdeal.main_arg6) = m ((c.tc : Thread Cert.FwdMidIdeal.nD Cert.FwdMidIdeal.τ).loc Cert.FwdMidIdeal.main_arg6))
      ∧ θ_run (Cert.FwdMidRefIdeal.defs (F := Ideal)) (onTc (τ := Cert.FwdMidRefIdeal.τ) (Cert.FwdMidRefIdeal.main (F := Ideal))) ⟨m', fun _ => 0, g'⟩ (fun r => ∀ c : Dev Cert.FwdMidRefIdeal.nD,
          r.2.mem ((c.tc : Thread Cert.FwdMidRefIdeal.nD Cert.FwdMidRefIdeal.τ).loc Cert.FwdMidRefIdeal.main_v14) = v0 c
          ∧ r.2.mem ((c.tc : Thread Cert.FwdMidRefIdeal.nD Cert.FwdMidRefIdeal.τ).loc Cert.FwdMidRefIdeal.main_v33) = v1 c
          ∧ r.2.mem ((c.tc : Thread Cert.FwdMidRefIdeal.nD Cert.FwdMidRefIdeal.τ).loc Cert.FwdMidRefIdeal.main_arg0) = m' ((c.tc : Thread Cert.FwdMidRefIdeal.nD Cert.FwdMidRefIdeal.τ).loc Cert.FwdMidRefIdeal.main_arg0)
          ∧ r.2.mem ((c.tc : Thread Cert.FwdMidRefIdeal.nD Cert.FwdMidRefIdeal.τ).loc Cert.FwdMidRefIdeal.main_arg1) = m' ((c.tc : Thread Cert.FwdMidRefIdeal.nD Cert.FwdMidRefIdeal.τ).loc Cert.FwdMidRefIdeal.main_arg1)
          ∧ r.2.mem ((c.tc : Thread Cert.FwdMidRefIdeal.nD Cert.FwdMidRefIdeal.τ).loc Cert.FwdMidRefIdeal.main_arg2) = m' ((c.tc : Thread Cert.FwdMidRefIdeal.nD Cert.FwdMidRefIdeal.τ).loc Cert.FwdMidRefIdeal.main_arg2)
          ∧ r.2.mem ((c.tc : Thread Cert.FwdMidRefIdeal.nD Cert.FwdMidRefIdeal.τ).loc Cert.FwdMidRefIdeal.main_arg3) = m' ((c.tc : Thread Cert.FwdMidRefIdeal.nD Cert.FwdMidRefIdeal.τ).loc Cert.FwdMidRefIdeal.main_arg3)
          ∧ r.2.mem ((c.tc : Thread Cert.FwdMidRefIdeal.nD Cert.FwdMidRefIdeal.τ).loc Cert.FwdMidRefIdeal.main_arg4) = m' ((c.tc : Thread Cert.FwdMidRefIdeal.nD Cert.FwdMidRefIdeal.τ).loc Cert.FwdMidRefIdeal.main_arg4)
          ∧ r.2.mem ((c.tc : Thread Cert.FwdMidRefIdeal.nD Cert.FwdMidRefIdeal.τ).loc Cert.FwdMidRefIdeal.main_arg5) = m' ((c.tc : Thread Cert.FwdMidRefIdeal.nD Cert.FwdMidRefIdeal.τ).loc Cert.FwdMidRefIdeal.main_arg5)
          ∧ r.2.mem ((c.tc : Thread Cert.FwdMidRefIdeal.nD Cert.FwdMidRefIdeal.τ).loc Cert.FwdMidRefIdeal.main_arg6) = m' ((c.tc : Thread Cert.FwdMidRefIdeal.nD Cert.FwdMidRefIdeal.τ).loc Cert.FwdMidRefIdeal.main_arg6))

def preserves_UpF1_UpF1Ideal : Prop :=
  True

def algebraic_UpF1Ideal_UpF1RefIdeal [hUpF1Ideal : Cert.UpF1Ideal.Facts] [hUpF1RefIdeal : Cert.UpF1RefIdeal.Facts] : Prop :=
  ∀ (m : (ℓ : Loc Cert.UpF1Ideal.nD Cert.UpF1Ideal.τ Cert.UpF1Ideal.sig) → Buf (Elt Ideal) ℓ) (g : Dev Cert.UpF1Ideal.nD → PrngReg)
    (m' : (ℓ : Loc Cert.UpF1RefIdeal.nD Cert.UpF1RefIdeal.τ Cert.UpF1RefIdeal.sig) → Buf (Elt Ideal) ℓ) (g' : Dev Cert.UpF1RefIdeal.nD → PrngReg), Pre_UpF1Ideal m →
    (∀ c : Dev Cert.UpF1Ideal.nD,
      m' ((c.tc : Thread Cert.UpF1RefIdeal.nD Cert.UpF1RefIdeal.τ).loc Cert.UpF1RefIdeal.main_arg0) = m ((c.tc : Thread Cert.UpF1Ideal.nD Cert.UpF1Ideal.τ).loc Cert.UpF1Ideal.main_arg0)
      ∧ m' ((c.tc : Thread Cert.UpF1RefIdeal.nD Cert.UpF1RefIdeal.τ).loc Cert.UpF1RefIdeal.main_arg1) = m ((c.tc : Thread Cert.UpF1Ideal.nD Cert.UpF1Ideal.τ).loc Cert.UpF1Ideal.main_arg1)
      ∧ m' ((c.tc : Thread Cert.UpF1RefIdeal.nD Cert.UpF1RefIdeal.τ).loc Cert.UpF1RefIdeal.main_arg2) = m ((c.tc : Thread Cert.UpF1Ideal.nD Cert.UpF1Ideal.τ).loc Cert.UpF1Ideal.main_arg2)
      ∧ m' ((c.tc : Thread Cert.UpF1RefIdeal.nD Cert.UpF1RefIdeal.τ).loc Cert.UpF1RefIdeal.main_arg3) = m ((c.tc : Thread Cert.UpF1Ideal.nD Cert.UpF1Ideal.τ).loc Cert.UpF1Ideal.main_arg3)
      ∧ m' ((c.tc : Thread Cert.UpF1RefIdeal.nD Cert.UpF1RefIdeal.τ).loc Cert.UpF1RefIdeal.main_arg4) = m ((c.tc : Thread Cert.UpF1Ideal.nD Cert.UpF1Ideal.τ).loc Cert.UpF1Ideal.main_arg4)
      ∧ m' ((c.tc : Thread Cert.UpF1RefIdeal.nD Cert.UpF1RefIdeal.τ).loc Cert.UpF1RefIdeal.main_arg5) = m ((c.tc : Thread Cert.UpF1Ideal.nD Cert.UpF1Ideal.τ).loc Cert.UpF1Ideal.main_arg5)
      ∧ m' ((c.tc : Thread Cert.UpF1RefIdeal.nD Cert.UpF1RefIdeal.τ).loc Cert.UpF1RefIdeal.main_arg6) = m ((c.tc : Thread Cert.UpF1Ideal.nD Cert.UpF1Ideal.τ).loc Cert.UpF1Ideal.main_arg6)) →
    ∃ (v0 : (c : Dev Cert.UpF1Ideal.nD) → Buf (Elt Ideal) ((c.tc : Thread Cert.UpF1Ideal.nD Cert.UpF1Ideal.τ).loc Cert.UpF1Ideal.main_v0_0)) (v1 : (c : Dev Cert.UpF1Ideal.nD) → Buf (Elt Ideal) ((c.tc : Thread Cert.UpF1Ideal.nD Cert.UpF1Ideal.τ).loc Cert.UpF1Ideal.main_v0_1)) (v2 : (c : Dev Cert.UpF1Ideal.nD) → Buf (Elt Ideal) ((c.tc : Thread Cert.UpF1Ideal.nD Cert.UpF1Ideal.τ).loc Cert.UpF1Ideal.main_v0_2)) (v3 : (c : Dev Cert.UpF1Ideal.nD) → Buf (Elt Ideal) ((c.tc : Thread Cert.UpF1Ideal.nD Cert.UpF1Ideal.τ).loc Cert.UpF1Ideal.main_v0_3)),
      θ_run (Cert.UpF1Ideal.defs (F := Ideal)) (onTc (τ := Cert.UpF1Ideal.τ) (Cert.UpF1Ideal.main (F := Ideal))) ⟨m, fun _ => 0, g⟩ (fun r => ∀ c : Dev Cert.UpF1Ideal.nD,
          r.2.mem ((c.tc : Thread Cert.UpF1Ideal.nD Cert.UpF1Ideal.τ).loc Cert.UpF1Ideal.main_v0_0) = v0 c
          ∧ r.2.mem ((c.tc : Thread Cert.UpF1Ideal.nD Cert.UpF1Ideal.τ).loc Cert.UpF1Ideal.main_v0_1) = v1 c
          ∧ r.2.mem ((c.tc : Thread Cert.UpF1Ideal.nD Cert.UpF1Ideal.τ).loc Cert.UpF1Ideal.main_v0_2) = v2 c
          ∧ r.2.mem ((c.tc : Thread Cert.UpF1Ideal.nD Cert.UpF1Ideal.τ).loc Cert.UpF1Ideal.main_v0_3) = v3 c
          ∧ r.2.mem ((c.tc : Thread Cert.UpF1Ideal.nD Cert.UpF1Ideal.τ).loc Cert.UpF1Ideal.main_arg0) = m ((c.tc : Thread Cert.UpF1Ideal.nD Cert.UpF1Ideal.τ).loc Cert.UpF1Ideal.main_arg0)
          ∧ r.2.mem ((c.tc : Thread Cert.UpF1Ideal.nD Cert.UpF1Ideal.τ).loc Cert.UpF1Ideal.main_arg1) = m ((c.tc : Thread Cert.UpF1Ideal.nD Cert.UpF1Ideal.τ).loc Cert.UpF1Ideal.main_arg1)
          ∧ r.2.mem ((c.tc : Thread Cert.UpF1Ideal.nD Cert.UpF1Ideal.τ).loc Cert.UpF1Ideal.main_arg2) = m ((c.tc : Thread Cert.UpF1Ideal.nD Cert.UpF1Ideal.τ).loc Cert.UpF1Ideal.main_arg2)
          ∧ r.2.mem ((c.tc : Thread Cert.UpF1Ideal.nD Cert.UpF1Ideal.τ).loc Cert.UpF1Ideal.main_arg3) = m ((c.tc : Thread Cert.UpF1Ideal.nD Cert.UpF1Ideal.τ).loc Cert.UpF1Ideal.main_arg3)
          ∧ r.2.mem ((c.tc : Thread Cert.UpF1Ideal.nD Cert.UpF1Ideal.τ).loc Cert.UpF1Ideal.main_arg4) = m ((c.tc : Thread Cert.UpF1Ideal.nD Cert.UpF1Ideal.τ).loc Cert.UpF1Ideal.main_arg4)
          ∧ r.2.mem ((c.tc : Thread Cert.UpF1Ideal.nD Cert.UpF1Ideal.τ).loc Cert.UpF1Ideal.main_arg5) = m ((c.tc : Thread Cert.UpF1Ideal.nD Cert.UpF1Ideal.τ).loc Cert.UpF1Ideal.main_arg5)
          ∧ r.2.mem ((c.tc : Thread Cert.UpF1Ideal.nD Cert.UpF1Ideal.τ).loc Cert.UpF1Ideal.main_arg6) = m ((c.tc : Thread Cert.UpF1Ideal.nD Cert.UpF1Ideal.τ).loc Cert.UpF1Ideal.main_arg6))
      ∧ θ_run (Cert.UpF1RefIdeal.defs (F := Ideal)) (onTc (τ := Cert.UpF1RefIdeal.τ) (Cert.UpF1RefIdeal.main (F := Ideal))) ⟨m', fun _ => 0, g'⟩ (fun r => ∀ c : Dev Cert.UpF1RefIdeal.nD,
          r.2.mem ((c.tc : Thread Cert.UpF1RefIdeal.nD Cert.UpF1RefIdeal.τ).loc Cert.UpF1RefIdeal.main_v12) = v0 c
          ∧ r.2.mem ((c.tc : Thread Cert.UpF1RefIdeal.nD Cert.UpF1RefIdeal.τ).loc Cert.UpF1RefIdeal.main_v36) = v1 c
          ∧ r.2.mem ((c.tc : Thread Cert.UpF1RefIdeal.nD Cert.UpF1RefIdeal.τ).loc Cert.UpF1RefIdeal.main_v17) = v2 c
          ∧ r.2.mem ((c.tc : Thread Cert.UpF1RefIdeal.nD Cert.UpF1RefIdeal.τ).loc Cert.UpF1RefIdeal.main_v23) = v3 c
          ∧ r.2.mem ((c.tc : Thread Cert.UpF1RefIdeal.nD Cert.UpF1RefIdeal.τ).loc Cert.UpF1RefIdeal.main_arg0) = m' ((c.tc : Thread Cert.UpF1RefIdeal.nD Cert.UpF1RefIdeal.τ).loc Cert.UpF1RefIdeal.main_arg0)
          ∧ r.2.mem ((c.tc : Thread Cert.UpF1RefIdeal.nD Cert.UpF1RefIdeal.τ).loc Cert.UpF1RefIdeal.main_arg1) = m' ((c.tc : Thread Cert.UpF1RefIdeal.nD Cert.UpF1RefIdeal.τ).loc Cert.UpF1RefIdeal.main_arg1)
          ∧ r.2.mem ((c.tc : Thread Cert.UpF1RefIdeal.nD Cert.UpF1RefIdeal.τ).loc Cert.UpF1RefIdeal.main_arg2) = m' ((c.tc : Thread Cert.UpF1RefIdeal.nD Cert.UpF1RefIdeal.τ).loc Cert.UpF1RefIdeal.main_arg2)
          ∧ r.2.mem ((c.tc : Thread Cert.UpF1RefIdeal.nD Cert.UpF1RefIdeal.τ).loc Cert.UpF1RefIdeal.main_arg3) = m' ((c.tc : Thread Cert.UpF1RefIdeal.nD Cert.UpF1RefIdeal.τ).loc Cert.UpF1RefIdeal.main_arg3)
          ∧ r.2.mem ((c.tc : Thread Cert.UpF1RefIdeal.nD Cert.UpF1RefIdeal.τ).loc Cert.UpF1RefIdeal.main_arg4) = m' ((c.tc : Thread Cert.UpF1RefIdeal.nD Cert.UpF1RefIdeal.τ).loc Cert.UpF1RefIdeal.main_arg4)
          ∧ r.2.mem ((c.tc : Thread Cert.UpF1RefIdeal.nD Cert.UpF1RefIdeal.τ).loc Cert.UpF1RefIdeal.main_arg5) = m' ((c.tc : Thread Cert.UpF1RefIdeal.nD Cert.UpF1RefIdeal.τ).loc Cert.UpF1RefIdeal.main_arg5)
          ∧ r.2.mem ((c.tc : Thread Cert.UpF1RefIdeal.nD Cert.UpF1RefIdeal.τ).loc Cert.UpF1RefIdeal.main_arg6) = m' ((c.tc : Thread Cert.UpF1RefIdeal.nD Cert.UpF1RefIdeal.τ).loc Cert.UpF1RefIdeal.main_arg6))

def preserves_UpF2_UpF2Ideal : Prop :=
  True

def algebraic_UpF2Ideal_UpF2RefIdeal [hUpF2Ideal : Cert.UpF2Ideal.Facts] [hUpF2RefIdeal : Cert.UpF2RefIdeal.Facts] : Prop :=
  ∀ (m : (ℓ : Loc Cert.UpF2Ideal.nD Cert.UpF2Ideal.τ Cert.UpF2Ideal.sig) → Buf (Elt Ideal) ℓ) (g : Dev Cert.UpF2Ideal.nD → PrngReg)
    (m' : (ℓ : Loc Cert.UpF2RefIdeal.nD Cert.UpF2RefIdeal.τ Cert.UpF2RefIdeal.sig) → Buf (Elt Ideal) ℓ) (g' : Dev Cert.UpF2RefIdeal.nD → PrngReg), Pre_UpF2Ideal m →
    (∀ c : Dev Cert.UpF2Ideal.nD,
      m' ((c.tc : Thread Cert.UpF2RefIdeal.nD Cert.UpF2RefIdeal.τ).loc Cert.UpF2RefIdeal.main_arg0) = m ((c.tc : Thread Cert.UpF2Ideal.nD Cert.UpF2Ideal.τ).loc Cert.UpF2Ideal.main_arg0)
      ∧ m' ((c.tc : Thread Cert.UpF2RefIdeal.nD Cert.UpF2RefIdeal.τ).loc Cert.UpF2RefIdeal.main_arg1) = m ((c.tc : Thread Cert.UpF2Ideal.nD Cert.UpF2Ideal.τ).loc Cert.UpF2Ideal.main_arg1)
      ∧ m' ((c.tc : Thread Cert.UpF2RefIdeal.nD Cert.UpF2RefIdeal.τ).loc Cert.UpF2RefIdeal.main_arg2) = m ((c.tc : Thread Cert.UpF2Ideal.nD Cert.UpF2Ideal.τ).loc Cert.UpF2Ideal.main_arg2)
      ∧ m' ((c.tc : Thread Cert.UpF2RefIdeal.nD Cert.UpF2RefIdeal.τ).loc Cert.UpF2RefIdeal.main_arg3) = m ((c.tc : Thread Cert.UpF2Ideal.nD Cert.UpF2Ideal.τ).loc Cert.UpF2Ideal.main_arg3)
      ∧ m' ((c.tc : Thread Cert.UpF2RefIdeal.nD Cert.UpF2RefIdeal.τ).loc Cert.UpF2RefIdeal.main_arg4) = m ((c.tc : Thread Cert.UpF2Ideal.nD Cert.UpF2Ideal.τ).loc Cert.UpF2Ideal.main_arg4)
      ∧ m' ((c.tc : Thread Cert.UpF2RefIdeal.nD Cert.UpF2RefIdeal.τ).loc Cert.UpF2RefIdeal.main_arg5) = m ((c.tc : Thread Cert.UpF2Ideal.nD Cert.UpF2Ideal.τ).loc Cert.UpF2Ideal.main_arg5)
      ∧ m' ((c.tc : Thread Cert.UpF2RefIdeal.nD Cert.UpF2RefIdeal.τ).loc Cert.UpF2RefIdeal.main_arg6) = m ((c.tc : Thread Cert.UpF2Ideal.nD Cert.UpF2Ideal.τ).loc Cert.UpF2Ideal.main_arg6)) →
    ∃ (v0 : (c : Dev Cert.UpF2Ideal.nD) → Buf (Elt Ideal) ((c.tc : Thread Cert.UpF2Ideal.nD Cert.UpF2Ideal.τ).loc Cert.UpF2Ideal.main_v0_0)) (v1 : (c : Dev Cert.UpF2Ideal.nD) → Buf (Elt Ideal) ((c.tc : Thread Cert.UpF2Ideal.nD Cert.UpF2Ideal.τ).loc Cert.UpF2Ideal.main_v0_1)) (v2 : (c : Dev Cert.UpF2Ideal.nD) → Buf (Elt Ideal) ((c.tc : Thread Cert.UpF2Ideal.nD Cert.UpF2Ideal.τ).loc Cert.UpF2Ideal.main_v0_2)) (v3 : (c : Dev Cert.UpF2Ideal.nD) → Buf (Elt Ideal) ((c.tc : Thread Cert.UpF2Ideal.nD Cert.UpF2Ideal.τ).loc Cert.UpF2Ideal.main_v0_3)),
      θ_run (Cert.UpF2Ideal.defs (F := Ideal)) (onTc (τ := Cert.UpF2Ideal.τ) (Cert.UpF2Ideal.main (F := Ideal))) ⟨m, fun _ => 0, g⟩ (fun r => ∀ c : Dev Cert.UpF2Ideal.nD,
          r.2.mem ((c.tc : Thread Cert.UpF2Ideal.nD Cert.UpF2Ideal.τ).loc Cert.UpF2Ideal.main_v0_0) = v0 c
          ∧ r.2.mem ((c.tc : Thread Cert.UpF2Ideal.nD Cert.UpF2Ideal.τ).loc Cert.UpF2Ideal.main_v0_1) = v1 c
          ∧ r.2.mem ((c.tc : Thread Cert.UpF2Ideal.nD Cert.UpF2Ideal.τ).loc Cert.UpF2Ideal.main_v0_2) = v2 c
          ∧ r.2.mem ((c.tc : Thread Cert.UpF2Ideal.nD Cert.UpF2Ideal.τ).loc Cert.UpF2Ideal.main_v0_3) = v3 c
          ∧ r.2.mem ((c.tc : Thread Cert.UpF2Ideal.nD Cert.UpF2Ideal.τ).loc Cert.UpF2Ideal.main_arg0) = m ((c.tc : Thread Cert.UpF2Ideal.nD Cert.UpF2Ideal.τ).loc Cert.UpF2Ideal.main_arg0)
          ∧ r.2.mem ((c.tc : Thread Cert.UpF2Ideal.nD Cert.UpF2Ideal.τ).loc Cert.UpF2Ideal.main_arg1) = m ((c.tc : Thread Cert.UpF2Ideal.nD Cert.UpF2Ideal.τ).loc Cert.UpF2Ideal.main_arg1)
          ∧ r.2.mem ((c.tc : Thread Cert.UpF2Ideal.nD Cert.UpF2Ideal.τ).loc Cert.UpF2Ideal.main_arg2) = m ((c.tc : Thread Cert.UpF2Ideal.nD Cert.UpF2Ideal.τ).loc Cert.UpF2Ideal.main_arg2)
          ∧ r.2.mem ((c.tc : Thread Cert.UpF2Ideal.nD Cert.UpF2Ideal.τ).loc Cert.UpF2Ideal.main_arg3) = m ((c.tc : Thread Cert.UpF2Ideal.nD Cert.UpF2Ideal.τ).loc Cert.UpF2Ideal.main_arg3)
          ∧ r.2.mem ((c.tc : Thread Cert.UpF2Ideal.nD Cert.UpF2Ideal.τ).loc Cert.UpF2Ideal.main_arg4) = m ((c.tc : Thread Cert.UpF2Ideal.nD Cert.UpF2Ideal.τ).loc Cert.UpF2Ideal.main_arg4)
          ∧ r.2.mem ((c.tc : Thread Cert.UpF2Ideal.nD Cert.UpF2Ideal.τ).loc Cert.UpF2Ideal.main_arg5) = m ((c.tc : Thread Cert.UpF2Ideal.nD Cert.UpF2Ideal.τ).loc Cert.UpF2Ideal.main_arg5)
          ∧ r.2.mem ((c.tc : Thread Cert.UpF2Ideal.nD Cert.UpF2Ideal.τ).loc Cert.UpF2Ideal.main_arg6) = m ((c.tc : Thread Cert.UpF2Ideal.nD Cert.UpF2Ideal.τ).loc Cert.UpF2Ideal.main_arg6))
      ∧ θ_run (Cert.UpF2RefIdeal.defs (F := Ideal)) (onTc (τ := Cert.UpF2RefIdeal.τ) (Cert.UpF2RefIdeal.main (F := Ideal))) ⟨m', fun _ => 0, g'⟩ (fun r => ∀ c : Dev Cert.UpF2RefIdeal.nD,
          r.2.mem ((c.tc : Thread Cert.UpF2RefIdeal.nD Cert.UpF2RefIdeal.τ).loc Cert.UpF2RefIdeal.main_v12) = v0 c
          ∧ r.2.mem ((c.tc : Thread Cert.UpF2RefIdeal.nD Cert.UpF2RefIdeal.τ).loc Cert.UpF2RefIdeal.main_v36) = v1 c
          ∧ r.2.mem ((c.tc : Thread Cert.UpF2RefIdeal.nD Cert.UpF2RefIdeal.τ).loc Cert.UpF2RefIdeal.main_v17) = v2 c
          ∧ r.2.mem ((c.tc : Thread Cert.UpF2RefIdeal.nD Cert.UpF2RefIdeal.τ).loc Cert.UpF2RefIdeal.main_v23) = v3 c
          ∧ r.2.mem ((c.tc : Thread Cert.UpF2RefIdeal.nD Cert.UpF2RefIdeal.τ).loc Cert.UpF2RefIdeal.main_arg0) = m' ((c.tc : Thread Cert.UpF2RefIdeal.nD Cert.UpF2RefIdeal.τ).loc Cert.UpF2RefIdeal.main_arg0)
          ∧ r.2.mem ((c.tc : Thread Cert.UpF2RefIdeal.nD Cert.UpF2RefIdeal.τ).loc Cert.UpF2RefIdeal.main_arg1) = m' ((c.tc : Thread Cert.UpF2RefIdeal.nD Cert.UpF2RefIdeal.τ).loc Cert.UpF2RefIdeal.main_arg1)
          ∧ r.2.mem ((c.tc : Thread Cert.UpF2RefIdeal.nD Cert.UpF2RefIdeal.τ).loc Cert.UpF2RefIdeal.main_arg2) = m' ((c.tc : Thread Cert.UpF2RefIdeal.nD Cert.UpF2RefIdeal.τ).loc Cert.UpF2RefIdeal.main_arg2)
          ∧ r.2.mem ((c.tc : Thread Cert.UpF2RefIdeal.nD Cert.UpF2RefIdeal.τ).loc Cert.UpF2RefIdeal.main_arg3) = m' ((c.tc : Thread Cert.UpF2RefIdeal.nD Cert.UpF2RefIdeal.τ).loc Cert.UpF2RefIdeal.main_arg3)
          ∧ r.2.mem ((c.tc : Thread Cert.UpF2RefIdeal.nD Cert.UpF2RefIdeal.τ).loc Cert.UpF2RefIdeal.main_arg4) = m' ((c.tc : Thread Cert.UpF2RefIdeal.nD Cert.UpF2RefIdeal.τ).loc Cert.UpF2RefIdeal.main_arg4)
          ∧ r.2.mem ((c.tc : Thread Cert.UpF2RefIdeal.nD Cert.UpF2RefIdeal.τ).loc Cert.UpF2RefIdeal.main_arg5) = m' ((c.tc : Thread Cert.UpF2RefIdeal.nD Cert.UpF2RefIdeal.τ).loc Cert.UpF2RefIdeal.main_arg5)
          ∧ r.2.mem ((c.tc : Thread Cert.UpF2RefIdeal.nD Cert.UpF2RefIdeal.τ).loc Cert.UpF2RefIdeal.main_arg6) = m' ((c.tc : Thread Cert.UpF2RefIdeal.nD Cert.UpF2RefIdeal.τ).loc Cert.UpF2RefIdeal.main_arg6))

def preserves_UpBIn_UpBInIdeal : Prop :=
  True

def algebraic_UpBInIdeal_UpBInRefIdeal [hUpBInIdeal : Cert.UpBInIdeal.Facts] [hUpBInRefIdeal : Cert.UpBInRefIdeal.Facts] : Prop :=
  ∀ (m : (ℓ : Loc Cert.UpBInIdeal.nD Cert.UpBInIdeal.τ Cert.UpBInIdeal.sig) → Buf (Elt Ideal) ℓ) (g : Dev Cert.UpBInIdeal.nD → PrngReg)
    (m' : (ℓ : Loc Cert.UpBInRefIdeal.nD Cert.UpBInRefIdeal.τ Cert.UpBInRefIdeal.sig) → Buf (Elt Ideal) ℓ) (g' : Dev Cert.UpBInRefIdeal.nD → PrngReg), Pre_UpBInIdeal m →
    (∀ c : Dev Cert.UpBInIdeal.nD,
      m' ((c.tc : Thread Cert.UpBInRefIdeal.nD Cert.UpBInRefIdeal.τ).loc Cert.UpBInRefIdeal.main_arg0) = m ((c.tc : Thread Cert.UpBInIdeal.nD Cert.UpBInIdeal.τ).loc Cert.UpBInIdeal.main_arg0)
      ∧ m' ((c.tc : Thread Cert.UpBInRefIdeal.nD Cert.UpBInRefIdeal.τ).loc Cert.UpBInRefIdeal.main_arg1) = m ((c.tc : Thread Cert.UpBInIdeal.nD Cert.UpBInIdeal.τ).loc Cert.UpBInIdeal.main_arg1)
      ∧ m' ((c.tc : Thread Cert.UpBInRefIdeal.nD Cert.UpBInRefIdeal.τ).loc Cert.UpBInRefIdeal.main_arg2) = m ((c.tc : Thread Cert.UpBInIdeal.nD Cert.UpBInIdeal.τ).loc Cert.UpBInIdeal.main_arg2)
      ∧ m' ((c.tc : Thread Cert.UpBInRefIdeal.nD Cert.UpBInRefIdeal.τ).loc Cert.UpBInRefIdeal.main_arg3) = m ((c.tc : Thread Cert.UpBInIdeal.nD Cert.UpBInIdeal.τ).loc Cert.UpBInIdeal.main_arg3)
      ∧ m' ((c.tc : Thread Cert.UpBInRefIdeal.nD Cert.UpBInRefIdeal.τ).loc Cert.UpBInRefIdeal.main_arg4) = m ((c.tc : Thread Cert.UpBInIdeal.nD Cert.UpBInIdeal.τ).loc Cert.UpBInIdeal.main_arg4)) →
    ∃ (v0 : (c : Dev Cert.UpBInIdeal.nD) → Buf (Elt Ideal) ((c.tc : Thread Cert.UpBInIdeal.nD Cert.UpBInIdeal.τ).loc Cert.UpBInIdeal.main_v0_0)) (v1 : (c : Dev Cert.UpBInIdeal.nD) → Buf (Elt Ideal) ((c.tc : Thread Cert.UpBInIdeal.nD Cert.UpBInIdeal.τ).loc Cert.UpBInIdeal.main_v0_1)) (v2 : (c : Dev Cert.UpBInIdeal.nD) → Buf (Elt Ideal) ((c.tc : Thread Cert.UpBInIdeal.nD Cert.UpBInIdeal.τ).loc Cert.UpBInIdeal.main_v0_2)) (v3 : (c : Dev Cert.UpBInIdeal.nD) → Buf (Elt Ideal) ((c.tc : Thread Cert.UpBInIdeal.nD Cert.UpBInIdeal.τ).loc Cert.UpBInIdeal.main_v0_3)),
      θ_run (Cert.UpBInIdeal.defs (F := Ideal)) (onTc (τ := Cert.UpBInIdeal.τ) (Cert.UpBInIdeal.main (F := Ideal))) ⟨m, fun _ => 0, g⟩ (fun r => ∀ c : Dev Cert.UpBInIdeal.nD,
          r.2.mem ((c.tc : Thread Cert.UpBInIdeal.nD Cert.UpBInIdeal.τ).loc Cert.UpBInIdeal.main_v0_0) = v0 c
          ∧ r.2.mem ((c.tc : Thread Cert.UpBInIdeal.nD Cert.UpBInIdeal.τ).loc Cert.UpBInIdeal.main_v0_1) = v1 c
          ∧ r.2.mem ((c.tc : Thread Cert.UpBInIdeal.nD Cert.UpBInIdeal.τ).loc Cert.UpBInIdeal.main_v0_2) = v2 c
          ∧ r.2.mem ((c.tc : Thread Cert.UpBInIdeal.nD Cert.UpBInIdeal.τ).loc Cert.UpBInIdeal.main_v0_3) = v3 c
          ∧ r.2.mem ((c.tc : Thread Cert.UpBInIdeal.nD Cert.UpBInIdeal.τ).loc Cert.UpBInIdeal.main_arg0) = m ((c.tc : Thread Cert.UpBInIdeal.nD Cert.UpBInIdeal.τ).loc Cert.UpBInIdeal.main_arg0)
          ∧ r.2.mem ((c.tc : Thread Cert.UpBInIdeal.nD Cert.UpBInIdeal.τ).loc Cert.UpBInIdeal.main_arg1) = m ((c.tc : Thread Cert.UpBInIdeal.nD Cert.UpBInIdeal.τ).loc Cert.UpBInIdeal.main_arg1)
          ∧ r.2.mem ((c.tc : Thread Cert.UpBInIdeal.nD Cert.UpBInIdeal.τ).loc Cert.UpBInIdeal.main_arg2) = m ((c.tc : Thread Cert.UpBInIdeal.nD Cert.UpBInIdeal.τ).loc Cert.UpBInIdeal.main_arg2)
          ∧ r.2.mem ((c.tc : Thread Cert.UpBInIdeal.nD Cert.UpBInIdeal.τ).loc Cert.UpBInIdeal.main_arg3) = m ((c.tc : Thread Cert.UpBInIdeal.nD Cert.UpBInIdeal.τ).loc Cert.UpBInIdeal.main_arg3)
          ∧ r.2.mem ((c.tc : Thread Cert.UpBInIdeal.nD Cert.UpBInIdeal.τ).loc Cert.UpBInIdeal.main_arg4) = m ((c.tc : Thread Cert.UpBInIdeal.nD Cert.UpBInIdeal.τ).loc Cert.UpBInIdeal.main_arg4))
      ∧ θ_run (Cert.UpBInRefIdeal.defs (F := Ideal)) (onTc (τ := Cert.UpBInRefIdeal.τ) (Cert.UpBInRefIdeal.main (F := Ideal))) ⟨m', fun _ => 0, g'⟩ (fun r => ∀ c : Dev Cert.UpBInRefIdeal.nD,
          r.2.mem ((c.tc : Thread Cert.UpBInRefIdeal.nD Cert.UpBInRefIdeal.τ).loc Cert.UpBInRefIdeal.main_v6) = v0 c
          ∧ r.2.mem ((c.tc : Thread Cert.UpBInRefIdeal.nD Cert.UpBInRefIdeal.τ).loc Cert.UpBInRefIdeal.main_v30) = v1 c
          ∧ r.2.mem ((c.tc : Thread Cert.UpBInRefIdeal.nD Cert.UpBInRefIdeal.τ).loc Cert.UpBInRefIdeal.main_v11) = v2 c
          ∧ r.2.mem ((c.tc : Thread Cert.UpBInRefIdeal.nD Cert.UpBInRefIdeal.τ).loc Cert.UpBInRefIdeal.main_v17) = v3 c
          ∧ r.2.mem ((c.tc : Thread Cert.UpBInRefIdeal.nD Cert.UpBInRefIdeal.τ).loc Cert.UpBInRefIdeal.main_arg0) = m' ((c.tc : Thread Cert.UpBInRefIdeal.nD Cert.UpBInRefIdeal.τ).loc Cert.UpBInRefIdeal.main_arg0)
          ∧ r.2.mem ((c.tc : Thread Cert.UpBInRefIdeal.nD Cert.UpBInRefIdeal.τ).loc Cert.UpBInRefIdeal.main_arg1) = m' ((c.tc : Thread Cert.UpBInRefIdeal.nD Cert.UpBInRefIdeal.τ).loc Cert.UpBInRefIdeal.main_arg1)
          ∧ r.2.mem ((c.tc : Thread Cert.UpBInRefIdeal.nD Cert.UpBInRefIdeal.τ).loc Cert.UpBInRefIdeal.main_arg2) = m' ((c.tc : Thread Cert.UpBInRefIdeal.nD Cert.UpBInRefIdeal.τ).loc Cert.UpBInRefIdeal.main_arg2)
          ∧ r.2.mem ((c.tc : Thread Cert.UpBInRefIdeal.nD Cert.UpBInRefIdeal.τ).loc Cert.UpBInRefIdeal.main_arg3) = m' ((c.tc : Thread Cert.UpBInRefIdeal.nD Cert.UpBInRefIdeal.τ).loc Cert.UpBInRefIdeal.main_arg3)
          ∧ r.2.mem ((c.tc : Thread Cert.UpBInRefIdeal.nD Cert.UpBInRefIdeal.τ).loc Cert.UpBInRefIdeal.main_arg4) = m' ((c.tc : Thread Cert.UpBInRefIdeal.nD Cert.UpBInRefIdeal.τ).loc Cert.UpBInRefIdeal.main_arg4))

def preserves_UpOut_UpOutIdeal : Prop :=
  True

def algebraic_UpOutIdeal_UpOutRefIdeal [hUpOutIdeal : Cert.UpOutIdeal.Facts] [hUpOutRefIdeal : Cert.UpOutRefIdeal.Facts] : Prop :=
  ∀ (m : (ℓ : Loc Cert.UpOutIdeal.nD Cert.UpOutIdeal.τ Cert.UpOutIdeal.sig) → Buf (Elt Ideal) ℓ) (g : Dev Cert.UpOutIdeal.nD → PrngReg)
    (m' : (ℓ : Loc Cert.UpOutRefIdeal.nD Cert.UpOutRefIdeal.τ Cert.UpOutRefIdeal.sig) → Buf (Elt Ideal) ℓ) (g' : Dev Cert.UpOutRefIdeal.nD → PrngReg), Pre_UpOutIdeal m →
    (∀ c : Dev Cert.UpOutIdeal.nD,
      m' ((c.tc : Thread Cert.UpOutRefIdeal.nD Cert.UpOutRefIdeal.τ).loc Cert.UpOutRefIdeal.main_arg0) = m ((c.tc : Thread Cert.UpOutIdeal.nD Cert.UpOutIdeal.τ).loc Cert.UpOutIdeal.main_arg0)
      ∧ m' ((c.tc : Thread Cert.UpOutRefIdeal.nD Cert.UpOutRefIdeal.τ).loc Cert.UpOutRefIdeal.main_arg1) = m ((c.tc : Thread Cert.UpOutIdeal.nD Cert.UpOutIdeal.τ).loc Cert.UpOutIdeal.main_arg1)
      ∧ m' ((c.tc : Thread Cert.UpOutRefIdeal.nD Cert.UpOutRefIdeal.τ).loc Cert.UpOutRefIdeal.main_arg2) = m ((c.tc : Thread Cert.UpOutIdeal.nD Cert.UpOutIdeal.τ).loc Cert.UpOutIdeal.main_arg2)
      ∧ m' ((c.tc : Thread Cert.UpOutRefIdeal.nD Cert.UpOutRefIdeal.τ).loc Cert.UpOutRefIdeal.main_arg3) = m ((c.tc : Thread Cert.UpOutIdeal.nD Cert.UpOutIdeal.τ).loc Cert.UpOutIdeal.main_arg3)
      ∧ m' ((c.tc : Thread Cert.UpOutRefIdeal.nD Cert.UpOutRefIdeal.τ).loc Cert.UpOutRefIdeal.main_arg4) = m ((c.tc : Thread Cert.UpOutIdeal.nD Cert.UpOutIdeal.τ).loc Cert.UpOutIdeal.main_arg4)) →
    ∃ (v0 : (c : Dev Cert.UpOutIdeal.nD) → Buf (Elt Ideal) ((c.tc : Thread Cert.UpOutIdeal.nD Cert.UpOutIdeal.τ).loc Cert.UpOutIdeal.main_v0_0)) (v1 : (c : Dev Cert.UpOutIdeal.nD) → Buf (Elt Ideal) ((c.tc : Thread Cert.UpOutIdeal.nD Cert.UpOutIdeal.τ).loc Cert.UpOutIdeal.main_v0_1)) (v2 : (c : Dev Cert.UpOutIdeal.nD) → Buf (Elt Ideal) ((c.tc : Thread Cert.UpOutIdeal.nD Cert.UpOutIdeal.τ).loc Cert.UpOutIdeal.main_v0_2)) (v3 : (c : Dev Cert.UpOutIdeal.nD) → Buf (Elt Ideal) ((c.tc : Thread Cert.UpOutIdeal.nD Cert.UpOutIdeal.τ).loc Cert.UpOutIdeal.main_v0_3)),
      θ_run (Cert.UpOutIdeal.defs (F := Ideal)) (onTc (τ := Cert.UpOutIdeal.τ) (Cert.UpOutIdeal.main (F := Ideal))) ⟨m, fun _ => 0, g⟩ (fun r => ∀ c : Dev Cert.UpOutIdeal.nD,
          r.2.mem ((c.tc : Thread Cert.UpOutIdeal.nD Cert.UpOutIdeal.τ).loc Cert.UpOutIdeal.main_v0_0) = v0 c
          ∧ r.2.mem ((c.tc : Thread Cert.UpOutIdeal.nD Cert.UpOutIdeal.τ).loc Cert.UpOutIdeal.main_v0_1) = v1 c
          ∧ r.2.mem ((c.tc : Thread Cert.UpOutIdeal.nD Cert.UpOutIdeal.τ).loc Cert.UpOutIdeal.main_v0_2) = v2 c
          ∧ r.2.mem ((c.tc : Thread Cert.UpOutIdeal.nD Cert.UpOutIdeal.τ).loc Cert.UpOutIdeal.main_v0_3) = v3 c
          ∧ r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
          ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
          ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
          ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3)
          ∧ r.2.mem ((c.tc : Thread Cert.UpOutIdeal.nD Cert.UpOutIdeal.τ).loc Cert.UpOutIdeal.main_arg4) = m ((c.tc : Thread Cert.UpOutIdeal.nD Cert.UpOutIdeal.τ).loc Cert.UpOutIdeal.main_arg4))
      ∧ θ_run (Cert.UpOutRefIdeal.defs (F := Ideal)) (onTc (τ := Cert.UpOutRefIdeal.τ) (Cert.UpOutRefIdeal.main (F := Ideal))) ⟨m', fun _ => 0, g'⟩ (fun r => ∀ c : Dev Cert.UpOutRefIdeal.nD,
          r.2.mem ((c.tc : Thread Cert.UpOutRefIdeal.nD Cert.UpOutRefIdeal.τ).loc Cert.UpOutRefIdeal.main_v6) = v0 c
          ∧ r.2.mem ((c.tc : Thread Cert.UpOutRefIdeal.nD Cert.UpOutRefIdeal.τ).loc Cert.UpOutRefIdeal.main_v30) = v1 c
          ∧ r.2.mem ((c.tc : Thread Cert.UpOutRefIdeal.nD Cert.UpOutRefIdeal.τ).loc Cert.UpOutRefIdeal.main_v11) = v2 c
          ∧ r.2.mem ((c.tc : Thread Cert.UpOutRefIdeal.nD Cert.UpOutRefIdeal.τ).loc Cert.UpOutRefIdeal.main_v17) = v3 c
          ∧ r.2.mem ((c.tc : Thread Cert.UpOutRefIdeal.nD Cert.UpOutRefIdeal.τ).loc Cert.UpOutRefIdeal.main_arg0) = m' ((c.tc : Thread Cert.UpOutRefIdeal.nD Cert.UpOutRefIdeal.τ).loc Cert.UpOutRefIdeal.main_arg0)
          ∧ r.2.mem ((c.tc : Thread Cert.UpOutRefIdeal.nD Cert.UpOutRefIdeal.τ).loc Cert.UpOutRefIdeal.main_arg1) = m' ((c.tc : Thread Cert.UpOutRefIdeal.nD Cert.UpOutRefIdeal.τ).loc Cert.UpOutRefIdeal.main_arg1)
          ∧ r.2.mem ((c.tc : Thread Cert.UpOutRefIdeal.nD Cert.UpOutRefIdeal.τ).loc Cert.UpOutRefIdeal.main_arg2) = m' ((c.tc : Thread Cert.UpOutRefIdeal.nD Cert.UpOutRefIdeal.τ).loc Cert.UpOutRefIdeal.main_arg2)
          ∧ r.2.mem ((c.tc : Thread Cert.UpOutRefIdeal.nD Cert.UpOutRefIdeal.τ).loc Cert.UpOutRefIdeal.main_arg3) = m' ((c.tc : Thread Cert.UpOutRefIdeal.nD Cert.UpOutRefIdeal.τ).loc Cert.UpOutRefIdeal.main_arg3)
          ∧ r.2.mem ((c.tc : Thread Cert.UpOutRefIdeal.nD Cert.UpOutRefIdeal.τ).loc Cert.UpOutRefIdeal.main_arg4) = m' ((c.tc : Thread Cert.UpOutRefIdeal.nD Cert.UpOutRefIdeal.τ).loc Cert.UpOutRefIdeal.main_arg4))

def preserves_UpAIn_UpAInIdeal : Prop :=
  True

def algebraic_UpAInIdeal_UpAInRefIdeal [hUpAInIdeal : Cert.UpAInIdeal.Facts] [hUpAInRefIdeal : Cert.UpAInRefIdeal.Facts] : Prop :=
  ∀ (m : (ℓ : Loc Cert.UpAInIdeal.nD Cert.UpAInIdeal.τ Cert.UpAInIdeal.sig) → Buf (Elt Ideal) ℓ) (g : Dev Cert.UpAInIdeal.nD → PrngReg)
    (m' : (ℓ : Loc Cert.UpAInRefIdeal.nD Cert.UpAInRefIdeal.τ Cert.UpAInRefIdeal.sig) → Buf (Elt Ideal) ℓ) (g' : Dev Cert.UpAInRefIdeal.nD → PrngReg), Pre_UpAInIdeal m →
    (∀ c : Dev Cert.UpAInIdeal.nD,
      m' ((c.tc : Thread Cert.UpAInRefIdeal.nD Cert.UpAInRefIdeal.τ).loc Cert.UpAInRefIdeal.main_arg0) = m ((c.tc : Thread Cert.UpAInIdeal.nD Cert.UpAInIdeal.τ).loc Cert.UpAInIdeal.main_arg0)
      ∧ m' ((c.tc : Thread Cert.UpAInRefIdeal.nD Cert.UpAInRefIdeal.τ).loc Cert.UpAInRefIdeal.main_arg1) = m ((c.tc : Thread Cert.UpAInIdeal.nD Cert.UpAInIdeal.τ).loc Cert.UpAInIdeal.main_arg1)
      ∧ m' ((c.tc : Thread Cert.UpAInRefIdeal.nD Cert.UpAInRefIdeal.τ).loc Cert.UpAInRefIdeal.main_arg2) = m ((c.tc : Thread Cert.UpAInIdeal.nD Cert.UpAInIdeal.τ).loc Cert.UpAInIdeal.main_arg2)
      ∧ m' ((c.tc : Thread Cert.UpAInRefIdeal.nD Cert.UpAInRefIdeal.τ).loc Cert.UpAInRefIdeal.main_arg3) = m ((c.tc : Thread Cert.UpAInIdeal.nD Cert.UpAInIdeal.τ).loc Cert.UpAInIdeal.main_arg3)
      ∧ m' ((c.tc : Thread Cert.UpAInRefIdeal.nD Cert.UpAInRefIdeal.τ).loc Cert.UpAInRefIdeal.main_arg4) = m ((c.tc : Thread Cert.UpAInIdeal.nD Cert.UpAInIdeal.τ).loc Cert.UpAInIdeal.main_arg4)) →
    ∃ (v0 : (c : Dev Cert.UpAInIdeal.nD) → Buf (Elt Ideal) ((c.tc : Thread Cert.UpAInIdeal.nD Cert.UpAInIdeal.τ).loc Cert.UpAInIdeal.main_v0_0)) (v1 : (c : Dev Cert.UpAInIdeal.nD) → Buf (Elt Ideal) ((c.tc : Thread Cert.UpAInIdeal.nD Cert.UpAInIdeal.τ).loc Cert.UpAInIdeal.main_v0_1)) (v2 : (c : Dev Cert.UpAInIdeal.nD) → Buf (Elt Ideal) ((c.tc : Thread Cert.UpAInIdeal.nD Cert.UpAInIdeal.τ).loc Cert.UpAInIdeal.main_v0_2)) (v3 : (c : Dev Cert.UpAInIdeal.nD) → Buf (Elt Ideal) ((c.tc : Thread Cert.UpAInIdeal.nD Cert.UpAInIdeal.τ).loc Cert.UpAInIdeal.main_v0_3)),
      θ_run (Cert.UpAInIdeal.defs (F := Ideal)) (onTc (τ := Cert.UpAInIdeal.τ) (Cert.UpAInIdeal.main (F := Ideal))) ⟨m, fun _ => 0, g⟩ (fun r => ∀ c : Dev Cert.UpAInIdeal.nD,
          r.2.mem ((c.tc : Thread Cert.UpAInIdeal.nD Cert.UpAInIdeal.τ).loc Cert.UpAInIdeal.main_v0_0) = v0 c
          ∧ r.2.mem ((c.tc : Thread Cert.UpAInIdeal.nD Cert.UpAInIdeal.τ).loc Cert.UpAInIdeal.main_v0_1) = v1 c
          ∧ r.2.mem ((c.tc : Thread Cert.UpAInIdeal.nD Cert.UpAInIdeal.τ).loc Cert.UpAInIdeal.main_v0_2) = v2 c
          ∧ r.2.mem ((c.tc : Thread Cert.UpAInIdeal.nD Cert.UpAInIdeal.τ).loc Cert.UpAInIdeal.main_v0_3) = v3 c
          ∧ r.2.mem ((c.tc : Thread Cert.UpAInIdeal.nD Cert.UpAInIdeal.τ).loc Cert.UpAInIdeal.main_arg0) = m ((c.tc : Thread Cert.UpAInIdeal.nD Cert.UpAInIdeal.τ).loc Cert.UpAInIdeal.main_arg0)
          ∧ r.2.mem ((c.tc : Thread Cert.UpAInIdeal.nD Cert.UpAInIdeal.τ).loc Cert.UpAInIdeal.main_arg1) = m ((c.tc : Thread Cert.UpAInIdeal.nD Cert.UpAInIdeal.τ).loc Cert.UpAInIdeal.main_arg1)
          ∧ r.2.mem ((c.tc : Thread Cert.UpAInIdeal.nD Cert.UpAInIdeal.τ).loc Cert.UpAInIdeal.main_arg2) = m ((c.tc : Thread Cert.UpAInIdeal.nD Cert.UpAInIdeal.τ).loc Cert.UpAInIdeal.main_arg2)
          ∧ r.2.mem ((c.tc : Thread Cert.UpAInIdeal.nD Cert.UpAInIdeal.τ).loc Cert.UpAInIdeal.main_arg3) = m ((c.tc : Thread Cert.UpAInIdeal.nD Cert.UpAInIdeal.τ).loc Cert.UpAInIdeal.main_arg3)
          ∧ r.2.mem ((c.tc : Thread Cert.UpAInIdeal.nD Cert.UpAInIdeal.τ).loc Cert.UpAInIdeal.main_arg4) = m ((c.tc : Thread Cert.UpAInIdeal.nD Cert.UpAInIdeal.τ).loc Cert.UpAInIdeal.main_arg4))
      ∧ θ_run (Cert.UpAInRefIdeal.defs (F := Ideal)) (onTc (τ := Cert.UpAInRefIdeal.τ) (Cert.UpAInRefIdeal.main (F := Ideal))) ⟨m', fun _ => 0, g'⟩ (fun r => ∀ c : Dev Cert.UpAInRefIdeal.nD,
          r.2.mem ((c.tc : Thread Cert.UpAInRefIdeal.nD Cert.UpAInRefIdeal.τ).loc Cert.UpAInRefIdeal.main_v6) = v0 c
          ∧ r.2.mem ((c.tc : Thread Cert.UpAInRefIdeal.nD Cert.UpAInRefIdeal.τ).loc Cert.UpAInRefIdeal.main_v30) = v1 c
          ∧ r.2.mem ((c.tc : Thread Cert.UpAInRefIdeal.nD Cert.UpAInRefIdeal.τ).loc Cert.UpAInRefIdeal.main_v11) = v2 c
          ∧ r.2.mem ((c.tc : Thread Cert.UpAInRefIdeal.nD Cert.UpAInRefIdeal.τ).loc Cert.UpAInRefIdeal.main_v17) = v3 c
          ∧ r.2.mem ((c.tc : Thread Cert.UpAInRefIdeal.nD Cert.UpAInRefIdeal.τ).loc Cert.UpAInRefIdeal.main_arg0) = m' ((c.tc : Thread Cert.UpAInRefIdeal.nD Cert.UpAInRefIdeal.τ).loc Cert.UpAInRefIdeal.main_arg0)
          ∧ r.2.mem ((c.tc : Thread Cert.UpAInRefIdeal.nD Cert.UpAInRefIdeal.τ).loc Cert.UpAInRefIdeal.main_arg1) = m' ((c.tc : Thread Cert.UpAInRefIdeal.nD Cert.UpAInRefIdeal.τ).loc Cert.UpAInRefIdeal.main_arg1)
          ∧ r.2.mem ((c.tc : Thread Cert.UpAInRefIdeal.nD Cert.UpAInRefIdeal.τ).loc Cert.UpAInRefIdeal.main_arg2) = m' ((c.tc : Thread Cert.UpAInRefIdeal.nD Cert.UpAInRefIdeal.τ).loc Cert.UpAInRefIdeal.main_arg2)
          ∧ r.2.mem ((c.tc : Thread Cert.UpAInRefIdeal.nD Cert.UpAInRefIdeal.τ).loc Cert.UpAInRefIdeal.main_arg3) = m' ((c.tc : Thread Cert.UpAInRefIdeal.nD Cert.UpAInRefIdeal.τ).loc Cert.UpAInRefIdeal.main_arg3)
          ∧ r.2.mem ((c.tc : Thread Cert.UpAInRefIdeal.nD Cert.UpAInRefIdeal.τ).loc Cert.UpAInRefIdeal.main_arg4) = m' ((c.tc : Thread Cert.UpAInRefIdeal.nD Cert.UpAInRefIdeal.τ).loc Cert.UpAInRefIdeal.main_arg4))

def preserves_UpVec_UpVecIdeal : Prop :=
  True

def algebraic_UpVecIdeal_UpVecRefIdeal [hUpVecIdeal : Cert.UpVecIdeal.Facts] [hUpVecRefIdeal : Cert.UpVecRefIdeal.Facts] : Prop :=
  ∀ (m : (ℓ : Loc Cert.UpVecIdeal.nD Cert.UpVecIdeal.τ Cert.UpVecIdeal.sig) → Buf (Elt Ideal) ℓ) (g : Dev Cert.UpVecIdeal.nD → PrngReg)
    (m' : (ℓ : Loc Cert.UpVecRefIdeal.nD Cert.UpVecRefIdeal.τ Cert.UpVecRefIdeal.sig) → Buf (Elt Ideal) ℓ) (g' : Dev Cert.UpVecRefIdeal.nD → PrngReg), Pre_UpVecIdeal m →
    (∀ c : Dev Cert.UpVecIdeal.nD,
      m' ((c.tc : Thread Cert.UpVecRefIdeal.nD Cert.UpVecRefIdeal.τ).loc Cert.UpVecRefIdeal.main_arg0) = m ((c.tc : Thread Cert.UpVecIdeal.nD Cert.UpVecIdeal.τ).loc Cert.UpVecIdeal.main_arg0)
      ∧ m' ((c.tc : Thread Cert.UpVecRefIdeal.nD Cert.UpVecRefIdeal.τ).loc Cert.UpVecRefIdeal.main_arg1) = m ((c.tc : Thread Cert.UpVecIdeal.nD Cert.UpVecIdeal.τ).loc Cert.UpVecIdeal.main_arg1)
      ∧ m' ((c.tc : Thread Cert.UpVecRefIdeal.nD Cert.UpVecRefIdeal.τ).loc Cert.UpVecRefIdeal.main_arg2) = m ((c.tc : Thread Cert.UpVecIdeal.nD Cert.UpVecIdeal.τ).loc Cert.UpVecIdeal.main_arg2)
      ∧ m' ((c.tc : Thread Cert.UpVecRefIdeal.nD Cert.UpVecRefIdeal.τ).loc Cert.UpVecRefIdeal.main_arg3) = m ((c.tc : Thread Cert.UpVecIdeal.nD Cert.UpVecIdeal.τ).loc Cert.UpVecIdeal.main_arg3)) →
    ∃ (v0 : (c : Dev Cert.UpVecIdeal.nD) → Buf (Elt Ideal) ((c.tc : Thread Cert.UpVecIdeal.nD Cert.UpVecIdeal.τ).loc Cert.UpVecIdeal.main_v0_0)) (v1 : (c : Dev Cert.UpVecIdeal.nD) → Buf (Elt Ideal) ((c.tc : Thread Cert.UpVecIdeal.nD Cert.UpVecIdeal.τ).loc Cert.UpVecIdeal.main_v0_1)) (v2 : (c : Dev Cert.UpVecIdeal.nD) → Buf (Elt Ideal) ((c.tc : Thread Cert.UpVecIdeal.nD Cert.UpVecIdeal.τ).loc Cert.UpVecIdeal.main_v0_2)) (v3 : (c : Dev Cert.UpVecIdeal.nD) → Buf (Elt Ideal) ((c.tc : Thread Cert.UpVecIdeal.nD Cert.UpVecIdeal.τ).loc Cert.UpVecIdeal.main_v0_3)),
      θ_run (Cert.UpVecIdeal.defs (F := Ideal)) (onTc (τ := Cert.UpVecIdeal.τ) (Cert.UpVecIdeal.main (F := Ideal))) ⟨m, fun _ => 0, g⟩ (fun r => ∀ c : Dev Cert.UpVecIdeal.nD,
          r.2.mem ((c.tc : Thread Cert.UpVecIdeal.nD Cert.UpVecIdeal.τ).loc Cert.UpVecIdeal.main_v0_0) = v0 c
          ∧ r.2.mem ((c.tc : Thread Cert.UpVecIdeal.nD Cert.UpVecIdeal.τ).loc Cert.UpVecIdeal.main_v0_1) = v1 c
          ∧ r.2.mem ((c.tc : Thread Cert.UpVecIdeal.nD Cert.UpVecIdeal.τ).loc Cert.UpVecIdeal.main_v0_2) = v2 c
          ∧ r.2.mem ((c.tc : Thread Cert.UpVecIdeal.nD Cert.UpVecIdeal.τ).loc Cert.UpVecIdeal.main_v0_3) = v3 c
          ∧ r.2.mem ((c.tc : Thread Cert.UpVecIdeal.nD Cert.UpVecIdeal.τ).loc Cert.UpVecIdeal.main_arg0) = m ((c.tc : Thread Cert.UpVecIdeal.nD Cert.UpVecIdeal.τ).loc Cert.UpVecIdeal.main_arg0)
          ∧ r.2.mem ((c.tc : Thread Cert.UpVecIdeal.nD Cert.UpVecIdeal.τ).loc Cert.UpVecIdeal.main_arg1) = m ((c.tc : Thread Cert.UpVecIdeal.nD Cert.UpVecIdeal.τ).loc Cert.UpVecIdeal.main_arg1)
          ∧ r.2.mem ((c.tc : Thread Cert.UpVecIdeal.nD Cert.UpVecIdeal.τ).loc Cert.UpVecIdeal.main_arg2) = m ((c.tc : Thread Cert.UpVecIdeal.nD Cert.UpVecIdeal.τ).loc Cert.UpVecIdeal.main_arg2)
          ∧ r.2.mem ((c.tc : Thread Cert.UpVecIdeal.nD Cert.UpVecIdeal.τ).loc Cert.UpVecIdeal.main_arg3) = m ((c.tc : Thread Cert.UpVecIdeal.nD Cert.UpVecIdeal.τ).loc Cert.UpVecIdeal.main_arg3))
      ∧ θ_run (Cert.UpVecRefIdeal.defs (F := Ideal)) (onTc (τ := Cert.UpVecRefIdeal.τ) (Cert.UpVecRefIdeal.main (F := Ideal))) ⟨m', fun _ => 0, g'⟩ (fun r => ∀ c : Dev Cert.UpVecRefIdeal.nD,
          r.2.mem ((c.tc : Thread Cert.UpVecRefIdeal.nD Cert.UpVecRefIdeal.τ).loc Cert.UpVecRefIdeal.main_v0) = v0 c
          ∧ r.2.mem ((c.tc : Thread Cert.UpVecRefIdeal.nD Cert.UpVecRefIdeal.τ).loc Cert.UpVecRefIdeal.main_v25) = v1 c
          ∧ r.2.mem ((c.tc : Thread Cert.UpVecRefIdeal.nD Cert.UpVecRefIdeal.τ).loc Cert.UpVecRefIdeal.main_v6) = v2 c
          ∧ r.2.mem ((c.tc : Thread Cert.UpVecRefIdeal.nD Cert.UpVecRefIdeal.τ).loc Cert.UpVecRefIdeal.main_v12) = v3 c
          ∧ r.2.mem ((c.tc : Thread Cert.UpVecRefIdeal.nD Cert.UpVecRefIdeal.τ).loc Cert.UpVecRefIdeal.main_arg0) = m' ((c.tc : Thread Cert.UpVecRefIdeal.nD Cert.UpVecRefIdeal.τ).loc Cert.UpVecRefIdeal.main_arg0)
          ∧ r.2.mem ((c.tc : Thread Cert.UpVecRefIdeal.nD Cert.UpVecRefIdeal.τ).loc Cert.UpVecRefIdeal.main_arg1) = m' ((c.tc : Thread Cert.UpVecRefIdeal.nD Cert.UpVecRefIdeal.τ).loc Cert.UpVecRefIdeal.main_arg1)
          ∧ r.2.mem ((c.tc : Thread Cert.UpVecRefIdeal.nD Cert.UpVecRefIdeal.τ).loc Cert.UpVecRefIdeal.main_arg2) = m' ((c.tc : Thread Cert.UpVecRefIdeal.nD Cert.UpVecRefIdeal.τ).loc Cert.UpVecRefIdeal.main_arg2)
          ∧ r.2.mem ((c.tc : Thread Cert.UpVecRefIdeal.nD Cert.UpVecRefIdeal.τ).loc Cert.UpVecRefIdeal.main_arg3) = m' ((c.tc : Thread Cert.UpVecRefIdeal.nD Cert.UpVecRefIdeal.τ).loc Cert.UpVecRefIdeal.main_arg3))

def preserves_UpConv_UpConvIdeal : Prop :=
  True

def algebraic_UpConvIdeal_UpConvRefIdeal [hUpConvIdeal : Cert.UpConvIdeal.Facts] [hUpConvRefIdeal : Cert.UpConvRefIdeal.Facts] : Prop :=
  ∀ (m : (ℓ : Loc Cert.UpConvIdeal.nD Cert.UpConvIdeal.τ Cert.UpConvIdeal.sig) → Buf (Elt Ideal) ℓ) (g : Dev Cert.UpConvIdeal.nD → PrngReg)
    (m' : (ℓ : Loc Cert.UpConvRefIdeal.nD Cert.UpConvRefIdeal.τ Cert.UpConvRefIdeal.sig) → Buf (Elt Ideal) ℓ) (g' : Dev Cert.UpConvRefIdeal.nD → PrngReg), Pre_UpConvIdeal m →
    (∀ c : Dev Cert.UpConvIdeal.nD,
      m' ((c.tc : Thread Cert.UpConvRefIdeal.nD Cert.UpConvRefIdeal.τ).loc Cert.UpConvRefIdeal.main_arg0) = m ((c.tc : Thread Cert.UpConvIdeal.nD Cert.UpConvIdeal.τ).loc Cert.UpConvIdeal.main_arg0)
      ∧ m' ((c.tc : Thread Cert.UpConvRefIdeal.nD Cert.UpConvRefIdeal.τ).loc Cert.UpConvRefIdeal.main_arg1) = m ((c.tc : Thread Cert.UpConvIdeal.nD Cert.UpConvIdeal.τ).loc Cert.UpConvIdeal.main_arg1)
      ∧ m' ((c.tc : Thread Cert.UpConvRefIdeal.nD Cert.UpConvRefIdeal.τ).loc Cert.UpConvRefIdeal.main_arg2) = m ((c.tc : Thread Cert.UpConvIdeal.nD Cert.UpConvIdeal.τ).loc Cert.UpConvIdeal.main_arg2)
      ∧ m' ((c.tc : Thread Cert.UpConvRefIdeal.nD Cert.UpConvRefIdeal.τ).loc Cert.UpConvRefIdeal.main_arg3) = m ((c.tc : Thread Cert.UpConvIdeal.nD Cert.UpConvIdeal.τ).loc Cert.UpConvIdeal.main_arg3)) →
    ∃ (v0 : (c : Dev Cert.UpConvIdeal.nD) → Buf (Elt Ideal) ((c.tc : Thread Cert.UpConvIdeal.nD Cert.UpConvIdeal.τ).loc Cert.UpConvIdeal.main_v0_0)) (v1 : (c : Dev Cert.UpConvIdeal.nD) → Buf (Elt Ideal) ((c.tc : Thread Cert.UpConvIdeal.nD Cert.UpConvIdeal.τ).loc Cert.UpConvIdeal.main_v0_1)) (v2 : (c : Dev Cert.UpConvIdeal.nD) → Buf (Elt Ideal) ((c.tc : Thread Cert.UpConvIdeal.nD Cert.UpConvIdeal.τ).loc Cert.UpConvIdeal.main_v0_2)),
      θ_run (Cert.UpConvIdeal.defs (F := Ideal)) (onTc (τ := Cert.UpConvIdeal.τ) (Cert.UpConvIdeal.main (F := Ideal))) ⟨m, fun _ => 0, g⟩ (fun r => ∀ c : Dev Cert.UpConvIdeal.nD,
          r.2.mem ((c.tc : Thread Cert.UpConvIdeal.nD Cert.UpConvIdeal.τ).loc Cert.UpConvIdeal.main_v0_0) = v0 c
          ∧ r.2.mem ((c.tc : Thread Cert.UpConvIdeal.nD Cert.UpConvIdeal.τ).loc Cert.UpConvIdeal.main_v0_1) = v1 c
          ∧ r.2.mem ((c.tc : Thread Cert.UpConvIdeal.nD Cert.UpConvIdeal.τ).loc Cert.UpConvIdeal.main_v0_2) = v2 c
          ∧ r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
          ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
          ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
          ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ θ_run (Cert.UpConvRefIdeal.defs (F := Ideal)) (onTc (τ := Cert.UpConvRefIdeal.τ) (Cert.UpConvRefIdeal.main (F := Ideal))) ⟨m', fun _ => 0, g'⟩ (fun r => ∀ c : Dev Cert.UpConvRefIdeal.nD,
          r.2.mem ((c.tc : Thread Cert.UpConvRefIdeal.nD Cert.UpConvRefIdeal.τ).loc Cert.UpConvRefIdeal.main_v23) = v0 c
          ∧ r.2.mem ((c.tc : Thread Cert.UpConvRefIdeal.nD Cert.UpConvRefIdeal.τ).loc Cert.UpConvRefIdeal.main_v4) = v1 c
          ∧ r.2.mem ((c.tc : Thread Cert.UpConvRefIdeal.nD Cert.UpConvRefIdeal.τ).loc Cert.UpConvRefIdeal.main_v10) = v2 c
          ∧ r.2.mem ((c.tc : Thread Cert.UpConvRefIdeal.nD Cert.UpConvRefIdeal.τ).loc Cert.UpConvRefIdeal.main_arg0) = m' ((c.tc : Thread Cert.UpConvRefIdeal.nD Cert.UpConvRefIdeal.τ).loc Cert.UpConvRefIdeal.main_arg0)
          ∧ r.2.mem ((c.tc : Thread Cert.UpConvRefIdeal.nD Cert.UpConvRefIdeal.τ).loc Cert.UpConvRefIdeal.main_arg1) = m' ((c.tc : Thread Cert.UpConvRefIdeal.nD Cert.UpConvRefIdeal.τ).loc Cert.UpConvRefIdeal.main_arg1)
          ∧ r.2.mem ((c.tc : Thread Cert.UpConvRefIdeal.nD Cert.UpConvRefIdeal.τ).loc Cert.UpConvRefIdeal.main_arg2) = m' ((c.tc : Thread Cert.UpConvRefIdeal.nD Cert.UpConvRefIdeal.τ).loc Cert.UpConvRefIdeal.main_arg2)
          ∧ r.2.mem ((c.tc : Thread Cert.UpConvRefIdeal.nD Cert.UpConvRefIdeal.τ).loc Cert.UpConvRefIdeal.main_arg3) = m' ((c.tc : Thread Cert.UpConvRefIdeal.nD Cert.UpConvRefIdeal.τ).loc Cert.UpConvRefIdeal.main_arg3))

def preserves_BConv_BConvIdeal : Prop :=
  True

def algebraic_BConvIdeal_BConvRefIdeal [hBConvIdeal : Cert.BConvIdeal.Facts] [hBConvRefIdeal : Cert.BConvRefIdeal.Facts] : Prop :=
  ∀ (m : (ℓ : Loc Cert.BConvIdeal.nD Cert.BConvIdeal.τ Cert.BConvIdeal.sig) → Buf (Elt Ideal) ℓ) (g : Dev Cert.BConvIdeal.nD → PrngReg)
    (m' : (ℓ : Loc Cert.BConvRefIdeal.nD Cert.BConvRefIdeal.τ Cert.BConvRefIdeal.sig) → Buf (Elt Ideal) ℓ) (g' : Dev Cert.BConvRefIdeal.nD → PrngReg), Pre_BConvIdeal m →
    (∀ c : Dev Cert.BConvIdeal.nD,
      m' ((c.tc : Thread Cert.BConvRefIdeal.nD Cert.BConvRefIdeal.τ).loc Cert.BConvRefIdeal.main_arg0) = m ((c.tc : Thread Cert.BConvIdeal.nD Cert.BConvIdeal.τ).loc Cert.BConvIdeal.main_arg0)
      ∧ m' ((c.tc : Thread Cert.BConvRefIdeal.nD Cert.BConvRefIdeal.τ).loc Cert.BConvRefIdeal.main_arg1) = m ((c.tc : Thread Cert.BConvIdeal.nD Cert.BConvIdeal.τ).loc Cert.BConvIdeal.main_arg1)) →
    ∃ (v0 : (c : Dev Cert.BConvIdeal.nD) → Buf (Elt Ideal) ((c.tc : Thread Cert.BConvIdeal.nD Cert.BConvIdeal.τ).loc Cert.BConvIdeal.main_v0)),
      θ_run (Cert.BConvIdeal.defs (F := Ideal)) (onTc (τ := Cert.BConvIdeal.τ) (Cert.BConvIdeal.main (F := Ideal))) ⟨m, fun _ => 0, g⟩ (fun r => ∀ c : Dev Cert.BConvIdeal.nD,
          r.2.mem ((c.tc : Thread Cert.BConvIdeal.nD Cert.BConvIdeal.τ).loc Cert.BConvIdeal.main_v0) = v0 c
          ∧ r.2.mem ((c.tc : Thread Cert.BConvIdeal.nD Cert.BConvIdeal.τ).loc Cert.BConvIdeal.main_arg0) = m ((c.tc : Thread Cert.BConvIdeal.nD Cert.BConvIdeal.τ).loc Cert.BConvIdeal.main_arg0)
          ∧ r.2.mem ((c.tc : Thread Cert.BConvIdeal.nD Cert.BConvIdeal.τ).loc Cert.BConvIdeal.main_arg1) = m ((c.tc : Thread Cert.BConvIdeal.nD Cert.BConvIdeal.τ).loc Cert.BConvIdeal.main_arg1))
      ∧ θ_run (Cert.BConvRefIdeal.defs (F := Ideal)) (onTc (τ := Cert.BConvRefIdeal.τ) (Cert.BConvRefIdeal.main (F := Ideal))) ⟨m', fun _ => 0, g'⟩ (fun r => ∀ c : Dev Cert.BConvRefIdeal.nD,
          r.2.mem ((c.tc : Thread Cert.BConvRefIdeal.nD Cert.BConvRefIdeal.τ).loc Cert.BConvRefIdeal.main_v23) = v0 c
          ∧ r.2.mem ((c.tc : Thread Cert.BConvRefIdeal.nD Cert.BConvRefIdeal.τ).loc Cert.BConvRefIdeal.main_arg0) = m' ((c.tc : Thread Cert.BConvRefIdeal.nD Cert.BConvRefIdeal.τ).loc Cert.BConvRefIdeal.main_arg0)
          ∧ r.2.mem ((c.tc : Thread Cert.BConvRefIdeal.nD Cert.BConvRefIdeal.τ).loc Cert.BConvRefIdeal.main_arg1) = m' ((c.tc : Thread Cert.BConvRefIdeal.nD Cert.BConvRefIdeal.τ).loc Cert.BConvRefIdeal.main_arg1))

def preserves_Modul_ModulIdeal : Prop :=
  True

def algebraic_ModulIdeal_ModulRefIdeal [hModulIdeal : Cert.ModulIdeal.Facts] [hModulRefIdeal : Cert.ModulRefIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulRefIdeal.nD Cert.ModulRefIdeal.τ Cert.ModulRefIdeal.sig) → Buf (Elt Ideal) ℓ) (g' : Dev Cert.ModulRefIdeal.nD → PrngReg), Pre_ModulIdeal m →
    (∀ c : Dev Cert.ModulIdeal.nD,
      m' ((c.tc : Thread Cert.ModulRefIdeal.nD Cert.ModulRefIdeal.τ).loc Cert.ModulRefIdeal.main_arg0) = m ((c.tc : Thread Cert.ModulIdeal.nD Cert.ModulIdeal.τ).loc Cert.ModulIdeal.main_arg0)
      ∧ m' ((c.tc : Thread Cert.ModulRefIdeal.nD Cert.ModulRefIdeal.τ).loc Cert.ModulRefIdeal.main_arg1) = m ((c.tc : Thread Cert.ModulIdeal.nD Cert.ModulIdeal.τ).loc Cert.ModulIdeal.main_arg1)
      ∧ m' ((c.tc : Thread Cert.ModulRefIdeal.nD Cert.ModulRefIdeal.τ).loc Cert.ModulRefIdeal.main_arg2) = m ((c.tc : Thread Cert.ModulIdeal.nD Cert.ModulIdeal.τ).loc Cert.ModulIdeal.main_arg2)) →
    ∃ (v0 : (c : Dev Cert.ModulIdeal.nD) → Buf (Elt Ideal) ((c.tc : Thread Cert.ModulIdeal.nD Cert.ModulIdeal.τ).loc Cert.ModulIdeal.main_v1)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v1) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ θ_run (Cert.ModulRefIdeal.defs (F := Ideal)) (onTc (τ := Cert.ModulRefIdeal.τ) (Cert.ModulRefIdeal.main (F := Ideal))) ⟨m', fun _ => 0, g'⟩ (fun r => ∀ c : Dev Cert.ModulRefIdeal.nD,
          r.2.mem ((c.tc : Thread Cert.ModulRefIdeal.nD Cert.ModulRefIdeal.τ).loc Cert.ModulRefIdeal.main_v40) = v0 c
          ∧ r.2.mem ((c.tc : Thread Cert.ModulRefIdeal.nD Cert.ModulRefIdeal.τ).loc Cert.ModulRefIdeal.main_arg0) = m' ((c.tc : Thread Cert.ModulRefIdeal.nD Cert.ModulRefIdeal.τ).loc Cert.ModulRefIdeal.main_arg0)
          ∧ r.2.mem ((c.tc : Thread Cert.ModulRefIdeal.nD Cert.ModulRefIdeal.τ).loc Cert.ModulRefIdeal.main_arg1) = m' ((c.tc : Thread Cert.ModulRefIdeal.nD Cert.ModulRefIdeal.τ).loc Cert.ModulRefIdeal.main_arg1)
          ∧ r.2.mem ((c.tc : Thread Cert.ModulRefIdeal.nD Cert.ModulRefIdeal.τ).loc Cert.ModulRefIdeal.main_arg2) = m' ((c.tc : Thread Cert.ModulRefIdeal.nD Cert.ModulRefIdeal.τ).loc Cert.ModulRefIdeal.main_arg2))

def preserves_ModUp_ModUpIdeal : Prop :=
  True

def algebraic_ModUpIdeal_ModUpRefIdeal [hModUpIdeal : Cert.ModUpIdeal.Facts] [hModUpRefIdeal : Cert.ModUpRefIdeal.Facts] : Prop :=
  ∀ (m : (ℓ : Loc Cert.ModUpIdeal.nD Cert.ModUpIdeal.τ Cert.ModUpIdeal.sig) → Buf (Elt Ideal) ℓ) (g : Dev Cert.ModUpIdeal.nD → PrngReg)
    (m' : (ℓ : Loc Cert.ModUpRefIdeal.nD Cert.ModUpRefIdeal.τ Cert.ModUpRefIdeal.sig) → Buf (Elt Ideal) ℓ) (g' : Dev Cert.ModUpRefIdeal.nD → PrngReg), Pre_ModUpIdeal m →
    (∀ c : Dev Cert.ModUpIdeal.nD,
      m' ((c.tc : Thread Cert.ModUpRefIdeal.nD Cert.ModUpRefIdeal.τ).loc Cert.ModUpRefIdeal.main_arg0) = m ((c.tc : Thread Cert.ModUpIdeal.nD Cert.ModUpIdeal.τ).loc Cert.ModUpIdeal.main_arg0)
      ∧ m' ((c.tc : Thread Cert.ModUpRefIdeal.nD Cert.ModUpRefIdeal.τ).loc Cert.ModUpRefIdeal.main_arg1) = m ((c.tc : Thread Cert.ModUpIdeal.nD Cert.ModUpIdeal.τ).loc Cert.ModUpIdeal.main_arg1)
      ∧ m' ((c.tc : Thread Cert.ModUpRefIdeal.nD Cert.ModUpRefIdeal.τ).loc Cert.ModUpRefIdeal.main_arg2) = m ((c.tc : Thread Cert.ModUpIdeal.nD Cert.ModUpIdeal.τ).loc Cert.ModUpIdeal.main_arg2)
      ∧ m' ((c.tc : Thread Cert.ModUpRefIdeal.nD Cert.ModUpRefIdeal.τ).loc Cert.ModUpRefIdeal.main_arg3) = m ((c.tc : Thread Cert.ModUpIdeal.nD Cert.ModUpIdeal.τ).loc Cert.ModUpIdeal.main_arg3)
      ∧ m' ((c.tc : Thread Cert.ModUpRefIdeal.nD Cert.ModUpRefIdeal.τ).loc Cert.ModUpRefIdeal.main_arg4) = m ((c.tc : Thread Cert.ModUpIdeal.nD Cert.ModUpIdeal.τ).loc Cert.ModUpIdeal.main_arg4)) →
    ∃ (v0 : (c : Dev Cert.ModUpIdeal.nD) → Buf (Elt Ideal) ((c.tc : Thread Cert.ModUpIdeal.nD Cert.ModUpIdeal.τ).loc Cert.ModUpIdeal.main_v0_0)) (v1 : (c : Dev Cert.ModUpIdeal.nD) → Buf (Elt Ideal) ((c.tc : Thread Cert.ModUpIdeal.nD Cert.ModUpIdeal.τ).loc Cert.ModUpIdeal.main_v0_1)) (v2 : (c : Dev Cert.ModUpIdeal.nD) → Buf (Elt Ideal) ((c.tc : Thread Cert.ModUpIdeal.nD Cert.ModUpIdeal.τ).loc Cert.ModUpIdeal.main_v0_2)) (v3 : (c : Dev Cert.ModUpIdeal.nD) → Buf (Elt Ideal) ((c.tc : Thread Cert.ModUpIdeal.nD Cert.ModUpIdeal.τ).loc Cert.ModUpIdeal.main_v0_3)),
      θ_run (Cert.ModUpIdeal.defs (F := Ideal)) (onTc (τ := Cert.ModUpIdeal.τ) (Cert.ModUpIdeal.main (F := Ideal))) ⟨m, fun _ => 0, g⟩ (fun r => ∀ c : Dev Cert.ModUpIdeal.nD,
          r.2.mem ((c.tc : Thread Cert.ModUpIdeal.nD Cert.ModUpIdeal.τ).loc Cert.ModUpIdeal.main_v0_0) = v0 c
          ∧ r.2.mem ((c.tc : Thread Cert.ModUpIdeal.nD Cert.ModUpIdeal.τ).loc Cert.ModUpIdeal.main_v0_1) = v1 c
          ∧ r.2.mem ((c.tc : Thread Cert.ModUpIdeal.nD Cert.ModUpIdeal.τ).loc Cert.ModUpIdeal.main_v0_2) = v2 c
          ∧ r.2.mem ((c.tc : Thread Cert.ModUpIdeal.nD Cert.ModUpIdeal.τ).loc Cert.ModUpIdeal.main_v0_3) = v3 c
          ∧ r.2.mem ((c.tc : Thread Cert.ModUpIdeal.nD Cert.ModUpIdeal.τ).loc Cert.ModUpIdeal.main_arg0) = m ((c.tc : Thread Cert.ModUpIdeal.nD Cert.ModUpIdeal.τ).loc Cert.ModUpIdeal.main_arg0)
          ∧ r.2.mem ((c.tc : Thread Cert.ModUpIdeal.nD Cert.ModUpIdeal.τ).loc Cert.ModUpIdeal.main_arg1) = m ((c.tc : Thread Cert.ModUpIdeal.nD Cert.ModUpIdeal.τ).loc Cert.ModUpIdeal.main_arg1)
          ∧ r.2.mem ((c.tc : Thread Cert.ModUpIdeal.nD Cert.ModUpIdeal.τ).loc Cert.ModUpIdeal.main_arg2) = m ((c.tc : Thread Cert.ModUpIdeal.nD Cert.ModUpIdeal.τ).loc Cert.ModUpIdeal.main_arg2)
          ∧ r.2.mem ((c.tc : Thread Cert.ModUpIdeal.nD Cert.ModUpIdeal.τ).loc Cert.ModUpIdeal.main_arg3) = m ((c.tc : Thread Cert.ModUpIdeal.nD Cert.ModUpIdeal.τ).loc Cert.ModUpIdeal.main_arg3)
          ∧ r.2.mem ((c.tc : Thread Cert.ModUpIdeal.nD Cert.ModUpIdeal.τ).loc Cert.ModUpIdeal.main_arg4) = m ((c.tc : Thread Cert.ModUpIdeal.nD Cert.ModUpIdeal.τ).loc Cert.ModUpIdeal.main_arg4))
      ∧ θ_run (Cert.ModUpRefIdeal.defs (F := Ideal)) (onTc (τ := Cert.ModUpRefIdeal.τ) (Cert.ModUpRefIdeal.main (F := Ideal))) ⟨m', fun _ => 0, g'⟩ (fun r => ∀ c : Dev Cert.ModUpRefIdeal.nD,
          r.2.mem ((c.tc : Thread Cert.ModUpRefIdeal.nD Cert.ModUpRefIdeal.τ).loc Cert.ModUpRefIdeal.main_v6) = v0 c
          ∧ r.2.mem ((c.tc : Thread Cert.ModUpRefIdeal.nD Cert.ModUpRefIdeal.τ).loc Cert.ModUpRefIdeal.main_v30) = v1 c
          ∧ r.2.mem ((c.tc : Thread Cert.ModUpRefIdeal.nD Cert.ModUpRefIdeal.τ).loc Cert.ModUpRefIdeal.main_v11) = v2 c
          ∧ r.2.mem ((c.tc : Thread Cert.ModUpRefIdeal.nD Cert.ModUpRefIdeal.τ).loc Cert.ModUpRefIdeal.main_v17) = v3 c
          ∧ r.2.mem ((c.tc : Thread Cert.ModUpRefIdeal.nD Cert.ModUpRefIdeal.τ).loc Cert.ModUpRefIdeal.main_arg0) = m' ((c.tc : Thread Cert.ModUpRefIdeal.nD Cert.ModUpRefIdeal.τ).loc Cert.ModUpRefIdeal.main_arg0)
          ∧ r.2.mem ((c.tc : Thread Cert.ModUpRefIdeal.nD Cert.ModUpRefIdeal.τ).loc Cert.ModUpRefIdeal.main_arg1) = m' ((c.tc : Thread Cert.ModUpRefIdeal.nD Cert.ModUpRefIdeal.τ).loc Cert.ModUpRefIdeal.main_arg1)
          ∧ r.2.mem ((c.tc : Thread Cert.ModUpRefIdeal.nD Cert.ModUpRefIdeal.τ).loc Cert.ModUpRefIdeal.main_arg2) = m' ((c.tc : Thread Cert.ModUpRefIdeal.nD Cert.ModUpRefIdeal.τ).loc Cert.ModUpRefIdeal.main_arg2)
          ∧ r.2.mem ((c.tc : Thread Cert.ModUpRefIdeal.nD Cert.ModUpRefIdeal.τ).loc Cert.ModUpRefIdeal.main_arg3) = m' ((c.tc : Thread Cert.ModUpRefIdeal.nD Cert.ModUpRefIdeal.τ).loc Cert.ModUpRefIdeal.main_arg3)
          ∧ r.2.mem ((c.tc : Thread Cert.ModUpRefIdeal.nD Cert.ModUpRefIdeal.τ).loc Cert.ModUpRefIdeal.main_arg4) = m' ((c.tc : Thread Cert.ModUpRefIdeal.nD Cert.ModUpRefIdeal.τ).loc Cert.ModUpRefIdeal.main_arg4))

def Claim : Prop :=
  ∃ (hKernel : Cert.Kernel.Facts) (hKernelIdeal : Cert.KernelIdeal.Facts) (hReferenceIdeal : Cert.ReferenceIdeal.Facts) (hFDownT : Cert.FDownT.Facts) (hFDownTIdeal : Cert.FDownTIdeal.Facts) (hFDownTRefIdeal : Cert.FDownTRefIdeal.Facts) (hFDownG : Cert.FDownG.Facts) (hFDownGIdeal : Cert.FDownGIdeal.Facts) (hFDownGRefIdeal : Cert.FDownGRefIdeal.Facts) (hFUpT : Cert.FUpT.Facts) (hFUpTIdeal : Cert.FUpTIdeal.Facts) (hFUpTRefIdeal : Cert.FUpTRefIdeal.Facts) (hFUpG : Cert.FUpG.Facts) (hFUpGIdeal : Cert.FUpGIdeal.Facts) (hFUpGRefIdeal : Cert.FUpGRefIdeal.Facts) (hBOutT : Cert.BOutT.Facts) (hBOutTIdeal : Cert.BOutTIdeal.Facts) (hBOutTRefIdeal : Cert.BOutTRefIdeal.Facts) (hBOutG : Cert.BOutG.Facts) (hBOutGIdeal : Cert.BOutGIdeal.Facts) (hBOutGRefIdeal : Cert.BOutGRefIdeal.Facts) (hBInT : Cert.BInT.Facts) (hBInTIdeal : Cert.BInTIdeal.Facts) (hBInTRefIdeal : Cert.BInTRefIdeal.Facts) (hBInG : Cert.BInG.Facts) (hBInGIdeal : Cert.BInGIdeal.Facts) (hBInGRefIdeal : Cert.BInGRefIdeal.Facts) (hAInT : Cert.AInT.Facts) (hAInTIdeal : Cert.AInTIdeal.Facts) (hAInTRefIdeal : Cert.AInTRefIdeal.Facts) (hAInG : Cert.AInG.Facts) (hAInGIdeal : Cert.AInGIdeal.Facts) (hAInGRefIdeal : Cert.AInGRefIdeal.Facts) (hFUp : Cert.FUp.Facts) (hFUpIdeal : Cert.FUpIdeal.Facts) (hFUpRefIdeal : Cert.FUpRefIdeal.Facts) (hFDown : Cert.FDown.Facts) (hFDownIdeal : Cert.FDownIdeal.Facts) (hFDownRefIdeal : Cert.FDownRefIdeal.Facts) (hBIn : Cert.BIn.Facts) (hBInIdeal : Cert.BInIdeal.Facts) (hBInRefIdeal : Cert.BInRefIdeal.Facts) (hBOut : Cert.BOut.Facts) (hBOutIdeal : Cert.BOutIdeal.Facts) (hBOutRefIdeal : Cert.BOutRefIdeal.Facts) (hAIn : Cert.AIn.Facts) (hAInIdeal : Cert.AInIdeal.Facts) (hAInRefIdeal : Cert.AInRefIdeal.Facts) (hAOut : Cert.AOut.Facts) (hAOutIdeal : Cert.AOutIdeal.Facts) (hAOutRefIdeal : Cert.AOutRefIdeal.Facts) (hBwdMid : Cert.BwdMid.Facts) (hBwdMidIdeal : Cert.BwdMidIdeal.Facts) (hBwdMidRefIdeal : Cert.BwdMidRefIdeal.Facts) (hBwdIn : Cert.BwdIn.Facts) (hBwdInIdeal : Cert.BwdInIdeal.Facts) (hBwdInRefIdeal : Cert.BwdInRefIdeal.Facts) (hLoss : Cert.Loss.Facts) (hLossIdeal : Cert.LossIdeal.Facts) (hLossRefIdeal : Cert.LossRefIdeal.Facts) (hFwdIn : Cert.FwdIn.Facts) (hFwdInIdeal : Cert.FwdInIdeal.Facts) (hFwdInRefIdeal : Cert.FwdInRefIdeal.Facts) (hFwdMid : Cert.FwdMid.Facts) (hFwdMidIdeal : Cert.FwdMidIdeal.Facts) (hFwdMidRefIdeal : Cert.FwdMidRefIdeal.Facts) (hUpF1 : Cert.UpF1.Facts) (hUpF1Ideal : Cert.UpF1Ideal.Facts) (hUpF1RefIdeal : Cert.UpF1RefIdeal.Facts) (hUpF2 : Cert.UpF2.Facts) (hUpF2Ideal : Cert.UpF2Ideal.Facts) (hUpF2RefIdeal : Cert.UpF2RefIdeal.Facts) (hUpBIn : Cert.UpBIn.Facts) (hUpBInIdeal : Cert.UpBInIdeal.Facts) (hUpBInRefIdeal : Cert.UpBInRefIdeal.Facts) (hUpOut : Cert.UpOut.Facts) (hUpOutIdeal : Cert.UpOutIdeal.Facts) (hUpOutRefIdeal : Cert.UpOutRefIdeal.Facts) (hUpAIn : Cert.UpAIn.Facts) (hUpAInIdeal : Cert.UpAInIdeal.Facts) (hUpAInRefIdeal : Cert.UpAInRefIdeal.Facts) (hUpVec : Cert.UpVec.Facts) (hUpVecIdeal : Cert.UpVecIdeal.Facts) (hUpVecRefIdeal : Cert.UpVecRefIdeal.Facts) (hUpConv : Cert.UpConv.Facts) (hUpConvIdeal : Cert.UpConvIdeal.Facts) (hUpConvRefIdeal : Cert.UpConvRefIdeal.Facts) (hBConv : Cert.BConv.Facts) (hBConvIdeal : Cert.BConvIdeal.Facts) (hBConvRefIdeal : Cert.BConvRefIdeal.Facts) (hModul : Cert.Modul.Facts) (hModulIdeal : Cert.ModulIdeal.Facts) (hModulRefIdeal : Cert.ModulRefIdeal.Facts) (hModUp : Cert.ModUp.Facts) (hModUpIdeal : Cert.ModUpIdeal.Facts) (hModUpRefIdeal : Cert.ModUpRefIdeal.Facts),
    quiescent_Kernel (hKernel := hKernel)
    ∧ quiescent_KernelIdeal (hKernelIdeal := hKernelIdeal)
    ∧ quiescent_ReferenceIdeal (hReferenceIdeal := hReferenceIdeal)
    ∧ quiescent_FDownT (hFDownT := hFDownT)
    ∧ quiescent_FDownTIdeal (hFDownTIdeal := hFDownTIdeal)
    ∧ quiescent_FDownTRefIdeal (hFDownTRefIdeal := hFDownTRefIdeal)
    ∧ quiescent_FDownG (hFDownG := hFDownG)
    ∧ quiescent_FDownGIdeal (hFDownGIdeal := hFDownGIdeal)
    ∧ quiescent_FDownGRefIdeal (hFDownGRefIdeal := hFDownGRefIdeal)
    ∧ quiescent_FUpT (hFUpT := hFUpT)
    ∧ quiescent_FUpTIdeal (hFUpTIdeal := hFUpTIdeal)
    ∧ quiescent_FUpTRefIdeal (hFUpTRefIdeal := hFUpTRefIdeal)
    ∧ quiescent_FUpG (hFUpG := hFUpG)
    ∧ quiescent_FUpGIdeal (hFUpGIdeal := hFUpGIdeal)
    ∧ quiescent_FUpGRefIdeal (hFUpGRefIdeal := hFUpGRefIdeal)
    ∧ quiescent_BOutT (hBOutT := hBOutT)
    ∧ quiescent_BOutTIdeal (hBOutTIdeal := hBOutTIdeal)
    ∧ quiescent_BOutTRefIdeal (hBOutTRefIdeal := hBOutTRefIdeal)
    ∧ quiescent_BOutG (hBOutG := hBOutG)
    ∧ quiescent_BOutGIdeal (hBOutGIdeal := hBOutGIdeal)
    ∧ quiescent_BOutGRefIdeal (hBOutGRefIdeal := hBOutGRefIdeal)
    ∧ quiescent_BInT (hBInT := hBInT)
    ∧ quiescent_BInTIdeal (hBInTIdeal := hBInTIdeal)
    ∧ quiescent_BInTRefIdeal (hBInTRefIdeal := hBInTRefIdeal)
    ∧ quiescent_BInG (hBInG := hBInG)
    ∧ quiescent_BInGIdeal (hBInGIdeal := hBInGIdeal)
    ∧ quiescent_BInGRefIdeal (hBInGRefIdeal := hBInGRefIdeal)
    ∧ quiescent_AInT (hAInT := hAInT)
    ∧ quiescent_AInTIdeal (hAInTIdeal := hAInTIdeal)
    ∧ quiescent_AInTRefIdeal (hAInTRefIdeal := hAInTRefIdeal)
    ∧ quiescent_AInG (hAInG := hAInG)
    ∧ quiescent_AInGIdeal (hAInGIdeal := hAInGIdeal)
    ∧ quiescent_AInGRefIdeal (hAInGRefIdeal := hAInGRefIdeal)
    ∧ quiescent_FUp (hFUp := hFUp)
    ∧ quiescent_FUpIdeal (hFUpIdeal := hFUpIdeal)
    ∧ quiescent_FUpRefIdeal (hFUpRefIdeal := hFUpRefIdeal)
    ∧ quiescent_FDown (hFDown := hFDown)
    ∧ quiescent_FDownIdeal (hFDownIdeal := hFDownIdeal)
    ∧ quiescent_FDownRefIdeal (hFDownRefIdeal := hFDownRefIdeal)
    ∧ quiescent_BIn (hBIn := hBIn)
    ∧ quiescent_BInIdeal (hBInIdeal := hBInIdeal)
    ∧ quiescent_BInRefIdeal (hBInRefIdeal := hBInRefIdeal)
    ∧ quiescent_BOut (hBOut := hBOut)
    ∧ quiescent_BOutIdeal (hBOutIdeal := hBOutIdeal)
    ∧ quiescent_BOutRefIdeal (hBOutRefIdeal := hBOutRefIdeal)
    ∧ quiescent_AIn (hAIn := hAIn)
    ∧ quiescent_AInIdeal (hAInIdeal := hAInIdeal)
    ∧ quiescent_AInRefIdeal (hAInRefIdeal := hAInRefIdeal)
    ∧ quiescent_AOut (hAOut := hAOut)
    ∧ quiescent_AOutIdeal (hAOutIdeal := hAOutIdeal)
    ∧ quiescent_AOutRefIdeal (hAOutRefIdeal := hAOutRefIdeal)
    ∧ quiescent_BwdMid (hBwdMid := hBwdMid)
    ∧ quiescent_BwdMidIdeal (hBwdMidIdeal := hBwdMidIdeal)
    ∧ quiescent_BwdMidRefIdeal (hBwdMidRefIdeal := hBwdMidRefIdeal)
    ∧ quiescent_BwdIn (hBwdIn := hBwdIn)
    ∧ quiescent_BwdInIdeal (hBwdInIdeal := hBwdInIdeal)
    ∧ quiescent_BwdInRefIdeal (hBwdInRefIdeal := hBwdInRefIdeal)
    ∧ quiescent_Loss (hLoss := hLoss)
    ∧ quiescent_LossIdeal (hLossIdeal := hLossIdeal)
    ∧ quiescent_LossRefIdeal (hLossRefIdeal := hLossRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdMid (hFwdMid := hFwdMid)
    ∧ quiescent_FwdMidIdeal (hFwdMidIdeal := hFwdMidIdeal)
    ∧ quiescent_FwdMidRefIdeal (hFwdMidRefIdeal := hFwdMidRefIdeal)
    ∧ quiescent_UpF1 (hUpF1 := hUpF1)
    ∧ quiescent_UpF1Ideal (hUpF1Ideal := hUpF1Ideal)
    ∧ quiescent_UpF1RefIdeal (hUpF1RefIdeal := hUpF1RefIdeal)
    ∧ quiescent_UpF2 (hUpF2 := hUpF2)
    ∧ quiescent_UpF2Ideal (hUpF2Ideal := hUpF2Ideal)
    ∧ quiescent_UpF2RefIdeal (hUpF2RefIdeal := hUpF2RefIdeal)
    ∧ quiescent_UpBIn (hUpBIn := hUpBIn)
    ∧ quiescent_UpBInIdeal (hUpBInIdeal := hUpBInIdeal)
    ∧ quiescent_UpBInRefIdeal (hUpBInRefIdeal := hUpBInRefIdeal)
    ∧ quiescent_UpOut (hUpOut := hUpOut)
    ∧ quiescent_UpOutIdeal (hUpOutIdeal := hUpOutIdeal)
    ∧ quiescent_UpOutRefIdeal (hUpOutRefIdeal := hUpOutRefIdeal)
    ∧ quiescent_UpAIn (hUpAIn := hUpAIn)
    ∧ quiescent_UpAInIdeal (hUpAInIdeal := hUpAInIdeal)
    ∧ quiescent_UpAInRefIdeal (hUpAInRefIdeal := hUpAInRefIdeal)
    ∧ quiescent_UpVec (hUpVec := hUpVec)
    ∧ quiescent_UpVecIdeal (hUpVecIdeal := hUpVecIdeal)
    ∧ quiescent_UpVecRefIdeal (hUpVecRefIdeal := hUpVecRefIdeal)
    ∧ quiescent_UpConv (hUpConv := hUpConv)
    ∧ quiescent_UpConvIdeal (hUpConvIdeal := hUpConvIdeal)
    ∧ quiescent_UpConvRefIdeal (hUpConvRefIdeal := hUpConvRefIdeal)
    ∧ quiescent_BConv (hBConv := hBConv)
    ∧ quiescent_BConvIdeal (hBConvIdeal := hBConvIdeal)
    ∧ quiescent_BConvRefIdeal (hBConvRefIdeal := hBConvRefIdeal)
    ∧ quiescent_Modul (hModul := hModul)
    ∧ quiescent_ModulIdeal (hModulIdeal := hModulIdeal)
    ∧ quiescent_ModulRefIdeal (hModulRefIdeal := hModulRefIdeal)
    ∧ quiescent_ModUp (hModUp := hModUp)
    ∧ quiescent_ModUpIdeal (hModUpIdeal := hModUpIdeal)
    ∧ quiescent_ModUpRefIdeal (hModUpRefIdeal := hModUpRefIdeal)
    ∧ preserves_Kernel_KernelIdeal
    ∧ algebraic_KernelIdeal_ReferenceIdeal (hKernelIdeal := hKernelIdeal) (hReferenceIdeal := hReferenceIdeal)
    ∧ preserves_FDownT_FDownTIdeal
    ∧ algebraic_FDownTIdeal_FDownTRefIdeal (hFDownTIdeal := hFDownTIdeal) (hFDownTRefIdeal := hFDownTRefIdeal)
    ∧ preserves_FDownG_FDownGIdeal
    ∧ algebraic_FDownGIdeal_FDownGRefIdeal (hFDownGIdeal := hFDownGIdeal) (hFDownGRefIdeal := hFDownGRefIdeal)
    ∧ preserves_FUpT_FUpTIdeal
    ∧ algebraic_FUpTIdeal_FUpTRefIdeal (hFUpTIdeal := hFUpTIdeal) (hFUpTRefIdeal := hFUpTRefIdeal)
    ∧ preserves_FUpG_FUpGIdeal
    ∧ algebraic_FUpGIdeal_FUpGRefIdeal (hFUpGIdeal := hFUpGIdeal) (hFUpGRefIdeal := hFUpGRefIdeal)
    ∧ preserves_BOutT_BOutTIdeal
    ∧ algebraic_BOutTIdeal_BOutTRefIdeal (hBOutTIdeal := hBOutTIdeal) (hBOutTRefIdeal := hBOutTRefIdeal)
    ∧ preserves_BOutG_BOutGIdeal
    ∧ algebraic_BOutGIdeal_BOutGRefIdeal (hBOutGIdeal := hBOutGIdeal) (hBOutGRefIdeal := hBOutGRefIdeal)
    ∧ preserves_BInT_BInTIdeal
    ∧ algebraic_BInTIdeal_BInTRefIdeal (hBInTIdeal := hBInTIdeal) (hBInTRefIdeal := hBInTRefIdeal)
    ∧ preserves_BInG_BInGIdeal
    ∧ algebraic_BInGIdeal_BInGRefIdeal (hBInGIdeal := hBInGIdeal) (hBInGRefIdeal := hBInGRefIdeal)
    ∧ preserves_AInT_AInTIdeal
    ∧ algebraic_AInTIdeal_AInTRefIdeal (hAInTIdeal := hAInTIdeal) (hAInTRefIdeal := hAInTRefIdeal)
    ∧ preserves_AInG_AInGIdeal
    ∧ algebraic_AInGIdeal_AInGRefIdeal (hAInGIdeal := hAInGIdeal) (hAInGRefIdeal := hAInGRefIdeal)
    ∧ preserves_FUp_FUpIdeal
    ∧ algebraic_FUpIdeal_FUpRefIdeal (hFUpIdeal := hFUpIdeal) (hFUpRefIdeal := hFUpRefIdeal)
    ∧ preserves_FDown_FDownIdeal
    ∧ algebraic_FDownIdeal_FDownRefIdeal (hFDownIdeal := hFDownIdeal) (hFDownRefIdeal := hFDownRefIdeal)
    ∧ preserves_BIn_BInIdeal
    ∧ algebraic_BInIdeal_BInRefIdeal (hBInIdeal := hBInIdeal) (hBInRefIdeal := hBInRefIdeal)
    ∧ preserves_BOut_BOutIdeal
    ∧ algebraic_BOutIdeal_BOutRefIdeal (hBOutIdeal := hBOutIdeal) (hBOutRefIdeal := hBOutRefIdeal)
    ∧ preserves_AIn_AInIdeal
    ∧ algebraic_AInIdeal_AInRefIdeal (hAInIdeal := hAInIdeal) (hAInRefIdeal := hAInRefIdeal)
    ∧ preserves_AOut_AOutIdeal
    ∧ algebraic_AOutIdeal_AOutRefIdeal (hAOutIdeal := hAOutIdeal) (hAOutRefIdeal := hAOutRefIdeal)
    ∧ preserves_BwdMid_BwdMidIdeal
    ∧ algebraic_BwdMidIdeal_BwdMidRefIdeal (hBwdMidIdeal := hBwdMidIdeal) (hBwdMidRefIdeal := hBwdMidRefIdeal)
    ∧ preserves_BwdIn_BwdInIdeal
    ∧ algebraic_BwdInIdeal_BwdInRefIdeal (hBwdInIdeal := hBwdInIdeal) (hBwdInRefIdeal := hBwdInRefIdeal)
    ∧ preserves_Loss_LossIdeal
    ∧ algebraic_LossIdeal_LossRefIdeal (hLossIdeal := hLossIdeal) (hLossRefIdeal := hLossRefIdeal)
    ∧ preserves_FwdIn_FwdInIdeal
    ∧ algebraic_FwdInIdeal_FwdInRefIdeal (hFwdInIdeal := hFwdInIdeal) (hFwdInRefIdeal := hFwdInRefIdeal)
    ∧ preserves_FwdMid_FwdMidIdeal
    ∧ algebraic_FwdMidIdeal_FwdMidRefIdeal (hFwdMidIdeal := hFwdMidIdeal) (hFwdMidRefIdeal := hFwdMidRefIdeal)
    ∧ preserves_UpF1_UpF1Ideal
    ∧ algebraic_UpF1Ideal_UpF1RefIdeal (hUpF1Ideal := hUpF1Ideal) (hUpF1RefIdeal := hUpF1RefIdeal)
    ∧ preserves_UpF2_UpF2Ideal
    ∧ algebraic_UpF2Ideal_UpF2RefIdeal (hUpF2Ideal := hUpF2Ideal) (hUpF2RefIdeal := hUpF2RefIdeal)
    ∧ preserves_UpBIn_UpBInIdeal
    ∧ algebraic_UpBInIdeal_UpBInRefIdeal (hUpBInIdeal := hUpBInIdeal) (hUpBInRefIdeal := hUpBInRefIdeal)
    ∧ preserves_UpOut_UpOutIdeal
    ∧ algebraic_UpOutIdeal_UpOutRefIdeal (hUpOutIdeal := hUpOutIdeal) (hUpOutRefIdeal := hUpOutRefIdeal)
    ∧ preserves_UpAIn_UpAInIdeal
    ∧ algebraic_UpAInIdeal_UpAInRefIdeal (hUpAInIdeal := hUpAInIdeal) (hUpAInRefIdeal := hUpAInRefIdeal)
    ∧ preserves_UpVec_UpVecIdeal
    ∧ algebraic_UpVecIdeal_UpVecRefIdeal (hUpVecIdeal := hUpVecIdeal) (hUpVecRefIdeal := hUpVecRefIdeal)
    ∧ preserves_UpConv_UpConvIdeal
    ∧ algebraic_UpConvIdeal_UpConvRefIdeal (hUpConvIdeal := hUpConvIdeal) (hUpConvRefIdeal := hUpConvRefIdeal)
    ∧ preserves_BConv_BConvIdeal
    ∧ algebraic_BConvIdeal_BConvRefIdeal (hBConvIdeal := hBConvIdeal) (hBConvRefIdeal := hBConvRefIdeal)
    ∧ preserves_Modul_ModulIdeal
    ∧ algebraic_ModulIdeal_ModulRefIdeal (hModulIdeal := hModulIdeal) (hModulRefIdeal := hModulRefIdeal)
    ∧ preserves_ModUp_ModUpIdeal
    ∧ algebraic_ModUpIdeal_ModUpRefIdeal (hModUpIdeal := hModUpIdeal) (hModUpRefIdeal := hModUpRefIdeal)
-- ==== Kernel.lean ====
abbrev S4096x2048 : Shape := ⟨2, ![4096, 2048]⟩
abbrev S4096x6144 : Shape := ⟨2, ![4096, 6144]⟩
abbrev S3x2048 : Shape := ⟨2, ![3, 2048]⟩
abbrev S8x2048 : Shape := ⟨2, ![8, 2048]⟩
abbrev S128x2048 : Shape := ⟨2, ![128, 2048]⟩
abbrev S128x6144 : Shape := ⟨2, ![128, 6144]⟩
abbrev S8x6144 : Shape := ⟨2, ![8, 6144]⟩
abbrev S136x2048 : Shape := ⟨2, ![136, 2048]⟩
abbrev S128x256 : Shape := ⟨2, ![128, 256]⟩
abbrev S1x256 : Shape := ⟨2, ![1, 256]⟩
abbrev S256 : Shape := ⟨1, ![256]⟩

abbrev nBuf : Space → Nat
  | .hbm => 5
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S3x2048, .f32⟩
  | .hbm, ⟨3, _⟩ => ⟨S4096x6144, .bf16⟩
  | .hbm, ⟨4, _⟩ => ⟨S8x2048, .f32⟩
  | .local _ .vmem, ⟨0, _⟩ => ⟨S128x2048, .f32⟩
  | .local _ .vmem, ⟨1, _⟩ => ⟨S128x2048, .f32⟩
  | .local _ .vmem, ⟨2, _⟩ => ⟨S8x2048, .f32⟩
  | .local _ .vmem, ⟨3, _⟩ => ⟨S8x2048, .f32⟩
  | .local _ .vmem, ⟨4, _⟩ => ⟨S128x6144, .f32⟩
  | .local _ .vmem, ⟨5, _⟩ => ⟨S128x6144, .f32⟩
  | .local _ .vmem, ⟨6, _⟩ => ⟨S8x6144, .f32⟩
  | .local _ .vmem, ⟨7, _⟩ => ⟨S8x6144, .f32⟩
  | .local _ .vmem, ⟨8, _⟩ => ⟨S8x6144, .f32⟩
  | .local _ .vmem, ⟨9, _⟩ => ⟨S8x6144, .f32⟩
  | .local _ .vmem, ⟨10, _⟩ => ⟨S3x2048, .f32⟩
  | .local _ .vmem, ⟨11, _⟩ => ⟨S128x6144, .bf16⟩
  | .local _ .vmem, ⟨12, _⟩ => ⟨S128x6144, .bf16⟩
  | .local _ .vmem, ⟨13, _⟩ => ⟨S8x2048, .f32⟩
  | .local _ .vmem, ⟨14, _⟩ => ⟨S136x2048, .f32⟩
  | .local _ .vmem, ⟨15, _⟩ => ⟨S136x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x2048 : Shape := ⟨2, ![4096, 2048]⟩
abbrev S4096x6144 : Shape := ⟨2, ![4096, 6144]⟩
abbrev S3x2048 : Shape := ⟨2, ![3, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S5x2048 : Shape := ⟨2, ![5, 2048]⟩
abbrev S8x2048 : Shape := ⟨2, ![8, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S3x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S2x2048, .f32⟩
  | .hbm, ⟨9, _⟩ => ⟨S4098x2048, .f32⟩
  | .hbm, ⟨10, _⟩ => ⟨S_, .f32⟩
  | .hbm, ⟨11, _⟩ => ⟨S2x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S_, .f32⟩
  | .hbm, ⟨39, _⟩ => ⟨S4098x2048, .f32⟩
  | .hbm, ⟨40, _⟩ => ⟨S_, .f32⟩
  | .hbm, ⟨41, _⟩ => ⟨S3x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S_, .f32⟩
  | .hbm, ⟨49, _⟩ => ⟨S4098x2048, .f32⟩
  | .hbm, ⟨50, _⟩ => ⟨S4098x2048, .f32⟩
  | .hbm, ⟨51, _⟩ => ⟨S_, .f32⟩
  | .hbm, ⟨52, _⟩ => ⟨S3x2048, .f32⟩
  | .hbm, ⟨53, _⟩ => ⟨S3x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S4098x2048, .f32⟩
  | .hbm, ⟨62, _⟩ => ⟨S4098x2048, .f32⟩
  | .hbm, ⟨63, _⟩ => ⟨S_, .f32⟩
  | .hbm, ⟨64, _⟩ => ⟨S3x2048, .f32⟩
  | .hbm, ⟨65, _⟩ => ⟨S3x2048, .f32⟩
  | .hbm, ⟨66, _⟩ => ⟨S2x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x6144, .f32⟩
  | .hbm, ⟨71, _⟩ => ⟨S4096x6144, .bf16⟩
  | .hbm, ⟨72, _⟩ => ⟨S_, .f32⟩
  | .hbm, ⟨73, _⟩ => ⟨S5x2048, .f32⟩
  | .hbm, ⟨74, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== FDownT.lean ====
abbrev S4096x2048 : Shape := ⟨2, ![4096, 2048]⟩
abbrev S8x1024x2048 : Shape := ⟨3, ![8, 1024, 2048]⟩
abbrev S4096x8192 : Shape := ⟨2, ![4096, 8192]⟩
abbrev S8192x2048 : Shape := ⟨2, ![8192, 2048]⟩
abbrev S1024x2048 : Shape := ⟨2, ![1024, 2048]⟩
abbrev S2048x2048 : Shape := ⟨2, ![2048, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x1024x2048, .bf16⟩
  | .hbm, ⟨2, _⟩ => ⟨S4096x8192, .bf16⟩
  | .hbm, ⟨3, _⟩ => ⟨S8192x2048, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FDownTRefIdeal.lean ====
abbrev S4096x2048 : Shape := ⟨2, ![4096, 2048]⟩
abbrev S8x1024x2048 : Shape := ⟨3, ![8, 1024, 2048]⟩
abbrev S4096x8192 : Shape := ⟨2, ![4096, 8192]⟩
abbrev S_ : Shape := ⟨0, ![]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8x1024x2048, .f32⟩
  | .hbm, ⟨17, _⟩ => ⟨S8192x2048, .f32⟩
  | .hbm, ⟨18, _⟩ => ⟨S4096x2048, .f32⟩
  | .hbm, ⟨19, _⟩ => ⟨S4096x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== FDownG.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FDownGRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FUpT.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FUpTRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FUpG.lean ====
abbrev S4096x2048 : Shape := ⟨2, ![4096, 2048]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FUpGRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BOutT.lean ====
abbrev S4096x2048 : Shape := ⟨2, ![4096, 2048]⟩
abbrev S8x256x2048 : Shape := ⟨3, ![8, 256, 2048]⟩
abbrev S2048x2048 : Shape := ⟨2, ![2048, 2048]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S2048x2048, .bf16⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutTRefIdeal.lean ====
abbrev S4096x2048 : Shape := ⟨2, ![4096, 2048]⟩
abbrev S8x256x2048 : Shape := ⟨3, ![8, 256, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S2048x2048, .bf16⟩
  | .hbm, ⟨3, _⟩ => ⟨S_, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BOutG.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutGRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BInT.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInTRefIdeal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x6144, .f32⟩
  | .hbm, ⟨7, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BInG.lean ====
abbrev S4096x2048 : Shape := ⟨2, ![4096, 2048]⟩
abbrev S4096x6144 : Shape := ⟨2, ![4096, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInGRefIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x8x768, .f32⟩
  | .hbm, ⟨10, _⟩ => ⟨S8x2048x768, .f32⟩
  | .hbm, ⟨11, _⟩ => ⟨S8x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AInT.lean ====
abbrev S4096x4096 : Shape := ⟨2, ![4096, 4096]⟩
abbrev S2048x4096 : Shape := ⟨2, ![2048, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInTRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AInG.lean ====
abbrev S4096x2048 : Shape := ⟨2, ![4096, 2048]⟩
abbrev S4096x4096 : Shape := ⟨2, ![4096, 4096]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInGRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | .hbm, ⟨11, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FUp.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FUpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FDown.lean ====
abbrev S4096x8192 : Shape := ⟨2, ![4096, 8192]⟩
abbrev S8x1024x2048 : Shape := ⟨3, ![8, 1024, 2048]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x1024x2048, .bf16⟩
  | .hbm, ⟨2, _⟩ => ⟨S8192x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FDownRefIdeal.lean ====
abbrev S4096x8192 : Shape := ⟨2, ![4096, 8192]⟩
abbrev S8x1024x2048 : Shape := ⟨3, ![8, 1024, 2048]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x1024x2048, .bf16⟩
  | .hbm, ⟨2, _⟩ => ⟨S4096x8192, .f32⟩
  | .hbm, ⟨3, _⟩ => ⟨S8x1024x2048, .f32⟩
  | .hbm, ⟨4, _⟩ => ⟨S8192x2048, .f32⟩
  | .hbm, ⟨5, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BIn.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInRefIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BOut.lean ====
abbrev S4096x2048 : Shape := ⟨2, ![4096, 2048]⟩
abbrev S8x256x2048 : Shape := ⟨3, ![8, 256, 2048]⟩
abbrev S2048x2048 : Shape := ⟨2, ![2048, 2048]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S2048x2048, .bf16⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutRefIdeal.lean ====
abbrev S4096x2048 : Shape := ⟨2, ![4096, 2048]⟩
abbrev S8x256x2048 : Shape := ⟨3, ![8, 256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S8x256x2048, .f32⟩
  | .hbm, ⟨4, _⟩ => ⟨S2048x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AIn.lean ====
abbrev S4096x2048 : Shape := ⟨2, ![4096, 2048]⟩
abbrev S2048x4096 : Shape := ⟨2, ![2048, 4096]⟩
abbrev S1x4096 : Shape := ⟨2, ![1, 4096]⟩
abbrev S4096x4096 : Shape := ⟨2, ![4096, 4096]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S1x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AInRefIdeal.lean ====
abbrev S4096x2048 : Shape := ⟨2, ![4096, 2048]⟩
abbrev S2048x4096 : Shape := ⟨2, ![2048, 4096]⟩
abbrev S1x4096 : Shape := ⟨2, ![1, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S1x4096, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AOut.lean ====
abbrev S4096x2048 : Shape := ⟨2, ![4096, 2048]⟩
abbrev S8x256x2048 : Shape := ⟨3, ![8, 256, 2048]⟩
abbrev S1x2048 : Shape := ⟨2, ![1, 2048]⟩
abbrev S2048x2048 : Shape := ⟨2, ![2048, 2048]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S1x2048, .f32⟩
  | .hbm, ⟨3, _⟩ => ⟨S2048x2048, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AOutRefIdeal.lean ====
abbrev S4096x2048 : Shape := ⟨2, ![4096, 2048]⟩
abbrev S8x256x2048 : Shape := ⟨3, ![8, 256, 2048]⟩
abbrev S1x2048 : Shape := ⟨2, ![1, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S1x2048, .f32⟩
  | .hbm, ⟨3, _⟩ => ⟨S4096x2048, .f32⟩
  | .hbm, ⟨4, _⟩ => ⟨S8x256x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BwdMid.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BwdMidRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S2x2048 : Shape := ⟨2, ![2, 2048]⟩
abbrev S8x2048 : Shape := ⟨2, ![8, 2048]⟩

abbrev nBuf : Space → Nat
  | .hbm => 133
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S1x2048, .f32⟩
  | 4 => ⟨S1x2048, .f32⟩
  | 5 => ⟨S4096x2048, .f32⟩
  | 6 => ⟨S1x2048, .f32⟩
  | 7 => ⟨S1x2048, .f32⟩
  | 8 => ⟨S_, .f32⟩
  | 9 => ⟨S1x2048, .f32⟩
  | 10 => ⟨S4096x2048, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x2048, .f32⟩
  | 26 => ⟨S4096x2048, .f32⟩
  | 27 => ⟨S4096x2048, .f32⟩
  | 28 => ⟨S4096x2048, .f32⟩
  | 29 => ⟨S_, .f32⟩
  | 30 => ⟨S1x2048, .f32⟩
  | 31 => ⟨S1x2048, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S_, .f32⟩
  | 38 => ⟨S2048, .f32⟩
  | 39 => ⟨S1x2048, .f32⟩
  | 40 => ⟨S4096x2048, .f32⟩
  | 41 => ⟨S_, .f32⟩
  | 42 => ⟨S2048, .f32⟩
  | 43 => ⟨S1x2048, .f32⟩
  | 44 => ⟨S4096x2048, .f32⟩
  | 45 => ⟨S4096x2048, .f32⟩
  | 46 => ⟨S4096x2048, .f32⟩
  | 47 => ⟨S_, .f32⟩
  | 48 => ⟨S2048, .f32⟩
  | 49 => ⟨S1x2048, .f32⟩
  | 50 => ⟨S4096x2048, .f32⟩
  | 51 => ⟨S4096x2048, .f32⟩
  | 52 => ⟨S4096x2048, .f32⟩
  | 53 => ⟨S_, .f32⟩
  | 54 => ⟨S4096, .f32⟩
  | 55 => ⟨S4096x1, .f32⟩
  | 56 => ⟨S4096x2048, .f32⟩
  | 57 => ⟨S4096x2048, .f32⟩
  | 58 => ⟨S4096x2048, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096, .f32⟩
  | 65 => ⟨S4096x2048, .f32⟩
  | 66 => ⟨S4096x2048, .f32⟩
  | 67 => ⟨S4096x2048, .f32⟩
  | 68 => ⟨S4096x2048, .f32⟩
  | 69 => ⟨S4096x2048, .f32⟩
  | 70 => ⟨S_, .f32⟩
  | 71 => ⟨S1x2048, .f32⟩
  | 72 => ⟨S4096x2048, .f32⟩
  | 73 => ⟨S4096x2048, .f32⟩
  | 74 => ⟨S4096x2048, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x2048, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S4096x2048, .f32⟩
  | 96 => ⟨S4096x2048, .f32⟩
  | 97 => ⟨S4096x2048, .f32⟩
  | 98 => ⟨S4096x2048, .f32⟩
  | 99 => ⟨S4096x2048, .f32⟩
  | 100 => ⟨S_, .f32⟩
  | 101 => ⟨S2048, .f32⟩
  | 102 => ⟨S1x2048, .f32⟩
  | 103 => ⟨S4096x2048, .f32⟩
  | 104 => ⟨S_, .f32⟩
  | 105 => ⟨S2048, .f32⟩
  | 106 => ⟨S1x2048, .f32⟩
  | 107 => ⟨S4096x2048, .f32⟩
  | 108 => ⟨S4096x2048, .f32⟩
  | 109 => ⟨S4096x2048, .f32⟩
  | 110 => ⟨S_, .f32⟩
  | 111 => ⟨S4096, .f32⟩
  | 112 => ⟨S4096x1, .f32⟩
  | 113 => ⟨S4096x2048, .f32⟩
  | 114 => ⟨S4096x2048, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x2048, .f32⟩
  | 122 => ⟨S4096x2048, .f32⟩
  | 123 => ⟨S4096x2048, .f32⟩
  | 124 => ⟨S4096x2048, .f32⟩
  | 125 => ⟨S4096x2048, .f32⟩
  | 126 => ⟨S_, .f32⟩
  | 127 => ⟨S2048, .f32⟩
  | _ => ⟨S4096x2048, .f32⟩

abbrev hbmTy0_1 (i : Nat) : BufTy := match i % 128 with
  | 0 => ⟨S1x2048, .f32⟩
  | 1 => ⟨S4096x2048, .bf16⟩
  | 2 => ⟨S_, .f32⟩
  | 3 => ⟨S2x2048, .f32⟩
  | 4 => ⟨S8x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_19 : Ref sig .tc := ⟨.hbm, 116, rfl⟩
abbrev main_v88 : Ref sig .tc := ⟨.hbm, 117, rfl⟩
abbrev main_v89 : Ref sig .tc := ⟨.hbm, 118, rfl⟩
abbrev main_cst_20 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_21 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_22 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== BwdIn.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdInRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S5x2048, .f32⟩
  | .hbm, ⟨69, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Loss.lean ====
abbrev S4096x2048 : Shape := ⟨2, ![4096, 2048]⟩
abbrev S1x2048 : Shape := ⟨2, ![1, 2048]⟩
abbrev S8x128 : Shape := ⟨2, ![8, 128]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S8x128, .f32⟩
  | .hbm, ⟨8, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S3x2048 : Shape := ⟨2, ![3, 2048]⟩
abbrev S8x128 : Shape := ⟨2, ![8, 128]⟩
abbrev S2x2048 : Shape := ⟨2, ![2, 2048]⟩
abbrev S8x2048 : Shape := ⟨2, ![8, 2048]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x2048, .f32⟩
  | .hbm, ⟨71, _⟩ => ⟨S4096x2048, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S_, .f32⟩
  | .hbm, ⟨87, _⟩ => ⟨S3x2048, .f32⟩
  | .hbm, ⟨88, _⟩ => ⟨S4096x2048, .bf16⟩
  | .hbm, ⟨89, _⟩ => ⟨S8x128, .f32⟩
  | .hbm, ⟨90, _⟩ => ⟨S2x2048, .f32⟩
  | .hbm, ⟨91, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== FwdIn.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdInRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FwdMid.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdMidRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== UpF1.lean ====
abbrev S4x2048x1024 : Shape := ⟨3, ![4, 2048, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpF1Ideal.lean ====
abbrev S4x2048x1024 : Shape := ⟨3, ![4, 2048, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpF1RefIdeal.lean ====
abbrev S4x2048x1024 : Shape := ⟨3, ![4, 2048, 1024]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S2048x1024, .f32⟩
  | .hbm, ⟨10, _⟩ => ⟨S4x2048x1024, .f32⟩
  | .hbm, ⟨11, _⟩ => ⟨S_, .f32⟩
  | .hbm, ⟨12, _⟩ => ⟨S2048x1024, .f32⟩
  | .hbm, ⟨13, _⟩ => ⟨S4x2048x1024, .f32⟩
  | .hbm, ⟨14, _⟩ => ⟨S_, .f32⟩
  | .hbm, ⟨15, _⟩ => ⟨S2048x1024, .f32⟩
  | .hbm, ⟨16, _⟩ => ⟨S4x2048x1024, .f32⟩
  | .hbm, ⟨17, _⟩ => ⟨S_, .f32⟩
  | .hbm, ⟨18, _⟩ => ⟨S2048x1024, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x2048x1024, .f32⟩
  | .hbm, ⟨56, _⟩ => ⟨S4x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== UpF2.lean ====
abbrev S4x1024x2048 : Shape := ⟨3, ![4, 1024, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S4x1024x2048, .bf16⟩
  | .hbm, ⟨3, _⟩ => ⟨S4x1024x2048, .bf16⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S4x128x2048, .bf16⟩
  | .local _ .vmem, ⟨3, _⟩ => ⟨S4x128x2048, .bf16⟩
  | .local _ .vmem, ⟨4, _⟩ => ⟨S4x128x2048, .bf16⟩
  | .local _ .vmem, ⟨5, _⟩ => ⟨S4x128x2048, .bf16⟩
  | .local _ .vmem, ⟨6, _⟩ => ⟨S4x128x2048, .bf16⟩
  | .local _ .vmem, ⟨7, _⟩ => ⟨S4x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpF2RefIdeal.lean ====
abbrev S4x1024x2048 : Shape := ⟨3, ![4, 1024, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S4x1024x2048, .bf16⟩
  | .hbm, ⟨3, _⟩ => ⟨S4x1024x2048, .bf16⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S_, .f32⟩
  | .hbm, ⟨9, _⟩ => ⟨S1024x2048, .f32⟩
  | .hbm, ⟨10, _⟩ => ⟨S4x1024x2048, .f32⟩
  | .hbm, ⟨11, _⟩ => ⟨S_, .f32⟩
  | .hbm, ⟨12, _⟩ => ⟨S1024x2048, .f32⟩
  | .hbm, ⟨13, _⟩ => ⟨S4x1024x2048, .f32⟩
  | .hbm, ⟨14, _⟩ => ⟨S_, .f32⟩
  | .hbm, ⟨15, _⟩ => ⟨S1024x2048, .f32⟩
  | .hbm, ⟨16, _⟩ => ⟨S4x1024x2048, .f32⟩
  | .hbm, ⟨17, _⟩ => ⟨S_, .f32⟩
  | .hbm, ⟨18, _⟩ => ⟨S1024x2048, .f32⟩
  | .hbm, ⟨19, _⟩ => ⟨S1x1024x2048, .f32⟩
  | .hbm, ⟨20, _⟩ => ⟨S1x1024x2048, .f32⟩
  | .hbm, ⟨21, _⟩ => ⟨S1x1024x2048, .f32⟩
  | .hbm, ⟨22, _⟩ => ⟨S1x1024x2048, .f32⟩
  | .hbm, ⟨23, _⟩ => ⟨S4x1024x2048, .f32⟩
  | .hbm, ⟨24, _⟩ => ⟨S_, .f32⟩
  | .hbm, ⟨25, _⟩ => ⟨S4x1024x2048, .f32⟩
  | .hbm, ⟨26, _⟩ => ⟨S4x1024x2048, .f32⟩
  | .hbm, ⟨27, _⟩ => ⟨S_, .f32⟩
  | .hbm, ⟨28, _⟩ => ⟨S4x1024x2048, .f32⟩
  | .hbm, ⟨29, _⟩ => ⟨S4x1024x2048, .f32⟩
  | .hbm, ⟨30, _⟩ => ⟨S4x1024x2048, .f32⟩
  | .hbm, ⟨31, _⟩ => ⟨S_, .f32⟩
  | .hbm, ⟨32, _⟩ => ⟨S4x1024x2048, .f32⟩
  | .hbm, ⟨33, _⟩ => ⟨S4x1024x2048, .f32⟩
  | .hbm, ⟨34, _⟩ => ⟨S4x1024x2048, .f32⟩
  | .hbm, ⟨35, _⟩ => ⟨S_, .f32⟩
  | .hbm, ⟨36, _⟩ => ⟨S4x1024x2048, .f32⟩
  | .hbm, ⟨37, _⟩ => ⟨S4x1024x2048, .f32⟩
  | .hbm, ⟨38, _⟩ => ⟨S4x1024x2048, .f32⟩
  | .hbm, ⟨39, _⟩ => ⟨S_, .f32⟩
  | .hbm, ⟨40, _⟩ => ⟨S4x1024x2048, .f32⟩
  | .hbm, ⟨41, _⟩ => ⟨S4x1024x2048, .f32⟩
  | .hbm, ⟨42, _⟩ => ⟨S_, .f32⟩
  | .hbm, ⟨43, _⟩ => ⟨S4x1024x2048, .f32⟩
  | .hbm, ⟨44, _⟩ => ⟨S4x1024x2048, .f32⟩
  | .hbm, ⟨45, _⟩ => ⟨S4x1024x2048, .f32⟩
  | .hbm, ⟨46, _⟩ => ⟨S_, .f32⟩
  | .hbm, ⟨47, _⟩ => ⟨S4x1024x2048, .f32⟩
  | .hbm, ⟨48, _⟩ => ⟨S4x1024x2048, .f32⟩
  | .hbm, ⟨49, _⟩ => ⟨S4x1024x2048, .f32⟩
  | .hbm, ⟨50, _⟩ => ⟨S_, .f32⟩
  | .hbm, ⟨51, _⟩ => ⟨S4x1024x2048, .f32⟩
  | .hbm, ⟨52, _⟩ => ⟨S4x1024x2048, .f32⟩
  | .hbm, ⟨53, _⟩ => ⟨S4x1024x2048, .f32⟩
  | .hbm, ⟨54, _⟩ => ⟨S_, .f32⟩
  | .hbm, ⟨55, _⟩ => ⟨S4x1024x2048, .f32⟩
  | .hbm, ⟨56, _⟩ => ⟨S4x1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== UpBIn.lean ====
abbrev S4x2048x768 : Shape := ⟨3, ![4, 2048, 768]⟩
abbrev S2x2048x768 : Shape := ⟨3, ![2, 2048, 768]⟩
abbrev S4x256x768 : Shape := ⟨3, ![4, 256, 768]⟩
abbrev S1x256x768 : Shape := ⟨3, ![1, 256, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .local _ .vmem, ⟨0, _⟩ => ⟨S4x256x768, .bf16⟩
  | .local _ .vmem, ⟨1, _⟩ => ⟨S4x256x768, .bf16⟩
  | .local _ .vmem, ⟨2, _⟩ => ⟨S4x256x768, .bf16⟩
  | .local _ .vmem, ⟨3, _⟩ => ⟨S4x256x768, .bf16⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpBInIdeal.lean ====
abbrev S4x2048x768 : Shape := ⟨3, ![4, 2048, 768]⟩
abbrev S2x2048x768 : Shape := ⟨3, ![2, 2048, 768]⟩
abbrev S4x256x768 : Shape := ⟨3, ![4, 256, 768]⟩
abbrev S1x256x768 : Shape := ⟨3, ![1, 256, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .local _ .vmem, ⟨0, _⟩ => ⟨S4x256x768, .bf16⟩
  | .local _ .vmem, ⟨1, _⟩ => ⟨S4x256x768, .bf16⟩
  | .local _ .vmem, ⟨2, _⟩ => ⟨S4x256x768, .bf16⟩
  | .local _ .vmem, ⟨3, _⟩ => ⟨S4x256x768, .bf16⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpBInRefIdeal.lean ====
abbrev S4x2048x768 : Shape := ⟨3, ![4, 2048, 768]⟩
abbrev S2x2048x768 : Shape := ⟨3, ![2, 2048, 768]⟩
abbrev S_ : Shape := ⟨0, ![]⟩
abbrev S2048x768 : Shape := ⟨2, ![2048, 768]⟩
abbrev S1x2048x768 : Shape := ⟨3, ![1, 2048, 768]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S4x2048x768, .f32⟩
  | .hbm, ⟨6, _⟩ => ⟨S_, .f32⟩
  | .hbm, ⟨7, _⟩ => ⟨S2048x768, .f32⟩
  | .hbm, ⟨8, _⟩ => ⟨S4x2048x768, .f32⟩
  | .hbm, ⟨9, _⟩ => ⟨S_, .f32⟩
  | .hbm, ⟨10, _⟩ => ⟨S2048x768, .f32⟩
  | .hbm, ⟨11, _⟩ => ⟨S1x2048x768, .f32⟩
  | .hbm, ⟨12, _⟩ => ⟨S1x2048x768, .f32⟩
  | .hbm, ⟨13, _⟩ => ⟨S2x2048x768, .f32⟩
  | .hbm, ⟨14, _⟩ => ⟨S_, .f32⟩
  | .hbm, ⟨15, _⟩ => ⟨S2x2048x768, .f32⟩
  | .hbm, ⟨16, _⟩ => ⟨S2x2048x768, .f32⟩
  | .hbm, ⟨17, _⟩ => ⟨S_, .f32⟩
  | .hbm, ⟨18, _⟩ => ⟨S2x2048x768, .f32⟩
  | .hbm, ⟨19, _⟩ => ⟨S2x2048x768, .f32⟩
  | .hbm, ⟨20, _⟩ => ⟨S2x2048x768, .f32⟩
  | .hbm, ⟨21, _⟩ => ⟨S_, .f32⟩
  | .hbm, ⟨22, _⟩ => ⟨S2x2048x768, .f32⟩
  | .hbm, ⟨23, _⟩ => ⟨S2x2048x768, .f32⟩
  | .hbm, ⟨24, _⟩ => ⟨S2x2048x768, .f32⟩
  | .hbm, ⟨25, _⟩ => ⟨S_, .f32⟩
  | .hbm, ⟨26, _⟩ => ⟨S2x2048x768, .f32⟩
  | .hbm, ⟨27, _⟩ => ⟨S2x2048x768, .f32⟩
  | .hbm, ⟨28, _⟩ => ⟨S2x2048x768, .f32⟩
  | .hbm, ⟨29, _⟩ => ⟨S_, .f32⟩
  | .hbm, ⟨30, _⟩ => ⟨S2x2048x768, .f32⟩
  | .hbm, ⟨31, _⟩ => ⟨S2x2048x768, .f32⟩
  | .hbm, ⟨32, _⟩ => ⟨S_, .f32⟩
  | .hbm, ⟨33, _⟩ => ⟨S2x2048x768, .f32⟩
  | .hbm, ⟨34, _⟩ => ⟨S2x2048x768, .f32⟩
  | .hbm, ⟨35, _⟩ => ⟨S2x2048x768, .f32⟩
  | .hbm, ⟨36, _⟩ => ⟨S_, .f32⟩
  | .hbm, ⟨37, _⟩ => ⟨S2x2048x768, .f32⟩
  | .hbm, ⟨38, _⟩ => ⟨S2x2048x768, .f32⟩
  | .hbm, ⟨39, _⟩ => ⟨S2x2048x768, .f32⟩
  | .hbm, ⟨40, _⟩ => ⟨S_, .f32⟩
  | .hbm, ⟨41, _⟩ => ⟨S2x2048x768, .f32⟩
  | .hbm, ⟨42, _⟩ => ⟨S2x2048x768, .f32⟩
  | .hbm, ⟨43, _⟩ => ⟨S2x2048x768, .f32⟩
  | .hbm, ⟨44, _⟩ => ⟨S_, .f32⟩
  | .hbm, ⟨45, _⟩ => ⟨S2x2048x768, .f32⟩
  | .hbm, ⟨46, _⟩ => ⟨S2x2048x768, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== UpOut.lean ====
abbrev S4x256x2048 : Shape := ⟨3, ![4, 256, 2048]⟩
abbrev S2x256x2048 : Shape := ⟨3, ![2, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S4x128x2048, .bf16⟩
  | .local _ .vmem, ⟨3, _⟩ => ⟨S4x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpOutIdeal.lean ====
abbrev S4x256x2048 : Shape := ⟨3, ![4, 256, 2048]⟩
abbrev S2x256x2048 : Shape := ⟨3, ![2, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S4x128x2048, .bf16⟩
  | .local _ .vmem, ⟨3, _⟩ => ⟨S4x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpOutRefIdeal.lean ====
abbrev S4x256x2048 : Shape := ⟨3, ![4, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S4x256x2048, .f32⟩
  | .hbm, ⟨6, _⟩ => ⟨S_, .f32⟩
  | .hbm, ⟨7, _⟩ => ⟨S256x2048, .f32⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== UpAIn.lean ====
abbrev S4x2048x512 : Shape := ⟨3, ![4, 2048, 512]⟩
abbrev S2x2048x512 : Shape := ⟨3, ![2, 2048, 512]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .local _ .vmem, ⟨0, _⟩ => ⟨S4x512x512, .bf16⟩
  | .local _ .vmem, ⟨1, _⟩ => ⟨S4x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpAInRefIdeal.lean ====
abbrev S4x2048x512 : Shape := ⟨3, ![4, 2048, 512]⟩
abbrev S2x2048x512 : Shape := ⟨3, ![2, 2048, 512]⟩
abbrev S_ : Shape := ⟨0, ![]⟩
abbrev S2048x512 : Shape := ⟨2, ![2048, 512]⟩
abbrev S1x2048x512 : Shape := ⟨3, ![1, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S4x2048x512, .f32⟩
  | .hbm, ⟨6, _⟩ => ⟨S_, .f32⟩
  | .hbm, ⟨7, _⟩ => ⟨S2048x512, .f32⟩
  | .hbm, ⟨8, _⟩ => ⟨S4x2048x512, .f32⟩
  | .hbm, ⟨9, _⟩ => ⟨S_, .f32⟩
  | .hbm, ⟨10, _⟩ => ⟨S2048x512, .f32⟩
  | .hbm, ⟨11, _⟩ => ⟨S1x2048x512, .f32⟩
  | .hbm, ⟨12, _⟩ => ⟨S1x2048x512, .f32⟩
  | .hbm, ⟨13, _⟩ => ⟨S2x2048x512, .f32⟩
  | .hbm, ⟨14, _⟩ => ⟨S_, .f32⟩
  | .hbm, ⟨15, _⟩ => ⟨S2x2048x512, .f32⟩
  | .hbm, ⟨16, _⟩ => ⟨S2x2048x512, .f32⟩
  | .hbm, ⟨17, _⟩ => ⟨S_, .f32⟩
  | .hbm, ⟨18, _⟩ => ⟨S2x2048x512, .f32⟩
  | .hbm, ⟨19, _⟩ => ⟨S2x2048x512, .f32⟩
  | .hbm, ⟨20, _⟩ => ⟨S2x2048x512, .f32⟩
  | .hbm, ⟨21, _⟩ => ⟨S_, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S_, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S2x2048x512, .f32⟩
  | .hbm, ⟨31, _⟩ => ⟨S2x2048x512, .f32⟩
  | .hbm, ⟨32, _⟩ => ⟨S_, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S_, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S_, .f32⟩
  | .hbm, ⟨41, _⟩ => ⟨S2x2048x512, .f32⟩
  | .hbm, ⟨42, _⟩ => ⟨S2x2048x512, .f32⟩
  | .hbm, ⟨43, _⟩ => ⟨S2x2048x512, .f32⟩
  | .hbm, ⟨44, _⟩ => ⟨S_, .f32⟩
  | .hbm, ⟨45, _⟩ => ⟨S2x2048x512, .f32⟩
  | .hbm, ⟨46, _⟩ => ⟨S2x2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== UpVec.lean ====
abbrev S8x176x2048 : Shape := ⟨3, ![8, 176, 2048]⟩
abbrev S96x2048 : Shape := ⟨2, ![96, 2048]⟩
abbrev S176x2048 : Shape := ⟨2, ![176, 2048]⟩
abbrev S1x176x2048 : Shape := ⟨3, ![1, 176, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x176x2048, .f32⟩
  | .hbm, ⟨1, _⟩ => ⟨S96x2048, .f32⟩
  | .hbm, ⟨2, _⟩ => ⟨S96x2048, .f32⟩
  | .hbm, ⟨3, _⟩ => ⟨S96x2048, .f32⟩
  | .hbm, ⟨4, _⟩ => ⟨S176x2048, .f32⟩
  | .hbm, ⟨5, _⟩ => ⟨S96x2048, .f32⟩
  | .hbm, ⟨6, _⟩ => ⟨S96x2048, .f32⟩
  | .hbm, ⟨7, _⟩ => ⟨S96x2048, .f32⟩
  | .local _ .vmem, ⟨0, _⟩ => ⟨S8x176x2048, .f32⟩
  | .local _ .vmem, ⟨1, _⟩ => ⟨S96x2048, .f32⟩
  | .local _ .vmem, ⟨2, _⟩ => ⟨S96x2048, .f32⟩
  | .local _ .vmem, ⟨3, _⟩ => ⟨S96x2048, .f32⟩
  | .local _ .vmem, ⟨4, _⟩ => ⟨S176x2048, .f32⟩
  | .local _ .vmem, ⟨5, _⟩ => ⟨S96x2048, .f32⟩
  | .local _ .vmem, ⟨6, _⟩ => ⟨S96x2048, .f32⟩
  | .local _ .vmem, ⟨7, _⟩ => ⟨S96x2048, .f32⟩
  | _, _ => ⟨S8x176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x176x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S176x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== UpVecRefIdeal.lean ====
abbrev S8x176x2048 : Shape := ⟨3, ![8, 176, 2048]⟩
abbrev S96x2048 : Shape := ⟨2, ![96, 2048]⟩
abbrev S_ : Shape := ⟨0, ![]⟩
abbrev S176x2048 : Shape := ⟨2, ![176, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x176x2048, .f32⟩
  | .hbm, ⟨1, _⟩ => ⟨S96x2048, .f32⟩
  | .hbm, ⟨2, _⟩ => ⟨S96x2048, .f32⟩
  | .hbm, ⟨3, _⟩ => ⟨S96x2048, .f32⟩
  | .hbm, ⟨4, _⟩ => ⟨S_, .f32⟩
  | .hbm, ⟨5, _⟩ => ⟨S176x2048, .f32⟩
  | .hbm, ⟨6, _⟩ => ⟨S96x2048, .f32⟩
  | .hbm, ⟨7, _⟩ => ⟨S_, .f32⟩
  | .hbm, ⟨8, _⟩ => ⟨S96x2048, .f32⟩
  | .hbm, ⟨9, _⟩ => ⟨S96x2048, .f32⟩
  | .hbm, ⟨10, _⟩ => ⟨S_, .f32⟩
  | .hbm, ⟨11, _⟩ => ⟨S96x2048, .f32⟩
  | .hbm, ⟨12, _⟩ => ⟨S96x2048, .f32⟩
  | .hbm, ⟨13, _⟩ => ⟨S96x2048, .f32⟩
  | .hbm, ⟨14, _⟩ => ⟨S_, .f32⟩
  | .hbm, ⟨15, _⟩ => ⟨S96x2048, .f32⟩
  | .hbm, ⟨16, _⟩ => ⟨S96x2048, .f32⟩
  | .hbm, ⟨17, _⟩ => ⟨S96x2048, .f32⟩
  | .hbm, ⟨18, _⟩ => ⟨S_, .f32⟩
  | .hbm, ⟨19, _⟩ => ⟨S96x2048, .f32⟩
  | .hbm, ⟨20, _⟩ => ⟨S96x2048, .f32⟩
  | .hbm, ⟨21, _⟩ => ⟨S96x2048, .f32⟩
  | .hbm, ⟨22, _⟩ => ⟨S_, .f32⟩
  | .hbm, ⟨23, _⟩ => ⟨S96x2048, .f32⟩
  | .hbm, ⟨24, _⟩ => ⟨S96x2048, .f32⟩
  | .hbm, ⟨25, _⟩ => ⟨S_, .f32⟩
  | .hbm, ⟨26, _⟩ => ⟨S96x2048, .f32⟩
  | .hbm, ⟨27, _⟩ => ⟨S96x2048, .f32⟩
  | .hbm, ⟨28, _⟩ => ⟨S96x2048, .f32⟩
  | .hbm, ⟨29, _⟩ => ⟨S_, .f32⟩
  | .hbm, ⟨30, _⟩ => ⟨S96x2048, .f32⟩
  | .hbm, ⟨31, _⟩ => ⟨S96x2048, .f32⟩
  | .hbm, ⟨32, _⟩ => ⟨S96x2048, .f32⟩
  | .hbm, ⟨33, _⟩ => ⟨S_, .f32⟩
  | .hbm, ⟨34, _⟩ => ⟨S96x2048, .f32⟩
  | .hbm, ⟨35, _⟩ => ⟨S96x2048, .f32⟩
  | .hbm, ⟨36, _⟩ => ⟨S96x2048, .f32⟩
  | .hbm, ⟨37, _⟩ => ⟨S_, .f32⟩
  | .hbm, ⟨38, _⟩ => ⟨S96x2048, .f32⟩
  | .hbm, ⟨39, _⟩ => ⟨S96x2048, .f32⟩
  | _, _ => ⟨S8x176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpConv.lean ====
abbrev S72x256 : Shape := ⟨2, ![72, 256]⟩

abbrev nBuf : Space → Nat
  | .hbm => 7
  | .vmem => 7
  | .smem => 0
  | _ => 0

abbrev bufTy : (tb : Table) → Fin (tcTables nBuf tb) → BufTy
  | .hbm, ⟨0, _⟩ => ⟨S72x256, .f32⟩
  | .hbm, ⟨1, _⟩ => ⟨S72x256, .f32⟩
  | .hbm, ⟨2, _⟩ => ⟨S72x256, .f32⟩
  | .hbm, ⟨3, _⟩ => ⟨S72x256, .f32⟩
  | .hbm, ⟨4, _⟩ => ⟨S72x256, .f32⟩
  | .hbm, ⟨5, _⟩ => ⟨S72x256, .f32⟩
  | .hbm, ⟨6, _⟩ => ⟨S72x256, .f32⟩
  | .local _ .vmem, ⟨0, _⟩ => ⟨S72x256, .f32⟩
  | .local _ .vmem, ⟨1, _⟩ => ⟨S72x256, .f32⟩
  | .local _ .vmem, ⟨2, _⟩ => ⟨S72x256, .f32⟩
  | .local _ .vmem, ⟨3, _⟩ => ⟨S72x256, .f32⟩
  | .local _ .vmem, ⟨4, _⟩ => ⟨S72x256, .f32⟩
  | .local _ .vmem, ⟨5, _⟩ => ⟨S72x256, .f32⟩
  | .local _ .vmem, ⟨6, _⟩ => ⟨S72x256, .f32⟩
  | _, _ => ⟨S72x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S72x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== UpConvRefIdeal.lean ====
abbrev S72x256 : Shape := ⟨2, ![72, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S72x256, .f32⟩
  | .hbm, ⟨1, _⟩ => ⟨S72x256, .f32⟩
  | .hbm, ⟨2, _⟩ => ⟨S72x256, .f32⟩
  | .hbm, ⟨3, _⟩ => ⟨S72x256, .f32⟩
  | .hbm, ⟨4, _⟩ => ⟨S_, .f32⟩
  | .hbm, ⟨5, _⟩ => ⟨S72x256, .f32⟩
  | .hbm, ⟨6, _⟩ => ⟨S72x256, .f32⟩
  | .hbm, ⟨7, _⟩ => ⟨S_, .f32⟩
  | .hbm, ⟨8, _⟩ => ⟨S72x256, .f32⟩
  | .hbm, ⟨9, _⟩ => ⟨S72x256, .f32⟩
  | .hbm, ⟨10, _⟩ => ⟨S72x256, .f32⟩
  | .hbm, ⟨11, _⟩ => ⟨S_, .f32⟩
  | .hbm, ⟨12, _⟩ => ⟨S72x256, .f32⟩
  | .hbm, ⟨13, _⟩ => ⟨S72x256, .f32⟩
  | .hbm, ⟨14, _⟩ => ⟨S72x256, .f32⟩
  | .hbm, ⟨15, _⟩ => ⟨S_, .f32⟩
  | .hbm, ⟨16, _⟩ => ⟨S72x256, .f32⟩
  | .hbm, ⟨17, _⟩ => ⟨S72x256, .f32⟩
  | .hbm, ⟨18, _⟩ => ⟨S72x256, .f32⟩
  | .hbm, ⟨19, _⟩ => ⟨S_, .f32⟩
  | .hbm, ⟨20, _⟩ => ⟨S72x256, .f32⟩
  | .hbm, ⟨21, _⟩ => ⟨S72x256, .f32⟩
  | .hbm, ⟨22, _⟩ => ⟨S_, .f32⟩
  | .hbm, ⟨23, _⟩ => ⟨S72x256, .f32⟩
  | .hbm, ⟨24, _⟩ => ⟨S72x256, .f32⟩
  | .hbm, ⟨25, _⟩ => ⟨S72x256, .f32⟩
  | .hbm, ⟨26, _⟩ => ⟨S_, .f32⟩
  | .hbm, ⟨27, _⟩ => ⟨S72x256, .f32⟩
  | .hbm, ⟨28, _⟩ => ⟨S72x256, .f32⟩
  | .hbm, ⟨29, _⟩ => ⟨S72x256, .f32⟩
  | .hbm, ⟨30, _⟩ => ⟨S_, .f32⟩
  | .hbm, ⟨31, _⟩ => ⟨S72x256, .f32⟩
  | .hbm, ⟨32, _⟩ => ⟨S72x256, .f32⟩
  | .hbm, ⟨33, _⟩ => ⟨S72x256, .f32⟩
  | .hbm, ⟨34, _⟩ => ⟨S_, .f32⟩
  | .hbm, ⟨35, _⟩ => ⟨S72x256, .f32⟩
  | .hbm, ⟨36, _⟩ => ⟨S72x256, .f32⟩
  | _, _ => ⟨S72x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== BConv.lean ====
abbrev S4096x6144 : Shape := ⟨2, ![4096, 6144]⟩
abbrev S3x2048 : Shape := ⟨2, ![3, 2048]⟩
abbrev S4096x2048 : Shape := ⟨2, ![4096, 2048]⟩
abbrev S128x6144 : Shape := ⟨2, ![128, 6144]⟩
abbrev S8x6144 : Shape := ⟨2, ![8, 6144]⟩
abbrev S128x2048 : Shape := ⟨2, ![128, 2048]⟩
abbrev S136x2048 : Shape := ⟨2, ![136, 2048]⟩
abbrev S8x2048 : Shape := ⟨2, ![8, 2048]⟩
abbrev S128x256 : Shape := ⟨2, ![128, 256]⟩
abbrev S1x256 : Shape := ⟨2, ![1, 256]⟩

abbrev nBuf : Space → Nat
  | .hbm => 3
  | .vmem => 8
  | .smem => 0
  | _ => 0

abbrev bufTy : (tb : Table) → Fin (tcTables nBuf tb) → BufTy
  | .hbm, ⟨0, _⟩ => ⟨S4096x6144, .f32⟩
  | .hbm, ⟨1, _⟩ => ⟨S3x2048, .f32⟩
  | .hbm, ⟨2, _⟩ => ⟨S4096x2048, .bf16⟩
  | .local _ .vmem, ⟨0, _⟩ => ⟨S128x6144, .f32⟩
  | .local _ .vmem, ⟨1, _⟩ => ⟨S128x6144, .f32⟩
  | .local _ .vmem, ⟨2, _⟩ => ⟨S8x6144, .f32⟩
  | .local _ .vmem, ⟨3, _⟩ => ⟨S8x6144, .f32⟩
  | .local _ .vmem, ⟨4, _⟩ => ⟨S3x2048, .f32⟩
  | .local _ .vmem, ⟨5, _⟩ => ⟨S128x2048, .bf16⟩
  | .local _ .vmem, ⟨6, _⟩ => ⟨S128x2048, .bf16⟩
  | .local _ .vmem, ⟨7, _⟩ => ⟨S136x2048, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BConvRefIdeal.lean ====
abbrev S4096x6144 : Shape := ⟨2, ![4096, 6144]⟩
abbrev S3x2048 : Shape := ⟨2, ![3, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S3x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S2x2048, .f32⟩
  | .hbm, ⟨8, _⟩ => ⟨S4098x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Modul.lean ====
abbrev S8x2048 : Shape := ⟨2, ![8, 2048]⟩
abbrev S4x2048x1536 : Shape := ⟨3, ![4, 2048, 1536]⟩
abbrev S4x1536 : Shape := ⟨2, ![4, 1536]⟩
abbrev S4x1x1536 : Shape := ⟨3, ![4, 1, 1536]⟩
abbrev S4x8x1536 : Shape := ⟨3, ![4, 8, 1536]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x1536, .f32⟩
  | .hbm, ⟨2, _⟩ => ⟨S4x1536, .f32⟩
  | .hbm, ⟨3, _⟩ => ⟨S4x1x1536, .f32⟩
  | .hbm, ⟨4, _⟩ => ⟨S4x8x1536, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulRefIdeal.lean ====
abbrev S8x2048 : Shape := ⟨2, ![8, 2048]⟩
abbrev S4x2048x1536 : Shape := ⟨3, ![4, 2048, 1536]⟩
abbrev S4x1536 : Shape := ⟨2, ![4, 1536]⟩
abbrev S_ : Shape := ⟨0, ![]⟩
abbrev S1x2048x1536 : Shape := ⟨3, ![1, 2048, 1536]⟩
abbrev S2048x1536 : Shape := ⟨2, ![2048, 1536]⟩
abbrev S8x1536 : Shape := ⟨2, ![8, 1536]⟩
abbrev S1x1536 : Shape := ⟨2, ![1, 1536]⟩
abbrev S1536 : Shape := ⟨1, ![1536]⟩
abbrev S1x8x1536 : Shape := ⟨3, ![1, 8, 1536]⟩
abbrev S4x8x1536 : Shape := ⟨3, ![4, 8, 1536]⟩

abbrev nBuf : Space → Nat
  | .hbm => 76
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x1536, .f32⟩
  | .hbm, ⟨2, _⟩ => ⟨S4x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x1536, .f32⟩
  | .hbm, ⟨13, _⟩ => ⟨S2048x1536, .f32⟩
  | .hbm, ⟨14, _⟩ => ⟨S8x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S8x1536, .f32⟩
  | .hbm, ⟨19, _⟩ => ⟨S8x1536, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S1x2048x1536, .f32⟩
  | .hbm, ⟨30, _⟩ => ⟨S2048x1536, .f32⟩
  | .hbm, ⟨31, _⟩ => ⟨S8x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S8x1536, .f32⟩
  | .hbm, ⟨36, _⟩ => ⟨S8x1536, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048, .f32⟩
  | .hbm, ⟨46, _⟩ => ⟨S1x2048x1536, .f32⟩
  | .hbm, ⟨47, _⟩ => ⟨S2048x1536, .f32⟩
  | .hbm, ⟨48, _⟩ => ⟨S8x1536, .f32⟩
  | .hbm, ⟨49, _⟩ => ⟨S1x1536, .f32⟩
  | .hbm, ⟨50, _⟩ => ⟨S1536, .f32⟩
  | .hbm, ⟨51, _⟩ => ⟨S1x1536, .f32⟩
  | .hbm, ⟨52, _⟩ => ⟨S8x1536, .f32⟩
  | .hbm, ⟨53, _⟩ => ⟨S8x1536, .f32⟩
  | .hbm, ⟨54, _⟩ => ⟨S8x2048, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S_, .f32⟩
  | .hbm, ⟨60, _⟩ => ⟨S8x2048, .f32⟩
  | .hbm, ⟨61, _⟩ => ⟨S8x2048, .f32⟩
  | .hbm, ⟨62, _⟩ => ⟨S8x2048, .f32⟩
  | .hbm, ⟨63, _⟩ => ⟨S1x2048x1536, .f32⟩
  | .hbm, ⟨64, _⟩ => ⟨S2048x1536, .f32⟩
  | .hbm, ⟨65, _⟩ => ⟨S8x1536, .f32⟩
  | .hbm, ⟨66, _⟩ => ⟨S1x1536, .f32⟩
  | .hbm, ⟨67, _⟩ => ⟨S1536, .f32⟩
  | .hbm, ⟨68, _⟩ => ⟨S1x1536, .f32⟩
  | .hbm, ⟨69, _⟩ => ⟨S8x1536, .f32⟩
  | .hbm, ⟨70, _⟩ => ⟨S8x1536, .f32⟩
  | .hbm, ⟨71, _⟩ => ⟨S1x8x1536, .f32⟩
  | .hbm, ⟨72, _⟩ => ⟨S1x8x1536, .f32⟩
  | .hbm, ⟨73, _⟩ => ⟨S1x8x1536, .f32⟩
  | .hbm, ⟨74, _⟩ => ⟨S1x8x1536, .f32⟩
  | .hbm, ⟨75, _⟩ => ⟨S4x8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== ModUp.lean ====
abbrev S2048x8 : Shape := ⟨2, ![2048, 8]⟩
abbrev S4x8x1536 : Shape := ⟨3, ![4, 8, 1536]⟩
abbrev S4x2048x1536 : Shape := ⟨3, ![4, 2048, 1536]⟩
abbrev S256x8 : Shape := ⟨2, ![256, 8]⟩
abbrev S1x8x1536 : Shape := ⟨3, ![1, 8, 1536]⟩
abbrev S1x256x1536 : Shape := ⟨3, ![1, 256, 1536]⟩
abbrev S8x1536 : Shape := ⟨2, ![8, 1536]⟩
abbrev S256x1 : Shape := ⟨2, ![256, 1]⟩
abbrev S1x1536 : Shape := ⟨2, ![1, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S2048x8, .f32⟩
  | .hbm, ⟨1, _⟩ => ⟨S4x8x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S4x2048x1536, .f32⟩
  | .hbm, ⟨6, _⟩ => ⟨S4x2048x1536, .f32⟩
  | .hbm, ⟨7, _⟩ => ⟨S4x2048x1536, .f32⟩
  | .hbm, ⟨8, _⟩ => ⟨S4x2048x1536, .f32⟩
  | .local _ .vmem, ⟨0, _⟩ => ⟨S256x8, .f32⟩
  | .local _ .vmem, ⟨1, _⟩ => ⟨S256x8, .f32⟩
  | .local _ .vmem, ⟨2, _⟩ => ⟨S1x8x1536, .f32⟩
  | .local _ .vmem, ⟨3, _⟩ => ⟨S1x8x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ModUpRefIdeal.lean ====
abbrev S2048x8 : Shape := ⟨2, ![2048, 8]⟩
abbrev S4x8x1536 : Shape := ⟨3, ![4, 8, 1536]⟩
abbrev S4x2048x1536 : Shape := ⟨3, ![4, 2048, 1536]⟩
abbrev S8x2048 : Shape := ⟨2, ![8, 2048]⟩
abbrev S_ : Shape := ⟨0, ![]⟩
abbrev S4x1536x8 : Shape := ⟨3, ![4, 1536, 8]⟩
abbrev S4x1536x2048 : Shape := ⟨3, ![4, 1536, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S4x8x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S4x1536x8, .f32⟩
  | .hbm, ⟨16, _⟩ => ⟨S4x8x1536, .f32⟩
  | .hbm, ⟨17, _⟩ => ⟨S4x1536x8, .f32⟩
  | .hbm, ⟨18, _⟩ => ⟨S4x1536x2048, .f32⟩
  | .hbm, ⟨19, _⟩ => ⟨S4x2048x1536, .f32⟩
  | .hbm, ⟨20, _⟩ => ⟨S_, .f32⟩
  | .hbm, ⟨21, _⟩ => ⟨S4x2048x1536, .f32⟩
  | .hbm, ⟨22, _⟩ => ⟨S4x2048x1536, .f32⟩
  | .hbm, ⟨23, _⟩ => ⟨S_, .f32⟩
  | .hbm, ⟨24, _⟩ => ⟨S4x2048x1536, .f32⟩
  | .hbm, ⟨25, _⟩ => ⟨S4x2048x1536, .f32⟩
  | .hbm, ⟨26, _⟩ => ⟨S4x2048x1536, .f32⟩
  | .hbm, ⟨27, _⟩ => ⟨S_, .f32⟩
  | .hbm, ⟨28, _⟩ => ⟨S4x2048x1536, .f32⟩
  | .hbm, ⟨29, _⟩ => ⟨S4x2048x1536, .f32⟩
  | .hbm, ⟨30, _⟩ => ⟨S4x2048x1536, .f32⟩
  | .hbm, ⟨31, _⟩ => ⟨S_, .f32⟩
  | .hbm, ⟨32, _⟩ => ⟨S4x2048x1536, .f32⟩
  | .hbm, ⟨33, _⟩ => ⟨S4x2048x1536, .f32⟩
  | .hbm, ⟨34, _⟩ => ⟨S4x2048x1536, .f32⟩
  | .hbm, ⟨35, _⟩ => ⟨S_, .f32⟩
  | .hbm, ⟨36, _⟩ => ⟨S4x2048x1536, .f32⟩
  | .hbm, ⟨37, _⟩ => ⟨S4x2048x1536, .f32⟩
  | .hbm, ⟨38, _⟩ => ⟨S_, .f32⟩
  | .hbm, ⟨39, _⟩ => ⟨S4x2048x1536, .f32⟩
  | .hbm, ⟨40, _⟩ => ⟨S4x2048x1536, .f32⟩
  | .hbm, ⟨41, _⟩ => ⟨S4x2048x1536, .f32⟩
  | .hbm, ⟨42, _⟩ => ⟨S_, .f32⟩
  | .hbm, ⟨43, _⟩ => ⟨S4x2048x1536, .f32⟩
  | .hbm, ⟨44, _⟩ => ⟨S4x2048x1536, .f32⟩
  | .hbm, ⟨45, _⟩ => ⟨S4x2048x1536, .f32⟩
  | .hbm, ⟨46, _⟩ => ⟨S_, .f32⟩
  | .hbm, ⟨47, _⟩ => ⟨S4x2048x1536, .f32⟩
  | .hbm, ⟨48, _⟩ => ⟨S4x2048x1536, .f32⟩
  | .hbm, ⟨49, _⟩ => ⟨S4x2048x1536, .f32⟩
  | .hbm, ⟨50, _⟩ => ⟨S_, .f32⟩
  | .hbm, ⟨51, _⟩ => ⟨S4x2048x1536, .f32⟩
  | .hbm, ⟨52, _⟩ => ⟨S4x2048x1536, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Proof.Entry.lean ====
/- Entries of a two-axis array by natural-number coordinates, zero outside the array: what the
   windows of a kernel and the shifted rows of its reference are both stated over. -/
module

public import Idealize.ShloMosaic.Lib.Pointwise
public import Idealize.ShloMosaic.Lib.Pipeline.Value
public import Idealize.ShloMosaic.Lib.WholeRead
public import Idealize.ShloMosaic.Lib.Pipeline.ReadBack

@[expose] public section

noncomputable section

namespace Cert.Entry

open Idealize.ShloMosaic

/-- Entry `(r, c)` of a two-axis array, zero outside it. -/
def at2 {R C : ℕ} (A : (⟨2, ![R, C]⟩ : Shape).Idx → EReal) (r c : ℕ) : EReal :=
  if h : r < R ∧ c < C then A (ix2 ⟨r, h.1⟩ ⟨c, h.2⟩) else 0

/-- Inside the array `at2` is the array's entry. -/
theorem at2_of_lt {R C : ℕ} (A : (⟨2, ![R, C]⟩ : Shape).Idx → EReal) {r c : ℕ} (hr : r < R) (hc : c < C) :
    at2 A r c = A (ix2 ⟨r, hr⟩ ⟨c, hc⟩) := dif_pos ⟨hr, hc⟩

/-- An array read at an index is `at2` at the index's coordinates. -/
theorem eq_at2 {R C : ℕ} (A : (⟨2, ![R, C]⟩ : Shape).Idx → EReal) (y : (⟨2, ![R, C]⟩ : Shape).Idx) :
    A y = at2 A (y 0).val (y 1).val := by
  have h0 : (y 0).val < R := (y 0).isLt
  have h1 : (y 1).val < C := (y 1).isLt
  rw [at2_of_lt A h0 h1]
  refine congrArg A (funext fun a => ?_)
  match a with
  | ⟨0, _⟩ => rfl
  | ⟨1, _⟩ => rfl

/-- An array read at an index whose coordinates are known. -/
theorem eq_at2_of {R C : ℕ} (A : (⟨2, ![R, C]⟩ : Shape).Idx → EReal) (y : (⟨2, ![R, C]⟩ : Shape).Idx) {r c : ℕ}
    (hr : (y 0).val = r) (hc : (y 1).val = c) : A y = at2 A r c := by
  subst hr hc; exact eq_at2 A y

/-- Rows past the array are zero. -/
theorem at2_of_row_ge {R C : ℕ} (A : (⟨2, ![R, C]⟩ : Shape).Idx → EReal) {r c : ℕ} (hr : R ≤ r) : at2 A r c = 0 :=
  dif_neg fun h => absurd h.1 (Nat.not_lt.mpr hr)

/-- A unit-stride rectangle's index, coordinate by coordinate. -/
theorem emb_unit_val {s : Shape} {off size : Fin s.rank → ℕ} (inb : ∀ a, off a + size a ≤ s.size a)
    (x : (Rect.unit off size inb).shape.Idx) (a : Fin s.rank) : ((Rect.unit off size inb).emb x a).val = off a + (x a).val :=
  congrArg (off a + ·) (Nat.one_mul _)

/-- A load of a rectangle of a buffer that holds `A` reads `A`'s entries there. -/
theorem readAt_unit2 {sig : RefSig} {κ : Kind} {sp : Space} {R C : ℕ} {m : Memref sig κ sp ⟨2, ![R, C]⟩ .f32} (h : m.IsWhole)
    (A : (⟨2, ![R, C]⟩ : Shape).Idx → EReal) {off size : Fin 2 → ℕ} (inb : ∀ a, off a + size a ≤ (⟨2, ![R, C]⟩ : Shape).size a)
    (x : (Rect.unit (s := ⟨2, ![R, C]⟩) off size inb).shape.Idx) :
    View.readAt (Elt Ideal) m.view (Rect.unit (s := ⟨2, ![R, C]⟩) off size inb).toLoadRect (h.unread A) x
      = at2 A (off 0 + (x 0).val) (off 1 + (x 1).val) := by
  rw [h.readAt_unread (Val := Elt Ideal) A]
  exact eq_at2_of A _ (emb_unit_val inb x 0) (emb_unit_val inb x 1)

/-- A load of a rectangle of a buffer the stores `L` filled reads what they left there. -/
theorem readCov_unit2 {sig : RefSig} {κ : Kind} {sp : Space} {R C : ℕ} (v : View sig κ sp ⟨2, ![R, C]⟩ .f32)
    (L : List (View.Piece (Elt Ideal) ⟨2, ![R, C]⟩ .f32)) {g : ℕ → ℕ → EReal}
    (h : ∀ y : (⟨2, ![R, C]⟩ : Shape).Idx, View.canon L y = g (y 0).val (y 1).val)
    {off size : Fin 2 → ℕ} (inb : ∀ a, off a + size a ≤ (⟨2, ![R, C]⟩ : Shape).size a)
    (x : (Rect.unit (s := ⟨2, ![R, C]⟩) off size inb).shape.Idx) :
    v.readCov L (Rect.unit (s := ⟨2, ![R, C]⟩) off size inb).toLoadRect x = g (off 0 + (x 0).val) (off 1 + (x 1).val) := by
  rw [View.readCov_eq_canon']
  refine (h _).trans ?_
  exact congrArg₂ g (emb_unit_val inb x 0) (emb_unit_val inb x 1)

end Cert.Entry

end
-- ==== Proof.ShortGrad.Buffers.lean ====
/- What the two scratch buffers of the short convolution's backward kernel hold at a grid point:
   the gated inputs with the rows before the block, and the gated output gradients with the rows after it. -/
module

public import proofs.«01_k».proof.Proof.Gen.KernelIdeal.Value
public import proofs.«01_k».proof.Proof.Entry
public import Idealize.ShloMosaic.Lib.WholeRead
public import Idealize.ShloMosaic.Lib.Pipeline.ReadBack

@[expose] public section

set_option maxRecDepth 16384

noncomputable section

namespace Cert.ShortGrad

open Cert.KernelIdeal Cert.KernelIdeal.Gen Idealize.ShloMosaic Idealize.ShloMosaic.TcCoe Idealize.SL.Sem Cert.Entry

/-- Row `j` of the gated inputs as the kernel keeps them: eight rows from before the block (zero at the
    first point), then the block's 128. -/
def pbuf (b : BitVec 1) (x2 : Vec Ideal S128x6144 .f32) (x3 : Vec Ideal S8x6144 .f32) (j c : ℕ) : EReal :=
  if j < 8 then (if b = 1#1 then at2 x3 j (2048 + c) * at2 x3 j (4096 + c) else 0)
  else at2 x2 (j - 8) (2048 + c) * at2 x2 (j - 8) (4096 + c)

/-- Row `j` of the gated output gradients: the block's 128 rows, then eight from after it (zero at the
    last point). -/
def ubuf (b : BitVec 1) (x0 : Vec Ideal S128x2048 .f32) (x1 : Vec Ideal S8x2048 .f32) (x2 : Vec Ideal S128x6144 .f32)
    (x4 : Vec Ideal S8x6144 .f32) (j c : ℕ) : EReal :=
  if j < 128 then at2 x0 j c * at2 x2 j c
  else if b = 1#1 then at2 x1 (j - 128) c * at2 x4 (j - 128) c else 0

/-- Row `r` of what a point writes of the input gradient, `P` and `U` the two buffers' entries: the output
    gradient times the convolution, then the transposed convolution times the other two gates' counterparts. -/
def dzBlk (x0 : Vec Ideal S128x2048 .f32) (x2 : Vec Ideal S128x6144 .f32) (x5 : Vec Ideal S3x2048 .f32) (P U : ℕ → ℕ → EReal)
    (r c : ℕ) : EReal :=
  if c < 2048 then
    at2 x0 r c * (at2 x5 0 c * P (6 + r) c + at2 x5 1 c * P (7 + r) c + at2 x5 2 c * P (8 + r) c)
  else if c < 4096 then
    (at2 x5 0 (c - 2048) * U (2 + r) (c - 2048) + at2 x5 1 (c - 2048) * U (1 + r) (c - 2048) + at2 x5 2 (c - 2048) * U r (c - 2048))
      * at2 x2 r (2048 + c)
  else
    (at2 x5 0 (c - 4096) * U (2 + r) (c - 4096) + at2 x5 1 (c - 4096) * U (1 + r) (c - 4096) + at2 x5 2 (c - 4096) * U r (c - 4096))
      * at2 x2 r (c - 2048)

section
variable {x0 : Vec Ideal S128x2048 .f32} {x2 : Vec Ideal S128x6144 .f32} {x5 : Vec Ideal S3x2048 .f32} {P U : ℕ → ℕ → EReal}

theorem dzBlk_first {r c : ℕ} (hc : c < 2048) : dzBlk x0 x2 x5 P U r c
    = at2 x0 r c * (at2 x5 0 c * P (6 + r) c + at2 x5 1 c * P (7 + r) c + at2 x5 2 c * P (8 + r) c) := if_pos hc

theorem dzBlk_mid {r c k e : ℕ} (hk : k < 2048) (hc : c = 2048 + k) (he : e = 4096 + k) : dzBlk x0 x2 x5 P U r c
    = (at2 x5 0 k * U (2 + r) k + at2 x5 1 k * U (1 + r) k + at2 x5 2 k * U r k) * at2 x2 r e := by
  subst hc he
  rw [dzBlk, if_neg (by omega), if_pos (by omega), Nat.add_sub_cancel_left, ← Nat.add_assoc]

theorem dzBlk_last {r c k e : ℕ} (hc : c = 4096 + k) (he : e = 2048 + k) : dzBlk x0 x2 x5 P U r c
    = (at2 x5 0 k * U (2 + r) k + at2 x5 1 k * U (1 + r) k + at2 x5 2 k * U r k) * at2 x2 r e := by
  subst hc he
  rw [dzBlk, if_neg (by omega), if_neg (by omega), Nat.add_sub_cancel_left, show 4096 + k - 2048 = 2048 + k by omega]
end

/-- Row `r` of what a point adds to the taps' gradient. -/
def dwBlk (P U : ℕ → ℕ → EReal) (r c : ℕ) : EReal := ∑ s : Fin 128, U s.val c * P (6 + r + s.val) c

/-- A buffer of sums part-way filled: the first `k` of its row pieces (three rows by eight column groups, taken
    column group by column group) hold `D`, the rest zero. -/
def filled (D : ℕ → ℕ → EReal) (k r c : ℕ) : EReal := if r < 3 ∧ 3 * (c / 256) + r < k then D r c else 0

theorem filled_later {D : ℕ → ℕ → EReal} {k r c : ℕ} (h : k ≤ 3 * (c / 256) + r) : filled D k r c = 0 :=
  if_neg fun h' => absurd h'.2 (Nat.not_lt.mpr h)

/-- The stores `L` leave such a buffer. -/
def Filled (D : ℕ → ℕ → EReal) (k : ℕ) (L : List (View.Piece (Elt Ideal) S8x2048 .f32)) : Prop :=
  ∀ y : S8x2048.Idx, View.canon L y = filled D k (y 0).val (y 1).val

/-- One more row piece stored. -/
theorem Filled.step {D : ℕ → ℕ → EReal} {k : ℕ} {L : List (View.Piece (Elt Ideal) S8x2048 .f32)} (hL : Filled D k L) {r c q : ℕ}
    (hr : r < 3 ∧ k = 3 * q + r) (hc : c = 256 * q) {inb : ∀ a, (![r, c] : Fin 2 → ℕ) a + S1x256.size a ≤ S8x2048.size a}
    {w : (Rect.unit (s := S8x2048) ![r, c] S1x256.size inb).shape.Idx → Elt Ideal .f32}
    (hw : ∀ x, w x = D r (c + (x 1).val)) : Filled D (k + 1) (⟨Rect.unit (s := S8x2048) ![r, c] S1x256.size inb, w⟩ :: L) := by
  intro y
  by_cases hy : y ∈ (Rect.unit (s := S8x2048) ![r, c] S1x256.size inb).set
  · obtain ⟨x, rfl⟩ := (Rect.unit (s := S8x2048) ![r, c] S1x256.size inb).exists_idx_of_mem hy
    refine (View.canon_cons_emb (Rect.unit (s := S8x2048) ![r, c] S1x256.size inb) w L x).trans ?_
    have e0 : ((Rect.unit (s := S8x2048) ![r, c] S1x256.size inb).idx x 0).val = r := by
      have h0 : (x 0).val < 1 := (x 0).isLt
      exact (emb_unit_val inb x 0).trans (by show r + (x 0).val = r; omega)
    have e1 : ((Rect.unit (s := S8x2048) ![r, c] S1x256.size inb).idx x 1).val = c + (x 1).val := emb_unit_val inb x 1
    have h1 : (x 1).val < 256 := (x 1).isLt
    rw [hw x, e0, e1, filled, if_pos]
    subst hc
    omega
  · rw [View.canon_cons_of_not_mem (⟨Rect.unit (s := S8x2048) ![r, c] S1x256.size inb, w⟩ : View.Piece (Elt Ideal) S8x2048 .f32) L hy, hL y]
    have hn : ¬((y 0).val = r ∧ c ≤ (y 1).val ∧ (y 1).val < c + 256) := fun h => hy (Rect.mem_set_unit.mpr fun a => by
      match a with
      | ⟨0, _⟩ => exact ⟨le_of_eq h.1.symm, by show (y 0).val < r + 1; omega⟩
      | ⟨1, _⟩ => exact h.2)
    refine if_congr ?_ rfl rfl
    subst hc
    omega

section
variable (c : Dev nD) (i : grid0.Coords) (arg1 : Memref sig .tc .vmem S128x2048 .f32) (harg1 : arg1.IsWhole) (arg2 : Memref sig .tc .vmem S8x2048 .f32) (harg2 : arg2.IsWhole) (arg3 : Memref sig .tc .vmem S128x6144 .f32) (harg3 : arg3.IsWhole) (arg4 : Memref sig .tc .vmem S8x6144 .f32) (harg4 : arg4.IsWhole) (arg5 : Memref sig .tc .vmem S8x6144 .f32) (harg5 : arg5.IsWhole)
    (x0 : Vec Ideal S128x2048 .f32) (x1 : Vec Ideal S8x2048 .f32) (x2 : Vec Ideal S128x6144 .f32) (x3 : Vec Ideal S8x6144 .f32) (x4 : Vec Ideal S8x6144 .f32)

theorem ubuf_pieces : View.PiecesOf (fun y : S136x2048.Idx => ubuf (kernelRun0_B.sl.v24 i) x0 x1 x2 x4 (y 0).val (y 1).val)
    (kernelRun0_B.sl.HS1_2 c i arg1 harg1 arg2 harg2 arg3 harg3 arg5 harg5 x0 x1 x2 x4) := by
  unfold kernelRun0_B.sl.HS1_2 kernelRun0_B.sl.r
  refine ⟨fun x => ?_, fun x => ?_, trivial⟩
  · unfold_payloads
    simp only [emb_unit_val]
    pointwise [shapeCast_self, readAt_unit2, ubuf]
    rfl
  · unfold_payloads
    simp only [emb_unit_val]
    pointwise [shapeCast_self, readAt_unit2, ubuf]

theorem pbuf_pieces : View.PiecesOf (fun y : S136x2048.Idx => pbuf (Scalar.cmpi .sgt (BitVec.ofNat 32 (i 0).val) 0#32) x2 x3 (y 0).val (y 1).val)
    (kernelRun0_B.sl.HS0_2 c i arg3 harg3 arg4 harg4 x2 x3) := by
  unfold kernelRun0_B.sl.HS0_2
  refine ⟨fun x => ?_, fun x => ?_, trivial⟩
  · unfold_payloads
    simp only [emb_unit_val]
    pointwise [shapeCast_self, readAt_unit2, pbuf]
  · unfold_payloads
    simp only [emb_unit_val]
    pointwise [shapeCast_self, readAt_unit2, pbuf]
    rfl

/-- The gated output gradients' buffer at an index. -/
theorem canon_ubuf (y : S136x2048.Idx) :
    View.canon (kernelRun0_B.sl.HS1_2 c i arg1 harg1 arg2 harg2 arg3 harg3 arg5 harg5 x0 x1 x2 x4) y
      = ubuf (kernelRun0_B.sl.v24 i) x0 x1 x2 x4 (y 0).val (y 1).val :=
  View.canon_apply_of_pieces (fun y : S136x2048.Idx => ubuf (kernelRun0_B.sl.v24 i) x0 x1 x2 x4 (y 0).val (y 1).val) _ (ubuf_pieces c i arg1 harg1 arg2 harg2 arg3 harg3 arg5 harg5 x0 x1 x2 x4).mem y
    (View.cover_of_tiledBy (kernelRun0_B.sl.HS1_2 c i arg1 harg1 arg2 harg2 arg3 harg3 arg5 harg5 x0 x1 x2 x4) ![8, 2048] (by sl_kernel_rfl) y)

/-- The gated inputs' buffer at an index. -/
theorem canon_pbuf (y : S136x2048.Idx) :
    View.canon (kernelRun0_B.sl.HS0_2 c i arg3 harg3 arg4 harg4 x2 x3) y
      = pbuf (Scalar.cmpi .sgt (BitVec.ofNat 32 (i 0).val) 0#32) x2 x3 (y 0).val (y 1).val :=
  View.canon_apply_of_pieces (fun y : S136x2048.Idx => pbuf (Scalar.cmpi .sgt (BitVec.ofNat 32 (i 0).val) 0#32) x2 x3 (y 0).val (y 1).val) _ (pbuf_pieces c i arg3 harg3 arg4 harg4 x2 x3).mem y
    (View.cover_of_tiledBy (kernelRun0_B.sl.HS0_2 c i arg3 harg3 arg4 harg4 x2 x3) ![8, 2048] (by sl_kernel_rfl) y)

/-- The first point's run keeps the same two buffers. -/
theorem canon_ubufA (y : S136x2048.Idx) :
    View.canon (kernelRun0_A.sl.HS1_2 c i arg1 harg1 arg2 harg2 arg3 harg3 arg5 harg5 x0 x1 x2 x4) y
      = ubuf (kernelRun0_B.sl.v24 i) x0 x1 x2 x4 (y 0).val (y 1).val :=
  canon_ubuf c i arg1 harg1 arg2 harg2 arg3 harg3 arg5 harg5 x0 x1 x2 x4 y

theorem canon_pbufA (y : S136x2048.Idx) :
    View.canon (kernelRun0_A.sl.HS0_2 c i arg3 harg3 arg4 harg4 x2 x3) y
      = pbuf (Scalar.cmpi .sgt (BitVec.ofNat 32 (i 0).val) 0#32) x2 x3 (y 0).val (y 1).val :=
  canon_pbuf c i arg3 harg3 arg4 harg4 x2 x3 y
end

end Cert.ShortGrad

end
-- ==== Proof.ShortGrad.PointA.lean ====
/- What the first point of the short convolution's backward kernel stores, block by block. -/
module

public import proofs.«01_k».proof.Proof.Gen.KernelIdeal.Value
public import proofs.«01_k».proof.Proof.ShortGrad.Buffers
public import Idealize.ShloMosaic.Lib.WholeRead
public import Idealize.ShloMosaic.Lib.Pipeline.ReadBack

@[expose] public section

set_option maxRecDepth 16384

noncomputable section

namespace Cert.ShortGrad

open Cert.KernelIdeal Cert.KernelIdeal.Gen Idealize.ShloMosaic Idealize.ShloMosaic.TcCoe Idealize.SL.Sem Cert.Entry

section
variable (c : Dev nD) (i : grid0.Coords) (arg1 : Memref sig .tc .vmem S128x2048 .f32) (harg1 : arg1.IsWhole) (arg2 : Memref sig .tc .vmem S8x2048 .f32) (harg2 : arg2.IsWhole) (arg3 : Memref sig .tc .vmem S128x6144 .f32) (harg3 : arg3.IsWhole) (arg4 : Memref sig .tc .vmem S8x6144 .f32) (harg4 : arg4.IsWhole) (arg5 : Memref sig .tc .vmem S8x6144 .f32) (harg5 : arg5.IsWhole) (arg6 : Memref sig .tc .vmem S3x2048 .f32) (harg6 : arg6.IsWhole) (arg7 : Memref sig .tc .vmem S128x6144 .bf16) (harg7 : arg7.IsWhole) (arg8 : Memref sig .tc .vmem S8x2048 .f32) (harg8 : arg8.IsWhole) (arg9 : Memref sig .tc .vmem S136x2048 .f32) (harg9 : arg9.IsWhole) (arg10 : Memref sig .tc .vmem S136x2048 .f32) (harg10 : arg10.IsWhole)
    (x0 : Vec Ideal S128x2048 .f32) (x1 : Vec Ideal S8x2048 .f32) (x2 : Vec Ideal S128x6144 .f32) (x3 : Vec Ideal S8x6144 .f32) (x4 : Vec Ideal S8x6144 .f32) (x5 : Vec Ideal S3x2048 .f32)

/-- Every store into the input gradient's block is a block of `dzBlk`. -/
theorem pieces6_A (hc0 : cond0_0 i) : View.PiecesOf (fun y : S128x6144.Idx => dzBlk x0 x2 x5 (pbuf (Scalar.cmpi .sgt (BitVec.ofNat 32 (i 0).val) 0#32) x2 x3) (ubuf (kernelRun0_B.sl.v24 i) x0 x1 x2 x4) (y 0).val (y 1).val)
    (kernelRun0_A c i arg1 harg1 arg2 harg2 arg3 harg3 arg4 harg4 arg5 harg5 arg6 harg6 arg7 harg7 arg8 harg8 arg9 harg9 arg10 harg10 hc0 x0 x1 x2 x3 x4 x5).1 := by
  unfold kernelRun0_A
  dsimp only [kernelRun0_A.sl.H7_1, kernelRun0_A.sl.H7_10, kernelRun0_A.sl.H7_11, kernelRun0_A.sl.H7_12, kernelRun0_A.sl.H7_13,
    kernelRun0_A.sl.H7_14, kernelRun0_A.sl.H7_15, kernelRun0_A.sl.H7_16, kernelRun0_A.sl.H7_17, kernelRun0_A.sl.H7_18,
    kernelRun0_A.sl.H7_19, kernelRun0_A.sl.H7_2, kernelRun0_A.sl.H7_20, kernelRun0_A.sl.H7_21, kernelRun0_A.sl.H7_22,
    kernelRun0_A.sl.H7_23, kernelRun0_A.sl.H7_24, kernelRun0_A.sl.H7_3, kernelRun0_A.sl.H7_4, kernelRun0_A.sl.H7_5,
    kernelRun0_A.sl.H7_6, kernelRun0_A.sl.H7_7, kernelRun0_A.sl.H7_8, kernelRun0_A.sl.H7_9, kernelRun0_A.sl.r_1,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_2, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_3,
    kernelRun0_A.sl.r_4, kernelRun0_A.sl.r_5, kernelRun0_A.sl.r_6, kernelRun0_A.sl.r_7, kernelRun0_A.sl.r_8,
    kernelRun0_A.sl.r_9, kernelRun0_A.sl.v, kernelRun0_A.sl.v0, kernelRun0_A.sl.v1, kernelRun0_A.sl.v100, kernelRun0_A.sl.v104,
    kernelRun0_A.sl.v108, kernelRun0_A.sl.v116, kernelRun0_A.sl.v120, kernelRun0_A.sl.v124, kernelRun0_A.sl.v132,
    kernelRun0_A.sl.v140, kernelRun0_A.sl.v159, kernelRun0_A.sl.v163, kernelRun0_A.sl.v167, kernelRun0_A.sl.v171,
    kernelRun0_A.sl.v179, kernelRun0_A.sl.v183, kernelRun0_A.sl.v187, kernelRun0_A.sl.v195, kernelRun0_A.sl.v2,
    kernelRun0_A.sl.v203, kernelRun0_A.sl.v222, kernelRun0_A.sl.v226, kernelRun0_A.sl.v230, kernelRun0_A.sl.v234,
    kernelRun0_A.sl.v242, kernelRun0_A.sl.v246, kernelRun0_A.sl.v250, kernelRun0_A.sl.v258, kernelRun0_A.sl.v266,
    kernelRun0_A.sl.v285, kernelRun0_A.sl.v289, kernelRun0_A.sl.v293, kernelRun0_A.sl.v297, kernelRun0_A.sl.v305,
    kernelRun0_A.sl.v309, kernelRun0_A.sl.v313, kernelRun0_A.sl.v321, kernelRun0_A.sl.v329, kernelRun0_A.sl.v33,
    kernelRun0_A.sl.v348, kernelRun0_A.sl.v352, kernelRun0_A.sl.v356, kernelRun0_A.sl.v360, kernelRun0_A.sl.v368,
    kernelRun0_A.sl.v37, kernelRun0_A.sl.v372, kernelRun0_A.sl.v376, kernelRun0_A.sl.v384, kernelRun0_A.sl.v392,
    kernelRun0_A.sl.v41, kernelRun0_A.sl.v415, kernelRun0_A.sl.v419, kernelRun0_A.sl.v423, kernelRun0_A.sl.v431,
    kernelRun0_A.sl.v435, kernelRun0_A.sl.v439, kernelRun0_A.sl.v447, kernelRun0_A.sl.v45, kernelRun0_A.sl.v455,
    kernelRun0_A.sl.v474, kernelRun0_A.sl.v478, kernelRun0_A.sl.v482, kernelRun0_A.sl.v486, kernelRun0_A.sl.v494,
    kernelRun0_A.sl.v498, kernelRun0_A.sl.v502, kernelRun0_A.sl.v510, kernelRun0_A.sl.v518, kernelRun0_A.sl.v53,
    kernelRun0_A.sl.v57, kernelRun0_A.sl.v61, kernelRun0_A.sl.v69, kernelRun0_A.sl.v77, kernelRun0_A.sl.v96]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  all_goals
    have hx : (x 1).val < 256 := (x 1).isLt
    unfold_payloads
    simp only [emb_unit_val]
    pointwise [shapeCast_self, readAt_unit2, readCov_unit2 _ _ (canon_ubufA c i arg1 harg1 arg2 harg2 arg3 harg3 arg5 harg5 x0 x1 x2 x4), readCov_unit2 _ _ (canon_pbufA c i arg3 harg3 arg4 harg4 x2 x3)]
    first
    | exact (dzBlk_first (by omega)).symm
    | exact (dzBlk_mid (by omega) (by omega) (by omega)).symm
    | exact (dzBlk_last (by omega) (by omega)).symm

/-- What the first point leaves of the input gradient, at an index. -/
theorem out6_A (hc0 : cond0_0 i) (y : S128x6144.Idx) :
    out0_A_6 c i arg1 harg1 arg2 harg2 arg3 harg3 arg4 harg4 arg5 harg5 arg6 harg6 arg7 harg7 arg8 harg8 arg9 harg9 arg10 harg10 hc0 x0 x1 x2 x3 x4 x5 y
      = dzBlk x0 x2 x5 (pbuf (Scalar.cmpi .sgt (BitVec.ofNat 32 (i 0).val) 0#32) x2 x3) (ubuf (kernelRun0_B.sl.v24 i) x0 x1 x2 x4) (y 0).val (y 1).val := by
  unfold out0_A_6
  exact View.read_writes_apply_of_pieces _ _ (fun y : S128x6144.Idx => dzBlk x0 x2 x5 (pbuf (Scalar.cmpi .sgt (BitVec.ofNat 32 (i 0).val) 0#32) x2 x3) (ubuf (kernelRun0_B.sl.v24 i) x0 x1 x2 x4) (y 0).val (y 1).val) _
    (pieces6_A c i arg1 harg1 arg2 harg2 arg3 harg3 arg4 harg4 arg5 harg5 arg6 harg6 arg7 harg7 arg8 harg8 arg9 harg9 arg10 harg10 x0 x1 x2 x3 x4 x5 hc0).mem y
    (cover0_A_6 c i arg1 harg1 arg2 harg2 arg3 harg3 arg4 harg4 arg5 harg5 arg6 harg6 arg7 harg7 arg8 harg8 arg9 harg9 arg10 harg10 hc0 x0 x1 x2 x3 x4 x5 y)

/-- The zero fill, -/
theorem fill1 : Filled (dwBlk (pbuf (Scalar.cmpi .sgt (BitVec.ofNat 32 (i 0).val) 0#32) x2 x3) (ubuf (kernelRun0_B.sl.v24 i) x0 x1 x2 x4)) 0 kernelRun0_A.sl.H7_1 := by
  intro y
  have h : View.PiecesOf (fun _ : S8x2048.Idx => (0 : EReal)) (kernelRun0_A.sl.H7_1 (F := Ideal)) := by
    unfold kernelRun0_A.sl.H7_1
    refine ⟨fun x => ?_, trivial⟩
    unfold_payloads
    pointwise []
  rw [filled_later (Nat.zero_le _)]
  exact View.canon_apply_of_pieces (fun _ : S8x2048.Idx => (0 : EReal)) _ h.mem y
    (View.cover_of_tiledBy (kernelRun0_A.sl.H7_1 (F := Ideal)) ![8, 2048] (by sl_kernel_rfl) y)

/-- row 0 of columns 0 on. -/
theorem fill2 : Filled (dwBlk (pbuf (Scalar.cmpi .sgt (BitVec.ofNat 32 (i 0).val) 0#32) x2 x3) (ubuf (kernelRun0_B.sl.v24 i) x0 x1 x2 x4)) 1 (kernelRun0_A.sl.H7_2 c i arg1 harg1 arg2 harg2 arg3 harg3 arg4 harg4 arg5 harg5 arg8 arg9 arg10 x0 x1 x2 x3 x4) := by
  unfold kernelRun0_A.sl.H7_2
  dsimp only [kernelRun0_A.sl.v33, kernelRun0_A.sl.v37, kernelRun0_A.sl.v45]
  refine (fill1 i x0 x1 x2 x3 x4).step (q := 0) ⟨by omega, by omega⟩ (by omega) fun x => ?_
  · have hx : (x 1).val < 256 := (x 1).isLt
    unfold_payloads
    pointwise [shapeCast_self, readCov_unit2 _ _ (fill1 i x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 1 of columns 0 on. -/
theorem fill3 : Filled (dwBlk (pbuf (Scalar.cmpi .sgt (BitVec.ofNat 32 (i 0).val) 0#32) x2 x3) (ubuf (kernelRun0_B.sl.v24 i) x0 x1 x2 x4)) 2 (kernelRun0_A.sl.H7_3 c i arg1 harg1 arg2 harg2 arg3 harg3 arg4 harg4 arg5 harg5 arg8 arg9 arg10 x0 x1 x2 x3 x4) := by
  unfold kernelRun0_A.sl.H7_3
  dsimp only [kernelRun0_A.sl.v33, kernelRun0_A.sl.v53, kernelRun0_A.sl.v61]
  refine (fill2 c i arg1 harg1 arg2 harg2 arg3 harg3 arg4 harg4 arg5 harg5 arg8 arg9 arg10 x0 x1 x2 x3 x4).step (q := 0) ⟨by omega, by omega⟩ (by omega) fun x => ?_
  · have hx : (x 1).val < 256 := (x 1).isLt
    unfold_payloads
    pointwise [shapeCast_self, readCov_unit2 _ _ (fill2 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 2 of columns 0 on. -/
theorem fill4 : Filled (dwBlk (pbuf (Scalar.cmpi .sgt (BitVec.ofNat 32 (i 0).val) 0#32) x2 x3) (ubuf (kernelRun0_B.sl.v24 i) x0 x1 x2 x4)) 3 (kernelRun0_A.sl.H7_4 c i arg1 harg1 arg2 harg2 arg3 harg3 arg4 harg4 arg5 harg5 arg8 arg9 arg10 x0 x1 x2 x3 x4) := by
  unfold kernelRun0_A.sl.H7_4
  dsimp only [kernelRun0_A.sl.v33, kernelRun0_A.sl.v69, kernelRun0_A.sl.v77]
  refine (fill3 c i arg1 harg1 arg2 harg2 arg3 harg3 arg4 harg4 arg5 harg5 arg8 arg9 arg10 x0 x1 x2 x3 x4).step (q := 0) ⟨by omega, by omega⟩ (by omega) fun x => ?_
  · have hx : (x 1).val < 256 := (x 1).isLt
    unfold_payloads
    pointwise [shapeCast_self, readCov_unit2 _ _ (fill3 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 0 of columns 256 on. -/
theorem fill5 : Filled (dwBlk (pbuf (Scalar.cmpi .sgt (BitVec.ofNat 32 (i 0).val) 0#32) x2 x3) (ubuf (kernelRun0_B.sl.v24 i) x0 x1 x2 x4)) 4 (kernelRun0_A.sl.H7_5 c i arg1 harg1 arg2 harg2 arg3 harg3 arg4 harg4 arg5 harg5 arg8 arg9 arg10 x0 x1 x2 x3 x4) := by
  unfold kernelRun0_A.sl.H7_5
  dsimp only [kernelRun0_A.sl.v100, kernelRun0_A.sl.v108, kernelRun0_A.sl.v96]
  refine (fill4 c i arg1 harg1 arg2 harg2 arg3 harg3 arg4 harg4 arg5 harg5 arg8 arg9 arg10 x0 x1 x2 x3 x4).step (q := 1) ⟨by omega, by omega⟩ (by omega) fun x => ?_
  · have hx : (x 1).val < 256 := (x 1).isLt
    unfold_payloads
    pointwise [shapeCast_self, readCov_unit2 _ _ (fill4 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 1 of columns 256 on. -/
theorem fill6 : Filled (dwBlk (pbuf (Scalar.cmpi .sgt (BitVec.ofNat 32 (i 0).val) 0#32) x2 x3) (ubuf (kernelRun0_B.sl.v24 i) x0 x1 x2 x4)) 5 (kernelRun0_A.sl.H7_6 c i arg1 harg1 arg2 harg2 arg3 harg3 arg4 harg4 arg5 harg5 arg8 arg9 arg10 x0 x1 x2 x3 x4) := by
  unfold kernelRun0_A.sl.H7_6
  dsimp only [kernelRun0_A.sl.v116, kernelRun0_A.sl.v124, kernelRun0_A.sl.v96]
  refine (fill5 c i arg1 harg1 arg2 harg2 arg3 harg3 arg4 harg4 arg5 harg5 arg8 arg9 arg10 x0 x1 x2 x3 x4).step (q := 1) ⟨by omega, by omega⟩ (by omega) fun x => ?_
  · have hx : (x 1).val < 256 := (x 1).isLt
    unfold_payloads
    pointwise [shapeCast_self, readCov_unit2 _ _ (fill5 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 2 of columns 256 on. -/
theorem fill7 : Filled (dwBlk (pbuf (Scalar.cmpi .sgt (BitVec.ofNat 32 (i 0).val) 0#32) x2 x3) (ubuf (kernelRun0_B.sl.v24 i) x0 x1 x2 x4)) 6 (kernelRun0_A.sl.H7_7 c i arg1 harg1 arg2 harg2 arg3 harg3 arg4 harg4 arg5 harg5 arg8 arg9 arg10 x0 x1 x2 x3 x4) := by
  unfold kernelRun0_A.sl.H7_7
  dsimp only [kernelRun0_A.sl.v132, kernelRun0_A.sl.v140, kernelRun0_A.sl.v96]
  refine (fill6 c i arg1 harg1 arg2 harg2 arg3 harg3 arg4 harg4 arg5 harg5 arg8 arg9 arg10 x0 x1 x2 x3 x4).step (q := 1) ⟨by omega, by omega⟩ (by omega) fun x => ?_
  · have hx : (x 1).val < 256 := (x 1).isLt
    unfold_payloads
    pointwise [shapeCast_self, readCov_unit2 _ _ (fill6 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 0 of columns 512 on. -/
theorem fill8 : Filled (dwBlk (pbuf (Scalar.cmpi .sgt (BitVec.ofNat 32 (i 0).val) 0#32) x2 x3) (ubuf (kernelRun0_B.sl.v24 i) x0 x1 x2 x4)) 7 (kernelRun0_A.sl.H7_8 c i arg1 harg1 arg2 harg2 arg3 harg3 arg4 harg4 arg5 harg5 arg8 arg9 arg10 x0 x1 x2 x3 x4) := by
  unfold kernelRun0_A.sl.H7_8
  dsimp only [kernelRun0_A.sl.v159, kernelRun0_A.sl.v163, kernelRun0_A.sl.v171]
  refine (fill7 c i arg1 harg1 arg2 harg2 arg3 harg3 arg4 harg4 arg5 harg5 arg8 arg9 arg10 x0 x1 x2 x3 x4).step (q := 2) ⟨by omega, by omega⟩ (by omega) fun x => ?_
  · have hx : (x 1).val < 256 := (x 1).isLt
    unfold_payloads
    pointwise [shapeCast_self, readCov_unit2 _ _ (fill7 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 1 of columns 512 on. -/
theorem fill9 : Filled (dwBlk (pbuf (Scalar.cmpi .sgt (BitVec.ofNat 32 (i 0).val) 0#32) x2 x3) (ubuf (kernelRun0_B.sl.v24 i) x0 x1 x2 x4)) 8 (kernelRun0_A.sl.H7_9 c i arg1 harg1 arg2 harg2 arg3 harg3 arg4 harg4 arg5 harg5 arg8 arg9 arg10 x0 x1 x2 x3 x4) := by
  unfold kernelRun0_A.sl.H7_9
  dsimp only [kernelRun0_A.sl.r_10, kernelRun0_A.sl.r_9, kernelRun0_A.sl.v159, kernelRun0_A.sl.v179, kernelRun0_A.sl.v187]
  refine (fill8 c i arg1 harg1 arg2 harg2 arg3 harg3 arg4 harg4 arg5 harg5 arg8 arg9 arg10 x0 x1 x2 x3 x4).step (q := 2) ⟨by omega, by omega⟩ (by omega) fun x => ?_
  · have hx : (x 1).val < 256 := (x 1).isLt
    unfold_payloads
    pointwise [shapeCast_self, readCov_unit2 _ _ (fill8 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 2 of columns 512 on. -/
theorem fill10 : Filled (dwBlk (pbuf (Scalar.cmpi .sgt (BitVec.ofNat 32 (i 0).val) 0#32) x2 x3) (ubuf (kernelRun0_B.sl.v24 i) x0 x1 x2 x4)) 9 (kernelRun0_A.sl.H7_10 c i arg1 harg1 arg2 harg2 arg3 harg3 arg4 harg4 arg5 harg5 arg8 arg9 arg10 x0 x1 x2 x3 x4) := by
  unfold kernelRun0_A.sl.H7_10
  dsimp only [kernelRun0_A.sl.v159, kernelRun0_A.sl.v195, kernelRun0_A.sl.v203]
  refine (fill9 c i arg1 harg1 arg2 harg2 arg3 harg3 arg4 harg4 arg5 harg5 arg8 arg9 arg10 x0 x1 x2 x3 x4).step (q := 2) ⟨by omega, by omega⟩ (by omega) fun x => ?_
  · have hx : (x 1).val < 256 := (x 1).isLt
    unfold_payloads
    pointwise [shapeCast_self, readCov_unit2 _ _ (fill9 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 0 of columns 768 on. -/
theorem fill11 : Filled (dwBlk (pbuf (Scalar.cmpi .sgt (BitVec.ofNat 32 (i 0).val) 0#32) x2 x3) (ubuf (kernelRun0_B.sl.v24 i) x0 x1 x2 x4)) 10 (kernelRun0_A.sl.H7_11 c i arg1 harg1 arg2 harg2 arg3 harg3 arg4 harg4 arg5 harg5 arg8 arg9 arg10 x0 x1 x2 x3 x4) := by
  unfold kernelRun0_A.sl.H7_11
  dsimp only [kernelRun0_A.sl.v222, kernelRun0_A.sl.v226, kernelRun0_A.sl.v234]
  refine (fill10 c i arg1 harg1 arg2 harg2 arg3 harg3 arg4 harg4 arg5 harg5 arg8 arg9 arg10 x0 x1 x2 x3 x4).step (q := 3) ⟨by omega, by omega⟩ (by omega) fun x => ?_
  · have hx : (x 1).val < 256 := (x 1).isLt
    unfold_payloads
    pointwise [shapeCast_self, readCov_unit2 _ _ (fill10 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 1 of columns 768 on. -/
theorem fill12 : Filled (dwBlk (pbuf (Scalar.cmpi .sgt (BitVec.ofNat 32 (i 0).val) 0#32) x2 x3) (ubuf (kernelRun0_B.sl.v24 i) x0 x1 x2 x4)) 11 (kernelRun0_A.sl.H7_12 c i arg1 harg1 arg2 harg2 arg3 harg3 arg4 harg4 arg5 harg5 arg8 arg9 arg10 x0 x1 x2 x3 x4) := by
  unfold kernelRun0_A.sl.H7_12
  dsimp only [kernelRun0_A.sl.r_14, kernelRun0_A.sl.r_15, kernelRun0_A.sl.v222, kernelRun0_A.sl.v242, kernelRun0_A.sl.v250]
  refine (fill11 c i arg1 harg1 arg2 harg2 arg3 harg3 arg4 harg4 arg5 harg5 arg8 arg9 arg10 x0 x1 x2 x3 x4).step (q := 3) ⟨by omega, by omega⟩ (by omega) fun x => ?_
  · have hx : (x 1).val < 256 := (x 1).isLt
    unfold_payloads
    pointwise [shapeCast_self, readCov_unit2 _ _ (fill11 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 2 of columns 768 on. -/
theorem fill13 : Filled (dwBlk (pbuf (Scalar.cmpi .sgt (BitVec.ofNat 32 (i 0).val) 0#32) x2 x3) (ubuf (kernelRun0_B.sl.v24 i) x0 x1 x2 x4)) 12 (kernelRun0_A.sl.H7_13 c i arg1 harg1 arg2 harg2 arg3 harg3 arg4 harg4 arg5 harg5 arg8 arg9 arg10 x0 x1 x2 x3 x4) := by
  unfold kernelRun0_A.sl.H7_13
  dsimp only [kernelRun0_A.sl.v222, kernelRun0_A.sl.v258, kernelRun0_A.sl.v266]
  refine (fill12 c i arg1 harg1 arg2 harg2 arg3 harg3 arg4 harg4 arg5 harg5 arg8 arg9 arg10 x0 x1 x2 x3 x4).step (q := 3) ⟨by omega, by omega⟩ (by omega) fun x => ?_
  · have hx : (x 1).val < 256 := (x 1).isLt
    unfold_payloads
    pointwise [shapeCast_self, readCov_unit2 _ _ (fill12 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 0 of columns 1024 on. -/
theorem fill14 : Filled (dwBlk (pbuf (Scalar.cmpi .sgt (BitVec.ofNat 32 (i 0).val) 0#32) x2 x3) (ubuf (kernelRun0_B.sl.v24 i) x0 x1 x2 x4)) 13 (kernelRun0_A.sl.H7_14 c i arg1 harg1 arg2 harg2 arg3 harg3 arg4 harg4 arg5 harg5 arg8 arg9 arg10 x0 x1 x2 x3 x4) := by
  unfold kernelRun0_A.sl.H7_14
  dsimp only [kernelRun0_A.sl.v285, kernelRun0_A.sl.v289, kernelRun0_A.sl.v297]
  refine (fill13 c i arg1 harg1 arg2 harg2 arg3 harg3 arg4 harg4 arg5 harg5 arg8 arg9 arg10 x0 x1 x2 x3 x4).step (q := 4) ⟨by omega, by omega⟩ (by omega) fun x => ?_
  · have hx : (x 1).val < 256 := (x 1).isLt
    unfold_payloads
    pointwise [shapeCast_self, readCov_unit2 _ _ (fill13 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 1 of columns 1024 on. -/
theorem fill15 : Filled (dwBlk (pbuf (Scalar.cmpi .sgt (BitVec.ofNat 32 (i 0).val) 0#32) x2 x3) (ubuf (kernelRun0_B.sl.v24 i) x0 x1 x2 x4)) 14 (kernelRun0_A.sl.H7_15 c i arg1 harg1 arg2 harg2 arg3 harg3 arg4 harg4 arg5 harg5 arg8 arg9 arg10 x0 x1 x2 x3 x4) := by
  unfold kernelRun0_A.sl.H7_15
  dsimp only [kernelRun0_A.sl.r_19, kernelRun0_A.sl.v285, kernelRun0_A.sl.v305, kernelRun0_A.sl.v313]
  refine (fill14 c i arg1 harg1 arg2 harg2 arg3 harg3 arg4 harg4 arg5 harg5 arg8 arg9 arg10 x0 x1 x2 x3 x4).step (q := 4) ⟨by omega, by omega⟩ (by omega) fun x => ?_
  · have hx : (x 1).val < 256 := (x 1).isLt
    unfold_payloads
    pointwise [shapeCast_self, readCov_unit2 _ _ (fill14 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 2 of columns 1024 on. -/
theorem fill16 : Filled (dwBlk (pbuf (Scalar.cmpi .sgt (BitVec.ofNat 32 (i 0).val) 0#32) x2 x3) (ubuf (kernelRun0_B.sl.v24 i) x0 x1 x2 x4)) 15 (kernelRun0_A.sl.H7_16 c i arg1 harg1 arg2 harg2 arg3 harg3 arg4 harg4 arg5 harg5 arg8 arg9 arg10 x0 x1 x2 x3 x4) := by
  unfold kernelRun0_A.sl.H7_16
  dsimp only [kernelRun0_A.sl.v285, kernelRun0_A.sl.v321, kernelRun0_A.sl.v329]
  refine (fill15 c i arg1 harg1 arg2 harg2 arg3 harg3 arg4 harg4 arg5 harg5 arg8 arg9 arg10 x0 x1 x2 x3 x4).step (q := 4) ⟨by omega, by omega⟩ (by omega) fun x => ?_
  · have hx : (x 1).val < 256 := (x 1).isLt
    unfold_payloads
    pointwise [shapeCast_self, readCov_unit2 _ _ (fill15 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 0 of columns 1280 on. -/
theorem fill17 : Filled (dwBlk (pbuf (Scalar.cmpi .sgt (BitVec.ofNat 32 (i 0).val) 0#32) x2 x3) (ubuf (kernelRun0_B.sl.v24 i) x0 x1 x2 x4)) 16 (kernelRun0_A.sl.H7_17 c i arg1 harg1 arg2 harg2 arg3 harg3 arg4 harg4 arg5 harg5 arg8 arg9 arg10 x0 x1 x2 x3 x4) := by
  unfold kernelRun0_A.sl.H7_17
  dsimp only [kernelRun0_A.sl.v348, kernelRun0_A.sl.v352, kernelRun0_A.sl.v360]
  refine (fill16 c i arg1 harg1 arg2 harg2 arg3 harg3 arg4 harg4 arg5 harg5 arg8 arg9 arg10 x0 x1 x2 x3 x4).step (q := 5) ⟨by omega, by omega⟩ (by omega) fun x => ?_
  · have hx : (x 1).val < 256 := (x 1).isLt
    unfold_payloads
    pointwise [shapeCast_self, readCov_unit2 _ _ (fill16 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 1 of columns 1280 on. -/
theorem fill18 : Filled (dwBlk (pbuf (Scalar.cmpi .sgt (BitVec.ofNat 32 (i 0).val) 0#32) x2 x3) (ubuf (kernelRun0_B.sl.v24 i) x0 x1 x2 x4)) 17 (kernelRun0_A.sl.H7_18 c i arg1 harg1 arg2 harg2 arg3 harg3 arg4 harg4 arg5 harg5 arg8 arg9 arg10 x0 x1 x2 x3 x4) := by
  unfold kernelRun0_A.sl.H7_18
  dsimp only [kernelRun0_A.sl.r_22, kernelRun0_A.sl.v348, kernelRun0_A.sl.v368, kernelRun0_A.sl.v376]
  refine (fill17 c i arg1 harg1 arg2 harg2 arg3 harg3 arg4 harg4 arg5 harg5 arg8 arg9 arg10 x0 x1 x2 x3 x4).step (q := 5) ⟨by omega, by omega⟩ (by omega) fun x => ?_
  · have hx : (x 1).val < 256 := (x 1).isLt
    unfold_payloads
    pointwise [shapeCast_self, readCov_unit2 _ _ (fill17 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 2 of columns 1280 on. -/
theorem fill19 : Filled (dwBlk (pbuf (Scalar.cmpi .sgt (BitVec.ofNat 32 (i 0).val) 0#32) x2 x3) (ubuf (kernelRun0_B.sl.v24 i) x0 x1 x2 x4)) 18 (kernelRun0_A.sl.H7_19 c i arg1 harg1 arg2 harg2 arg3 harg3 arg4 harg4 arg5 harg5 arg8 arg9 arg10 x0 x1 x2 x3 x4) := by
  unfold kernelRun0_A.sl.H7_19
  dsimp only [kernelRun0_A.sl.v348, kernelRun0_A.sl.v384, kernelRun0_A.sl.v392]
  refine (fill18 c i arg1 harg1 arg2 harg2 arg3 harg3 arg4 harg4 arg5 harg5 arg8 arg9 arg10 x0 x1 x2 x3 x4).step (q := 5) ⟨by omega, by omega⟩ (by omega) fun x => ?_
  · have hx : (x 1).val < 256 := (x 1).isLt
    unfold_payloads
    pointwise [shapeCast_self, readCov_unit2 _ _ (fill18 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 0 of columns 1536 on. -/
theorem fill20 : Filled (dwBlk (pbuf (Scalar.cmpi .sgt (BitVec.ofNat 32 (i 0).val) 0#32) x2 x3) (ubuf (kernelRun0_B.sl.v24 i) x0 x1 x2 x4)) 19 (kernelRun0_A.sl.H7_20 c i arg1 harg1 arg2 harg2 arg3 harg3 arg4 harg4 arg5 harg5 arg8 arg9 arg10 x0 x1 x2 x3 x4) := by
  unfold kernelRun0_A.sl.H7_20
  dsimp only [kernelRun0_A.sl.v, kernelRun0_A.sl.v415, kernelRun0_A.sl.v423]
  refine (fill19 c i arg1 harg1 arg2 harg2 arg3 harg3 arg4 harg4 arg5 harg5 arg8 arg9 arg10 x0 x1 x2 x3 x4).step (q := 6) ⟨by omega, by omega⟩ (by omega) fun x => ?_
  · have hx : (x 1).val < 256 := (x 1).isLt
    unfold_payloads
    pointwise [shapeCast_self, readCov_unit2 _ _ (fill19 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 1 of columns 1536 on. -/
theorem fill21 : Filled (dwBlk (pbuf (Scalar.cmpi .sgt (BitVec.ofNat 32 (i 0).val) 0#32) x2 x3) (ubuf (kernelRun0_B.sl.v24 i) x0 x1 x2 x4)) 20 (kernelRun0_A.sl.H7_21 c i arg1 harg1 arg2 harg2 arg3 harg3 arg4 harg4 arg5 harg5 arg8 arg9 arg10 x0 x1 x2 x3 x4) := by
  unfold kernelRun0_A.sl.H7_21
  dsimp only [kernelRun0_A.sl.v, kernelRun0_A.sl.v431, kernelRun0_A.sl.v439]
  refine (fill20 c i arg1 harg1 arg2 harg2 arg3 harg3 arg4 harg4 arg5 harg5 arg8 arg9 arg10 x0 x1 x2 x3 x4).step (q := 6) ⟨by omega, by omega⟩ (by omega) fun x => ?_
  · have hx : (x 1).val < 256 := (x 1).isLt
    unfold_payloads
    pointwise [shapeCast_self, readCov_unit2 _ _ (fill20 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 2 of columns 1536 on. -/
theorem fill22 : Filled (dwBlk (pbuf (Scalar.cmpi .sgt (BitVec.ofNat 32 (i 0).val) 0#32) x2 x3) (ubuf (kernelRun0_B.sl.v24 i) x0 x1 x2 x4)) 21 (kernelRun0_A.sl.H7_22 c i arg1 harg1 arg2 harg2 arg3 harg3 arg4 harg4 arg5 harg5 arg8 arg9 arg10 x0 x1 x2 x3 x4) := by
  unfold kernelRun0_A.sl.H7_22
  dsimp only [kernelRun0_A.sl.v, kernelRun0_A.sl.v447, kernelRun0_A.sl.v455]
  refine (fill21 c i arg1 harg1 arg2 harg2 arg3 harg3 arg4 harg4 arg5 harg5 arg8 arg9 arg10 x0 x1 x2 x3 x4).step (q := 6) ⟨by omega, by omega⟩ (by omega) fun x => ?_
  · have hx : (x 1).val < 256 := (x 1).isLt
    unfold_payloads
    pointwise [shapeCast_self, readCov_unit2 _ _ (fill21 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 0 of columns 1792 on. -/
theorem fill23 : Filled (dwBlk (pbuf (Scalar.cmpi .sgt (BitVec.ofNat 32 (i 0).val) 0#32) x2 x3) (ubuf (kernelRun0_B.sl.v24 i) x0 x1 x2 x4)) 22 (kernelRun0_A.sl.H7_23 c i arg1 harg1 arg2 harg2 arg3 harg3 arg4 harg4 arg5 harg5 arg8 arg9 arg10 x0 x1 x2 x3 x4) := by
  unfold kernelRun0_A.sl.H7_23
  dsimp only [kernelRun0_A.sl.v474, kernelRun0_A.sl.v478, kernelRun0_A.sl.v486]
  refine (fill22 c i arg1 harg1 arg2 harg2 arg3 harg3 arg4 harg4 arg5 harg5 arg8 arg9 arg10 x0 x1 x2 x3 x4).step (q := 7) ⟨by omega, by omega⟩ (by omega) fun x => ?_
  · have hx : (x 1).val < 256 := (x 1).isLt
    unfold_payloads
    pointwise [shapeCast_self, readCov_unit2 _ _ (fill22 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- row 1 of columns 1792 on. -/
theorem fill24 : Filled (dwBlk (pbuf (Scalar.cmpi .sgt (BitVec.ofNat 32 (i 0).val) 0#32) x2 x3) (ubuf (kernelRun0_B.sl.v24 i) x0 x1 x2 x4)) 23 (kernelRun0_A.sl.H7_24 c i arg1 harg1 arg2 harg2 arg3 harg3 arg4 harg4 arg5 harg5 arg8 arg9 arg10 x0 x1 x2 x3 x4) := by
  unfold kernelRun0_A.sl.H7_24
  dsimp only [kernelRun0_A.sl.v474, kernelRun0_A.sl.v494, kernelRun0_A.sl.v502]
  refine (fill23 c i arg1 harg1 arg2 harg2 arg3 harg3 arg4 harg4 arg5 harg5 arg8 arg9 arg10 x0 x1 x2 x3 x4).step (q := 7) ⟨by omega, by omega⟩ (by omega) fun x => ?_
  · have hx : (x 1).val < 256 := (x 1).isLt
    unfold_payloads
    pointwise [shapeCast_self, readCov_unit2 _ _ (fill23 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl

/-- What the first point leaves in the sums' block. -/
theorem out7_A (hc0 : cond0_0 i) (y : S8x2048.Idx) :
    out0_A_7 c i arg1 harg1 arg2 harg2 arg3 harg3 arg4 harg4 arg5 harg5 arg6 harg6 arg7 harg7 arg8 harg8 arg9 harg9 arg10 harg10 hc0 x0 x1 x2 x3 x4 x5 y = if (y 0).val < 3 then dwBlk (pbuf (Scalar.cmpi .sgt (BitVec.ofNat 32 (i 0).val) 0#32) x2 x3) (ubuf (kernelRun0_B.sl.v24 i) x0 x1 x2 x4) (y 0).val (y 1).val else 0 := by
  unfold out0_A_7
  rw [View.read_writes_junk_eq_canon]
  have h : Filled (dwBlk (pbuf (Scalar.cmpi .sgt (BitVec.ofNat 32 (i 0).val) 0#32) x2 x3) (ubuf (kernelRun0_B.sl.v24 i) x0 x1 x2 x4)) 24 (kernelRun0_A c i arg1 harg1 arg2 harg2 arg3 harg3 arg4 harg4 arg5 harg5 arg6 harg6 arg7 harg7 arg8 harg8 arg9 harg9 arg10 harg10 hc0 x0 x1 x2 x3 x4 x5).2.1 := by
    unfold kernelRun0_A
    dsimp only [kernelRun0_A.sl.r_1, kernelRun0_A.sl.r_10, kernelRun0_A.sl.r_11, kernelRun0_A.sl.r_12, kernelRun0_A.sl.r_13,
    kernelRun0_A.sl.r_14, kernelRun0_A.sl.r_15, kernelRun0_A.sl.r_16, kernelRun0_A.sl.r_17, kernelRun0_A.sl.r_18,
    kernelRun0_A.sl.r_19, kernelRun0_A.sl.r_2, kernelRun0_A.sl.r_20, kernelRun0_A.sl.r_21, kernelRun0_A.sl.r_22,
    kernelRun0_A.sl.r_23, kernelRun0_A.sl.r_24, kernelRun0_A.sl.r_25, kernelRun0_A.sl.r_26, kernelRun0_A.sl.r_27,
    kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.v, kernelRun0_A.sl.v0, kernelRun0_A.sl.v1, kernelRun0_A.sl.v100,
    kernelRun0_A.sl.v104, kernelRun0_A.sl.v108, kernelRun0_A.sl.v116, kernelRun0_A.sl.v120, kernelRun0_A.sl.v124,
    kernelRun0_A.sl.v132, kernelRun0_A.sl.v140, kernelRun0_A.sl.v159, kernelRun0_A.sl.v163, kernelRun0_A.sl.v167,
    kernelRun0_A.sl.v171, kernelRun0_A.sl.v179, kernelRun0_A.sl.v183, kernelRun0_A.sl.v187, kernelRun0_A.sl.v195,
    kernelRun0_A.sl.v2, kernelRun0_A.sl.v203, kernelRun0_A.sl.v222, kernelRun0_A.sl.v226, kernelRun0_A.sl.v230,
    kernelRun0_A.sl.v234, kernelRun0_A.sl.v242, kernelRun0_A.sl.v246, kernelRun0_A.sl.v250, kernelRun0_A.sl.v258,
    kernelRun0_A.sl.v266, kernelRun0_A.sl.v285, kernelRun0_A.sl.v289, kernelRun0_A.sl.v293, kernelRun0_A.sl.v297,
    kernelRun0_A.sl.v305, kernelRun0_A.sl.v309, kernelRun0_A.sl.v313, kernelRun0_A.sl.v321, kernelRun0_A.sl.v329,
    kernelRun0_A.sl.v33, kernelRun0_A.sl.v348, kernelRun0_A.sl.v352, kernelRun0_A.sl.v356, kernelRun0_A.sl.v360,
    kernelRun0_A.sl.v368, kernelRun0_A.sl.v37, kernelRun0_A.sl.v372, kernelRun0_A.sl.v376, kernelRun0_A.sl.v384,
    kernelRun0_A.sl.v392, kernelRun0_A.sl.v41, kernelRun0_A.sl.v415, kernelRun0_A.sl.v419, kernelRun0_A.sl.v423,
    kernelRun0_A.sl.v431, kernelRun0_A.sl.v435, kernelRun0_A.sl.v439, kernelRun0_A.sl.v447, kernelRun0_A.sl.v45,
    kernelRun0_A.sl.v455, kernelRun0_A.sl.v474, kernelRun0_A.sl.v478, kernelRun0_A.sl.v482, kernelRun0_A.sl.v486,
    kernelRun0_A.sl.v494, kernelRun0_A.sl.v498, kernelRun0_A.sl.v502, kernelRun0_A.sl.v510, kernelRun0_A.sl.v518,
    kernelRun0_A.sl.v53, kernelRun0_A.sl.v57, kernelRun0_A.sl.v61, kernelRun0_A.sl.v69, kernelRun0_A.sl.v77,
    kernelRun0_A.sl.v96]
    refine (fill24 c i arg1 harg1 arg2 harg2 arg3 harg3 arg4 harg4 arg5 harg5 arg8 arg9 arg10 x0 x1 x2 x3 x4).step (q := 7) ⟨by omega, by omega⟩ (by omega) fun x => ?_
    have hx : (x 1).val < 256 := (x 1).isLt
    unfold_payloads
    pointwise [shapeCast_self, readCov_unit2 _ _ (fill24 c i arg1 harg1 arg2 harg2 arg3 harg3 arg4 harg4 arg5 harg5 arg8 arg9 arg10 x0 x1 x2 x3 x4),
      readCov_unit2 _ _ (canon_ubufA c i arg1 harg1 arg2 harg2 arg3 harg3 arg5 harg5 x0 x1 x2 x4), readCov_unit2 _ _ (canon_pbufA c i arg3 harg3 arg4 harg4 x2 x3)]
    rw [filled_later (by omega), zero_add]
    rfl
  have hy : (y 1).val < 2048 := (y 1).isLt
  rw [h y]
  exact if_congr ⟨fun h => h.1, fun h => ⟨h, by omega⟩⟩ rfl rfl
end

end Cert.ShortGrad

end
-- ==== Proof.ShortGrad.PointB.lean ====
/- What a point after the first of the short convolution's backward kernel stores, block by block. -/
module

public import proofs.«01_k».proof.Proof.Gen.KernelIdeal.Value
public import proofs.«01_k».proof.Proof.ShortGrad.Buffers
public import Idealize.ShloMosaic.Lib.WholeRead
public import Idealize.ShloMosaic.Lib.Pipeline.ReadBack

@[expose] public section

set_option maxRecDepth 16384

noncomputable section

namespace Cert.ShortGrad

open Cert.KernelIdeal Cert.KernelIdeal.Gen Idealize.ShloMosaic Idealize.ShloMosaic.TcCoe Idealize.SL.Sem Cert.Entry

section
variable (c : Dev nD) (i : grid0.Coords) (arg1 : Memref sig .tc .vmem S128x2048 .f32) (harg1 : arg1.IsWhole) (arg2 : Memref sig .tc .vmem S8x2048 .f32) (harg2 : arg2.IsWhole) (arg3 : Memref sig .tc .vmem S128x6144 .f32) (harg3 : arg3.IsWhole) (arg4 : Memref sig .tc .vmem S8x6144 .f32) (harg4 : arg4.IsWhole) (arg5 : Memref sig .tc .vmem S8x6144 .f32) (harg5 : arg5.IsWhole) (arg6 : Memref sig .tc .vmem S3x2048 .f32) (harg6 : arg6.IsWhole) (arg7 : Memref sig .tc .vmem S128x6144 .bf16) (harg7 : arg7.IsWhole) (arg8 : Memref sig .tc .vmem S8x2048 .f32) (harg8 : arg8.IsWhole) (arg9 : Memref sig .tc .vmem S136x2048 .f32) (harg9 : arg9.IsWhole) (arg10 : Memref sig .tc .vmem S136x2048 .f32) (harg10 : arg10.IsWhole)
    (x0 : Vec Ideal S128x2048 .f32) (x1 : Vec Ideal S8x2048 .f32) (x2 : Vec Ideal S128x6144 .f32) (x3 : Vec Ideal S8x6144 .f32) (x4 : Vec Ideal S8x6144 .f32) (x5 : Vec Ideal S3x2048 .f32) (xo7 : Vec Ideal S8x2048 .f32)

/-- Every store into the input gradient's block is a block of `dzBlk`. -/
theorem pieces6_B (hc0 : ¬cond0_0 i) : View.PiecesOf (fun y : S128x6144.Idx => dzBlk x0 x2 x5 (pbuf (Scalar.cmpi .sgt (BitVec.ofNat 32 (i 0).val) 0#32) x2 x3) (ubuf (kernelRun0_B.sl.v24 i) x0 x1 x2 x4) (y 0).val (y 1).val)
    (kernelRun0_B c i arg1 harg1 arg2 harg2 arg3 harg3 arg4 harg4 arg5 harg5 arg6 harg6 arg7 harg7 arg8 harg8 arg9 harg9 arg10 harg10 hc0 x0 x1 x2 x3 x4 x5 xo7).1 := by
  unfold kernelRun0_B
  dsimp only [kernelRun0_B.sl.r_1, kernelRun0_B.sl.r_10, kernelRun0_B.sl.r_11, kernelRun0_B.sl.r_12, kernelRun0_B.sl.r_13,
    kernelRun0_B.sl.r_14, kernelRun0_B.sl.r_15, kernelRun0_B.sl.r_16, kernelRun0_B.sl.r_17, kernelRun0_B.sl.r_18,
    kernelRun0_B.sl.r_19, kernelRun0_B.sl.r_2, kernelRun0_B.sl.r_20, kernelRun0_B.sl.r_21, kernelRun0_B.sl.r_22,
    kernelRun0_B.sl.r_23, kernelRun0_B.sl.r_24, kernelRun0_B.sl.r_25, kernelRun0_B.sl.r_26, kernelRun0_B.sl.r_27,
    kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.v, kernelRun0_B.sl.v0, kernelRun0_B.sl.v1, kernelRun0_B.sl.v100,
    kernelRun0_B.sl.v104, kernelRun0_B.sl.v108, kernelRun0_B.sl.v116, kernelRun0_B.sl.v120, kernelRun0_B.sl.v124,
    kernelRun0_B.sl.v132, kernelRun0_B.sl.v140, kernelRun0_B.sl.v159, kernelRun0_B.sl.v163, kernelRun0_B.sl.v167,
    kernelRun0_B.sl.v171, kernelRun0_B.sl.v179, kernelRun0_B.sl.v183, kernelRun0_B.sl.v187, kernelRun0_B.sl.v195,
    kernelRun0_B.sl.v2, kernelRun0_B.sl.v203, kernelRun0_B.sl.v222, kernelRun0_B.sl.v226, kernelRun0_B.sl.v230,
    kernelRun0_B.sl.v234, kernelRun0_B.sl.v242, kernelRun0_B.sl.v246, kernelRun0_B.sl.v250, kernelRun0_B.sl.v258,
    kernelRun0_B.sl.v266, kernelRun0_B.sl.v285, kernelRun0_B.sl.v289, kernelRun0_B.sl.v293, kernelRun0_B.sl.v297,
    kernelRun0_B.sl.v305, kernelRun0_B.sl.v309, kernelRun0_B.sl.v313, kernelRun0_B.sl.v321, kernelRun0_B.sl.v329,
    kernelRun0_B.sl.v33, kernelRun0_B.sl.v348, kernelRun0_B.sl.v352, kernelRun0_B.sl.v356, kernelRun0_B.sl.v360,
    kernelRun0_B.sl.v368, kernelRun0_B.sl.v37, kernelRun0_B.sl.v372, kernelRun0_B.sl.v376, kernelRun0_B.sl.v384,
    kernelRun0_B.sl.v392, kernelRun0_B.sl.v41, kernelRun0_B.sl.v415, kernelRun0_B.sl.v419, kernelRun0_B.sl.v423,
    kernelRun0_B.sl.v431, kernelRun0_B.sl.v435, kernelRun0_B.sl.v439, kernelRun0_B.sl.v447, kernelRun0_B.sl.v455,
    kernelRun0_B.sl.v474, kernelRun0_B.sl.v478, kernelRun0_B.sl.v482, kernelRun0_B.sl.v486, kernelRun0_B.sl.v494,
    kernelRun0_B.sl.v498, kernelRun0_B.sl.v502, kernelRun0_B.sl.v510, kernelRun0_B.sl.v518, kernelRun0_B.sl.v53,
    kernelRun0_B.sl.v57, kernelRun0_B.sl.v61, kernelRun0_B.sl.v69, kernelRun0_B.sl.v77, kernelRun0_B.sl.v96]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  all_goals
    have hx : (x 1).val < 256 := (x 1).isLt
    unfold_payloads
    simp only [emb_unit_val]
    pointwise [shapeCast_self, readAt_unit2, readCov_unit2 _ _ (canon_ubuf c i arg1 harg1 arg2 harg2 arg3 harg3 arg5 harg5 x0 x1 x2 x4), readCov_unit2 _ _ (canon_pbuf c i arg3 harg3 arg4 harg4 x2 x3)]
    first
    | exact (dzBlk_first (by omega)).symm
    | exact (dzBlk_mid (by omega) (by omega) (by omega)).symm
    | exact (dzBlk_last (by omega) (by omega)).symm

/-- What a point after the first leaves of the input gradient, at an index. -/
theorem out6_B (hc0 : ¬cond0_0 i) (y : S128x6144.Idx) :
    out0_B_6 c i arg1 harg1 arg2 harg2 arg3 harg3 arg4 harg4 arg5 harg5 arg6 harg6 arg7 harg7 arg8 harg8 arg9 harg9 arg10 harg10 hc0 x0 x1 x2 x3 x4 x5 xo7 y
      = dzBlk x0 x2 x5 (pbuf (Scalar.cmpi .sgt (BitVec.ofNat 32 (i 0).val) 0#32) x2 x3) (ubuf (kernelRun0_B.sl.v24 i) x0 x1 x2 x4) (y 0).val (y 1).val := by
  unfold out0_B_6
  exact View.read_writes_apply_of_pieces _ _ (fun y : S128x6144.Idx => dzBlk x0 x2 x5 (pbuf (Scalar.cmpi .sgt (BitVec.ofNat 32 (i 0).val) 0#32) x2 x3) (ubuf (kernelRun0_B.sl.v24 i) x0 x1 x2 x4) (y 0).val (y 1).val) _
    (pieces6_B c i arg1 harg1 arg2 harg2 arg3 harg3 arg4 harg4 arg5 harg5 arg6 harg6 arg7 harg7 arg8 harg8 arg9 harg9 arg10 harg10 x0 x1 x2 x3 x4 x5 xo7 hc0).mem y
    (cover0_B_6 c i arg1 harg1 arg2 harg2 arg3 harg3 arg4 harg4 arg5 harg5 arg6 harg6 arg7 harg7 arg8 harg8 arg9 harg9 arg10 harg10 hc0 x0 x1 x2 x3 x4 x5 xo7 y)

/-- Every store into the sums' block adds the point's share to what the point before left. -/
theorem pieces7_B (hc0 : ¬cond0_0 i) : View.PiecesOf (fun y : S8x2048.Idx => at2 xo7 (y 0).val (y 1).val + dwBlk (pbuf (Scalar.cmpi .sgt (BitVec.ofNat 32 (i 0).val) 0#32) x2 x3) (ubuf (kernelRun0_B.sl.v24 i) x0 x1 x2 x4) (y 0).val (y 1).val)
    (kernelRun0_B c i arg1 harg1 arg2 harg2 arg3 harg3 arg4 harg4 arg5 harg5 arg6 harg6 arg7 harg7 arg8 harg8 arg9 harg9 arg10 harg10 hc0 x0 x1 x2 x3 x4 x5 xo7).2.1 := by
  unfold kernelRun0_B
  dsimp only [kernelRun0_B.sl.r_1, kernelRun0_B.sl.r_10, kernelRun0_B.sl.r_11, kernelRun0_B.sl.r_12, kernelRun0_B.sl.r_13,
    kernelRun0_B.sl.r_14, kernelRun0_B.sl.r_15, kernelRun0_B.sl.r_16, kernelRun0_B.sl.r_17, kernelRun0_B.sl.r_18,
    kernelRun0_B.sl.r_19, kernelRun0_B.sl.r_2, kernelRun0_B.sl.r_20, kernelRun0_B.sl.r_21, kernelRun0_B.sl.r_22,
    kernelRun0_B.sl.r_23, kernelRun0_B.sl.r_24, kernelRun0_B.sl.r_25, kernelRun0_B.sl.r_26, kernelRun0_B.sl.r_27,
    kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.v, kernelRun0_B.sl.v0, kernelRun0_B.sl.v1, kernelRun0_B.sl.v100,
    kernelRun0_B.sl.v104, kernelRun0_B.sl.v108, kernelRun0_B.sl.v116, kernelRun0_B.sl.v120, kernelRun0_B.sl.v124,
    kernelRun0_B.sl.v132, kernelRun0_B.sl.v140, kernelRun0_B.sl.v159, kernelRun0_B.sl.v163, kernelRun0_B.sl.v167,
    kernelRun0_B.sl.v171, kernelRun0_B.sl.v179, kernelRun0_B.sl.v183, kernelRun0_B.sl.v187, kernelRun0_B.sl.v195,
    kernelRun0_B.sl.v2, kernelRun0_B.sl.v203, kernelRun0_B.sl.v222, kernelRun0_B.sl.v226, kernelRun0_B.sl.v230,
    kernelRun0_B.sl.v234, kernelRun0_B.sl.v242, kernelRun0_B.sl.v246, kernelRun0_B.sl.v250, kernelRun0_B.sl.v258,
    kernelRun0_B.sl.v266, kernelRun0_B.sl.v285, kernelRun0_B.sl.v289, kernelRun0_B.sl.v293, kernelRun0_B.sl.v297,
    kernelRun0_B.sl.v305, kernelRun0_B.sl.v309, kernelRun0_B.sl.v313, kernelRun0_B.sl.v321, kernelRun0_B.sl.v329,
    kernelRun0_B.sl.v33, kernelRun0_B.sl.v348, kernelRun0_B.sl.v352, kernelRun0_B.sl.v356, kernelRun0_B.sl.v360,
    kernelRun0_B.sl.v368, kernelRun0_B.sl.v37, kernelRun0_B.sl.v372, kernelRun0_B.sl.v376, kernelRun0_B.sl.v384,
    kernelRun0_B.sl.v392, kernelRun0_B.sl.v41, kernelRun0_B.sl.v415, kernelRun0_B.sl.v419, kernelRun0_B.sl.v423,
    kernelRun0_B.sl.v431, kernelRun0_B.sl.v435, kernelRun0_B.sl.v439, kernelRun0_B.sl.v447, kernelRun0_B.sl.v455,
    kernelRun0_B.sl.v474, kernelRun0_B.sl.v478, kernelRun0_B.sl.v482, kernelRun0_B.sl.v486, kernelRun0_B.sl.v494,
    kernelRun0_B.sl.v498, kernelRun0_B.sl.v502, kernelRun0_B.sl.v510, kernelRun0_B.sl.v518, kernelRun0_B.sl.v53,
    kernelRun0_B.sl.v57, kernelRun0_B.sl.v61, kernelRun0_B.sl.v69, kernelRun0_B.sl.v77, kernelRun0_B.sl.v96]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  all_goals
    unfold_payloads
    simp only [emb_unit_val]
    pointwise [shapeCast_self, readAt_unit2, readCov_unit2 _ _ (canon_ubuf c i arg1 harg1 arg2 harg2 arg3 harg3 arg5 harg5 x0 x1 x2 x4), readCov_unit2 _ _ (canon_pbuf c i arg3 harg3 arg4 harg4 x2 x3)]
    rfl

/-- The stores fill the first three rows, -/
theorem cover7_B (hc0 : ¬cond0_0 i) (y : S8x2048.Idx) (hy : (y 0).val < 3) : ∃ p ∈ (kernelRun0_B c i arg1 harg1 arg2 harg2 arg3 harg3 arg4 harg4 arg5 harg5 arg6 harg6 arg7 harg7 arg8 harg8 arg9 harg9 arg10 harg10 hc0 x0 x1 x2 x3 x4 x5 xo7).2.1, y ∈ p.1.set := by
  have h := View.cover_of_tiledBy ((kernelRun0_B c i arg1 harg1 arg2 harg2 arg3 harg3 arg4 harg4 arg5 harg5 arg6 harg6 arg7 harg7 arg8 harg8 arg9 harg9 arg10 harg10 hc0 x0 x1 x2 x3 x4 x5 xo7).2.1
    ++ [(⟨Rect.unit (s := S8x2048) ![3, 0] ![5, 2048] (by decide), fun _ => (0 : EReal)⟩ : View.Piece (Elt Ideal) S8x2048 .f32)])
    ![1, 256] (by sl_kernel_rfl) y
  obtain ⟨p, hp, hm⟩ := h
  rcases List.mem_append.mp hp with hp | hp
  · exact ⟨p, hp, hm⟩
  · rw [List.mem_singleton] at hp
    subst hp
    have h3 := ((Rect.mem_set_unit (s := S8x2048) (off := ![3, 0]) (size := ![5, 2048]) (inb := by decide)).mp hm 0).1
    exact absurd h3 (Nat.not_le.mpr hy)

/-- and leave the others alone. -/
theorem away7_B (hc0 : ¬cond0_0 i) (y : S8x2048.Idx) (hy : ¬(y 0).val < 3) : ∀ p ∈ (kernelRun0_B c i arg1 harg1 arg2 harg2 arg3 harg3 arg4 harg4 arg5 harg5 arg6 harg6 arg7 harg7 arg8 harg8 arg9 harg9 arg10 harg10 hc0 x0 x1 x2 x3 x4 x5 xo7).2.1, y ∉ p.1.set := by
  have hall : (kernelRun0_B c i arg1 harg1 arg2 harg2 arg3 harg3 arg4 harg4 arg5 harg5 arg6 harg6 arg7 harg7 arg8 harg8 arg9 harg9 arg10 harg10 hc0 x0 x1 x2 x3 x4 x5 xo7).2.1.all (fun p => decide (p.1.off 0 + p.1.stride 0 * (p.1.size 0 - 1) < 3)) = true := by sl_kernel_rfl
  intro p hp hm
  have h3 := of_decide_eq_true (List.all_eq_true.mp hall p hp)
  obtain ⟨x, rfl⟩ := p.1.exists_idx_of_mem hm
  have hx : (x 0).val ≤ p.1.size 0 - 1 := Nat.le_sub_one_of_lt (x 0).isLt
  exact hy (Nat.lt_of_le_of_lt (Nat.add_le_add_left (Nat.mul_le_mul_left _ hx) _) h3)

/-- What a point after the first leaves in the sums' block. -/
theorem out7_B (hc0 : ¬cond0_0 i) (y : S8x2048.Idx) :
    out0_B_7 c i arg1 harg1 arg2 harg2 arg3 harg3 arg4 harg4 arg5 harg5 arg6 harg6 arg7 harg7 arg8 harg8 arg9 harg9 arg10 harg10 hc0 x0 x1 x2 x3 x4 x5 xo7 y
      = if (y 0).val < 3 then at2 xo7 (y 0).val (y 1).val + dwBlk (pbuf (Scalar.cmpi .sgt (BitVec.ofNat 32 (i 0).val) 0#32) x2 x3) (ubuf (kernelRun0_B.sl.v24 i) x0 x1 x2 x4) (y 0).val (y 1).val else xo7 y := by
  unfold out0_B_7
  split_ifs with hy
  · exact View.read_writes_apply_of_pieces _ _ (fun y : S8x2048.Idx => at2 xo7 (y 0).val (y 1).val + dwBlk (pbuf (Scalar.cmpi .sgt (BitVec.ofNat 32 (i 0).val) 0#32) x2 x3) (ubuf (kernelRun0_B.sl.v24 i) x0 x1 x2 x4) (y 0).val (y 1).val) _
      (pieces7_B c i arg1 harg1 arg2 harg2 arg3 harg3 arg4 harg4 arg5 harg5 arg6 harg6 arg7 harg7 arg8 harg8 arg9 harg9 arg10 harg10 x0 x1 x2 x3 x4 x5 xo7 hc0).mem y
      (cover7_B c i arg1 harg1 arg2 harg2 arg3 harg3 arg4 harg4 arg5 harg5 arg6 harg6 arg7 harg7 arg8 harg8 arg9 harg9 arg10 harg10 x0 x1 x2 x3 x4 x5 xo7 hc0 y hy)
  · refine (View.read_writes_apply_of_forall_not_mem _ _ y _ (away7_B c i arg1 harg1 arg2 harg2 arg3 harg3 arg4 harg4 arg5 harg5 arg6 harg6 arg7 harg7 arg8 harg8 arg9 harg9 arg10 harg10 x0 x1 x2 x3 x4 x5 xo7 hc0 y hy)).trans ?_
    exact congrFun (harg8.read_unread xo7) y

end

end Cert.ShortGrad

end
-- ==== Proof.ShortGrad.Closed.lean ====
/- The gradients of the gated short convolution in closed form, entry by entry: what both the kernel's arrays
   and the reference's hold. -/
module

public import proofs.«01_k».proof.Proof.Entry

@[expose] public section

noncomputable section

namespace Cert.ShortGrad

open Idealize.ShloMosaic Cert.Entry

section
variable (Q : (⟨2, ![4096, 2048]⟩ : Shape).Idx → EReal) (Z : (⟨2, ![4096, 6144]⟩ : Shape).Idx → EReal) (W : (⟨2, ![3, 2048]⟩ : Shape).Idx → EReal)

/-- Row `j` of the gated inputs, two rows of zeros before them. -/
def gated (j c : ℕ) : EReal := if j < 2 then 0 else at2 Z (j - 2) (2048 + c) * at2 Z (j - 2) (4096 + c)

/-- Row `r` of the convolution's output gradient. -/
def outGrad (r c : ℕ) : EReal := at2 Q r c * at2 Z r c

/-- The gradient the convolution hands back to row `r` of its input. -/
def inGrad (r c : ℕ) : EReal :=
  at2 W 0 c * outGrad Q Z (2 + r) c + at2 W 1 c * outGrad Q Z (1 + r) c + at2 W 2 c * outGrad Q Z r c

/-- The gradient of the split input, its three gates side by side. -/
def dz (r c : ℕ) : EReal :=
  if c < 2048 then at2 Q r c * (at2 W 0 c * gated Z r c + at2 W 1 c * gated Z (1 + r) c + at2 W 2 c * gated Z (2 + r) c)
  else if c < 4096 then inGrad Q Z W r (c - 2048) * at2 Z r (2048 + c)
  else inGrad Q Z W r (c - 4096) * at2 Z r (c - 2048)

/-- Tap `r`'s gradient, summed over the first `n` rows. -/
def dwUpTo (n r c : ℕ) : EReal := ∑ s ∈ Finset.range n, outGrad Q Z s c * gated Z (r + s) c

/-- The taps' gradient in the first three of eight rows. -/
def dw (r c : ℕ) : EReal := if r < 3 then dwUpTo Q Z 4096 r c else 0
end

end Cert.ShortGrad

end
-- ==== Proof.ShortGrad.Arrays.lean ====
/- What the two result arrays of the short convolution's backward kernel hold after the run. -/
module

public import proofs.«01_k».proof.Proof.ShortGrad.PointA
public import proofs.«01_k».proof.Proof.ShortGrad.PointB
public import proofs.«01_k».proof.Proof.ShortGrad.Closed

@[expose] public section

set_option maxRecDepth 16384

noncomputable section

namespace Cert.ShortGrad

open Cert.KernelIdeal Cert.KernelIdeal.Gen Idealize.ShloMosaic Idealize.ShloMosaic.TcCoe Idealize.SL.Sem Cert.Entry

variable (m : (ℓ : Loc nD τ sig) → Buf (Elt Ideal) ℓ) (c : Dev nD)

/-- The three arguments as launched. -/
abbrev argQ : Vec Ideal S4096x2048 .f32 := m ((c : Thread nD τ).loc main_arg0)
abbrev argZ : Vec Ideal S4096x6144 .f32 := m ((c : Thread nD τ).loc main_arg1)
abbrev argW : Vec Ideal S3x2048 .f32 := m ((c : Thread nD τ).loc main_arg2)

/-! ## The windows' blocks -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = min ((t.val + 1) * 16) 511 ∧ win0_1.index t 1 = 0 :=
  (by decide +kernel : ∀ t : Fin grid0.N, win0_1.index t 0 = min ((t.val + 1) * 16) 511 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val * 16 - 1 ∧ win0_3.index t 1 = 0 :=
  (by decide +kernel : ∀ t : Fin grid0.N, win0_3.index t 0 = t.val * 16 - 1 ∧ win0_3.index t 1 = 0)
theorem index4 : ∀ t : Fin cfg0.N, win0_4.index t 0 = min ((t.val + 1) * 16) 511 ∧ win0_4.index t 1 = 0 :=
  (by decide +kernel : ∀ t : Fin grid0.N, win0_4.index t 0 = min ((t.val + 1) * 16) 511 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

theorem blk0 (t : Fin cfg0.N) {r k : ℕ} (hr : r < 128) (hk : k < 2048) :
    at2 (iblk m c 0 t : Vec Ideal S128x2048 .f32) r k = at2 (argQ m c) (128 * t.val + r) k := by
  refine (at2_of_lt (iblk m c 0 t : Vec Ideal S128x2048 .f32) hr hk).trans (eq_at2_of (argQ m c) _ ?_ ?_)
  · show win0_0.index t 0 * 128 + 1 * r = _
    rw [(index0 t).1]; omega
  · show win0_0.index t 1 * 2048 + 1 * k = _
    rw [(index0 t).2]; omega

theorem blk1 (t : Fin cfg0.N) (ht : t.val < 31) {r k : ℕ} (hr : r < 8) (hk : k < 2048) :
    at2 (iblk m c 1 t : Vec Ideal S8x2048 .f32) r k = at2 (argQ m c) (128 * t.val + 128 + r) k := by
  refine (at2_of_lt (iblk m c 1 t : Vec Ideal S8x2048 .f32) hr hk).trans (eq_at2_of (argQ m c) _ ?_ ?_)
  · show win0_1.index t 0 * 8 + 1 * r = _
    rw [(index1 t).1]; omega
  · show win0_1.index t 1 * 2048 + 1 * k = _
    rw [(index1 t).2]; omega

theorem blk2 (t : Fin cfg0.N) {r k : ℕ} (hr : r < 128) (hk : k < 6144) :
    at2 (iblk m c 2 t : Vec Ideal S128x6144 .f32) r k = at2 (argZ m c) (128 * t.val + r) k := by
  refine (at2_of_lt (iblk m c 2 t : Vec Ideal S128x6144 .f32) hr hk).trans (eq_at2_of (argZ m c) _ ?_ ?_)
  · show win0_2.index t 0 * 128 + 1 * r = _
    rw [(index2 t).1]; omega
  · show win0_2.index t 1 * 6144 + 1 * k = _
    rw [(index2 t).2]; omega

theorem blk3 (t : Fin cfg0.N) (ht : 0 < t.val) {r k : ℕ} (hr : r < 8) (hk : k < 6144) :
    at2 (iblk m c 3 t : Vec Ideal S8x6144 .f32) r k = at2 (argZ m c) (128 * t.val + r - 8) k := by
  refine (at2_of_lt (iblk m c 3 t : Vec Ideal S8x6144 .f32) hr hk).trans (eq_at2_of (argZ m c) _ ?_ ?_)
  · show win0_3.index t 0 * 8 + 1 * r = _
    rw [(index3 t).1]; omega
  · show win0_3.index t 1 * 6144 + 1 * k = _
    rw [(index3 t).2]; omega

theorem blk4 (t : Fin cfg0.N) (ht : t.val < 31) {r k : ℕ} (hr : r < 8) (hk : k < 6144) :
    at2 (iblk m c 4 t : Vec Ideal S8x6144 .f32) r k = at2 (argZ m c) (128 * t.val + 128 + r) k := by
  refine (at2_of_lt (iblk m c 4 t : Vec Ideal S8x6144 .f32) hr hk).trans (eq_at2_of (argZ m c) _ ?_ ?_)
  · show win0_4.index t 0 * 8 + 1 * r = _
    rw [(index4 t).1]; omega
  · show win0_4.index t 1 * 6144 + 1 * k = _
    rw [(index4 t).2]; omega

theorem blk5 (t : Fin cfg0.N) {r k : ℕ} (hr : r < 3) (hk : k < 2048) :
    at2 (iblk m c 5 t : Vec Ideal S3x2048 .f32) r k = at2 (argW m c) r k := by
  refine (at2_of_lt (iblk m c 5 t : Vec Ideal S3x2048 .f32) hr hk).trans (eq_at2_of (argW m c) _ ?_ ?_)
  · show win0_5.index t 0 * 3 + 1 * r = _
    rw [(index5 t).1]; omega
  · show win0_5.index t 1 * 2048 + 1 * k = _
    rw [(index5 t).2]; omega

/-! ## The two buffers at a point, as rows of the arguments -/

/-- The rows before the block are used from the second point on, -/
theorem before_iff : ∀ t : Fin cfg0.N, Scalar.cmpi .sgt (BitVec.ofNat 32 ((grid0.coords t) 0).val) 0#32 = 1#1 ↔ 0 < t.val :=
  (by decide +kernel : ∀ t : Fin grid0.N, Scalar.cmpi .sgt (BitVec.ofNat 32 ((grid0.coords t) 0).val) 0#32 = 1#1 ↔ 0 < t.val)

/-- and the rows after it up to the last but one. -/
theorem after_iff : ∀ t : Fin cfg0.N, kernelRun0_B.sl.v24 (grid0.coords t) = 1#1 ↔ t.val < 31 :=
  (by decide +kernel : ∀ t : Fin grid0.N, kernelRun0_B.sl.v24 (grid0.coords t) = 1#1 ↔ t.val < 31)

/-- The two buffers at point `t`. -/
abbrev P (t : Fin cfg0.N) : ℕ → ℕ → EReal :=
  pbuf (Scalar.cmpi .sgt (BitVec.ofNat 32 ((grid0.coords t) 0).val) 0#32) (iblk m c 2 t) (iblk m c 3 t)
abbrev U (t : Fin cfg0.N) : ℕ → ℕ → EReal :=
  ubuf (kernelRun0_B.sl.v24 (grid0.coords t)) (iblk m c 0 t) (iblk m c 1 t) (iblk m c 2 t) (iblk m c 4 t)

theorem P_eq (t : Fin cfg0.N) {j k : ℕ} (h6 : 6 ≤ j) (hj : j < 136) (hk : k < 2048) :
    P m c t j k = gated (argZ m c) (128 * t.val + j - 6) k := by
  have hN : t.val < 32 := t.isLt
  unfold P pbuf gated
  by_cases h8 : j < 8
  · rw [if_pos h8]
    by_cases h0 : 0 < t.val
    · rw [if_pos ((before_iff t).mpr h0), if_neg (by omega), blk3 m c t h0 h8 (by omega), blk3 m c t h0 h8 (by omega),
        show 128 * t.val + j - 6 - 2 = 128 * t.val + j - 8 by omega]
    · rw [if_neg (fun h => h0 ((before_iff t).mp h)), if_pos (by omega)]
  · rw [if_neg h8, if_neg (by omega), blk2 m c t (by omega) (by omega), blk2 m c t (by omega) (by omega),
      show 128 * t.val + j - 6 - 2 = 128 * t.val + (j - 8) by omega]

theorem U_eq (t : Fin cfg0.N) {j k : ℕ} (hj : j < 136) (hk : k < 2048) :
    U m c t j k = outGrad (argQ m c) (argZ m c) (128 * t.val + j) k := by
  have hN : t.val < 32 := t.isLt
  unfold U ubuf outGrad
  by_cases h8 : j < 128
  · rw [if_pos h8, blk0 m c t h8 hk, blk2 m c t h8 (by omega)]
  · rw [if_neg h8]
    by_cases h0 : t.val < 31
    · rw [if_pos ((after_iff t).mpr h0), blk1 m c t h0 (by omega) hk, blk4 m c t h0 (by omega) (by omega),
        show 128 * t.val + 128 + (j - 128) = 128 * t.val + j by omega]
    · rw [if_neg (fun h => h0 ((after_iff t).mp h)), at2_of_row_ge (argQ m c) (by omega), zero_mul]

/-- What point `t` writes of the input gradient is its rows of the closed form. -/
theorem dzBlk_eq (t : Fin cfg0.N) {r k : ℕ} (hr : r < 128) (hk : k < 6144) :
    dzBlk (iblk m c 0 t) (iblk m c 2 t) (iblk m c 5 t) (P m c t) (U m c t) r k
      = dz (argQ m c) (argZ m c) (argW m c) (128 * t.val + r) k := by
  have hN : t.val < 32 := t.isLt
  unfold dz
  by_cases h1 : k < 2048
  · rw [dzBlk_first h1, if_pos h1, blk0 m c t hr h1, blk5 m c t (by omega) h1, blk5 m c t (by omega) h1, blk5 m c t (by omega) h1,
      P_eq m c t (by omega) (by omega) h1, P_eq m c t (by omega) (by omega) h1, P_eq m c t (by omega) (by omega) h1,
      show 128 * t.val + (6 + r) - 6 = 128 * t.val + r by omega, show 128 * t.val + (7 + r) - 6 = 1 + (128 * t.val + r) by omega,
      show 128 * t.val + (8 + r) - 6 = 2 + (128 * t.val + r) by omega]
  rw [if_neg h1]
  by_cases h2 : k < 4096
  · obtain ⟨k, rfl⟩ : ∃ l, k = 2048 + l := ⟨k - 2048, by omega⟩
    have h3 : k < 2048 := by omega
    rw [dzBlk_mid h3 rfl rfl, if_pos h2, blk2 m c t hr (by omega), blk5 m c t (by omega) h3, blk5 m c t (by omega) h3,
      blk5 m c t (by omega) h3, U_eq m c t (by omega) h3, U_eq m c t (by omega) h3, U_eq m c t (by omega) h3, inGrad,
      Nat.add_sub_cancel_left, show 128 * t.val + (2 + r) = 2 + (128 * t.val + r) by omega,
      show 128 * t.val + (1 + r) = 1 + (128 * t.val + r) by omega, show 2048 + (2048 + k) = 4096 + k by omega]
  · obtain ⟨k, rfl⟩ : ∃ l, k = 4096 + l := ⟨k - 4096, by omega⟩
    have h3 : k < 2048 := by omega
    rw [dzBlk_last rfl rfl, if_neg h2, blk2 m c t hr (by omega), blk5 m c t (by omega) h3, blk5 m c t (by omega) h3,
      blk5 m c t (by omega) h3, U_eq m c t (by omega) h3, U_eq m c t (by omega) h3, U_eq m c t (by omega) h3, inGrad,
      Nat.add_sub_cancel_left, show 128 * t.val + (2 + r) = 2 + (128 * t.val + r) by omega,
      show 128 * t.val + (1 + r) = 1 + (128 * t.val + r) by omega, show 4096 + k - 2048 = 2048 + k by omega]

/-- Point `t`'s share of tap `r`'s gradient: rows `128 t` to `128 t + 127`. -/
theorem dwBlk_eq (t : Fin cfg0.N) {r k : ℕ} (hr : r < 3) (hk : k < 2048) :
    dwUpTo (argQ m c) (argZ m c) (128 * t.val) r k + dwBlk (P m c t) (U m c t) r k
      = dwUpTo (argQ m c) (argZ m c) (128 * (t.val + 1)) r k := by
  unfold dwUpTo dwBlk
  rw [show 128 * (t.val + 1) = 128 * t.val + 128 by omega, Finset.sum_range_add, ← Fin.sum_univ_eq_sum_range
    (fun s => outGrad (argQ m c) (argZ m c) (128 * t.val + s) k * gated (argZ m c) (r + (128 * t.val + s)) k) 128]
  refine congrArg _ (Finset.sum_congr rfl fun s _ => ?_)
  have hs : s.val < 128 := s.isLt
  rw [U_eq m c t (by omega) hk, P_eq m c t (by omega) (by omega) hk, show 128 * t.val + (6 + r + s.val) - 6 = r + (128 * t.val + s.val) by omega]

/-! ## The two arrays -/

/-- What point `t` leaves of the input gradient, whichever case it runs. -/
theorem outs6 (t : Fin cfg0.N) (y : S128x6144.Idx) :
    (outsAt0 m c t.val t.isLt).1 y = dz (argQ m c) (argZ m c) (argW m c) (128 * t.val + (y 0).val) (y 1).val := by
  have h0 : (y 0).val < 128 := (y 0).isLt
  have h1 : (y 1).val < 6144 := (y 1).isLt
  rw [← dzBlk_eq m c t h0 h1]
  by_cases ht : t.val % 32 = 0
  · rw [outsAt0_A m c t ht]; dsimp only; rw [out6_A]
  · rw [outsAt0_B m c t ht]; dsimp only; rw [out6_B]

/-- What the sums' block holds after point `n`: the taps' gradient over the rows so far. -/
theorem outs7 : ∀ (n : ℕ) (h : n < cfg0.N) (y : S8x2048.Idx), (outsAt0 m c n h).2 y
    = if (y 0).val < 3 then dwUpTo (argQ m c) (argZ m c) (128 * (n + 1)) (y 0).val (y 1).val else 0
  | 0, h, y => by
    have h1 : (y 1).val < 2048 := (y 1).isLt
    rw [show outsAt0 m c 0 h = _ from outsAt0_A m c ⟨0, h⟩ rfl]
    dsimp only
    rw [out7_A]
    split_ifs with h3
    · rw [← dwBlk_eq m c ⟨0, h⟩ h3 h1]
      exact (zero_add _).symm
    · rfl
  | n + 1, h, y => by
    have hN : n + 1 < 32 := h
    have h1 : (y 1).val < 2048 := (y 1).isLt
    have h0 : (y 0).val < 8 := (y 0).isLt
    have hB : ¬(⟨n + 1, h⟩ : Fin cfg0.N).val % 32 = 0 := by dsimp only; omega
    rw [show outsAt0 m c (n + 1) h = _ from outsAt0_B m c ⟨n + 1, h⟩ hB]
    dsimp only
    rw [out7_B]
    have ih : (outsAt0 m c n (Nat.lt_of_succ_lt h)).2 y = _ := outs7 n (Nat.lt_of_succ_lt h) y
    split_ifs at ih ⊢ with h3
    · rw [← dwBlk_eq m c ⟨n + 1, h⟩ h3 h1]
      refine congrArg (· + _) ((eq_at2 _ y).symm.trans ih)
    · exact ih

/-- The input gradient's array. -/
theorem final6 : (dats m 0 c).arrAt 6 cfg0.N = fun y : S4096x6144.Idx => dz (argQ m c) (argZ m c) (argW m c) (y 0).val (y 1).val := by
  refine (dats m 0 c).arrAt_eq_of_cover 6 _ (fun t hf => ?_) fun (y : S4096x6144.Idx) => ?_
  · rw [Cert.KernelIdeal.Value.flushed6]
    funext x
    refine (outs6 m c t _).trans ?_
    rw [View.read_apply]
    refine congrArg₂ (dz (argQ m c) (argZ m c) (argW m c)) ?_ ?_
    · show 128 * t.val + (x 0).val = win0_6.index t 0 * 128 + 1 * (x 0).val
      rw [(index6 t).1]; omega
    · show (x 1).val = win0_6.index t 1 * 6144 + 1 * (x 1).val
      rw [(index6 t).2]; omega
  · have h0 : (y 0).val < 4096 := (y 0).isLt
    have h1 : (y 1).val < 6144 := (y 1).isLt
    obtain ⟨t, ht⟩ : ∃ t : Fin cfg0.N, t.val = (y 0).val / 128 := ⟨⟨(y 0).val / 128, show (y 0).val / 128 < 32 by omega⟩, rfl⟩
    refine ⟨t, flush0_6 _, ?_⟩
    show y ∈ ((View.whole main_v0_0).slice (win0_6.rect t)).set
    rw [View.set_slice_whole, Rect.mem_set_unit]
    intro a
    match a with
    | ⟨0, _⟩ =>
      show win0_6.index t 0 * 128 ≤ (y 0).val ∧ (y 0).val < win0_6.index t 0 * 128 + 128
      rw [(index6 t).1]; omega
    | ⟨1, _⟩ =>
      show win0_6.index t 1 * 6144 ≤ (y 1).val ∧ (y 1).val < win0_6.index t 1 * 6144 + 6144
      rw [(index6 t).2]; omega

/-- The taps' gradient's array. -/
theorem final7 : (dats m 0 c).arrAt 7 cfg0.N = fun y : S8x2048.Idx => dw (argQ m c) (argZ m c) (y 0).val (y 1).val := by
  refine (dats m 0 c).arrAt_eq_of_cover 7 _ (fun t hf => ?_) fun (y : S8x2048.Idx) => ?_
  · have h31 : t.val = 31 := by have h := (flush0_7 t).mp hf; have hN : t.val < 32 := t.isLt; omega
    rw [Cert.KernelIdeal.Value.flushed7]
    funext x
    refine (outs7 m c _ _ _).trans ?_
    rw [View.read_apply, h31]
    refine congrArg₂ (dw (argQ m c) (argZ m c)) ?_ ?_
    · show (x 0).val = win0_7.index t 0 * 8 + 1 * (x 0).val
      rw [(index7 t).1]; omega
    · show (x 1).val = win0_7.index t 1 * 2048 + 1 * (x 1).val
      rw [(index7 t).2]; omega
  · have h0 : (y 0).val < 8 := (y 0).isLt
    have h1 : (y 1).val < 2048 := (y 1).isLt
    obtain ⟨t, ht⟩ : ∃ t : Fin cfg0.N, t.val = 31 := ⟨⟨31, show 31 < 32 by omega⟩, rfl⟩
    refine ⟨t, (flush0_7 _).mpr (by rw [ht]), ?_⟩
    show y ∈ ((View.whole main_v0_1).slice (win0_7.rect t)).set
    rw [View.set_slice_whole, Rect.mem_set_unit]
    intro a
    match a with
    | ⟨0, _⟩ =>
      show win0_7.index t 0 * 8 ≤ (y 0).val ∧ (y 0).val < win0_7.index t 0 * 8 + 8
      rw [(index7 t).1]; omega
    | ⟨1, _⟩ =>
      show win0_7.index t 1 * 2048 ≤ (y 1).val ∧ (y 1).val < win0_7.index t 1 * 2048 + 2048
      rw [(index7 t).2]; omega

end Cert.ShortGrad

end
-- ==== Proof.ShortGrad.Ref.lean ====
/- The reference's two gradients, entry by entry: the closed forms. -/
module

public import proofs.«01_k».proof.Proof.Gen.ReferenceIdeal.Read
public import proofs.«01_k».proof.Proof.ShortGrad.Closed

@[expose] public section

set_option maxRecDepth 16384

noncomputable section

namespace Cert.ShortGrad.Ref

open Cert.ReferenceIdeal Cert.ReferenceIdeal.Gen Cert.ReferenceIdeal.Read Idealize.ShloMosaic Idealize.ShloMosaic.TcCoe Idealize.SL.Sem
  Idealize.ShloMosaic.StableHlo Cert.Entry

variable (Q : Vec Ideal S4096x2048 .f32) (Z : Vec Ideal S4096x6144 .f32) (W : Vec Ideal S3x2048 .f32)

/-- The padded input of the convolution. -/
theorem v5_eq (y : S4098x2048.Idx) : val_main_v5 (F := Ideal) Z y = gated Z (y 0).val (y 1).val := by
  unfold val_main_v5 val_main_v4 val_main_cst val_main_v3 val_main_v1 val_main_v2
  pointwise [eq_at2 Z]
  rfl

/-- The convolution's output gradient. -/
theorem v24_eq (y : S4096x2048.Idx) : val_main_v24 (F := Ideal) Q Z y = outGrad Q Z (y 0).val (y 1).val := by
  unfold val_main_v24 val_main_v0
  pointwise [eq_at2 Z, eq_at2 Q]
  exact mul_comm _ _

/-- The convolution. -/
theorem v22_eq (y : S4096x2048.Idx) : val_main_v22 (F := Ideal) Z W y
    = at2 W 0 (y 1).val * gated Z (y 0).val (y 1).val + at2 W 1 (y 1).val * gated Z (1 + (y 0).val) (y 1).val
      + at2 W 2 (y 1).val * gated Z (2 + (y 0).val) (y 1).val := by
  unfold val_main_v22 val_main_v17 val_main_v12 val_main_v21 val_main_v20 val_main_v19 val_main_v18 val_main_v16 val_main_v15
    val_main_v14 val_main_v13 val_main_v11 val_main_cst_1 val_main_v10 val_main_v9 val_main_v8 val_main_v7
  pointwise [v5_eq, eq_at2 W]

/-- The gradient of the padded input: each tap's share moved back by the tap's shift. -/
theorem v48_eq (y : S4098x2048.Idx) : val_main_v48 (F := Ideal) Q Z W y
    = (if 2 ≤ (y 0).val ∧ (y 0).val - 2 < 4096 then at2 W 2 (y 1).val * outGrad Q Z ((y 0).val - 2) (y 1).val else 0)
      + (if 1 ≤ (y 0).val ∧ (y 0).val - 1 < 4096 then at2 W 1 (y 1).val * outGrad Q Z ((y 0).val - 1) (y 1).val else 0)
      + (if (y 0).val < 4096 then at2 W 0 (y 1).val * outGrad Q Z (y 0).val (y 1).val else 0) := by
  unfold val_main_v48 val_main_v39 val_main_v31 val_main_v38 val_main_v47 val_main_cst_3 val_main_cst_6 val_main_cst_9 val_main_v27
    val_main_v26 val_main_v34 val_main_v33 val_main_v43 val_main_v42 val_main_v18 val_main_v13 val_main_v7
  pointwise [v24_eq, eq_at2 W]
  simp only [dite_eq_ite]

/-- A row past the end has no gradient. -/
theorem tap_zero (w : EReal) {r k : ℕ} : (if r < 4096 then w * outGrad Q Z r k else 0) = w * outGrad Q Z r k := by
  split_ifs with h
  · rfl
  · rw [outGrad, at2_of_row_ge Q (by omega), zero_mul, mul_zero]

/-- The gradient of the convolution's input. -/
theorem v52_eq (y : S4096x2048.Idx) : val_main_v52 (F := Ideal) Q Z W y = inGrad Q Z W (y 0).val (y 1).val := by
  have h0 : (y 0).val < 4096 := (y 0).isLt
  rw [val_main_v52_apply, v48_eq]
  show (if 2 ≤ 2 + (y 0).val ∧ 2 + (y 0).val - 2 < 4096 then at2 W 2 (y 1).val * outGrad Q Z (2 + (y 0).val - 2) (y 1).val else 0)
      + (if 1 ≤ 2 + (y 0).val ∧ 2 + (y 0).val - 1 < 4096 then at2 W 1 (y 1).val * outGrad Q Z (2 + (y 0).val - 1) (y 1).val else 0)
      + (if 2 + (y 0).val < 4096 then at2 W 0 (y 1).val * outGrad Q Z (2 + (y 0).val) (y 1).val else 0) = _
  rw [Nat.add_sub_cancel_left, show 2 + (y 0).val - 1 = 1 + (y 0).val by omega, if_pos ⟨by omega, h0⟩, tap_zero]
  simp only [show 1 ≤ 2 + (y 0).val by omega, true_and]
  rw [tap_zero, inGrad, add_comm _ (at2 W 0 _ * _), add_comm (at2 W 2 _ * _), ← add_assoc]

/-- The split input's gradient. -/
theorem v56_eq (y : S4096x6144.Idx) : val_main_v56 (F := Ideal) Q Z W y = dz Q Z W (y 0).val (y 1).val := by
  unfold val_main_v56 val_main_v55 val_main_v53 val_main_v54 val_main_v25 val_main_v1 val_main_v2
  pointwise [v22_eq, v52_eq, eq_at2 Q, eq_at2 Z]
  have h1 : (y 1).val < 6144 := (y 1).isLt
  unfold dz
  split_ifs with h2 h3 h4 h4
  · rfl
  · rw [show 4096 + ((y 1).val - 2048) = 2048 + (y 1).val by omega]
  · omega
  · omega
  · rw [show 2048 + ((y 1).val - 2048 - 2048) = (y 1).val - 2048 by omega, show (y 1).val - 2048 - 2048 = (y 1).val - 4096 by omega, mul_comm]

/-- Each tap's gradient: the sum over the rows. -/
theorem v45_eq (y : S2048.Idx) : val_main_v45 (F := Ideal) Q Z y = dwUpTo Q Z 4096 0 (y 0).val := by
  rw [val_main_v45_apply]
  unfold val_main_v44 val_main_v8 val_main_cst_8
  pointwise [v24_eq, v5_eq]
  simp only [dwUpTo, zero_add]
  exact Fin.sum_univ_eq_sum_range (fun s => outGrad Q Z s (y 0).val * gated Z s (y 0).val) 4096

theorem v36_eq (y : S2048.Idx) : val_main_v36 (F := Ideal) Q Z y = dwUpTo Q Z 4096 1 (y 0).val := by
  rw [val_main_v36_apply]
  unfold val_main_v35 val_main_v14 val_main_cst_5
  pointwise [v24_eq, v5_eq]
  exact Fin.sum_univ_eq_sum_range (fun s => outGrad Q Z s (y 0).val * gated Z (1 + s) (y 0).val) 4096

theorem v29_eq (y : S2048.Idx) : val_main_v29 (F := Ideal) Q Z y = dwUpTo Q Z 4096 2 (y 0).val := by
  rw [val_main_v29_apply]
  unfold val_main_v28 val_main_v19 val_main_cst_2
  pointwise [v24_eq, v5_eq]
  exact Fin.sum_univ_eq_sum_range (fun s => outGrad Q Z s (y 0).val * gated Z (2 + s) (y 0).val) 4096

/-- The taps' gradient. -/
theorem v58_eq (y : S8x2048.Idx) : val_main_v58 (F := Ideal) Q Z y = dw Q Z (y 0).val (y 1).val := by
  unfold val_main_v58 val_main_v57 val_main_cst_11 val_main_v50 val_main_v41 val_main_v32 val_main_v40 val_main_v49 val_main_v30
    val_main_v37 val_main_v46 val_main_cst_4 val_main_cst_7 val_main_cst_10
  pointwise [v29_eq, v36_eq, v45_eq]
  unfold dw
  split_ifs with h3 h2 h1 h0 h0 h1 h0 h0
  all_goals first
    | omega
    | rfl
    | rw [show (y 0).val = 2 by omega, add_zero, add_zero]
    | rw [show (y 0).val = 1 by omega, zero_add, add_zero]
    | rw [show (y 0).val = 0 by omega, zero_add, zero_add]

end Cert.ShortGrad.Ref

end
-- ==== Proof.ShortGrad.Equal.lean ====
/- The short convolution's backward kernel computes its reference's gradients: `algebraic_KernelIdeal_ReferenceIdeal`. -/
module

public import proofs.«01_k».proof.Defs
public import proofs.«01_k».proof.Proof.Gen.ReferenceIdeal.Run
public import proofs.«01_k».proof.Proof.ShortGrad.Arrays
public import proofs.«01_k».proof.Proof.ShortGrad.Ref

@[expose] public section

set_option maxRecDepth 16384

noncomputable section

namespace Cert.ShortGrad

open Idealize.ShloMosaic Idealize.ShloMosaic.TcCoe Idealize.SL.Sem

/-- The kernel's run: both arrays at the closed forms, the arguments unchanged. -/
theorem kernelRun (m : (ℓ : Loc KernelIdeal.nD KernelIdeal.τ KernelIdeal.sig) → Buf (Elt Ideal) ℓ) (ρ : Dev KernelIdeal.nD → PrngReg) :
    θ_run KernelIdeal.defs (onTc (τ := KernelIdeal.τ) (KernelIdeal.main (F := Ideal))) ⟨m, fun _ => 0, ρ⟩ fun r => ∀ c : Dev KernelIdeal.nD,
      r.2.mem ((c : Thread KernelIdeal.nD KernelIdeal.τ).loc KernelIdeal.main_v0_0)
        = (fun y : KernelIdeal.S4096x6144.Idx => dz (argQ m c) (argZ m c) (argW m c) (y 0).val (y 1).val)
      ∧ r.2.mem ((c : Thread KernelIdeal.nD KernelIdeal.τ).loc KernelIdeal.main_v0_1)
        = (fun y : KernelIdeal.S8x2048.Idx => dw (argQ m c) (argZ m c) (y 0).val (y 1).val)
      ∧ r.2.mem ((c : Thread KernelIdeal.nD KernelIdeal.τ).loc KernelIdeal.main_arg0) = m ((c : Thread KernelIdeal.nD KernelIdeal.τ).loc KernelIdeal.main_arg0)
      ∧ r.2.mem ((c : Thread KernelIdeal.nD KernelIdeal.τ).loc KernelIdeal.main_arg1) = m ((c : Thread KernelIdeal.nD KernelIdeal.τ).loc KernelIdeal.main_arg1)
      ∧ r.2.mem ((c : Thread KernelIdeal.nD KernelIdeal.τ).loc KernelIdeal.main_arg2) = m ((c : Thread KernelIdeal.nD KernelIdeal.τ).loc KernelIdeal.main_arg2) :=
  (θ_run KernelIdeal.defs _ _).mono (fun _ h c => ⟨(h c).1.trans (final6 m c), (h c).2.1.trans (final7 m c), (h c).2.2⟩)
    (KernelIdeal.Value.run_blocks m ρ)

/-- The reference's run: both results at the same closed forms of its own arguments. -/
theorem referenceRun (m : (ℓ : Loc ReferenceIdeal.nD ReferenceIdeal.τ ReferenceIdeal.sig) → Buf (Elt Ideal) ℓ) (ρ : Dev ReferenceIdeal.nD → PrngReg) :
    θ_run ReferenceIdeal.defs (onTc (τ := ReferenceIdeal.τ) (ReferenceIdeal.main (F := Ideal))) ⟨m, fun _ => 0, ρ⟩ fun r => ∀ c : Dev ReferenceIdeal.nD,
      r.2.mem ((c : Thread ReferenceIdeal.nD ReferenceIdeal.τ).loc ReferenceIdeal.main_v56)
        = (fun y : ReferenceIdeal.S4096x6144.Idx => dz (m ((c : Thread ReferenceIdeal.nD ReferenceIdeal.τ).loc ReferenceIdeal.main_arg0))
            (m ((c : Thread ReferenceIdeal.nD ReferenceIdeal.τ).loc ReferenceIdeal.main_arg1))
            (m ((c : Thread ReferenceIdeal.nD ReferenceIdeal.τ).loc ReferenceIdeal.main_arg2)) (y 0).val (y 1).val)
      ∧ r.2.mem ((c : Thread ReferenceIdeal.nD ReferenceIdeal.τ).loc ReferenceIdeal.main_v58)
        = (fun y : ReferenceIdeal.S8x2048.Idx => dw (m ((c : Thread ReferenceIdeal.nD ReferenceIdeal.τ).loc ReferenceIdeal.main_arg0))
            (m ((c : Thread ReferenceIdeal.nD ReferenceIdeal.τ).loc ReferenceIdeal.main_arg1)) (y 0).val (y 1).val)
      ∧ r.2.mem ((c : Thread ReferenceIdeal.nD ReferenceIdeal.τ).loc ReferenceIdeal.main_arg0) = m ((c : Thread ReferenceIdeal.nD ReferenceIdeal.τ).loc ReferenceIdeal.main_arg0)
      ∧ r.2.mem ((c : Thread ReferenceIdeal.nD ReferenceIdeal.τ).loc ReferenceIdeal.main_arg1) = m ((c : Thread ReferenceIdeal.nD ReferenceIdeal.τ).loc ReferenceIdeal.main_arg1)
      ∧ r.2.mem ((c : Thread ReferenceIdeal.nD ReferenceIdeal.τ).loc ReferenceIdeal.main_arg2) = m ((c : Thread ReferenceIdeal.nD ReferenceIdeal.τ).loc ReferenceIdeal.main_arg2) :=
  (θ_run ReferenceIdeal.defs _ _).mono
    (fun _ h c => ⟨(h c).1.trans ((ReferenceIdeal.Read.val_main_v56_eq m c).trans (funext fun y => Ref.v56_eq _ _ _ y)),
      (h c).2.1.trans ((ReferenceIdeal.Read.val_main_v58_eq _ _).trans (funext fun y => Ref.v58_eq _ _ y)), (h c).2.2⟩)
    (ReferenceIdeal.Value.run m ρ)

/-- The two gradients, equal entry by entry. -/
theorem algebraic : Cert.algebraic_KernelIdeal_ReferenceIdeal :=
  fun m ρ m' ρ' _ hag => ⟨fun c (y : KernelIdeal.S4096x6144.Idx) => dz (argQ m c) (argZ m c) (argW m c) (y 0).val (y 1).val,
    fun c (y : KernelIdeal.S8x2048.Idx) => dw (argQ m c) (argZ m c) (y 0).val (y 1).val, kernelRun m ρ,
    (θ_run ReferenceIdeal.defs _ _).mono (fun _ h c => ⟨(h c).1.trans (by rw [(hag c).1, (hag c).2.1, (hag c).2.2]),
      (h c).2.1.trans (by rw [(hag c).1, (hag c).2.1]), (h c).2.2⟩) (referenceRun m' ρ')⟩

/-- The reference runs and leaves its arguments alone; it declares no semaphore. -/
theorem referenceFrame : Cert.quiescent_ReferenceIdeal :=
  fun m ρ _ => (θ_run ReferenceIdeal.defs _ _).mono (fun r h => ⟨fun c => ⟨(h c).2.2.1, (h c).2.2.2.1, (h c).2.2.2.2⟩,
    sem_eq_zero_of_no_sems (by decide) r.2⟩) (referenceRun m ρ)

end Cert.ShortGrad

end
-- ==== Proof.Products.Sums.lean ====
/- Inner products over natural-number coordinates: what one block of a matrix product adds, and
   what the blocks add up to. And: a store, or a load, of a whole buffer. -/
module

public import proofs.«01_k».proof.Proof.Entry
public import Idealize.ShloMosaic.Lib.VecWindow

@[expose] public section

noncomputable section

namespace Cert.Products

open Idealize.ShloMosaic Cert.Entry

/-- The inner product of the first `n` entries of two sequences. -/
def dot (f g : ℕ → EReal) (n : ℕ) : EReal := ∑ k ∈ Finset.range n, f k * g k

/-- A sum over a finite axis is an inner product. -/
theorem sum_fin_eq_dot (f g : ℕ → EReal) (n : ℕ) : ∑ k : Fin n, f k.val * g k.val = dot f g n :=
  Fin.sum_univ_eq_sum_range (fun k => f k * g k) n

/-- Only the first `n` entries matter. -/
theorem dot_congr {f f' g g' : ℕ → EReal} {n : ℕ} (hf : ∀ k, k < n → f k = f' k) (hg : ∀ k, k < n → g k = g' k) :
    dot f g n = dot f' g' n :=
  Finset.sum_congr rfl fun k hk => by rw [hf k (Finset.mem_range.mp hk), hg k (Finset.mem_range.mp hk)]

/-- The first `a + b` entries are the first `a` and the `b` after them. -/
theorem dot_add (f g : ℕ → EReal) (a b : ℕ) :
    dot f g a + dot (fun k => f (a + k)) (fun k => g (a + k)) b = dot f g (a + b) :=
  (Finset.sum_range_add (fun k => f k * g k) a b).symm

/-- No entries add nothing. -/
theorem dot_zero (f g : ℕ → EReal) : dot f g 0 = 0 := rfl

/-- The factors may be exchanged. -/
theorem dot_comm (f g : ℕ → EReal) (n : ℕ) : dot f g n = dot g f n :=
  Finset.sum_congr rfl fun k _ => mul_comm _ _

/-- A sum over a finite axis whose terms are the products of two sequences' entries. -/
theorem sum_eq_dot {n : ℕ} {F : Fin n → EReal} (f g : ℕ → EReal) (h : ∀ k : Fin n, F k = f k.val * g k.val) :
    ∑ k : Fin n, F k = dot f g n :=
  (Finset.sum_congr rfl fun k _ => h k).trans (sum_fin_eq_dot f g n)

/-- A load of a whole buffer that holds `A` reads `A`. -/
theorem readAt_whole {sig : RefSig} {κ : Kind} {sp : Space} {s : Shape} {e : EltTy} {m : Memref sig κ sp s e} (h : m.IsWhole)
    (A : s.Idx → Elt Ideal e) {off : Fin s.rank → ℕ} (inb : ∀ a, off a + s.size a ≤ s.size a) :
    View.readAt (Elt Ideal) m.view (Rect.unit (s := s) off s.size inb).toLoadRect (h.unread A) = A := by
  rw [View.readAt_full, h.read_unread]

/-- The offsets of a whole two-axis block. -/
theorem zero2 : (![0, 0] : Fin 2 → ℕ) = fun _ => 0 := by
  funext a
  match a with
  | ⟨0, _⟩ => rfl
  | ⟨1, _⟩ => rfl

end Cert.Products

end
-- ==== Proof.Products.FDownT.lean ====
/- The gradient of the feed-forward block's second product to its input, `dy @ w2ᵀ`, times the derivative of the squared rectifier before it; the weight as its devices' blocks of rows. -/
module

public import proofs.«01_k».proof.Defs
public import proofs.«01_k».proof.Proof.Gen.FDownTIdeal.Value
public import proofs.«01_k».proof.Proof.Gen.FDownTRefIdeal.Run
public import proofs.«01_k».proof.Proof.Gen.FDownTRefIdeal.Read
public import proofs.«01_k».proof.Proof.Products.Sums

@[expose] public section

set_option maxRecDepth 16384

noncomputable section

namespace Cert.Products.FDownT

open Cert.FDownTIdeal Cert.FDownTIdeal.Gen Idealize.ShloMosaic Idealize.ShloMosaic.TcCoe Idealize.SL.Sem Cert.Entry

/-! ## What one step computes -/

/-- Twice the rectifier: the derivative of its square. -/
def twice (h : EReal) : EReal := FloatOps.ofBits (F := Ideal) .f32 0x40000000#32 * max h 0

/-- The product of the two blocks times the derivative, entry by entry. -/
theorem pay1 (x0 : Vec Ideal S1024x2048 .bf16) (x1 : Vec Ideal S2048x2048 .bf16) (x2 : Vec Ideal S1024x2048 .bf16) (y : S1024x2048.Idx) :
    k0_pay1 (F := Ideal) x0 x1 x2 y = dot (at2 x0 ((y 0).val)) (at2 x1 ((y 1).val)) 2048 * twice (x2 y) := by
  unfold_payloads
  pointwise [shapeCast_self, eq_at2 x0, eq_at2 x1]
  exact congrArg₂ (· * ·) (sum_fin_eq_dot (at2 x0 ((y 0).val)) (at2 x1 ((y 1).val)) 2048) rfl

/-! ## The arguments and their blocks -/

variable (m : (ℓ : Loc nD τ sig) → Buf (Elt Ideal) ℓ) (c : Dev nD)

/-- The arguments as launched, the weight in one piece. -/
abbrev argA : Vec Ideal S4096x2048 .bf16 := m ((c : Thread nD τ).loc main_arg0)
abbrev argB : Vec Ideal S8192x2048 .bf16 := shapeCast (s := S8x1024x2048) S8192x2048 (m ((c : Thread nD τ).loc main_arg1)) shapeCasts_S8x1024x2048_S8192x2048
abbrev argC : Vec Ideal S4096x8192 .bf16 := m ((c : Thread nD τ).loc main_arg2)

/-- The region finds the weight's array as the host laid it out. -/
theorem weight : V m c main_v0 = argB m c := by
  unfold V hostOps0
  rw [StableHlo.after_cons, StableHlo.after_nil, StableHlo.reshape_result]
  rfl

theorem index0 : ∀ t : Fin cfg0.N, win0_0.index t 0 = t.val / 4 ∧ win0_0.index t 1 = t.val % 1 :=
  (by decide +kernel : ∀ t : Fin grid0.N, win0_0.index t 0 = t.val / 4 ∧ win0_0.index t 1 = t.val % 1)
theorem index1 : ∀ t : Fin cfg0.N, win0_1.index t 0 = t.val / 1 % 4 ∧ win0_1.index t 1 = t.val % 1 :=
  (by decide +kernel : ∀ t : Fin grid0.N, win0_1.index t 0 = t.val / 1 % 4 ∧ win0_1.index t 1 = t.val % 1)
theorem index2 : ∀ t : Fin cfg0.N, win0_2.index t 0 = t.val / 4 ∧ win0_2.index t 1 = t.val / 1 % 4 :=
  (by decide +kernel : ∀ t : Fin grid0.N, win0_2.index t 0 = t.val / 4 ∧ win0_2.index t 1 = t.val / 1 % 4)
theorem index3 : ∀ t : Fin cfg0.N, win0_3.index t 0 = t.val / 4 ∧ win0_3.index t 1 = t.val / 1 % 4 :=
  (by decide +kernel : ∀ t : Fin grid0.N, win0_3.index t 0 = t.val / 4 ∧ win0_3.index t 1 = t.val / 1 % 4)

theorem blk0 (t : Fin cfg0.N) {r k : ℕ} (hr : r < 1024) (hk : k < 2048) :
    at2 (iblk m c 0 t : Vec Ideal S1024x2048 .bf16) r k = at2 (argA m c) (1024 * (t.val / 4) + r) (2048 * (t.val % 1) + k) := by
  refine (at2_of_lt (iblk m c 0 t : Vec Ideal S1024x2048 .bf16) hr hk).trans (eq_at2_of (argA m c) _ ?_ ?_)
  · show win0_0.index t 0 * 1024 + 1 * r = _
    rw [(index0 t).1]; omega
  · show win0_0.index t 1 * 2048 + 1 * k = _
    rw [(index0 t).2]; omega

theorem blk1 (t : Fin cfg0.N) {r k : ℕ} (hr : r < 2048) (hk : k < 2048) :
    at2 (iblk m c 1 t : Vec Ideal S2048x2048 .bf16) r k = at2 (argB m c) (2048 * (t.val / 1 % 4) + r) (2048 * (t.val % 1) + k) := by
  rw [← weight m c]
  refine (at2_of_lt (iblk m c 1 t : Vec Ideal S2048x2048 .bf16) hr hk).trans (eq_at2_of (V m c main_v0 : Vec Ideal S8192x2048 .bf16) _ ?_ ?_)
  · show win0_1.index t 0 * 2048 + 1 * r = _
    rw [(index1 t).1]; omega
  · show win0_1.index t 1 * 2048 + 1 * k = _
    rw [(index1 t).2]; omega

theorem blk2 (t : Fin cfg0.N) {r k : ℕ} (hr : r < 1024) (hk : k < 2048) :
    at2 (iblk m c 2 t : Vec Ideal S1024x2048 .bf16) r k = at2 (argC m c) (1024 * (t.val / 4) + r) (2048 * (t.val / 1 % 4) + k) := by
  refine (at2_of_lt (iblk m c 2 t : Vec Ideal S1024x2048 .bf16) hr hk).trans (eq_at2_of (argC m c) _ ?_ ?_)
  · show win0_2.index t 0 * 1024 + 1 * r = _
    rw [(index2 t).1]; omega
  · show win0_2.index t 1 * 2048 + 1 * k = _
    rw [(index2 t).2]; omega

/-! ## The sums -/

/-- The inner product of the contracted axis, as far as its first `n` entries, for entry `(r, k)` of the product. -/
def upTo (A : Vec Ideal S4096x2048 .bf16) (B : Vec Ideal S8192x2048 .bf16) (n r k : ℕ) : EReal := dot (at2 A (r)) (at2 B (k)) n

/-- What the step at point `t` adds to the terms before it. -/
theorem step (t : Fin cfg0.N) {r k : ℕ} (hr : r < 1024) (hk : k < 2048) :
    upTo (argA m c) (argB m c) (2048 * (t.val % 1)) (1024 * (t.val / 4) + r) (2048 * (t.val / 1 % 4) + k)
        + dot (at2 (iblk m c 0 t : Vec Ideal S1024x2048 .bf16) (r)) (at2 (iblk m c 1 t : Vec Ideal S2048x2048 .bf16) (k)) 2048
      = upTo (argA m c) (argB m c) (2048 * (t.val % 1 + 1)) (1024 * (t.val / 4) + r) (2048 * (t.val / 1 % 4) + k) := by
  unfold upTo
  rw [Nat.mul_add_one, ← dot_add]
  exact congrArg _ (dot_congr (fun j hj => blk0 m c t hr hj) (fun j hj => blk1 m c t hk hj))

/-- The result's entry `(r, k)`. -/
def entry (A : Vec Ideal S4096x2048 .bf16) (B : Vec Ideal S8192x2048 .bf16) (H : Vec Ideal S4096x8192 .bf16) (r k : ℕ) : EReal := upTo A B 2048 r k * twice (at2 H r k)

/-! ## What the points leave -/

/-- A point writes its block whole. -/
theorem out3_eq (x0 : Vec Ideal S1024x2048 .bf16) (x1 : Vec Ideal S2048x2048 .bf16) (x2 : Vec Ideal S1024x2048 .bf16) : out0_3 (F := Ideal) x0 x1 x2 = k0_pay1 (F := Ideal) x0 x1 x2 := by
  unfold out0_3
  rw [View.canon_unit_zero zero2]
  rw [View.ld_unit_zero (S := S1024x2048) zero2, View.ld_unit_zero (S := S2048x2048) zero2, View.ld_unit_zero (S := S1024x2048) zero2]

/-- What a point leaves for the result. -/
theorem written (t : Fin cfg0.N) (y : S1024x2048.Idx) : out0_3 (F := Ideal) (iblk m c 0 t) (iblk m c 1 t) (iblk m c 2 t) y
    = entry (argA m c) (argB m c) (argC m c) (1024 * (t.val / 4) + (y 0).val) (2048 * (t.val / 1 % 4) + (y 1).val) := by
  have e0 : (y 0).val < 1024 := (y 0).isLt
  have e1 : (y 1).val < 2048 := (y 1).isLt
  have h := step m c t e0 e1
  rw [upTo, show t.val % 1 = 0 from Nat.mod_one _, Nat.mul_zero, dot_zero, zero_add] at h
  rw [out3_eq, pay1]
  exact congrArg₂ (· * ·) h (congrArg twice ((eq_at2 (iblk m c 2 t : Vec Ideal S1024x2048 .bf16) y).trans (blk2 m c t e0 e1)))

/-! ## The result array -/

/-- The result array after the run. -/
theorem final3 : (dats m 0 c).arrAt 3 cfg0.N = fun y : S4096x8192.Idx => entry (argA m c) (argB m c) (argC m c) (y 0).val (y 1).val := by
  refine (dats m 0 c).arrAt_eq_of_cover 3 _ (fun t hf => ?_) fun (y : S4096x8192.Idx) => ?_
  · have hN : t.val < 16 := t.isLt
    rw [Cert.FDownTIdeal.Value.flushed3]
    funext x
    refine (written m c t _).trans ?_
    rw [View.read_apply]
    refine congrArg₂ (entry (argA m c) (argB m c) (argC m c)) ?_ ?_
    · show 1024 * (t.val / 4) + (x 0).val = win0_3.index t 0 * 1024 + 1 * (x 0).val
      rw [(index3 t).1]; omega
    · show 2048 * (t.val / 1 % 4) + (x 1).val = win0_3.index t 1 * 2048 + 1 * (x 1).val
      rw [(index3 t).2]; omega
  · have h0 : (y 0).val < 4096 := (y 0).isLt
    have h1 : (y 1).val < 8192 := (y 1).isLt
    obtain ⟨t, ht⟩ : ∃ t : Fin cfg0.N, t.val = 4 * ((y 0).val / 1024) + 1 * ((y 1).val / 2048) + 0 :=
      ⟨⟨4 * ((y 0).val / 1024) + 1 * ((y 1).val / 2048) + 0, show 4 * ((y 0).val / 1024) + 1 * ((y 1).val / 2048) + 0 < 16 by omega⟩, rfl⟩
    refine ⟨t, flush0_3 _, ?_⟩
    show y ∈ ((View.whole main_v1).slice (win0_3.rect t)).set
    rw [View.set_slice_whole, Rect.mem_set_unit]
    intro a
    match a with
    | ⟨0, _⟩ =>
      show win0_3.index t 0 * 1024 ≤ (y 0).val ∧ (y 0).val < win0_3.index t 0 * 1024 + 1024
      rw [(index3 t).1]; omega
    | ⟨1, _⟩ =>
      show win0_3.index t 1 * 2048 ≤ (y 1).val ∧ (y 1).val < win0_3.index t 1 * 2048 + 2048
      rw [(index3 t).2]; omega

/-! ## The reference -/

/-- The reference's product, entry by entry. -/
theorem refDot (x0 : Vec Ideal S4096x2048 .bf16) (x1 : Vec Ideal S8x1024x2048 .bf16) (y : S4096x8192.Idx) :
    FDownTRefIdeal.Read.val_main_v12 (F := Ideal) x0 x1 y = upTo x0 (shapeCast (s := S8x1024x2048) S8192x2048 x1 shapeCasts_S8x1024x2048_S8192x2048) 2048 (y 0).val (y 1).val := by
  rw [FDownTRefIdeal.Read.val_main_v12_apply]
  exact sum_eq_dot (at2 x0 ((y 0).val)) (at2 (shapeCast (s := S8x1024x2048) S8192x2048 x1 shapeCasts_S8x1024x2048_S8192x2048) ((y 1).val)) (fun k =>
    congrArg₂ (· * ·) (eq_at2 x0 (FDownTRefIdeal.Read.lidx_main_v12 y k)) (eq_at2 (shapeCast (s := S8x1024x2048) S8192x2048 x1 shapeCasts_S8x1024x2048_S8192x2048) (FDownTRefIdeal.Read.ridx_main_v12 y k)))

/-- Where the hidden entry is not positive, its rectifier is zero, so the choice the derivative of the rectifier makes changes nothing. -/
theorem choice (d h : EReal) : Scalar.select (FloatOps.cmpf (F := Ideal) (φ := .f32) .ogt h (FloatOps.ofBits (F := Ideal) .f32 0x00000000#32)) (d * (FloatOps.ofBits (F := Ideal) .f32 0x40000000#32 * max h (FloatOps.ofBits (F := Ideal) .f32 0x00000000#32)))
    (FloatOps.ofBits (F := Ideal) .f32 0x00000000#32) = d * twice h := by
  unfold twice
  have hz : (FloatOps.ofBits (F := Ideal) .f32 0x00000000#32 : EReal) = 0 := Ideal.ofBits_zero_f32
  rw [hz]
  show (if BitVec.ofBool (decide ((0 : EReal) < h)) = 1#1 then _ else _) = _
  by_cases hp : (0 : EReal) < h
  · rw [decide_eq_true hp]; rfl
  · rw [decide_eq_false hp, max_eq_right (not_lt.mp hp), mul_zero, mul_zero]; rfl

/-- The reference's result, entry by entry. -/
theorem refEntry (x0 : Vec Ideal S4096x2048 .bf16) (x1 : Vec Ideal S8x1024x2048 .bf16) (x2 : Vec Ideal S4096x8192 .bf16) (y : S4096x8192.Idx) :
    FDownTRefIdeal.Read.val_main_v16 (F := Ideal) x0 x1 x2 y = entry x0 (shapeCast (s := S8x1024x2048) S8192x2048 x1 shapeCasts_S8x1024x2048_S8192x2048) x2 (y 0).val (y 1).val := by
  unfold entry
  rw [← eq_at2 x2, ← refDot, ← choice]
  rfl

/-- The two results are equal entry by entry. -/
theorem algebraic : Cert.algebraic_FDownTIdeal_FDownTRefIdeal :=
  fun m ρ m' ρ' _ hag => by
    refine ⟨fun c => (fun y : S4096x8192.Idx => entry (argA m c) (argB m c) (argC m c) (y 0).val (y 1).val),
      (θ_run FDownTIdeal.defs _ _).mono (fun _ h c => ⟨(h c).1.trans (final3 m c), (h c).2⟩) (FDownTIdeal.Value.run_blocks m ρ),
      (θ_run FDownTRefIdeal.defs _ _).mono (fun _ h c => ?_) (FDownTRefIdeal.Value.run m' ρ')⟩
    exact ⟨(h c).1.trans ((funext fun y => refEntry (m' ((c : Thread FDownTRefIdeal.nD FDownTRefIdeal.τ).loc FDownTRefIdeal.main_arg0)) (m' ((c : Thread FDownTRefIdeal.nD FDownTRefIdeal.τ).loc FDownTRefIdeal.main_arg1)) (m' ((c : Thread FDownTRefIdeal.nD FDownTRefIdeal.τ).loc FDownTRefIdeal.main_arg2)) y).trans (by rw [(hag c).1, (hag c).2.1, (hag c).2.2])),
      (h c).2⟩

/-- The reference runs and leaves its arguments alone; it declares no semaphore. -/
theorem referenceFrame : Cert.quiescent_FDownTRefIdeal :=
  fun m ρ _ => (θ_run FDownTRefIdeal.defs _ _).mono (fun r h => ⟨fun c => (h c).2,
    sem_eq_zero_of_no_sems (by decide) r.2⟩) (FDownTRefIdeal.Value.run m ρ)

end Cert.Products.FDownT

end
-- ==== Proof.Products.FDownG.lean ====
/- The gradient of the feed-forward block's second product to its weight, `actᵀ @ dy`. -/
module

public import proofs.«01_k».proof.Defs
public import proofs.«01_k».proof.Proof.Gen.FDownGIdeal.Value
public import proofs.«01_k».proof.Proof.Gen.FDownGRefIdeal.Run
public import proofs.«01_k».proof.Proof.Gen.FDownGRefIdeal.Read
public import proofs.«01_k».proof.Proof.Products.Sums

@[expose] public section

set_option maxRecDepth 16384

noncomputable section

namespace Cert.Products.FDownG

open Cert.FDownGIdeal Cert.FDownGIdeal.Gen Idealize.ShloMosaic Idealize.ShloMosaic.TcCoe Idealize.SL.Sem Cert.Entry

/-! ## What one step computes -/

/-- The first step along the contracted axis, entry by entry. -/
theorem pay1 (x0 : Vec Ideal S2048x1024 .bf16) (x1 : Vec Ideal S2048x1024 .bf16) (y : S1024x1024.Idx) :
    k0_pay1 (F := Ideal) x0 x1 y = dot (fun j => at2 x0 j ((y 0).val)) (fun j => at2 x1 j ((y 1).val)) 2048 := by
  unfold_payloads
  pointwise [shapeCast_self, eq_at2 x0, eq_at2 x1]
  exact sum_fin_eq_dot (fun j => at2 x0 j ((y 0).val)) (fun j => at2 x1 j ((y 1).val)) 2048

/-- The last step, written to the result. -/
theorem payLast (s : Vec Ideal S1024x1024 .f32) (x0 : Vec Ideal S2048x1024 .bf16) (x1 : Vec Ideal S2048x1024 .bf16) (y : S1024x1024.Idx) :
    k0_pay2 (F := Ideal) s x0 x1 y = s y + dot (fun j => at2 x0 j ((y 0).val)) (fun j => at2 x1 j ((y 1).val)) 2048 := by
  unfold_payloads
  pointwise [shapeCast_self, eq_at2 x0, eq_at2 x1]
  exact congrArg (s y + ·) (sum_fin_eq_dot (fun j => at2 x0 j ((y 0).val)) (fun j => at2 x1 j ((y 1).val)) 2048)

/-! ## The arguments and their blocks -/

variable (m : (ℓ : Loc nD τ sig) → Buf (Elt Ideal) ℓ) (c : Dev nD)

/-- The arguments as launched. -/
abbrev argA : Vec Ideal S4096x8192 .bf16 := m ((c : Thread nD τ).loc main_arg0)
abbrev argB : Vec Ideal S4096x2048 .bf16 := m ((c : Thread nD τ).loc main_arg1)

theorem index0 : ∀ t : Fin cfg0.N, win0_0.index t 0 = t.val % 2 ∧ win0_0.index t 1 = t.val / 4 :=
  (by decide +kernel : ∀ t : Fin grid0.N, win0_0.index t 0 = t.val % 2 ∧ win0_0.index t 1 = t.val / 4)
theorem index1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)
theorem index2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

theorem blk0 (t : Fin cfg0.N) {r k : ℕ} (hr : r < 2048) (hk : k < 1024) :
    at2 (iblk m c 0 t : Vec Ideal S2048x1024 .bf16) r k = at2 (argA m c) (2048 * (t.val % 2) + r) (1024 * (t.val / 4) + k) := by
  refine (at2_of_lt (iblk m c 0 t : Vec Ideal S2048x1024 .bf16) hr hk).trans (eq_at2_of (argA m c) _ ?_ ?_)
  · show win0_0.index t 0 * 2048 + 1 * r = _
    rw [(index0 t).1]; omega
  · show win0_0.index t 1 * 1024 + 1 * k = _
    rw [(index0 t).2]; omega

theorem blk1 (t : Fin cfg0.N) {r k : ℕ} (hr : r < 2048) (hk : k < 1024) :
    at2 (iblk m c 1 t : Vec Ideal S2048x1024 .bf16) r k = at2 (argB m c) (2048 * (t.val % 2) + r) (1024 * (t.val / 2 % 2) + k) := by
  refine (at2_of_lt (iblk m c 1 t : Vec Ideal S2048x1024 .bf16) hr hk).trans (eq_at2_of (argB m c) _ ?_ ?_)
  · show win0_1.index t 0 * 2048 + 1 * r = _
    rw [(index1 t).1]; omega
  · show win0_1.index t 1 * 1024 + 1 * k = _
    rw [(index1 t).2]; omega

/-! ## The sums -/

/-- The inner product of the contracted axis, as far as its first `n` entries, for entry `(r, k)` of the product. -/
def upTo (A : Vec Ideal S4096x8192 .bf16) (B : Vec Ideal S4096x2048 .bf16) (n r k : ℕ) : EReal := dot (fun j => at2 A j (r)) (fun j => at2 B j (k)) n

/-- What the step at point `t` adds to the terms before it. -/
theorem step (t : Fin cfg0.N) {r k : ℕ} (hr : r < 1024) (hk : k < 1024) :
    upTo (argA m c) (argB m c) (2048 * (t.val % 2)) (1024 * (t.val / 4) + r) (1024 * (t.val / 2 % 2) + k)
        + dot (fun j => at2 (iblk m c 0 t : Vec Ideal S2048x1024 .bf16) j (r)) (fun j => at2 (iblk m c 1 t : Vec Ideal S2048x1024 .bf16) j (k)) 2048
      = upTo (argA m c) (argB m c) (2048 * (t.val % 2 + 1)) (1024 * (t.val / 4) + r) (1024 * (t.val / 2 % 2) + k) := by
  unfold upTo
  rw [Nat.mul_add_one, ← dot_add]
  exact congrArg _ (dot_congr (fun j hj => blk0 m c t hj hr) (fun j hj => blk1 m c t hj hk))

/-- The result's entry `(r, k)`. -/
def entry (A : Vec Ideal S4096x8192 .bf16) (B : Vec Ideal S4096x2048 .bf16) (r k : ℕ) : EReal := upTo A B 4096 r k

/-! ## What the points leave -/

/-- The first step fills the scratch, -/
theorem first (t : Fin cfg0.N) (h0 : t.val % 2 = 0) :
    (outsAt0 m c t.val t.isLt).2 = k0_pay1 (F := Ideal) (iblk m c 0 t) (iblk m c 1 t) := by
  rw [outsAt0_A m c t h0 (by omega)]
  dsimp only
  unfold sout0_A_0 kernelRun0_A
  refine (View.read_writes_full _ _ _ _ _).trans ?_
  rw [readAt_whole, readAt_whole]

/-- and the last one writes the result. -/
theorem last (t : Fin cfg0.N) (h2 : t.val % 2 = 1) :
    (outsAt0 m c t.val t.isLt).1 = k0_pay2 (F := Ideal) (outsAt0 m c (t.val - 1) (Nat.lt_of_le_of_lt (Nat.sub_le _ _) t.isLt)).2
      (iblk m c 0 t) (iblk m c 1 t) := by
  rw [outsAt0_B m c t (by omega) h2]
  dsimp only
  unfold out0_B_2 kernelRun0_B
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 2 = 1) (y : S1024x1024.Idx), (outsAt0 m c n h).2 y
    = upTo (argA m c) (argB m c) (2048 * (n % 2 + 1)) (1024 * (n / 4) + (y 0).val) (1024 * (n / 2 % 2) + (y 1).val)
  | n, h, h3, y => by
    have e0 : (y 0).val < 1024 := (y 0).isLt
    have e1 : (y 1).val < 1024 := (y 1).isLt
    rw [← step m c ⟨n, h⟩ e0 e1]
    have h0 : n % 2 = 0 := by omega
    rw [first m c ⟨n, h⟩ h0, pay1]
    dsimp only
    rw [h0, upTo, Nat.mul_zero, dot_zero, zero_add]

/-- What the last point along the contracted axis leaves for the result. -/
theorem written (t : Fin cfg0.N) (h3 : t.val % 2 = 1) (y : S1024x1024.Idx) : (outsAt0 m c t.val t.isLt).1 y
    = entry (argA m c) (argB m c) (1024 * (t.val / 4) + (y 0).val) (1024 * (t.val / 2 % 2) + (y 1).val) := by
  have e0 : (y 0).val < 1024 := (y 0).isLt
  have e1 : (y 1).val < 1024 := (y 1).isLt
  have h := step m c t e0 e1
  rw [h3] at h
  rw [last m c t h3, payLast, scratch m c (t.val - 1) _ (by omega) y, show (t.val - 1) % 2 + 1 = 1 by omega,
    show (t.val - 1) / 4 = t.val / 4 by omega, show (t.val - 1) / 2 = t.val / 2 by omega]
  exact h

/-! ## The result array -/

/-- The result array after the run. -/
theorem final2 : (dats m 0 c).arrAt 2 cfg0.N = fun y : S8192x2048.Idx => entry (argA m c) (argB m c) (y 0).val (y 1).val := by
  refine (dats m 0 c).arrAt_eq_of_cover 2 _ (fun t hf => ?_) fun (y : S8192x2048.Idx) => ?_
  · have hN : t.val < 32 := t.isLt
    rw [Cert.FDownGIdeal.Value.flushed2]
    funext x
    refine (written m c t ((flush0_2 t).mp hf) _).trans ?_
    rw [View.read_apply]
    refine congrArg₂ (entry (argA m c) (argB m c)) ?_ ?_
    · show 1024 * (t.val / 4) + (x 0).val = win0_2.index t 0 * 1024 + 1 * (x 0).val
      rw [(index2 t).1]; omega
    · show 1024 * (t.val / 2 % 2) + (x 1).val = win0_2.index t 1 * 1024 + 1 * (x 1).val
      rw [(index2 t).2]; omega
  · have h0 : (y 0).val < 8192 := (y 0).isLt
    have h1 : (y 1).val < 2048 := (y 1).isLt
    obtain ⟨t, ht⟩ : ∃ t : Fin cfg0.N, t.val = 4 * ((y 0).val / 1024) + 2 * ((y 1).val / 1024) + 1 :=
      ⟨⟨4 * ((y 0).val / 1024) + 2 * ((y 1).val / 1024) + 1, show 4 * ((y 0).val / 1024) + 2 * ((y 1).val / 1024) + 1 < 32 by omega⟩, rfl⟩
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0).val ∧ (y 0).val < win0_2.index t 0 * 1024 + 1024
      rw [(index2 t).1]; omega
    | ⟨1, _⟩ =>
      show win0_2.index t 1 * 1024 ≤ (y 1).val ∧ (y 1).val < win0_2.index t 1 * 1024 + 1024
      rw [(index2 t).2]; omega

/-! ## The reference -/

/-- The reference's result, entry by entry: it takes the factors in the other order. -/
theorem refDot (x0 : Vec Ideal S4096x8192 .bf16) (x1 : Vec Ideal S4096x2048 .bf16) (y : S8192x2048.Idx) :
    FDownGRefIdeal.Read.val_main_v6 (F := Ideal) x0 x1 y = entry x0 x1 (y 0).val (y 1).val := by
  rw [entry, upTo, dot_comm, FDownGRefIdeal.Read.val_main_v6_apply, FDownGRefIdeal.Read.val_main_v5_apply, FDownGRefIdeal.Read.val_main_v4_apply]
  exact sum_eq_dot (fun j => at2 x1 j ((y 1).val)) (fun j => at2 x0 j ((y 0).val)) (fun k =>
    congrArg₂ (· * ·) (eq_at2 x1 (FDownGRefIdeal.Read.lidx_main_v4 (FDownGRefIdeal.Read.idx_main_v5 y) k)) (eq_at2 x0 (FDownGRefIdeal.Read.ridx_main_v4 (FDownGRefIdeal.Read.idx_main_v5 y) k)))

/-- The two results are equal entry by entry. -/
theorem algebraic : Cert.algebraic_FDownGIdeal_FDownGRefIdeal :=
  fun m ρ m' ρ' _ hag => by
    refine ⟨fun c => (fun y : S8192x2048.Idx => entry (argA m c) (argB m c) (y 0).val (y 1).val),
      (θ_run FDownGIdeal.defs _ _).mono (fun _ h c => ⟨(h c).1.trans (final2 m c), (h c).2⟩) (FDownGIdeal.Value.run_blocks m ρ),
      (θ_run FDownGRefIdeal.defs _ _).mono (fun _ h c => ?_) (FDownGRefIdeal.Value.run m' ρ')⟩
    exact ⟨(h c).1.trans ((funext fun y => refDot (m' ((c : Thread FDownGRefIdeal.nD FDownGRefIdeal.τ).loc FDownGRefIdeal.main_arg0)) (m' ((c : Thread FDownGRefIdeal.nD FDownGRefIdeal.τ).loc FDownGRefIdeal.main_arg1)) y).trans (by rw [(hag c).1, (hag c).2])),
      (h c).2⟩

/-- The reference runs and leaves its arguments alone; it declares no semaphore. -/
theorem referenceFrame : Cert.quiescent_FDownGRefIdeal :=
  fun m ρ _ => (θ_run FDownGRefIdeal.defs _ _).mono (fun r h => ⟨fun c => (h c).2,
    sem_eq_zero_of_no_sems (by decide) r.2⟩) (FDownGRefIdeal.Value.run m ρ)

end Cert.Products.FDownG

end
-- ==== Proof.Products.FUpT.lean ====
/- The gradient of the feed-forward block's first product to its input, `dhid @ w1ᵀ`. -/
module

public import proofs.«01_k».proof.Defs
public import proofs.«01_k».proof.Proof.Gen.FUpTIdeal.Value
public import proofs.«01_k».proof.Proof.Gen.FUpTRefIdeal.Run
public import proofs.«01_k».proof.Proof.Gen.FUpTRefIdeal.Read
public import proofs.«01_k».proof.Proof.Products.Sums

@[expose] public section

set_option maxRecDepth 16384

noncomputable section

namespace Cert.Products.FUpT

open Cert.FUpTIdeal Cert.FUpTIdeal.Gen Idealize.ShloMosaic Idealize.ShloMosaic.TcCoe Idealize.SL.Sem Cert.Entry

/-! ## What one step computes -/

/-- The first step along the contracted axis, entry by entry. -/
theorem pay1 (x0 : Vec Ideal S1024x2048 .bf16) (x1 : Vec Ideal S1024x2048 .bf16) (y : S1024x1024.Idx) :
    k0_pay1 (F := Ideal) x0 x1 y = dot (at2 x0 ((y 0).val)) (at2 x1 ((y 1).val)) 2048 := by
  unfold_payloads
  pointwise [shapeCast_self, eq_at2 x0, eq_at2 x1]
  exact sum_fin_eq_dot (at2 x0 ((y 0).val)) (at2 x1 ((y 1).val)) 2048

/-- A middle step, over what the scratch holds. -/
theorem pay2 (s : Vec Ideal S1024x1024 .f32) (x0 : Vec Ideal S1024x2048 .bf16) (x1 : Vec Ideal S1024x2048 .bf16) (y : S1024x1024.Idx) :
    k0_pay2 (F := Ideal) s x0 x1 y = s y + dot (at2 x0 ((y 0).val)) (at2 x1 ((y 1).val)) 2048 := by
  unfold_payloads
  pointwise [shapeCast_self, eq_at2 x0, eq_at2 x1]
  exact congrArg (s y + ·) (sum_fin_eq_dot (at2 x0 ((y 0).val)) (at2 x1 ((y 1).val)) 2048)

/-- The last step, written to the result. -/
theorem payLast (s : Vec Ideal S1024x1024 .f32) (x0 : Vec Ideal S1024x2048 .bf16) (x1 : Vec Ideal S1024x2048 .bf16) (y : S1024x1024.Idx) :
    k0_pay3 (F := Ideal) s x0 x1 y = s y + dot (at2 x0 ((y 0).val)) (at2 x1 ((y 1).val)) 2048 := by
  unfold_payloads
  pointwise [shapeCast_self, eq_at2 x0, eq_at2 x1]
  exact congrArg (s y + ·) (sum_fin_eq_dot (at2 x0 ((y 0).val)) (at2 x1 ((y 1).val)) 2048)

/-! ## The arguments and their blocks -/

variable (m : (ℓ : Loc nD τ sig) → Buf (Elt Ideal) ℓ) (c : Dev nD)

/-- The arguments as launched. -/
abbrev argA : Vec Ideal S4096x8192 .bf16 := m ((c : Thread nD τ).loc main_arg0)
abbrev argB : Vec Ideal S2048x8192 .bf16 := m ((c : Thread nD τ).loc main_arg1)

theorem index0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem index1 : ∀ t : Fin cfg0.N, win0_1.index t 0 = t.val / 4 % 2 ∧ win0_1.index t 1 = t.val % 4 :=
  (by decide +kernel : ∀ t : Fin grid0.N, win0_1.index t 0 = t.val / 4 % 2 ∧ win0_1.index t 1 = t.val % 4)
theorem index2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

theorem blk0 (t : Fin cfg0.N) {r k : ℕ} (hr : r < 1024) (hk : k < 2048) :
    at2 (iblk m c 0 t : Vec Ideal S1024x2048 .bf16) r k = at2 (argA m c) (1024 * (t.val / 8) + r) (2048 * (t.val % 4) + k) := by
  refine (at2_of_lt (iblk m c 0 t : Vec Ideal S1024x2048 .bf16) hr hk).trans (eq_at2_of (argA m c) _ ?_ ?_)
  · show win0_0.index t 0 * 1024 + 1 * r = _
    rw [(index0 t).1]; omega
  · show win0_0.index t 1 * 2048 + 1 * k = _
    rw [(index0 t).2]; omega

theorem blk1 (t : Fin cfg0.N) {r k : ℕ} (hr : r < 1024) (hk : k < 2048) :
    at2 (iblk m c 1 t : Vec Ideal S1024x2048 .bf16) r k = at2 (argB m c) (1024 * (t.val / 4 % 2) + r) (2048 * (t.val % 4) + k) := by
  refine (at2_of_lt (iblk m c 1 t : Vec Ideal S1024x2048 .bf16) hr hk).trans (eq_at2_of (argB m c) _ ?_ ?_)
  · show win0_1.index t 0 * 1024 + 1 * r = _
    rw [(index1 t).1]; omega
  · show win0_1.index t 1 * 2048 + 1 * k = _
    rw [(index1 t).2]; omega

/-! ## The sums -/

/-- The inner product of the contracted axis, as far as its first `n` entries, for entry `(r, k)` of the product. -/
def upTo (A : Vec Ideal S4096x8192 .bf16) (B : Vec Ideal S2048x8192 .bf16) (n r k : ℕ) : EReal := dot (at2 A (r)) (at2 B (k)) n

/-- What the step at point `t` adds to the terms before it. -/
theorem step (t : Fin cfg0.N) {r k : ℕ} (hr : r < 1024) (hk : k < 1024) :
    upTo (argA m c) (argB m c) (2048 * (t.val % 4)) (1024 * (t.val / 8) + r) (1024 * (t.val / 4 % 2) + k)
        + dot (at2 (iblk m c 0 t : Vec Ideal S1024x2048 .bf16) (r)) (at2 (iblk m c 1 t : Vec Ideal S1024x2048 .bf16) (k)) 2048
      = upTo (argA m c) (argB m c) (2048 * (t.val % 4 + 1)) (1024 * (t.val / 8) + r) (1024 * (t.val / 4 % 2) + k) := by
  unfold upTo
  rw [Nat.mul_add_one, ← dot_add]
  exact congrArg _ (dot_congr (fun j hj => blk0 m c t hr hj) (fun j hj => blk1 m c t hk hj))

/-- The result's entry `(r, k)`. -/
def entry (A : Vec Ideal S4096x8192 .bf16) (B : Vec Ideal S2048x8192 .bf16) (r k : ℕ) : EReal := upTo A B 8192 r k

/-! ## What the points leave -/

/-- The first step fills the scratch, -/
theorem first (t : Fin cfg0.N) (h0 : t.val % 4 = 0) :
    (outsAt0 m c t.val t.isLt).2 = k0_pay1 (F := Ideal) (iblk m c 0 t) (iblk m c 1 t) := by
  rw [outsAt0_A m c t h0 (by omega) (by omega)]
  dsimp only
  unfold sout0_A_0 kernelRun0_A
  refine (View.read_writes_full _ _ _ _ _).trans ?_
  rw [readAt_whole, readAt_whole]

/-- the middle steps add to it, -/
theorem next (t : Fin cfg0.N) (h0 : ¬t.val % 4 = 0) (h2 : ¬t.val % 4 = 3) :
    (outsAt0 m c t.val t.isLt).2 = k0_pay2 (F := Ideal) (outsAt0 m c (t.val - 1) (Nat.lt_of_le_of_lt (Nat.sub_le _ _) t.isLt)).2
      (iblk m c 0 t) (iblk m c 1 t) := by
  rw [outsAt0_B m c t h0 (by omega) h2]
  dsimp only
  unfold sout0_B_0 kernelRun0_B
  refine (View.read_writes_full _ _ _ _ _).trans ?_
  rw [readAt_whole, readAt_whole, readAt_whole]

/-- and the last one writes the result. -/
theorem last (t : Fin cfg0.N) (h2 : t.val % 4 = 3) :
    (outsAt0 m c t.val t.isLt).1 = k0_pay3 (F := Ideal) (outsAt0 m c (t.val - 1) (Nat.lt_of_le_of_lt (Nat.sub_le _ _) t.isLt)).2
      (iblk m c 0 t) (iblk m c 1 t) := by
  rw [outsAt0_C m c t (by omega) (by omega) h2]
  dsimp only
  unfold out0_C_2 kernelRun0_C
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 4 = 3) (y : S1024x1024.Idx), (outsAt0 m c n h).2 y
    = upTo (argA m c) (argB m c) (2048 * (n % 4 + 1)) (1024 * (n / 8) + (y 0).val) (1024 * (n / 4 % 2) + (y 1).val)
  | n, h, h3, y => by
    have e0 : (y 0).val < 1024 := (y 0).isLt
    have e1 : (y 1).val < 1024 := (y 1).isLt
    rw [← step m c ⟨n, h⟩ e0 e1]
    by_cases h0 : n % 4 = 0
    · rw [first m c ⟨n, h⟩ h0, pay1]
      dsimp only
      rw [h0, upTo, Nat.mul_zero, dot_zero, zero_add]
    · rw [next m c ⟨n, h⟩ h0 h3, pay2]
      dsimp only
      rw [scratch (n - 1) _ (by omega) y, show (n - 1) % 4 + 1 = n % 4 by omega, show (n - 1) / 8 = n / 8 by omega,
        show (n - 1) / 4 = n / 4 by omega]

/-- What the last point along the contracted axis leaves for the result. -/
theorem written (t : Fin cfg0.N) (h3 : t.val % 4 = 3) (y : S1024x1024.Idx) : (outsAt0 m c t.val t.isLt).1 y
    = entry (argA m c) (argB m c) (1024 * (t.val / 8) + (y 0).val) (1024 * (t.val / 4 % 2) + (y 1).val) := by
  have e0 : (y 0).val < 1024 := (y 0).isLt
  have e1 : (y 1).val < 1024 := (y 1).isLt
  have h := step m c t e0 e1
  rw [h3] at h
  rw [last m c t h3, payLast, scratch m c (t.val - 1) _ (by omega) y, show (t.val - 1) % 4 + 1 = 3 by omega,
    show (t.val - 1) / 8 = t.val / 8 by omega, show (t.val - 1) / 4 = t.val / 4 by omega]
  exact h

/-! ## The result array -/

/-- The result array after the run. -/
theorem final2 : (dats m 0 c).arrAt 2 cfg0.N = fun y : S4096x2048.Idx => entry (argA m c) (argB m c) (y 0).val (y 1).val := by
  refine (dats m 0 c).arrAt_eq_of_cover 2 _ (fun t hf => ?_) fun (y : S4096x2048.Idx) => ?_
  · have hN : t.val < 32 := t.isLt
    rw [Cert.FUpTIdeal.Value.flushed2]
    funext x
    refine (written m c t ((flush0_2 t).mp hf) _).trans ?_
    rw [View.read_apply]
    refine congrArg₂ (entry (argA m c) (argB m c)) ?_ ?_
    · show 1024 * (t.val / 8) + (x 0).val = win0_2.index t 0 * 1024 + 1 * (x 0).val
      rw [(index2 t).1]; omega
    · show 1024 * (t.val / 4 % 2) + (x 1).val = win0_2.index t 1 * 1024 + 1 * (x 1).val
      rw [(index2 t).2]; omega
  · have h0 : (y 0).val < 4096 := (y 0).isLt
    have h1 : (y 1).val < 2048 := (y 1).isLt
    obtain ⟨t, ht⟩ : ∃ t : Fin cfg0.N, t.val = 8 * ((y 0).val / 1024) + 4 * ((y 1).val / 1024) + 3 :=
      ⟨⟨8 * ((y 0).val / 1024) + 4 * ((y 1).val / 1024) + 3, show 8 * ((y 0).val / 1024) + 4 * ((y 1).val / 1024) + 3 < 32 by omega⟩, rfl⟩
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0).val ∧ (y 0).val < win0_2.index t 0 * 1024 + 1024
      rw [(index2 t).1]; omega
    | ⟨1, _⟩ =>
      show win0_2.index t 1 * 1024 ≤ (y 1).val ∧ (y 1).val < win0_2.index t 1 * 1024 + 1024
      rw [(index2 t).2]; omega

/-! ## The reference -/

/-- The reference's product, entry by entry. -/
theorem refDot (x0 : Vec Ideal S4096x8192 .bf16) (x1 : Vec Ideal S2048x8192 .bf16) (y : S4096x2048.Idx) :
    FUpTRefIdeal.Read.val_main_v4 (F := Ideal) x0 x1 y = upTo x0 x1 8192 (y 0).val (y 1).val := by
  rw [FUpTRefIdeal.Read.val_main_v4_apply]
  exact sum_eq_dot (at2 x0 ((y 0).val)) (at2 x1 ((y 1).val)) (fun k =>
    congrArg₂ (· * ·) (eq_at2 x0 (FUpTRefIdeal.Read.lidx_main_v4 y k)) (eq_at2 x1 (FUpTRefIdeal.Read.ridx_main_v4 y k)))

/-- The two results are equal entry by entry. -/
theorem algebraic : Cert.algebraic_FUpTIdeal_FUpTRefIdeal :=
  fun m ρ m' ρ' _ hag => by
    refine ⟨fun c => (fun y : S4096x2048.Idx => entry (argA m c) (argB m c) (y 0).val (y 1).val),
      (θ_run FUpTIdeal.defs _ _).mono (fun _ h c => ⟨(h c).1.trans (final2 m c), (h c).2⟩) (FUpTIdeal.Value.run_blocks m ρ),
      (θ_run FUpTRefIdeal.defs _ _).mono (fun _ h c => ?_) (FUpTRefIdeal.Value.run m' ρ')⟩
    exact ⟨(h c).1.trans ((funext fun y => refDot (m' ((c : Thread FUpTRefIdeal.nD FUpTRefIdeal.τ).loc FUpTRefIdeal.main_arg0)) (m' ((c : Thread FUpTRefIdeal.nD FUpTRefIdeal.τ).loc FUpTRefIdeal.main_arg1)) y).trans (by rw [(hag c).1, (hag c).2]; rfl)),
      (h c).2⟩

/-- The reference runs and leaves its arguments alone; it declares no semaphore. -/
theorem referenceFrame : Cert.quiescent_FUpTRefIdeal :=
  fun m ρ _ => (θ_run FUpTRefIdeal.defs _ _).mono (fun r h => ⟨fun c => (h c).2,
    sem_eq_zero_of_no_sems (by decide) r.2⟩) (FUpTRefIdeal.Value.run m ρ)

end Cert.Products.FUpT

end
-- ==== Proof.Products.FUpG.lean ====
/- The gradient of the feed-forward block's first product to its weight, `hᵀ @ dhid`, by the devices' blocks of columns. -/
module

public import proofs.«01_k».proof.Defs
public import proofs.«01_k».proof.Proof.Gen.FUpGIdeal.Value
public import proofs.«01_k».proof.Proof.Gen.FUpGRefIdeal.Run
public import proofs.«01_k».proof.Proof.Gen.FUpGRefIdeal.Read
public import proofs.«01_k».proof.Proof.Products.Sums

@[expose] public section

set_option maxRecDepth 16384

noncomputable section

namespace Cert.Products.FUpG

open Cert.FUpGIdeal Cert.FUpGIdeal.Gen Idealize.ShloMosaic Idealize.ShloMosaic.TcCoe Idealize.SL.Sem Cert.Entry

/-! ## What one step computes -/

/-- The first step along the contracted axis, entry by entry. -/
theorem pay1 (x0 : Vec Ideal S2048x1024 .bf16) (x1 : Vec Ideal S2048x1024 .bf16) (y : S1024x1024.Idx) :
    k0_pay1 (F := Ideal) x0 x1 y = dot (fun j => at2 x0 j ((y 0).val)) (fun j => at2 x1 j ((y 1).val)) 2048 := by
  unfold_payloads
  pointwise [shapeCast_self, eq_at2 x0, eq_at2 x1]
  exact sum_fin_eq_dot (fun j => at2 x0 j ((y 0).val)) (fun j => at2 x1 j ((y 1).val)) 2048

/-- The last step, written to the result. -/
theorem payLast (s : Vec Ideal S1024x1024 .f32) (x0 : Vec Ideal S2048x1024 .bf16) (x1 : Vec Ideal S2048x1024 .bf16) (y : S1x1024x1024.Idx) :
    k0_pay2 (F := Ideal) s x0 x1 y = s (ix2 (y 1) (y 2)) + dot (fun j => at2 x0 j ((y 1).val)) (fun j => at2 x1 j ((y 2).val)) 2048 := by
  unfold_payloads
  pointwise [shapeCast_self, eq_at2 x0, eq_at2 x1]
  exact congrArg (s (ix2 (y 1) (y 2)) + ·) (sum_fin_eq_dot (fun j => at2 x0 j ((y 1).val)) (fun j => at2 x1 j ((y 2).val)) 2048)

/-! ## The arguments and their blocks -/

variable (m : (ℓ : Loc nD τ sig) → Buf (Elt Ideal) ℓ) (c : Dev nD)

/-- The arguments as launched. -/
abbrev argA : Vec Ideal S4096x2048 .bf16 := m ((c : Thread nD τ).loc main_arg0)
abbrev argB : Vec Ideal S4096x8192 .bf16 := m ((c : Thread nD τ).loc main_arg1)

theorem index0 : ∀ t : Fin cfg0.N, win0_0.index t 0 = t.val % 2 ∧ win0_0.index t 1 = t.val / 16 :=
  (by decide +kernel : ∀ t : Fin grid0.N, win0_0.index t 0 = t.val % 2 ∧ win0_0.index t 1 = t.val / 16)
theorem index1 : ∀ t : Fin cfg0.N, win0_1.index t 0 = t.val % 2 ∧ win0_1.index t 1 = t.val / 2 % 8 :=
  (by decide +kernel : ∀ t : Fin grid0.N, win0_1.index t 0 = t.val % 2 ∧ win0_1.index t 1 = t.val / 2 % 8)
theorem index2 : ∀ t : Fin cfg0.N, win0_2.index t 0 = t.val / 2 % 8 ∧ win0_2.index t 1 = t.val / 16 ∧ win0_2.index t 2 = 0 :=
  (by decide +kernel : ∀ t : Fin grid0.N, win0_2.index t 0 = t.val / 2 % 8 ∧ win0_2.index t 1 = t.val / 16 ∧ win0_2.index t 2 = 0)

theorem blk0 (t : Fin cfg0.N) {r k : ℕ} (hr : r < 2048) (hk : k < 1024) :
    at2 (iblk m c 0 t : Vec Ideal S2048x1024 .bf16) r k = at2 (argA m c) (2048 * (t.val % 2) + r) (1024 * (t.val / 16) + k) := by
  refine (at2_of_lt (iblk m c 0 t : Vec Ideal S2048x1024 .bf16) hr hk).trans (eq_at2_of (argA m c) _ ?_ ?_)
  · show win0_0.index t 0 * 2048 + 1 * r = _
    rw [(index0 t).1]; omega
  · show win0_0.index t 1 * 1024 + 1 * k = _
    rw [(index0 t).2]; omega

theorem blk1 (t : Fin cfg0.N) {r k : ℕ} (hr : r < 2048) (hk : k < 1024) :
    at2 (iblk m c 1 t : Vec Ideal S2048x1024 .bf16) r k = at2 (argB m c) (2048 * (t.val % 2) + r) (1024 * (t.val / 2 % 8) + k) := by
  refine (at2_of_lt (iblk m c 1 t : Vec Ideal S2048x1024 .bf16) hr hk).trans (eq_at2_of (argB m c) _ ?_ ?_)
  · show win0_1.index t 0 * 2048 + 1 * r = _
    rw [(index1 t).1]; omega
  · show win0_1.index t 1 * 1024 + 1 * k = _
    rw [(index1 t).2]; omega

/-! ## The sums -/

/-- The inner product of the contracted axis, as far as its first `n` entries, for entry `(r, k)` of the product. -/
def upTo (A : Vec Ideal S4096x2048 .bf16) (B : Vec Ideal S4096x8192 .bf16) (n r k : ℕ) : EReal := dot (fun j => at2 A j (r)) (fun j => at2 B j (k)) n

/-- What the step at point `t` adds to the terms before it. -/
theorem step (t : Fin cfg0.N) {r k : ℕ} (hr : r < 1024) (hk : k < 1024) :
    upTo (argA m c) (argB m c) (2048 * (t.val % 2)) (1024 * (t.val / 16) + r) (1024 * (t.val / 2 % 8) + k)
        + dot (fun j => at2 (iblk m c 0 t : Vec Ideal S2048x1024 .bf16) j (r)) (fun j => at2 (iblk m c 1 t : Vec Ideal S2048x1024 .bf16) j (k)) 2048
      = upTo (argA m c) (argB m c) (2048 * (t.val % 2 + 1)) (1024 * (t.val / 16) + r) (1024 * (t.val / 2 % 8) + k) := by
  unfold upTo
  rw [Nat.mul_add_one, ← dot_add]
  exact congrArg _ (dot_congr (fun j hj => blk0 m c t hj hr) (fun j hj => blk1 m c t hj hk))

/-- The result's entry `(r, k)`. -/
def entry (A : Vec Ideal S4096x2048 .bf16) (B : Vec Ideal S4096x8192 .bf16) (r k : ℕ) : EReal := upTo A B 4096 r k

/-! ## What the points leave -/

/-- The first step fills the scratch, -/
theorem first (t : Fin cfg0.N) (h0 : t.val % 2 = 0) :
    (outsAt0 m c t.val t.isLt).2 = k0_pay1 (F := Ideal) (iblk m c 0 t) (iblk m c 1 t) := by
  rw [outsAt0_A m c t h0 (by omega)]
  dsimp only
  unfold sout0_A_0 kernelRun0_A
  refine (View.read_writes_full _ _ _ _ _).trans ?_
  rw [readAt_whole, readAt_whole]

/-- and the last one writes the result. -/
theorem last (t : Fin cfg0.N) (h2 : t.val % 2 = 1) :
    (outsAt0 m c t.val t.isLt).1 = k0_pay2 (F := Ideal) (outsAt0 m c (t.val - 1) (Nat.lt_of_le_of_lt (Nat.sub_le _ _) t.isLt)).2
      (iblk m c 0 t) (iblk m c 1 t) := by
  rw [outsAt0_B m c t (by omega) h2]
  dsimp only
  unfold out0_B_2 kernelRun0_B
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 2 = 1) (y : S1024x1024.Idx), (outsAt0 m c n h).2 y
    = upTo (argA m c) (argB m c) (2048 * (n % 2 + 1)) (1024 * (n / 16) + (y 0).val) (1024 * (n / 2 % 8) + (y 1).val)
  | n, h, h3, y => by
    have e0 : (y 0).val < 1024 := (y 0).isLt
    have e1 : (y 1).val < 1024 := (y 1).isLt
    rw [← step m c ⟨n, h⟩ e0 e1]
    have h0 : n % 2 = 0 := by omega
    rw [first m c ⟨n, h⟩ h0, pay1]
    dsimp only
    rw [h0, upTo, Nat.mul_zero, dot_zero, zero_add]

/-- What the last point along the contracted axis leaves for the result. -/
theorem written (t : Fin cfg0.N) (h3 : t.val % 2 = 1) (y : S1x1024x1024.Idx) : (outsAt0 m c t.val t.isLt).1 y
    = entry (argA m c) (argB m c) (1024 * (t.val / 16) + (y 1).val) (1024 * (t.val / 2 % 8) + (y 2).val) := by
  have e0 : (y 1).val < 1024 := (y 1).isLt
  have e1 : (y 2).val < 1024 := (y 2).isLt
  have h := step m c t e0 e1
  rw [h3] at h
  rw [last m c t h3, payLast, scratch m c (t.val - 1) _ (by omega) (ix2 (y 1) (y 2)), show (t.val - 1) % 2 + 1 = 1 by omega,
    show (t.val - 1) / 16 = t.val / 16 by omega, show (t.val - 1) / 2 = t.val / 2 by omega]
  exact h

/-! ## The result array -/

/-- The result array after the run. -/
theorem final2 : (dats m 0 c).arrAt 2 cfg0.N = fun y : S8x2048x1024.Idx => entry (argA m c) (argB m c) (y 1).val (1024 * (y 0).val + (y 2).val) := by
  refine (dats m 0 c).arrAt_eq_of_cover 2 _ (fun t hf => ?_) fun (y : S8x2048x1024.Idx) => ?_
  · have hN : t.val < 32 := t.isLt
    rw [Cert.FUpGIdeal.Value.flushed2]
    funext x
    refine (written m c t ((flush0_2 t).mp hf) _).trans ?_
    rw [View.read_apply]
    refine congrArg₂ (entry (argA m c) (argB m c)) ?_ ?_
    · show 1024 * (t.val / 16) + (x 1).val = win0_2.index t 1 * 1024 + 1 * (x 1).val
      rw [(index2 t).2.1]; omega
    · have x0 : (x 0).val < 1 := (x 0).isLt
      show 1024 * (t.val / 2 % 8) + (x 2).val
        = 1024 * (win0_2.index t 0 * 1 + 1 * (x 0).val) + (win0_2.index t 2 * 1024 + 1 * (x 2).val)
      rw [(index2 t).1, (index2 t).2.2]; omega
  · have h0 : (y 0).val < 8 := (y 0).isLt
    have h1 : (y 1).val < 2048 := (y 1).isLt
    have h2 : (y 2).val < 1024 := (y 2).isLt
    obtain ⟨t, ht⟩ : ∃ t : Fin cfg0.N, t.val = 16 * ((y 1).val / 1024) + 2 * (y 0).val + 1 :=
      ⟨⟨16 * ((y 1).val / 1024) + 2 * (y 0).val + 1, show 16 * ((y 1).val / 1024) + 2 * (y 0).val + 1 < 32 by omega⟩, rfl⟩
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1 ≤ (y 0).val ∧ (y 0).val < win0_2.index t 0 * 1 + 1
      rw [(index2 t).1]; omega
    | ⟨1, _⟩ =>
      show win0_2.index t 1 * 1024 ≤ (y 1).val ∧ (y 1).val < win0_2.index t 1 * 1024 + 1024
      rw [(index2 t).2.1]; omega
    | ⟨2, _⟩ =>
      show win0_2.index t 2 * 1024 ≤ (y 2).val ∧ (y 2).val < win0_2.index t 2 * 1024 + 1024
      rw [(index2 t).2.2]; omega

/-! ## The reference -/

/-- The reference's result, entry by entry: it takes the factors in the other order. -/
theorem refDot (x0 : Vec Ideal S4096x2048 .bf16) (x1 : Vec Ideal S4096x8192 .bf16) (y : S8x2048x1024.Idx) :
    FUpGRefIdeal.Read.val_main_v8 (F := Ideal) x0 x1 y = entry x0 x1 (y 1).val (1024 * (y 0).val + (y 2).val) := by
  have h0 : (y 0).val < 8 := (y 0).isLt
  have h1 : (y 1).val < 2048 := (y 1).isLt
  have h2 : (y 2).val < 1024 := (y 2).isLt
  rw [entry, upTo, dot_comm, FUpGRefIdeal.Read.val_main_v8_apply, FUpGRefIdeal.Read.val_main_v7_apply, FUpGRefIdeal.Read.val_main_v6_apply, FUpGRefIdeal.Read.val_main_v5_apply, FUpGRefIdeal.Read.val_main_v4_apply]
  exact sum_eq_dot (fun j => at2 x1 j ((1024 * (y 0).val + (y 2).val))) (fun j => at2 x0 j ((y 1).val)) (fun k =>
    congrArg₂ (· * ·) (eq_at2_of x1 (FUpGRefIdeal.Read.lidx_main_v4 (FUpGRefIdeal.Read.idx_main_v5 (FUpGRefIdeal.Read.idx_main_v6 (FUpGRefIdeal.Read.idx_main_v7 y))) k) rfl (show (((y 1).val * 8 + (y 0).val) * 1024 + (y 2).val) % 8192 = (1024 * (y 0).val + (y 2).val) by omega))
      (eq_at2_of x0 (FUpGRefIdeal.Read.ridx_main_v4 (FUpGRefIdeal.Read.idx_main_v5 (FUpGRefIdeal.Read.idx_main_v6 (FUpGRefIdeal.Read.idx_main_v7 y))) k) rfl (show (((y 1).val * 8 + (y 0).val) * 1024 + (y 2).val) / 8192 = (y 1).val by omega)))

/-- The two results are equal entry by entry. -/
theorem algebraic : Cert.algebraic_FUpGIdeal_FUpGRefIdeal :=
  fun m ρ m' ρ' _ hag => by
    refine ⟨fun c => (fun y : S8x2048x1024.Idx => entry (argA m c) (argB m c) (y 1).val (1024 * (y 0).val + (y 2).val)),
      (θ_run FUpGIdeal.defs _ _).mono (fun _ h c => ⟨(h c).1.trans (final2 m c), (h c).2⟩) (FUpGIdeal.Value.run_blocks m ρ),
      (θ_run FUpGRefIdeal.defs _ _).mono (fun _ h c => ?_) (FUpGRefIdeal.Value.run m' ρ')⟩
    exact ⟨(h c).1.trans ((funext fun y => refDot (m' ((c : Thread FUpGRefIdeal.nD FUpGRefIdeal.τ).loc FUpGRefIdeal.main_arg0)) (m' ((c : Thread FUpGRefIdeal.nD FUpGRefIdeal.τ).loc FUpGRefIdeal.main_arg1)) y).trans (by rw [(hag c).1, (hag c).2])),
      (h c).2⟩

/-- The reference runs and leaves its arguments alone; it declares no semaphore. -/
theorem referenceFrame : Cert.quiescent_FUpGRefIdeal :=
  fun m ρ _ => (θ_run FUpGRefIdeal.defs _ _).mono (fun r h => ⟨fun c => (h c).2,
    sem_eq_zero_of_no_sems (by decide) r.2⟩) (FUpGRefIdeal.Value.run m ρ)

end Cert.Products.FUpG

end
-- ==== Proof.Products.BOutT.lean ====
/- The gradient of a mixer's last product to its input, `dy @ w_outᵀ`, the weight as its devices' blocks of rows. -/
module

public import proofs.«01_k».proof.Defs
public import proofs.«01_k».proof.Proof.Gen.BOutTIdeal.Value
public import proofs.«01_k».proof.Proof.Gen.BOutTRefIdeal.Run
public import proofs.«01_k».proof.Proof.Gen.BOutTRefIdeal.Read
public import proofs.«01_k».proof.Proof.Products.Sums

@[expose] public section

set_option maxRecDepth 16384

noncomputable section

namespace Cert.Products.BOutT

open Cert.BOutTIdeal Cert.BOutTIdeal.Gen Idealize.ShloMosaic Idealize.ShloMosaic.TcCoe Idealize.SL.Sem Cert.Entry

/-! ## What one step computes -/

/-- The product of the two blocks, entry by entry. -/
theorem pay1 (x0 : Vec Ideal S512x2048 .bf16) (x1 : Vec Ideal S2048x2048 .bf16) (y : S512x2048.Idx) :
    k0_pay1 (F := Ideal) x0 x1 y = dot (at2 x0 ((y 0).val)) (at2 x1 ((y 1).val)) 2048 := by
  unfold_payloads
  pointwise [shapeCast_self, eq_at2 x0, eq_at2 x1]
  exact sum_fin_eq_dot (at2 x0 ((y 0).val)) (at2 x1 ((y 1).val)) 2048

/-! ## The arguments and their blocks -/

variable (m : (ℓ : Loc nD τ sig) → Buf (Elt Ideal) ℓ) (c : Dev nD)

/-- The arguments as launched, the weight in one piece. -/
abbrev argA : Vec Ideal S4096x2048 .bf16 := m ((c : Thread nD τ).loc main_arg0)
abbrev argB : Vec Ideal S2048x2048 .bf16 := shapeCast (s := S8x256x2048) S2048x2048 (m ((c : Thread nD τ).loc main_arg1)) shapeCasts_S8x256x2048_S2048x2048

/-- The region finds the weight's array as the host laid it out. -/
theorem weight : V m c main_v0 = argB m c := by
  unfold V hostOps0
  rw [StableHlo.after_cons, StableHlo.after_nil, StableHlo.reshape_result]
  rfl

theorem index0 : ∀ t : Fin cfg0.N, win0_0.index t 0 = t.val / 1 ∧ win0_0.index t 1 = t.val % 1 :=
  (by decide +kernel : ∀ t : Fin grid0.N, win0_0.index t 0 = t.val / 1 ∧ win0_0.index t 1 = t.val % 1)
theorem index1 : ∀ t : Fin cfg0.N, win0_1.index t 0 = t.val / 1 % 1 ∧ win0_1.index t 1 = t.val % 1 :=
  (by decide +kernel : ∀ t : Fin grid0.N, win0_1.index t 0 = t.val / 1 % 1 ∧ win0_1.index t 1 = t.val % 1)
theorem index2 : ∀ t : Fin cfg0.N, win0_2.index t 0 = t.val / 1 ∧ win0_2.index t 1 = t.val / 1 % 1 :=
  (by decide +kernel : ∀ t : Fin grid0.N, win0_2.index t 0 = t.val / 1 ∧ win0_2.index t 1 = t.val / 1 % 1)

theorem blk0 (t : Fin cfg0.N) {r k : ℕ} (hr : r < 512) (hk : k < 2048) :
    at2 (iblk m c 0 t : Vec Ideal S512x2048 .bf16) r k = at2 (argA m c) (512 * (t.val / 1) + r) (2048 * (t.val % 1) + k) := by
  refine (at2_of_lt (iblk m c 0 t : Vec Ideal S512x2048 .bf16) hr hk).trans (eq_at2_of (argA m c) _ ?_ ?_)
  · show win0_0.index t 0 * 512 + 1 * r = _
    rw [(index0 t).1]; omega
  · show win0_0.index t 1 * 2048 + 1 * k = _
    rw [(index0 t).2]; omega

theorem blk1 (t : Fin cfg0.N) {r k : ℕ} (hr : r < 2048) (hk : k < 2048) :
    at2 (iblk m c 1 t : Vec Ideal S2048x2048 .bf16) r k = at2 (argB m c) (2048 * (t.val / 1 % 1) + r) (2048 * (t.val % 1) + k) := by
  rw [← weight m c]
  refine (at2_of_lt (iblk m c 1 t : Vec Ideal S2048x2048 .bf16) hr hk).trans (eq_at2_of (V m c main_v0 : Vec Ideal S2048x2048 .bf16) _ ?_ ?_)
  · show win0_1.index t 0 * 2048 + 1 * r = _
    rw [(index1 t).1]; omega
  · show win0_1.index t 1 * 2048 + 1 * k = _
    rw [(index1 t).2]; omega

/-! ## The sums -/

/-- The inner product of the contracted axis, as far as its first `n` entries, for entry `(r, k)` of the product. -/
def upTo (A : Vec Ideal S4096x2048 .bf16) (B : Vec Ideal S2048x2048 .bf16) (n r k : ℕ) : EReal := dot (at2 A (r)) (at2 B (k)) n

/-- What the step at point `t` adds to the terms before it. -/
theorem step (t : Fin cfg0.N) {r k : ℕ} (hr : r < 512) (hk : k < 2048) :
    upTo (argA m c) (argB m c) (2048 * (t.val % 1)) (512 * (t.val / 1) + r) (2048 * (t.val / 1 % 1) + k)
        + dot (at2 (iblk m c 0 t : Vec Ideal S512x2048 .bf16) (r)) (at2 (iblk m c 1 t : Vec Ideal S2048x2048 .bf16) (k)) 2048
      = upTo (argA m c) (argB m c) (2048 * (t.val % 1 + 1)) (512 * (t.val / 1) + r) (2048 * (t.val / 1 % 1) + k) := by
  unfold upTo
  rw [Nat.mul_add_one, ← dot_add]
  exact congrArg _ (dot_congr (fun j hj => blk0 m c t hr hj) (fun j hj => blk1 m c t hk hj))

/-- The result's entry `(r, k)`. -/
def entry (A : Vec Ideal S4096x2048 .bf16) (B : Vec Ideal S2048x2048 .bf16) (r k : ℕ) : EReal := upTo A B 2048 r k

/-! ## What the points leave -/

/-- A point writes its block whole. -/
theorem out2_eq (x0 : Vec Ideal S512x2048 .bf16) (x1 : Vec Ideal S2048x2048 .bf16) : out0_2 (F := Ideal) x0 x1 = k0_pay1 (F := Ideal) x0 x1 := by
  unfold out0_2
  rw [View.canon_unit_zero zero2]
  rw [View.ld_unit_zero (S := S512x2048) zero2, View.ld_unit_zero (S := S2048x2048) zero2]

/-- What a point leaves for the result. -/
theorem written (t : Fin cfg0.N) (y : S512x2048.Idx) : out0_2 (F := Ideal) (iblk m c 0 t) (iblk m c 1 t) y
    = entry (argA m c) (argB m c) (512 * (t.val / 1) + (y 0).val) (2048 * (t.val / 1 % 1) + (y 1).val) := by
  have e0 : (y 0).val < 512 := (y 0).isLt
  have e1 : (y 1).val < 2048 := (y 1).isLt
  have h := step m c t e0 e1
  rw [upTo, show t.val % 1 = 0 from Nat.mod_one _, Nat.mul_zero, dot_zero, zero_add] at h
  rw [out2_eq, pay1]
  exact h

/-! ## The result array -/

/-- The result array after the run. -/
theorem final2 : (dats m 0 c).arrAt 2 cfg0.N = fun y : S4096x2048.Idx => entry (argA m c) (argB m c) (y 0).val (y 1).val := by
  refine (dats m 0 c).arrAt_eq_of_cover 2 _ (fun t hf => ?_) fun (y : S4096x2048.Idx) => ?_
  · have hN : t.val < 8 := t.isLt
    rw [Cert.BOutTIdeal.Value.flushed2]
    funext x
    refine (written m c t _).trans ?_
    rw [View.read_apply]
    refine congrArg₂ (entry (argA m c) (argB m c)) ?_ ?_
    · show 512 * (t.val / 1) + (x 0).val = win0_2.index t 0 * 512 + 1 * (x 0).val
      rw [(index2 t).1]; omega
    · show 2048 * (t.val / 1 % 1) + (x 1).val = win0_2.index t 1 * 2048 + 1 * (x 1).val
      rw [(index2 t).2]; omega
  · have h0 : (y 0).val < 4096 := (y 0).isLt
    have h1 : (y 1).val < 2048 := (y 1).isLt
    obtain ⟨t, ht⟩ : ∃ t : Fin cfg0.N, t.val = 1 * ((y 0).val / 512) + 1 * ((y 1).val / 2048) + 0 :=
      ⟨⟨1 * ((y 0).val / 512) + 1 * ((y 1).val / 2048) + 0, show 1 * ((y 0).val / 512) + 1 * ((y 1).val / 2048) + 0 < 8 by omega⟩, rfl⟩
    refine ⟨t, flush0_2 _, ?_⟩
    show y ∈ ((View.whole main_v1).slice (win0_2.rect t)).set
    rw [View.set_slice_whole, Rect.mem_set_unit]
    intro a
    match a with
    | ⟨0, _⟩ =>
      show win0_2.index t 0 * 512 ≤ (y 0).val ∧ (y 0).val < win0_2.index t 0 * 512 + 512
      rw [(index2 t).1]; omega
    | ⟨1, _⟩ =>
      show win0_2.index t 1 * 2048 ≤ (y 1).val ∧ (y 1).val < win0_2.index t 1 * 2048 + 2048
      rw [(index2 t).2]; omega

/-! ## The reference -/

/-- The reference's product, entry by entry. -/
theorem refDot (x0 : Vec Ideal S4096x2048 .bf16) (x1 : Vec Ideal S8x256x2048 .bf16) (y : S4096x2048.Idx) :
    BOutTRefIdeal.Read.val_main_v5 (F := Ideal) x0 x1 y = upTo x0 (shapeCast (s := S8x256x2048) S2048x2048 x1 shapeCasts_S8x256x2048_S2048x2048) 2048 (y 0).val (y 1).val := by
  rw [BOutTRefIdeal.Read.val_main_v5_apply]
  exact sum_eq_dot (at2 x0 ((y 0).val)) (at2 (shapeCast (s := S8x256x2048) S2048x2048 x1 shapeCasts_S8x256x2048_S2048x2048) ((y 1).val)) (fun k =>
    congrArg₂ (· * ·) (eq_at2 x0 (BOutTRefIdeal.Read.lidx_main_v5 y k)) (eq_at2 (shapeCast (s := S8x256x2048) S2048x2048 x1 shapeCasts_S8x256x2048_S2048x2048) (BOutTRefIdeal.Read.ridx_main_v5 y k)))

/-- The two results are equal entry by entry. -/
theorem algebraic : Cert.algebraic_BOutTIdeal_BOutTRefIdeal :=
  fun m ρ m' ρ' _ hag => by
    refine ⟨fun c => (fun y : S4096x2048.Idx => entry (argA m c) (argB m c) (y 0).val (y 1).val),
      (θ_run BOutTIdeal.defs _ _).mono (fun _ h c => ⟨(h c).1.trans (final2 m c), (h c).2⟩) (BOutTIdeal.Value.run_blocks m ρ),
      (θ_run BOutTRefIdeal.defs _ _).mono (fun _ h c => ?_) (BOutTRefIdeal.Value.run m' ρ')⟩
    exact ⟨(h c).1.trans ((funext fun y => refDot (m' ((c : Thread BOutTRefIdeal.nD BOutTRefIdeal.τ).loc BOutTRefIdeal.main_arg0)) (m' ((c : Thread BOutTRefIdeal.nD BOutTRefIdeal.τ).loc BOutTRefIdeal.main_arg1)) y).trans (by rw [(hag c).1, (hag c).2]; rfl)),
      (h c).2⟩

/-- The reference runs and leaves its arguments alone; it declares no semaphore. -/
theorem referenceFrame : Cert.quiescent_BOutTRefIdeal :=
  fun m ρ _ => (θ_run BOutTRefIdeal.defs _ _).mono (fun r h => ⟨fun c => (h c).2,
    sem_eq_zero_of_no_sems (by decide) r.2⟩) (BOutTRefIdeal.Value.run m ρ)

end Cert.Products.BOutT

end
-- ==== Proof.Products.BOutG.lean ====
/- The gradient of a mixer's last product to its weight, `qᵀ @ dy`. -/
module

public import proofs.«01_k».proof.Defs
public import proofs.«01_k».proof.Proof.Gen.BOutGIdeal.Value
public import proofs.«01_k».proof.Proof.Gen.BOutGRefIdeal.Run
public import proofs.«01_k».proof.Proof.Gen.BOutGRefIdeal.Read
public import proofs.«01_k».proof.Proof.Products.Sums

@[expose] public section

set_option maxRecDepth 16384

noncomputable section

namespace Cert.Products.BOutG

open Cert.BOutGIdeal Cert.BOutGIdeal.Gen Idealize.ShloMosaic Idealize.ShloMosaic.TcCoe Idealize.SL.Sem Cert.Entry

/-! ## What one step computes -/

/-- The first step along the contracted axis, entry by entry. -/
theorem pay1 (x0 : Vec Ideal S2048x1024 .bf16) (x1 : Vec Ideal S2048x1024 .bf16) (y : S1024x1024.Idx) :
    k0_pay1 (F := Ideal) x0 x1 y = dot (fun j => at2 x0 j ((y 0).val)) (fun j => at2 x1 j ((y 1).val)) 2048 := by
  unfold_payloads
  pointwise [shapeCast_self, eq_at2 x0, eq_at2 x1]
  exact sum_fin_eq_dot (fun j => at2 x0 j ((y 0).val)) (fun j => at2 x1 j ((y 1).val)) 2048

/-- The last step, written to the result. -/
theorem payLast (s : Vec Ideal S1024x1024 .f32) (x0 : Vec Ideal S2048x1024 .bf16) (x1 : Vec Ideal S2048x1024 .bf16) (y : S1024x1024.Idx) :
    k0_pay2 (F := Ideal) s x0 x1 y = s y + dot (fun j => at2 x0 j ((y 0).val)) (fun j => at2 x1 j ((y 1).val)) 2048 := by
  unfold_payloads
  pointwise [shapeCast_self, eq_at2 x0, eq_at2 x1]
  exact congrArg (s y + ·) (sum_fin_eq_dot (fun j => at2 x0 j ((y 0).val)) (fun j => at2 x1 j ((y 1).val)) 2048)

/-! ## The arguments and their blocks -/

variable (m : (ℓ : Loc nD τ sig) → Buf (Elt Ideal) ℓ) (c : Dev nD)

/-- The arguments as launched. -/
abbrev argA : Vec Ideal S4096x2048 .bf16 := m ((c : Thread nD τ).loc main_arg0)
abbrev argB : Vec Ideal S4096x2048 .bf16 := m ((c : Thread nD τ).loc main_arg1)

theorem index0 : ∀ t : Fin cfg0.N, win0_0.index t 0 = t.val % 2 ∧ win0_0.index t 1 = t.val / 4 :=
  (by decide +kernel : ∀ t : Fin grid0.N, win0_0.index t 0 = t.val % 2 ∧ win0_0.index t 1 = t.val / 4)
theorem index1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)
theorem index2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

theorem blk0 (t : Fin cfg0.N) {r k : ℕ} (hr : r < 2048) (hk : k < 1024) :
    at2 (iblk m c 0 t : Vec Ideal S2048x1024 .bf16) r k = at2 (argA m c) (2048 * (t.val % 2) + r) (1024 * (t.val / 4) + k) := by
  refine (at2_of_lt (iblk m c 0 t : Vec Ideal S2048x1024 .bf16) hr hk).trans (eq_at2_of (argA m c) _ ?_ ?_)
  · show win0_0.index t 0 * 2048 + 1 * r = _
    rw [(index0 t).1]; omega
  · show win0_0.index t 1 * 1024 + 1 * k = _
    rw [(index0 t).2]; omega

theorem blk1 (t : Fin cfg0.N) {r k : ℕ} (hr : r < 2048) (hk : k < 1024) :
    at2 (iblk m c 1 t : Vec Ideal S2048x1024 .bf16) r k = at2 (argB m c) (2048 * (t.val % 2) + r) (1024 * (t.val / 2 % 2) + k) := by
  refine (at2_of_lt (iblk m c 1 t : Vec Ideal S2048x1024 .bf16) hr hk).trans (eq_at2_of (argB m c) _ ?_ ?_)
  · show win0_1.index t 0 * 2048 + 1 * r = _
    rw [(index1 t).1]; omega
  · show win0_1.index t 1 * 1024 + 1 * k = _
    rw [(index1 t).2]; omega

/-! ## The sums -/

/-- The inner product of the contracted axis, as far as its first `n` entries, for entry `(r, k)` of the product. -/
def upTo (A : Vec Ideal S4096x2048 .bf16) (B : Vec Ideal S4096x2048 .bf16) (n r k : ℕ) : EReal := dot (fun j => at2 A j (r)) (fun j => at2 B j (k)) n

/-- What the step at point `t` adds to the terms before it. -/
theorem step (t : Fin cfg0.N) {r k : ℕ} (hr : r < 1024) (hk : k < 1024) :
    upTo (argA m c) (argB m c) (2048 * (t.val % 2)) (1024 * (t.val / 4) + r) (1024 * (t.val / 2 % 2) + k)
        + dot (fun j => at2 (iblk m c 0 t : Vec Ideal S2048x1024 .bf16) j (r)) (fun j => at2 (iblk m c 1 t : Vec Ideal S2048x1024 .bf16) j (k)) 2048
      = upTo (argA m c) (argB m c) (2048 * (t.val % 2 + 1)) (1024 * (t.val / 4) + r) (1024 * (t.val / 2 % 2) + k) := by
  unfold upTo
  rw [Nat.mul_add_one, ← dot_add]
  exact congrArg _ (dot_congr (fun j hj => blk0 m c t hj hr) (fun j hj => blk1 m c t hj hk))

/-- The result's entry `(r, k)`. -/
def entry (A : Vec Ideal S4096x2048 .bf16) (B : Vec Ideal S4096x2048 .bf16) (r k : ℕ) : EReal := upTo A B 4096 r k

/-! ## What the points leave -/

/-- The first step fills the scratch, -/
theorem first (t : Fin cfg0.N) (h0 : t.val % 2 = 0) :
    (outsAt0 m c t.val t.isLt).2 = k0_pay1 (F := Ideal) (iblk m c 0 t) (iblk m c 1 t) := by
  rw [outsAt0_A m c t h0 (by omega)]
  dsimp only
  unfold sout0_A_0 kernelRun0_A
  refine (View.read_writes_full _ _ _ _ _).trans ?_
  rw [readAt_whole, readAt_whole]

/-- and the last one writes the result. -/
theorem last (t : Fin cfg0.N) (h2 : t.val % 2 = 1) :
    (outsAt0 m c t.val t.isLt).1 = k0_pay2 (F := Ideal) (outsAt0 m c (t.val - 1) (Nat.lt_of_le_of_lt (Nat.sub_le _ _) t.isLt)).2
      (iblk m c 0 t) (iblk m c 1 t) := by
  rw [outsAt0_B m c t (by omega) h2]
  dsimp only
  unfold out0_B_2 kernelRun0_B
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 2 = 1) (y : S1024x1024.Idx), (outsAt0 m c n h).2 y
    = upTo (argA m c) (argB m c) (2048 * (n % 2 + 1)) (1024 * (n / 4) + (y 0).val) (1024 * (n / 2 % 2) + (y 1).val)
  | n, h, h3, y => by
    have e0 : (y 0).val < 1024 := (y 0).isLt
    have e1 : (y 1).val < 1024 := (y 1).isLt
    rw [← step m c ⟨n, h⟩ e0 e1]
    have h0 : n % 2 = 0 := by omega
    rw [first m c ⟨n, h⟩ h0, pay1]
    dsimp only
    rw [h0, upTo, Nat.mul_zero, dot_zero, zero_add]

/-- What the last point along the contracted axis leaves for the result. -/
theorem written (t : Fin cfg0.N) (h3 : t.val % 2 = 1) (y : S1024x1024.Idx) : (outsAt0 m c t.val t.isLt).1 y
    = entry (argA m c) (argB m c) (1024 * (t.val / 4) + (y 0).val) (1024 * (t.val / 2 % 2) + (y 1).val) := by
  have e0 : (y 0).val < 1024 := (y 0).isLt
  have e1 : (y 1).val < 1024 := (y 1).isLt
  have h := step m c t e0 e1
  rw [h3] at h
  rw [last m c t h3, payLast, scratch m c (t.val - 1) _ (by omega) y, show (t.val - 1) % 2 + 1 = 1 by omega,
    show (t.val - 1) / 4 = t.val / 4 by omega, show (t.val - 1) / 2 = t.val / 2 by omega]
  exact h

/-! ## The result array -/

/-- The result array after the run. -/
theorem final2 : (dats m 0 c).arrAt 2 cfg0.N = fun y : S2048x2048.Idx => entry (argA m c) (argB m c) (y 0).val (y 1).val := by
  refine (dats m 0 c).arrAt_eq_of_cover 2 _ (fun t hf => ?_) fun (y : S2048x2048.Idx) => ?_
  · have hN : t.val < 8 := t.isLt
    rw [Cert.BOutGIdeal.Value.flushed2]
    funext x
    refine (written m c t ((flush0_2 t).mp hf) _).trans ?_
    rw [View.read_apply]
    refine congrArg₂ (entry (argA m c) (argB m c)) ?_ ?_
    · show 1024 * (t.val / 4) + (x 0).val = win0_2.index t 0 * 1024 + 1 * (x 0).val
      rw [(index2 t).1]; omega
    · show 1024 * (t.val / 2 % 2) + (x 1).val = win0_2.index t 1 * 1024 + 1 * (x 1).val
      rw [(index2 t).2]; omega
  · have h0 : (y 0).val < 2048 := (y 0).isLt
    have h1 : (y 1).val < 2048 := (y 1).isLt
    obtain ⟨t, ht⟩ : ∃ t : Fin cfg0.N, t.val = 4 * ((y 0).val / 1024) + 2 * ((y 1).val / 1024) + 1 :=
      ⟨⟨4 * ((y 0).val / 1024) + 2 * ((y 1).val / 1024) + 1, show 4 * ((y 0).val / 1024) + 2 * ((y 1).val / 1024) + 1 < 8 by omega⟩, rfl⟩
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0).val ∧ (y 0).val < win0_2.index t 0 * 1024 + 1024
      rw [(index2 t).1]; omega
    | ⟨1, _⟩ =>
      show win0_2.index t 1 * 1024 ≤ (y 1).val ∧ (y 1).val < win0_2.index t 1 * 1024 + 1024
      rw [(index2 t).2]; omega

/-! ## The reference -/

/-- The reference's result, entry by entry: it takes the factors in the other order. -/
theorem refDot (x0 : Vec Ideal S4096x2048 .bf16) (x1 : Vec Ideal S4096x2048 .bf16) (y : S2048x2048.Idx) :
    BOutGRefIdeal.Read.val_main_v6 (F := Ideal) x0 x1 y = entry x0 x1 (y 0).val (y 1).val := by
  rw [entry, upTo, dot_comm, BOutGRefIdeal.Read.val_main_v6_apply, BOutGRefIdeal.Read.val_main_v5_apply, BOutGRefIdeal.Read.val_main_v4_apply]
  exact sum_eq_dot (fun j => at2 x1 j ((y 1).val)) (fun j => at2 x0 j ((y 0).val)) (fun k =>
    congrArg₂ (· * ·) (eq_at2 x1 (BOutGRefIdeal.Read.lidx_main_v4 (BOutGRefIdeal.Read.idx_main_v5 y) k)) (eq_at2 x0 (BOutGRefIdeal.Read.ridx_main_v4 (BOutGRefIdeal.Read.idx_main_v5 y) k)))

/-- The two results are equal entry by entry. -/
theorem algebraic : Cert.algebraic_BOutGIdeal_BOutGRefIdeal :=
  fun m ρ m' ρ' _ hag => by
    refine ⟨fun c => (fun y : S2048x2048.Idx => entry (argA m c) (argB m c) (y 0).val (y 1).val),
      (θ_run BOutGIdeal.defs _ _).mono (fun _ h c => ⟨(h c).1.trans (final2 m c), (h c).2⟩) (BOutGIdeal.Value.run_blocks m ρ),
      (θ_run BOutGRefIdeal.defs _ _).mono (fun _ h c => ?_) (BOutGRefIdeal.Value.run m' ρ')⟩
    exact ⟨(h c).1.trans ((funext fun y => refDot (m' ((c : Thread BOutGRefIdeal.nD BOutGRefIdeal.τ).loc BOutGRefIdeal.main_arg0)) (m' ((c : Thread BOutGRefIdeal.nD BOutGRefIdeal.τ).loc BOutGRefIdeal.main_arg1)) y).trans (by rw [(hag c).1, (hag c).2])),
      (h c).2⟩

/-- The reference runs and leaves its arguments alone; it declares no semaphore. -/
theorem referenceFrame : Cert.quiescent_BOutGRefIdeal :=
  fun m ρ _ => (θ_run BOutGRefIdeal.defs _ _).mono (fun r h => ⟨fun c => (h c).2,
    sem_eq_zero_of_no_sems (by decide) r.2⟩) (BOutGRefIdeal.Value.run m ρ)

end Cert.Products.BOutG

end
-- ==== Proof.Products.BInT.lean ====
/- The gradient of the short-convolution mixer's first product to its input, `dz @ w_inᵀ`. -/
module

public import proofs.«01_k».proof.Defs
public import proofs.«01_k».proof.Proof.Gen.BInTIdeal.Value
public import proofs.«01_k».proof.Proof.Gen.BInTRefIdeal.Run
public import proofs.«01_k».proof.Proof.Gen.BInTRefIdeal.Read
public import proofs.«01_k».proof.Proof.Products.Sums

@[expose] public section

set_option maxRecDepth 16384

noncomputable section

namespace Cert.Products.BInT

open Cert.BInTIdeal Cert.BInTIdeal.Gen Idealize.ShloMosaic Idealize.ShloMosaic.TcCoe Idealize.SL.Sem Cert.Entry

/-! ## What one step computes -/

/-- The first step along the contracted axis, entry by entry. -/
theorem pay1 (x0 : Vec Ideal S1024x2048 .bf16) (x1 : Vec Ideal S1024x2048 .bf16) (y : S1024x1024.Idx) :
    k0_pay1 (F := Ideal) x0 x1 y = dot (at2 x0 ((y 0).val)) (at2 x1 ((y 1).val)) 2048 := by
  unfold_payloads
  pointwise [shapeCast_self, eq_at2 x0, eq_at2 x1]
  exact sum_fin_eq_dot (at2 x0 ((y 0).val)) (at2 x1 ((y 1).val)) 2048

/-- A middle step, over what the scratch holds. -/
theorem pay2 (s : Vec Ideal S1024x1024 .f32) (x0 : Vec Ideal S1024x2048 .bf16) (x1 : Vec Ideal S1024x2048 .bf16) (y : S1024x1024.Idx) :
    k0_pay2 (F := Ideal) s x0 x1 y = s y + dot (at2 x0 ((y 0).val)) (at2 x1 ((y 1).val)) 2048 := by
  unfold_payloads
  pointwise [shapeCast_self, eq_at2 x0, eq_at2 x1]
  exact congrArg (s y + ·) (sum_fin_eq_dot (at2 x0 ((y 0).val)) (at2 x1 ((y 1).val)) 2048)

/-- The last step, written to the result. -/
theorem payLast (s : Vec Ideal S1024x1024 .f32) (x0 : Vec Ideal S1024x2048 .bf16) (x1 : Vec Ideal S1024x2048 .bf16) (y : S1024x1024.Idx) :
    k0_pay3 (F := Ideal) s x0 x1 y = s y + dot (at2 x0 ((y 0).val)) (at2 x1 ((y 1).val)) 2048 := by
  unfold_payloads
  pointwise [shapeCast_self, eq_at2 x0, eq_at2 x1]
  exact congrArg (s y + ·) (sum_fin_eq_dot (at2 x0 ((y 0).val)) (at2 x1 ((y 1).val)) 2048)

/-! ## The arguments and their blocks -/

variable (m : (ℓ : Loc nD τ sig) → Buf (Elt Ideal) ℓ) (c : Dev nD)

/-- The arguments as launched. -/
abbrev argA : Vec Ideal S4096x6144 .bf16 := m ((c : Thread nD τ).loc main_arg0)
abbrev argB : Vec Ideal S2048x6144 .bf16 := m ((c : Thread nD τ).loc main_arg1)

theorem index0 : ∀ t : Fin cfg0.N, win0_0.index t 0 = t.val / 6 ∧ win0_0.index t 1 = t.val % 3 :=
  (by decide +kernel : ∀ t : Fin grid0.N, win0_0.index t 0 = t.val / 6 ∧ win0_0.index t 1 = t.val % 3)
theorem index1 : ∀ t : Fin cfg0.N, win0_1.index t 0 = t.val / 3 % 2 ∧ win0_1.index t 1 = t.val % 3 :=
  (by decide +kernel : ∀ t : Fin grid0.N, win0_1.index t 0 = t.val / 3 % 2 ∧ win0_1.index t 1 = t.val % 3)
theorem index2 : ∀ t : Fin cfg0.N, win0_2.index t 0 = t.val / 6 ∧ win0_2.index t 1 = t.val / 3 % 2 :=
  (by decide +kernel : ∀ t : Fin grid0.N, win0_2.index t 0 = t.val / 6 ∧ win0_2.index t 1 = t.val / 3 % 2)

theorem blk0 (t : Fin cfg0.N) {r k : ℕ} (hr : r < 1024) (hk : k < 2048) :
    at2 (iblk m c 0 t : Vec Ideal S1024x2048 .bf16) r k = at2 (argA m c) (1024 * (t.val / 6) + r) (2048 * (t.val % 3) + k) := by
  refine (at2_of_lt (iblk m c 0 t : Vec Ideal S1024x2048 .bf16) hr hk).trans (eq_at2_of (argA m c) _ ?_ ?_)
  · show win0_0.index t 0 * 1024 + 1 * r = _
    rw [(index0 t).1]; omega
  · show win0_0.index t 1 * 2048 + 1 * k = _
    rw [(index0 t).2]; omega

theorem blk1 (t : Fin cfg0.N) {r k : ℕ} (hr : r < 1024) (hk : k < 2048) :
    at2 (iblk m c 1 t : Vec Ideal S1024x2048 .bf16) r k = at2 (argB m c) (1024 * (t.val / 3 % 2) + r) (2048 * (t.val % 3) + k) := by
  refine (at2_of_lt (iblk m c 1 t : Vec Ideal S1024x2048 .bf16) hr hk).trans (eq_at2_of (argB m c) _ ?_ ?_)
  · show win0_1.index t 0 * 1024 + 1 * r = _
    rw [(index1 t).1]; omega
  · show win0_1.index t 1 * 2048 + 1 * k = _
    rw [(index1 t).2]; omega

/-! ## The sums -/

/-- The inner product of the contracted axis, as far as its first `n` entries, for entry `(r, k)` of the product. -/
def upTo (A : Vec Ideal S4096x6144 .bf16) (B : Vec Ideal S2048x6144 .bf16) (n r k : ℕ) : EReal := dot (at2 A (r)) (at2 B (k)) n

/-- What the step at point `t` adds to the terms before it. -/
theorem step (t : Fin cfg0.N) {r k : ℕ} (hr : r < 1024) (hk : k < 1024) :
    upTo (argA m c) (argB m c) (2048 * (t.val % 3)) (1024 * (t.val / 6) + r) (1024 * (t.val / 3 % 2) + k)
        + dot (at2 (iblk m c 0 t : Vec Ideal S1024x2048 .bf16) (r)) (at2 (iblk m c 1 t : Vec Ideal S1024x2048 .bf16) (k)) 2048
      = upTo (argA m c) (argB m c) (2048 * (t.val % 3 + 1)) (1024 * (t.val / 6) + r) (1024 * (t.val / 3 % 2) + k) := by
  unfold upTo
  rw [Nat.mul_add_one, ← dot_add]
  exact congrArg _ (dot_congr (fun j hj => blk0 m c t hr hj) (fun j hj => blk1 m c t hk hj))

/-- The result's entry `(r, k)`. -/
def entry (A : Vec Ideal S4096x6144 .bf16) (B : Vec Ideal S2048x6144 .bf16) (r k : ℕ) : EReal := upTo A B 6144 r k

/-! ## What the points leave -/

/-- The first step fills the scratch, -/
theorem first (t : Fin cfg0.N) (h0 : t.val % 3 = 0) :
    (outsAt0 m c t.val t.isLt).2 = k0_pay1 (F := Ideal) (iblk m c 0 t) (iblk m c 1 t) := by
  rw [outsAt0_A m c t h0 (by omega) (by omega)]
  dsimp only
  unfold sout0_A_0 kernelRun0_A
  refine (View.read_writes_full _ _ _ _ _).trans ?_
  rw [readAt_whole, readAt_whole]

/-- the middle steps add to it, -/
theorem next (t : Fin cfg0.N) (h0 : ¬t.val % 3 = 0) (h2 : ¬t.val % 3 = 2) :
    (outsAt0 m c t.val t.isLt).2 = k0_pay2 (F := Ideal) (outsAt0 m c (t.val - 1) (Nat.lt_of_le_of_lt (Nat.sub_le _ _) t.isLt)).2
      (iblk m c 0 t) (iblk m c 1 t) := by
  rw [outsAt0_B m c t h0 (by omega) h2]
  dsimp only
  unfold sout0_B_0 kernelRun0_B
  refine (View.read_writes_full _ _ _ _ _).trans ?_
  rw [readAt_whole, readAt_whole, readAt_whole]

/-- and the last one writes the result. -/
theorem last (t : Fin cfg0.N) (h2 : t.val % 3 = 2) :
    (outsAt0 m c t.val t.isLt).1 = k0_pay3 (F := Ideal) (outsAt0 m c (t.val - 1) (Nat.lt_of_le_of_lt (Nat.sub_le _ _) t.isLt)).2
      (iblk m c 0 t) (iblk m c 1 t) := by
  rw [outsAt0_C m c t (by omega) (by omega) h2]
  dsimp only
  unfold out0_C_2 kernelRun0_C
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 3 = 2) (y : S1024x1024.Idx), (outsAt0 m c n h).2 y
    = upTo (argA m c) (argB m c) (2048 * (n % 3 + 1)) (1024 * (n / 6) + (y 0).val) (1024 * (n / 3 % 2) + (y 1).val)
  | n, h, h3, y => by
    have e0 : (y 0).val < 1024 := (y 0).isLt
    have e1 : (y 1).val < 1024 := (y 1).isLt
    rw [← step m c ⟨n, h⟩ e0 e1]
    by_cases h0 : n % 3 = 0
    · rw [first m c ⟨n, h⟩ h0, pay1]
      dsimp only
      rw [h0, upTo, Nat.mul_zero, dot_zero, zero_add]
    · rw [next m c ⟨n, h⟩ h0 h3, pay2]
      dsimp only
      rw [scratch (n - 1) _ (by omega) y, show (n - 1) % 3 + 1 = n % 3 by omega, show (n - 1) / 6 = n / 6 by omega,
        show (n - 1) / 3 = n / 3 by omega]

/-- What the last point along the contracted axis leaves for the result. -/
theorem written (t : Fin cfg0.N) (h3 : t.val % 3 = 2) (y : S1024x1024.Idx) : (outsAt0 m c t.val t.isLt).1 y
    = entry (argA m c) (argB m c) (1024 * (t.val / 6) + (y 0).val) (1024 * (t.val / 3 % 2) + (y 1).val) := by
  have e0 : (y 0).val < 1024 := (y 0).isLt
  have e1 : (y 1).val < 1024 := (y 1).isLt
  have h := step m c t e0 e1
  rw [h3] at h
  rw [last m c t h3, payLast, scratch m c (t.val - 1) _ (by omega) y, show (t.val - 1) % 3 + 1 = 2 by omega,
    show (t.val - 1) / 6 = t.val / 6 by omega, show (t.val - 1) / 3 = t.val / 3 by omega]
  exact h

/-! ## The result array -/

/-- The result array after the run. -/
theorem final2 : (dats m 0 c).arrAt 2 cfg0.N = fun y : S4096x2048.Idx => entry (argA m c) (argB m c) (y 0).val (y 1).val := by
  refine (dats m 0 c).arrAt_eq_of_cover 2 _ (fun t hf => ?_) fun (y : S4096x2048.Idx) => ?_
  · have hN : t.val < 24 := t.isLt
    rw [Cert.BInTIdeal.Value.flushed2]
    funext x
    refine (written m c t ((flush0_2 t).mp hf) _).trans ?_
    rw [View.read_apply]
    refine congrArg₂ (entry (argA m c) (argB m c)) ?_ ?_
    · show 1024 * (t.val / 6) + (x 0).val = win0_2.index t 0 * 1024 + 1 * (x 0).val
      rw [(index2 t).1]; omega
    · show 1024 * (t.val / 3 % 2) + (x 1).val = win0_2.index t 1 * 1024 + 1 * (x 1).val
      rw [(index2 t).2]; omega
  · have h0 : (y 0).val < 4096 := (y 0).isLt
    have h1 : (y 1).val < 2048 := (y 1).isLt
    obtain ⟨t, ht⟩ : ∃ t : Fin cfg0.N, t.val = 6 * ((y 0).val / 1024) + 3 * ((y 1).val / 1024) + 2 :=
      ⟨⟨6 * ((y 0).val / 1024) + 3 * ((y 1).val / 1024) + 2, show 6 * ((y 0).val / 1024) + 3 * ((y 1).val / 1024) + 2 < 24 by omega⟩, rfl⟩
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0).val ∧ (y 0).val < win0_2.index t 0 * 1024 + 1024
      rw [(index2 t).1]; omega
    | ⟨1, _⟩ =>
      show win0_2.index t 1 * 1024 ≤ (y 1).val ∧ (y 1).val < win0_2.index t 1 * 1024 + 1024
      rw [(index2 t).2]; omega

/-! ## The reference -/

/-- The reference's product, entry by entry. -/
theorem refDot (x0 : Vec Ideal S4096x6144 .bf16) (x1 : Vec Ideal S2048x6144 .bf16) (y : S4096x2048.Idx) :
    BInTRefIdeal.Read.val_main_v4 (F := Ideal) x0 x1 y = upTo x0 x1 6144 (y 0).val (y 1).val := by
  rw [BInTRefIdeal.Read.val_main_v4_apply]
  exact sum_eq_dot (at2 x0 ((y 0).val)) (at2 x1 ((y 1).val)) (fun k =>
    congrArg₂ (· * ·) (eq_at2 x0 (BInTRefIdeal.Read.lidx_main_v4 y k)) (eq_at2 x1 (BInTRefIdeal.Read.ridx_main_v4 y k)))

/-- The two results are equal entry by entry. -/
theorem algebraic : Cert.algebraic_BInTIdeal_BInTRefIdeal :=
  fun m ρ m' ρ' _ hag => by
    refine ⟨fun c => (fun y : S4096x2048.Idx => entry (argA m c) (argB m c) (y 0).val (y 1).val),
      (θ_run BInTIdeal.defs _ _).mono (fun _ h c => ⟨(h c).1.trans (final2 m c), (h c).2⟩) (BInTIdeal.Value.run_blocks m ρ),
      (θ_run BInTRefIdeal.defs _ _).mono (fun _ h c => ?_) (BInTRefIdeal.Value.run m' ρ')⟩
    exact ⟨(h c).1.trans ((funext fun y => refDot (m' ((c : Thread BInTRefIdeal.nD BInTRefIdeal.τ).loc BInTRefIdeal.main_arg0)) (m' ((c : Thread BInTRefIdeal.nD BInTRefIdeal.τ).loc BInTRefIdeal.main_arg1)) y).trans (by rw [(hag c).1, (hag c).2]; rfl)),
      (h c).2⟩

/-- The reference runs and leaves its arguments alone; it declares no semaphore. -/
theorem referenceFrame : Cert.quiescent_BInTRefIdeal :=
  fun m ρ _ => (θ_run BInTRefIdeal.defs _ _).mono (fun r h => ⟨fun c => (h c).2,
    sem_eq_zero_of_no_sems (by decide) r.2⟩) (BInTRefIdeal.Value.run m ρ)

end Cert.Products.BInT

end
-- ==== Proof.Products.BInG.lean ====
/- The gradient of the short-convolution mixer's first product to its weight, `hᵀ @ dz`, by the devices' blocks of columns. -/
module

public import proofs.«01_k».proof.Defs
public import proofs.«01_k».proof.Proof.Gen.BInGIdeal.Value
public import proofs.«01_k».proof.Proof.Gen.BInGRefIdeal.Run
public import proofs.«01_k».proof.Proof.Gen.BInGRefIdeal.Read
public import proofs.«01_k».proof.Proof.Products.Sums

@[expose] public section

set_option maxRecDepth 16384

noncomputable section

namespace Cert.Products.BInG

open Cert.BInGIdeal Cert.BInGIdeal.Gen Idealize.ShloMosaic Idealize.ShloMosaic.TcCoe Idealize.SL.Sem Cert.Entry

/-! ## What one step computes -/

/-- The first step along the contracted axis, entry by entry. -/
theorem pay1 (x0 : Vec Ideal S2048x1024 .bf16) (x1 : Vec Ideal S2048x768 .bf16) (y : S1024x768.Idx) :
    k0_pay1 (F := Ideal) x0 x1 y = dot (fun j => at2 x0 j ((y 0).val)) (fun j => at2 x1 j ((y 1).val)) 2048 := by
  unfold_payloads
  pointwise [shapeCast_self, eq_at2 x0, eq_at2 x1]
  exact sum_fin_eq_dot (fun j => at2 x0 j ((y 0).val)) (fun j => at2 x1 j ((y 1).val)) 2048

/-- The last step, written to the result. -/
theorem payLast (s : Vec Ideal S1024x768 .f32) (x0 : Vec Ideal S2048x1024 .bf16) (x1 : Vec Ideal S2048x768 .bf16) (y : S1x1024x768.Idx) :
    k0_pay2 (F := Ideal) s x0 x1 y = s (ix2 (y 1) (y 2)) + dot (fun j => at2 x0 j ((y 1).val)) (fun j => at2 x1 j ((y 2).val)) 2048 := by
  unfold_payloads
  pointwise [shapeCast_self, eq_at2 x0, eq_at2 x1]
  exact congrArg (s (ix2 (y 1) (y 2)) + ·) (sum_fin_eq_dot (fun j => at2 x0 j ((y 1).val)) (fun j => at2 x1 j ((y 2).val)) 2048)

/-! ## The arguments and their blocks -/

variable (m : (ℓ : Loc nD τ sig) → Buf (Elt Ideal) ℓ) (c : Dev nD)

/-- The arguments as launched. -/
abbrev argA : Vec Ideal S4096x2048 .bf16 := m ((c : Thread nD τ).loc main_arg0)
abbrev argB : Vec Ideal S4096x6144 .bf16 := m ((c : Thread nD τ).loc main_arg1)

theorem index0 : ∀ t : Fin cfg0.N, win0_0.index t 0 = t.val % 2 ∧ win0_0.index t 1 = t.val / 16 :=
  (by decide +kernel : ∀ t : Fin grid0.N, win0_0.index t 0 = t.val % 2 ∧ win0_0.index t 1 = t.val / 16)
theorem index1 : ∀ t : Fin cfg0.N, win0_1.index t 0 = t.val % 2 ∧ win0_1.index t 1 = t.val / 2 % 8 :=
  (by decide +kernel : ∀ t : Fin grid0.N, win0_1.index t 0 = t.val % 2 ∧ win0_1.index t 1 = t.val / 2 % 8)
theorem index2 : ∀ t : Fin cfg0.N, win0_2.index t 0 = t.val / 2 % 8 ∧ win0_2.index t 1 = t.val / 16 ∧ win0_2.index t 2 = 0 :=
  (by decide +kernel : ∀ t : Fin grid0.N, win0_2.index t 0 = t.val / 2 % 8 ∧ win0_2.index t 1 = t.val / 16 ∧ win0_2.index t 2 = 0)

theorem blk0 (t : Fin cfg0.N) {r k : ℕ} (hr : r < 2048) (hk : k < 1024) :
    at2 (iblk m c 0 t : Vec Ideal S2048x1024 .bf16) r k = at2 (argA m c) (2048 * (t.val % 2) + r) (1024 * (t.val / 16) + k) := by
  refine (at2_of_lt (iblk m c 0 t : Vec Ideal S2048x1024 .bf16) hr hk).trans (eq_at2_of (argA m c) _ ?_ ?_)
  · show win0_0.index t 0 * 2048 + 1 * r = _
    rw [(index0 t).1]; omega
  · show win0_0.index t 1 * 1024 + 1 * k = _
    rw [(index0 t).2]; omega

theorem blk1 (t : Fin cfg0.N) {r k : ℕ} (hr : r < 2048) (hk : k < 768) :
    at2 (iblk m c 1 t : Vec Ideal S2048x768 .bf16) r k = at2 (argB m c) (2048 * (t.val % 2) + r) (768 * (t.val / 2 % 8) + k) := by
  refine (at2_of_lt (iblk m c 1 t : Vec Ideal S2048x768 .bf16) hr hk).trans (eq_at2_of (argB m c) _ ?_ ?_)
  · show win0_1.index t 0 * 2048 + 1 * r = _
    rw [(index1 t).1]; omega
  · show win0_1.index t 1 * 768 + 1 * k = _
    rw [(index1 t).2]; omega

/-! ## The sums -/

/-- The inner product of the contracted axis, as far as its first `n` entries, for entry `(r, k)` of the product. -/
def upTo (A : Vec Ideal S4096x2048 .bf16) (B : Vec Ideal S4096x6144 .bf16) (n r k : ℕ) : EReal := dot (fun j => at2 A j (r)) (fun j => at2 B j (k)) n

/-- What the step at point `t` adds to the terms before it. -/
theorem step (t : Fin cfg0.N) {r k : ℕ} (hr : r < 1024) (hk : k < 768) :
    upTo (argA m c) (argB m c) (2048 * (t.val % 2)) (1024 * (t.val / 16) + r) (768 * (t.val / 2 % 8) + k)
        + dot (fun j => at2 (iblk m c 0 t : Vec Ideal S2048x1024 .bf16) j (r)) (fun j => at2 (iblk m c 1 t : Vec Ideal S2048x768 .bf16) j (k)) 2048
      = upTo (argA m c) (argB m c) (2048 * (t.val % 2 + 1)) (1024 * (t.val / 16) + r) (768 * (t.val / 2 % 8) + k) := by
  unfold upTo
  rw [Nat.mul_add_one, ← dot_add]
  exact congrArg _ (dot_congr (fun j hj => blk0 m c t hj hr) (fun j hj => blk1 m c t hj hk))

/-- The result's entry `(r, k)`. -/
def entry (A : Vec Ideal S4096x2048 .bf16) (B : Vec Ideal S4096x6144 .bf16) (r k : ℕ) : EReal := upTo A B 4096 r k

/-! ## What the points leave -/

/-- The first step fills the scratch, -/
theorem first (t : Fin cfg0.N) (h0 : t.val % 2 = 0) :
    (outsAt0 m c t.val t.isLt).2 = k0_pay1 (F := Ideal) (iblk m c 0 t) (iblk m c 1 t) := by
  rw [outsAt0_A m c t h0 (by omega)]
  dsimp only
  unfold sout0_A_0 kernelRun0_A
  refine (View.read_writes_full _ _ _ _ _).trans ?_
  rw [readAt_whole, readAt_whole]

/-- and the last one writes the result. -/
theorem last (t : Fin cfg0.N) (h2 : t.val % 2 = 1) :
    (outsAt0 m c t.val t.isLt).1 = k0_pay2 (F := Ideal) (outsAt0 m c (t.val - 1) (Nat.lt_of_le_of_lt (Nat.sub_le _ _) t.isLt)).2
      (iblk m c 0 t) (iblk m c 1 t) := by
  rw [outsAt0_B m c t (by omega) h2]
  dsimp only
  unfold out0_B_2 kernelRun0_B
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 2 = 1) (y : S1024x768.Idx), (outsAt0 m c n h).2 y
    = upTo (argA m c) (argB m c) (2048 * (n % 2 + 1)) (1024 * (n / 16) + (y 0).val) (768 * (n / 2 % 8) + (y 1).val)
  | n, h, h3, y => by
    have e0 : (y 0).val < 1024 := (y 0).isLt
    have e1 : (y 1).val < 768 := (y 1).isLt
    rw [← step m c ⟨n, h⟩ e0 e1]
    have h0 : n % 2 = 0 := by omega
    rw [first m c ⟨n, h⟩ h0, pay1]
    dsimp only
    rw [h0, upTo, Nat.mul_zero, dot_zero, zero_add]

/-- What the last point along the contracted axis leaves for the result. -/
theorem written (t : Fin cfg0.N) (h3 : t.val % 2 = 1) (y : S1x1024x768.Idx) : (outsAt0 m c t.val t.isLt).1 y
    = entry (argA m c) (argB m c) (1024 * (t.val / 16) + (y 1).val) (768 * (t.val / 2 % 8) + (y 2).val) := by
  have e0 : (y 1).val < 1024 := (y 1).isLt
  have e1 : (y 2).val < 768 := (y 2).isLt
  have h := step m c t e0 e1
  rw [h3] at h
  rw [last m c t h3, payLast, scratch m c (t.val - 1) _ (by omega) (ix2 (y 1) (y 2)), show (t.val - 1) % 2 + 1 = 1 by omega,
    show (t.val - 1) / 16 = t.val / 16 by omega, show (t.val - 1) / 2 = t.val / 2 by omega]
  exact h

/-! ## The result array -/

/-- The result array after the run. -/
theorem final2 : (dats m 0 c).arrAt 2 cfg0.N = fun y : S8x2048x768.Idx => entry (argA m c) (argB m c) (y 1).val (768 * (y 0).val + (y 2).val) := by
  refine (dats m 0 c).arrAt_eq_of_cover 2 _ (fun t hf => ?_) fun (y : S8x2048x768.Idx) => ?_
  · have hN : t.val < 32 := t.isLt
    rw [Cert.BInGIdeal.Value.flushed2]
    funext x
    refine (written m c t ((flush0_2 t).mp hf) _).trans ?_
    rw [View.read_apply]
    refine congrArg₂ (entry (argA m c) (argB m c)) ?_ ?_
    · show 1024 * (t.val / 16) + (x 1).val = win0_2.index t 1 * 1024 + 1 * (x 1).val
      rw [(index2 t).2.1]; omega
    · have x0 : (x 0).val < 1 := (x 0).isLt
      show 768 * (t.val / 2 % 8) + (x 2).val
        = 768 * (win0_2.index t 0 * 1 + 1 * (x 0).val) + (win0_2.index t 2 * 768 + 1 * (x 2).val)
      rw [(index2 t).1, (index2 t).2.2]; omega
  · have h0 : (y 0).val < 8 := (y 0).isLt
    have h1 : (y 1).val < 2048 := (y 1).isLt
    have h2 : (y 2).val < 768 := (y 2).isLt
    obtain ⟨t, ht⟩ : ∃ t : Fin cfg0.N, t.val = 16 * ((y 1).val / 1024) + 2 * (y 0).val + 1 :=
      ⟨⟨16 * ((y 1).val / 1024) + 2 * (y 0).val + 1, show 16 * ((y 1).val / 1024) + 2 * (y 0).val + 1 < 32 by omega⟩, rfl⟩
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1 ≤ (y 0).val ∧ (y 0).val < win0_2.index t 0 * 1 + 1
      rw [(index2 t).1]; omega
    | ⟨1, _⟩ =>
      show win0_2.index t 1 * 1024 ≤ (y 1).val ∧ (y 1).val < win0_2.index t 1 * 1024 + 1024
      rw [(index2 t).2.1]; omega
    | ⟨2, _⟩ =>
      show win0_2.index t 2 * 768 ≤ (y 2).val ∧ (y 2).val < win0_2.index t 2 * 768 + 768
      rw [(index2 t).2.2]; omega

/-! ## The reference -/

/-- The reference's result, entry by entry: it takes the factors in the other order. -/
theorem refDot (x0 : Vec Ideal S4096x2048 .bf16) (x1 : Vec Ideal S4096x6144 .bf16) (y : S8x2048x768.Idx) :
    BInGRefIdeal.Read.val_main_v8 (F := Ideal) x0 x1 y = entry x0 x1 (y 1).val (768 * (y 0).val + (y 2).val) := by
  have h0 : (y 0).val < 8 := (y 0).isLt
  have h1 : (y 1).val < 2048 := (y 1).isLt
  have h2 : (y 2).val < 768 := (y 2).isLt
  rw [entry, upTo, dot_comm, BInGRefIdeal.Read.val_main_v8_apply, BInGRefIdeal.Read.val_main_v7_apply, BInGRefIdeal.Read.val_main_v6_apply, BInGRefIdeal.Read.val_main_v5_apply, BInGRefIdeal.Read.val_main_v4_apply]
  exact sum_eq_dot (fun j => at2 x1 j ((768 * (y 0).val + (y 2).val))) (fun j => at2 x0 j ((y 1).val)) (fun k =>
    congrArg₂ (· * ·) (eq_at2_of x1 (BInGRefIdeal.Read.lidx_main_v4 (BInGRefIdeal.Read.idx_main_v5 (BInGRefIdeal.Read.idx_main_v6 (BInGRefIdeal.Read.idx_main_v7 y))) k) rfl (show (((y 1).val * 8 + (y 0).val) * 768 + (y 2).val) % 6144 = (768 * (y 0).val + (y 2).val) by omega))
      (eq_at2_of x0 (BInGRefIdeal.Read.ridx_main_v4 (BInGRefIdeal.Read.idx_main_v5 (BInGRefIdeal.Read.idx_main_v6 (BInGRefIdeal.Read.idx_main_v7 y))) k) rfl (show (((y 1).val * 8 + (y 0).val) * 768 + (y 2).val) / 6144 = (y 1).val by omega)))

/-- The two results are equal entry by entry. -/
theorem algebraic : Cert.algebraic_BInGIdeal_BInGRefIdeal :=
  fun m ρ m' ρ' _ hag => by
    refine ⟨fun c => (fun y : S8x2048x768.Idx => entry (argA m c) (argB m c) (y 1).val (768 * (y 0).val + (y 2).val)),
      (θ_run BInGIdeal.defs _ _).mono (fun _ h c => ⟨(h c).1.trans (final2 m c), (h c).2⟩) (BInGIdeal.Value.run_blocks m ρ),
      (θ_run BInGRefIdeal.defs _ _).mono (fun _ h c => ?_) (BInGRefIdeal.Value.run m' ρ')⟩
    exact ⟨(h c).1.trans ((funext fun y => refDot (m' ((c : Thread BInGRefIdeal.nD BInGRefIdeal.τ).loc BInGRefIdeal.main_arg0)) (m' ((c : Thread BInGRefIdeal.nD BInGRefIdeal.τ).loc BInGRefIdeal.main_arg1)) y).trans (by rw [(hag c).1, (hag c).2])),
      (h c).2⟩

/-- The reference runs and leaves its arguments alone; it declares no semaphore. -/
theorem referenceFrame : Cert.quiescent_BInGRefIdeal :=
  fun m ρ _ => (θ_run BInGRefIdeal.defs _ _).mono (fun r h => ⟨fun c => (h c).2,
    sem_eq_zero_of_no_sems (by decide) r.2⟩) (BInGRefIdeal.Value.run m ρ)

end Cert.Products.BInG

end
-- ==== Proof.Products.AInT.lean ====
/- The gradient of the attention mixer's first product to its input, `du @ w1ᵀ`. -/
module

public import proofs.«01_k».proof.Defs
public import proofs.«01_k».proof.Proof.Gen.AInTIdeal.Value
public import proofs.«01_k».proof.Proof.Gen.AInTRefIdeal.Run
public import proofs.«01_k».proof.Proof.Gen.AInTRefIdeal.Read
public import proofs.«01_k».proof.Proof.Products.Sums

@[expose] public section

set_option maxRecDepth 16384

noncomputable section

namespace Cert.Products.AInT

open Cert.AInTIdeal Cert.AInTIdeal.Gen Idealize.ShloMosaic Idealize.ShloMosaic.TcCoe Idealize.SL.Sem Cert.Entry

/-! ## What one step computes -/

/-- The first step along the contracted axis, entry by entry. -/
theorem pay1 (x0 : Vec Ideal S1024x2048 .bf16) (x1 : Vec Ideal S1024x2048 .bf16) (y : S1024x1024.Idx) :
    k0_pay1 (F := Ideal) x0 x1 y = dot (at2 x0 ((y 0).val)) (at2 x1 ((y 1).val)) 2048 := by
  unfold_payloads
  pointwise [shapeCast_self, eq_at2 x0, eq_at2 x1]
  exact sum_fin_eq_dot (at2 x0 ((y 0).val)) (at2 x1 ((y 1).val)) 2048

/-- The last step, written to the result. -/
theorem payLast (s : Vec Ideal S1024x1024 .f32) (x0 : Vec Ideal S1024x2048 .bf16) (x1 : Vec Ideal S1024x2048 .bf16) (y : S1024x1024.Idx) :
    k0_pay2 (F := Ideal) s x0 x1 y = s y + dot (at2 x0 ((y 0).val)) (at2 x1 ((y 1).val)) 2048 := by
  unfold_payloads
  pointwise [shapeCast_self, eq_at2 x0, eq_at2 x1]
  exact congrArg (s y + ·) (sum_fin_eq_dot (at2 x0 ((y 0).val)) (at2 x1 ((y 1).val)) 2048)

/-! ## The arguments and their blocks -/

variable (m : (ℓ : Loc nD τ sig) → Buf (Elt Ideal) ℓ) (c : Dev nD)

/-- The arguments as launched. -/
abbrev argA : Vec Ideal S4096x4096 .bf16 := m ((c : Thread nD τ).loc main_arg0)
abbrev argB : Vec Ideal S2048x4096 .bf16 := m ((c : Thread nD τ).loc main_arg1)

theorem index0 : ∀ t : Fin cfg0.N, win0_0.index t 0 = t.val / 4 ∧ win0_0.index t 1 = t.val % 2 :=
  (by decide +kernel : ∀ t : Fin grid0.N, win0_0.index t 0 = t.val / 4 ∧ win0_0.index t 1 = t.val % 2)
theorem index1 : ∀ t : Fin cfg0.N, win0_1.index t 0 = t.val / 2 % 2 ∧ win0_1.index t 1 = t.val % 2 :=
  (by decide +kernel : ∀ t : Fin grid0.N, win0_1.index t 0 = t.val / 2 % 2 ∧ win0_1.index t 1 = t.val % 2)
theorem index2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

theorem blk0 (t : Fin cfg0.N) {r k : ℕ} (hr : r < 1024) (hk : k < 2048) :
    at2 (iblk m c 0 t : Vec Ideal S1024x2048 .bf16) r k = at2 (argA m c) (1024 * (t.val / 4) + r) (2048 * (t.val % 2) + k) := by
  refine (at2_of_lt (iblk m c 0 t : Vec Ideal S1024x2048 .bf16) hr hk).trans (eq_at2_of (argA m c) _ ?_ ?_)
  · show win0_0.index t 0 * 1024 + 1 * r = _
    rw [(index0 t).1]; omega
  · show win0_0.index t 1 * 2048 + 1 * k = _
    rw [(index0 t).2]; omega

theorem blk1 (t : Fin cfg0.N) {r k : ℕ} (hr : r < 1024) (hk : k < 2048) :
    at2 (iblk m c 1 t : Vec Ideal S1024x2048 .bf16) r k = at2 (argB m c) (1024 * (t.val / 2 % 2) + r) (2048 * (t.val % 2) + k) := by
  refine (at2_of_lt (iblk m c 1 t : Vec Ideal S1024x2048 .bf16) hr hk).trans (eq_at2_of (argB m c) _ ?_ ?_)
  · show win0_1.index t 0 * 1024 + 1 * r = _
    rw [(index1 t).1]; omega
  · show win0_1.index t 1 * 2048 + 1 * k = _
    rw [(index1 t).2]; omega

/-! ## The sums -/

/-- The inner product of the contracted axis, as far as its first `n` entries, for entry `(r, k)` of the product. -/
def upTo (A : Vec Ideal S4096x4096 .bf16) (B : Vec Ideal S2048x4096 .bf16) (n r k : ℕ) : EReal := dot (at2 A (r)) (at2 B (k)) n

/-- What the step at point `t` adds to the terms before it. -/
theorem step (t : Fin cfg0.N) {r k : ℕ} (hr : r < 1024) (hk : k < 1024) :
    upTo (argA m c) (argB m c) (2048 * (t.val % 2)) (1024 * (t.val / 4) + r) (1024 * (t.val / 2 % 2) + k)
        + dot (at2 (iblk m c 0 t : Vec Ideal S1024x2048 .bf16) (r)) (at2 (iblk m c 1 t : Vec Ideal S1024x2048 .bf16) (k)) 2048
      = upTo (argA m c) (argB m c) (2048 * (t.val % 2 + 1)) (1024 * (t.val / 4) + r) (1024 * (t.val / 2 % 2) + k) := by
  unfold upTo
  rw [Nat.mul_add_one, ← dot_add]
  exact congrArg _ (dot_congr (fun j hj => blk0 m c t hr hj) (fun j hj => blk1 m c t hk hj))

/-- The result's entry `(r, k)`. -/
def entry (A : Vec Ideal S4096x4096 .bf16) (B : Vec Ideal S2048x4096 .bf16) (r k : ℕ) : EReal := upTo A B 4096 r k

/-! ## What the points leave -/

/-- The first step fills the scratch, -/
theorem first (t : Fin cfg0.N) (h0 : t.val % 2 = 0) :
    (outsAt0 m c t.val t.isLt).2 = k0_pay1 (F := Ideal) (iblk m c 0 t) (iblk m c 1 t) := by
  rw [outsAt0_A m c t h0 (by omega)]
  dsimp only
  unfold sout0_A_0 kernelRun0_A
  refine (View.read_writes_full _ _ _ _ _).trans ?_
  rw [readAt_whole, readAt_whole]

/-- and the last one writes the result. -/
theorem last (t : Fin cfg0.N) (h2 : t.val % 2 = 1) :
    (outsAt0 m c t.val t.isLt).1 = k0_pay2 (F := Ideal) (outsAt0 m c (t.val - 1) (Nat.lt_of_le_of_lt (Nat.sub_le _ _) t.isLt)).2
      (iblk m c 0 t) (iblk m c 1 t) := by
  rw [outsAt0_B m c t (by omega) h2]
  dsimp only
  unfold out0_B_2 kernelRun0_B
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 2 = 1) (y : S1024x1024.Idx), (outsAt0 m c n h).2 y
    = upTo (argA m c) (argB m c) (2048 * (n % 2 + 1)) (1024 * (n / 4) + (y 0).val) (1024 * (n / 2 % 2) + (y 1).val)
  | n, h, h3, y => by
    have e0 : (y 0).val < 1024 := (y 0).isLt
    have e1 : (y 1).val < 1024 := (y 1).isLt
    rw [← step m c ⟨n, h⟩ e0 e1]
    have h0 : n % 2 = 0 := by omega
    rw [first m c ⟨n, h⟩ h0, pay1]
    dsimp only
    rw [h0, upTo, Nat.mul_zero, dot_zero, zero_add]

/-- What the last point along the contracted axis leaves for the result. -/
theorem written (t : Fin cfg0.N) (h3 : t.val % 2 = 1) (y : S1024x1024.Idx) : (outsAt0 m c t.val t.isLt).1 y
    = entry (argA m c) (argB m c) (1024 * (t.val / 4) + (y 0).val) (1024 * (t.val / 2 % 2) + (y 1).val) := by
  have e0 : (y 0).val < 1024 := (y 0).isLt
  have e1 : (y 1).val < 1024 := (y 1).isLt
  have h := step m c t e0 e1
  rw [h3] at h
  rw [last m c t h3, payLast, scratch m c (t.val - 1) _ (by omega) y, show (t.val - 1) % 2 + 1 = 1 by omega,
    show (t.val - 1) / 4 = t.val / 4 by omega, show (t.val - 1) / 2 = t.val / 2 by omega]
  exact h

/-! ## The result array -/

/-- The result array after the run. -/
theorem final2 : (dats m 0 c).arrAt 2 cfg0.N = fun y : S4096x2048.Idx => entry (argA m c) (argB m c) (y 0).val (y 1).val := by
  refine (dats m 0 c).arrAt_eq_of_cover 2 _ (fun t hf => ?_) fun (y : S4096x2048.Idx) => ?_
  · have hN : t.val < 16 := t.isLt
    rw [Cert.AInTIdeal.Value.flushed2]
    funext x
    refine (written m c t ((flush0_2 t).mp hf) _).trans ?_
    rw [View.read_apply]
    refine congrArg₂ (entry (argA m c) (argB m c)) ?_ ?_
    · show 1024 * (t.val / 4) + (x 0).val = win0_2.index t 0 * 1024 + 1 * (x 0).val
      rw [(index2 t).1]; omega
    · show 1024 * (t.val / 2 % 2) + (x 1).val = win0_2.index t 1 * 1024 + 1 * (x 1).val
      rw [(index2 t).2]; omega
  · have h0 : (y 0).val < 4096 := (y 0).isLt
    have h1 : (y 1).val < 2048 := (y 1).isLt
    obtain ⟨t, ht⟩ : ∃ t : Fin cfg0.N, t.val = 4 * ((y 0).val / 1024) + 2 * ((y 1).val / 1024) + 1 :=
      ⟨⟨4 * ((y 0).val / 1024) + 2 * ((y 1).val / 1024) + 1, show 4 * ((y 0).val / 1024) + 2 * ((y 1).val / 1024) + 1 < 16 by omega⟩, rfl⟩
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0).val ∧ (y 0).val < win0_2.index t 0 * 1024 + 1024
      rw [(index2 t).1]; omega
    | ⟨1, _⟩ =>
      show win0_2.index t 1 * 1024 ≤ (y 1).val ∧ (y 1).val < win0_2.index t 1 * 1024 + 1024
      rw [(index2 t).2]; omega

/-! ## The reference -/

/-- The reference's product, entry by entry. -/
theorem refDot (x0 : Vec Ideal S4096x4096 .bf16) (x1 : Vec Ideal S2048x4096 .bf16) (y : S4096x2048.Idx) :
    AInTRefIdeal.Read.val_main_v4 (F := Ideal) x0 x1 y = upTo x0 x1 4096 (y 0).val (y 1).val := by
  rw [AInTRefIdeal.Read.val_main_v4_apply]
  exact sum_eq_dot (at2 x0 ((y 0).val)) (at2 x1 ((y 1).val)) (fun k =>
    congrArg₂ (· * ·) (eq_at2 x0 (AInTRefIdeal.Read.lidx_main_v4 y k)) (eq_at2 x1 (AInTRefIdeal.Read.ridx_main_v4 y k)))

/-- The two results are equal entry by entry. -/
theorem algebraic : Cert.algebraic_AInTIdeal_AInTRefIdeal :=
  fun m ρ m' ρ' _ hag => by
    refine ⟨fun c => (fun y : S4096x2048.Idx => entry (argA m c) (argB m c) (y 0).val (y 1).val),
      (θ_run AInTIdeal.defs _ _).mono (fun _ h c => ⟨(h c).1.trans (final2 m c), (h c).2⟩) (AInTIdeal.Value.run_blocks m ρ),
      (θ_run AInTRefIdeal.defs _ _).mono (fun _ h c => ?_) (AInTRefIdeal.Value.run m' ρ')⟩
    exact ⟨(h c).1.trans ((funext fun y => refDot (m' ((c : Thread AInTRefIdeal.nD AInTRefIdeal.τ).loc AInTRefIdeal.main_arg0)) (m' ((c : Thread AInTRefIdeal.nD AInTRefIdeal.τ).loc AInTRefIdeal.main_arg1)) y).trans (by rw [(hag c).1, (hag c).2]; rfl)),
      (h c).2⟩

/-- The reference runs and leaves its arguments alone; it declares no semaphore. -/
theorem referenceFrame : Cert.quiescent_AInTRefIdeal :=
  fun m ρ _ => (θ_run AInTRefIdeal.defs _ _).mono (fun r h => ⟨fun c => (h c).2,
    sem_eq_zero_of_no_sems (by decide) r.2⟩) (AInTRefIdeal.Value.run m ρ)

end Cert.Products.AInT

end
-- ==== Proof.Products.AInG.lean ====
/- The gradient of the attention mixer's first product to its weight, `hᵀ @ du`, by the devices' blocks of columns. -/
module

public import proofs.«01_k».proof.Defs
public import proofs.«01_k».proof.Proof.Gen.AInGIdeal.Value
public import proofs.«01_k».proof.Proof.Gen.AInGRefIdeal.Run
public import proofs.«01_k».proof.Proof.Gen.AInGRefIdeal.Read
public import proofs.«01_k».proof.Proof.Products.Sums

@[expose] public section

set_option maxRecDepth 16384

noncomputable section

namespace Cert.Products.AInG

open Cert.AInGIdeal Cert.AInGIdeal.Gen Idealize.ShloMosaic Idealize.ShloMosaic.TcCoe Idealize.SL.Sem Cert.Entry

/-! ## What one step computes -/

/-- The first step along the contracted axis, entry by entry. -/
theorem pay1 (x0 : Vec Ideal S2048x1024 .bf16) (x1 : Vec Ideal S2048x512 .bf16) (y : S1024x512.Idx) :
    k0_pay1 (F := Ideal) x0 x1 y = dot (fun j => at2 x0 j ((y 0).val)) (fun j => at2 x1 j ((y 1).val)) 2048 := by
  unfold_payloads
  pointwise [shapeCast_self, eq_at2 x0, eq_at2 x1]
  exact sum_fin_eq_dot (fun j => at2 x0 j ((y 0).val)) (fun j => at2 x1 j ((y 1).val)) 2048

/-- The last step, written to the result. -/
theorem payLast (s : Vec Ideal S1024x512 .f32) (x0 : Vec Ideal S2048x1024 .bf16) (x1 : Vec Ideal S2048x512 .bf16) (y : S1x1024x512.Idx) :
    k0_pay2 (F := Ideal) s x0 x1 y = s (ix2 (y 1) (y 2)) + dot (fun j => at2 x0 j ((y 1).val)) (fun j => at2 x1 j ((y 2).val)) 2048 := by
  unfold_payloads
  pointwise [shapeCast_self, eq_at2 x0, eq_at2 x1]
  exact congrArg (s (ix2 (y 1) (y 2)) + ·) (sum_fin_eq_dot (fun j => at2 x0 j ((y 1).val)) (fun j => at2 x1 j ((y 2).val)) 2048)

/-! ## The arguments and their blocks -/

variable (m : (ℓ : Loc nD τ sig) → Buf (Elt Ideal) ℓ) (c : Dev nD)

/-- The arguments as launched. -/
abbrev argA : Vec Ideal S4096x2048 .bf16 := m ((c : Thread nD τ).loc main_arg0)
abbrev argB : Vec Ideal S4096x4096 .bf16 := m ((c : Thread nD τ).loc main_arg1)

theorem index0 : ∀ t : Fin cfg0.N, win0_0.index t 0 = t.val % 2 ∧ win0_0.index t 1 = t.val / 16 :=
  (by decide +kernel : ∀ t : Fin grid0.N, win0_0.index t 0 = t.val % 2 ∧ win0_0.index t 1 = t.val / 16)
theorem index1 : ∀ t : Fin cfg0.N, win0_1.index t 0 = t.val % 2 ∧ win0_1.index t 1 = t.val / 2 % 8 :=
  (by decide +kernel : ∀ t : Fin grid0.N, win0_1.index t 0 = t.val % 2 ∧ win0_1.index t 1 = t.val / 2 % 8)
theorem index2 : ∀ t : Fin cfg0.N, win0_2.index t 0 = t.val / 2 % 8 ∧ win0_2.index t 1 = t.val / 16 ∧ win0_2.index t 2 = 0 :=
  (by decide +kernel : ∀ t : Fin grid0.N, win0_2.index t 0 = t.val / 2 % 8 ∧ win0_2.index t 1 = t.val / 16 ∧ win0_2.index t 2 = 0)

theorem blk0 (t : Fin cfg0.N) {r k : ℕ} (hr : r < 2048) (hk : k < 1024) :
    at2 (iblk m c 0 t : Vec Ideal S2048x1024 .bf16) r k = at2 (argA m c) (2048 * (t.val % 2) + r) (1024 * (t.val / 16) + k) := by
  refine (at2_of_lt (iblk m c 0 t : Vec Ideal S2048x1024 .bf16) hr hk).trans (eq_at2_of (argA m c) _ ?_ ?_)
  · show win0_0.index t 0 * 2048 + 1 * r = _
    rw [(index0 t).1]; omega
  · show win0_0.index t 1 * 1024 + 1 * k = _
    rw [(index0 t).2]; omega

theorem blk1 (t : Fin cfg0.N) {r k : ℕ} (hr : r < 2048) (hk : k < 512) :
    at2 (iblk m c 1 t : Vec Ideal S2048x512 .bf16) r k = at2 (argB m c) (2048 * (t.val % 2) + r) (512 * (t.val / 2 % 8) + k) := by
  refine (at2_of_lt (iblk m c 1 t : Vec Ideal S2048x512 .bf16) hr hk).trans (eq_at2_of (argB m c) _ ?_ ?_)
  · show win0_1.index t 0 * 2048 + 1 * r = _
    rw [(index1 t).1]; omega
  · show win0_1.index t 1 * 512 + 1 * k = _
    rw [(index1 t).2]; omega

/-! ## The sums -/

/-- The inner product of the contracted axis, as far as its first `n` entries, for entry `(r, k)` of the product. -/
def upTo (A : Vec Ideal S4096x2048 .bf16) (B : Vec Ideal S4096x4096 .bf16) (n r k : ℕ) : EReal := dot (fun j => at2 A j (r)) (fun j => at2 B j (k)) n

/-- What the step at point `t` adds to the terms before it. -/
theorem step (t : Fin cfg0.N) {r k : ℕ} (hr : r < 1024) (hk : k < 512) :
    upTo (argA m c) (argB m c) (2048 * (t.val % 2)) (1024 * (t.val / 16) + r) (512 * (t.val / 2 % 8) + k)
        + dot (fun j => at2 (iblk m c 0 t : Vec Ideal S2048x1024 .bf16) j (r)) (fun j => at2 (iblk m c 1 t : Vec Ideal S2048x512 .bf16) j (k)) 2048
      = upTo (argA m c) (argB m c) (2048 * (t.val % 2 + 1)) (1024 * (t.val / 16) + r) (512 * (t.val / 2 % 8) + k) := by
  unfold upTo
  rw [Nat.mul_add_one, ← dot_add]
  exact congrArg _ (dot_congr (fun j hj => blk0 m c t hj hr) (fun j hj => blk1 m c t hj hk))

/-- The result's entry `(r, k)`. -/
def entry (A : Vec Ideal S4096x2048 .bf16) (B : Vec Ideal S4096x4096 .bf16) (r k : ℕ) : EReal := upTo A B 4096 r k

/-! ## What the points leave -/

/-- The first step fills the scratch, -/
theorem first (t : Fin cfg0.N) (h0 : t.val % 2 = 0) :
    (outsAt0 m c t.val t.isLt).2 = k0_pay1 (F := Ideal) (iblk m c 0 t) (iblk m c 1 t) := by
  rw [outsAt0_A m c t h0 (by omega)]
  dsimp only
  unfold sout0_A_0 kernelRun0_A
  refine (View.read_writes_full _ _ _ _ _).trans ?_
  rw [readAt_whole, readAt_whole]

/-- and the last one writes the result. -/
theorem last (t : Fin cfg0.N) (h2 : t.val % 2 = 1) :
    (outsAt0 m c t.val t.isLt).1 = k0_pay2 (F := Ideal) (outsAt0 m c (t.val - 1) (Nat.lt_of_le_of_lt (Nat.sub_le _ _) t.isLt)).2
      (iblk m c 0 t) (iblk m c 1 t) := by
  rw [outsAt0_B m c t (by omega) h2]
  dsimp only
  unfold out0_B_2 kernelRun0_B
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 2 = 1) (y : S1024x512.Idx), (outsAt0 m c n h).2 y
    = upTo (argA m c) (argB m c) (2048 * (n % 2 + 1)) (1024 * (n / 16) + (y 0).val) (512 * (n / 2 % 8) + (y 1).val)
  | n, h, h3, y => by
    have e0 : (y 0).val < 1024 := (y 0).isLt
    have e1 : (y 1).val < 512 := (y 1).isLt
    rw [← step m c ⟨n, h⟩ e0 e1]
    have h0 : n % 2 = 0 := by omega
    rw [first m c ⟨n, h⟩ h0, pay1]
    dsimp only
    rw [h0, upTo, Nat.mul_zero, dot_zero, zero_add]

/-- What the last point along the contracted axis leaves for the result. -/
theorem written (t : Fin cfg0.N) (h3 : t.val % 2 = 1) (y : S1x1024x512.Idx) : (outsAt0 m c t.val t.isLt).1 y
    = entry (argA m c) (argB m c) (1024 * (t.val / 16) + (y 1).val) (512 * (t.val / 2 % 8) + (y 2).val) := by
  have e0 : (y 1).val < 1024 := (y 1).isLt
  have e1 : (y 2).val < 512 := (y 2).isLt
  have h := step m c t e0 e1
  rw [h3] at h
  rw [last m c t h3, payLast, scratch m c (t.val - 1) _ (by omega) (ix2 (y 1) (y 2)), show (t.val - 1) % 2 + 1 = 1 by omega,
    show (t.val - 1) / 16 = t.val / 16 by omega, show (t.val - 1) / 2 = t.val / 2 by omega]
  exact h

/-! ## The result array -/

/-- The result array after the run. -/
theorem final2 : (dats m 0 c).arrAt 2 cfg0.N = fun y : S8x2048x512.Idx => entry (argA m c) (argB m c) (y 1).val (512 * (y 0).val + (y 2).val) := by
  refine (dats m 0 c).arrAt_eq_of_cover 2 _ (fun t hf => ?_) fun (y : S8x2048x512.Idx) => ?_
  · have hN : t.val < 32 := t.isLt
    rw [Cert.AInGIdeal.Value.flushed2]
    funext x
    refine (written m c t ((flush0_2 t).mp hf) _).trans ?_
    rw [View.read_apply]
    refine congrArg₂ (entry (argA m c) (argB m c)) ?_ ?_
    · show 1024 * (t.val / 16) + (x 1).val = win0_2.index t 1 * 1024 + 1 * (x 1).val
      rw [(index2 t).2.1]; omega
    · have x0 : (x 0).val < 1 := (x 0).isLt
      show 512 * (t.val / 2 % 8) + (x 2).val
        = 512 * (win0_2.index t 0 * 1 + 1 * (x 0).val) + (win0_2.index t 2 * 512 + 1 * (x 2).val)
      rw [(index2 t).1, (index2 t).2.2]; omega
  · have h0 : (y 0).val < 8 := (y 0).isLt
    have h1 : (y 1).val < 2048 := (y 1).isLt
    have h2 : (y 2).val < 512 := (y 2).isLt
    obtain ⟨t, ht⟩ : ∃ t : Fin cfg0.N, t.val = 16 * ((y 1).val / 1024) + 2 * (y 0).val + 1 :=
      ⟨⟨16 * ((y 1).val / 1024) + 2 * (y 0).val + 1, show 16 * ((y 1).val / 1024) + 2 * (y 0).val + 1 < 32 by omega⟩, rfl⟩
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1 ≤ (y 0).val ∧ (y 0).val < win0_2.index t 0 * 1 + 1
      rw [(index2 t).1]; omega
    | ⟨1, _⟩ =>
      show win0_2.index t 1 * 1024 ≤ (y 1).val ∧ (y 1).val < win0_2.index t 1 * 1024 + 1024
      rw [(index2 t).2.1]; omega
    | ⟨2, _⟩ =>
      show win0_2.index t 2 * 512 ≤ (y 2).val ∧ (y 2).val < win0_2.index t 2 * 512 + 512
      rw [(index2 t).2.2]; omega

/-! ## The reference -/

/-- The reference's result, entry by entry: it takes the factors in the other order. -/
theorem refDot (x0 : Vec Ideal S4096x2048 .bf16) (x1 : Vec Ideal S4096x4096 .bf16) (y : S8x2048x512.Idx) :
    AInGRefIdeal.Read.val_main_v8 (F := Ideal) x0 x1 y = entry x0 x1 (y 1).val (512 * (y 0).val + (y 2).val) := by
  have h0 : (y 0).val < 8 := (y 0).isLt
  have h1 : (y 1).val < 2048 := (y 1).isLt
  have h2 : (y 2).val < 512 := (y 2).isLt
  rw [entry, upTo, dot_comm, AInGRefIdeal.Read.val_main_v8_apply, AInGRefIdeal.Read.val_main_v7_apply, AInGRefIdeal.Read.val_main_v6_apply, AInGRefIdeal.Read.val_main_v5_apply, AInGRefIdeal.Read.val_main_v4_apply]
  exact sum_eq_dot (fun j => at2 x1 j ((512 * (y 0).val + (y 2).val))) (fun j => at2 x0 j ((y 1).val)) (fun k =>
    congrArg₂ (· * ·) (eq_at2_of x1 (AInGRefIdeal.Read.lidx_main_v4 (AInGRefIdeal.Read.idx_main_v5 (AInGRefIdeal.Read.idx_main_v6 (AInGRefIdeal.Read.idx_main_v7 y))) k) rfl (show (((y 1).val * 8 + (y 0).val) * 512 + (y 2).val) % 4096 = (512 * (y 0).val + (y 2).val) by omega))
      (eq_at2_of x0 (AInGRefIdeal.Read.ridx_main_v4 (AInGRefIdeal.Read.idx_main_v5 (AInGRefIdeal.Read.idx_main_v6 (AInGRefIdeal.Read.idx_main_v7 y))) k) rfl (show (((y 1).val * 8 + (y 0).val) * 512 + (y 2).val) / 4096 = (y 1).val by omega)))

/-- The two results are equal entry by entry. -/
theorem algebraic : Cert.algebraic_AInGIdeal_AInGRefIdeal :=
  fun m ρ m' ρ' _ hag => by
    refine ⟨fun c => (fun y : S8x2048x512.Idx => entry (argA m c) (argB m c) (y 1).val (512 * (y 0).val + (y 2).val)),
      (θ_run AInGIdeal.defs _ _).mono (fun _ h c => ⟨(h c).1.trans (final2 m c), (h c).2⟩) (AInGIdeal.Value.run_blocks m ρ),
      (θ_run AInGRefIdeal.defs _ _).mono (fun _ h c => ?_) (AInGRefIdeal.Value.run m' ρ')⟩
    exact ⟨(h c).1.trans ((funext fun y => refDot (m' ((c : Thread AInGRefIdeal.nD AInGRefIdeal.τ).loc AInGRefIdeal.main_arg0)) (m' ((c : Thread AInGRefIdeal.nD AInGRefIdeal.τ).loc AInGRefIdeal.main_arg1)) y).trans (by rw [(hag c).1, (hag c).2])),
      (h c).2⟩

/-- The reference runs and leaves its arguments alone; it declares no semaphore. -/
theorem referenceFrame : Cert.quiescent_AInGRefIdeal :=
  fun m ρ _ => (θ_run AInGRefIdeal.defs _ _).mono (fun r h => ⟨fun c => (h c).2,
    sem_eq_zero_of_no_sems (by decide) r.2⟩) (AInGRefIdeal.Value.run m ρ)

end Cert.Products.AInG

end
-- ==== Proof.Products.FUp.lean ====
/- The feed-forward block's first product, `hid = h @ w1`, and its squared rectifier. -/
module

public import proofs.«01_k».proof.Defs
public import proofs.«01_k».proof.Proof.Gen.FUpIdeal.Value
public import proofs.«01_k».proof.Proof.Gen.FUpRefIdeal.Run
public import proofs.«01_k».proof.Proof.Gen.FUpRefIdeal.Read
public import proofs.«01_k».proof.Proof.Products.Sums

@[expose] public section

set_option maxRecDepth 16384

noncomputable section

namespace Cert.Products.FUp

open Cert.FUpIdeal Cert.FUpIdeal.Gen Idealize.ShloMosaic Idealize.ShloMosaic.TcCoe Idealize.SL.Sem Cert.Entry

/-! ## What one step computes -/

/-- The product of the two blocks, entry by entry, -/
theorem pay3 (x0 : Vec Ideal S1024x2048 .bf16) (x1 : Vec Ideal S2048x2048 .bf16) (y : S1024x2048.Idx) :
    k0_pay3 (F := Ideal) x0 x1 y = dot (at2 x0 ((y 0).val)) (fun j => at2 x1 j ((y 1).val)) 2048 := by
  unfold_payloads
  pointwise [shapeCast_self, eq_at2 x0, eq_at2 x1]
  exact sum_fin_eq_dot (at2 x0 ((y 0).val)) (fun j => at2 x1 j ((y 1).val)) 2048

/-- The rectifier, squared. -/
def square (h : EReal) : EReal := max h 0 * max h 0

/-- and its rectifier, squared. -/
theorem pay2 (x0 : Vec Ideal S1024x2048 .bf16) (x1 : Vec Ideal S2048x2048 .bf16) (y : S1024x2048.Idx) :
    k0_pay2 (F := Ideal) x0 x1 y = square (dot (at2 x0 ((y 0).val)) (fun j => at2 x1 j ((y 1).val)) 2048) := by
  rw [← pay3]
  unfold_payloads
  pointwise [shapeCast_self, eq_at2 x0, eq_at2 x1, square]

/-! ## The arguments and their blocks -/

variable (m : (ℓ : Loc nD τ sig) → Buf (Elt Ideal) ℓ) (c : Dev nD)

/-- The arguments as launched. -/
abbrev argA : Vec Ideal S4096x2048 .bf16 := m ((c : Thread nD τ).loc main_arg0)
abbrev argB : Vec Ideal S2048x8192 .bf16 := m ((c : Thread nD τ).loc main_arg1)

theorem index0 : ∀ t : Fin cfg0.N, win0_0.index t 0 = t.val / 4 ∧ win0_0.index t 1 = t.val % 1 :=
  (by decide +kernel : ∀ t : Fin grid0.N, win0_0.index t 0 = t.val / 4 ∧ win0_0.index t 1 = t.val % 1)
theorem index1 : ∀ t : Fin cfg0.N, win0_1.index t 0 = t.val % 1 ∧ win0_1.index t 1 = t.val / 1 % 4 :=
  (by decide +kernel : ∀ t : Fin grid0.N, win0_1.index t 0 = t.val % 1 ∧ win0_1.index t 1 = t.val / 1 % 4)
theorem index2 : ∀ t : Fin cfg0.N, win0_2.index t 0 = t.val / 4 ∧ win0_2.index t 1 = t.val / 1 % 4 :=
  (by decide +kernel : ∀ t : Fin grid0.N, win0_2.index t 0 = t.val / 4 ∧ win0_2.index t 1 = t.val / 1 % 4)
theorem index3 : ∀ t : Fin cfg0.N, win0_3.index t 0 = t.val / 4 ∧ win0_3.index t 1 = t.val / 1 % 4 :=
  (by decide +kernel : ∀ t : Fin grid0.N, win0_3.index t 0 = t.val / 4 ∧ win0_3.index t 1 = t.val / 1 % 4)

theorem blk0 (t : Fin cfg0.N) {r k : ℕ} (hr : r < 1024) (hk : k < 2048) :
    at2 (iblk m c 0 t : Vec Ideal S1024x2048 .bf16) r k = at2 (argA m c) (1024 * (t.val / 4) + r) (2048 * (t.val % 1) + k) := by
  refine (at2_of_lt (iblk m c 0 t : Vec Ideal S1024x2048 .bf16) hr hk).trans (eq_at2_of (argA m c) _ ?_ ?_)
  · show win0_0.index t 0 * 1024 + 1 * r = _
    rw [(index0 t).1]; omega
  · show win0_0.index t 1 * 2048 + 1 * k = _
    rw [(index0 t).2]; omega

theorem blk1 (t : Fin cfg0.N) {r k : ℕ} (hr : r < 2048) (hk : k < 2048) :
    at2 (iblk m c 1 t : Vec Ideal S2048x2048 .bf16) r k = at2 (argB m c) (2048 * (t.val % 1) + r) (2048 * (t.val / 1 % 4) + k) := by
  refine (at2_of_lt (iblk m c 1 t : Vec Ideal S2048x2048 .bf16) hr hk).trans (eq_at2_of (argB m c) _ ?_ ?_)
  · show win0_1.index t 0 * 2048 + 1 * r = _
    rw [(index1 t).1]; omega
  · show win0_1.index t 1 * 2048 + 1 * k = _
    rw [(index1 t).2]; omega

/-! ## The sums -/

/-- The inner product of the contracted axis, as far as its first `n` entries, for entry `(r, k)` of the product. -/
def upTo (A : Vec Ideal S4096x2048 .bf16) (B : Vec Ideal S2048x8192 .bf16) (n r k : ℕ) : EReal := dot (at2 A (r)) (fun j => at2 B j (k)) n

/-- What the step at point `t` adds to the terms before it. -/
theorem step (t : Fin cfg0.N) {r k : ℕ} (hr : r < 1024) (hk : k < 2048) :
    upTo (argA m c) (argB m c) (2048 * (t.val % 1)) (1024 * (t.val / 4) + r) (2048 * (t.val / 1 % 4) + k)
        + dot (at2 (iblk m c 0 t : Vec Ideal S1024x2048 .bf16) (r)) (fun j => at2 (iblk m c 1 t : Vec Ideal S2048x2048 .bf16) j (k)) 2048
      = upTo (argA m c) (argB m c) (2048 * (t.val % 1 + 1)) (1024 * (t.val / 4) + r) (2048 * (t.val / 1 % 4) + k) := by
  unfold upTo
  rw [Nat.mul_add_one, ← dot_add]
  exact congrArg _ (dot_congr (fun j hj => blk0 m c t hr hj) (fun j hj => blk1 m c t hj hk))

/-- The result's entry `(r, k)`. -/
def entry (A : Vec Ideal S4096x2048 .bf16) (B : Vec Ideal S2048x8192 .bf16) (r k : ℕ) : EReal := square (upTo A B 2048 r k)

/-! ## What the points leave -/

/-- A point writes its block whole. -/
theorem out2_eq (x0 : Vec Ideal S1024x2048 .bf16) (x1 : Vec Ideal S2048x2048 .bf16) : out0_2 (F := Ideal) x0 x1 = k0_pay2 (F := Ideal) x0 x1 := by
  unfold out0_2
  rw [View.canon_unit_zero zero2]
  rw [View.ld_unit_zero (S := S1024x2048) zero2, View.ld_unit_zero (S := S2048x2048) zero2]

/-- What a point leaves for the result. -/
theorem written (t : Fin cfg0.N) (y : S1024x2048.Idx) : out0_2 (F := Ideal) (iblk m c 0 t) (iblk m c 1 t) y
    = entry (argA m c) (argB m c) (1024 * (t.val / 4) + (y 0).val) (2048 * (t.val / 1 % 4) + (y 1).val) := by
  have e0 : (y 0).val < 1024 := (y 0).isLt
  have e1 : (y 1).val < 2048 := (y 1).isLt
  have h := step m c t e0 e1
  rw [upTo, show t.val % 1 = 0 from Nat.mod_one _, Nat.mul_zero, dot_zero, zero_add] at h
  rw [out2_eq, pay2]
  exact congrArg square h

/-- A point writes its block whole. -/
theorem out3_eq (x0 : Vec Ideal S1024x2048 .bf16) (x1 : Vec Ideal S2048x2048 .bf16) : out0_3 (F := Ideal) x0 x1 = k0_pay3 (F := Ideal) x0 x1 := by
  unfold out0_3
  rw [View.canon_unit_zero zero2]
  rw [View.ld_unit_zero (S := S1024x2048) zero2, View.ld_unit_zero (S := S2048x2048) zero2]

/-- What a point leaves for the result. -/
theorem writtenHid (t : Fin cfg0.N) (y : S1024x2048.Idx) : out0_3 (F := Ideal) (iblk m c 0 t) (iblk m c 1 t) y
    = upTo (argA m c) (argB m c) 2048 (1024 * (t.val / 4) + (y 0).val) (2048 * (t.val / 1 % 4) + (y 1).val) := by
  have e0 : (y 0).val < 1024 := (y 0).isLt
  have e1 : (y 1).val < 2048 := (y 1).isLt
  have h := step m c t e0 e1
  rw [upTo, show t.val % 1 = 0 from Nat.mod_one _, Nat.mul_zero, dot_zero, zero_add] at h
  rw [out3_eq, pay3]
  exact h

/-! ## The result array -/

/-- The result array after the run. -/
theorem final2 : (dats m 0 c).arrAt 2 cfg0.N = fun y : S4096x8192.Idx => entry (argA m c) (argB m c) (y 0).val (y 1).val := by
  refine (dats m 0 c).arrAt_eq_of_cover 2 _ (fun t hf => ?_) fun (y : S4096x8192.Idx) => ?_
  · have hN : t.val < 16 := t.isLt
    rw [Cert.FUpIdeal.Value.flushed2]
    funext x
    refine (written m c t _).trans ?_
    rw [View.read_apply]
    refine congrArg₂ (entry (argA m c) (argB m c)) ?_ ?_
    · show 1024 * (t.val / 4) + (x 0).val = win0_2.index t 0 * 1024 + 1 * (x 0).val
      rw [(index2 t).1]; omega
    · show 2048 * (t.val / 1 % 4) + (x 1).val = win0_2.index t 1 * 2048 + 1 * (x 1).val
      rw [(index2 t).2]; omega
  · have h0 : (y 0).val < 4096 := (y 0).isLt
    have h1 : (y 1).val < 8192 := (y 1).isLt
    obtain ⟨t, ht⟩ : ∃ t : Fin cfg0.N, t.val = 4 * ((y 0).val / 1024) + 1 * ((y 1).val / 2048) + 0 :=
      ⟨⟨4 * ((y 0).val / 1024) + 1 * ((y 1).val / 2048) + 0, show 4 * ((y 0).val / 1024) + 1 * ((y 1).val / 2048) + 0 < 16 by omega⟩, rfl⟩
    refine ⟨t, flush0_2 _, ?_⟩
    show y ∈ ((View.whole main_v0_0).slice (win0_2.rect t)).set
    rw [View.set_slice_whole, Rect.mem_set_unit]
    intro a
    match a with
    | ⟨0, _⟩ =>
      show win0_2.index t 0 * 1024 ≤ (y 0).val ∧ (y 0).val < win0_2.index t 0 * 1024 + 1024
      rw [(index2 t).1]; omega
    | ⟨1, _⟩ =>
      show win0_2.index t 1 * 2048 ≤ (y 1).val ∧ (y 1).val < win0_2.index t 1 * 2048 + 2048
      rw [(index2 t).2]; omega

/-- The result array after the run. -/
theorem final3 : (dats m 0 c).arrAt 3 cfg0.N = fun y : S4096x8192.Idx => upTo (argA m c) (argB m c) 2048 (y 0).val (y 1).val := by
  refine (dats m 0 c).arrAt_eq_of_cover 3 _ (fun t hf => ?_) fun (y : S4096x8192.Idx) => ?_
  · have hN : t.val < 16 := t.isLt
    rw [Cert.FUpIdeal.Value.flushed3]
    funext x
    refine (writtenHid m c t _).trans ?_
    rw [View.read_apply]
    refine congrArg₂ (upTo (argA m c) (argB m c) 2048) ?_ ?_
    · show 1024 * (t.val / 4) + (x 0).val = win0_3.index t 0 * 1024 + 1 * (x 0).val
      rw [(index3 t).1]; omega
    · show 2048 * (t.val / 1 % 4) + (x 1).val = win0_3.index t 1 * 2048 + 1 * (x 1).val
      rw [(index3 t).2]; omega
  · have h0 : (y 0).val < 4096 := (y 0).isLt
    have h1 : (y 1).val < 8192 := (y 1).isLt
    obtain ⟨t, ht⟩ : ∃ t : Fin cfg0.N, t.val = 4 * ((y 0).val / 1024) + 1 * ((y 1).val / 2048) + 0 :=
      ⟨⟨4 * ((y 0).val / 1024) + 1 * ((y 1).val / 2048) + 0, show 4 * ((y 0).val / 1024) + 1 * ((y 1).val / 2048) + 0 < 16 by omega⟩, rfl⟩
    refine ⟨t, flush0_3 _, ?_⟩
    show y ∈ ((View.whole main_v0_1).slice (win0_3.rect t)).set
    rw [View.set_slice_whole, Rect.mem_set_unit]
    intro a
    match a with
    | ⟨0, _⟩ =>
      show win0_3.index t 0 * 1024 ≤ (y 0).val ∧ (y 0).val < win0_3.index t 0 * 1024 + 1024
      rw [(index3 t).1]; omega
    | ⟨1, _⟩ =>
      show win0_3.index t 1 * 2048 ≤ (y 1).val ∧ (y 1).val < win0_3.index t 1 * 2048 + 2048
      rw [(index3 t).2]; omega

/-! ## The reference -/

/-- The reference's product, entry by entry. -/
theorem refDot (x0 : Vec Ideal S4096x2048 .bf16) (x1 : Vec Ideal S2048x8192 .bf16) (y : S4096x8192.Idx) :
    FUpRefIdeal.Read.val_main_v2 (F := Ideal) x0 x1 y = upTo x0 x1 2048 (y 0).val (y 1).val := by
  rw [FUpRefIdeal.Read.val_main_v2_apply]
  exact sum_eq_dot (at2 x0 ((y 0).val)) (fun j => at2 x1 j ((y 1).val)) (fun k =>
    congrArg₂ (· * ·) (eq_at2 x0 (FUpRefIdeal.Read.lidx_main_v2 y k)) (eq_at2 x1 (FUpRefIdeal.Read.ridx_main_v2 y k)))

/-- The reference's first result, entry by entry, -/
theorem refEntry (x0 : Vec Ideal S4096x2048 .bf16) (x1 : Vec Ideal S2048x8192 .bf16) (y : S4096x8192.Idx) :
    FUpRefIdeal.Read.val_main_v5 (F := Ideal) x0 x1 y = entry x0 x1 (y 0).val (y 1).val := by
  unfold entry square
  rw [← refDot]
  pointwise [FUpRefIdeal.Read.val_main_v5_apply, FUpRefIdeal.Read.val_main_v4_apply, FUpRefIdeal.Read.val_main_v3_apply, FUpRefIdeal.Read.val_main_call0_v0_apply, FUpRefIdeal.Read.val_main_call0_cst_apply]

/-- and its second. -/
theorem refHid (x0 : Vec Ideal S4096x2048 .bf16) (x1 : Vec Ideal S2048x8192 .bf16) (y : S4096x8192.Idx) :
    FUpRefIdeal.Read.val_main_v6 (F := Ideal) x0 x1 y = upTo x0 x1 2048 (y 0).val (y 1).val := refDot x0 x1 y

/-- The two results are equal entry by entry. -/
theorem algebraic : Cert.algebraic_FUpIdeal_FUpRefIdeal :=
  fun m ρ m' ρ' _ hag => by
    refine ⟨fun c => (fun y : S4096x8192.Idx => entry (argA m c) (argB m c) (y 0).val (y 1).val),
      fun c => (fun y : S4096x8192.Idx => upTo (argA m c) (argB m c) 2048 (y 0).val (y 1).val),
      (θ_run FUpIdeal.defs _ _).mono (fun _ h c => ⟨(h c).1.trans (final2 m c), (h c).2.1.trans (final3 m c), (h c).2.2⟩) (FUpIdeal.Value.run_blocks m ρ),
      (θ_run FUpRefIdeal.defs _ _).mono (fun _ h c => ?_) (FUpRefIdeal.Value.run m' ρ')⟩
    exact ⟨(h c).1.trans ((funext fun y => refEntry (m' ((c : Thread FUpRefIdeal.nD FUpRefIdeal.τ).loc FUpRefIdeal.main_arg0)) (m' ((c : Thread FUpRefIdeal.nD FUpRefIdeal.τ).loc FUpRefIdeal.main_arg1)) y).trans (by rw [(hag c).1, (hag c).2])),
      (h c).2.1.trans ((funext fun y => refHid (m' ((c : Thread FUpRefIdeal.nD FUpRefIdeal.τ).loc FUpRefIdeal.main_arg0)) (m' ((c : Thread FUpRefIdeal.nD FUpRefIdeal.τ).loc FUpRefIdeal.main_arg1)) y).trans (by rw [(hag c).1, (hag c).2])),
      (h c).2.2⟩

/-- The reference runs and leaves its arguments alone; it declares no semaphore. -/
theorem referenceFrame : Cert.quiescent_FUpRefIdeal :=
  fun m ρ _ => (θ_run FUpRefIdeal.defs _ _).mono (fun r h => ⟨fun c => ⟨(h c).2.2.1, (h c).2.2.2⟩,
    sem_eq_zero_of_no_sems (by decide) r.2⟩) (FUpRefIdeal.Value.run m ρ)

end Cert.Products.FUp

end
-- ==== Proof.Products.FDown.lean ====
/- The feed-forward block's second product, `act @ w2`, the weight as its devices' blocks of rows. -/
module

public import proofs.«01_k».proof.Defs
public import proofs.«01_k».proof.Proof.Gen.FDownIdeal.Value
public import proofs.«01_k».proof.Proof.Gen.FDownRefIdeal.Run
public import proofs.«01_k».proof.Proof.Gen.FDownRefIdeal.Read
public import proofs.«01_k».proof.Proof.Products.Sums

@[expose] public section

set_option maxRecDepth 16384

noncomputable section

namespace Cert.Products.FDown

open Cert.FDownIdeal Cert.FDownIdeal.Gen Idealize.ShloMosaic Idealize.ShloMosaic.TcCoe Idealize.SL.Sem Cert.Entry

/-! ## What one step computes -/

/-- The first step along the contracted axis, entry by entry. -/
theorem pay1 (x0 : Vec Ideal S1024x2048 .bf16) (x1 : Vec Ideal S2048x1024 .bf16) (y : S1024x1024.Idx) :
    k0_pay1 (F := Ideal) x0 x1 y = dot (at2 x0 ((y 0).val)) (fun j => at2 x1 j ((y 1).val)) 2048 := by
  unfold_payloads
  pointwise [shapeCast_self, eq_at2 x0, eq_at2 x1]
  exact sum_fin_eq_dot (at2 x0 ((y 0).val)) (fun j => at2 x1 j ((y 1).val)) 2048

/-- A middle step, over what the scratch holds. -/
theorem pay2 (s : Vec Ideal S1024x1024 .f32) (x0 : Vec Ideal S1024x2048 .bf16) (x1 : Vec Ideal S2048x1024 .bf16) (y : S1024x1024.Idx) :
    k0_pay2 (F := Ideal) s x0 x1 y = s y + dot (at2 x0 ((y 0).val)) (fun j => at2 x1 j ((y 1).val)) 2048 := by
  unfold_payloads
  pointwise [shapeCast_self, eq_at2 x0, eq_at2 x1]
  exact congrArg (s y + ·) (sum_fin_eq_dot (at2 x0 ((y 0).val)) (fun j => at2 x1 j ((y 1).val)) 2048)

/-- The last step, written to the result. -/
theorem payLast (s : Vec Ideal S1024x1024 .f32) (x0 : Vec Ideal S1024x2048 .bf16) (x1 : Vec Ideal S2048x1024 .bf16) (y : S1024x1024.Idx) :
    k0_pay3 (F := Ideal) s x0 x1 y = s y + dot (at2 x0 ((y 0).val)) (fun j => at2 x1 j ((y 1).val)) 2048 := by
  unfold_payloads
  pointwise [shapeCast_self, eq_at2 x0, eq_at2 x1]
  exact congrArg (s y + ·) (sum_fin_eq_dot (at2 x0 ((y 0).val)) (fun j => at2 x1 j ((y 1).val)) 2048)

/-! ## The arguments and their blocks -/

variable (m : (ℓ : Loc nD τ sig) → Buf (Elt Ideal) ℓ) (c : Dev nD)

/-- The arguments as launched, the weight in one piece. -/
abbrev argA : Vec Ideal S4096x8192 .bf16 := m ((c : Thread nD τ).loc main_arg0)
abbrev argB : Vec Ideal S8192x2048 .bf16 := shapeCast (s := S8x1024x2048) S8192x2048 (m ((c : Thread nD τ).loc main_arg1)) shapeCasts_S8x1024x2048_S8192x2048

/-- The region finds the weight's array as the host laid it out. -/
theorem weight : V m c main_v0 = argB m c := by
  unfold V hostOps0
  rw [StableHlo.after_cons, StableHlo.after_nil, StableHlo.reshape_result]
  rfl

theorem index0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem index1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem index2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

theorem blk0 (t : Fin cfg0.N) {r k : ℕ} (hr : r < 1024) (hk : k < 2048) :
    at2 (iblk m c 0 t : Vec Ideal S1024x2048 .bf16) r k = at2 (argA m c) (1024 * (t.val / 8) + r) (2048 * (t.val % 4) + k) := by
  refine (at2_of_lt (iblk m c 0 t : Vec Ideal S1024x2048 .bf16) hr hk).trans (eq_at2_of (argA m c) _ ?_ ?_)
  · show win0_0.index t 0 * 1024 + 1 * r = _
    rw [(index0 t).1]; omega
  · show win0_0.index t 1 * 2048 + 1 * k = _
    rw [(index0 t).2]; omega

theorem blk1 (t : Fin cfg0.N) {r k : ℕ} (hr : r < 2048) (hk : k < 1024) :
    at2 (iblk m c 1 t : Vec Ideal S2048x1024 .bf16) r k = at2 (argB m c) (2048 * (t.val % 4) + r) (1024 * (t.val / 4 % 2) + k) := by
  rw [← weight m c]
  refine (at2_of_lt (iblk m c 1 t : Vec Ideal S2048x1024 .bf16) hr hk).trans (eq_at2_of (V m c main_v0 : Vec Ideal S8192x2048 .bf16) _ ?_ ?_)
  · show win0_1.index t 0 * 2048 + 1 * r = _
    rw [(index1 t).1]; omega
  · show win0_1.index t 1 * 1024 + 1 * k = _
    rw [(index1 t).2]; omega

/-! ## The sums -/

/-- The inner product of the contracted axis, as far as its first `n` entries, for entry `(r, k)` of the product. -/
def upTo (A : Vec Ideal S4096x8192 .bf16) (B : Vec Ideal S8192x2048 .bf16) (n r k : ℕ) : EReal := dot (at2 A (r)) (fun j => at2 B j (k)) n

/-- What the step at point `t` adds to the terms before it. -/
theorem step (t : Fin cfg0.N) {r k : ℕ} (hr : r < 1024) (hk : k < 1024) :
    upTo (argA m c) (argB m c) (2048 * (t.val % 4)) (1024 * (t.val / 8) + r) (1024 * (t.val / 4 % 2) + k)
        + dot (at2 (iblk m c 0 t : Vec Ideal S1024x2048 .bf16) (r)) (fun j => at2 (iblk m c 1 t : Vec Ideal S2048x1024 .bf16) j (k)) 2048
      = upTo (argA m c) (argB m c) (2048 * (t.val % 4 + 1)) (1024 * (t.val / 8) + r) (1024 * (t.val / 4 % 2) + k) := by
  unfold upTo
  rw [Nat.mul_add_one, ← dot_add]
  exact congrArg _ (dot_congr (fun j hj => blk0 m c t hr hj) (fun j hj => blk1 m c t hj hk))

/-- The result's entry `(r, k)`. -/
def entry (A : Vec Ideal S4096x8192 .bf16) (B : Vec Ideal S8192x2048 .bf16) (r k : ℕ) : EReal := upTo A B 8192 r k

/-! ## What the points leave -/

/-- The first step fills the scratch, -/
theorem first (t : Fin cfg0.N) (h0 : t.val % 4 = 0) :
    (outsAt0 m c t.val t.isLt).2 = k0_pay1 (F := Ideal) (iblk m c 0 t) (iblk m c 1 t) := by
  rw [outsAt0_A m c t h0 (by omega) (by omega)]
  dsimp only
  unfold sout0_A_0 kernelRun0_A
  refine (View.read_writes_full _ _ _ _ _).trans ?_
  rw [readAt_whole, readAt_whole]

/-- the middle steps add to it, -/
theorem next (t : Fin cfg0.N) (h0 : ¬t.val % 4 = 0) (h2 : ¬t.val % 4 = 3) :
    (outsAt0 m c t.val t.isLt).2 = k0_pay2 (F := Ideal) (outsAt0 m c (t.val - 1) (Nat.lt_of_le_of_lt (Nat.sub_le _ _) t.isLt)).2
      (iblk m c 0 t) (iblk m c 1 t) := by
  rw [outsAt0_B m c t h0 (by omega) h2]
  dsimp only
  unfold sout0_B_0 kernelRun0_B
  refine (View.read_writes_full _ _ _ _ _).trans ?_
  rw [readAt_whole, readAt_whole, readAt_whole]

/-- and the last one writes the result. -/
theorem last (t : Fin cfg0.N) (h2 : t.val % 4 = 3) :
    (outsAt0 m c t.val t.isLt).1 = k0_pay3 (F := Ideal) (outsAt0 m c (t.val - 1) (Nat.lt_of_le_of_lt (Nat.sub_le _ _) t.isLt)).2
      (iblk m c 0 t) (iblk m c 1 t) := by
  rw [outsAt0_C m c t (by omega) (by omega) h2]
  dsimp only
  unfold out0_C_2 kernelRun0_C
  refine (View.read_writes_full _ _ _ _ _).trans ?_
  rw [readAt_whole, readAt_whole, readAt_whole]

/-- What the scratch holds after a point that is not the last along the contracted axis. -/
theorem scratch : ∀ (n : ℕ) (h : n < cfg0.N) (h3 : ¬n % 4 = 3) (y : S1024x1024.Idx), (outsAt0 m c n h).2 y
    = upTo (argA m c) (argB m c) (2048 * (n % 4 + 1)) (1024 * (n / 8) + (y 0).val) (1024 * (n / 4 % 2) + (y 1).val)
  | n, h, h3, y => by
    have e0 : (y 0).val < 1024 := (y 0).isLt
    have e1 : (y 1).val < 1024 := (y 1).isLt
    rw [← step m c ⟨n, h⟩ e0 e1]
    by_cases h0 : n % 4 = 0
    · rw [first m c ⟨n, h⟩ h0, pay1]
      dsimp only
      rw [h0, upTo, Nat.mul_zero, dot_zero, zero_add]
    · rw [next m c ⟨n, h⟩ h0 h3, pay2]
      dsimp only
      rw [scratch (n - 1) _ (by omega) y, show (n - 1) % 4 + 1 = n % 4 by omega, show (n - 1) / 8 = n / 8 by omega,
        show (n - 1) / 4 = n / 4 by omega]

/-- What the last point along the contracted axis leaves for the result. -/
theorem written (t : Fin cfg0.N) (h3 : t.val % 4 = 3) (y : S1024x1024.Idx) : (outsAt0 m c t.val t.isLt).1 y
    = entry (argA m c) (argB m c) (1024 * (t.val / 8) + (y 0).val) (1024 * (t.val / 4 % 2) + (y 1).val) := by
  have e0 : (y 0).val < 1024 := (y 0).isLt
  have e1 : (y 1).val < 1024 := (y 1).isLt
  have h := step m c t e0 e1
  rw [h3] at h
  rw [last m c t h3, payLast, scratch m c (t.val - 1) _ (by omega) y, show (t.val - 1) % 4 + 1 = 3 by omega,
    show (t.val - 1) / 8 = t.val / 8 by omega, show (t.val - 1) / 4 = t.val / 4 by omega]
  exact h

/-! ## The result array -/

/-- The result array after the run. -/
theorem final2 : (dats m 0 c).arrAt 2 cfg0.N = fun y : S4096x2048.Idx => entry (argA m c) (argB m c) (y 0).val (y 1).val := by
  refine (dats m 0 c).arrAt_eq_of_cover 2 _ (fun t hf => ?_) fun (y : S4096x2048.Idx) => ?_
  · have hN : t.val < 32 := t.isLt
    rw [Cert.FDownIdeal.Value.flushed2]
    funext x
    refine (written m c t ((flush0_2 t).mp hf) _).trans ?_
    rw [View.read_apply]
    refine congrArg₂ (entry (argA m c) (argB m c)) ?_ ?_
    · show 1024 * (t.val / 8) + (x 0).val = win0_2.index t 0 * 1024 + 1 * (x 0).val
      rw [(index2 t).1]; omega
    · show 1024 * (t.val / 4 % 2) + (x 1).val = win0_2.index t 1 * 1024 + 1 * (x 1).val
      rw [(index2 t).2]; omega
  · have h0 : (y 0).val < 4096 := (y 0).isLt
    have h1 : (y 1).val < 2048 := (y 1).isLt
    obtain ⟨t, ht⟩ : ∃ t : Fin cfg0.N, t.val = 8 * ((y 0).val / 1024) + 4 * ((y 1).val / 1024) + 3 :=
      ⟨⟨8 * ((y 0).val / 1024) + 4 * ((y 1).val / 1024) + 3, show 8 * ((y 0).val / 1024) + 4 * ((y 1).val / 1024) + 3 < 32 by omega⟩, rfl⟩
    refine ⟨t, (flush0_2 t).mpr (by omega), ?_⟩
    show y ∈ ((View.whole main_v1).slice (win0_2.rect t)).set
    rw [View.set_slice_whole, Rect.mem_set_unit]
    intro a
    match a with
    | ⟨0, _⟩ =>
      show win0_2.index t 0 * 1024 ≤ (y 0).val ∧ (y 0).val < win0_2.index t 0 * 1024 + 1024
      rw [(index2 t).1]; omega
    | ⟨1, _⟩ =>
      show win0_2.index t 1 * 1024 ≤ (y 1).val ∧ (y 1).val < win0_2.index t 1 * 1024 + 1024
      rw [(index2 t).2]; omega

/-! ## The reference -/

/-- The reference's product, entry by entry. -/
theorem refDot (x0 : Vec Ideal S4096x8192 .bf16) (x1 : Vec Ideal S8x1024x2048 .bf16) (y : S4096x2048.Idx) :
    FDownRefIdeal.Read.val_main_v3 (F := Ideal) x0 x1 y = upTo x0 (shapeCast (s := S8x1024x2048) S8192x2048 x1 shapeCasts_S8x1024x2048_S8192x2048) 8192 (y 0).val (y 1).val := by
  rw [FDownRefIdeal.Read.val_main_v3_apply]
  exact sum_eq_dot (at2 x0 ((y 0).val)) (fun j => at2 (shapeCast (s := S8x1024x2048) S8192x2048 x1 shapeCasts_S8x1024x2048_S8192x2048) j ((y 1).val)) (fun k =>
    congrArg₂ (· * ·) (eq_at2 x0 (FDownRefIdeal.Read.lidx_main_v3 y k)) (eq_at2 (shapeCast (s := S8x1024x2048) S8192x2048 x1 shapeCasts_S8x1024x2048_S8192x2048) (FDownRefIdeal.Read.ridx_main_v3 y k)))

/-- The two results are equal entry by entry. -/
theorem algebraic : Cert.algebraic_FDownIdeal_FDownRefIdeal :=
  fun m ρ m' ρ' _ hag => by
    refine ⟨fun c => (fun y : S4096x2048.Idx => entry (argA m c) (argB m c) (y 0).val (y 1).val),
      (θ_run FDownIdeal.defs _ _).mono (fun _ h c => ⟨(h c).1.trans (final2 m c), (h c).2⟩) (FDownIdeal.Value.run_blocks m ρ),
      (θ_run FDownRefIdeal.defs _ _).mono (fun _ h c => ?_) (FDownRefIdeal.Value.run m' ρ')⟩
    exact ⟨(h c).1.trans ((funext fun y => refDot (m' ((c : Thread FDownRefIdeal.nD FDownRefIdeal.τ).loc FDownRefIdeal.main_arg0)) (m' ((c : Thread FDownRefIdeal.nD FDownRefIdeal.τ).loc FDownRefIdeal.main_arg1)) y).trans (by rw [(hag c).1, (hag c).2]; rfl)),
      (h c).2⟩

/-- The reference runs and leaves its arguments alone; it declares no semaphore. -/
theorem referenceFrame : Cert.quiescent_FDownRefIdeal :=
  fun m ρ _ => (θ_run FDownRefIdeal.defs _ _).mono (fun r h => ⟨fun c => (h c).2,
    sem_eq_zero_of_no_sems (by decide) r.2⟩) (FDownRefIdeal.Value.run m ρ)

end Cert.Products.FDown

end
-- ==== Proof.Products.BIn.lean ====
/- The short-convolution mixer's first product, `h @ w_in`. -/
module

public import proofs.«01_k».proof.Defs
public import proofs.«01_k».proof.Proof.Gen.BInIdeal.Value
public import proofs.«01_k».proof.Proof.Gen.BInRefIdeal.Run
public import proofs.«01_k».proof.Proof.Gen.BInRefIdeal.Read
public import proofs.«01_k».proof.Proof.Products.Sums

@[expose] public section

set_option maxRecDepth 16384

noncomputable section

namespace Cert.Products.BIn

open Cert.BInIdeal Cert.BInIdeal.Gen Idealize.ShloMosaic Idealize.ShloMosaic.TcCoe Idealize.SL.Sem Cert.Entry

/-! ## What one step computes -/

/-- The product of the two blocks, entry by entry. -/
theorem pay1 (x0 : Vec Ideal S1024x2048 .bf16) (x1 : Vec Ideal S2048x2048 .bf16) (y : S1024x2048.Idx) :
    k0_pay1 (F := Ideal) x0 x1 y = dot (at2 x0 ((y 0).val)) (fun j => at2 x1 j ((y 1).val)) 2048 := by
  unfold_payloads
  pointwise [shapeCast_self, eq_at2 x0, eq_at2 x1]
  exact sum_fin_eq_dot (at2 x0 ((y 0).val)) (fun j => at2 x1 j ((y 1).val)) 2048

/-! ## The arguments and their blocks -/

variable (m : (ℓ : Loc nD τ sig) → Buf (Elt Ideal) ℓ) (c : Dev nD)

/-- The arguments as launched. -/
abbrev argA : Vec Ideal S4096x2048 .bf16 := m ((c : Thread nD τ).loc main_arg0)
abbrev argB : Vec Ideal S2048x6144 .bf16 := m ((c : Thread nD τ).loc main_arg1)

theorem index0 : ∀ t : Fin cfg0.N, win0_0.index t 0 = t.val / 3 ∧ win0_0.index t 1 = t.val % 1 :=
  (by decide +kernel : ∀ t : Fin grid0.N, win0_0.index t 0 = t.val / 3 ∧ win0_0.index t 1 = t.val % 1)
theorem index1 : ∀ t : Fin cfg0.N, win0_1.index t 0 = t.val % 1 ∧ win0_1.index t 1 = t.val / 1 % 3 :=
  (by decide +kernel : ∀ t : Fin grid0.N, win0_1.index t 0 = t.val % 1 ∧ win0_1.index t 1 = t.val / 1 % 3)
theorem index2 : ∀ t : Fin cfg0.N, win0_2.index t 0 = t.val / 3 ∧ win0_2.index t 1 = t.val / 1 % 3 :=
  (by decide +kernel : ∀ t : Fin grid0.N, win0_2.index t 0 = t.val / 3 ∧ win0_2.index t 1 = t.val / 1 % 3)

theorem blk0 (t : Fin cfg0.N) {r k : ℕ} (hr : r < 1024) (hk : k < 2048) :
    at2 (iblk m c 0 t : Vec Ideal S1024x2048 .bf16) r k = at2 (argA m c) (1024 * (t.val / 3) + r) (2048 * (t.val % 1) + k) := by
  refine (at2_of_lt (iblk m c 0 t : Vec Ideal S1024x2048 .bf16) hr hk).trans (eq_at2_of (argA m c) _ ?_ ?_)
  · show win0_0.index t 0 * 1024 + 1 * r = _
    rw [(index0 t).1]; omega
  · show win0_0.index t 1 * 2048 + 1 * k = _
    rw [(index0 t).2]; omega

theorem blk1 (t : Fin cfg0.N) {r k : ℕ} (hr : r < 2048) (hk : k < 2048) :
    at2 (iblk m c 1 t : Vec Ideal S2048x2048 .bf16) r k = at2 (argB m c) (2048 * (t.val % 1) + r) (2048 * (t.val / 1 % 3) + k) := by
  refine (at2_of_lt (iblk m c 1 t : Vec Ideal S2048x2048 .bf16) hr hk).trans (eq_at2_of (argB m c) _ ?_ ?_)
  · show win0_1.index t 0 * 2048 + 1 * r = _
    rw [(index1 t).1]; omega
  · show win0_1.index t 1 * 2048 + 1 * k = _
    rw [(index1 t).2]; omega

/-! ## The sums -/

/-- The inner product of the contracted axis, as far as its first `n` entries, for entry `(r, k)` of the product. -/
def upTo (A : Vec Ideal S4096x2048 .bf16) (B : Vec Ideal S2048x6144 .bf16) (n r k : ℕ) : EReal := dot (at2 A (r)) (fun j => at2 B j (k)) n

/-- What the step at point `t` adds to the terms before it. -/
theorem step (t : Fin cfg0.N) {r k : ℕ} (hr : r < 1024) (hk : k < 2048) :
    upTo (argA m c) (argB m c) (2048 * (t.val % 1)) (1024 * (t.val / 3) + r) (2048 * (t.val / 1 % 3) + k)
        + dot (at2 (iblk m c 0 t : Vec Ideal S1024x2048 .bf16) (r)) (fun j => at2 (iblk m c 1 t : Vec Ideal S2048x2048 .bf16) j (k)) 2048
      = upTo (argA m c) (argB m c) (2048 * (t.val % 1 + 1)) (1024 * (t.val / 3) + r) (2048 * (t.val / 1 % 3) + k) := by
  unfold upTo
  rw [Nat.mul_add_one, ← dot_add]
  exact congrArg _ (dot_congr (fun j hj => blk0 m c t hr hj) (fun j hj => blk1 m c t hj hk))

/-- The result's entry `(r, k)`. -/
def entry (A : Vec Ideal S4096x2048 .bf16) (B : Vec Ideal S2048x6144 .bf16) (r k : ℕ) : EReal := upTo A B 2048 r k

/-! ## What the points leave -/

/-- A point writes its block whole. -/
theorem out2_eq (x0 : Vec Ideal S1024x2048 .bf16) (x1 : Vec Ideal S2048x2048 .bf16) : out0_2 (F := Ideal) x0 x1 = k0_pay1 (F := Ideal) x0 x1 := by
  unfold out0_2
  rw [View.canon_unit_zero zero2]
  rw [View.ld_unit_zero (S := S1024x2048) zero2, View.ld_unit_zero (S := S2048x2048) zero2]

/-- What a point leaves for the result. -/
theorem written (t : Fin cfg0.N) (y : S1024x2048.Idx) : out0_2 (F := Ideal) (iblk m c 0 t) (iblk m c 1 t) y
    = entry (argA m c) (argB m c) (1024 * (t.val / 3) + (y 0).val) (2048 * (t.val / 1 % 3) + (y 1).val) := by
  have e0 : (y 0).val < 1024 := (y 0).isLt
  have e1 : (y 1).val < 2048 := (y 1).isLt
  have h := step m c t e0 e1
  rw [upTo, show t.val % 1 = 0 from Nat.mod_one _, Nat.mul_zero, dot_zero, zero_add] at h
  rw [out2_eq, pay1]
  exact h

/-! ## The result array -/

/-- The result array after the run. -/
theorem final2 : (dats m 0 c).arrAt 2 cfg0.N = fun y : S4096x6144.Idx => entry (argA m c) (argB m c) (y 0).val (y 1).val := by
  refine (dats m 0 c).arrAt_eq_of_cover 2 _ (fun t hf => ?_) fun (y : S4096x6144.Idx) => ?_
  · have hN : t.val < 12 := t.isLt
    rw [Cert.BInIdeal.Value.flushed2]
    funext x
    refine (written m c t _).trans ?_
    rw [View.read_apply]
    refine congrArg₂ (entry (argA m c) (argB m c)) ?_ ?_
    · show 1024 * (t.val / 3) + (x 0).val = win0_2.index t 0 * 1024 + 1 * (x 0).val
      rw [(index2 t).1]; omega
    · show 2048 * (t.val / 1 % 3) + (x 1).val = win0_2.index t 1 * 2048 + 1 * (x 1).val
      rw [(index2 t).2]; omega
  · have h0 : (y 0).val < 4096 := (y 0).isLt
    have h1 : (y 1).val < 6144 := (y 1).isLt
    obtain ⟨t, ht⟩ : ∃ t : Fin cfg0.N, t.val = 3 * ((y 0).val / 1024) + 1 * ((y 1).val / 2048) + 0 :=
      ⟨⟨3 * ((y 0).val / 1024) + 1 * ((y 1).val / 2048) + 0, show 3 * ((y 0).val / 1024) + 1 * ((y 1).val / 2048) + 0 < 12 by omega⟩, rfl⟩
    refine ⟨t, flush0_2 _, ?_⟩
    show y ∈ ((View.whole main_v0).slice (win0_2.rect t)).set
    rw [View.set_slice_whole, Rect.mem_set_unit]
    intro a
    match a with
    | ⟨0, _⟩ =>
      show win0_2.index t 0 * 1024 ≤ (y 0).val ∧ (y 0).val < win0_2.index t 0 * 1024 + 1024
      rw [(index2 t).1]; omega
    | ⟨1, _⟩ =>
      show win0_2.index t 1 * 2048 ≤ (y 1).val ∧ (y 1).val < win0_2.index t 1 * 2048 + 2048
      rw [(index2 t).2]; omega

/-! ## The reference -/

/-- The reference's product, entry by entry. -/
theorem refDot (x0 : Vec Ideal S4096x2048 .bf16) (x1 : Vec Ideal S2048x6144 .bf16) (y : S4096x6144.Idx) :
    BInRefIdeal.Read.val_main_v2 (F := Ideal) x0 x1 y = upTo x0 x1 2048 (y 0).val (y 1).val := by
  rw [BInRefIdeal.Read.val_main_v2_apply]
  exact sum_eq_dot (at2 x0 ((y 0).val)) (fun j => at2 x1 j ((y 1).val)) (fun k =>
    congrArg₂ (· * ·) (eq_at2 x0 (BInRefIdeal.Read.lidx_main_v2 y k)) (eq_at2 x1 (BInRefIdeal.Read.ridx_main_v2 y k)))

/-- The two results are equal entry by entry. -/
theorem algebraic : Cert.algebraic_BInIdeal_BInRefIdeal :=
  fun m ρ m' ρ' _ hag => by
    refine ⟨fun c => (fun y : S4096x6144.Idx => entry (argA m c) (argB m c) (y 0).val (y 1).val),
      (θ_run BInIdeal.defs _ _).mono (fun _ h c => ⟨(h c).1.trans (final2 m c), (h c).2⟩) (BInIdeal.Value.run_blocks m ρ),
      (θ_run BInRefIdeal.defs _ _).mono (fun _ h c => ?_) (BInRefIdeal.Value.run m' ρ')⟩
    exact ⟨(h c).1.trans ((funext fun y => refDot (m' ((c : Thread BInRefIdeal.nD BInRefIdeal.τ).loc BInRefIdeal.main_arg0)) (m' ((c : Thread BInRefIdeal.nD BInRefIdeal.τ).loc BInRefIdeal.main_arg1)) y).trans (by rw [(hag c).1, (hag c).2]; rfl)),
      (h c).2⟩

/-- The reference runs and leaves its arguments alone; it declares no semaphore. -/
theorem referenceFrame : Cert.quiescent_BInRefIdeal :=
  fun m ρ _ => (θ_run BInRefIdeal.defs _ _).mono (fun r h => ⟨fun c => (h c).2,
    sem_eq_zero_of_no_sems (by decide) r.2⟩) (BInRefIdeal.Value.run m ρ)

end Cert.Products.BIn

end
-- ==== Proof.Products.BOut.lean ====
/- The short-convolution mixer's last product, `q @ w_out`, the weight as its devices' blocks of rows. -/
module

public import proofs.«01_k».proof.Defs
public import proofs.«01_k».proof.Proof.Gen.BOutIdeal.Value
public import proofs.«01_k».proof.Proof.Gen.BOutRefIdeal.Run
public import proofs.«01_k».proof.Proof.Gen.BOutRefIdeal.Read
public import proofs.«01_k».proof.Proof.Products.Sums

@[expose] public section

set_option maxRecDepth 16384

noncomputable section

namespace Cert.Products.BOut

open Cert.BOutIdeal Cert.BOutIdeal.Gen Idealize.ShloMosaic Idealize.ShloMosaic.TcCoe Idealize.SL.Sem Cert.Entry

/-! ## What one step computes -/

/-- The product of the two blocks, entry by entry. -/
theorem pay1 (x0 : Vec Ideal S512x2048 .bf16) (x1 : Vec Ideal S2048x2048 .bf16) (y : S512x2048.Idx) :
    k0_pay1 (F := Ideal) x0 x1 y = dot (at2 x0 ((y 0).val)) (fun j => at2 x1 j ((y 1).val)) 2048 := by
  unfold_payloads
  pointwise [shapeCast_self, eq_at2 x0, eq_at2 x1]
  exact sum_fin_eq_dot (at2 x0 ((y 0).val)) (fun j => at2 x1 j ((y 1).val)) 2048

/-! ## The arguments and their blocks -/

variable (m : (ℓ : Loc nD τ sig) → Buf (Elt Ideal) ℓ) (c : Dev nD)

/-- The arguments as launched, the weight in one piece. -/
abbrev argA : Vec Ideal S4096x2048 .bf16 := m ((c : Thread nD τ).loc main_arg0)
abbrev argB : Vec Ideal S2048x2048 .bf16 := shapeCast (s := S8x256x2048) S2048x2048 (m ((c : Thread nD τ).loc main_arg1)) shapeCasts_S8x256x2048_S2048x2048

/-- The region finds the weight's array as the host laid it out. -/
theorem weight : V m c main_v0 = argB m c := by
  unfold V hostOps0
  rw [StableHlo.after_cons, StableHlo.after_nil, StableHlo.reshape_result]
  rfl

theorem index0 : ∀ t : Fin cfg0.N, win0_0.index t 0 = t.val / 1 ∧ win0_0.index t 1 = t.val % 1 :=
  (by decide +kernel : ∀ t : Fin grid0.N, win0_0.index t 0 = t.val / 1 ∧ win0_0.index t 1 = t.val % 1)
theorem index1 : ∀ t : Fin cfg0.N, win0_1.index t 0 = t.val % 1 ∧ win0_1.index t 1 = t.val / 1 % 1 :=
  (by decide +kernel : ∀ t : Fin grid0.N, win0_1.index t 0 = t.val % 1 ∧ win0_1.index t 1 = t.val / 1 % 1)
theorem index2 : ∀ t : Fin cfg0.N, win0_2.index t 0 = t.val / 1 ∧ win0_2.index t 1 = t.val / 1 % 1 :=
  (by decide +kernel : ∀ t : Fin grid0.N, win0_2.index t 0 = t.val / 1 ∧ win0_2.index t 1 = t.val / 1 % 1)

theorem blk0 (t : Fin cfg0.N) {r k : ℕ} (hr : r < 512) (hk : k < 2048) :
    at2 (iblk m c 0 t : Vec Ideal S512x2048 .bf16) r k = at2 (argA m c) (512 * (t.val / 1) + r) (2048 * (t.val % 1) + k) := by
  refine (at2_of_lt (iblk m c 0 t : Vec Ideal S512x2048 .bf16) hr hk).trans (eq_at2_of (argA m c) _ ?_ ?_)
  · show win0_0.index t 0 * 512 + 1 * r = _
    rw [(index0 t).1]; omega
  · show win0_0.index t 1 * 2048 + 1 * k = _
    rw [(index0 t).2]; omega

theorem blk1 (t : Fin cfg0.N) {r k : ℕ} (hr : r < 2048) (hk : k < 2048) :
    at2 (iblk m c 1 t : Vec Ideal S2048x2048 .bf16) r k = at2 (argB m c) (2048 * (t.val % 1) + r) (2048 * (t.val / 1 % 1) + k) := by
  rw [← weight m c]
  refine (at2_of_lt (iblk m c 1 t : Vec Ideal S2048x2048 .bf16) hr hk).trans (eq_at2_of (V m c main_v0 : Vec Ideal S2048x2048 .bf16) _ ?_ ?_)
  · show win0_1.index t 0 * 2048 + 1 * r = _
    rw [(index1 t).1]; omega
  · show win0_1.index t 1 * 2048 + 1 * k = _
    rw [(index1 t).2]; omega

/-! ## The sums -/

/-- The inner product of the contracted axis, as far as its first `n` entries, for entry `(r, k)` of the product. -/
def upTo (A : Vec Ideal S4096x2048 .bf16) (B : Vec Ideal S2048x2048 .bf16) (n r k : ℕ) : EReal := dot (at2 A (r)) (fun j => at2 B j (k)) n

/-- What the step at point `t` adds to the terms before it. -/
theorem step (t : Fin cfg0.N) {r k : ℕ} (hr : r < 512) (hk : k < 2048) :
    upTo (argA m c) (argB m c) (2048 * (t.val % 1)) (512 * (t.val / 1) + r) (2048 * (t.val / 1 % 1) + k)
        + dot (at2 (iblk m c 0 t : Vec Ideal S512x2048 .bf16) (r)) (fun j => at2 (iblk m c 1 t : Vec Ideal S2048x2048 .bf16) j (k)) 2048
      = upTo (argA m c) (argB m c) (2048 * (t.val % 1 + 1)) (512 * (t.val / 1) + r) (2048 * (t.val / 1 % 1) + k) := by
  unfold upTo
  rw [Nat.mul_add_one, ← dot_add]
  exact congrArg _ (dot_congr (fun j hj => blk0 m c t hr hj) (fun j hj => blk1 m c t hj hk))

/-- The result's entry `(r, k)`. -/
def entry (A : Vec Ideal S4096x2048 .bf16) (B : Vec Ideal S2048x2048 .bf16) (r k : ℕ) : EReal := upTo A B 2048 r k

/-! ## What the points leave -/

/-- A point writes its block whole. -/
theorem out2_eq (x0 : Vec Ideal S512x2048 .bf16) (x1 : Vec Ideal S2048x2048 .bf16) : out0_2 (F := Ideal) x0 x1 = k0_pay1 (F := Ideal) x0 x1 := by
  unfold out0_2
  rw [View.canon_unit_zero zero2]
  rw [View.ld_unit_zero (S := S512x2048) zero2, View.ld_unit_zero (S := S2048x2048) zero2]

/-- What a point leaves for the result. -/
theorem written (t : Fin cfg0.N) (y : S512x2048.Idx) : out0_2 (F := Ideal) (iblk m c 0 t) (iblk m c 1 t) y
    = entry (argA m c) (argB m c) (512 * (t.val / 1) + (y 0).val) (2048 * (t.val / 1 % 1) + (y 1).val) := by
  have e0 : (y 0).val < 512 := (y 0).isLt
  have e1 : (y 1).val < 2048 := (y 1).isLt
  have h := step m c t e0 e1
  rw [upTo, show t.val % 1 = 0 from Nat.mod_one _, Nat.mul_zero, dot_zero, zero_add] at h
  rw [out2_eq, pay1]
  exact h

/-! ## The result array -/

/-- The result array after the run. -/
theorem final2 : (dats m 0 c).arrAt 2 cfg0.N = fun y : S4096x2048.Idx => entry (argA m c) (argB m c) (y 0).val (y 1).val := by
  refine (dats m 0 c).arrAt_eq_of_cover 2 _ (fun t hf => ?_) fun (y : S4096x2048.Idx) => ?_
  · have hN : t.val < 8 := t.isLt
    rw [Cert.BOutIdeal.Value.flushed2]
    funext x
    refine (written m c t _).trans ?_
    rw [View.read_apply]
    refine congrArg₂ (entry (argA m c) (argB m c)) ?_ ?_
    · show 512 * (t.val / 1) + (x 0).val = win0_2.index t 0 * 512 + 1 * (x 0).val
      rw [(index2 t).1]; omega
    · show 2048 * (t.val / 1 % 1) + (x 1).val = win0_2.index t 1 * 2048 + 1 * (x 1).val
      rw [(index2 t).2]; omega
  · have h0 : (y 0).val < 4096 := (y 0).isLt
    have h1 : (y 1).val < 2048 := (y 1).isLt
    obtain ⟨t, ht⟩ : ∃ t : Fin cfg0.N, t.val = 1 * ((y 0).val / 512) + 1 * ((y 1).val / 2048) + 0 :=
      ⟨⟨1 * ((y 0).val / 512) + 1 * ((y 1).val / 2048) + 0, show 1 * ((y 0).val / 512) + 1 * ((y 1).val / 2048) + 0 < 8 by omega⟩, rfl⟩
    refine ⟨t, flush0_2 _, ?_⟩
    show y ∈ ((View.whole main_v1).slice (win0_2.rect t)).set
    rw [View.set_slice_whole, Rect.mem_set_unit]
    intro a
    match a with
    | ⟨0, _⟩ =>
      show win0_2.index t 0 * 512 ≤ (y 0).val ∧ (y 0).val < win0_2.index t 0 * 512 + 512
      rw [(index2 t).1]; omega
    | ⟨1, _⟩ =>
      show win0_2.index t 1 * 2048 ≤ (y 1).val ∧ (y 1).val < win0_2.index t 1 * 2048 + 2048
      rw [(index2 t).2]; omega

/-! ## The reference -/

/-- The reference's product, entry by entry. -/
theorem refDot (x0 : Vec Ideal S4096x2048 .bf16) (x1 : Vec Ideal S8x256x2048 .bf16) (y : S4096x2048.Idx) :
    BOutRefIdeal.Read.val_main_v3 (F := Ideal) x0 x1 y = upTo x0 (shapeCast (s := S8x256x2048) S2048x2048 x1 shapeCasts_S8x256x2048_S2048x2048) 2048 (y 0).val (y 1).val := by
  rw [BOutRefIdeal.Read.val_main_v3_apply]
  exact sum_eq_dot (at2 x0 ((y 0).val)) (fun j => at2 (shapeCast (s := S8x256x2048) S2048x2048 x1 shapeCasts_S8x256x2048_S2048x2048) j ((y 1).val)) (fun k =>
    congrArg₂ (· * ·) (eq_at2 x0 (BOutRefIdeal.Read.lidx_main_v3 y k)) (eq_at2 (shapeCast (s := S8x256x2048) S2048x2048 x1 shapeCasts_S8x256x2048_S2048x2048) (BOutRefIdeal.Read.ridx_main_v3 y k)))

/-- The two results are equal entry by entry. -/
theorem algebraic : Cert.algebraic_BOutIdeal_BOutRefIdeal :=
  fun m ρ m' ρ' _ hag => by
    refine ⟨fun c => (fun y : S4096x2048.Idx => entry (argA m c) (argB m c) (y 0).val (y 1).val),
      (θ_run BOutIdeal.defs _ _).mono (fun _ h c => ⟨(h c).1.trans (final2 m c), (h c).2⟩) (BOutIdeal.Value.run_blocks m ρ),
      (θ_run BOutRefIdeal.defs _ _).mono (fun _ h c => ?_) (BOutRefIdeal.Value.run m' ρ')⟩
    exact ⟨(h c).1.trans ((funext fun y => refDot (m' ((c : Thread BOutRefIdeal.nD BOutRefIdeal.τ).loc BOutRefIdeal.main_arg0)) (m' ((c : Thread BOutRefIdeal.nD BOutRefIdeal.τ).loc BOutRefIdeal.main_arg1)) y).trans (by rw [(hag c).1, (hag c).2]; rfl)),
      (h c).2⟩

/-- The reference runs and leaves its arguments alone; it declares no semaphore. -/
theorem referenceFrame : Cert.quiescent_BOutRefIdeal :=
  fun m ρ _ => (θ_run BOutRefIdeal.defs _ _).mono (fun r h => ⟨fun c => (h c).2,
    sem_eq_zero_of_no_sems (by decide) r.2⟩) (BOutRefIdeal.Value.run m ρ)

end Cert.Products.BOut

end
-- ==== Proof.Products.AIn.lean ====
/- The attention mixer's first product with its bias, `h @ w1 + b1`. -/
module

public import proofs.«01_k».proof.Defs
public import proofs.«01_k».proof.Proof.Gen.AInIdeal.Value
public import proofs.«01_k».proof.Proof.Gen.AInRefIdeal.Run
public import proofs.«01_k».proof.Proof.Gen.AInRefIdeal.Read
public import proofs.«01_k».proof.Proof.Products.Sums

@[expose] public section

set_option maxRecDepth 16384

noncomputable section

namespace Cert.Products.AIn

open Cert.AInIdeal Cert.AInIdeal.Gen Idealize.ShloMosaic Idealize.ShloMosaic.TcCoe Idealize.SL.Sem Cert.Entry

/-! ## What one step computes -/

/-- The product of the two blocks plus the bias, entry by entry. -/
theorem pay1 (x0 : Vec Ideal S1024x2048 .bf16) (x1 : Vec Ideal S2048x2048 .bf16) (x2 : Vec Ideal S1x2048 .f32) (y : S1024x2048.Idx) :
    k0_pay1 (F := Ideal) x0 x1 x2 y = dot (at2 x0 ((y 0).val)) (fun j => at2 x1 j ((y 1).val)) 2048 + at2 x2 0 (y 1).val := by
  unfold_payloads
  pointwise [shapeCast_self, eq_at2 x0, eq_at2 x1, eq_at2 x2]
  exact congrArg₂ (· + ·) (sum_fin_eq_dot (at2 x0 ((y 0).val)) (fun j => at2 x1 j ((y 1).val)) 2048) rfl

/-! ## The arguments and their blocks -/

variable (m : (ℓ : Loc nD τ sig) → Buf (Elt Ideal) ℓ) (c : Dev nD)

/-- The arguments as launched. -/
abbrev argA : Vec Ideal S4096x2048 .bf16 := m ((c : Thread nD τ).loc main_arg0)
abbrev argB : Vec Ideal S2048x4096 .bf16 := m ((c : Thread nD τ).loc main_arg1)
abbrev argC : Vec Ideal S1x4096 .f32 := m ((c : Thread nD τ).loc main_arg2)

theorem index0 : ∀ t : Fin cfg0.N, win0_0.index t 0 = t.val / 2 ∧ win0_0.index t 1 = t.val % 1 :=
  (by decide +kernel : ∀ t : Fin grid0.N, win0_0.index t 0 = t.val / 2 ∧ win0_0.index t 1 = t.val % 1)
theorem index1 : ∀ t : Fin cfg0.N, win0_1.index t 0 = t.val % 1 ∧ win0_1.index t 1 = t.val / 1 % 2 :=
  (by decide +kernel : ∀ t : Fin grid0.N, win0_1.index t 0 = t.val % 1 ∧ win0_1.index t 1 = t.val / 1 % 2)
theorem index2 : ∀ t : Fin cfg0.N, win0_2.index t 0 = 0 ∧ win0_2.index t 1 = t.val / 1 % 2 :=
  (by decide +kernel : ∀ t : Fin grid0.N, win0_2.index t 0 = 0 ∧ win0_2.index t 1 = t.val / 1 % 2)
theorem index3 : ∀ t : Fin cfg0.N, win0_3.index t 0 = t.val / 2 ∧ win0_3.index t 1 = t.val / 1 % 2 :=
  (by decide +kernel : ∀ t : Fin grid0.N, win0_3.index t 0 = t.val / 2 ∧ win0_3.index t 1 = t.val / 1 % 2)

theorem blk0 (t : Fin cfg0.N) {r k : ℕ} (hr : r < 1024) (hk : k < 2048) :
    at2 (iblk m c 0 t : Vec Ideal S1024x2048 .bf16) r k = at2 (argA m c) (1024 * (t.val / 2) + r) (2048 * (t.val % 1) + k) := by
  refine (at2_of_lt (iblk m c 0 t : Vec Ideal S1024x2048 .bf16) hr hk).trans (eq_at2_of (argA m c) _ ?_ ?_)
  · show win0_0.index t 0 * 1024 + 1 * r = _
    rw [(index0 t).1]; omega
  · show win0_0.index t 1 * 2048 + 1 * k = _
    rw [(index0 t).2]; omega

theorem blk1 (t : Fin cfg0.N) {r k : ℕ} (hr : r < 2048) (hk : k < 2048) :
    at2 (iblk m c 1 t : Vec Ideal S2048x2048 .bf16) r k = at2 (argB m c) (2048 * (t.val % 1) + r) (2048 * (t.val / 1 % 2) + k) := by
  refine (at2_of_lt (iblk m c 1 t : Vec Ideal S2048x2048 .bf16) hr hk).trans (eq_at2_of (argB m c) _ ?_ ?_)
  · show win0_1.index t 0 * 2048 + 1 * r = _
    rw [(index1 t).1]; omega
  · show win0_1.index t 1 * 2048 + 1 * k = _
    rw [(index1 t).2]; omega

theorem blk2 (t : Fin cfg0.N) {r k : ℕ} (hr : r < 1) (hk : k < 2048) :
    at2 (iblk m c 2 t : Vec Ideal S1x2048 .f32) r k = at2 (argC m c) (r) (2048 * (t.val / 1 % 2) + k) := by
  refine (at2_of_lt (iblk m c 2 t : Vec Ideal S1x2048 .f32) hr hk).trans (eq_at2_of (argC m c) _ ?_ ?_)
  · show win0_2.index t 0 * 1 + 1 * r = _
    rw [(index2 t).1]; omega
  · show win0_2.index t 1 * 2048 + 1 * k = _
    rw [(index2 t).2]; omega

/-! ## The sums -/

/-- The inner product of the contracted axis, as far as its first `n` entries, for entry `(r, k)` of the product. -/
def upTo (A : Vec Ideal S4096x2048 .bf16) (B : Vec Ideal S2048x4096 .bf16) (n r k : ℕ) : EReal := dot (at2 A (r)) (fun j => at2 B j (k)) n

/-- What the step at point `t` adds to the terms before it. -/
theorem step (t : Fin cfg0.N) {r k : ℕ} (hr : r < 1024) (hk : k < 2048) :
    upTo (argA m c) (argB m c) (2048 * (t.val % 1)) (1024 * (t.val / 2) + r) (2048 * (t.val / 1 % 2) + k)
        + dot (at2 (iblk m c 0 t : Vec Ideal S1024x2048 .bf16) (r)) (fun j => at2 (iblk m c 1 t : Vec Ideal S2048x2048 .bf16) j (k)) 2048
      = upTo (argA m c) (argB m c) (2048 * (t.val % 1 + 1)) (1024 * (t.val / 2) + r) (2048 * (t.val / 1 % 2) + k) := by
  unfold upTo
  rw [Nat.mul_add_one, ← dot_add]
  exact congrArg _ (dot_congr (fun j hj => blk0 m c t hr hj) (fun j hj => blk1 m c t hj hk))

/-- The result's entry `(r, k)`. -/
def entry (A : Vec Ideal S4096x2048 .bf16) (B : Vec Ideal S2048x4096 .bf16) (b : Vec Ideal S1x4096 .f32) (r k : ℕ) : EReal := upTo A B 2048 r k + at2 b 0 k

/-! ## What the points leave -/

/-- A point writes its block whole. -/
theorem out3_eq (x0 : Vec Ideal S1024x2048 .bf16) (x1 : Vec Ideal S2048x2048 .bf16) (x2 : Vec Ideal S1x2048 .f32) : out0_3 (F := Ideal) x0 x1 x2 = k0_pay1 (F := Ideal) x0 x1 x2 := by
  unfold out0_3
  rw [View.canon_unit_zero zero2]
  rw [View.ld_unit_zero (S := S1024x2048) zero2, View.ld_unit_zero (S := S2048x2048) zero2, View.ld_unit_zero (S := S1x2048) zero2]

/-- What a point leaves for the result. -/
theorem written (t : Fin cfg0.N) (y : S1024x2048.Idx) : out0_3 (F := Ideal) (iblk m c 0 t) (iblk m c 1 t) (iblk m c 2 t) y
    = entry (argA m c) (argB m c) (argC m c) (1024 * (t.val / 2) + (y 0).val) (2048 * (t.val / 1 % 2) + (y 1).val) := by
  have e0 : (y 0).val < 1024 := (y 0).isLt
  have e1 : (y 1).val < 2048 := (y 1).isLt
  have h := step m c t e0 e1
  rw [upTo, show t.val % 1 = 0 from Nat.mod_one _, Nat.mul_zero, dot_zero, zero_add] at h
  rw [out3_eq, pay1]
  exact congrArg₂ (· + ·) h (blk2 m c t Nat.one_pos e1)

/-! ## The result array -/

/-- The result array after the run. -/
theorem final3 : (dats m 0 c).arrAt 3 cfg0.N = fun y : S4096x4096.Idx => entry (argA m c) (argB m c) (argC m c) (y 0).val (y 1).val := by
  refine (dats m 0 c).arrAt_eq_of_cover 3 _ (fun t hf => ?_) fun (y : S4096x4096.Idx) => ?_
  · have hN : t.val < 8 := t.isLt
    rw [Cert.AInIdeal.Value.flushed3]
    funext x
    refine (written m c t _).trans ?_
    rw [View.read_apply]
    refine congrArg₂ (entry (argA m c) (argB m c) (argC m c)) ?_ ?_
    · show 1024 * (t.val / 2) + (x 0).val = win0_3.index t 0 * 1024 + 1 * (x 0).val
      rw [(index3 t).1]; omega
    · show 2048 * (t.val / 1 % 2) + (x 1).val = win0_3.index t 1 * 2048 + 1 * (x 1).val
      rw [(index3 t).2]; omega
  · have h0 : (y 0).val < 4096 := (y 0).isLt
    have h1 : (y 1).val < 4096 := (y 1).isLt
    obtain ⟨t, ht⟩ : ∃ t : Fin cfg0.N, t.val = 2 * ((y 0).val / 1024) + 1 * ((y 1).val / 2048) + 0 :=
      ⟨⟨2 * ((y 0).val / 1024) + 1 * ((y 1).val / 2048) + 0, show 2 * ((y 0).val / 1024) + 1 * ((y 1).val / 2048) + 0 < 8 by omega⟩, rfl⟩
    refine ⟨t, flush0_3 _, ?_⟩
    show y ∈ ((View.whole main_v0).slice (win0_3.rect t)).set
    rw [View.set_slice_whole, Rect.mem_set_unit]
    intro a
    match a with
    | ⟨0, _⟩ =>
      show win0_3.index t 0 * 1024 ≤ (y 0).val ∧ (y 0).val < win0_3.index t 0 * 1024 + 1024
      rw [(index3 t).1]; omega
    | ⟨1, _⟩ =>
      show win0_3.index t 1 * 2048 ≤ (y 1).val ∧ (y 1).val < win0_3.index t 1 * 2048 + 2048
      rw [(index3 t).2]; omega

/-! ## The reference -/

/-- The reference's product, entry by entry. -/
theorem refDot (x0 : Vec Ideal S4096x2048 .bf16) (x1 : Vec Ideal S2048x4096 .bf16) (y : S4096x4096.Idx) :
    AInRefIdeal.Read.val_main_v2 (F := Ideal) x0 x1 y = upTo x0 x1 2048 (y 0).val (y 1).val := by
  rw [AInRefIdeal.Read.val_main_v2_apply]
  exact sum_eq_dot (at2 x0 ((y 0).val)) (fun j => at2 x1 j ((y 1).val)) (fun k =>
    congrArg₂ (· * ·) (eq_at2 x0 (AInRefIdeal.Read.lidx_main_v2 y k)) (eq_at2 x1 (AInRefIdeal.Read.ridx_main_v2 y k)))

/-- The reference's result, entry by entry. -/
theorem refEntry (x0 : Vec Ideal S4096x2048 .bf16) (x1 : Vec Ideal S2048x4096 .bf16) (x2 : Vec Ideal S1x4096 .f32) (y : S4096x4096.Idx) :
    AInRefIdeal.Read.val_main_v4 (F := Ideal) x0 x1 x2 y = entry x0 x1 x2 (y 0).val (y 1).val := by
  rw [AInRefIdeal.Read.val_main_v4_apply, refDot, AInRefIdeal.Read.val_main_v3_apply]
  exact congrArg (_ + ·) (eq_at2 x2 _)

/-- The two results are equal entry by entry. -/
theorem algebraic : Cert.algebraic_AInIdeal_AInRefIdeal :=
  fun m ρ m' ρ' _ hag => by
    refine ⟨fun c => (fun y : S4096x4096.Idx => entry (argA m c) (argB m c) (argC m c) (y 0).val (y 1).val),
      (θ_run AInIdeal.defs _ _).mono (fun _ h c => ⟨(h c).1.trans (final3 m c), (h c).2⟩) (AInIdeal.Value.run_blocks m ρ),
      (θ_run AInRefIdeal.defs _ _).mono (fun _ h c => ?_) (AInRefIdeal.Value.run m' ρ')⟩
    exact ⟨(h c).1.trans ((funext fun y => refEntry (m' ((c : Thread AInRefIdeal.nD AInRefIdeal.τ).loc AInRefIdeal.main_arg0)) (m' ((c : Thread AInRefIdeal.nD AInRefIdeal.τ).loc AInRefIdeal.main_arg1)) (m' ((c : Thread AInRefIdeal.nD AInRefIdeal.τ).loc AInRefIdeal.main_arg2)) y).trans (by rw [(hag c).1, (hag c).2.1, (hag c).2.2])),
      (h c).2⟩

/-- The reference runs and leaves its arguments alone; it declares no semaphore. -/
theorem referenceFrame : Cert.quiescent_AInRefIdeal :=
  fun m ρ _ => (θ_run AInRefIdeal.defs _ _).mono (fun r h => ⟨fun c => (h c).2,
    sem_eq_zero_of_no_sems (by decide) r.2⟩) (AInRefIdeal.Value.run m ρ)

end Cert.Products.AIn

end
-- ==== Proof.Products.AOut.lean ====
/- The attention mixer's last product with its bias, `q @ w2 + b2`, the weight as its devices' blocks of rows. -/
module

public import proofs.«01_k».proof.Defs
public import proofs.«01_k».proof.Proof.Gen.AOutIdeal.Value
public import proofs.«01_k».proof.Proof.Gen.AOutRefIdeal.Run
public import proofs.«01_k».proof.Proof.Gen.AOutRefIdeal.Read
public import proofs.«01_k».proof.Proof.Products.Sums

@[expose] public section

set_option maxRecDepth 16384

noncomputable section

namespace Cert.Products.AOut

open Cert.AOutIdeal Cert.AOutIdeal.Gen Idealize.ShloMosaic Idealize.ShloMosaic.TcCoe Idealize.SL.Sem Cert.Entry

/-! ## What one step computes -/

/-- The product of the two blocks plus the bias, entry by entry. -/
theorem pay1 (x0 : Vec Ideal S512x2048 .bf16) (x1 : Vec Ideal S2048x2048 .bf16) (x2 : Vec Ideal S1x2048 .f32) (y : S512x2048.Idx) :
    k0_pay1 (F := Ideal) x0 x1 x2 y = dot (at2 x0 ((y 0).val)) (fun j => at2 x1 j ((y 1).val)) 2048 + at2 x2 0 (y 1).val := by
  unfold_payloads
  pointwise [shapeCast_self, eq_at2 x0, eq_at2 x1, eq_at2 x2]
  exact congrArg₂ (· + ·) (sum_fin_eq_dot (at2 x0 ((y 0).val)) (fun j => at2 x1 j ((y 1).val)) 2048) rfl

/-! ## The arguments and their blocks -/

variable (m : (ℓ : Loc nD τ sig) → Buf (Elt Ideal) ℓ) (c : Dev nD)

/-- The arguments as launched, the weight in one piece. -/
abbrev argA : Vec Ideal S4096x2048 .bf16 := m ((c : Thread nD τ).loc main_arg0)
abbrev argB : Vec Ideal S2048x2048 .bf16 := shapeCast (s := S8x256x2048) S2048x2048 (m ((c : Thread nD τ).loc main_arg1)) shapeCasts_S8x256x2048_S2048x2048
abbrev argC : Vec Ideal S1x2048 .f32 := m ((c : Thread nD τ).loc main_arg2)

/-- The region finds the weight's array as the host laid it out. -/
theorem weight : V m c main_v0 = argB m c := by
  unfold V hostOps0
  rw [StableHlo.after_cons, StableHlo.after_nil, StableHlo.reshape_result]
  rfl

theorem index0 : ∀ t : Fin cfg0.N, win0_0.index t 0 = t.val / 1 ∧ win0_0.index t 1 = t.val % 1 :=
  (by decide +kernel : ∀ t : Fin grid0.N, win0_0.index t 0 = t.val / 1 ∧ win0_0.index t 1 = t.val % 1)
theorem index1 : ∀ t : Fin cfg0.N, win0_1.index t 0 = t.val % 1 ∧ win0_1.index t 1 = t.val / 1 % 1 :=
  (by decide +kernel : ∀ t : Fin grid0.N, win0_1.index t 0 = t.val % 1 ∧ win0_1.index t 1 = t.val / 1 % 1)
theorem index2 : ∀ t : Fin cfg0.N, win0_2.index t 0 = 0 ∧ win0_2.index t 1 = t.val / 1 % 1 :=
  (by decide +kernel : ∀ t : Fin grid0.N, win0_2.index t 0 = 0 ∧ win0_2.index t 1 = t.val / 1 % 1)
theorem index3 : ∀ t : Fin cfg0.N, win0_3.index t 0 = t.val / 1 ∧ win0_3.index t 1 = t.val / 1 % 1 :=
  (by decide +kernel : ∀ t : Fin grid0.N, win0_3.index t 0 = t.val / 1 ∧ win0_3.index t 1 = t.val / 1 % 1)

theorem blk0 (t : Fin cfg0.N) {r k : ℕ} (hr : r < 512) (hk : k < 2048) :
    at2 (iblk m c 0 t : Vec Ideal S512x2048 .bf16) r k = at2 (argA m c) (512 * (t.val / 1) + r) (2048 * (t.val % 1) + k) := by
  refine (at2_of_lt (iblk m c 0 t : Vec Ideal S512x2048 .bf16) hr hk).trans (eq_at2_of (argA m c) _ ?_ ?_)
  · show win0_0.index t 0 * 512 + 1 * r = _
    rw [(index0 t).1]; omega
  · show win0_0.index t 1 * 2048 + 1 * k = _
    rw [(index0 t).2]; omega

theorem blk1 (t : Fin cfg0.N) {r k : ℕ} (hr : r < 2048) (hk : k < 2048) :
    at2 (iblk m c 1 t : Vec Ideal S2048x2048 .bf16) r k = at2 (argB m c) (2048 * (t.val % 1) + r) (2048 * (t.val / 1 % 1) + k) := by
  rw [← weight m c]
  refine (at2_of_lt (iblk m c 1 t : Vec Ideal S2048x2048 .bf16) hr hk).trans (eq_at2_of (V m c main_v0 : Vec Ideal S2048x2048 .bf16) _ ?_ ?_)
  · show win0_1.index t 0 * 2048 + 1 * r = _
    rw [(index1 t).1]; omega
  · show win0_1.index t 1 * 2048 + 1 * k = _
    rw [(index1 t).2]; omega

theorem blk2 (t : Fin cfg0.N) {r k : ℕ} (hr : r < 1) (hk : k < 2048) :
    at2 (iblk m c 2 t : Vec Ideal S1x2048 .f32) r k = at2 (argC m c) (r) (2048 * (t.val / 1 % 1) + k) := by
  refine (at2_of_lt (iblk m c 2 t : Vec Ideal S1x2048 .f32) hr hk).trans (eq_at2_of (argC m c) _ ?_ ?_)
  · show win0_2.index t 0 * 1 + 1 * r = _
    rw [(index2 t).1]; omega
  · show win0_2.index t 1 * 2048 + 1 * k = _
    rw [(index2 t).2]; omega

/-! ## The sums -/

/-- The inner product of the contracted axis, as far as its first `n` entries, for entry `(r, k)` of the product. -/
def upTo (A : Vec Ideal S4096x2048 .bf16) (B : Vec Ideal S2048x2048 .bf16) (n r k : ℕ) : EReal := dot (at2 A (r)) (fun j => at2 B j (k)) n

/-- What the step at point `t` adds to the terms before it. -/
theorem step (t : Fin cfg0.N) {r k : ℕ} (hr : r < 512) (hk : k < 2048) :
    upTo (argA m c) (argB m c) (2048 * (t.val % 1)) (512 * (t.val / 1) + r) (2048 * (t.val / 1 % 1) + k)
        + dot (at2 (iblk m c 0 t : Vec Ideal S512x2048 .bf16) (r)) (fun j => at2 (iblk m c 1 t : Vec Ideal S2048x2048 .bf16) j (k)) 2048
      = upTo (argA m c) (argB m c) (2048 * (t.val % 1 + 1)) (512 * (t.val / 1) + r) (2048 * (t.val / 1 % 1) + k) := by
  unfold upTo
  rw [Nat.mul_add_one, ← dot_add]
  exact congrArg _ (dot_congr (fun j hj => blk0 m c t hr hj) (fun j hj => blk1 m c t hj hk))

/-- The result's entry `(r, k)`. -/
def entry (A : Vec Ideal S4096x2048 .bf16) (B : Vec Ideal S2048x2048 .bf16) (b : Vec Ideal S1x2048 .f32) (r k : ℕ) : EReal := upTo A B 2048 r k + at2 b 0 k

/-! ## What the points leave -/

/-- A point writes its block whole. -/
theorem out3_eq (x0 : Vec Ideal S512x2048 .bf16) (x1 : Vec Ideal S2048x2048 .bf16) (x2 : Vec Ideal S1x2048 .f32) : out0_3 (F := Ideal) x0 x1 x2 = k0_pay1 (F := Ideal) x0 x1 x2 := by
  unfold out0_3
  rw [View.canon_unit_zero zero2]
  rw [View.ld_unit_zero (S := S512x2048) zero2, View.ld_unit_zero (S := S2048x2048) zero2, View.ld_unit_zero (S := S1x2048) zero2]

/-- What a point leaves for the result. -/
theorem written (t : Fin cfg0.N) (y : S512x2048.Idx) : out0_3 (F := Ideal) (iblk m c 0 t) (iblk m c 1 t) (iblk m c 2 t) y
    = entry (argA m c) (argB m c) (argC m c) (512 * (t.val / 1) + (y 0).val) (2048 * (t.val / 1 % 1) + (y 1).val) := by
  have e0 : (y 0).val < 512 := (y 0).isLt
  have e1 : (y 1).val < 2048 := (y 1).isLt
  have h := step m c t e0 e1
  rw [upTo, show t.val % 1 = 0 from Nat.mod_one _, Nat.mul_zero, dot_zero, zero_add] at h
  rw [out3_eq, pay1]
  exact congrArg₂ (· + ·) h (blk2 m c t Nat.one_pos e1)

/-! ## The result array -/

/-- The result array after the run. -/
theorem final3 : (dats m 0 c).arrAt 3 cfg0.N = fun y : S4096x2048.Idx => entry (argA m c) (argB m c) (argC m c) (y 0).val (y 1).val := by
  refine (dats m 0 c).arrAt_eq_of_cover 3 _ (fun t hf => ?_) fun (y : S4096x2048.Idx) => ?_
  · have hN : t.val < 8 := t.isLt
    rw [Cert.AOutIdeal.Value.flushed3]
    funext x
    refine (written m c t _).trans ?_
    rw [View.read_apply]
    refine congrArg₂ (entry (argA m c) (argB m c) (argC m c)) ?_ ?_
    · show 512 * (t.val / 1) + (x 0).val = win0_3.index t 0 * 512 + 1 * (x 0).val
      rw [(index3 t).1]; omega
    · show 2048 * (t.val / 1 % 1) + (x 1).val = win0_3.index t 1 * 2048 + 1 * (x 1).val
      rw [(index3 t).2]; omega
  · have h0 : (y 0).val < 4096 := (y 0).isLt
    have h1 : (y 1).val < 2048 := (y 1).isLt
    obtain ⟨t, ht⟩ : ∃ t : Fin cfg0.N, t.val = 1 * ((y 0).val / 512) + 1 * ((y 1).val / 2048) + 0 :=
      ⟨⟨1 * ((y 0).val / 512) + 1 * ((y 1).val / 2048) + 0, show 1 * ((y 0).val / 512) + 1 * ((y 1).val / 2048) + 0 < 8 by omega⟩, rfl⟩
    refine ⟨t, flush0_3 _, ?_⟩
    show y ∈ ((View.whole main_v1).slice (win0_3.rect t)).set
    rw [View.set_slice_whole, Rect.mem_set_unit]
    intro a
    match a with
    | ⟨0, _⟩ =>
      show win0_3.index t 0 * 512 ≤ (y 0).val ∧ (y 0).val < win0_3.index t 0 * 512 + 512
      rw [(index3 t).1]; omega
    | ⟨1, _⟩ =>
      show win0_3.index t 1 * 2048 ≤ (y 1).val ∧ (y 1).val < win0_3.index t 1 * 2048 + 2048
      rw [(index3 t).2]; omega

/-! ## The reference -/

/-- The reference's product, entry by entry. -/
theorem refDot (x0 : Vec Ideal S4096x2048 .bf16) (x1 : Vec Ideal S8x256x2048 .bf16) (y : S4096x2048.Idx) :
    AOutRefIdeal.Read.val_main_v3 (F := Ideal) x0 x1 y = upTo x0 (shapeCast (s := S8x256x2048) S2048x2048 x1 shapeCasts_S8x256x2048_S2048x2048) 2048 (y 0).val (y 1).val := by
  rw [AOutRefIdeal.Read.val_main_v3_apply]
  exact sum_eq_dot (at2 x0 ((y 0).val)) (fun j => at2 (shapeCast (s := S8x256x2048) S2048x2048 x1 shapeCasts_S8x256x2048_S2048x2048) j ((y 1).val)) (fun k =>
    congrArg₂ (· * ·) (eq_at2 x0 (AOutRefIdeal.Read.lidx_main_v3 y k)) (eq_at2 (shapeCast (s := S8x256x2048) S2048x2048 x1 shapeCasts_S8x256x2048_S2048x2048) (AOutRefIdeal.Read.ridx_main_v3 y k)))

/-- The reference's result, entry by entry. -/
theorem refEntry (x0 : Vec Ideal S4096x2048 .bf16) (x1 : Vec Ideal S8x256x2048 .bf16) (x2 : Vec Ideal S1x2048 .f32) (y : S4096x2048.Idx) :
    AOutRefIdeal.Read.val_main_v5 (F := Ideal) x0 x1 x2 y = entry x0 (shapeCast (s := S8x256x2048) S2048x2048 x1 shapeCasts_S8x256x2048_S2048x2048) x2 (y 0).val (y 1).val := by
  rw [AOutRefIdeal.Read.val_main_v5_apply, refDot, AOutRefIdeal.Read.val_main_v4_apply]
  exact congrArg (_ + ·) (eq_at2 x2 _)

/-- The two results are equal entry by entry. -/
theorem algebraic : Cert.algebraic_AOutIdeal_AOutRefIdeal :=
  fun m ρ m' ρ' _ hag => by
    refine ⟨fun c => (fun y : S4096x2048.Idx => entry (argA m c) (argB m c) (argC m c) (y 0).val (y 1).val),
      (θ_run AOutIdeal.defs _ _).mono (fun _ h c => ⟨(h c).1.trans (final3 m c), (h c).2⟩) (AOutIdeal.Value.run_blocks m ρ),
      (θ_run AOutRefIdeal.defs _ _).mono (fun _ h c => ?_) (AOutRefIdeal.Value.run m' ρ')⟩
    exact ⟨(h c).1.trans ((funext fun y => refEntry (m' ((c : Thread AOutRefIdeal.nD AOutRefIdeal.τ).loc AOutRefIdeal.main_arg0)) (m' ((c : Thread AOutRefIdeal.nD AOutRefIdeal.τ).loc AOutRefIdeal.main_arg1)) (m' ((c : Thread AOutRefIdeal.nD AOutRefIdeal.τ).loc AOutRefIdeal.main_arg2)) y).trans (by rw [(hag c).1, (hag c).2.1, (hag c).2.2])),
      (h c).2⟩

/-- The reference runs and leaves its arguments alone; it declares no semaphore. -/
theorem referenceFrame : Cert.quiescent_AOutRefIdeal :=
  fun m ρ _ => (θ_run AOutRefIdeal.defs _ _).mono (fun r h => ⟨fun c => (h c).2,
    sem_eq_zero_of_no_sems (by decide) r.2⟩) (AOutRefIdeal.Value.run m ρ)

end Cert.Products.AOut

end
-- ==== Proof.Norms.Rms.lean ====
/- The root-mean-square norm of a row of 2048 extended reals and its gradient: the form the kernels
   compute and the form the chain rule gives are the same extended real, at infinities too. -/
module

public import Idealize.ShloMosaic.Lib.Pointwise
public import Idealize.ShloMosaic.Lib.IdealHost

@[expose] public section

noncomputable section

namespace Cert.Norms

open Idealize.ShloMosaic

/-- The row's length as the programs' constant. -/
abbrev len : EReal := Ideal.ofBits .f32 0x45000000#32

/-- The norm's small summand. -/
abbrev eps : EReal := Ideal.ofBits .f32 0x358637BD#32

/-- Minus a half. -/
abbrev minusHalf : EReal := Ideal.ofBits .f32 0xBF000000#32

theorem len_eq : len = ((2048 : ℝ) : EReal) := by
  simp [len, Ideal.ofBits, Ideal.ieee, -EReal.coe_mul]; norm_num

theorem eps_eq : ∃ e : ℝ, 0 < e ∧ eps = (e : EReal) := by
  refine ⟨_, ?_, rfl⟩
  simp

theorem minusHalf_eq : minusHalf = ((-(1 / 2) : ℝ) : EReal) := by
  simp [minusHalf, Ideal.ofBits, Ideal.ieee, -EReal.coe_mul, -EReal.coe_neg]; norm_num

/-- Division by the row's length is a product with a real. -/
theorem div_len (a : EReal) : Ideal.div a len = a * ((1 / 2048 : ℝ) : EReal) := by
  rw [len_eq, Ideal.div, if_neg (by norm_cast), ← EReal.coe_inv, one_div]

/-- A nonnegative real factor goes into a sum. -/
theorem mul_sum_real {ι : Type} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_mul_add {r : ℝ} (hr : 0 ≤ r) (a b : EReal) : (r : EReal) * (a + b) = r * a + r * b :=
  EReal.left_distrib_of_nonneg_of_ne_top (by exact_mod_cast hr) (EReal.coe_ne_top r) a b

theorem add_self_eq (a : EReal) : a + a = ((2 : ℝ) : EReal) * a := by
  have h : ((2 : ℝ) : EReal) = 1 + 1 := by rw [← EReal.coe_one, ← EReal.coe_add]; norm_num
  rw [h, EReal.right_distrib_of_nonneg zero_le_one zero_le_one, one_mul]

section
variable (x : ℕ → EReal)

/-- The mean square of the row plus the small summand. -/
def var : EReal := Ideal.div (∑ k : Fin 2048, x k.val * x k.val) len + eps

/-- The norm's factor. -/
def inv : EReal := Ideal.rsqrt (var x)

theorem mul_self_nonneg' (a : EReal) : 0 ≤ a * a := by
  induction a with
  | bot => simp
  | top => simp
  | coe a => exact_mod_cast mul_self_nonneg a

/-- Either every entry of the row is finite, and then the factor is a positive real, or the factor is zero. -/
theorem inv_cases :
    (∃ (f : Fin 2048 → ℝ) (r : ℝ), (∀ k : Fin 2048, x k.val = (f k : EReal)) ∧ 0 < r ∧ inv x = (r : EReal)
        ∧ Ideal.div (inv x) (var x) = ((r * r * r : ℝ) : EReal))
      ∨ (inv x = 0 ∧ Ideal.div (inv x) (var x) = 0) := by
  obtain ⟨e, he, hee⟩ := eps_eq
  by_cases hfin : ∀ k : Fin 2048, ∃ a : ℝ, x k.val = (a : EReal)
  · left
    choose f hf using hfin
    have hsum : (∑ k : Fin 2048, x k.val * x k.val) = ((∑ k, f k * f k : ℝ) : EReal) := by
      rw [coe_sum]
      exact Finset.sum_congr rfl fun k _ => by rw [hf k, EReal.coe_mul]
    set v : ℝ := (∑ k, f k * f k) * (1 / 2048) + e with hv
    have hvar : var x = (v : EReal) := by
      rw [var, hsum, div_len, hee, hv, EReal.coe_add, EReal.coe_mul]
    have hpos : 0 < v := by
      have : 0 ≤ ∑ k, f k * f k := Finset.sum_nonneg fun k _ => mul_self_nonneg _
      positivity
    have hinv : inv x = (((Real.sqrt v)⁻¹ : ℝ) : EReal) := by
      rw [inv, hvar, Ideal.rsqrt_coe, if_neg (not_lt.mpr hpos.le), if_neg hpos.ne']
    refine ⟨f, (Real.sqrt v)⁻¹, hf, inv_pos.mpr (Real.sqrt_pos.mpr hpos), hinv, ?_⟩
    rw [hinv, hvar, Ideal.div, if_neg (by exact_mod_cast hpos.ne'), ← EReal.coe_inv, ← EReal.coe_mul]
    congr 1
    have hs : v⁻¹ = (Real.sqrt v)⁻¹ * (Real.sqrt v)⁻¹ := by
      rw [← mul_inv, Real.mul_self_sqrt hpos.le]
    rw [hs]; ring
  · right
    obtain ⟨k, hk⟩ := not_forall.mp hfin
    have hsq : x k.val * x k.val = ⊤ := by
      generalize x k.val = a at hk ⊢
      induction a with
      | bot => simp
      | top => simp
      | coe a => exact absurd ⟨a, rfl⟩ hk
    have hsum : (∑ k : Fin 2048, x k.val * x k.val) = ⊤ := by
      refine top_unique ?_
      rw [← hsq]
      exact Finset.single_le_sum (f := fun k : Fin 2048 => x k.val * x k.val) (fun i _ => mul_self_nonneg' _) (Finset.mem_univ k)
    have hvar : var x = ⊤ := by
      rw [var, hsum, div_len, hee, EReal.top_mul_coe_of_pos (by norm_num), EReal.top_add_coe]
    have hinv : inv x = 0 := by rw [inv, hvar]; rfl
    refine ⟨hinv, ?_⟩
    rw [hinv, hvar, Ideal.div, if_neg (by simp), zero_mul]

variable (d : ℕ → EReal)

/-- The norm's gradient as the kernels compute it: the cotangent `d` less its share along the normed row. -/
def grad (j : ℕ) : EReal :=
  inv x * (d j - (x j * inv x) * Ideal.div (∑ k : Fin 2048, d k.val * (x k.val * inv x)) len)

/-- The factor of the row's own entry in the chain rule's form. -/
def slope : EReal := Ideal.div ((∑ k : Fin 2048, x k.val * d k.val) * (minusHalf * Ideal.div (inv x) (var x))) len

/-- The chain rule's form of the norm's gradient is the kernels'. -/
theorem grad_eq (g : EReal) {j : ℕ} (hj : j < 2048) : ((g + d j * inv x) + x j * slope x d) + slope x d * x j = g + grad x d j := by
  rcases inv_cases x with ⟨f, r, hf, hr, hinv, hdiv⟩ | ⟨hinv, hdiv⟩
  · have hf' : x j = (f ⟨j, hj⟩ : EReal) := hf ⟨j, hj⟩
    have hS : (∑ k : Fin 2048, d k.val * (x k.val * (r : EReal))) = (r : EReal) * ∑ k : Fin 2048, x k.val * d k.val := by
      rw [mul_sum_real _ _ hr.le]
      exact Finset.sum_congr rfl fun k _ => by rw [mul_comm (x k.val) (r : EReal), mul_left_comm, mul_comm (d k.val)]
    set A : EReal := ∑ k : Fin 2048, x k.val * d k.val with hA
    have hslope : x j * slope x d = ((-(1 / 2) * (r * r * r) * (1 / 2048) * f ⟨j, hj⟩ : ℝ) : EReal) * A := by
      rw [slope, hdiv, minusHalf_eq, div_len, hf', ← hA, ← EReal.coe_mul, mul_assoc A, ← EReal.coe_mul, mul_left_comm, ← EReal.coe_mul, mul_comm A]
      congr 2; ring
    have hshare : (r : EReal) * ((x j * (r : EReal)) * Ideal.div ((r : EReal) * A) len) = ((r * (f ⟨j, hj⟩ * r) * (r * (1 / 2048)) : ℝ) : EReal) * A := by
      rw [div_len, hf', mul_comm (r : EReal) A, mul_assoc A, mul_comm A, ← EReal.coe_mul, ← EReal.coe_mul, ← mul_assoc, ← EReal.coe_mul, ← mul_assoc,
        ← EReal.coe_mul]
    rw [mul_comm (slope x d), hslope, grad, hinv, hS, add_assoc, add_assoc, add_self_eq, ← mul_assoc ((2 : ℝ) : EReal), ← EReal.coe_mul,
      sub_eq_add_neg, real_mul_add hr.le, mul_neg, hshare, ← EReal.neg_mul, ← EReal.coe_neg, mul_comm (d j)]
    congr 4; ring
  · have hslope : slope x d = 0 := by rw [slope, hdiv, mul_zero, mul_zero, div_len, zero_mul]
    rw [grad, hslope, hinv, mul_zero, mul_zero, zero_mul, zero_mul, add_zero, add_zero]

end

end Cert.Norms

end
-- ==== Proof.Norms.Rows.lean ====
/- What the norm kernels leave, entry by entry: the gradients of a row and the eight rows of column sums. -/
module

public import proofs.«01_k».proof.Proof.Entry
public import proofs.«01_k».proof.Proof.Norms.Rms

@[expose] public section

noncomputable section

namespace Cert.Norms

open Idealize.ShloMosaic Cert.Entry

section
variable {R : ℕ}

/-- The normed row's entry. -/
def normed (X : (⟨2, ![R, 2048]⟩ : Shape).Idx → EReal) (r k : ℕ) : EReal := at2 X r k * inv (at2 X r)

/-- The modulation's scale applied to the cotangent `D` of a branch's input. -/
def scaled (D : (⟨2, ![R, 2048]⟩ : Shape).Idx → EReal) (S : (⟨2, ![1, 2048]⟩ : Shape).Idx → EReal) (r k : ℕ) : EReal :=
  at2 D r k * (1 + at2 S 0 k)

/-- The trunk's gradient where a branch starts: what comes along the trunk and what comes back through the branch's norm. -/
def trunk (G D X : (⟨2, ![R, 2048]⟩ : Shape).Idx → EReal) (P S : (⟨2, ![1, 2048]⟩ : Shape).Idx → EReal) (r k : ℕ) : EReal :=
  at2 G r k + grad (at2 X r) (fun j => scaled D S r j * at2 P 0 j) k

/-- One row's share of the gradients of the shift, the scale and the norm's weight. -/
def shareIn (D X : (⟨2, ![R, 2048]⟩ : Shape).Idx → EReal) (P S : (⟨2, ![1, 2048]⟩ : Shape).Idx → EReal) (q r k : ℕ) : EReal :=
  if q = 0 then at2 D r k else if q = 1 then at2 D r k * (normed X r k * at2 P 0 k) else if q = 2 then scaled D S r k * normed X r k else 0

variable (g : ℕ → ℕ → EReal)

/-- The gradient `g` of the trunk through a branch's norm, to the branch's output. -/
def branch (Y : (⟨2, ![R, 2048]⟩ : Shape).Idx → EReal) (P T : (⟨2, ![1, 2048]⟩ : Shape).Idx → EReal) (r k : ℕ) : EReal :=
  grad (at2 Y r) (fun j => g r j * at2 T 0 j * at2 P 0 j) k

/-- One row's share of the gradients of the gate, the norm's weight and the branch's bias. -/
def shareOut (Y : (⟨2, ![R, 2048]⟩ : Shape).Idx → EReal) (P T : (⟨2, ![1, 2048]⟩ : Shape).Idx → EReal) (q r k : ℕ) : EReal :=
  if q = 3 then g r k * (normed Y r k * at2 P 0 k) else if q = 4 then g r k * at2 T 0 k * normed Y r k else if q = 5 then branch g Y P T r k else 0

/-- One row's share of the gradients where one branch ends and the next starts. -/
def shareBoth (G D X : (⟨2, ![R, 2048]⟩ : Shape).Idx → EReal) (P S : (⟨2, ![1, 2048]⟩ : Shape).Idx → EReal)
    (Y : (⟨2, ![R, 2048]⟩ : Shape).Idx → EReal) (Q T : (⟨2, ![1, 2048]⟩ : Shape).Idx → EReal) (q r k : ℕ) : EReal :=
  if q < 3 then shareIn D X P S q r k else shareOut (trunk G D X P S) Y Q T q r k

end

/-- A block's row as a row of the array it is a block of. -/
theorem row_eq {R B : ℕ} {x : (⟨2, ![B, 2048]⟩ : Shape).Idx → EReal} {X : (⟨2, ![R, 2048]⟩ : Shape).Idx → EReal} {r s : ℕ} (hr : r < B)
    (h : ∀ k (hk : k < 2048), x (ix2 ⟨r, hr⟩ ⟨k, hk⟩) = at2 X s k) : at2 x r = at2 X s := by
  funext k
  by_cases hk : k < 2048
  · exact (at2_of_lt x hr hk).trans (h k hk)
  · rw [at2, at2, dif_neg fun h' => hk h'.2, dif_neg fun h' => hk h'.2]

/-- What a row gives depends on that row alone: of the trunk's gradient, -/
theorem trunk_congr {R B r s : ℕ} {g d x : (⟨2, ![B, 2048]⟩ : Shape).Idx → EReal} {G D X : (⟨2, ![R, 2048]⟩ : Shape).Idx → EReal}
    {p q P Q : (⟨2, ![1, 2048]⟩ : Shape).Idx → EReal} (hg : at2 g r = at2 G s) (hd : at2 d r = at2 D s) (hx : at2 x r = at2 X s)
    (hp : at2 p 0 = at2 P 0) (hq : at2 q 0 = at2 Q 0) (k : ℕ) : trunk g d x p q r k = trunk G D X P Q s k := by
  simp only [trunk, scaled, hg, hd, hx, hp, hq]

/-- of the gradients where a branch starts, -/
theorem shareIn_congr {R B r s : ℕ} {d x : (⟨2, ![B, 2048]⟩ : Shape).Idx → EReal} {D X : (⟨2, ![R, 2048]⟩ : Shape).Idx → EReal}
    {p q P Q : (⟨2, ![1, 2048]⟩ : Shape).Idx → EReal} (hd : at2 d r = at2 D s) (hx : at2 x r = at2 X s)
    (hp : at2 p 0 = at2 P 0) (hq : at2 q 0 = at2 Q 0) (a k : ℕ) : shareIn d x p q a r k = shareIn D X P Q a s k := by
  simp only [shareIn, normed, scaled, hd, hx, hp, hq]

/-- of the gradient through a branch's norm, -/
theorem branch_congr {R B r s : ℕ} {f F : ℕ → ℕ → EReal} {x : (⟨2, ![B, 2048]⟩ : Shape).Idx → EReal} {X : (⟨2, ![R, 2048]⟩ : Shape).Idx → EReal}
    {p q P Q : (⟨2, ![1, 2048]⟩ : Shape).Idx → EReal} (hf : ∀ k, f r k = F s k) (hx : at2 x r = at2 X s)
    (hp : at2 p 0 = at2 P 0) (hq : at2 q 0 = at2 Q 0) (k : ℕ) : branch f x p q r k = branch F X P Q s k := by
  simp only [branch, hf, hx, hp, hq]

/-- and of the gradients where a branch ends. -/
theorem shareOut_congr {R B r s : ℕ} {f F : ℕ → ℕ → EReal} {x : (⟨2, ![B, 2048]⟩ : Shape).Idx → EReal} {X : (⟨2, ![R, 2048]⟩ : Shape).Idx → EReal}
    {p q P Q : (⟨2, ![1, 2048]⟩ : Shape).Idx → EReal} (hf : ∀ k, f r k = F s k) (hx : at2 x r = at2 X s)
    (hp : at2 p 0 = at2 P 0) (hq : at2 q 0 = at2 Q 0) (a k : ℕ) : shareOut f x p q a r k = shareOut F X P Q a s k := by
  simp only [shareOut, normed, branch_congr hf hx hp hq, hf, hx, hp, hq]

/-- The sum over the first `n` rows of what each row `s` gives row `q` of the sums. -/
def upTo (f : ℕ → ℕ → ℕ → EReal) (n q k : ℕ) : EReal := ∑ s ∈ Finset.range n, f q s k

theorem upTo_zero (f : ℕ → ℕ → ℕ → EReal) (q k : ℕ) : upTo f 0 q k = 0 := rfl

/-- A block of rows more. -/
theorem upTo_add (f : ℕ → ℕ → ℕ → EReal) (n b q k : ℕ) : upTo f (n + b) q k = upTo f n q k + ∑ s : Fin b, f q (n + s.val) k := by
  rw [upTo, Finset.sum_range_add, ← Fin.sum_univ_eq_sum_range (fun s => f q (n + s) k)]
  rfl

theorem sum_fin_eq_upTo (f : ℕ → ℕ → ℕ → EReal) (n q k : ℕ) : ∑ s : Fin n, f q s.val k = upTo f n q k :=
  Fin.sum_univ_eq_sum_range (fun s => f q s k) n

theorem sum_eq_upTo {f : ℕ → ℕ → ℕ → EReal} {n q k : ℕ} {t : Fin n → EReal} (h : ∀ s, t s = f q s.val k) : ∑ s, t s = upTo f n q k :=
  (Finset.sum_congr rfl fun s _ => h s).trans (sum_fin_eq_upTo f n q k)

/-- Rows no row gives anything are zero. -/
theorem upTo_of_zero {f : ℕ → ℕ → ℕ → EReal} {n q k : ℕ} (h : ∀ s, f q s k = 0) : upTo f n q k = 0 :=
  Finset.sum_eq_zero fun s _ => h s

end Cert.Norms

end
-- ==== Proof.Norms.Buffer.lean ====
/- A buffer of eight rows after stores of single rows. -/
module

public import proofs.«01_k».proof.Proof.Entry
public import Idealize.ShloMosaic.Lib.WritesUnit

@[expose] public section

noncomputable section

namespace Cert.Norms

open Idealize.ShloMosaic Cert.Entry

section
variable {sig : RefSig} {κ : Kind} {sp : Space} {N : ℕ} (v : View sig κ sp (⟨2, ![N, 2048]⟩ : Shape) .f32) (f : v.ty.Contents (Elt Ideal))

/-- After a store of row `q` the rows in `P` read as `F`, when the row stored does and the others did. -/
theorem read_row {F : ℕ → ℕ → EReal} {P : ℕ → Prop} {q : ℕ}
    {inb : ∀ a, (![q, 0] : Fin 2 → ℕ) a + (![1, 2048] : Fin 2 → ℕ) a ≤ (⟨2, ![N, 2048]⟩ : Shape).size a}
    {w : (Rect.unit (s := ⟨2, ![N, 2048]⟩) ![q, 0] ![1, 2048] inb).shape.Idx → Elt Ideal .f32}
    {L : List (View.Piece (Elt Ideal) (⟨2, ![N, 2048]⟩ : Shape) .f32)}
    (hw : ∀ x, w x = F q (x 1).val)
    (hL : ∀ y, P (y 0).val ∧ (y 0).val ≠ q → View.read (Elt Ideal) v (v.writes (Elt Ideal) f L) y = F (y 0).val (y 1).val)
    (y : (⟨2, ![N, 2048]⟩ : Shape).Idx) (hy : P (y 0).val) :
    View.read (Elt Ideal) v (v.writes (Elt Ideal) f (⟨Rect.unit (s := ⟨2, ![N, 2048]⟩) ![q, 0] ![1, 2048] inb, w⟩ :: L)) y = F (y 0).val (y 1).val := by
  by_cases h : (y 0).val = q
  · have hk : (y 1).val < 2048 := (y 1).isLt
    refine (View.read_writes_cons_rows_of_mem v f inb w L y (ix2 ⟨0, Nat.one_pos⟩ ⟨(y 1).val, hk⟩) rfl h rfl).trans ((hw _).trans ?_)
    rw [h]
    rfl
  · refine (View.read_writes_cons_rows_of_not_mem v f inb w L y (o := q) (W := 1) rfl rfl ?_).trans (hL y ⟨hy, h⟩)
    omega

end

end Cert.Norms

end
-- ==== Proof.Norms.BwdMid.lean ====
/- The gradients through two branches' norms: what a grid point of the kernel stores. -/
module

public import proofs.«01_k».proof.Proof.Gen.BwdMidIdeal.Value
public import proofs.«01_k».proof.Proof.Norms.Rows
public import proofs.«01_k».proof.Proof.Norms.Buffer
public import proofs.«01_k».proof.Proof.Products.Sums
public import Idealize.ShloMosaic.Lib.WholeRead
public import Idealize.ShloMosaic.Lib.Pipeline.ReadBack

@[expose] public section

set_option maxRecDepth 16384

noncomputable section

namespace Cert.Norms.BwdMid

open Cert.BwdMidIdeal Cert.BwdMidIdeal.Gen Idealize.ShloMosaic Idealize.ShloMosaic.TcCoe Idealize.SL.Sem Cert.Entry Cert.Products

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S8x2048 .f32) (harg11 : arg11.IsWhole)
    (x0 : Vec Ideal S256x2048 .f32) (x1 : Vec Ideal S256x2048 .f32) (x2 : Vec Ideal S256x2048 .f32) (x3 : Vec Ideal S1x2048 .f32) (x4 : Vec Ideal S1x2048 .f32) (x5 : Vec Ideal S256x2048 .f32) (x6 : Vec Ideal S1x2048 .f32) (x7 : Vec Ideal S1x2048 .f32)
    (xo10 : Vec Ideal S8x2048 .f32)

/-- The first point's block of the trunk's gradient, -/
theorem out8_A (hc0 : cond0_0 i) (y : S256x2048.Idx) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 x7 y = trunk x0 x1 x2 x3 x4 (y 0).val (y 1).val := by
  unfold out0_A_8 kernelRun0_A
  dsimp only
  rw [View.read_writes_junk_eq_canon, View.canon_unit_zero zero2]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
  unfold_payloads
  pointwise [shapeCast_self, readAt_unit2]
  rfl

/-- and a later point's. -/
theorem out8_B (hc0 : ¬cond0_0 i) (y : S256x2048.Idx) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo10 y = trunk x0 x1 x2 x3 x4 (y 0).val (y 1).val := by
  unfold out0_B_8 kernelRun0_B
  dsimp only
  rw [View.read_writes_junk_eq_canon, View.canon_unit_zero zero2]
  dsimp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9]
  unfold_payloads
  pointwise [shapeCast_self, readAt_unit2]
  rfl

/-- The first point's block of the branch's gradient, -/
theorem out9_A (hc0 : cond0_0 i) (y : S256x2048.Idx) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 y = branch (trunk x0 x1 x2 x3 x4) x5 x6 x7 (y 0).val (y 1).val := by
  unfold out0_A_9 kernelRun0_A
  dsimp only
  rw [View.read_writes_junk_eq_canon, View.canon_unit_zero zero2]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9]
  unfold_payloads
  pointwise [shapeCast_self, readAt_unit2]
  rfl

/-- and a later point's. -/
theorem out9_B (hc0 : ¬cond0_0 i) (y : S256x2048.Idx) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo10 y = branch (trunk x0 x1 x2 x3 x4) x5 x6 x7 (y 0).val (y 1).val := by
  unfold out0_B_9 kernelRun0_B
  dsimp only
  rw [View.read_writes_junk_eq_canon, View.canon_unit_zero zero2]
  dsimp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9]
  unfold_payloads
  pointwise [shapeCast_self, readAt_unit2]
  rfl

theorem out10_A (hc0 : cond0_0 i) (y : S8x2048.Idx) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 y
      = ∑ s : Fin 256, shareBoth x0 x1 x2 x3 x4 x5 x6 x7 (y 0).val s.val (y 1).val := by
  unfold out0_A_10 kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.v21, kernelRun0_A.sl.v27, kernelRun0_A.sl.v37, kernelRun0_A.sl.v70, kernelRun0_A.sl.v83, kernelRun0_A.sl.v103, kernelRun0_A.sl.H10_1, kernelRun0_A.sl.H10_2, kernelRun0_A.sl.H10_3, kernelRun0_A.sl.H10_4, kernelRun0_A.sl.H10_5, kernelRun0_A.sl.H10_6]
  simp (disch := decide) only [↓View.readCov_skip, ↓View.readCov_cons_toLoadRect, ↓View.readCov_fill]
  refine read_row _ _ (F := fun q k => ∑ s : Fin 256, shareBoth x0 x1 x2 x3 x4 x5 x6 x7 q s.val k) (P := fun q => True) (fun x => ?_) (fun y hy => ?_) y trivial
  · unfold_payloads
    pointwise [shapeCast_self, readAt_unit2]
    rfl
  refine read_row _ _ (F := fun q k => ∑ s : Fin 256, shareBoth x0 x1 x2 x3 x4 x5 x6 x7 q s.val k) (P := fun q => (True) ∧ q ≠ 5) (fun x => ?_) (fun y hy => ?_) y hy
  · unfold_payloads
    pointwise [shapeCast_self, readAt_unit2]
    rfl
  refine read_row _ _ (F := fun q k => ∑ s : Fin 256, shareBoth x0 x1 x2 x3 x4 x5 x6 x7 q s.val k) (P := fun q => ((True) ∧ q ≠ 5) ∧ q ≠ 4) (fun x => ?_) (fun y hy => ?_) y hy
  · unfold_payloads
    pointwise [shapeCast_self, readAt_unit2]
    rfl
  refine read_row _ _ (F := fun q k => ∑ s : Fin 256, shareBoth x0 x1 x2 x3 x4 x5 x6 x7 q s.val k) (P := fun q => (((True) ∧ q ≠ 5) ∧ q ≠ 4) ∧ q ≠ 3) (fun x => ?_) (fun y hy => ?_) y hy
  · unfold_payloads
    pointwise [shapeCast_self, readAt_unit2]
    rfl
  refine read_row _ _ (F := fun q k => ∑ s : Fin 256, shareBoth x0 x1 x2 x3 x4 x5 x6 x7 q s.val k) (P := fun q => ((((True) ∧ q ≠ 5) ∧ q ≠ 4) ∧ q ≠ 3) ∧ q ≠ 2) (fun x => ?_) (fun y hy => ?_) y hy
  · unfold_payloads
    pointwise [shapeCast_self, readAt_unit2]
    rfl
  refine read_row _ _ (F := fun q k => ∑ s : Fin 256, shareBoth x0 x1 x2 x3 x4 x5 x6 x7 q s.val k) (P := fun q => (((((True) ∧ q ≠ 5) ∧ q ≠ 4) ∧ q ≠ 3) ∧ q ≠ 2) ∧ q ≠ 1) (fun x => ?_) (fun y hy => ?_) y hy
  · unfold_payloads
    pointwise [shapeCast_self, readAt_unit2]
    rfl
  · have h0 : ∀ s k, shareBoth x0 x1 x2 x3 x4 x5 x6 x7 (y 0).val s k = 0 := fun s k => by
      rw [shareBoth, if_neg (by omega), shareOut, if_neg (by omega), if_neg (by omega), if_neg (by omega)]
    simp only [h0, Finset.sum_const_zero, add_zero]
    rw [View.read_writes_junk_eq_canon, View.canon_unit_zero zero2]
    unfold_payloads
    pointwise [Ideal.ofBits_zero_f32]

theorem out10_B (hc0 : ¬cond0_0 i) (y : S8x2048.Idx) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 xo10 y
      = at2 xo10 (y 0).val (y 1).val + ∑ s : Fin 256, shareBoth x0 x1 x2 x3 x4 x5 x6 x7 (y 0).val s.val (y 1).val := by
  unfold out0_B_10 kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.v27, kernelRun0_B.sl.v37, kernelRun0_B.sl.v70, kernelRun0_B.sl.v83, kernelRun0_B.sl.v103]
  refine read_row _ _ (F := fun q k => at2 xo10 q k + ∑ s : Fin 256, shareBoth x0 x1 x2 x3 x4 x5 x6 x7 q s.val k) (P := fun q => True) (fun x => ?_) (fun y hy => ?_) y trivial
  · unfold_payloads
    pointwise [shapeCast_self, readAt_unit2]
    rfl
  refine read_row _ _ (F := fun q k => at2 xo10 q k + ∑ s : Fin 256, shareBoth x0 x1 x2 x3 x4 x5 x6 x7 q s.val k) (P := fun q => (True) ∧ q ≠ 5) (fun x => ?_) (fun y hy => ?_) y hy
  · unfold_payloads
    pointwise [shapeCast_self, readAt_unit2]
    rfl
  refine read_row _ _ (F := fun q k => at2 xo10 q k + ∑ s : Fin 256, shareBoth x0 x1 x2 x3 x4 x5 x6 x7 q s.val k) (P := fun q => ((True) ∧ q ≠ 5) ∧ q ≠ 4) (fun x => ?_) (fun y hy => ?_) y hy
  · unfold_payloads
    pointwise [shapeCast_self, readAt_unit2]
    rfl
  refine read_row _ _ (F := fun q k => at2 xo10 q k + ∑ s : Fin 256, shareBoth x0 x1 x2 x3 x4 x5 x6 x7 q s.val k) (P := fun q => (((True) ∧ q ≠ 5) ∧ q ≠ 4) ∧ q ≠ 3) (fun x => ?_) (fun y hy => ?_) y hy
  · unfold_payloads
    pointwise [shapeCast_self, readAt_unit2]
    rfl
  refine read_row _ _ (F := fun q k => at2 xo10 q k + ∑ s : Fin 256, shareBoth x0 x1 x2 x3 x4 x5 x6 x7 q s.val k) (P := fun q => ((((True) ∧ q ≠ 5) ∧ q ≠ 4) ∧ q ≠ 3) ∧ q ≠ 2) (fun x => ?_) (fun y hy => ?_) y hy
  · unfold_payloads
    pointwise [shapeCast_self, readAt_unit2]
    rfl
  refine read_row _ _ (F := fun q k => at2 xo10 q k + ∑ s : Fin 256, shareBoth x0 x1 x2 x3 x4 x5 x6 x7 q s.val k) (P := fun q => (((((True) ∧ q ≠ 5) ∧ q ≠ 4) ∧ q ≠ 3) ∧ q ≠ 2) ∧ q ≠ 1) (fun x => ?_) (fun y hy => ?_) y hy
  · unfold_payloads
    pointwise [shapeCast_self, readAt_unit2]
    rfl
  · have h0 : ∀ s k, shareBoth x0 x1 x2 x3 x4 x5 x6 x7 (y 0).val s k = 0 := fun s k => by
      rw [shareBoth, if_neg (by omega), shareOut, if_neg (by omega), if_neg (by omega), if_neg (by omega)]
    simp only [h0, Finset.sum_const_zero, add_zero]
    exact (congrFun (harg11.read_unread xo10) y).trans (eq_at2 xo10 y)
end

end Cert.Norms.BwdMid

end
-- ==== Proof.Norms.BwdInRef.lean ====
/- The reference of the trunk's first gradient, entry by entry. -/
module

public import proofs.«01_k».proof.Proof.Gen.BwdInRefIdeal.Read
public import proofs.«01_k».proof.Proof.Norms.Rows

@[expose] public section

set_option maxRecDepth 16384

noncomputable section

namespace Cert.Norms.BwdIn.Ref

open Cert.BwdInRefIdeal Cert.BwdInRefIdeal.Gen Cert.BwdInRefIdeal.Read Idealize.ShloMosaic Idealize.ShloMosaic.TcCoe Idealize.SL.Sem
  Idealize.ShloMosaic.StableHlo Cert.Entry

variable (G D X : Vec Ideal S4096x2048 .f32) (P S : Vec Ideal S1x2048 .f32)

theorem v7_eq (y : S4096x1.Idx) : val_main_v7 (F := Ideal) X y = var (at2 X (y 0).val) := by
  unfold val_main_v7 val_main_v5 val_main_v6 val_main_v3 val_main_v4 val_main_cst_1 val_main_cst_2
  pointwise [val_main_v2_apply, val_main_v1_apply, val_main_cst_0_apply, eq_at2 X]
  rfl

theorem v8_eq (y : S4096x1.Idx) : val_main_v8 (F := Ideal) X y = inv (at2 X (y 0).val) := by
  unfold val_main_v8
  pointwise [v7_eq]
  rfl

theorem v13_eq (y : S4096x2048.Idx) : val_main_v13 (F := Ideal) X y = normed X (y 0).val (y 1).val := by
  unfold val_main_v13 val_main_v12
  pointwise [v8_eq, eq_at2 X]
  rfl

theorem v29_eq (y : S4096x2048.Idx) : val_main_v29 (F := Ideal) D S y = scaled D S (y 0).val (y 1).val := by
  unfold val_main_v29 val_main_v28 val_main_v22 val_main_v17 val_main_v16 val_main_cst_4
  pointwise [eq_at2 D, eq_at2 S]
  rfl

theorem v34_eq (y : S4096x2048.Idx) : val_main_v34 (F := Ideal) D P S y = scaled D S (y 0).val (y 1).val * at2 P 0 (y 1).val := by
  unfold val_main_v34 val_main_v33
  pointwise [v29_eq, eq_at2 P]

theorem v44_eq (y : S4096.Idx) : val_main_v44 (F := Ideal) D X P S y
    = slope (at2 X (y 0).val) (fun k => scaled D S (y 0).val k * at2 P 0 k) := by
  rw [val_main_v44_apply]
  unfold val_main_v43 val_main_v42 val_main_v41 val_main_v37 val_main_v11 val_main_v10 val_main_v9 val_main_cst_9 val_main_cst_3 val_main_cst_10
  pointwise [val_main_v36_apply, val_main_v35_apply, val_main_cst_8_apply, v34_eq, v8_eq, v7_eq, eq_at2 X]
  exact Fin.sum_univ_one _

theorem v49_eq (y : S4096x2048.Idx) : val_main_v49 (F := Ideal) G D X P S y = trunk G D X P S (y 0).val (y 1).val := by
  unfold val_main_v49 val_main_v48 val_main_v47 val_main_v46 val_main_v45 val_main_v40 val_main_v39 val_main_v38
  pointwise [v44_eq, v34_eq, v8_eq, eq_at2 X, eq_at2 G]
  exact grad_eq (at2 X (y 0).val) (fun k => scaled D S (y 0).val k * at2 P 0 k) (at2 G (y 0).val (y 1).val) (y 1).isLt

theorem v51_eq (y : S8x2048.Idx) : val_main_v51 (F := Ideal) D X P S y = upTo (shareIn D X P S) 4096 (y 0).val (y 1).val := by
  unfold val_main_v51 val_main_v50 val_main_cst_11 val_main_v24 val_main_v27 val_main_v32
  pointwise [val_main_v23_apply, val_main_v26_apply, val_main_v31_apply, val_main_v25, val_main_v15, val_main_v14, val_main_v22, val_main_v30, val_main_cst_5_apply, val_main_cst_6_apply, val_main_cst_7_apply, v13_eq, v29_eq, eq_at2 D, eq_at2 P]
  split_ifs with h0 h1 h2
  · exact sum_eq_upTo fun s => by rw [shareIn, if_pos (by omega)]
  · exact sum_eq_upTo fun s => by rw [shareIn, if_neg (by omega), if_pos (by omega), mul_comm]
  · exact sum_eq_upTo fun s => by rw [shareIn, if_neg (by omega), if_neg (by omega), if_pos (by omega), mul_comm]
  · exact (upTo_of_zero fun s => by rw [shareIn, if_neg (by omega), if_neg (by omega), if_neg (by omega)]).symm

end Cert.Norms.BwdIn.Ref

end
-- ==== Proof.Norms.BwdMidRef.lean ====
/- The reference of the gradients through two branches' norms, entry by entry. -/
module

public import proofs.«01_k».proof.Proof.Gen.BwdMidRefIdeal.Read
public import proofs.«01_k».proof.Proof.Norms.Rows
public import proofs.«01_k».proof.Proof.Norms.BwdInRef

@[expose] public section

set_option maxRecDepth 16384

noncomputable section

namespace Cert.Norms.BwdMid.Ref

open Cert.BwdMidRefIdeal Cert.BwdMidRefIdeal.Gen Cert.BwdMidRefIdeal.Read Idealize.ShloMosaic Idealize.ShloMosaic.TcCoe Idealize.SL.Sem
  Idealize.ShloMosaic.StableHlo Cert.Entry

variable (G D X : Vec Ideal S4096x2048 .f32) (P S : Vec Ideal S1x2048 .f32) (Y : Vec Ideal S4096x2048 .f32) (Q T : Vec Ideal S1x2048 .f32)

/-- The first branch's part is the same reference's. -/
theorem v13_eq (y : S4096x2048.Idx) : val_main_v13 (F := Ideal) X y = normed X (y 0).val (y 1).val := BwdIn.Ref.v13_eq X y

theorem v29_eq (y : S4096x2048.Idx) : val_main_v29 (F := Ideal) D S y = scaled D S (y 0).val (y 1).val := BwdIn.Ref.v29_eq D S y

theorem v49_eq (y : S4096x2048.Idx) : val_main_v49 (F := Ideal) G D X P S y = trunk G D X P S (y 0).val (y 1).val :=
  BwdIn.Ref.v49_eq G D X P S y

theorem v52_eq (y : S4096x2048.Idx) : val_main_v52 (F := Ideal) Y y = at2 Y (y 0).val (y 1).val := by
  unfold val_main_v52 val_main_v51 val_main_v50 val_main_cst_11
  pointwise [eq_at2 Y]

theorem v59_eq (y : S4096x1.Idx) : val_main_v59 (F := Ideal) Y y = var (at2 Y (y 0).val) := by
  unfold val_main_v59 val_main_v58 val_main_v57 val_main_v56 val_main_v55 val_main_cst_13 val_main_cst_14
  pointwise [val_main_v54_apply, val_main_v53_apply, val_main_cst_12_apply, v52_eq]
  rfl

theorem v60_eq (y : S4096x1.Idx) : val_main_v60 (F := Ideal) Y y = inv (at2 Y (y 0).val) := by
  unfold val_main_v60
  pointwise [v59_eq]
  rfl

theorem v65_eq (y : S4096x2048.Idx) : val_main_v65 (F := Ideal) Y y = normed Y (y 0).val (y 1).val := by
  unfold val_main_v65 val_main_v64
  pointwise [v60_eq, v52_eq]
  rfl

theorem v73_eq (y : S4096x2048.Idx) : val_main_v73 (F := Ideal) G D X P S T y
    = trunk G D X P S (y 0).val (y 1).val * at2 T 0 (y 1).val := by
  unfold val_main_v73 val_main_v72 val_main_v71
  pointwise [v49_eq, eq_at2 T]
  exact mul_comm _ _

theorem v81_eq (y : S4096x2048.Idx) : val_main_v81 (F := Ideal) G D X P S Q T y
    = trunk G D X P S (y 0).val (y 1).val * at2 T 0 (y 1).val * at2 Q 0 (y 1).val := by
  unfold val_main_v81 val_main_v80
  pointwise [v73_eq, eq_at2 Q]

theorem v90_eq (y : S4096.Idx) : val_main_v90 (F := Ideal) G D X P S Y Q T y
    = slope (at2 Y (y 0).val) (fun k => trunk G D X P S (y 0).val k * at2 T 0 k * at2 Q 0 k) := by
  rw [val_main_v90_apply]
  unfold val_main_v89 val_main_v88 val_main_v87 val_main_v84 val_main_v63 val_main_v62 val_main_v61 val_main_cst_15 val_main_cst_19 val_main_cst_20
  pointwise [val_main_v83_apply, val_main_v82_apply, val_main_cst_18_apply, v81_eq, v60_eq, v59_eq, v52_eq]
  exact Fin.sum_univ_one _

theorem v95_eq (y : S4096x2048.Idx) : val_main_v95 (F := Ideal) G D X P S Y Q T y
    = branch (trunk G D X P S) Y Q T (y 0).val (y 1).val := by
  unfold val_main_v95 val_main_v94 val_main_v93 val_main_v92 val_main_v91 val_main_v86 val_main_v85
  pointwise [v90_eq, v81_eq, v60_eq, v52_eq]
  have h := grad_eq (at2 Y (y 0).val) (fun k => trunk G D X P S (y 0).val k * at2 T 0 k * at2 Q 0 k) 0 (y 1).isLt
  rw [zero_add, zero_add] at h
  exact h

theorem v98_eq (y : S4096x2048.Idx) : val_main_v98 (F := Ideal) G D X P S Y Q T y
    = branch (trunk G D X P S) Y Q T (y 0).val (y 1).val := by
  unfold val_main_v98
  pointwise [v95_eq]

/-- A row's share of all six gradients. -/
theorem v100_eq (y : S8x2048.Idx) : val_main_v100 (F := Ideal) G D X P S Y Q T y
    = upTo (shareBoth G D X P S Y Q T) 4096 (y 0).val (y 1).val := by
  unfold val_main_v100 val_main_v99 val_main_cst_22 val_main_v24 val_main_v27 val_main_v32 val_main_v76 val_main_v79 val_main_v97
  pointwise [val_main_v23_apply, val_main_v26_apply, val_main_v31_apply, val_main_v25, val_main_v15, val_main_v14, val_main_v22, val_main_v30,
    val_main_cst_5_apply, val_main_cst_6_apply, val_main_cst_7_apply, v13_eq, v29_eq, eq_at2 D, eq_at2 P,
    val_main_v75_apply, val_main_v78_apply, val_main_v96_apply, val_main_v74, val_main_v77, val_main_v71, val_main_v67, val_main_v66,
    val_main_cst_16_apply, val_main_cst_17_apply, val_main_cst_21_apply, v65_eq, v73_eq, v49_eq, v95_eq, eq_at2 Q]
  split_ifs with h0 h1 h2 h3 h4 h5
  · exact sum_eq_upTo fun s => by rw [show (y 0).val = 0 by omega]; rfl
  · exact sum_eq_upTo fun s => by rw [show (y 0).val = 1 by omega]; exact mul_comm _ _
  · exact sum_eq_upTo fun s => by rw [show (y 0).val = 2 by omega]; exact mul_comm _ _
  · exact sum_eq_upTo fun s => by rw [show (y 0).val = 3 by omega]; rfl
  · exact sum_eq_upTo fun s => by rw [show (y 0).val = 4 by omega]; exact mul_comm _ _
  · exact sum_eq_upTo fun s => by rw [show (y 0).val = 5 by omega]; rfl
  · exact (upTo_of_zero fun s => by rw [shareBoth, if_neg (by omega), shareOut, if_neg (by omega), if_neg (by omega), if_neg (by omega)]).symm

end Cert.Norms.BwdMid.Ref

end
-- ==== Proof.Norms.BwdMidEqual.lean ====
/- The gradients through two branches' norms: the kernel's two arrays, and their equality with the reference's. -/
module

public import proofs.«01_k».proof.Defs
public import proofs.«01_k».proof.Proof.Gen.BwdMidRefIdeal.Run
public import proofs.«01_k».proof.Proof.Norms.BwdMid
public import proofs.«01_k».proof.Proof.Norms.BwdMidRef

@[expose] public section

set_option maxRecDepth 16384

noncomputable section

namespace Cert.Norms.BwdMid

open Idealize.ShloMosaic Idealize.ShloMosaic.TcCoe Idealize.SL.Sem Cert.Entry

section
open Cert.BwdMidIdeal Cert.BwdMidIdeal.Gen

variable (m : (ℓ : Loc nD τ sig) → Buf (Elt Ideal) ℓ) (c : Dev nD)

/-- The arguments as launched. -/
abbrev argG : Vec Ideal S4096x2048 .f32 := m ((c : Thread nD τ).loc main_arg0)
abbrev argD : Vec Ideal S4096x2048 .f32 := m ((c : Thread nD τ).loc main_arg1)
abbrev argX : Vec Ideal S4096x2048 .f32 := m ((c : Thread nD τ).loc main_arg2)
abbrev argP : Vec Ideal S1x2048 .f32 := m ((c : Thread nD τ).loc main_arg3)
abbrev argS : Vec Ideal S1x2048 .f32 := m ((c : Thread nD τ).loc main_arg4)
abbrev argY : Vec Ideal S4096x2048 .f32 := m ((c : Thread nD τ).loc main_arg5)
abbrev argQ : Vec Ideal S1x2048 .f32 := m ((c : Thread nD τ).loc main_arg6)
abbrev argT : Vec Ideal S1x2048 .f32 := m ((c : Thread nD τ).loc main_arg7)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = t.val ∧ win0_8.index t 1 = 0 :=
  (by decide +kernel : ∀ t : Fin grid0.N, win0_8.index t 0 = t.val ∧ win0_8.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)

theorem blk0 (t : Fin cfg0.N) {r : ℕ} (hr : r < 256) :
    at2 (iblk m c 0 t : Vec Ideal S256x2048 .f32) r = at2 (argG m c) (256 * t.val + r) := by
  refine row_eq (x := (iblk m c 0 t : Vec Ideal S256x2048 .f32)) hr fun k hk => eq_at2_of (argG m c) _ ?_ ?_
  · show win0_0.index t 0 * 256 + 1 * r = _
    rw [(index0 t).1]; omega
  · show win0_0.index t 1 * 2048 + 1 * k = _
    rw [(index0 t).2]; omega
theorem blk1 (t : Fin cfg0.N) {r : ℕ} (hr : r < 256) :
    at2 (iblk m c 1 t : Vec Ideal S256x2048 .f32) r = at2 (argD m c) (256 * t.val + r) := by
  refine row_eq (x := (iblk m c 1 t : Vec Ideal S256x2048 .f32)) hr fun k hk => eq_at2_of (argD m c) _ ?_ ?_
  · show win0_1.index t 0 * 256 + 1 * r = _
    rw [(index1 t).1]; omega
  · show win0_1.index t 1 * 2048 + 1 * k = _
    rw [(index1 t).2]; omega
theorem blk2 (t : Fin cfg0.N) {r : ℕ} (hr : r < 256) :
    at2 (iblk m c 2 t : Vec Ideal S256x2048 .f32) r = at2 (argX m c) (256 * t.val + r) := by
  refine row_eq (x := (iblk m c 2 t : Vec Ideal S256x2048 .f32)) hr fun k hk => eq_at2_of (argX m c) _ ?_ ?_
  · show win0_2.index t 0 * 256 + 1 * r = _
    rw [(index2 t).1]; omega
  · show win0_2.index t 1 * 2048 + 1 * k = _
    rw [(index2 t).2]; omega
theorem blk3 (t : Fin cfg0.N) : at2 (iblk m c 3 t : Vec Ideal S1x2048 .f32) 0 = at2 (argP m c) 0 := by
  refine row_eq (x := (iblk m c 3 t : Vec Ideal S1x2048 .f32)) Nat.one_pos fun k hk => eq_at2_of (argP m c) _ ?_ ?_
  · show win0_3.index t 0 * 1 + 1 * 0 = _
    rw [(index3 t).1]
  · show win0_3.index t 1 * 2048 + 1 * k = _
    rw [(index3 t).2]; omega
theorem blk4 (t : Fin cfg0.N) : at2 (iblk m c 4 t : Vec Ideal S1x2048 .f32) 0 = at2 (argS m c) 0 := by
  refine row_eq (x := (iblk m c 4 t : Vec Ideal S1x2048 .f32)) Nat.one_pos fun k hk => eq_at2_of (argS m c) _ ?_ ?_
  · show win0_4.index t 0 * 1 + 1 * 0 = _
    rw [(index4 t).1]
  · show win0_4.index t 1 * 2048 + 1 * k = _
    rw [(index4 t).2]; omega
theorem blk5 (t : Fin cfg0.N) {r : ℕ} (hr : r < 256) :
    at2 (iblk m c 5 t : Vec Ideal S256x2048 .f32) r = at2 (argY m c) (256 * t.val + r) := by
  refine row_eq (x := (iblk m c 5 t : Vec Ideal S256x2048 .f32)) hr fun k hk => eq_at2_of (argY m c) _ ?_ ?_
  · show win0_5.index t 0 * 256 + 1 * r = _
    rw [(index5 t).1]; omega
  · show win0_5.index t 1 * 2048 + 1 * k = _
    rw [(index5 t).2]; omega
theorem blk6 (t : Fin cfg0.N) : at2 (iblk m c 6 t : Vec Ideal S1x2048 .f32) 0 = at2 (argQ m c) 0 := by
  refine row_eq (x := (iblk m c 6 t : Vec Ideal S1x2048 .f32)) Nat.one_pos fun k hk => eq_at2_of (argQ m c) _ ?_ ?_
  · show win0_6.index t 0 * 1 + 1 * 0 = _
    rw [(index6 t).1]
  · show win0_6.index t 1 * 2048 + 1 * k = _
    rw [(index6 t).2]; omega
theorem blk7 (t : Fin cfg0.N) : at2 (iblk m c 7 t : Vec Ideal S1x2048 .f32) 0 = at2 (argT m c) 0 := by
  refine row_eq (x := (iblk m c 7 t : Vec Ideal S1x2048 .f32)) Nat.one_pos fun k hk => eq_at2_of (argT m c) _ ?_ ?_
  · show win0_7.index t 0 * 1 + 1 * 0 = _
    rw [(index7 t).1]
  · show win0_7.index t 1 * 2048 + 1 * k = _
    rw [(index7 t).2]; omega

/-- A point's rows of the trunk's gradient are the array's, -/
theorem trunk_blk (t : Fin cfg0.N) {r : ℕ} (hr : r < 256) (k : ℕ) :
    trunk (iblk m c 0 t : Vec Ideal S256x2048 .f32) (iblk m c 1 t : Vec Ideal S256x2048 .f32) (iblk m c 2 t : Vec Ideal S256x2048 .f32) (iblk m c 3 t : Vec Ideal S1x2048 .f32) (iblk m c 4 t : Vec Ideal S1x2048 .f32) r k
      = trunk (argG m c) (argD m c) (argX m c) (argP m c) (argS m c) (256 * t.val + r) k :=
  trunk_congr (blk0 m c t hr) (blk1 m c t hr) (blk2 m c t hr) (blk3 m c t) (blk4 m c t) k

/-- its rows of the branch's gradient too, -/
theorem branch_blk (t : Fin cfg0.N) {r : ℕ} (hr : r < 256) (k : ℕ) :
    branch (trunk (iblk m c 0 t : Vec Ideal S256x2048 .f32) (iblk m c 1 t : Vec Ideal S256x2048 .f32) (iblk m c 2 t : Vec Ideal S256x2048 .f32) (iblk m c 3 t : Vec Ideal S1x2048 .f32) (iblk m c 4 t : Vec Ideal S1x2048 .f32)) (iblk m c 5 t : Vec Ideal S256x2048 .f32) (iblk m c 6 t : Vec Ideal S1x2048 .f32) (iblk m c 7 t : Vec Ideal S1x2048 .f32) r k
      = branch (trunk (argG m c) (argD m c) (argX m c) (argP m c) (argS m c)) (argY m c) (argQ m c) (argT m c) (256 * t.val + r) k :=
  branch_congr (trunk_blk m c t hr) (blk5 m c t hr) (blk6 m c t) (blk7 m c t) k

/-- and so are its rows' shares of the sums. -/
theorem share_blk (t : Fin cfg0.N) (q k : ℕ) :
    upTo (shareBoth (argG m c) (argD m c) (argX m c) (argP m c) (argS m c) (argY m c) (argQ m c) (argT m c)) (256 * t.val) q k
      + ∑ s : Fin 256, shareBoth (iblk m c 0 t : Vec Ideal S256x2048 .f32) (iblk m c 1 t : Vec Ideal S256x2048 .f32) (iblk m c 2 t : Vec Ideal S256x2048 .f32) (iblk m c 3 t : Vec Ideal S1x2048 .f32) (iblk m c 4 t : Vec Ideal S1x2048 .f32) (iblk m c 5 t : Vec Ideal S256x2048 .f32) (iblk m c 6 t : Vec Ideal S1x2048 .f32) (iblk m c 7 t : Vec Ideal S1x2048 .f32) q s.val k
      = upTo (shareBoth (argG m c) (argD m c) (argX m c) (argP m c) (argS m c) (argY m c) (argQ m c) (argT m c)) (256 * (t.val + 1)) q k := by
  rw [Nat.mul_succ, upTo_add]
  refine congrArg _ (Finset.sum_congr rfl fun s _ => ?_)
  unfold shareBoth
  rw [shareIn_congr (blk1 m c t s.isLt) (blk2 m c t s.isLt) (blk3 m c t) (blk4 m c t) q k,
    shareOut_congr (trunk_blk m c t s.isLt) (blk5 m c t s.isLt) (blk6 m c t) (blk7 m c t) q k]

/-- What point `t` leaves of the trunk's gradient, whichever case it runs. -/
theorem outs8 (t : Fin cfg0.N) (y : S256x2048.Idx) : (outsAt0 m c t.val t.isLt).1 y
    = trunk (argG m c) (argD m c) (argX m c) (argP m c) (argS m c) (256 * t.val + (y 0).val) (y 1).val := by
  rw [← trunk_blk m c t (y 0).isLt]
  by_cases ht : t.val % 16 = 0
  · rw [outsAt0_A m c t ht]; dsimp only; rw [out8_A]
  · rw [outsAt0_B m c t ht]; dsimp only; rw [out8_B]

/-- What point `t` leaves of the branch's gradient, whichever case it runs. -/
theorem outs9 (t : Fin cfg0.N) (y : S256x2048.Idx) : (outsAt0 m c t.val t.isLt).2.1 y
    = branch (trunk (argG m c) (argD m c) (argX m c) (argP m c) (argS m c)) (argY m c) (argQ m c) (argT m c) (256 * t.val + (y 0).val) (y 1).val := by
  rw [← branch_blk m c t (y 0).isLt]
  by_cases ht : t.val % 16 = 0
  · rw [outsAt0_A m c t ht]; dsimp only; rw [out9_A]
  · rw [outsAt0_B m c t ht]; dsimp only; rw [out9_B]

/-- What the sums' block holds after point `n`: the sums over the rows so far. -/
theorem outs10 : ∀ (n : ℕ) (h : n < cfg0.N) (y : S8x2048.Idx), (outsAt0 m c n h).2.2 y
    = upTo (shareBoth (argG m c) (argD m c) (argX m c) (argP m c) (argS m c) (argY m c) (argQ m c) (argT m c)) (256 * (n + 1)) (y 0).val (y 1).val
  | 0, h, y => by
    rw [show outsAt0 m c 0 h = _ from outsAt0_A m c ⟨0, h⟩ rfl]
    dsimp only
    rw [out10_A, ← share_blk m c ⟨0, h⟩]
    exact (zero_add _).symm
  | n + 1, h, y => by
    have hN : n + 1 < 16 := h
    have hB : ¬(⟨n + 1, h⟩ : Fin cfg0.N).val % 16 = 0 := by dsimp only; omega
    rw [show outsAt0 m c (n + 1) h = _ from outsAt0_B m c ⟨n + 1, h⟩ hB]
    dsimp only
    rw [out10_B, ← share_blk m c ⟨n + 1, h⟩]
    have ih : (outsAt0 m c n (Nat.lt_of_succ_lt h)).2.2 y = _ := outs10 n (Nat.lt_of_succ_lt h) y
    exact congrArg (· + _) ((eq_at2 _ y).symm.trans ih)

/-- The trunk's gradient's array. -/
theorem final8 : (dats m 0 c).arrAt 8 cfg0.N = fun y : S4096x2048.Idx => trunk (argG m c) (argD m c) (argX m c) (argP m c) (argS m c) (y 0).val (y 1).val := by
  refine (dats m 0 c).arrAt_eq_of_cover 8 _ (fun t hf => ?_) fun (y : S4096x2048.Idx) => ?_
  · rw [Cert.BwdMidIdeal.Value.flushed8]
    funext x
    refine (outs8 m c t _).trans ?_
    rw [View.read_apply]
    refine congrArg₂ (trunk (argG m c) (argD m c) (argX m c) (argP m c) (argS m c)) ?_ ?_
    · show 256 * t.val + (x 0).val = win0_8.index t 0 * 256 + 1 * (x 0).val
      rw [(index8 t).1]; omega
    · show (x 1).val = win0_8.index t 1 * 2048 + 1 * (x 1).val
      rw [(index8 t).2]; omega
  · have h0 : (y 0).val < 4096 := (y 0).isLt
    have h1 : (y 1).val < 2048 := (y 1).isLt
    obtain ⟨t, ht⟩ : ∃ t : Fin cfg0.N, t.val = (y 0).val / 256 := ⟨⟨(y 0).val / 256, show (y 0).val / 256 < 16 by omega⟩, rfl⟩
    refine ⟨t, flush0_8 _, ?_⟩
    show y ∈ ((View.whole main_v0_0).slice (win0_8.rect t)).set
    rw [View.set_slice_whole, Rect.mem_set_unit]
    intro a
    match a with
    | ⟨0, _⟩ =>
      show win0_8.index t 0 * 256 ≤ (y 0).val ∧ (y 0).val < win0_8.index t 0 * 256 + 256
      rw [(index8 t).1]; omega
    | ⟨1, _⟩ =>
      show win0_8.index t 1 * 2048 ≤ (y 1).val ∧ (y 1).val < win0_8.index t 1 * 2048 + 2048
      rw [(index8 t).2]; omega

/-- The branch's gradient's array. -/
theorem final9 : (dats m 0 c).arrAt 9 cfg0.N = fun y : S4096x2048.Idx => branch (trunk (argG m c) (argD m c) (argX m c) (argP m c) (argS m c)) (argY m c) (argQ m c) (argT m c) (y 0).val (y 1).val := by
  refine (dats m 0 c).arrAt_eq_of_cover 9 _ (fun t hf => ?_) fun (y : S4096x2048.Idx) => ?_
  · rw [Cert.BwdMidIdeal.Value.flushed9]
    funext x
    refine (outs9 m c t _).trans ?_
    rw [View.read_apply]
    refine congrArg₂ (branch (trunk (argG m c) (argD m c) (argX m c) (argP m c) (argS m c)) (argY m c) (argQ m c) (argT m c)) ?_ ?_
    · show 256 * t.val + (x 0).val = win0_9.index t 0 * 256 + 1 * (x 0).val
      rw [(index9 t).1]; omega
    · show (x 1).val = win0_9.index t 1 * 2048 + 1 * (x 1).val
      rw [(index9 t).2]; omega
  · have h0 : (y 0).val < 4096 := (y 0).isLt
    have h1 : (y 1).val < 2048 := (y 1).isLt
    obtain ⟨t, ht⟩ : ∃ t : Fin cfg0.N, t.val = (y 0).val / 256 := ⟨⟨(y 0).val / 256, show (y 0).val / 256 < 16 by omega⟩, rfl⟩
    refine ⟨t, flush0_9 _, ?_⟩
    show y ∈ ((View.whole main_v0_1).slice (win0_9.rect t)).set
    rw [View.set_slice_whole, Rect.mem_set_unit]
    intro a
    match a with
    | ⟨0, _⟩ =>
      show win0_9.index t 0 * 256 ≤ (y 0).val ∧ (y 0).val < win0_9.index t 0 * 256 + 256
      rw [(index9 t).1]; omega
    | ⟨1, _⟩ =>
      show win0_9.index t 1 * 2048 ≤ (y 1).val ∧ (y 1).val < win0_9.index t 1 * 2048 + 2048
      rw [(index9 t).2]; omega

/-- The sums' array. -/
theorem final10 : (dats m 0 c).arrAt 10 cfg0.N = fun y : S8x2048.Idx => upTo (shareBoth (argG m c) (argD m c) (argX m c) (argP m c) (argS m c) (argY m c) (argQ m c) (argT m c)) 4096 (y 0).val (y 1).val := by
  refine (dats m 0 c).arrAt_eq_of_cover 10 _ (fun t hf => ?_) fun (y : S8x2048.Idx) => ?_
  · have h15 : t.val = 15 := by have h := (flush0_10 t).mp hf; have hN : t.val < 16 := t.isLt; omega
    rw [Cert.BwdMidIdeal.Value.flushed10]
    funext x
    refine (outs10 m c _ _ _).trans ?_
    rw [View.read_apply, h15]
    refine congrArg₂ (upTo (shareBoth (argG m c) (argD m c) (argX m c) (argP m c) (argS m c) (argY m c) (argQ m c) (argT m c)) 4096) ?_ ?_
    · show (x 0).val = win0_10.index t 0 * 8 + 1 * (x 0).val
      rw [(index10 t).1]; omega
    · show (x 1).val = win0_10.index t 1 * 2048 + 1 * (x 1).val
      rw [(index10 t).2]; omega
  · have h0 : (y 0).val < 8 := (y 0).isLt
    have h1 : (y 1).val < 2048 := (y 1).isLt
    obtain ⟨t, ht⟩ : ∃ t : Fin cfg0.N, t.val = 15 := ⟨⟨15, show 15 < 16 by omega⟩, rfl⟩
    refine ⟨t, (flush0_10 _).mpr (by rw [ht]), ?_⟩
    show y ∈ ((View.whole main_v0_2).slice (win0_10.rect t)).set
    rw [View.set_slice_whole, Rect.mem_set_unit]
    intro a
    match a with
    | ⟨0, _⟩ =>
      show win0_10.index t 0 * 8 ≤ (y 0).val ∧ (y 0).val < win0_10.index t 0 * 8 + 8
      rw [(index10 t).1]; omega
    | ⟨1, _⟩ =>
      show win0_10.index t 1 * 2048 ≤ (y 1).val ∧ (y 1).val < win0_10.index t 1 * 2048 + 2048
      rw [(index10 t).2]; omega

end

/-- The three results, equal entry by entry. -/
theorem algebraic : Cert.algebraic_BwdMidIdeal_BwdMidRefIdeal :=
  fun m ρ m' ρ' _ hag => by
    refine ⟨fun c (y : BwdMidIdeal.S4096x2048.Idx) => trunk (argG m c) (argD m c) (argX m c) (argP m c) (argS m c) (y 0).val (y 1).val,
      fun c (y : BwdMidIdeal.S4096x2048.Idx) => branch (trunk (argG m c) (argD m c) (argX m c) (argP m c) (argS m c)) (argY m c) (argQ m c) (argT m c) (y 0).val (y 1).val,
      fun c (y : BwdMidIdeal.S8x2048.Idx) => upTo (shareBoth (argG m c) (argD m c) (argX m c) (argP m c) (argS m c) (argY m c) (argQ m c) (argT m c)) 4096 (y 0).val (y 1).val,
      (θ_run BwdMidIdeal.defs _ _).mono (fun _ h c => ⟨(h c).1.trans (final8 m c), (h c).2.1.trans (final9 m c), (h c).2.2.1.trans (final10 m c), (h c).2.2.2⟩) (BwdMidIdeal.Value.run_blocks m ρ),
      (θ_run BwdMidRefIdeal.defs _ _).mono (fun _ h c => ?_) (BwdMidRefIdeal.Value.run m' ρ')⟩
    obtain ⟨e0, e1, e2, e3, e4, e5, e6, e7⟩ := hag c
    exact ⟨(h c).1.trans ((BwdMidRefIdeal.Read.val_main_v49_eq m' c).trans ((funext fun y => Ref.v49_eq _ _ _ _ _ y).trans (by rw [e0, e1, e2, e3, e4]))),
      (h c).2.1.trans ((BwdMidRefIdeal.Read.val_main_v98_eq m' c).trans ((funext fun y => Ref.v98_eq _ _ _ _ _ _ _ _ y).trans (by rw [e0, e1, e2, e3, e4, e5, e6, e7]))),
      (h c).2.2.1.trans ((BwdMidRefIdeal.Read.val_main_v100_eq m' c).trans ((funext fun y => Ref.v100_eq _ _ _ _ _ _ _ _ y).trans (by rw [e0, e1, e2, e3, e4, e5, e6, e7]))),
      (h c).2.2.2⟩

/-- The reference runs and leaves its arguments alone; it declares no semaphore. -/
theorem referenceFrame : Cert.quiescent_BwdMidRefIdeal :=
  fun m ρ _ => (θ_run BwdMidRefIdeal.defs _ _).mono (fun r h => ⟨fun c => (h c).2.2.2,
    sem_eq_zero_of_no_sems (by decide) r.2⟩) (BwdMidRefIdeal.Value.run m ρ)

end Cert.Norms.BwdMid

end
-- ==== Proof.Norms.BwdIn.lean ====
/- The trunk's first gradient: what a grid point of the kernel stores. -/
module

public import proofs.«01_k».proof.Proof.Gen.BwdInIdeal.Value
public import proofs.«01_k».proof.Proof.Norms.Rows
public import proofs.«01_k».proof.Proof.Norms.Buffer
public import proofs.«01_k».proof.Proof.Products.Sums
public import Idealize.ShloMosaic.Lib.WholeRead
public import Idealize.ShloMosaic.Lib.Pipeline.ReadBack

@[expose] public section

set_option maxRecDepth 16384

noncomputable section

namespace Cert.Norms.BwdIn

open Cert.BwdInIdeal Cert.BwdInIdeal.Gen Idealize.ShloMosaic Idealize.ShloMosaic.TcCoe Idealize.SL.Sem Cert.Entry Cert.Products

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S8x2048 .f32) (harg7 : arg7.IsWhole)
    (x0 : Vec Ideal S256x2048 .f32) (x1 : Vec Ideal S256x2048 .f32) (x2 : Vec Ideal S256x2048 .f32) (x3 : Vec Ideal S1x2048 .f32) (x4 : Vec Ideal S1x2048 .f32)
    (xo6 : Vec Ideal S8x2048 .f32)

/-- The first point's block of the trunk's gradient, -/
theorem out5_A (hc0 : cond0_0 i) (y : S256x2048.Idx) :
    out0_A_5 c i arg1 harg1 arg2 harg2 arg3 harg3 arg4 harg4 arg5 harg5 arg6 harg6 arg7 harg7 hc0 x0 x1 x2 x3 x4 y = trunk x0 x1 x2 x3 x4 (y 0).val (y 1).val := by
  unfold out0_A_5 kernelRun0_A
  dsimp only
  rw [View.read_writes_junk_eq_canon, View.canon_unit_zero zero2]
  dsimp only [kernelRun0_A.sl.r, kernelRun0_A.sl.r_1, kernelRun0_A.sl.r_2, kernelRun0_A.sl.r_3]
  unfold_payloads
  pointwise [shapeCast_self, readAt_unit2]
  rfl

/-- and a later point's. -/
theorem out5_B (hc0 : ¬cond0_0 i) (y : S256x2048.Idx) :
    out0_B_5 c i arg1 harg1 arg2 harg2 arg3 harg3 arg4 harg4 arg5 harg5 arg6 harg6 arg7 harg7 hc0 x0 x1 x2 x3 x4 xo6 y = trunk x0 x1 x2 x3 x4 (y 0).val (y 1).val := by
  unfold out0_B_5 kernelRun0_B
  dsimp only
  rw [View.read_writes_junk_eq_canon, View.canon_unit_zero zero2]
  dsimp only [kernelRun0_B.sl.r, kernelRun0_B.sl.r_1, kernelRun0_B.sl.r_2, kernelRun0_B.sl.r_3]
  unfold_payloads
  pointwise [shapeCast_self, readAt_unit2]
  rfl

/-- A later point adds its rows' share to the sums; -/
theorem out6_B (hc0 : ¬cond0_0 i) (y : S8x2048.Idx) :
    out0_B_6 c i arg1 harg1 arg2 harg2 arg3 harg3 arg4 harg4 arg5 harg5 arg6 harg6 arg7 harg7 hc0 x0 x1 x2 x3 x4 xo6 y
      = at2 xo6 (y 0).val (y 1).val + ∑ s : Fin 256, shareIn x1 x2 x3 x4 (y 0).val s.val (y 1).val := by
  unfold out0_B_6 kernelRun0_B
  dsimp only
  refine read_row _ _ (F := fun q k => at2 xo6 q k + ∑ s : Fin 256, shareIn x1 x2 x3 x4 q s.val k) (P := fun _ => True) (fun x => ?_) (fun y hy => ?_) y trivial
  · dsimp only [kernelRun0_B.sl.r_2, kernelRun0_B.sl.r_3, kernelRun0_B.sl.v37]
    unfold_payloads
    pointwise [shapeCast_self, readAt_unit2]
    rfl
  refine read_row _ _ (F := fun q k => at2 xo6 q k + ∑ s : Fin 256, shareIn x1 x2 x3 x4 q s.val k) (P := fun q => True ∧ q ≠ 2) (fun x => ?_) (fun y hy => ?_) y hy
  · dsimp only [kernelRun0_B.sl.r_4, kernelRun0_B.sl.r_5, kernelRun0_B.sl.v27]
    unfold_payloads
    pointwise [shapeCast_self, readAt_unit2]
    rfl
  refine read_row _ _ (F := fun q k => at2 xo6 q k + ∑ s : Fin 256, shareIn x1 x2 x3 x4 q s.val k) (P := fun q => (True ∧ q ≠ 2) ∧ q ≠ 1) (fun x => ?_) (fun y hy => ?_) y hy
  · unfold_payloads
    pointwise [shapeCast_self, readAt_unit2]
    rfl
  · have h0 : ∀ s k, shareIn x1 x2 x3 x4 (y 0).val s k = 0 := fun s k => by
      rw [shareIn, if_neg hy.2, if_neg hy.1.2, if_neg hy.1.1.2]
    simp only [h0, Finset.sum_const_zero, add_zero]
    exact (congrFun (harg7.read_unread xo6) y).trans (eq_at2 xo6 y)

/-- the first starts them at its own. -/
theorem out6_A (hc0 : cond0_0 i) (y : S8x2048.Idx) :
    out0_A_6 c i arg1 harg1 arg2 harg2 arg3 harg3 arg4 harg4 arg5 harg5 arg6 harg6 arg7 harg7 hc0 x0 x1 x2 x3 x4 y
      = ∑ s : Fin 256, shareIn x1 x2 x3 x4 (y 0).val s.val (y 1).val := by
  unfold out0_A_6 kernelRun0_A
  dsimp only [kernelRun0_A.sl.H6_3, kernelRun0_A.sl.H6_2, kernelRun0_A.sl.H6_1, kernelRun0_A.sl.r_2, kernelRun0_A.sl.r_3, kernelRun0_A.sl.r_4, kernelRun0_A.sl.r_5, kernelRun0_A.sl.v37, kernelRun0_A.sl.v27, kernelRun0_A.sl.v21]
  simp (disch := decide) only [↓View.readCov_skip, ↓View.readCov_cons_toLoadRect, ↓View.readCov_fill]
  refine read_row _ _ (F := fun q k => ∑ s : Fin 256, shareIn x1 x2 x3 x4 q s.val k) (P := fun _ => True) (fun x => ?_) (fun y hy => ?_) y trivial
  · unfold_payloads
    pointwise [shapeCast_self, readAt_unit2]
    rfl
  refine read_row _ _ (F := fun q k => ∑ s : Fin 256, shareIn x1 x2 x3 x4 q s.val k) (P := fun q => True ∧ q ≠ 2) (fun x => ?_) (fun y hy => ?_) y hy
  · unfold_payloads
    pointwise [shapeCast_self, readAt_unit2]
    rfl
  refine read_row _ _ (F := fun q k => ∑ s : Fin 256, shareIn x1 x2 x3 x4 q s.val k) (P := fun q => (True ∧ q ≠ 2) ∧ q ≠ 1) (fun x => ?_) (fun y hy => ?_) y hy
  · unfold_payloads
    pointwise [shapeCast_self, readAt_unit2]
    rfl
  · have h0 : ∀ s k, shareIn x1 x2 x3 x4 (y 0).val s k = 0 := fun s k => by
      rw [shareIn, if_neg hy.2, if_neg hy.1.2, if_neg hy.1.1.2]
    simp only [h0, Finset.sum_const_zero, add_zero]
    rw [View.read_writes_junk_eq_canon, View.canon_unit_zero zero2]
    unfold_payloads
    pointwise [Ideal.ofBits_zero_f32]
end

end Cert.Norms.BwdIn

end
-- ==== Proof.Norms.BwdInEqual.lean ====
/- The trunk's first gradient: the kernel's two arrays, and their equality with the reference's. -/
module

public import proofs.«01_k».proof.Defs
public import proofs.«01_k».proof.Proof.Gen.BwdInRefIdeal.Run
public import proofs.«01_k».proof.Proof.Norms.BwdIn
public import proofs.«01_k».proof.Proof.Norms.BwdInRef

@[expose] public section

set_option maxRecDepth 16384

noncomputable section

namespace Cert.Norms.BwdIn

open Idealize.ShloMosaic Idealize.ShloMosaic.TcCoe Idealize.SL.Sem Cert.Entry

section
open Cert.BwdInIdeal Cert.BwdInIdeal.Gen

variable (m : (ℓ : Loc nD τ sig) → Buf (Elt Ideal) ℓ) (c : Dev nD)

/-- The arguments as launched. -/
abbrev argG : Vec Ideal S4096x2048 .f32 := m ((c : Thread nD τ).loc main_arg0)
abbrev argD : Vec Ideal S4096x2048 .f32 := m ((c : Thread nD τ).loc main_arg1)
abbrev argX : Vec Ideal S4096x2048 .f32 := m ((c : Thread nD τ).loc main_arg2)
abbrev argP : Vec Ideal S1x2048 .f32 := m ((c : Thread nD τ).loc main_arg3)
abbrev argS : Vec Ideal S1x2048 .f32 := m ((c : Thread nD τ).loc main_arg4)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem blk0 (t : Fin cfg0.N) {r : ℕ} (hr : r < 256) :
    at2 (iblk m c 0 t : Vec Ideal S256x2048 .f32) r = at2 (argG m c) (256 * t.val + r) := by
  refine row_eq (x := (iblk m c 0 t : Vec Ideal S256x2048 .f32)) hr fun k hk => eq_at2_of (argG m c) _ ?_ ?_
  · show win0_0.index t 0 * 256 + 1 * r = _
    rw [(index0 t).1]; omega
  · show win0_0.index t 1 * 2048 + 1 * k = _
    rw [(index0 t).2]; omega
theorem blk1 (t : Fin cfg0.N) {r : ℕ} (hr : r < 256) :
    at2 (iblk m c 1 t : Vec Ideal S256x2048 .f32) r = at2 (argD m c) (256 * t.val + r) := by
  refine row_eq (x := (iblk m c 1 t : Vec Ideal S256x2048 .f32)) hr fun k hk => eq_at2_of (argD m c) _ ?_ ?_
  · show win0_1.index t 0 * 256 + 1 * r = _
    rw [(index1 t).1]; omega
  · show win0_1.index t 1 * 2048 + 1 * k = _
    rw [(index1 t).2]; omega
theorem blk2 (t : Fin cfg0.N) {r : ℕ} (hr : r < 256) :
    at2 (iblk m c 2 t : Vec Ideal S256x2048 .f32) r = at2 (argX m c) (256 * t.val + r) := by
  refine row_eq (x := (iblk m c 2 t : Vec Ideal S256x2048 .f32)) hr fun k hk => eq_at2_of (argX m c) _ ?_ ?_
  · show win0_2.index t 0 * 256 + 1 * r = _
    rw [(index2 t).1]; omega
  · show win0_2.index t 1 * 2048 + 1 * k = _
    rw [(index2 t).2]; omega
theorem blk3 (t : Fin cfg0.N) : at2 (iblk m c 3 t : Vec Ideal S1x2048 .f32) 0 = at2 (argP m c) 0 := by
  refine row_eq (x := (iblk m c 3 t : Vec Ideal S1x2048 .f32)) Nat.one_pos fun k hk => eq_at2_of (argP m c) _ ?_ ?_
  · show win0_3.index t 0 * 1 + 1 * 0 = _
    rw [(index3 t).1]
  · show win0_3.index t 1 * 2048 + 1 * k = _
    rw [(index3 t).2]; omega
theorem blk4 (t : Fin cfg0.N) : at2 (iblk m c 4 t : Vec Ideal S1x2048 .f32) 0 = at2 (argS m c) 0 := by
  refine row_eq (x := (iblk m c 4 t : Vec Ideal S1x2048 .f32)) Nat.one_pos fun k hk => eq_at2_of (argS m c) _ ?_ ?_
  · show win0_4.index t 0 * 1 + 1 * 0 = _
    rw [(index4 t).1]
  · show win0_4.index t 1 * 2048 + 1 * k = _
    rw [(index4 t).2]; omega

/-- A point's rows of the trunk's gradient are the array's, -/
theorem trunk_blk (t : Fin cfg0.N) {r : ℕ} (hr : r < 256) (k : ℕ) :
    trunk (iblk m c 0 t : Vec Ideal S256x2048 .f32) (iblk m c 1 t : Vec Ideal S256x2048 .f32) (iblk m c 2 t : Vec Ideal S256x2048 .f32)
      (iblk m c 3 t : Vec Ideal S1x2048 .f32) (iblk m c 4 t : Vec Ideal S1x2048 .f32) r k
      = trunk (argG m c) (argD m c) (argX m c) (argP m c) (argS m c) (256 * t.val + r) k :=
  trunk_congr (blk0 m c t hr) (blk1 m c t hr) (blk2 m c t hr) (blk3 m c t) (blk4 m c t) k

/-- and so are its rows' shares of the sums. -/
theorem share_blk (t : Fin cfg0.N) (q k : ℕ) :
    upTo (shareIn (argD m c) (argX m c) (argP m c) (argS m c)) (256 * t.val) q k
      + ∑ s : Fin 256, shareIn (iblk m c 1 t : Vec Ideal S256x2048 .f32) (iblk m c 2 t : Vec Ideal S256x2048 .f32)
          (iblk m c 3 t : Vec Ideal S1x2048 .f32) (iblk m c 4 t : Vec Ideal S1x2048 .f32) q s.val k
      = upTo (shareIn (argD m c) (argX m c) (argP m c) (argS m c)) (256 * (t.val + 1)) q k := by
  rw [Nat.mul_succ, upTo_add]
  exact congrArg _ (Finset.sum_congr rfl fun s _ =>
    shareIn_congr (blk1 m c t s.isLt) (blk2 m c t s.isLt) (blk3 m c t) (blk4 m c t) q k)

/-- What point `t` leaves of the trunk's gradient, whichever case it runs. -/
theorem outs5 (t : Fin cfg0.N) (y : S256x2048.Idx) : (outsAt0 m c t.val t.isLt).1 y
    = trunk (argG m c) (argD m c) (argX m c) (argP m c) (argS m c) (256 * t.val + (y 0).val) (y 1).val := by
  rw [← trunk_blk m c t (y 0).isLt]
  by_cases ht : t.val % 16 = 0
  · rw [outsAt0_A m c t ht]; dsimp only; rw [out5_A]
  · rw [outsAt0_B m c t ht]; dsimp only; rw [out5_B]

/-- What the sums' block holds after point `n`: the sums over the rows so far. -/
theorem outs6 : ∀ (n : ℕ) (h : n < cfg0.N) (y : S8x2048.Idx), (outsAt0 m c n h).2 y
    = upTo (shareIn (argD m c) (argX m c) (argP m c) (argS m c)) (256 * (n + 1)) (y 0).val (y 1).val
  | 0, h, y => by
    rw [show outsAt0 m c 0 h = _ from outsAt0_A m c ⟨0, h⟩ rfl]
    dsimp only
    rw [out6_A, ← share_blk m c ⟨0, h⟩]
    exact (zero_add _).symm
  | n + 1, h, y => by
    have hN : n + 1 < 16 := h
    have hB : ¬(⟨n + 1, h⟩ : Fin cfg0.N).val % 16 = 0 := by dsimp only; omega
    rw [show outsAt0 m c (n + 1) h = _ from outsAt0_B m c ⟨n + 1, h⟩ hB]
    dsimp only
    rw [out6_B, ← share_blk m c ⟨n + 1, h⟩]
    have ih : (outsAt0 m c n (Nat.lt_of_succ_lt h)).2 y = _ := outs6 n (Nat.lt_of_succ_lt h) y
    exact congrArg (· + _) ((eq_at2 _ y).symm.trans ih)

/-- The trunk's gradient's array. -/
theorem final5 : (dats m 0 c).arrAt 5 cfg0.N = fun y : S4096x2048.Idx => trunk (argG m c) (argD m c) (argX m c) (argP m c) (argS m c) (y 0).val (y 1).val := by
  refine (dats m 0 c).arrAt_eq_of_cover 5 _ (fun t hf => ?_) fun (y : S4096x2048.Idx) => ?_
  · rw [Cert.BwdInIdeal.Value.flushed5]
    funext x
    refine (outs5 m c t _).trans ?_
    rw [View.read_apply]
    refine congrArg₂ (trunk (argG m c) (argD m c) (argX m c) (argP m c) (argS m c)) ?_ ?_
    · show 256 * t.val + (x 0).val = win0_5.index t 0 * 256 + 1 * (x 0).val
      rw [(index5 t).1]; omega
    · show (x 1).val = win0_5.index t 1 * 2048 + 1 * (x 1).val
      rw [(index5 t).2]; omega
  · have h0 : (y 0).val < 4096 := (y 0).isLt
    have h1 : (y 1).val < 2048 := (y 1).isLt
    obtain ⟨t, ht⟩ : ∃ t : Fin cfg0.N, t.val = (y 0).val / 256 := ⟨⟨(y 0).val / 256, show (y 0).val / 256 < 16 by omega⟩, rfl⟩
    refine ⟨t, flush0_5 _, ?_⟩
    show y ∈ ((View.whole main_v0_0).slice (win0_5.rect t)).set
    rw [View.set_slice_whole, Rect.mem_set_unit]
    intro a
    match a with
    | ⟨0, _⟩ =>
      show win0_5.index t 0 * 256 ≤ (y 0).val ∧ (y 0).val < win0_5.index t 0 * 256 + 256
      rw [(index5 t).1]; omega
    | ⟨1, _⟩ =>
      show win0_5.index t 1 * 2048 ≤ (y 1).val ∧ (y 1).val < win0_5.index t 1 * 2048 + 2048
      rw [(index5 t).2]; omega

/-- The sums' array. -/
theorem final6 : (dats m 0 c).arrAt 6 cfg0.N = fun y : S8x2048.Idx => upTo (shareIn (argD m c) (argX m c) (argP m c) (argS m c)) 4096 (y 0).val (y 1).val := by
  refine (dats m 0 c).arrAt_eq_of_cover 6 _ (fun t hf => ?_) fun (y : S8x2048.Idx) => ?_
  · have h15 : t.val = 15 := by have h := (flush0_6 t).mp hf; have hN : t.val < 16 := t.isLt; omega
    rw [Cert.BwdInIdeal.Value.flushed6]
    funext x
    refine (outs6 m c _ _ _).trans ?_
    rw [View.read_apply, h15]
    refine congrArg₂ (upTo (shareIn (argD m c) (argX m c) (argP m c) (argS m c)) 4096) ?_ ?_
    · show (x 0).val = win0_6.index t 0 * 8 + 1 * (x 0).val
      rw [(index6 t).1]; omega
    · show (x 1).val = win0_6.index t 1 * 2048 + 1 * (x 1).val
      rw [(index6 t).2]; omega
  · have h0 : (y 0).val < 8 := (y 0).isLt
    have h1 : (y 1).val < 2048 := (y 1).isLt
    obtain ⟨t, ht⟩ : ∃ t : Fin cfg0.N, t.val = 15 := ⟨⟨15, show 15 < 16 by omega⟩, rfl⟩
    refine ⟨t, (flush0_6 _).mpr (by rw [ht]), ?_⟩
    show y ∈ ((View.whole main_v0_1).slice (win0_6.rect t)).set
    rw [View.set_slice_whole, Rect.mem_set_unit]
    intro a
    match a with
    | ⟨0, _⟩ =>
      show win0_6.index t 0 * 8 ≤ (y 0).val ∧ (y 0).val < win0_6.index t 0 * 8 + 8
      rw [(index6 t).1]; omega
    | ⟨1, _⟩ =>
      show win0_6.index t 1 * 2048 ≤ (y 1).val ∧ (y 1).val < win0_6.index t 1 * 2048 + 2048
      rw [(index6 t).2]; omega

end

/-- The two results, equal entry by entry. -/
theorem algebraic : Cert.algebraic_BwdInIdeal_BwdInRefIdeal :=
  fun m ρ m' ρ' _ hag => by
    refine ⟨fun c (y : BwdInIdeal.S4096x2048.Idx) => trunk (argG m c) (argD m c) (argX m c) (argP m c) (argS m c) (y 0).val (y 1).val,
      fun c (y : BwdInIdeal.S8x2048.Idx) => upTo (shareIn (argD m c) (argX m c) (argP m c) (argS m c)) 4096 (y 0).val (y 1).val,
      (θ_run BwdInIdeal.defs _ _).mono (fun _ h c => ⟨(h c).1.trans (final5 m c), (h c).2.1.trans (final6 m c), (h c).2.2⟩) (BwdInIdeal.Value.run_blocks m ρ),
      (θ_run BwdInRefIdeal.defs _ _).mono (fun _ h c => ?_) (BwdInRefIdeal.Value.run m' ρ')⟩
    exact ⟨(h c).1.trans ((BwdInRefIdeal.Read.val_main_v49_eq m' c).trans ((funext fun y => Ref.v49_eq _ _ _ _ _ y).trans (by rw [(hag c).1, (hag c).2.1, (hag c).2.2.1, (hag c).2.2.2.1, (hag c).2.2.2.2]))),
      (h c).2.1.trans ((BwdInRefIdeal.Read.val_main_v51_eq _ _ _ _).trans ((funext fun y => Ref.v51_eq _ _ _ _ y).trans (by rw [(hag c).2.1, (hag c).2.2.1, (hag c).2.2.2.1, (hag c).2.2.2.2]))),
      (h c).2.2⟩

/-- The reference runs and leaves its arguments alone; it declares no semaphore. -/
theorem referenceFrame : Cert.quiescent_BwdInRefIdeal :=
  fun m ρ _ => (θ_run BwdInRefIdeal.defs _ _).mono (fun r h => ⟨fun c => (h c).2.2,
    sem_eq_zero_of_no_sems (by decide) r.2⟩) (BwdInRefIdeal.Value.run m ρ)

end Cert.Norms.BwdIn

end
-- ==== Proof.Norms.LossRows.lean ====
/- The loss on the trunk and its gradients, entry by entry. -/
module

public import proofs.«01_k».proof.Proof.Norms.Rows

@[expose] public section

noncomputable section

namespace Cert.Norms

open Idealize.ShloMosaic Cert.Entry

/-- The gradient's factor, one over the row's length. -/
abbrev perLen : EReal := Ideal.ofBits .f32 0x3A000000#32

/-- The loss's factor, a half of that. -/
abbrev halfPerLen : EReal := Ideal.ofBits .f32 0x39800000#32

theorem perLen_eq : perLen = ((1 / 2048 : ℝ) : EReal) := by
  simp [perLen, Ideal.ofBits, Ideal.ieee, -EReal.coe_mul]; norm_num

theorem halfPerLen_eq : halfPerLen = ((1 / 4096 : ℝ) : EReal) := by
  simp [halfPerLen, Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The square's derivative times a half over the length is the factor the kernel has. -/
theorem square_slope (e : EReal) :
    Ideal.div (Ideal.ofBits .f32 0x3F000000#32) len * (Ideal.ofBits .f32 0x40000000#32 * e) = e * perLen := by
  rw [div_len, half_eq, two_eq, perLen_eq, ← mul_assoc, ← EReal.coe_mul, ← EReal.coe_mul, mul_comm]
  norm_num

section
variable {R : ℕ}
variable (X Y : (⟨2, ![R, 2048]⟩ : Shape).Idx → EReal) (P T : (⟨2, ![1, 2048]⟩ : Shape).Idx → EReal) (Z : (⟨2, ![R, 2048]⟩ : Shape).Idx → EReal)

/-- The error: the trunk after the last branch less the target. -/
def err (r k : ℕ) : EReal := at2 X r k + at2 T 0 k * (normed Y r k * at2 P 0 k) - at2 Z r k

/-- The loss's gradient at the trunk's end. -/
def errGrad (r k : ℕ) : EReal := err X Y P T Z r k * perLen

/-- One row's share of the loss, the same in every entry of the array that carries it. -/
def shareLoss (_q r _k : ℕ) : EReal := halfPerLen * ∑ k : Fin 2048, err X Y P T Z r k.val * err X Y P T Z r k.val

end

/-- A row's error depends on that row alone, -/
theorem err_congr {R B r s : ℕ} {x y z : (⟨2, ![B, 2048]⟩ : Shape).Idx → EReal} {X Y Z : (⟨2, ![R, 2048]⟩ : Shape).Idx → EReal}
    {p t P T : (⟨2, ![1, 2048]⟩ : Shape).Idx → EReal} (hx : at2 x r = at2 X s) (hy : at2 y r = at2 Y s) (hp : at2 p 0 = at2 P 0)
    (ht : at2 t 0 = at2 T 0) (hz : at2 z r = at2 Z s) (k : ℕ) : err x y p t z r k = err X Y P T Z s k := by
  simp only [err, normed, hx, hy, hp, ht, hz]

/-- and its share of the loss too. -/
theorem shareLoss_congr {R B r s : ℕ} {x y z : (⟨2, ![B, 2048]⟩ : Shape).Idx → EReal} {X Y Z : (⟨2, ![R, 2048]⟩ : Shape).Idx → EReal}
    {p t P T : (⟨2, ![1, 2048]⟩ : Shape).Idx → EReal} (hx : at2 x r = at2 X s) (hy : at2 y r = at2 Y s) (hp : at2 p 0 = at2 P 0)
    (ht : at2 t 0 = at2 T 0) (hz : at2 z r = at2 Z s) (a k : ℕ) : shareLoss x y p t z a r k = shareLoss X Y P T Z a s k := by
  simp only [shareLoss, err_congr hx hy hp ht hz]

/-- The kernel's factor on a block's sum of squares goes to each of its rows. -/
theorem halfPerLen_mul_sum {ι : Type} (s : Finset ι) (f : ι → EReal) : halfPerLen * ∑ i ∈ s, f i = ∑ i ∈ s, halfPerLen * f i := by
  rw [halfPerLen_eq]
  exact mul_sum_real s f (by norm_num)

/-- A half of the rows' means is the rows' shares of the loss. -/
theorem half_mul_sum_div {ι : Type} (s : Finset ι) (f : ι → EReal) :
    Ideal.ofBits .f32 0x3F000000#32 * ∑ i ∈ s, Ideal.div (f i) len = ∑ i ∈ s, halfPerLen * f i := by
  rw [half_eq, mul_sum_real s _ (by norm_num)]
  refine Finset.sum_congr rfl fun i _ => ?_
  rw [div_len, halfPerLen_eq, mul_comm (f i), ← mul_assoc, ← EReal.coe_mul]
  norm_num

end Cert.Norms

end
-- ==== Proof.Norms.Loss.lean ====
/- The gradients of the loss on the trunk: what a grid point of the kernel stores. -/
module

public import proofs.«01_k».proof.Proof.Gen.LossIdeal.Value
public import proofs.«01_k».proof.Proof.Norms.LossRows
public import proofs.«01_k».proof.Proof.Norms.Buffer
public import proofs.«01_k».proof.Proof.Products.Sums
public import Idealize.ShloMosaic.Lib.WholeRead
public import Idealize.ShloMosaic.Lib.Pipeline.ReadBack

@[expose] public section

set_option maxRecDepth 16384

noncomputable section

namespace Cert.Norms.Loss

open Cert.LossIdeal Cert.LossIdeal.Gen Idealize.ShloMosaic Idealize.ShloMosaic.TcCoe Idealize.SL.Sem Cert.Entry Cert.Products

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .bf16) (harg7 : arg7.IsWhole) (arg8 : Memref sig .tc .vmem S8x128 .f32) (harg8 : arg8.IsWhole) (arg9 : Memref sig .tc .vmem S8x2048 .f32) (harg9 : arg9.IsWhole)
    (x0 x1 : Vec Ideal S256x2048 .f32) (x2 x3 : Vec Ideal S1x2048 .f32) (x4 : Vec Ideal S256x2048 .f32)
    (xo7 : Vec Ideal S8x128 .f32) (xo8 : Vec Ideal S8x2048 .f32)

/-- The first point's block of the loss's gradient, -/
theorem out5_A (hc0 : cond0_0 i) (y : S256x2048.Idx) :
    out0_A_5 c i arg1 harg1 arg2 harg2 arg3 harg3 arg4 harg4 arg5 harg5 arg6 harg6 arg7 harg7 arg8 harg8 arg9 harg9 hc0 x0 x1 x2 x3 x4 y = errGrad x0 x1 x2 x3 x4 (y 0).val (y 1).val := by
  unfold out0_A_5 kernelRun0_A
  dsimp only
  rw [View.read_writes_junk_eq_canon, View.canon_unit_zero zero2]
  dsimp only [kernelRun0_A.sl.r, kernelRun0_A.sl.r_1, kernelRun0_A.sl.r_2, kernelRun0_A.sl.r_3, kernelRun0_A.sl.r_4, kernelRun0_A.sl.r_5, kernelRun0_A.sl.r_6]
  unfold_payloads
  pointwise [shapeCast_self, readAt_unit2]
  rfl

/-- and a later point's. -/
theorem out5_B (hc0 : ¬cond0_0 i) (y : S256x2048.Idx) :
    out0_B_5 c i arg1 harg1 arg2 harg2 arg3 harg3 arg4 harg4 arg5 harg5 arg6 harg6 arg7 harg7 arg8 harg8 arg9 harg9 hc0 x0 x1 x2 x3 x4 xo7 xo8 y = errGrad x0 x1 x2 x3 x4 (y 0).val (y 1).val := by
  unfold out0_B_5 kernelRun0_B
  dsimp only
  rw [View.read_writes_junk_eq_canon, View.canon_unit_zero zero2]
  dsimp only [kernelRun0_B.sl.r, kernelRun0_B.sl.r_1, kernelRun0_B.sl.r_2, kernelRun0_B.sl.r_3, kernelRun0_B.sl.r_4, kernelRun0_B.sl.r_5, kernelRun0_B.sl.r_6]
  unfold_payloads
  pointwise [shapeCast_self, readAt_unit2]
  rfl

/-- The first point's block of the branch's gradient, -/
theorem out6_A (hc0 : cond0_0 i) (y : S256x2048.Idx) :
    out0_A_6 c i arg1 harg1 arg2 harg2 arg3 harg3 arg4 harg4 arg5 harg5 arg6 harg6 arg7 harg7 arg8 harg8 arg9 harg9 hc0 x0 x1 x2 x3 x4 y = branch (errGrad x0 x1 x2 x3 x4) x1 x2 x3 (y 0).val (y 1).val := by
  unfold out0_A_6 kernelRun0_A
  dsimp only
  rw [View.read_writes_junk_eq_canon, View.canon_unit_zero zero2]
  dsimp only [kernelRun0_A.sl.r, kernelRun0_A.sl.r_1, kernelRun0_A.sl.r_2, kernelRun0_A.sl.r_3, kernelRun0_A.sl.r_4, kernelRun0_A.sl.r_5, kernelRun0_A.sl.r_6]
  unfold_payloads
  pointwise [shapeCast_self, readAt_unit2]
  rfl

/-- and a later point's. -/
theorem out6_B (hc0 : ¬cond0_0 i) (y : S256x2048.Idx) :
    out0_B_6 c i arg1 harg1 arg2 harg2 arg3 harg3 arg4 harg4 arg5 harg5 arg6 harg6 arg7 harg7 arg8 harg8 arg9 harg9 hc0 x0 x1 x2 x3 x4 xo7 xo8 y = branch (errGrad x0 x1 x2 x3 x4) x1 x2 x3 (y 0).val (y 1).val := by
  unfold out0_B_6 kernelRun0_B
  dsimp only
  rw [View.read_writes_junk_eq_canon, View.canon_unit_zero zero2]
  dsimp only [kernelRun0_B.sl.r, kernelRun0_B.sl.r_1, kernelRun0_B.sl.r_2, kernelRun0_B.sl.r_3, kernelRun0_B.sl.r_4, kernelRun0_B.sl.r_5, kernelRun0_B.sl.r_6]
  unfold_payloads
  pointwise [shapeCast_self, readAt_unit2]
  rfl

/-- What the loss's block holds after the first point, -/
theorem out7_A (hc0 : cond0_0 i) (y : S8x128.Idx) :
    out0_A_7 c i arg1 harg1 arg2 harg2 arg3 harg3 arg4 harg4 arg5 harg5 arg6 harg6 arg7 harg7 arg8 harg8 arg9 harg9 hc0 x0 x1 x2 x3 x4 y
      = ∑ s : Fin 256, shareLoss x0 x1 x2 x3 x4 (y 0).val s.val (y 1).val := by
  unfold out0_A_7 kernelRun0_A
  dsimp only
  rw [View.read_writes_junk_eq_canon, View.canon_cons_unit_zero zero2]
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v24, kernelRun0_A.sl.H7_1]
  simp (disch := decide) only [↓View.readCov_skip, ↓View.readCov_cons_toLoadRect, ↓View.readCov_fill]
  unfold_payloads
  pointwise [shapeCast_self, readAt_unit2]
  exact (halfPerLen_mul_sum Finset.univ (fun s : Fin 256 => ∑ k : Fin 2048, err x0 x1 x2 x3 x4 s.val k.val * err x0 x1 x2 x3 x4 s.val k.val))

/-- and after a later one. -/
theorem out7_B (hc0 : ¬cond0_0 i) (y : S8x128.Idx) :
    out0_B_7 c i arg1 harg1 arg2 harg2 arg3 harg3 arg4 harg4 arg5 harg5 arg6 harg6 arg7 harg7 arg8 harg8 arg9 harg9 hc0 x0 x1 x2 x3 x4 xo7 xo8 y
      = at2 xo7 (y 0).val (y 1).val + ∑ s : Fin 256, shareLoss x0 x1 x2 x3 x4 (y 0).val s.val (y 1).val := by
  unfold out0_B_7 kernelRun0_B
  dsimp only
  rw [View.read_writes_junk_eq_canon, View.canon_unit_zero zero2]
  unfold_payloads
  pointwise [shapeCast_self, readAt_unit2]
  exact congrArg (at2 xo7 (y 0).val (y 1).val + ·) (halfPerLen_mul_sum Finset.univ (fun s : Fin 256 => ∑ k : Fin 2048, err x0 x1 x2 x3 x4 s.val k.val * err x0 x1 x2 x3 x4 s.val k.val))

/-- What the sums' block holds after the first point, -/
theorem out8_A (hc0 : cond0_0 i) (y : S8x2048.Idx) :
    out0_A_8 c i arg1 harg1 arg2 harg2 arg3 harg3 arg4 harg4 arg5 harg5 arg6 harg6 arg7 harg7 arg8 harg8 arg9 harg9 hc0 x0 x1 x2 x3 x4 y
      = ∑ s : Fin 256, shareOut (errGrad x0 x1 x2 x3 x4) x1 x2 x3 (y 0).val s.val (y 1).val := by
  unfold out0_A_8 kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v38, kernelRun0_A.sl.v48, kernelRun0_A.sl.v68, kernelRun0_A.sl.H8_1, kernelRun0_A.sl.H8_2, kernelRun0_A.sl.H8_3]
  simp (disch := decide) only [↓View.readCov_skip, ↓View.readCov_cons_toLoadRect, ↓View.readCov_fill]
  refine read_row _ _ (F := fun q k => ∑ s : Fin 256, shareOut (errGrad x0 x1 x2 x3 x4) x1 x2 x3 q s.val k) (P := fun q => True) (fun x => ?_) (fun y hy => ?_) y trivial
  · unfold_payloads
    pointwise [shapeCast_self, readAt_unit2]
    rfl
  refine read_row _ _ (F := fun q k => ∑ s : Fin 256, shareOut (errGrad x0 x1 x2 x3 x4) x1 x2 x3 q s.val k) (P := fun q => (True) ∧ q ≠ 5) (fun x => ?_) (fun y hy => ?_) y hy
  · unfold_payloads
    pointwise [shapeCast_self, readAt_unit2]
    rfl
  refine read_row _ _ (F := fun q k => ∑ s : Fin 256, shareOut (errGrad x0 x1 x2 x3 x4) x1 x2 x3 q s.val k) (P := fun q => ((True) ∧ q ≠ 5) ∧ q ≠ 4) (fun x => ?_) (fun y hy => ?_) y hy
  · unfold_payloads
    pointwise [shapeCast_self, readAt_unit2]
    rfl
  · have h0 : ∀ s k, shareOut (errGrad x0 x1 x2 x3 x4) x1 x2 x3 (y 0).val s k = 0 := fun s k => by
      rw [shareOut, if_neg (by omega), if_neg (by omega), if_neg (by omega)]
    simp only [h0, Finset.sum_const_zero, add_zero]
    rw [View.read_writes_junk_eq_canon, View.canon_unit_zero zero2]
    unfold_payloads
    pointwise [Ideal.ofBits_zero_f32]

/-- and after a later one. -/
theorem out8_B (hc0 : ¬cond0_0 i) (y : S8x2048.Idx) :
    out0_B_8 c i arg1 harg1 arg2 harg2 arg3 harg3 arg4 harg4 arg5 harg5 arg6 harg6 arg7 harg7 arg8 harg8 arg9 harg9 hc0 x0 x1 x2 x3 x4 xo7 xo8 y
      = at2 xo8 (y 0).val (y 1).val + ∑ s : Fin 256, shareOut (errGrad x0 x1 x2 x3 x4) x1 x2 x3 (y 0).val s.val (y 1).val := by
  unfold out0_B_8 kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.v48, kernelRun0_B.sl.v68]
  refine read_row _ _ (F := fun q k => at2 xo8 q k + ∑ s : Fin 256, shareOut (errGrad x0 x1 x2 x3 x4) x1 x2 x3 q s.val k) (P := fun q => True) (fun x => ?_) (fun y hy => ?_) y trivial
  · unfold_payloads
    pointwise [shapeCast_self, readAt_unit2]
    rfl
  refine read_row _ _ (F := fun q k => at2 xo8 q k + ∑ s : Fin 256, shareOut (errGrad x0 x1 x2 x3 x4) x1 x2 x3 q s.val k) (P := fun q => (True) ∧ q ≠ 5) (fun x => ?_) (fun y hy => ?_) y hy
  · unfold_payloads
    pointwise [shapeCast_self, readAt_unit2]
    rfl
  refine read_row _ _ (F := fun q k => at2 xo8 q k + ∑ s : Fin 256, shareOut (errGrad x0 x1 x2 x3 x4) x1 x2 x3 q s.val k) (P := fun q => ((True) ∧ q ≠ 5) ∧ q ≠ 4) (fun x => ?_) (fun y hy => ?_) y hy
  · unfold_payloads
    pointwise [shapeCast_self, readAt_unit2]
    rfl
  · have h0 : ∀ s k, shareOut (errGrad x0 x1 x2 x3 x4) x1 x2 x3 (y 0).val s k = 0 := fun s k => by
      rw [shareOut, if_neg (by omega), if_neg (by omega), if_neg (by omega)]
    simp only [h0, Finset.sum_const_zero, add_zero]
    exact (congrFun (harg9.read_unread xo8) y).trans (eq_at2 xo8 y)

end

end Cert.Norms.Loss

end
-- ==== Proof.Norms.LossRef.lean ====
/- The reference of the loss on the trunk and its gradients, entry by entry. -/
module

public import proofs.«01_k».proof.Proof.Gen.LossRefIdeal.Read
public import proofs.«01_k».proof.Proof.Norms.LossRows

@[expose] public section

set_option maxRecDepth 16384

noncomputable section

namespace Cert.Norms.Loss.Ref

open Cert.LossRefIdeal Cert.LossRefIdeal.Gen Cert.LossRefIdeal.Read Idealize.ShloMosaic Idealize.ShloMosaic.TcCoe Idealize.SL.Sem
  Idealize.ShloMosaic.StableHlo Cert.Entry

variable (X Y : Vec Ideal S4096x2048 .f32) (P T : Vec Ideal S1x2048 .f32) (Z : Vec Ideal S4096x2048 .f32)

theorem v2_eq (y : S4096x2048.Idx) : val_main_v2 (F := Ideal) Y y = at2 Y (y 0).val (y 1).val := by
  unfold val_main_v2 val_main_v1 val_main_v0 val_main_cst
  pointwise [eq_at2 Y]

theorem v9_eq (y : S4096x1.Idx) : val_main_v9 (F := Ideal) Y y = var (at2 Y (y 0).val) := by
  unfold val_main_v9 val_main_v8 val_main_v7 val_main_v6 val_main_v5 val_main_cst_1 val_main_cst_2
  pointwise [val_main_v4_apply, val_main_v3_apply, val_main_cst_0_apply, v2_eq]
  rfl

theorem v10_eq (y : S4096x1.Idx) : val_main_v10 (F := Ideal) Y y = inv (at2 Y (y 0).val) := by
  unfold val_main_v10
  pointwise [v9_eq]
  rfl

theorem v15_eq (y : S4096x2048.Idx) : val_main_v15 (F := Ideal) Y y = normed Y (y 0).val (y 1).val := by
  unfold val_main_v15 val_main_v14
  pointwise [v10_eq, v2_eq]
  rfl

theorem v17_eq (y : S4096x2048.Idx) : val_main_v17 (F := Ideal) Y P y = normed Y (y 0).val (y 1).val * at2 P 0 (y 1).val := by
  unfold val_main_v17 val_main_v16
  pointwise [v15_eq, eq_at2 P]

theorem v21_eq (y : S4096x2048.Idx) : val_main_v21 (F := Ideal) X Y P T Z y = err X Y P T Z (y 0).val (y 1).val := by
  unfold val_main_v21 val_main_v20 val_main_v19 val_main_v18
  pointwise [v17_eq, eq_at2 X, eq_at2 T, eq_at2 Z]
  rfl

theorem v35_eq (y : S4096x2048.Idx) : val_main_v35 (F := Ideal) X Y P T Z y = errGrad X Y P T Z (y 0).val (y 1).val := by
  unfold val_main_v35 val_main_v34 val_main_v33 val_main_v32 val_main_v31 val_main_v30 val_main_v24 val_main_v23 val_main_cst_4 val_main_cst_9 val_main_cst_10 val_main_cst_11
  pointwise [v21_eq]
  exact square_slope _

theorem v37_eq (y : S4096x2048.Idx) : val_main_v37 (F := Ideal) X Y P T Z y = errGrad X Y P T Z (y 0).val (y 1).val * at2 T 0 (y 1).val := by
  unfold val_main_v37 val_main_v36
  pointwise [v35_eq, eq_at2 T]
  exact mul_comm _ _

theorem v45_eq (y : S4096x2048.Idx) : val_main_v45 (F := Ideal) X Y P T Z y
    = errGrad X Y P T Z (y 0).val (y 1).val * at2 T 0 (y 1).val * at2 P 0 (y 1).val := by
  unfold val_main_v45 val_main_v44
  pointwise [v37_eq, eq_at2 P]

theorem v54_eq (y : S4096.Idx) : val_main_v54 (F := Ideal) X Y P T Z y
    = slope (at2 Y (y 0).val) (fun k => errGrad X Y P T Z (y 0).val k * at2 T 0 k * at2 P 0 k) := by
  rw [val_main_v54_apply]
  unfold val_main_v53 val_main_v52 val_main_v51 val_main_v48 val_main_v13 val_main_v12 val_main_v11 val_main_cst_3 val_main_cst_15 val_main_cst_16
  pointwise [val_main_v47_apply, val_main_v46_apply, val_main_cst_14_apply, v45_eq, v10_eq, v9_eq, v2_eq]
  exact Fin.sum_univ_one _

theorem v59_eq (y : S4096x2048.Idx) : val_main_v59 (F := Ideal) X Y P T Z y
    = branch (errGrad X Y P T Z) Y P T (y 0).val (y 1).val := by
  unfold val_main_v59 val_main_v58 val_main_v57 val_main_v56 val_main_v55 val_main_v50 val_main_v49
  pointwise [v54_eq, v45_eq, v10_eq, v2_eq]
  have h := grad_eq (at2 Y (y 0).val) (fun k => errGrad X Y P T Z (y 0).val k * at2 T 0 k * at2 P 0 k) 0 (y 1).isLt
  rw [zero_add, zero_add] at h
  exact h

theorem v63_eq (y : S4096x2048.Idx) : val_main_v63 (F := Ideal) X Y P T Z y
    = branch (errGrad X Y P T Z) Y P T (y 0).val (y 1).val := by
  unfold val_main_v63
  pointwise [v59_eq]

/-- The loss: the rows' shares. -/
theorem v64_eq (y : S8x128.Idx) : val_main_v64 (F := Ideal) X Y P T Z y
    = upTo (shareLoss X Y P T Z) 4096 (y 0).val (y 1).val := by
  rw [val_main_v64_apply, val_main_v29_apply, val_main_v28_apply]
  unfold val_main_v27 val_main_v26 val_main_cst_6 val_main_cst_7 val_main_cst_8
  pointwise [val_main_v25_apply, val_main_v22_apply, val_main_cst_5_apply, v21_eq]
  refine (half_mul_sum_div Finset.univ (fun x : S4096.Idx => ∑ k : Fin 2048, err X Y P T Z (x 0).val k.val * err X Y P T Z (x 0).val k.val)).trans ?_
  rw [sum_idx1]
  exact sum_eq_upTo fun s => rfl

/-- The gradients' sums: the rows' shares. -/
theorem v66_eq (y : S8x2048.Idx) : val_main_v66 (F := Ideal) X Y P T Z y
    = upTo (shareOut (errGrad X Y P T Z) Y P T) 4096 (y 0).val (y 1).val := by
  unfold val_main_v66 val_main_v65 val_main_v62 val_main_cst_18 val_main_v40 val_main_v43 val_main_v61
  pointwise [val_main_v39_apply, val_main_v42_apply, val_main_v60_apply, val_main_v38, val_main_v41,
    val_main_cst_12_apply, val_main_cst_13_apply, val_main_cst_17_apply, v15_eq, v17_eq, v35_eq, v37_eq, v59_eq]
  split_ifs with h0 h1 h2 h3
  · exact (upTo_of_zero fun s => by rw [shareOut, if_neg (by omega), if_neg (by omega), if_neg (by omega)]).symm
  · exact sum_eq_upTo fun s => by rw [show (y 0).val = 3 by omega]; rfl
  · exact sum_eq_upTo fun s => by rw [show (y 0).val = 4 by omega]; exact mul_comm _ _
  · exact sum_eq_upTo fun s => by rw [show (y 0).val = 5 by omega]; rfl
  · exact (upTo_of_zero fun s => by rw [shareOut, if_neg (by omega), if_neg (by omega), if_neg (by omega)]).symm

end Cert.Norms.Loss.Ref

end
-- ==== Proof.Norms.LossEqual.lean ====
/- The gradients of the loss on the trunk: the kernel's four arrays, and their equality with the reference's. -/
module

public import proofs.«01_k».proof.Defs
public import proofs.«01_k».proof.Proof.Gen.LossRefIdeal.Run
public import proofs.«01_k».proof.Proof.Norms.Loss
public import proofs.«01_k».proof.Proof.Norms.LossRef

@[expose] public section

set_option maxRecDepth 16384

noncomputable section

namespace Cert.Norms.Loss

open Idealize.ShloMosaic Idealize.ShloMosaic.TcCoe Idealize.SL.Sem Cert.Entry

section
open Cert.LossIdeal Cert.LossIdeal.Gen

variable (m : (ℓ : Loc nD τ sig) → Buf (Elt Ideal) ℓ) (c : Dev nD)

/-- The arguments as launched. -/
abbrev argX : Vec Ideal S4096x2048 .f32 := m ((c : Thread nD τ).loc main_arg0)
abbrev argY : Vec Ideal S4096x2048 .f32 := m ((c : Thread nD τ).loc main_arg1)
abbrev argP : Vec Ideal S1x2048 .f32 := m ((c : Thread nD τ).loc main_arg2)
abbrev argT : Vec Ideal S1x2048 .f32 := m ((c : Thread nD τ).loc main_arg3)
abbrev argZ : Vec Ideal S4096x2048 .f32 := m ((c : Thread nD τ).loc main_arg4)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

theorem blk0 (t : Fin cfg0.N) {r : ℕ} (hr : r < 256) :
    at2 (iblk m c 0 t : Vec Ideal S256x2048 .f32) r = at2 (argX m c) (256 * t.val + r) := by
  refine row_eq (x := (iblk m c 0 t : Vec Ideal S256x2048 .f32)) hr fun k hk => eq_at2_of (argX m c) _ ?_ ?_
  · show win0_0.index t 0 * 256 + 1 * r = _
    rw [(index0 t).1]; omega
  · show win0_0.index t 1 * 2048 + 1 * k = _
    rw [(index0 t).2]; omega
theorem blk1 (t : Fin cfg0.N) {r : ℕ} (hr : r < 256) :
    at2 (iblk m c 1 t : Vec Ideal S256x2048 .f32) r = at2 (argY m c) (256 * t.val + r) := by
  refine row_eq (x := (iblk m c 1 t : Vec Ideal S256x2048 .f32)) hr fun k hk => eq_at2_of (argY m c) _ ?_ ?_
  · show win0_1.index t 0 * 256 + 1 * r = _
    rw [(index1 t).1]; omega
  · show win0_1.index t 1 * 2048 + 1 * k = _
    rw [(index1 t).2]; omega
theorem blk2 (t : Fin cfg0.N) : at2 (iblk m c 2 t : Vec Ideal S1x2048 .f32) 0 = at2 (argP m c) 0 := by
  refine row_eq (x := (iblk m c 2 t : Vec Ideal S1x2048 .f32)) Nat.one_pos fun k hk => eq_at2_of (argP m c) _ ?_ ?_
  · show win0_2.index t 0 * 1 + 1 * 0 = _
    rw [(index2 t).1]
  · show win0_2.index t 1 * 2048 + 1 * k = _
    rw [(index2 t).2]; omega
theorem blk3 (t : Fin cfg0.N) : at2 (iblk m c 3 t : Vec Ideal S1x2048 .f32) 0 = at2 (argT m c) 0 := by
  refine row_eq (x := (iblk m c 3 t : Vec Ideal S1x2048 .f32)) Nat.one_pos fun k hk => eq_at2_of (argT m c) _ ?_ ?_
  · show win0_3.index t 0 * 1 + 1 * 0 = _
    rw [(index3 t).1]
  · show win0_3.index t 1 * 2048 + 1 * k = _
    rw [(index3 t).2]; omega
theorem blk4 (t : Fin cfg0.N) {r : ℕ} (hr : r < 256) :
    at2 (iblk m c 4 t : Vec Ideal S256x2048 .f32) r = at2 (argZ m c) (256 * t.val + r) := by
  refine row_eq (x := (iblk m c 4 t : Vec Ideal S256x2048 .f32)) hr fun k hk => eq_at2_of (argZ m c) _ ?_ ?_
  · show win0_4.index t 0 * 256 + 1 * r = _
    rw [(index4 t).1]; omega
  · show win0_4.index t 1 * 2048 + 1 * k = _
    rw [(index4 t).2]; omega

/-- A point's rows of the loss's gradient are the array's, -/
theorem err_blk (t : Fin cfg0.N) {r : ℕ} (hr : r < 256) (k : ℕ) :
    errGrad (iblk m c 0 t : Vec Ideal S256x2048 .f32) (iblk m c 1 t : Vec Ideal S256x2048 .f32) (iblk m c 2 t : Vec Ideal S1x2048 .f32) (iblk m c 3 t : Vec Ideal S1x2048 .f32) (iblk m c 4 t : Vec Ideal S256x2048 .f32) r k
      = errGrad (argX m c) (argY m c) (argP m c) (argT m c) (argZ m c) (256 * t.val + r) k :=
  congrArg (· * perLen) (err_congr (blk0 m c t hr) (blk1 m c t hr) (blk2 m c t) (blk3 m c t) (blk4 m c t hr) k)

/-- its rows of the branch's gradient too, -/
theorem branch_blk (t : Fin cfg0.N) {r : ℕ} (hr : r < 256) (k : ℕ) :
    branch (errGrad (iblk m c 0 t : Vec Ideal S256x2048 .f32) (iblk m c 1 t : Vec Ideal S256x2048 .f32) (iblk m c 2 t : Vec Ideal S1x2048 .f32) (iblk m c 3 t : Vec Ideal S1x2048 .f32) (iblk m c 4 t : Vec Ideal S256x2048 .f32)) (iblk m c 1 t : Vec Ideal S256x2048 .f32) (iblk m c 2 t : Vec Ideal S1x2048 .f32) (iblk m c 3 t : Vec Ideal S1x2048 .f32) r k
      = branch (errGrad (argX m c) (argY m c) (argP m c) (argT m c) (argZ m c)) (argY m c) (argP m c) (argT m c) (256 * t.val + r) k :=
  branch_congr (err_blk m c t hr) (blk1 m c t hr) (blk2 m c t) (blk3 m c t) k

/-- and so are its rows' shares of the loss -/
theorem shareLoss_blk (t : Fin cfg0.N) (q k : ℕ) :
    upTo (shareLoss (argX m c) (argY m c) (argP m c) (argT m c) (argZ m c)) (256 * t.val) q k
      + ∑ s : Fin 256, shareLoss (iblk m c 0 t : Vec Ideal S256x2048 .f32) (iblk m c 1 t : Vec Ideal S256x2048 .f32) (iblk m c 2 t : Vec Ideal S1x2048 .f32) (iblk m c 3 t : Vec Ideal S1x2048 .f32) (iblk m c 4 t : Vec Ideal S256x2048 .f32) q s.val k
      = upTo (shareLoss (argX m c) (argY m c) (argP m c) (argT m c) (argZ m c)) (256 * (t.val + 1)) q k := by
  rw [Nat.mul_succ, upTo_add]
  exact congrArg _ (Finset.sum_congr rfl fun s _ => shareLoss_congr (blk0 m c t s.isLt) (blk1 m c t s.isLt) (blk2 m c t) (blk3 m c t) (blk4 m c t s.isLt) q k)

/-- and of the gradients' sums. -/
theorem shareOut_blk (t : Fin cfg0.N) (q k : ℕ) :
    upTo (shareOut (errGrad (argX m c) (argY m c) (argP m c) (argT m c) (argZ m c)) (argY m c) (argP m c) (argT m c)) (256 * t.val) q k
      + ∑ s : Fin 256, shareOut (errGrad (iblk m c 0 t : Vec Ideal S256x2048 .f32) (iblk m c 1 t : Vec Ideal S256x2048 .f32) (iblk m c 2 t : Vec Ideal S1x2048 .f32) (iblk m c 3 t : Vec Ideal S1x2048 .f32) (iblk m c 4 t : Vec Ideal S256x2048 .f32)) (iblk m c 1 t : Vec Ideal S256x2048 .f32) (iblk m c 2 t : Vec Ideal S1x2048 .f32) (iblk m c 3 t : Vec Ideal S1x2048 .f32) q s.val k
      = upTo (shareOut (errGrad (argX m c) (argY m c) (argP m c) (argT m c) (argZ m c)) (argY m c) (argP m c) (argT m c)) (256 * (t.val + 1)) q k := by
  rw [Nat.mul_succ, upTo_add]
  exact congrArg _ (Finset.sum_congr rfl fun s _ => shareOut_congr (err_blk m c t s.isLt) (blk1 m c t s.isLt) (blk2 m c t) (blk3 m c t) q k)

/-- What point `t` leaves of the loss's gradient, whichever case it runs. -/
theorem outs5 (t : Fin cfg0.N) (y : S256x2048.Idx) : (outsAt0 m c t.val t.isLt).1 y
    = errGrad (argX m c) (argY m c) (argP m c) (argT m c) (argZ m c) (256 * t.val + (y 0).val) (y 1).val := by
  rw [← err_blk m c t (y 0).isLt]
  by_cases ht : t.val % 16 = 0
  · rw [outsAt0_A m c t ht]; dsimp only; rw [out5_A]
  · rw [outsAt0_B m c t ht]; dsimp only; rw [out5_B]

/-- What point `t` leaves of the branch's gradient, whichever case it runs. -/
theorem outs6 (t : Fin cfg0.N) (y : S256x2048.Idx) : (outsAt0 m c t.val t.isLt).2.1 y
    = branch (errGrad (argX m c) (argY m c) (argP m c) (argT m c) (argZ m c)) (argY m c) (argP m c) (argT m c) (256 * t.val + (y 0).val) (y 1).val := by
  rw [← branch_blk m c t (y 0).isLt]
  by_cases ht : t.val % 16 = 0
  · rw [outsAt0_A m c t ht]; dsimp only; rw [out6_A]
  · rw [outsAt0_B m c t ht]; dsimp only; rw [out6_B]

/-- What the loss's block holds after point `n`: the shares of the rows so far. -/
theorem outs7 : ∀ (n : ℕ) (h : n < cfg0.N) (y : S8x128.Idx), (outsAt0 m c n h).2.2.1 y
    = upTo (shareLoss (argX m c) (argY m c) (argP m c) (argT m c) (argZ m c)) (256 * (n + 1)) (y 0).val (y 1).val
  | 0, h, y => by
    rw [show outsAt0 m c 0 h = _ from outsAt0_A m c ⟨0, h⟩ rfl]
    dsimp only
    rw [out7_A, ← shareLoss_blk m c ⟨0, h⟩]
    exact (zero_add _).symm
  | n + 1, h, y => by
    have hN : n + 1 < 16 := h
    have hB : ¬(⟨n + 1, h⟩ : Fin cfg0.N).val % 16 = 0 := by dsimp only; omega
    rw [show outsAt0 m c (n + 1) h = _ from outsAt0_B m c ⟨n + 1, h⟩ hB]
    dsimp only
    rw [out7_B, ← shareLoss_blk m c ⟨n + 1, h⟩]
    have ih : (outsAt0 m c n (Nat.lt_of_succ_lt h)).2.2.1 y = _ := outs7 n (Nat.lt_of_succ_lt h) y
    exact congrArg (· + _) ((eq_at2 _ y).symm.trans ih)

/-- What the sums's block holds after point `n`: the shares of the rows so far. -/
theorem outs8 : ∀ (n : ℕ) (h : n < cfg0.N) (y : S8x2048.Idx), (outsAt0 m c n h).2.2.2 y
    = upTo (shareOut (errGrad (argX m c) (argY m c) (argP m c) (argT m c) (argZ m c)) (argY m c) (argP m c) (argT m c)) (256 * (n + 1)) (y 0).val (y 1).val
  | 0, h, y => by
    rw [show outsAt0 m c 0 h = _ from outsAt0_A m c ⟨0, h⟩ rfl]
    dsimp only
    rw [out8_A, ← shareOut_blk m c ⟨0, h⟩]
    exact (zero_add _).symm
  | n + 1, h, y => by
    have hN : n + 1 < 16 := h
    have hB : ¬(⟨n + 1, h⟩ : Fin cfg0.N).val % 16 = 0 := by dsimp only; omega
    rw [show outsAt0 m c (n + 1) h = _ from outsAt0_B m c ⟨n + 1, h⟩ hB]
    dsimp only
    rw [out8_B, ← shareOut_blk m c ⟨n + 1, h⟩]
    have ih : (outsAt0 m c n (Nat.lt_of_succ_lt h)).2.2.2 y = _ := outs8 n (Nat.lt_of_succ_lt h) y
    exact congrArg (· + _) ((eq_at2 _ y).symm.trans ih)

/-- The loss's gradient's array. -/
theorem final5 : (dats m 0 c).arrAt 5 cfg0.N = fun y : S4096x2048.Idx => errGrad (argX m c) (argY m c) (argP m c) (argT m c) (argZ m c) (y 0).val (y 1).val := by
  refine (dats m 0 c).arrAt_eq_of_cover 5 _ (fun t hf => ?_) fun (y : S4096x2048.Idx) => ?_
  · rw [Cert.LossIdeal.Value.flushed5]
    funext x
    refine (outs5 m c t _).trans ?_
    rw [View.read_apply]
    refine congrArg₂ (errGrad (argX m c) (argY m c) (argP m c) (argT m c) (argZ m c)) ?_ ?_
    · show 256 * t.val + (x 0).val = win0_5.index t 0 * 256 + 1 * (x 0).val
      rw [(index5 t).1]; omega
    · show (x 1).val = win0_5.index t 1 * 2048 + 1 * (x 1).val
      rw [(index5 t).2]; omega
  · have h0 : (y 0).val < 4096 := (y 0).isLt
    have h1 : (y 1).val < 2048 := (y 1).isLt
    obtain ⟨t, ht⟩ : ∃ t : Fin cfg0.N, t.val = (y 0).val / 256 := ⟨⟨(y 0).val / 256, show (y 0).val / 256 < 16 by omega⟩, rfl⟩
    refine ⟨t, flush0_5 _, ?_⟩
    show y ∈ ((View.whole main_v0_0).slice (win0_5.rect t)).set
    rw [View.set_slice_whole, Rect.mem_set_unit]
    intro a
    match a with
    | ⟨0, _⟩ =>
      show win0_5.index t 0 * 256 ≤ (y 0).val ∧ (y 0).val < win0_5.index t 0 * 256 + 256
      rw [(index5 t).1]; omega
    | ⟨1, _⟩ =>
      show win0_5.index t 1 * 2048 ≤ (y 1).val ∧ (y 1).val < win0_5.index t 1 * 2048 + 2048
      rw [(index5 t).2]; omega

/-- The branch's gradient's array. -/
theorem final6 : (dats m 0 c).arrAt 6 cfg0.N = fun y : S4096x2048.Idx => branch (errGrad (argX m c) (argY m c) (argP m c) (argT m c) (argZ m c)) (argY m c) (argP m c) (argT m c) (y 0).val (y 1).val := by
  refine (dats m 0 c).arrAt_eq_of_cover 6 _ (fun t hf => ?_) fun (y : S4096x2048.Idx) => ?_
  · rw [Cert.LossIdeal.Value.flushed6]
    funext x
    refine (outs6 m c t _).trans ?_
    rw [View.read_apply]
    refine congrArg₂ (branch (errGrad (argX m c) (argY m c) (argP m c) (argT m c) (argZ m c)) (argY m c) (argP m c) (argT m c)) ?_ ?_
    · show 256 * t.val + (x 0).val = win0_6.index t 0 * 256 + 1 * (x 0).val
      rw [(index6 t).1]; omega
    · show (x 1).val = win0_6.index t 1 * 2048 + 1 * (x 1).val
      rw [(index6 t).2]; omega
  · have h0 : (y 0).val < 4096 := (y 0).isLt
    have h1 : (y 1).val < 2048 := (y 1).isLt
    obtain ⟨t, ht⟩ : ∃ t : Fin cfg0.N, t.val = (y 0).val / 256 := ⟨⟨(y 0).val / 256, show (y 0).val / 256 < 16 by omega⟩, rfl⟩
    refine ⟨t, flush0_6 _, ?_⟩
    show y ∈ ((View.whole main_v0_1).slice (win0_6.rect t)).set
    rw [View.set_slice_whole, Rect.mem_set_unit]
    intro a
    match a with
    | ⟨0, _⟩ =>
      show win0_6.index t 0 * 256 ≤ (y 0).val ∧ (y 0).val < win0_6.index t 0 * 256 + 256
      rw [(index6 t).1]; omega
    | ⟨1, _⟩ =>
      show win0_6.index t 1 * 2048 ≤ (y 1).val ∧ (y 1).val < win0_6.index t 1 * 2048 + 2048
      rw [(index6 t).2]; omega

/-- The loss's array. -/
theorem final7 : (dats m 0 c).arrAt 7 cfg0.N = fun y : S8x128.Idx => upTo (shareLoss (argX m c) (argY m c) (argP m c) (argT m c) (argZ m c)) 4096 (y 0).val (y 1).val := by
  refine (dats m 0 c).arrAt_eq_of_cover 7 _ (fun t hf => ?_) fun (y : S8x128.Idx) => ?_
  · have h15 : t.val = 15 := by have h := (flush0_7 t).mp hf; have hN : t.val < 16 := t.isLt; omega
    rw [Cert.LossIdeal.Value.flushed7]
    funext x
    refine (outs7 m c _ _ _).trans ?_
    rw [View.read_apply, h15]
    refine congrArg₂ (upTo (shareLoss (argX m c) (argY m c) (argP m c) (argT m c) (argZ m c)) 4096) ?_ ?_
    · show (x 0).val = win0_7.index t 0 * 8 + 1 * (x 0).val
      rw [(index7 t).1]; omega
    · show (x 1).val = win0_7.index t 1 * 128 + 1 * (x 1).val
      rw [(index7 t).2]; omega
  · have h0 : (y 0).val < 8 := (y 0).isLt
    have h1 : (y 1).val < 128 := (y 1).isLt
    obtain ⟨t, ht⟩ : ∃ t : Fin cfg0.N, t.val = 15 := ⟨⟨15, show 15 < 16 by omega⟩, rfl⟩
    refine ⟨t, (flush0_7 _).mpr (by rw [ht]), ?_⟩
    show y ∈ ((View.whole main_v0_2).slice (win0_7.rect t)).set
    rw [View.set_slice_whole, Rect.mem_set_unit]
    intro a
    match a with
    | ⟨0, _⟩ =>
      show win0_7.index t 0 * 8 ≤ (y 0).val ∧ (y 0).val < win0_7.index t 0 * 8 + 8
      rw [(index7 t).1]; omega
    | ⟨1, _⟩ =>
      show win0_7.index t 1 * 128 ≤ (y 1).val ∧ (y 1).val < win0_7.index t 1 * 128 + 128
      rw [(index7 t).2]; omega

/-- The sums' array. -/
theorem final8 : (dats m 0 c).arrAt 8 cfg0.N = fun y : S8x2048.Idx => upTo (shareOut (errGrad (argX m c) (argY m c) (argP m c) (argT m c) (argZ m c)) (argY m c) (argP m c) (argT m c)) 4096 (y 0).val (y 1).val := by
  refine (dats m 0 c).arrAt_eq_of_cover 8 _ (fun t hf => ?_) fun (y : S8x2048.Idx) => ?_
  · have h15 : t.val = 15 := by have h := (flush0_8 t).mp hf; have hN : t.val < 16 := t.isLt; omega
    rw [Cert.LossIdeal.Value.flushed8]
    funext x
    refine (outs8 m c _ _ _).trans ?_
    rw [View.read_apply, h15]
    refine congrArg₂ (upTo (shareOut (errGrad (argX m c) (argY m c) (argP m c) (argT m c) (argZ m c)) (argY m c) (argP m c) (argT m c)) 4096) ?_ ?_
    · show (x 0).val = win0_8.index t 0 * 8 + 1 * (x 0).val
      rw [(index8 t).1]; omega
    · show (x 1).val = win0_8.index t 1 * 2048 + 1 * (x 1).val
      rw [(index8 t).2]; omega
  · have h0 : (y 0).val < 8 := (y 0).isLt
    have h1 : (y 1).val < 2048 := (y 1).isLt
    obtain ⟨t, ht⟩ : ∃ t : Fin cfg0.N, t.val = 15 := ⟨⟨15, show 15 < 16 by omega⟩, rfl⟩
    refine ⟨t, (flush0_8 _).mpr (by rw [ht]), ?_⟩
    show y ∈ ((View.whole main_v0_3).slice (win0_8.rect t)).set
    rw [View.set_slice_whole, Rect.mem_set_unit]
    intro a
    match a with
    | ⟨0, _⟩ =>
      show win0_8.index t 0 * 8 ≤ (y 0).val ∧ (y 0).val < win0_8.index t 0 * 8 + 8
      rw [(index8 t).1]; omega
    | ⟨1, _⟩ =>
      show win0_8.index t 1 * 2048 ≤ (y 1).val ∧ (y 1).val < win0_8.index t 1 * 2048 + 2048
      rw [(index8 t).2]; omega

end

/-- The four results, equal entry by entry. -/
theorem algebraic : Cert.algebraic_LossIdeal_LossRefIdeal :=
  fun m ρ m' ρ' _ hag => by
    refine ⟨fun c (y : LossIdeal.S4096x2048.Idx) => errGrad (argX m c) (argY m c) (argP m c) (argT m c) (argZ m c) (y 0).val (y 1).val,
      fun c (y : LossIdeal.S4096x2048.Idx) => branch (errGrad (argX m c) (argY m c) (argP m c) (argT m c) (argZ m c)) (argY m c) (argP m c) (argT m c) (y 0).val (y 1).val,
      fun c (y : LossIdeal.S8x128.Idx) => upTo (shareLoss (argX m c) (argY m c) (argP m c) (argT m c) (argZ m c)) 4096 (y 0).val (y 1).val,
      fun c (y : LossIdeal.S8x2048.Idx) => upTo (shareOut (errGrad (argX m c) (argY m c) (argP m c) (argT m c) (argZ m c)) (argY m c) (argP m c) (argT m c)) 4096 (y 0).val (y 1).val,
      (θ_run LossIdeal.defs _ _).mono (fun _ h c => ⟨(h c).1.trans (final5 m c), (h c).2.1.trans (final6 m c), (h c).2.2.1.trans (final7 m c),
      (h c).2.2.2.1.trans (final8 m c), (h c).2.2.2.2⟩) (LossIdeal.Value.run_blocks m ρ),
      (θ_run LossRefIdeal.defs _ _).mono (fun _ h c => ?_) (LossRefIdeal.Value.run m' ρ')⟩
    obtain ⟨e0, e1, e2, e3, e4⟩ := hag c
    exact ⟨(h c).1.trans ((LossRefIdeal.Read.val_main_v35_eq _ _ _ _ _).trans ((funext fun y => Ref.v35_eq _ _ _ _ _ y).trans (by rw [e0, e1, e2, e3, e4]))),
      (h c).2.1.trans ((LossRefIdeal.Read.val_main_v63_eq m' c).trans ((funext fun y => Ref.v63_eq _ _ _ _ _ y).trans (by rw [e0, e1, e2, e3, e4]))),
      (h c).2.2.1.trans ((LossRefIdeal.Read.val_main_v64_eq _ _ _ _ _).trans ((funext fun y => Ref.v64_eq _ _ _ _ _ y).trans (by rw [e0, e1, e2, e3, e4]))),
      (h c).2.2.2.1.trans ((LossRefIdeal.Read.val_main_v66_eq m' c).trans ((funext fun y => Ref.v66_eq _ _ _ _ _ y).trans (by rw [e0, e1, e2, e3, e4]))),
      (h c).2.2.2.2⟩

/-- The reference runs and leaves its arguments alone; it declares no semaphore. -/
theorem referenceFrame : Cert.quiescent_LossRefIdeal :=
  fun m ρ _ => (θ_run LossRefIdeal.defs _ _).mono (fun r h => ⟨fun c => (h c).2.2.2.2,
    sem_eq_zero_of_no_sems (by decide) r.2⟩) (LossRefIdeal.Value.run m ρ)

end Cert.Norms.Loss

end
-- ==== Proof.Norms.FwdRows.lean ====
/- The forward norms, entry by entry: the end of a branch joined to the trunk, and the next branch's input. -/
module

public import proofs.«01_k».proof.Proof.Norms.Rows

@[expose] public section

noncomputable section

namespace Cert.Norms

open Idealize.ShloMosaic Cert.Entry

/-- A branch's input: the row `x` normed, weighted, scaled and shifted. -/
def enter (x : ℕ → EReal) (P S B : (⟨2, ![1, 2048]⟩ : Shape).Idx → EReal) (k : ℕ) : EReal :=
  x k * inv x * at2 P 0 k * (1 + at2 S 0 k) + at2 B 0 k

/-- The trunk after a branch whose output is `Y`: that output normed, weighted and gated. -/
def joined {R : ℕ} (X Y : (⟨2, ![R, 2048]⟩ : Shape).Idx → EReal) (P T : (⟨2, ![1, 2048]⟩ : Shape).Idx → EReal) (r k : ℕ) : EReal :=
  at2 X r k + at2 T 0 k * (normed Y r k * at2 P 0 k)

theorem enter_congr {x X : ℕ → EReal} {p s b P S B : (⟨2, ![1, 2048]⟩ : Shape).Idx → EReal} (hx : x = X) (hp : at2 p 0 = at2 P 0)
    (hs : at2 s 0 = at2 S 0) (hb : at2 b 0 = at2 B 0) (k : ℕ) : enter x p s b k = enter X P S B k := by
  simp only [enter, hx, hp, hs, hb]

theorem joined_congr {R N r s : ℕ} {x y : (⟨2, ![N, 2048]⟩ : Shape).Idx → EReal} {X Y : (⟨2, ![R, 2048]⟩ : Shape).Idx → EReal}
    {p t P T : (⟨2, ![1, 2048]⟩ : Shape).Idx → EReal} (hx : at2 x r = at2 X s) (hy : at2 y r = at2 Y s) (hp : at2 p 0 = at2 P 0)
    (ht : at2 t 0 = at2 T 0) : joined x y p t r = joined X Y P T s := by
  funext k
  simp only [joined, normed, hx, hy, hp, ht]

end Cert.Norms

end
-- ==== Proof.Norms.FwdIn.lean ====
/- The norm and the modulation in front of a branch: the kernel's blocks, its arrays, and their equality with the reference's. -/
module

public import proofs.«01_k».proof.Defs
public import proofs.«01_k».proof.Proof.Gen.FwdInIdeal.Value
public import proofs.«01_k».proof.Proof.Gen.FwdInRefIdeal.Run
public import proofs.«01_k».proof.Proof.Gen.FwdInRefIdeal.Read
public import proofs.«01_k».proof.Proof.Norms.FwdRows
public import proofs.«01_k».proof.Proof.Products.Sums

@[expose] public section

set_option maxRecDepth 16384

noncomputable section

namespace Cert.Norms.FwdIn

open Idealize.ShloMosaic Idealize.ShloMosaic.TcCoe Idealize.SL.Sem Cert.Entry Cert.Products

namespace Ref

open Cert.FwdInRefIdeal Cert.FwdInRefIdeal.Gen Cert.FwdInRefIdeal.Read Idealize.ShloMosaic.StableHlo

variable (X : Vec Ideal S4096x2048 .f32) (P : Vec Ideal S1x2048 .f32) (S : Vec Ideal S1x2048 .f32) (B : Vec Ideal S1x2048 .f32)

theorem v6_eq (y : S4096x1.Idx) : val_main_v6 (F := Ideal) X y = var (at2 X (y 0).val) := by
  unfold val_main_v6 val_main_v5 val_main_v4 val_main_v3 val_main_v2 val_main_cst_0 val_main_cst_1
  pointwise [val_main_v1_apply, val_main_v0_apply, val_main_cst_apply, eq_at2 X]
  rfl

theorem v18_eq (y : S4096x2048.Idx) : val_main_v18 (F := Ideal) X P S B y = enter (at2 X (y 0).val) P S B (y 1).val := by
  unfold val_main_v18 val_main_v17 val_main_v16 val_main_v15 val_main_v14 val_main_v13 val_main_v12 val_main_v11 val_main_v10 val_main_v9 val_main_v8 val_main_v7 val_main_cst_2
  pointwise [v6_eq, eq_at2 X, eq_at2 P, eq_at2 S, eq_at2 B]
  rfl

end Ref

section
open Cert.FwdInIdeal Cert.FwdInIdeal.Gen

variable (m : (ℓ : Loc nD τ sig) → Buf (Elt Ideal) ℓ) (c : Dev nD)

/-- The arguments as launched. -/
abbrev argX : Vec Ideal S4096x2048 .f32 := m ((c : Thread nD τ).loc main_arg0)
abbrev argP : Vec Ideal S1x2048 .f32 := m ((c : Thread nD τ).loc main_arg1)
abbrev argS : Vec Ideal S1x2048 .f32 := m ((c : Thread nD τ).loc main_arg2)
abbrev argB : Vec Ideal S1x2048 .f32 := m ((c : Thread nD τ).loc main_arg3)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

theorem blk0 (t : Fin cfg0.N) {r : ℕ} (hr : r < 256) :
    at2 (iblk m c 0 t : Vec Ideal S256x2048 .f32) r = at2 (argX m c) (256 * t.val + r) := by
  refine row_eq (x := (iblk m c 0 t : Vec Ideal S256x2048 .f32)) hr fun k hk => eq_at2_of (argX m c) _ ?_ ?_
  · show win0_0.index t 0 * 256 + 1 * r = _
    rw [(index0 t).1]; omega
  · show win0_0.index t 1 * 2048 + 1 * k = _
    rw [(index0 t).2]; omega
theorem blk1 (t : Fin cfg0.N) : at2 (iblk m c 1 t : Vec Ideal S1x2048 .f32) 0 = at2 (argP m c) 0 := by
  refine row_eq (x := (iblk m c 1 t : Vec Ideal S1x2048 .f32)) Nat.one_pos fun k hk => eq_at2_of (argP m c) _ ?_ ?_
  · show win0_1.index t 0 * 1 + 1 * 0 = _
    rw [(index1 t).1]
  · show win0_1.index t 1 * 2048 + 1 * k = _
    rw [(index1 t).2]; omega
theorem blk2 (t : Fin cfg0.N) : at2 (iblk m c 2 t : Vec Ideal S1x2048 .f32) 0 = at2 (argS m c) 0 := by
  refine row_eq (x := (iblk m c 2 t : Vec Ideal S1x2048 .f32)) Nat.one_pos fun k hk => eq_at2_of (argS m c) _ ?_ ?_
  · show win0_2.index t 0 * 1 + 1 * 0 = _
    rw [(index2 t).1]
  · show win0_2.index t 1 * 2048 + 1 * k = _
    rw [(index2 t).2]; omega
theorem blk3 (t : Fin cfg0.N) : at2 (iblk m c 3 t : Vec Ideal S1x2048 .f32) 0 = at2 (argB m c) 0 := by
  refine row_eq (x := (iblk m c 3 t : Vec Ideal S1x2048 .f32)) Nat.one_pos fun k hk => eq_at2_of (argB m c) _ ?_ ?_
  · show win0_3.index t 0 * 1 + 1 * 0 = _
    rw [(index3 t).1]
  · show win0_3.index t 1 * 2048 + 1 * k = _
    rw [(index3 t).2]; omega

/-- The branch's input: a point's block, -/
theorem out4_eq (x0 : Vec Ideal S256x2048 .f32) (x1 : Vec Ideal S1x2048 .f32) (x2 : Vec Ideal S1x2048 .f32) (x3 : Vec Ideal S1x2048 .f32) (y : S256x2048.Idx) :
    out0_4 (F := Ideal) x0 x1 x2 x3 y = enter (at2 x0 (y 0).val) x1 x2 x3 (y 1).val := by
  unfold out0_4
  rw [View.canon_unit_zero zero2]
  simp only [View.ld_unit_zero (S := S256x2048) zero2, View.ld_unit_zero (S := S1x2048) zero2]
  unfold_payloads
  pointwise [eq_at2 x0, eq_at2 x1, eq_at2 x2, eq_at2 x3]
  rfl

/-- and the array. -/
theorem final4 : (dats m 0 c).arrAt 4 cfg0.N = fun y : S4096x2048.Idx => enter (at2 (argX m c) (y 0).val) (argP m c) (argS m c) (argB m c) (y 1).val := by
  refine (dats m 0 c).arrAt_eq_of_cover 4 _ (fun t hf => ?_) fun (y : S4096x2048.Idx) => ?_
  · rw [Cert.FwdInIdeal.Value.flushed4]
    funext x
    refine (out4_eq (iblk m c 0 t : Vec Ideal S256x2048 .f32) (iblk m c 1 t : Vec Ideal S1x2048 .f32) (iblk m c 2 t : Vec Ideal S1x2048 .f32) (iblk m c 3 t : Vec Ideal S1x2048 .f32) _).trans ?_
    rw [View.read_apply]
    have e0 : (((cfg0.win 4).blk t).view.emb x (0 : Fin 2)).val = 256 * t.val + (x 0).val := by
      show win0_4.index t 0 * 256 + 1 * (x 0).val = _
      rw [(index4 t).1]; omega
    have e1 : (((cfg0.win 4).blk t).view.emb x (1 : Fin 2)).val = (x 1).val := by
      show win0_4.index t 1 * 2048 + 1 * (x 1).val = _
      rw [(index4 t).2]; omega
    have h : (x 0).val < 256 := (x 0).isLt
    dsimp only
    rw [e0, e1]
    exact enter_congr (blk0 m c t h) (blk1 m c t) (blk2 m c t) (blk3 m c t) _
  · have h0 : (y 0).val < 4096 := (y 0).isLt
    have h1 : (y 1).val < 2048 := (y 1).isLt
    obtain ⟨t, ht⟩ : ∃ t : Fin cfg0.N, t.val = (y 0).val / 256 := ⟨⟨(y 0).val / 256, show (y 0).val / 256 < 16 by omega⟩, rfl⟩
    refine ⟨t, flush0_4 _, ?_⟩
    show y ∈ ((View.whole main_v0).slice (win0_4.rect t)).set
    rw [View.set_slice_whole, Rect.mem_set_unit]
    intro a
    match a with
    | ⟨0, _⟩ =>
      show win0_4.index t 0 * 256 ≤ (y 0).val ∧ (y 0).val < win0_4.index t 0 * 256 + 256
      rw [(index4 t).1]; omega
    | ⟨1, _⟩ =>
      show win0_4.index t 1 * 2048 ≤ (y 1).val ∧ (y 1).val < win0_4.index t 1 * 2048 + 2048
      rw [(index4 t).2]; omega

end

/-- The results, equal entry by entry. -/
theorem algebraic : Cert.algebraic_FwdInIdeal_FwdInRefIdeal :=
  fun m ρ m' ρ' _ hag => by
    refine ⟨fun c (y : FwdInIdeal.S4096x2048.Idx) => enter (at2 (argX m c) (y 0).val) (argP m c) (argS m c) (argB m c) (y 1).val,
      (θ_run FwdInIdeal.defs _ _).mono (fun _ h c => ⟨(h c).1.trans (final4 m c), (h c).2⟩) (FwdInIdeal.Value.run_blocks m ρ),
      (θ_run FwdInRefIdeal.defs _ _).mono (fun _ h c => ?_) (FwdInRefIdeal.Value.run m' ρ')⟩
    obtain ⟨e0, e1, e2, e3⟩ := hag c
    exact ⟨(h c).1.trans ((FwdInRefIdeal.Read.val_main_v18_eq _ _ _ _).trans ((funext fun y => Ref.v18_eq _ _ _ _ y).trans (by rw [e0, e1, e2, e3]))),
      (h c).2⟩

/-- The reference runs and leaves its arguments alone; it declares no semaphore. -/
theorem referenceFrame : Cert.quiescent_FwdInRefIdeal :=
  fun m ρ _ => (θ_run FwdInRefIdeal.defs _ _).mono (fun r h => ⟨fun c => (h c).2,
    sem_eq_zero_of_no_sems (by decide) r.2⟩) (FwdInRefIdeal.Value.run m ρ)

end Cert.Norms.FwdIn

end
-- ==== Proof.Norms.FwdMid.lean ====
/- The end of a branch joined to the trunk and the next branch's norm and modulation: the kernel's blocks, its arrays, and their equality with the reference's. -/
module

public import proofs.«01_k».proof.Defs
public import proofs.«01_k».proof.Proof.Gen.FwdMidIdeal.Value
public import proofs.«01_k».proof.Proof.Gen.FwdMidRefIdeal.Run
public import proofs.«01_k».proof.Proof.Gen.FwdMidRefIdeal.Read
public import proofs.«01_k».proof.Proof.Norms.FwdRows
public import proofs.«01_k».proof.Proof.Products.Sums

@[expose] public section

set_option maxRecDepth 16384

noncomputable section

namespace Cert.Norms.FwdMid

open Idealize.ShloMosaic Idealize.ShloMosaic.TcCoe Idealize.SL.Sem Cert.Entry Cert.Products

namespace Ref

open Cert.FwdMidRefIdeal Cert.FwdMidRefIdeal.Gen Cert.FwdMidRefIdeal.Read Idealize.ShloMosaic.StableHlo

variable (X : Vec Ideal S4096x2048 .f32) (Y : Vec Ideal S4096x2048 .f32) (Q : Vec Ideal S1x2048 .f32) (T : Vec Ideal S1x2048 .f32) (P : Vec Ideal S1x2048 .f32) (S : Vec Ideal S1x2048 .f32) (B : Vec Ideal S1x2048 .f32)

theorem v6_eq (y : S4096x1.Idx) : val_main_v6 (F := Ideal) Y y = var (at2 Y (y 0).val) := by
  unfold val_main_v6 val_main_v5 val_main_v4 val_main_v3 val_main_v2 val_main_cst_0 val_main_cst_1
  pointwise [val_main_v1_apply, val_main_v0_apply, val_main_cst_apply, eq_at2 Y]
  rfl

theorem v14_eq (y : S4096x2048.Idx) : val_main_v14 (F := Ideal) X Y Q T y = joined X Y Q T (y 0).val (y 1).val := by
  unfold val_main_v14 val_main_v13 val_main_v12 val_main_v11 val_main_v10 val_main_v9 val_main_v8 val_main_v7
  pointwise [v6_eq, eq_at2 X, eq_at2 Y, eq_at2 Q, eq_at2 T]
  rfl

theorem v21_eq (y : S4096x1.Idx) : val_main_v21 (F := Ideal) X Y Q T y = var (joined X Y Q T (y 0).val) := by
  unfold val_main_v21 val_main_v20 val_main_v19 val_main_v18 val_main_v17 val_main_cst_3 val_main_cst_4
  pointwise [val_main_v16_apply, val_main_v15_apply, val_main_cst_2_apply, v14_eq]
  rfl

theorem v33_eq (y : S4096x2048.Idx) : val_main_v33 (F := Ideal) X Y Q T P S B y = enter (joined X Y Q T (y 0).val) P S B (y 1).val := by
  unfold val_main_v33 val_main_v32 val_main_v31 val_main_v30 val_main_v29 val_main_v28 val_main_v27 val_main_v26 val_main_v25 val_main_v24 val_main_v23 val_main_v22 val_main_cst_5
  pointwise [v21_eq, v14_eq, eq_at2 P, eq_at2 S, eq_at2 B]
  rfl

end Ref

section
open Cert.FwdMidIdeal Cert.FwdMidIdeal.Gen

variable (m : (ℓ : Loc nD τ sig) → Buf (Elt Ideal) ℓ) (c : Dev nD)

/-- The arguments as launched. -/
abbrev argX : Vec Ideal S4096x2048 .f32 := m ((c : Thread nD τ).loc main_arg0)
abbrev argY : Vec Ideal S4096x2048 .f32 := m ((c : Thread nD τ).loc main_arg1)
abbrev argQ : Vec Ideal S1x2048 .f32 := m ((c : Thread nD τ).loc main_arg2)
abbrev argT : Vec Ideal S1x2048 .f32 := m ((c : Thread nD τ).loc main_arg3)
abbrev argP : Vec Ideal S1x2048 .f32 := m ((c : Thread nD τ).loc main_arg4)
abbrev argS : Vec Ideal S1x2048 .f32 := m ((c : Thread nD τ).loc main_arg5)
abbrev argB : Vec Ideal S1x2048 .f32 := m ((c : Thread nD τ).loc main_arg6)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = t.val ∧ win0_8.index t 1 = 0 :=
  (by decide +kernel : ∀ t : Fin grid0.N, win0_8.index t 0 = t.val ∧ win0_8.index t 1 = 0)

theorem blk0 (t : Fin cfg0.N) {r : ℕ} (hr : r < 256) :
    at2 (iblk m c 0 t : Vec Ideal S256x2048 .f32) r = at2 (argX m c) (256 * t.val + r) := by
  refine row_eq (x := (iblk m c 0 t : Vec Ideal S256x2048 .f32)) hr fun k hk => eq_at2_of (argX m c) _ ?_ ?_
  · show win0_0.index t 0 * 256 + 1 * r = _
    rw [(index0 t).1]; omega
  · show win0_0.index t 1 * 2048 + 1 * k = _
    rw [(index0 t).2]; omega
theorem blk1 (t : Fin cfg0.N) {r : ℕ} (hr : r < 256) :
    at2 (iblk m c 1 t : Vec Ideal S256x2048 .f32) r = at2 (argY m c) (256 * t.val + r) := by
  refine row_eq (x := (iblk m c 1 t : Vec Ideal S256x2048 .f32)) hr fun k hk => eq_at2_of (argY m c) _ ?_ ?_
  · show win0_1.index t 0 * 256 + 1 * r = _
    rw [(index1 t).1]; omega
  · show win0_1.index t 1 * 2048 + 1 * k = _
    rw [(index1 t).2]; omega
theorem blk2 (t : Fin cfg0.N) : at2 (iblk m c 2 t : Vec Ideal S1x2048 .f32) 0 = at2 (argQ m c) 0 := by
  refine row_eq (x := (iblk m c 2 t : Vec Ideal S1x2048 .f32)) Nat.one_pos fun k hk => eq_at2_of (argQ m c) _ ?_ ?_
  · show win0_2.index t 0 * 1 + 1 * 0 = _
    rw [(index2 t).1]
  · show win0_2.index t 1 * 2048 + 1 * k = _
    rw [(index2 t).2]; omega
theorem blk3 (t : Fin cfg0.N) : at2 (iblk m c 3 t : Vec Ideal S1x2048 .f32) 0 = at2 (argT m c) 0 := by
  refine row_eq (x := (iblk m c 3 t : Vec Ideal S1x2048 .f32)) Nat.one_pos fun k hk => eq_at2_of (argT m c) _ ?_ ?_
  · show win0_3.index t 0 * 1 + 1 * 0 = _
    rw [(index3 t).1]
  · show win0_3.index t 1 * 2048 + 1 * k = _
    rw [(index3 t).2]; omega
theorem blk4 (t : Fin cfg0.N) : at2 (iblk m c 4 t : Vec Ideal S1x2048 .f32) 0 = at2 (argP m c) 0 := by
  refine row_eq (x := (iblk m c 4 t : Vec Ideal S1x2048 .f32)) Nat.one_pos fun k hk => eq_at2_of (argP m c) _ ?_ ?_
  · show win0_4.index t 0 * 1 + 1 * 0 = _
    rw [(index4 t).1]
  · show win0_4.index t 1 * 2048 + 1 * k = _
    rw [(index4 t).2]; omega
theorem blk5 (t : Fin cfg0.N) : at2 (iblk m c 5 t : Vec Ideal S1x2048 .f32) 0 = at2 (argS m c) 0 := by
  refine row_eq (x := (iblk m c 5 t : Vec Ideal S1x2048 .f32)) Nat.one_pos fun k hk => eq_at2_of (argS m c) _ ?_ ?_
  · show win0_5.index t 0 * 1 + 1 * 0 = _
    rw [(index5 t).1]
  · show win0_5.index t 1 * 2048 + 1 * k = _
    rw [(index5 t).2]; omega
theorem blk6 (t : Fin cfg0.N) : at2 (iblk m c 6 t : Vec Ideal S1x2048 .f32) 0 = at2 (argB m c) 0 := by
  refine row_eq (x := (iblk m c 6 t : Vec Ideal S1x2048 .f32)) Nat.one_pos fun k hk => eq_at2_of (argB m c) _ ?_ ?_
  · show win0_6.index t 0 * 1 + 1 * 0 = _
    rw [(index6 t).1]
  · show win0_6.index t 1 * 2048 + 1 * k = _
    rw [(index6 t).2]; omega

/-- The trunk: a point's block, -/
theorem out7_eq (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (x6 : Vec Ideal S1x2048 .f32) (y : S256x2048.Idx) :
    out0_7 (F := Ideal) x0 x1 x2 x3 x4 x5 x6 y = joined x0 x1 x2 x3 (y 0).val (y 1).val := by
  unfold out0_7
  rw [View.canon_unit_zero zero2]
  simp only [View.ld_unit_zero (S := S256x2048) zero2, View.ld_unit_zero (S := S1x2048) zero2]
  unfold_payloads
  pointwise [eq_at2 x0, eq_at2 x1, eq_at2 x2, eq_at2 x3, eq_at2 x4, eq_at2 x5, eq_at2 x6]
  rfl

/-- and the array. -/
theorem final7 : (dats m 0 c).arrAt 7 cfg0.N = fun y : S4096x2048.Idx => joined (argX m c) (argY m c) (argQ m c) (argT m c) (y 0).val (y 1).val := by
  refine (dats m 0 c).arrAt_eq_of_cover 7 _ (fun t hf => ?_) fun (y : S4096x2048.Idx) => ?_
  · rw [Cert.FwdMidIdeal.Value.flushed7]
    funext x
    refine (out7_eq (iblk m c 0 t : Vec Ideal S256x2048 .f32) (iblk m c 1 t : Vec Ideal S256x2048 .f32) (iblk m c 2 t : Vec Ideal S1x2048 .f32) (iblk m c 3 t : Vec Ideal S1x2048 .f32) (iblk m c 4 t : Vec Ideal S1x2048 .f32) (iblk m c 5 t : Vec Ideal S1x2048 .f32) (iblk m c 6 t : Vec Ideal S1x2048 .f32) _).trans ?_
    rw [View.read_apply]
    have e0 : (((cfg0.win 7).blk t).view.emb x (0 : Fin 2)).val = 256 * t.val + (x 0).val := by
      show win0_7.index t 0 * 256 + 1 * (x 0).val = _
      rw [(index7 t).1]; omega
    have e1 : (((cfg0.win 7).blk t).view.emb x (1 : Fin 2)).val = (x 1).val := by
      show win0_7.index t 1 * 2048 + 1 * (x 1).val = _
      rw [(index7 t).2]; omega
    have h : (x 0).val < 256 := (x 0).isLt
    dsimp only
    rw [e0, e1]
    exact congrFun (joined_congr (blk0 m c t h) (blk1 m c t h) (blk2 m c t) (blk3 m c t)) _
  · have h0 : (y 0).val < 4096 := (y 0).isLt
    have h1 : (y 1).val < 2048 := (y 1).isLt
    obtain ⟨t, ht⟩ : ∃ t : Fin cfg0.N, t.val = (y 0).val / 256 := ⟨⟨(y 0).val / 256, show (y 0).val / 256 < 16 by omega⟩, rfl⟩
    refine ⟨t, flush0_7 _, ?_⟩
    show y ∈ ((View.whole main_v0_0).slice (win0_7.rect t)).set
    rw [View.set_slice_whole, Rect.mem_set_unit]
    intro a
    match a with
    | ⟨0, _⟩ =>
      show win0_7.index t 0 * 256 ≤ (y 0).val ∧ (y 0).val < win0_7.index t 0 * 256 + 256
      rw [(index7 t).1]; omega
    | ⟨1, _⟩ =>
      show win0_7.index t 1 * 2048 ≤ (y 1).val ∧ (y 1).val < win0_7.index t 1 * 2048 + 2048
      rw [(index7 t).2]; omega

/-- The next branch's input: a point's block, -/
theorem out8_eq (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (x6 : Vec Ideal S1x2048 .f32) (y : S256x2048.Idx) :
    out0_8 (F := Ideal) x0 x1 x2 x3 x4 x5 x6 y = enter (joined x0 x1 x2 x3 (y 0).val) x4 x5 x6 (y 1).val := by
  unfold out0_8
  rw [View.canon_unit_zero zero2]
  simp only [View.ld_unit_zero (S := S256x2048) zero2, View.ld_unit_zero (S := S1x2048) zero2]
  unfold_payloads
  pointwise [eq_at2 x0, eq_at2 x1, eq_at2 x2, eq_at2 x3, eq_at2 x4, eq_at2 x5, eq_at2 x6]
  rfl

/-- and the array. -/
theorem final8 : (dats m 0 c).arrAt 8 cfg0.N = fun y : S4096x2048.Idx => enter (joined (argX m c) (argY m c) (argQ m c) (argT m c) (y 0).val) (argP m c) (argS m c) (argB m c) (y 1).val := by
  refine (dats m 0 c).arrAt_eq_of_cover 8 _ (fun t hf => ?_) fun (y : S4096x2048.Idx) => ?_
  · rw [Cert.FwdMidIdeal.Value.flushed8]
    funext x
    refine (out8_eq (iblk m c 0 t : Vec Ideal S256x2048 .f32) (iblk m c 1 t : Vec Ideal S256x2048 .f32) (iblk m c 2 t : Vec Ideal S1x2048 .f32) (iblk m c 3 t : Vec Ideal S1x2048 .f32) (iblk m c 4 t : Vec Ideal S1x2048 .f32) (iblk m c 5 t : Vec Ideal S1x2048 .f32) (iblk m c 6 t : Vec Ideal S1x2048 .f32) _).trans ?_
    rw [View.read_apply]
    have e0 : (((cfg0.win 8).blk t).view.emb x (0 : Fin 2)).val = 256 * t.val + (x 0).val := by
      show win0_8.index t 0 * 256 + 1 * (x 0).val = _
      rw [(index8 t).1]; omega
    have e1 : (((cfg0.win 8).blk t).view.emb x (1 : Fin 2)).val = (x 1).val := by
      show win0_8.index t 1 * 2048 + 1 * (x 1).val = _
      rw [(index8 t).2]; omega
    have h : (x 0).val < 256 := (x 0).isLt
    dsimp only
    rw [e0, e1]
    exact enter_congr (joined_congr (blk0 m c t h) (blk1 m c t h) (blk2 m c t) (blk3 m c t)) (blk4 m c t) (blk5 m c t) (blk6 m c t) _
  · have h0 : (y 0).val < 4096 := (y 0).isLt
    have h1 : (y 1).val < 2048 := (y 1).isLt
    obtain ⟨t, ht⟩ : ∃ t : Fin cfg0.N, t.val = (y 0).val / 256 := ⟨⟨(y 0).val / 256, show (y 0).val / 256 < 16 by omega⟩, rfl⟩
    refine ⟨t, flush0_8 _, ?_⟩
    show y ∈ ((View.whole main_v0_1).slice (win0_8.rect t)).set
    rw [View.set_slice_whole, Rect.mem_set_unit]
    intro a
    match a with
    | ⟨0, _⟩ =>
      show win0_8.index t 0 * 256 ≤ (y 0).val ∧ (y 0).val < win0_8.index t 0 * 256 + 256
      rw [(index8 t).1]; omega
    | ⟨1, _⟩ =>
      show win0_8.index t 1 * 2048 ≤ (y 1).val ∧ (y 1).val < win0_8.index t 1 * 2048 + 2048
      rw [(index8 t).2]; omega

end

/-- The results, equal entry by entry. -/
theorem algebraic : Cert.algebraic_FwdMidIdeal_FwdMidRefIdeal :=
  fun m ρ m' ρ' _ hag => by
    refine ⟨fun c (y : FwdMidIdeal.S4096x2048.Idx) => joined (argX m c) (argY m c) (argQ m c) (argT m c) (y 0).val (y 1).val,
      fun c (y : FwdMidIdeal.S4096x2048.Idx) => enter (joined (argX m c) (argY m c) (argQ m c) (argT m c) (y 0).val) (argP m c) (argS m c) (argB m c) (y 1).val,
      (θ_run FwdMidIdeal.defs _ _).mono (fun _ h c => ⟨(h c).1.trans (final7 m c), (h c).2.1.trans (final8 m c), (h c).2.2⟩) (FwdMidIdeal.Value.run_blocks m ρ),
      (θ_run FwdMidRefIdeal.defs _ _).mono (fun _ h c => ?_) (FwdMidRefIdeal.Value.run m' ρ')⟩
    obtain ⟨e0, e1, e2, e3, e4, e5, e6⟩ := hag c
    exact ⟨(h c).1.trans ((FwdMidRefIdeal.Read.val_main_v14_eq _ _ _ _).trans ((funext fun y => Ref.v14_eq _ _ _ _ y).trans (by rw [e0, e1, e2, e3]))),
      (h c).2.1.trans ((FwdMidRefIdeal.Read.val_main_v33_eq _ _ _ _ _ _ _).trans ((funext fun y => Ref.v33_eq _ _ _ _ _ _ _ y).trans (by rw [e0, e1, e2, e3, e4, e5, e6]))),
      (h c).2.2⟩

/-- The reference runs and leaves its arguments alone; it declares no semaphore. -/
theorem referenceFrame : Cert.quiescent_FwdMidRefIdeal :=
  fun m ρ _ => (θ_run FwdMidRefIdeal.defs _ _).mono (fun r h => ⟨fun c => (h c).2.2,
    sem_eq_zero_of_no_sems (by decide) r.2⟩) (FwdMidRefIdeal.Value.run m ρ)

end Cert.Norms.FwdMid

end
-- ==== Proof.Update.Adam.lean ====
/- The optimiser's step of one entry, as the programs compute it. -/
module

public import Idealize.ShloMosaic.Lib.Pointwise
public import Idealize.ShloMosaic.Lib.IdealHost

@[expose] public section

noncomputable section

namespace Cert.Update

open Idealize.ShloMosaic

/-- The first moment after a gradient `g`. -/
def first (g m : EReal) : EReal := Ideal.ofBits .f32 0x3F666666#32 * m + Ideal.ofBits .f32 0x3DCCCCCD#32 * g

/-- The second moment after it. -/
def second (g v : EReal) : EReal := Ideal.ofBits .f32 0x3F7FBE77#32 * v + Ideal.ofBits .f32 0x3A83126F#32 * (g * g)

/-- The weight's change. -/
def change (g w m v : EReal) : EReal :=
  Ideal.ofBits .f32 0xBA83126F#32 * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

theorem change_congr {g g' w w' m m' v v' : EReal} (hg : g = g') (hw : w = w') (hm : m = m') (hv : v = v') :
    change g w m v = change g' w' m' v' := by rw [hg, hw, hm, hv]

/-- Four entries are a step's results: the gradient, the change and the two moments. -/
def Updated (g w m v a b d e : EReal) : Prop := a = g ∧ b = change g w m v ∧ d = first g m ∧ e = second g v

theorem Updated.of_eq {g g' w w' m m' v v' a b d e : EReal} (h : Updated g w m v a b d e) (hg : g = g') (hw : w = w') (hm : m = m') (hv : v = v') :
    Updated g' w' m' v' a b d e := by rw [← hg, ← hw, ← hm, ← hv]; exact h

end Cert.Update

end
-- ==== Proof.Update.Blocks.lean ====
/- Three-axis arrays by coordinate, and the sum of the four chips' partial gradients. -/
module

public import proofs.«01_k».proof.Proof.Entry
public import proofs.«01_k».proof.Proof.Update.Adam

@[expose] public section

noncomputable section

namespace Cert.Update

open Idealize.ShloMosaic Cert.Entry

/-- Entry `(i, j, k)` of a three-axis array, zero outside it. -/
def at3 {A B C : ℕ} (x : (⟨3, ![A, B, C]⟩ : Shape).Idx → EReal) (i j k : ℕ) : EReal :=
  if h : i < A ∧ j < B ∧ k < C then x (ix3 ⟨i, h.1⟩ ⟨j, h.2.1⟩ ⟨k, h.2.2⟩) else 0

/-- Inside the array `at3` is the array's entry. -/
theorem at3_of_lt {A B C : ℕ} (x : (⟨3, ![A, B, C]⟩ : Shape).Idx → EReal) {i j k : ℕ} (hi : i < A) (hj : j < B) (hk : k < C) :
    at3 x i j k = x (ix3 ⟨i, hi⟩ ⟨j, hj⟩ ⟨k, hk⟩) := dif_pos ⟨hi, hj, hk⟩

/-- An array read at an index is `at3` at the index's coordinates. -/
theorem eq_at3 {A B C : ℕ} (x : (⟨3, ![A, B, C]⟩ : Shape).Idx → EReal) (y : (⟨3, ![A, B, C]⟩ : Shape).Idx) :
    x y = at3 x (y 0).val (y 1).val (y 2).val := by
  have h0 : (y 0).val < A := (y 0).isLt
  have h1 : (y 1).val < B := (y 1).isLt
  have h2 : (y 2).val < C := (y 2).isLt
  rw [at3_of_lt x h0 h1 h2]
  refine congrArg x (funext fun a => ?_)
  match a with
  | ⟨0, _⟩ => rfl
  | ⟨1, _⟩ => rfl
  | ⟨2, _⟩ => rfl

/-- An array read at an index whose coordinates are known. -/
theorem eq_at3_of {A B C : ℕ} (x : (⟨3, ![A, B, C]⟩ : Shape).Idx → EReal) (y : (⟨3, ![A, B, C]⟩ : Shape).Idx) {i j k : ℕ}
    (hi : (y 0).val = i) (hj : (y 1).val = j) (hk : (y 2).val = k) : x y = at3 x i j k := by
  subst hi hj hk; exact eq_at3 x y

/-- A load of a rectangle of a buffer that holds `x` reads `x`'s entries there, -/
theorem readAt_unit3 {sig : RefSig} {κ : Kind} {sp : Space} {A B C : ℕ} {m : Memref sig κ sp ⟨3, ![A, B, C]⟩ .f32} (h : m.IsWhole)
    (x : (⟨3, ![A, B, C]⟩ : Shape).Idx → EReal) {off size : Fin 3 → ℕ} (inb : ∀ a, off a + size a ≤ (⟨3, ![A, B, C]⟩ : Shape).size a)
    (y : (Rect.unit (s := ⟨3, ![A, B, C]⟩) off size inb).shape.Idx) :
    View.readAt (Elt Ideal) m.view (Rect.unit (s := ⟨3, ![A, B, C]⟩) off size inb).toLoadRect (h.unread x) y
      = at3 x (off 0 + (y 0).val) (off 1 + (y 1).val) (off 2 + (y 2).val) := by
  rw [h.readAt_unread (Val := Elt Ideal) x]
  exact eq_at3_of x _ (emb_unit_val inb y 0) (emb_unit_val inb y 1) (emb_unit_val inb y 2)

/-- of whichever format. -/
theorem readAt_unit3_bf16 {sig : RefSig} {κ : Kind} {sp : Space} {A B C : ℕ} {m : Memref sig κ sp ⟨3, ![A, B, C]⟩ .bf16} (h : m.IsWhole)
    (x : (⟨3, ![A, B, C]⟩ : Shape).Idx → EReal) {off size : Fin 3 → ℕ} (inb : ∀ a, off a + size a ≤ (⟨3, ![A, B, C]⟩ : Shape).size a)
    (y : (Rect.unit (s := ⟨3, ![A, B, C]⟩) off size inb).shape.Idx) :
    View.readAt (Elt Ideal) m.view (Rect.unit (s := ⟨3, ![A, B, C]⟩) off size inb).toLoadRect (h.unread x) y
      = at3 x (off 0 + (y 0).val) (off 1 + (y 1).val) (off 2 + (y 2).val) := by
  rw [h.readAt_unread (Val := Elt Ideal) x]
  exact eq_at3_of x _ (emb_unit_val inb y 0) (emb_unit_val inb y 1) (emb_unit_val inb y 2)

/-- The offsets of a whole three-axis block. -/
theorem zero3 : (![0, 0, 0] : Fin 3 → ℕ) = fun _ => 0 := by
  funext a
  match a with
  | ⟨0, _⟩ => rfl
  | ⟨1, _⟩ => rfl
  | ⟨2, _⟩ => rfl

/-- The four chips' partial gradients, added up at row `j`, column `k`. -/
def four {B C : ℕ} (p : (⟨3, ![4, B, C]⟩ : Shape).Idx → EReal) (j k : ℕ) : EReal := ∑ d : Fin 4, at3 p d.val j k

theorem four_eq {B C : ℕ} (p : (⟨3, ![4, B, C]⟩ : Shape).Idx → EReal) (j k : ℕ) :
    at3 p 0 j k + at3 p 1 j k + at3 p 2 j k + at3 p 3 j k = four p j k :=
  (Fin.sum_univ_four fun d : Fin 4 => at3 p d.val j k).symm

/-- Two arrays that agree in every chip's entry add up to the same. -/
theorem four_congr {B C B' C' : ℕ} {p : (⟨3, ![4, B, C]⟩ : Shape).Idx → EReal} {q : (⟨3, ![4, B', C']⟩ : Shape).Idx → EReal}
    {j k j' k' : ℕ} (h : ∀ d, d < 4 → at3 p d j k = at3 q d j' k') : four p j k = four q j' k' :=
  Finset.sum_congr rfl fun d _ => h d.val d.isLt

/-- The layer's own partial gradients: of two layers, -/
def pick2 {α : Type} (p0 p1 : α) (l : ℕ) : α := if l = 0 then p0 else p1

/-- and of four. -/
def pick4 {α : Type} (p0 p1 p2 p3 : α) (l : ℕ) : α := if l = 0 then p0 else if l = 1 then p1 else if l = 2 then p2 else p3

end Cert.Update

end
-- ==== Proof.Update.UpF1.lean ====
/- The feed-forward up projection's update: the kernel's arrays and the reference's, equal entry by entry. -/
module

public import proofs.«01_k».proof.Defs
public import proofs.«01_k».proof.Proof.Gen.UpF1Ideal.Value
public import proofs.«01_k».proof.Proof.Gen.UpF1RefIdeal.Run
public import proofs.«01_k».proof.Proof.Gen.UpF1RefIdeal.Read
public import proofs.«01_k».proof.Proof.Products.Sums
public import proofs.«01_k».proof.Proof.Update.Blocks

@[expose] public section

set_option maxRecDepth 16384

noncomputable section

namespace Cert.Update.UpF1

open Idealize.ShloMosaic Idealize.ShloMosaic.TcCoe Idealize.SL.Sem

namespace Ref

open Cert.UpF1RefIdeal Cert.UpF1RefIdeal.Gen Cert.UpF1RefIdeal.Read Idealize.ShloMosaic.StableHlo

variable (P0 P1 P2 P3 : Vec Ideal S4x2048x1024 .bf16) (W M V : Vec Ideal S4x2048x1024 .f32)

theorem v1_eq (y : S2048x1024.Idx) : val_main_v1 (F := Ideal) P0 y = four P0 (y 0).val (y 1).val := by
  pointwise [val_main_v1_apply, val_main_cst_apply, val_main_v0_apply, eq_at3 P0]
  rfl

theorem v3_eq (y : S2048x1024.Idx) : val_main_v3 (F := Ideal) P1 y = four P1 (y 0).val (y 1).val := by
  pointwise [val_main_v3_apply, val_main_cst_0_apply, val_main_v2_apply, eq_at3 P1]
  rfl

theorem v5_eq (y : S2048x1024.Idx) : val_main_v5 (F := Ideal) P2 y = four P2 (y 0).val (y 1).val := by
  pointwise [val_main_v5_apply, val_main_cst_1_apply, val_main_v4_apply, eq_at3 P2]
  rfl

theorem v7_eq (y : S2048x1024.Idx) : val_main_v7 (F := Ideal) P3 y = four P3 (y 0).val (y 1).val := by
  pointwise [val_main_v7_apply, val_main_cst_2_apply, val_main_v6_apply, eq_at3 P3]
  rfl

theorem v12_eq (y : S4x2048x1024.Idx) : val_main_v12 (F := Ideal) P0 P1 P2 P3 y = four (pick4 P0 P1 P2 P3 (y 0).val) (y 1).val (y 2).val := by
  have h : (y 0).val < 4 := (y 0).isLt
  unfold val_main_v12 val_main_v8 val_main_v9 val_main_v10 val_main_v11
  pointwise [v1_eq, v3_eq, v5_eq, v7_eq]
  unfold pick4
  split_ifs <;> first | rfl | (exfalso; omega)

theorem v17_eq (y : S4x2048x1024.Idx) : val_main_v17 (F := Ideal) P0 P1 P2 P3 M y = first (four (pick4 P0 P1 P2 P3 (y 0).val) (y 1).val (y 2).val) (at3 M (y 0).val (y 1).val (y 2).val) := by
  unfold val_main_v17 val_main_v16 val_main_v15 val_main_v14 val_main_v13 val_main_cst_3 val_main_cst_4
  pointwise [v12_eq, eq_at3 M]
  rfl

theorem v23_eq (y : S4x2048x1024.Idx) : val_main_v23 (F := Ideal) P0 P1 P2 P3 V y = second (four (pick4 P0 P1 P2 P3 (y 0).val) (y 1).val (y 2).val) (at3 V (y 0).val (y 1).val (y 2).val) := by
  unfold val_main_v23 val_main_v22 val_main_v21 val_main_v20 val_main_v19 val_main_v18 val_main_cst_5 val_main_cst_6
  pointwise [v12_eq, eq_at3 V]
  rfl

theorem v36_eq (y : S4x2048x1024.Idx) : val_main_v36 (F := Ideal) P0 P1 P2 P3 W M V y
    = change (four (pick4 P0 P1 P2 P3 (y 0).val) (y 1).val (y 2).val) (at3 W (y 0).val (y 1).val (y 2).val) (at3 M (y 0).val (y 1).val (y 2).val) (at3 V (y 0).val (y 1).val (y 2).val) := by
  unfold val_main_v36 val_main_v35 val_main_v34 val_main_v33 val_main_v32 val_main_v31 val_main_v30 val_main_v29 val_main_v28 val_main_v27 val_main_v26 val_main_v25 val_main_v24 val_main_cst_7 val_main_cst_8 val_main_cst_9 val_main_cst_10 val_main_cst_11
  pointwise [v17_eq, v23_eq, eq_at3 W]
  rfl

end Ref

section
open Cert.UpF1Ideal Cert.UpF1Ideal.Gen Cert.Entry Cert.Products

section
variable (c : Dev nD) (i : grid0.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x256x1024 .f32) (harg12 : arg12.IsWhole)
    (x0 : Vec Ideal S4x256x1024 .bf16) (x1 : Vec Ideal S4x256x1024 .bf16) (x2 : Vec Ideal S4x256x1024 .bf16) (x3 : Vec Ideal S4x256x1024 .bf16) (x4 : Vec Ideal S1x256x1024 .f32) (x5 : Vec Ideal S1x256x1024 .f32) (x6 : Vec Ideal S1x256x1024 .f32)

/-- A block of layer 0. -/
theorem outs_A (hc0 : cond0_0 i) (hc1 : ¬cond0_1 i) (hc2 : ¬cond0_2 i) (hc3 : ¬cond0_3 i) (y : S1x256x1024.Idx) : Updated (four x0 (y 1).val (y 2).val) (at3 x4 0 (y 1).val (y 2).val) (at3 x5 0 (y 1).val (y 2).val) (at3 x6 0 (y 1).val (y 2).val)
    (out0_A_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_A_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_A_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_A_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y) := by
  unfold out0_A_7 out0_A_8 out0_A_9 out0_A_10 kernelRun0_A
  refine ⟨?_, ?_, ?_, ?_⟩
  all_goals
    dsimp only
    rw [View.read_writes_junk_eq_canon, View.canon_unit_zero zero3]
    dsimp only [kernelRun0_A.sl.r, kernelRun0_A.sl.r_1, kernelRun0_A.sl.r_2, kernelRun0_A.sl.r_3, kernelRun0_A.sl.r_4]
    unfold_payloads
    pointwise [shapeCast_self, readAt_unit3, readAt_unit3_bf16]
    rw [← four_eq]
    try rfl

/-- A block of layer 1. -/
theorem outs_B (hc0 : ¬cond0_0 i) (hc1 : cond0_1 i) (hc2 : ¬cond0_2 i) (hc3 : ¬cond0_3 i) (y : S1x256x1024.Idx) : Updated (four x1 (y 1).val (y 2).val) (at3 x4 0 (y 1).val (y 2).val) (at3 x5 0 (y 1).val (y 2).val) (at3 x6 0 (y 1).val (y 2).val)
    (out0_B_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_B_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_B_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_B_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y) := by
  unfold out0_B_7 out0_B_8 out0_B_9 out0_B_10 kernelRun0_B
  refine ⟨?_, ?_, ?_, ?_⟩
  all_goals
    dsimp only
    rw [View.read_writes_junk_eq_canon, View.canon_unit_zero zero3]
    dsimp only [kernelRun0_B.sl.r, kernelRun0_B.sl.r_1, kernelRun0_B.sl.r_2, kernelRun0_B.sl.r_3, kernelRun0_B.sl.r_4]
    unfold_payloads
    pointwise [shapeCast_self, readAt_unit3, readAt_unit3_bf16]
    rw [← four_eq]
    try rfl

/-- A block of layer 2. -/
theorem outs_C (hc0 : ¬cond0_0 i) (hc1 : ¬cond0_1 i) (hc2 : cond0_2 i) (hc3 : ¬cond0_3 i) (y : S1x256x1024.Idx) : Updated (four x2 (y 1).val (y 2).val) (at3 x4 0 (y 1).val (y 2).val) (at3 x5 0 (y 1).val (y 2).val) (at3 x6 0 (y 1).val (y 2).val)
    (out0_C_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_C_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_C_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y) := by
  unfold out0_C_7 out0_C_8 out0_C_9 out0_C_10 kernelRun0_C
  refine ⟨?_, ?_, ?_, ?_⟩
  all_goals
    dsimp only
    rw [View.read_writes_junk_eq_canon, View.canon_unit_zero zero3]
    dsimp only [kernelRun0_C.sl.r, kernelRun0_C.sl.r_1, kernelRun0_C.sl.r_2, kernelRun0_C.sl.r_3, kernelRun0_C.sl.r_4]
    unfold_payloads
    pointwise [shapeCast_self, readAt_unit3, readAt_unit3_bf16]
    rw [← four_eq]
    try rfl

/-- A block of layer 3. -/
theorem outs_D (hc0 : ¬cond0_0 i) (hc1 : ¬cond0_1 i) (hc2 : ¬cond0_2 i) (hc3 : cond0_3 i) (y : S1x256x1024.Idx) : Updated (four x3 (y 1).val (y 2).val) (at3 x4 0 (y 1).val (y 2).val) (at3 x5 0 (y 1).val (y 2).val) (at3 x6 0 (y 1).val (y 2).val)
    (out0_D_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_D_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_D_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_D_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y) := by
  unfold out0_D_7 out0_D_8 out0_D_9 out0_D_10 kernelRun0_D
  refine ⟨?_, ?_, ?_, ?_⟩
  all_goals
    dsimp only
    rw [View.read_writes_junk_eq_canon, View.canon_unit_zero zero3]
    dsimp only [kernelRun0_D.sl.r, kernelRun0_D.sl.r_1, kernelRun0_D.sl.r_2, kernelRun0_D.sl.r_3, kernelRun0_D.sl.r_4]
    unfold_payloads
    pointwise [shapeCast_self, readAt_unit3, readAt_unit3_bf16]
    rw [← four_eq]
    try rfl

end

section
variable (m : (ℓ : Loc nD τ sig) → Buf (Elt Ideal) ℓ) (c : Dev nD)

abbrev argP0 : Vec Ideal S4x2048x1024 .bf16 := m ((c : Thread nD τ).loc main_arg0)
abbrev argP1 : Vec Ideal S4x2048x1024 .bf16 := m ((c : Thread nD τ).loc main_arg1)
abbrev argP2 : Vec Ideal S4x2048x1024 .bf16 := m ((c : Thread nD τ).loc main_arg2)
abbrev argP3 : Vec Ideal S4x2048x1024 .bf16 := m ((c : Thread nD τ).loc main_arg3)
abbrev argW : Vec Ideal S4x2048x1024 .f32 := m ((c : Thread nD τ).loc main_arg4)
abbrev argM : Vec Ideal S4x2048x1024 .f32 := m ((c : Thread nD τ).loc main_arg5)
abbrev argV : Vec Ideal S4x2048x1024 .f32 := m ((c : Thread nD τ).loc main_arg6)

theorem index0 : ∀ t : Fin cfg0.N, win0_0.index t 0 = 0 ∧ (t.val / 8 = 0 → win0_0.index t 1 = t.val % 8) ∧ win0_0.index t 2 = 0 :=
  (by decide +kernel : ∀ t : Fin grid0.N, win0_0.index t 0 = 0 ∧ (t.val / 8 = 0 → win0_0.index t 1 = t.val % 8) ∧ win0_0.index t 2 = 0)
theorem index1 : ∀ t : Fin cfg0.N, win0_1.index t 0 = 0 ∧ (t.val / 8 = 1 → win0_1.index t 1 = t.val % 8) ∧ win0_1.index t 2 = 0 :=
  (by decide +kernel : ∀ t : Fin grid0.N, win0_1.index t 0 = 0 ∧ (t.val / 8 = 1 → win0_1.index t 1 = t.val % 8) ∧ win0_1.index t 2 = 0)
theorem index2 : ∀ t : Fin cfg0.N, win0_2.index t 0 = 0 ∧ (t.val / 8 = 2 → win0_2.index t 1 = t.val % 8) ∧ win0_2.index t 2 = 0 :=
  (by decide +kernel : ∀ t : Fin grid0.N, win0_2.index t 0 = 0 ∧ (t.val / 8 = 2 → win0_2.index t 1 = t.val % 8) ∧ win0_2.index t 2 = 0)
theorem index3 : ∀ t : Fin cfg0.N, win0_3.index t 0 = 0 ∧ (t.val / 8 = 3 → win0_3.index t 1 = t.val % 8) ∧ win0_3.index t 2 = 0 :=
  (by decide +kernel : ∀ t : Fin grid0.N, win0_3.index t 0 = 0 ∧ (t.val / 8 = 3 → win0_3.index t 1 = t.val % 8) ∧ win0_3.index t 2 = 0)
theorem index4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

theorem blk0 (t : Fin cfg0.N) (ht : t.val / 8 = 0) {j k : ℕ} (hj : j < 256) (hk : k < 1024) :
    four (iblk m c 0 t : Vec Ideal S4x256x1024 .bf16) j k = four (argP0 m c) (256 * (t.val % 8) + j) k := by
  refine four_congr fun d hd => ?_
  rw [at3_of_lt (iblk m c 0 t : Vec Ideal S4x256x1024 .bf16) hd hj hk]
  refine eq_at3_of (argP0 m c) _ ?_ ?_ ?_
  · show win0_0.index t 0 * 4 + 1 * d = _
    rw [(index0 t).1]; omega
  · show win0_0.index t 1 * 256 + 1 * j = _
    rw [(index0 t).2.1 ht]; omega
  · show win0_0.index t 2 * 1024 + 1 * k = _
    rw [(index0 t).2.2]; omega
theorem blk1 (t : Fin cfg0.N) (ht : t.val / 8 = 1) {j k : ℕ} (hj : j < 256) (hk : k < 1024) :
    four (iblk m c 1 t : Vec Ideal S4x256x1024 .bf16) j k = four (argP1 m c) (256 * (t.val % 8) + j) k := by
  refine four_congr fun d hd => ?_
  rw [at3_of_lt (iblk m c 1 t : Vec Ideal S4x256x1024 .bf16) hd hj hk]
  refine eq_at3_of (argP1 m c) _ ?_ ?_ ?_
  · show win0_1.index t 0 * 4 + 1 * d = _
    rw [(index1 t).1]; omega
  · show win0_1.index t 1 * 256 + 1 * j = _
    rw [(index1 t).2.1 ht]; omega
  · show win0_1.index t 2 * 1024 + 1 * k = _
    rw [(index1 t).2.2]; omega
theorem blk2 (t : Fin cfg0.N) (ht : t.val / 8 = 2) {j k : ℕ} (hj : j < 256) (hk : k < 1024) :
    four (iblk m c 2 t : Vec Ideal S4x256x1024 .bf16) j k = four (argP2 m c) (256 * (t.val % 8) + j) k := by
  refine four_congr fun d hd => ?_
  rw [at3_of_lt (iblk m c 2 t : Vec Ideal S4x256x1024 .bf16) hd hj hk]
  refine eq_at3_of (argP2 m c) _ ?_ ?_ ?_
  · show win0_2.index t 0 * 4 + 1 * d = _
    rw [(index2 t).1]; omega
  · show win0_2.index t 1 * 256 + 1 * j = _
    rw [(index2 t).2.1 ht]; omega
  · show win0_2.index t 2 * 1024 + 1 * k = _
    rw [(index2 t).2.2]; omega
theorem blk3 (t : Fin cfg0.N) (ht : t.val / 8 = 3) {j k : ℕ} (hj : j < 256) (hk : k < 1024) :
    four (iblk m c 3 t : Vec Ideal S4x256x1024 .bf16) j k = four (argP3 m c) (256 * (t.val % 8) + j) k := by
  refine four_congr fun d hd => ?_
  rw [at3_of_lt (iblk m c 3 t : Vec Ideal S4x256x1024 .bf16) hd hj hk]
  refine eq_at3_of (argP3 m c) _ ?_ ?_ ?_
  · show win0_3.index t 0 * 4 + 1 * d = _
    rw [(index3 t).1]; omega
  · show win0_3.index t 1 * 256 + 1 * j = _
    rw [(index3 t).2.1 ht]; omega
  · show win0_3.index t 2 * 1024 + 1 * k = _
    rw [(index3 t).2.2]; omega
theorem blk4 (t : Fin cfg0.N) {j k : ℕ} (hj : j < 256) (hk : k < 1024) :
    at3 (iblk m c 4 t : Vec Ideal S1x256x1024 .f32) 0 j k = at3 (argW m c) (t.val / 8) (256 * (t.val % 8) + j) k := by
  rw [at3_of_lt (iblk m c 4 t : Vec Ideal S1x256x1024 .f32) Nat.one_pos hj hk]
  refine eq_at3_of (argW m c) _ ?_ ?_ ?_
  · show win0_4.index t 0 * 1 + 1 * 0 = _
    rw [(index4 t).1]; omega
  · show win0_4.index t 1 * 256 + 1 * j = _
    rw [(index4 t).2.1]; omega
  · show win0_4.index t 2 * 1024 + 1 * k = _
    rw [(index4 t).2.2]; omega
theorem blk5 (t : Fin cfg0.N) {j k : ℕ} (hj : j < 256) (hk : k < 1024) :
    at3 (iblk m c 5 t : Vec Ideal S1x256x1024 .f32) 0 j k = at3 (argM m c) (t.val / 8) (256 * (t.val % 8) + j) k := by
  rw [at3_of_lt (iblk m c 5 t : Vec Ideal S1x256x1024 .f32) Nat.one_pos hj hk]
  refine eq_at3_of (argM m c) _ ?_ ?_ ?_
  · show win0_4.index t 0 * 1 + 1 * 0 = _
    rw [(index4 t).1]; omega
  · show win0_4.index t 1 * 256 + 1 * j = _
    rw [(index4 t).2.1]; omega
  · show win0_4.index t 2 * 1024 + 1 * k = _
    rw [(index4 t).2.2]; omega
theorem blk6 (t : Fin cfg0.N) {j k : ℕ} (hj : j < 256) (hk : k < 1024) :
    at3 (iblk m c 6 t : Vec Ideal S1x256x1024 .f32) 0 j k = at3 (argV m c) (t.val / 8) (256 * (t.val % 8) + j) k := by
  rw [at3_of_lt (iblk m c 6 t : Vec Ideal S1x256x1024 .f32) Nat.one_pos hj hk]
  refine eq_at3_of (argV m c) _ ?_ ?_ ?_
  · show win0_4.index t 0 * 1 + 1 * 0 = _
    rw [(index4 t).1]; omega
  · show win0_4.index t 1 * 256 + 1 * j = _
    rw [(index4 t).2.1]; omega
  · show win0_4.index t 2 * 1024 + 1 * k = _
    rw [(index4 t).2.2]; omega

/-- The gradient. -/
abbrev grad : Vec Ideal S4x2048x1024 .f32 := fun y => four (pick4 (argP0 m c) (argP1 m c) (argP2 m c) (argP3 m c) (y 0).val) (y 1).val (y 2).val
/-- The change. -/
abbrev delta : Vec Ideal S4x2048x1024 .f32 := fun y => change (four (pick4 (argP0 m c) (argP1 m c) (argP2 m c) (argP3 m c) (y 0).val) (y 1).val (y 2).val) (at3 (argW m c) (y 0).val (y 1).val (y 2).val) (at3 (argM m c) (y 0).val (y 1).val (y 2).val) (at3 (argV m c) (y 0).val (y 1).val (y 2).val)
/-- The first moment. -/
abbrev mean : Vec Ideal S4x2048x1024 .f32 := fun y => first (four (pick4 (argP0 m c) (argP1 m c) (argP2 m c) (argP3 m c) (y 0).val) (y 1).val (y 2).val) (at3 (argM m c) (y 0).val (y 1).val (y 2).val)
/-- The second moment. -/
abbrev square : Vec Ideal S4x2048x1024 .f32 := fun y => second (four (pick4 (argP0 m c) (argP1 m c) (argP2 m c) (argP3 m c) (y 0).val) (y 1).val (y 2).val) (at3 (argV m c) (y 0).val (y 1).val (y 2).val)

/-- Every entry lies in some point's block. -/
theorem covered (y : S4x2048x1024.Idx) : ∃ t : Fin cfg0.N, ∀ a, win0_4.index t a * S1x256x1024.size a ≤ (y a).val ∧ (y a).val < win0_4.index t a * S1x256x1024.size a + S1x256x1024.size a := by
  have h0 : (y 0).val < 4 := (y 0).isLt
  have h1 : (y 1).val < 2048 := (y 1).isLt
  have h2 : (y 2).val < 1024 := (y 2).isLt
  obtain ⟨t, ht⟩ : ∃ t : Fin cfg0.N, t.val = 8 * (y 0).val + (y 1).val / 256 := ⟨⟨8 * (y 0).val + (y 1).val / 256, show 8 * (y 0).val + (y 1).val / 256 < 32 by omega⟩, rfl⟩
  refine ⟨t, fun a => ?_⟩
  match a with
  | ⟨0, _⟩ =>
    show win0_4.index t 0 * 1 ≤ (y 0).val ∧ (y 0).val < win0_4.index t 0 * 1 + 1
    rw [(index4 t).1]; omega
  | ⟨1, _⟩ =>
    show win0_4.index t 1 * 256 ≤ (y 1).val ∧ (y 1).val < win0_4.index t 1 * 256 + 256
    rw [(index4 t).2.1]; omega
  | ⟨2, _⟩ =>
    show win0_4.index t 2 * 1024 ≤ (y 2).val ∧ (y 2).val < win0_4.index t 2 * 1024 + 1024
    rw [(index4 t).2.2]; omega

/-- Where a block's entry lies in the array. -/
theorem place (t : Fin cfg0.N) (x : S1x256x1024.Idx) : (((cfg0.win 7).blk t).view.emb x (0 : Fin 3)).val = t.val / 8
    ∧ (((cfg0.win 7).blk t).view.emb x (1 : Fin 3)).val = 256 * (t.val % 8) + (x 1).val ∧ (((cfg0.win 7).blk t).view.emb x (2 : Fin 3)).val = (x 2).val := by
  have h0 : (x 0).val < 1 := (x 0).isLt
  refine ⟨?_, ?_, ?_⟩
  · show win0_4.index t 0 * 1 + 1 * (x 0).val = _
    rw [(index4 t).1]; omega
  · show win0_4.index t 1 * 256 + 1 * (x 1).val = _
    rw [(index4 t).2.1]; omega
  · show win0_4.index t 2 * 1024 + 1 * (x 2).val = _
    rw [(index4 t).2.2]; omega

/-- What each point writes. -/
theorem point (t : Fin cfg0.N) (x : S1x256x1024.Idx) :
    Updated (four (pick4 (argP0 m c) (argP1 m c) (argP2 m c) (argP3 m c) (t.val / 8)) (256 * (t.val % 8) + (x 1).val) (x 2).val)
      (at3 (argW m c) (t.val / 8) (256 * (t.val % 8) + (x 1).val) (x 2).val) (at3 (argM m c) (t.val / 8) (256 * (t.val % 8) + (x 1).val) (x 2).val) (at3 (argV m c) (t.val / 8) (256 * (t.val % 8) + (x 1).val) (x 2).val)
      ((dats m 0 c).flushed 7 t x) ((dats m 0 c).flushed 8 t x) ((dats m 0 c).flushed 9 t x) ((dats m 0 c).flushed 10 t x) := by
  have ht : t.val < 32 := t.isLt
  have h1 : (x 1).val < 256 := (x 1).isLt
  have h2 : (x 2).val < 1024 := (x 2).isLt
  obtain hq | hq | hq | hq : t.val / 8 = 0 ∨ t.val / 8 = 1 ∨ t.val / 8 = 2 ∨ t.val / 8 = 3 := by omega
  · rw [Cert.UpF1Ideal.Value.flushed7_A m c t (by omega) (by omega) (by omega) (by omega), Cert.UpF1Ideal.Value.flushed8_A m c t (by omega) (by omega) (by omega) (by omega), Cert.UpF1Ideal.Value.flushed9_A m c t (by omega) (by omega) (by omega) (by omega), Cert.UpF1Ideal.Value.flushed10_A m c t (by omega) (by omega) (by omega) (by omega),
      show pick4 (argP0 m c) (argP1 m c) (argP2 m c) (argP3 m c) (t.val / 8) = argP0 m c by rw [hq]; rfl]
    exact (outs_A c _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x).of_eq (blk0 m c t hq h1 h2) (blk4 m c t h1 h2) (blk5 m c t h1 h2) (blk6 m c t h1 h2)
  · rw [Cert.UpF1Ideal.Value.flushed7_B m c t (by omega) (by omega) (by omega) (by omega), Cert.UpF1Ideal.Value.flushed8_B m c t (by omega) (by omega) (by omega) (by omega), Cert.UpF1Ideal.Value.flushed9_B m c t (by omega) (by omega) (by omega) (by omega), Cert.UpF1Ideal.Value.flushed10_B m c t (by omega) (by omega) (by omega) (by omega),
      show pick4 (argP0 m c) (argP1 m c) (argP2 m c) (argP3 m c) (t.val / 8) = argP1 m c by rw [hq]; rfl]
    exact (outs_B c _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x).of_eq (blk1 m c t hq h1 h2) (blk4 m c t h1 h2) (blk5 m c t h1 h2) (blk6 m c t h1 h2)
  · rw [Cert.UpF1Ideal.Value.flushed7_C m c t (by omega) (by omega) (by omega) (by omega), Cert.UpF1Ideal.Value.flushed8_C m c t (by omega) (by omega) (by omega) (by omega), Cert.UpF1Ideal.Value.flushed9_C m c t (by omega) (by omega) (by omega) (by omega), Cert.UpF1Ideal.Value.flushed10_C m c t (by omega) (by omega) (by omega) (by omega),
      show pick4 (argP0 m c) (argP1 m c) (argP2 m c) (argP3 m c) (t.val / 8) = argP2 m c by rw [hq]; rfl]
    exact (outs_C c _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x).of_eq (blk2 m c t hq h1 h2) (blk4 m c t h1 h2) (blk5 m c t h1 h2) (blk6 m c t h1 h2)
  · rw [Cert.UpF1Ideal.Value.flushed7_D m c t (by omega) (by omega) (by omega) (by omega), Cert.UpF1Ideal.Value.flushed8_D m c t (by omega) (by omega) (by omega) (by omega), Cert.UpF1Ideal.Value.flushed9_D m c t (by omega) (by omega) (by omega) (by omega), Cert.UpF1Ideal.Value.flushed10_D m c t (by omega) (by omega) (by omega) (by omega),
      show pick4 (argP0 m c) (argP1 m c) (argP2 m c) (argP3 m c) (t.val / 8) = argP3 m c by rw [hq]; rfl]
    exact (outs_D c _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x).of_eq (blk3 m c t hq h1 h2) (blk4 m c t h1 h2) (blk5 m c t h1 h2) (blk6 m c t h1 h2)

/-- The gradient: the array. -/
theorem final7 : (dats m 0 c).arrAt 7 cfg0.N = grad m c := by
  refine (dats m 0 c).arrAt_eq_of_cover 7 _ (fun t hf => funext fun x => ?_) fun (y : S4x2048x1024.Idx) => ?_
  · rw [View.read_apply]
    dsimp only [grad]
    have hp : (((cfg0.win 7).blk t).view.emb x (0 : Fin 3)).val = _ ∧ (((cfg0.win 7).blk t).view.emb x (1 : Fin 3)).val = _ ∧ (((cfg0.win 7).blk t).view.emb x (2 : Fin 3)).val = _ := place t x
    rw [hp.1, hp.2.1, hp.2.2]
    exact (point m c t x).1
  · obtain ⟨t, ht⟩ := covered y
    refine ⟨t, flush0_7 _, ?_⟩
    show y ∈ ((View.whole main_v0_0).slice (win0_7.rect t)).set
    rw [View.set_slice_whole, Rect.mem_set_unit]
    exact ht

/-- The change: the array. -/
theorem final8 : (dats m 0 c).arrAt 8 cfg0.N = delta m c := by
  refine (dats m 0 c).arrAt_eq_of_cover 8 _ (fun t hf => funext fun x => ?_) fun (y : S4x2048x1024.Idx) => ?_
  · rw [View.read_apply]
    dsimp only [delta]
    have hp : (((cfg0.win 8).blk t).view.emb x (0 : Fin 3)).val = _ ∧ (((cfg0.win 8).blk t).view.emb x (1 : Fin 3)).val = _ ∧ (((cfg0.win 8).blk t).view.emb x (2 : Fin 3)).val = _ := place t x
    rw [hp.1, hp.2.1, hp.2.2]
    exact (point m c t x).2.1
  · obtain ⟨t, ht⟩ := covered y
    refine ⟨t, flush0_8 _, ?_⟩
    show y ∈ ((View.whole main_v0_1).slice (win0_8.rect t)).set
    rw [View.set_slice_whole, Rect.mem_set_unit]
    exact ht

/-- The first moment: the array. -/
theorem final9 : (dats m 0 c).arrAt 9 cfg0.N = mean m c := by
  refine (dats m 0 c).arrAt_eq_of_cover 9 _ (fun t hf => funext fun x => ?_) fun (y : S4x2048x1024.Idx) => ?_
  · rw [View.read_apply]
    dsimp only [mean]
    have hp : (((cfg0.win 9).blk t).view.emb x (0 : Fin 3)).val = _ ∧ (((cfg0.win 9).blk t).view.emb x (1 : Fin 3)).val = _ ∧ (((cfg0.win 9).blk t).view.emb x (2 : Fin 3)).val = _ := place t x
    rw [hp.1, hp.2.1, hp.2.2]
    exact (point m c t x).2.2.1
  · obtain ⟨t, ht⟩ := covered y
    refine ⟨t, flush0_9 _, ?_⟩
    show y ∈ ((View.whole main_v0_2).slice (win0_9.rect t)).set
    rw [View.set_slice_whole, Rect.mem_set_unit]
    exact ht

/-- The second moment: the array. -/
theorem final10 : (dats m 0 c).arrAt 10 cfg0.N = square m c := by
  refine (dats m 0 c).arrAt_eq_of_cover 10 _ (fun t hf => funext fun x => ?_) fun (y : S4x2048x1024.Idx) => ?_
  · rw [View.read_apply]
    dsimp only [square]
    have hp : (((cfg0.win 10).blk t).view.emb x (0 : Fin 3)).val = _ ∧ (((cfg0.win 10).blk t).view.emb x (1 : Fin 3)).val = _ ∧ (((cfg0.win 10).blk t).view.emb x (2 : Fin 3)).val = _ := place t x
    rw [hp.1, hp.2.1, hp.2.2]
    exact (point m c t x).2.2.2
  · obtain ⟨t, ht⟩ := covered y
    refine ⟨t, flush0_10 _, ?_⟩
    show y ∈ ((View.whole main_v0_3).slice (win0_10.rect t)).set
    rw [View.set_slice_whole, Rect.mem_set_unit]
    exact ht

end

/-- The results, equal entry by entry. -/
theorem algebraic : Cert.algebraic_UpF1Ideal_UpF1RefIdeal :=
  fun m ρ m' ρ' _ hag => by
    refine ⟨fun c => grad m c,
      fun c => delta m c,
      fun c => mean m c,
      fun c => square m c,
      (θ_run UpF1Ideal.defs _ _).mono (fun _ h c => ⟨(h c).1.trans (final7 m c), (h c).2.1.trans (final8 m c), (h c).2.2.1.trans (final9 m c), (h c).2.2.2.1.trans (final10 m c), (h c).2.2.2.2⟩) (UpF1Ideal.Value.run_blocks m ρ),
      (θ_run UpF1RefIdeal.defs _ _).mono (fun _ h c => ?_) (UpF1RefIdeal.Value.run m' ρ')⟩
    obtain ⟨e0, e1, e2, e3, e4, e5, e6⟩ := hag c
    exact ⟨(h c).1.trans ((UpF1RefIdeal.Read.val_main_v12_eq _ _ _ _).trans (funext fun y => (Ref.v12_eq _ _ _ _ y).trans (by rw [e0, e1, e2, e3]))),
      (h c).2.1.trans ((UpF1RefIdeal.Read.val_main_v36_eq m' c).trans (funext fun y => (Ref.v36_eq _ _ _ _ _ _ _ y).trans (by rw [e0, e1, e2, e3, e4, e5, e6]))),
      (h c).2.2.1.trans ((UpF1RefIdeal.Read.val_main_v17_eq _ _ _ _ _).trans (funext fun y => (Ref.v17_eq _ _ _ _ _ y).trans (by rw [e0, e1, e2, e3, e5]))),
      (h c).2.2.2.1.trans ((UpF1RefIdeal.Read.val_main_v23_eq _ _ _ _ _).trans (funext fun y => (Ref.v23_eq _ _ _ _ _ y).trans (by rw [e0, e1, e2, e3, e6]))), (h c).2.2.2.2⟩

/-- The reference runs and leaves its arguments alone; it declares no semaphore. -/
theorem referenceFrame : Cert.quiescent_UpF1RefIdeal :=
  fun m ρ _ => (θ_run UpF1RefIdeal.defs _ _).mono (fun r h => ⟨fun c => (h c).2.2.2.2,
    sem_eq_zero_of_no_sems (by decide) r.2⟩) (UpF1RefIdeal.Value.run m ρ)

end

end Cert.Update.UpF1

end
-- ==== Proof.Update.UpF2.lean ====
/- The feed-forward down projection's update: the kernel's arrays and the reference's, equal entry by entry. -/
module

public import proofs.«01_k».proof.Defs
public import proofs.«01_k».proof.Proof.Gen.UpF2Ideal.Value
public import proofs.«01_k».proof.Proof.Gen.UpF2RefIdeal.Run
public import proofs.«01_k».proof.Proof.Gen.UpF2RefIdeal.Read
public import proofs.«01_k».proof.Proof.Products.Sums
public import proofs.«01_k».proof.Proof.Update.Blocks

@[expose] public section

set_option maxRecDepth 16384

noncomputable section

namespace Cert.Update.UpF2

open Idealize.ShloMosaic Idealize.ShloMosaic.TcCoe Idealize.SL.Sem

namespace Ref

open Cert.UpF2RefIdeal Cert.UpF2RefIdeal.Gen Cert.UpF2RefIdeal.Read Idealize.ShloMosaic.StableHlo

variable (P0 P1 P2 P3 : Vec Ideal S4x1024x2048 .bf16) (W M V : Vec Ideal S4x1024x2048 .f32)

theorem v1_eq (y : S1024x2048.Idx) : val_main_v1 (F := Ideal) P0 y = four P0 (y 0).val (y 1).val := by
  pointwise [val_main_v1_apply, val_main_cst_apply, val_main_v0_apply, eq_at3 P0]
  rfl

theorem v3_eq (y : S1024x2048.Idx) : val_main_v3 (F := Ideal) P1 y = four P1 (y 0).val (y 1).val := by
  pointwise [val_main_v3_apply, val_main_cst_0_apply, val_main_v2_apply, eq_at3 P1]
  rfl

theorem v5_eq (y : S1024x2048.Idx) : val_main_v5 (F := Ideal) P2 y = four P2 (y 0).val (y 1).val := by
  pointwise [val_main_v5_apply, val_main_cst_1_apply, val_main_v4_apply, eq_at3 P2]
  rfl

theorem v7_eq (y : S1024x2048.Idx) : val_main_v7 (F := Ideal) P3 y = four P3 (y 0).val (y 1).val := by
  pointwise [val_main_v7_apply, val_main_cst_2_apply, val_main_v6_apply, eq_at3 P3]
  rfl

theorem v12_eq (y : S4x1024x2048.Idx) : val_main_v12 (F := Ideal) P0 P1 P2 P3 y = four (pick4 P0 P1 P2 P3 (y 0).val) (y 1).val (y 2).val := by
  have h : (y 0).val < 4 := (y 0).isLt
  unfold val_main_v12 val_main_v8 val_main_v9 val_main_v10 val_main_v11
  pointwise [v1_eq, v3_eq, v5_eq, v7_eq]
  unfold pick4
  split_ifs <;> first | rfl | (exfalso; omega)

theorem v17_eq (y : S4x1024x2048.Idx) : val_main_v17 (F := Ideal) P0 P1 P2 P3 M y = first (four (pick4 P0 P1 P2 P3 (y 0).val) (y 1).val (y 2).val) (at3 M (y 0).val (y 1).val (y 2).val) := by
  unfold val_main_v17 val_main_v16 val_main_v15 val_main_v14 val_main_v13 val_main_cst_3 val_main_cst_4
  pointwise [v12_eq, eq_at3 M]
  rfl

theorem v23_eq (y : S4x1024x2048.Idx) : val_main_v23 (F := Ideal) P0 P1 P2 P3 V y = second (four (pick4 P0 P1 P2 P3 (y 0).val) (y 1).val (y 2).val) (at3 V (y 0).val (y 1).val (y 2).val) := by
  unfold val_main_v23 val_main_v22 val_main_v21 val_main_v20 val_main_v19 val_main_v18 val_main_cst_5 val_main_cst_6
  pointwise [v12_eq, eq_at3 V]
  rfl

theorem v36_eq (y : S4x1024x2048.Idx) : val_main_v36 (F := Ideal) P0 P1 P2 P3 W M V y
    = change (four (pick4 P0 P1 P2 P3 (y 0).val) (y 1).val (y 2).val) (at3 W (y 0).val (y 1).val (y 2).val) (at3 M (y 0).val (y 1).val (y 2).val) (at3 V (y 0).val (y 1).val (y 2).val) := by
  unfold val_main_v36 val_main_v35 val_main_v34 val_main_v33 val_main_v32 val_main_v31 val_main_v30 val_main_v29 val_main_v28 val_main_v27 val_main_v26 val_main_v25 val_main_v24 val_main_cst_7 val_main_cst_8 val_main_cst_9 val_main_cst_10 val_main_cst_11
  pointwise [v17_eq, v23_eq, eq_at3 W]
  rfl

end Ref

section
open Cert.UpF2Ideal Cert.UpF2Ideal.Gen Cert.Entry Cert.Products

section
variable (c : Dev nD) (i : grid0.Coords) (arg2 : Memref sig .tc .vmem S4x128x2048 .bf16) (harg2 : arg2.IsWhole) (arg3 : Memref sig .tc .vmem S4x128x2048 .bf16) (harg3 : arg3.IsWhole) (arg4 : Memref sig .tc .vmem S4x128x2048 .bf16) (harg4 : arg4.IsWhole) (arg5 : Memref sig .tc .vmem S4x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .f32) (harg11 : arg11.IsWhole) (arg12 : Memref sig .tc .vmem S1x128x2048 .f32) (harg12 : arg12.IsWhole)
    (x0 : Vec Ideal S4x128x2048 .bf16) (x1 : Vec Ideal S4x128x2048 .bf16) (x2 : Vec Ideal S4x128x2048 .bf16) (x3 : Vec Ideal S4x128x2048 .bf16) (x4 : Vec Ideal S1x128x2048 .f32) (x5 : Vec Ideal S1x128x2048 .f32) (x6 : Vec Ideal S1x128x2048 .f32)

/-- A block of layer 0. -/
theorem outs_A (hc0 : cond0_0 i) (hc1 : ¬cond0_1 i) (hc2 : ¬cond0_2 i) (hc3 : ¬cond0_3 i) (y : S1x128x2048.Idx) : Updated (four x0 (y 1).val (y 2).val) (at3 x4 0 (y 1).val (y 2).val) (at3 x5 0 (y 1).val (y 2).val) (at3 x6 0 (y 1).val (y 2).val)
    (out0_A_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_A_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_A_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_A_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y) := by
  unfold out0_A_7 out0_A_8 out0_A_9 out0_A_10 kernelRun0_A
  refine ⟨?_, ?_, ?_, ?_⟩
  all_goals
    dsimp only
    rw [View.read_writes_junk_eq_canon, View.canon_unit_zero zero3]
    dsimp only [kernelRun0_A.sl.r, kernelRun0_A.sl.r_1, kernelRun0_A.sl.r_2, kernelRun0_A.sl.r_3, kernelRun0_A.sl.r_4]
    unfold_payloads
    pointwise [shapeCast_self, readAt_unit3, readAt_unit3_bf16]
    rw [← four_eq]
    try rfl

/-- A block of layer 1. -/
theorem outs_B (hc0 : ¬cond0_0 i) (hc1 : cond0_1 i) (hc2 : ¬cond0_2 i) (hc3 : ¬cond0_3 i) (y : S1x128x2048.Idx) : Updated (four x1 (y 1).val (y 2).val) (at3 x4 0 (y 1).val (y 2).val) (at3 x5 0 (y 1).val (y 2).val) (at3 x6 0 (y 1).val (y 2).val)
    (out0_B_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_B_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_B_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_B_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y) := by
  unfold out0_B_7 out0_B_8 out0_B_9 out0_B_10 kernelRun0_B
  refine ⟨?_, ?_, ?_, ?_⟩
  all_goals
    dsimp only
    rw [View.read_writes_junk_eq_canon, View.canon_unit_zero zero3]
    dsimp only [kernelRun0_B.sl.r, kernelRun0_B.sl.r_1, kernelRun0_B.sl.r_2, kernelRun0_B.sl.r_3, kernelRun0_B.sl.r_4]
    unfold_payloads
    pointwise [shapeCast_self, readAt_unit3, readAt_unit3_bf16]
    rw [← four_eq]
    try rfl

/-- A block of layer 2. -/
theorem outs_C (hc0 : ¬cond0_0 i) (hc1 : ¬cond0_1 i) (hc2 : cond0_2 i) (hc3 : ¬cond0_3 i) (y : S1x128x2048.Idx) : Updated (four x2 (y 1).val (y 2).val) (at3 x4 0 (y 1).val (y 2).val) (at3 x5 0 (y 1).val (y 2).val) (at3 x6 0 (y 1).val (y 2).val)
    (out0_C_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_C_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_C_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y) := by
  unfold out0_C_7 out0_C_8 out0_C_9 out0_C_10 kernelRun0_C
  refine ⟨?_, ?_, ?_, ?_⟩
  all_goals
    dsimp only
    rw [View.read_writes_junk_eq_canon, View.canon_unit_zero zero3]
    dsimp only [kernelRun0_C.sl.r, kernelRun0_C.sl.r_1, kernelRun0_C.sl.r_2, kernelRun0_C.sl.r_3, kernelRun0_C.sl.r_4]
    unfold_payloads
    pointwise [shapeCast_self, readAt_unit3, readAt_unit3_bf16]
    rw [← four_eq]
    try rfl

/-- A block of layer 3. -/
theorem outs_D (hc0 : ¬cond0_0 i) (hc1 : ¬cond0_1 i) (hc2 : ¬cond0_2 i) (hc3 : cond0_3 i) (y : S1x128x2048.Idx) : Updated (four x3 (y 1).val (y 2).val) (at3 x4 0 (y 1).val (y 2).val) (at3 x5 0 (y 1).val (y 2).val) (at3 x6 0 (y 1).val (y 2).val)
    (out0_D_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_D_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_D_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y)
    (out0_D_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y) := by
  unfold out0_D_7 out0_D_8 out0_D_9 out0_D_10 kernelRun0_D
  refine ⟨?_, ?_, ?_, ?_⟩
  all_goals
    dsimp only
    rw [View.read_writes_junk_eq_canon, View.canon_unit_zero zero3]
    dsimp only [kernelRun0_D.sl.r, kernelRun0_D.sl.r_1, kernelRun0_D.sl.r_2, kernelRun0_D.sl.r_3, kernelRun0_D.sl.r_4]
    unfold_payloads
    pointwise [shapeCast_self, readAt_unit3, readAt_unit3_bf16]
    rw [← four_eq]
    try rfl

end

section
variable (m : (ℓ : Loc nD τ sig) → Buf (Elt Ideal) ℓ) (c : Dev nD)

abbrev argP0 : Vec Ideal S4x1024x2048 .bf16 := m ((c : Thread nD τ).loc main_arg0)
abbrev argP1 : Vec Ideal S4x1024x2048 .bf16 := m ((c : Thread nD τ).loc main_arg1)
abbrev argP2 : Vec Ideal S4x1024x2048 .bf16 := m ((c : Thread nD τ).loc main_arg2)
abbrev argP3 : Vec Ideal S4x1024x2048 .bf16 := m ((c : Thread nD τ).loc main_arg3)
abbrev argW : Vec Ideal S4x1024x2048 .f32 := m ((c : Thread nD τ).loc main_arg4)
abbrev argM : Vec Ideal S4x1024x2048 .f32 := m ((c : Thread nD τ).loc main_arg5)
abbrev argV : Vec Ideal S4x1024x2048 .f32 := m ((c : Thread nD τ).loc main_arg6)

theorem index0 : ∀ t : Fin cfg0.N, win0_0.index t 0 = 0 ∧ (t.val / 8 = 0 → win0_0.index t 1 = t.val % 8) ∧ win0_0.index t 2 = 0 :=
  (by decide +kernel : ∀ t : Fin grid0.N, win0_0.index t 0 = 0 ∧ (t.val / 8 = 0 → win0_0.index t 1 = t.val % 8) ∧ win0_0.index t 2 = 0)
theorem index1 : ∀ t : Fin cfg0.N, win0_1.index t 0 = 0 ∧ (t.val / 8 = 1 → win0_1.index t 1 = t.val % 8) ∧ win0_1.index t 2 = 0 :=
  (by decide +kernel : ∀ t : Fin grid0.N, win0_1.index t 0 = 0 ∧ (t.val / 8 = 1 → win0_1.index t 1 = t.val % 8) ∧ win0_1.index t 2 = 0)
theorem index2 : ∀ t : Fin cfg0.N, win0_2.index t 0 = 0 ∧ (t.val / 8 = 2 → win0_2.index t 1 = t.val % 8) ∧ win0_2.index t 2 = 0 :=
  (by decide +kernel : ∀ t : Fin grid0.N, win0_2.index t 0 = 0 ∧ (t.val / 8 = 2 → win0_2.index t 1 = t.val % 8) ∧ win0_2.index t 2 = 0)
theorem index3 : ∀ t : Fin cfg0.N, win0_3.index t 0 = 0 ∧ (t.val / 8 = 3 → win0_3.index t 1 = t.val % 8) ∧ win0_3.index t 2 = 0 :=
  (by decide +kernel : ∀ t : Fin grid0.N, win0_3.index t 0 = 0 ∧ (t.val / 8 = 3 → win0_3.index t 1 = t.val % 8) ∧ win0_3.index t 2 = 0)
theorem index4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

theorem blk0 (t : Fin cfg0.N) (ht : t.val / 8 = 0) {j k : ℕ} (hj : j < 128) (hk : k < 2048) :
    four (iblk m c 0 t : Vec Ideal S4x128x2048 .bf16) j k = four (argP0 m c) (128 * (t.val % 8) + j) k := by
  refine four_congr fun d hd => ?_
  rw [at3_of_lt (iblk m c 0 t : Vec Ideal S4x128x2048 .bf16) hd hj hk]
  refine eq_at3_of (argP0 m c) _ ?_ ?_ ?_
  · show win0_0.index t 0 * 4 + 1 * d = _
    rw [(index0 t).1]; omega
  · show win0_0.index t 1 * 128 + 1 * j = _
    rw [(index0 t).2.1 ht]; omega
  · show win0_0.index t 2 * 2048 + 1 * k = _
    rw [(index0 t).2.2]; omega
theorem blk1 (t : Fin cfg0.N) (ht : t.val / 8 = 1) {j k : ℕ} (hj : j < 128) (hk : k < 2048) :
    four (iblk m c 1 t : Vec Ideal S4x128x2048 .bf16) j k = four (argP1 m c) (128 * (t.val % 8) + j) k := by
  refine four_congr fun d hd => ?_
  rw [at3_of_lt (iblk m c 1 t : Vec Ideal S4x128x2048 .bf16) hd hj hk]
  refine eq_at3_of (argP1 m c) _ ?_ ?_ ?_
  · show win0_1.index t 0 * 4 + 1 * d = _
    rw [(index1 t).1]; omega
  · show win0_1.index t 1 * 128 + 1 * j = _
    rw [(index1 t).2.1 ht]; omega
  · show win0_1.index t 2 * 2048 + 1 * k = _
    rw [(index1 t).2.2]; omega
theorem blk2 (t : Fin cfg0.N) (ht : t.val / 8 = 2) {j k : ℕ} (hj : j < 128) (hk : k < 2048) :
    four (iblk m c 2 t : Vec Ideal S4x128x2048 .bf16) j k = four (argP2 m c) (128 * (t.val % 8) + j) k := by
  refine four_congr fun d hd => ?_
  rw [at3_of_lt (iblk m c 2 t : Vec Ideal S4x128x2048 .bf16) hd hj hk]
  refine eq_at3_of (argP2 m c) _ ?_ ?_ ?_
  · show win0_2.index t 0 * 4 + 1 * d = _
    rw [(index2 t).1]; omega
  · show win0_2.index t 1 * 128 + 1 * j = _
    rw [(index2 t).2.1 ht]; omega
  · show win0_2.index t 2 * 2048 + 1 * k = _
    rw [(index2 t).2.2]; omega
theorem blk3 (t : Fin cfg0.N) (ht : t.val / 8 = 3) {j k : ℕ} (hj : j < 128) (hk : k < 2048) :
    four (iblk m c 3 t : Vec Ideal S4x128x2048 .bf16) j k = four (argP3 m c) (128 * (t.val % 8) + j) k := by
  refine four_congr fun d hd => ?_
  rw [at3_of_lt (iblk m c 3 t : Vec Ideal S4x128x2048 .bf16) hd hj hk]
  refine eq_at3_of (argP3 m c) _ ?_ ?_ ?_
  · show win0_3.index t 0 * 4 + 1 * d = _
    rw [(index3 t).1]; omega
  · show win0_3.index t 1 * 128 + 1 * j = _
    rw [(index3 t).2.1 ht]; omega
  · show win0_3.index t 2 * 2048 + 1 * k = _
    rw [(index3 t).2.2]; omega
theorem blk4 (t : Fin cfg0.N) {j k : ℕ} (hj : j < 128) (hk : k < 2048) :
    at3 (iblk m c 4 t : Vec Ideal S1x128x2048 .f32) 0 j k = at3 (argW m c) (t.val / 8) (128 * (t.val % 8) + j) k := by
  rw [at3_of_lt (iblk m c 4 t : Vec Ideal S1x128x2048 .f32) Nat.one_pos hj hk]
  refine eq_at3_of (argW m c) _ ?_ ?_ ?_
  · show win0_4.index t 0 * 1 + 1 * 0 = _
    rw [(index4 t).1]; omega
  · show win0_4.index t 1 * 128 + 1 * j = _
    rw [(index4 t).2.1]; omega
  · show win0_4.index t 2 * 2048 + 1 * k = _
    rw [(index4 t).2.2]; omega
theorem blk5 (t : Fin cfg0.N) {j k : ℕ} (hj : j < 128) (hk : k < 2048) :
    at3 (iblk m c 5 t : Vec Ideal S1x128x2048 .f32) 0 j k = at3 (argM m c) (t.val / 8) (128 * (t.val % 8) + j) k := by
  rw [at3_of_lt (iblk m c 5 t : Vec Ideal S1x128x2048 .f32) Nat.one_pos hj hk]
  refine eq_at3_of (argM m c) _ ?_ ?_ ?_
  · show win0_4.index t 0 * 1 + 1 * 0 = _
    rw [(index4 t).1]; omega
  · show win0_4.index t 1 * 128 + 1 * j = _
    rw [(index4 t).2.1]; omega
  · show win0_4.index t 2 * 2048 + 1 * k = _
    rw [(index4 t).2.2]; omega
theorem blk6 (t : Fin cfg0.N) {j k : ℕ} (hj : j < 128) (hk : k < 2048) :
    at3 (iblk m c 6 t : Vec Ideal S1x128x2048 .f32) 0 j k = at3 (argV m c) (t.val / 8) (128 * (t.val % 8) + j) k := by
  rw [at3_of_lt (iblk m c 6 t : Vec Ideal S1x128x2048 .f32) Nat.one_pos hj hk]
  refine eq_at3_of (argV m c) _ ?_ ?_ ?_
  · show win0_4.index t 0 * 1 + 1 * 0 = _
    rw [(index4 t).1]; omega
  · show win0_4.index t 1 * 128 + 1 * j = _
    rw [(index4 t).2.1]; omega
  · show win0_4.index t 2 * 2048 + 1 * k = _
    rw [(index4 t).2.2]; omega

/-- The gradient. -/
abbrev grad : Vec Ideal S4x1024x2048 .f32 := fun y => four (pick4 (argP0 m c) (argP1 m c) (argP2 m c) (argP3 m c) (y 0).val) (y 1).val (y 2).val
/-- The change. -/
abbrev delta : Vec Ideal S4x1024x2048 .f32 := fun y => change (four (pick4 (argP0 m c) (argP1 m c) (argP2 m c) (argP3 m c) (y 0).val) (y 1).val (y 2).val) (at3 (argW m c) (y 0).val (y 1).val (y 2).val) (at3 (argM m c) (y 0).val (y 1).val (y 2).val) (at3 (argV m c) (y 0).val (y 1).val (y 2).val)
/-- The first moment. -/
abbrev mean : Vec Ideal S4x1024x2048 .f32 := fun y => first (four (pick4 (argP0 m c) (argP1 m c) (argP2 m c) (argP3 m c) (y 0).val) (y 1).val (y 2).val) (at3 (argM m c) (y 0).val (y 1).val (y 2).val)
/-- The second moment. -/
abbrev square : Vec Ideal S4x1024x2048 .f32 := fun y => second (four (pick4 (argP0 m c) (argP1 m c) (argP2 m c) (argP3 m c) (y 0).val) (y 1).val (y 2).val) (at3 (argV m c) (y 0).val (y 1).val (y 2).val)

/-- Every entry lies in some point's block. -/
theorem covered (y : S4x1024x2048.Idx) : ∃ t : Fin cfg0.N, ∀ a, win0_4.index t a * S1x128x2048.size a ≤ (y a).val ∧ (y a).val < win0_4.index t a * S1x128x2048.size a + S1x128x2048.size a := by
  have h0 : (y 0).val < 4 := (y 0).isLt
  have h1 : (y 1).val < 1024 := (y 1).isLt
  have h2 : (y 2).val < 2048 := (y 2).isLt
  obtain ⟨t, ht⟩ : ∃ t : Fin cfg0.N, t.val = 8 * (y 0).val + (y 1).val / 128 := ⟨⟨8 * (y 0).val + (y 1).val / 128, show 8 * (y 0).val + (y 1).val / 128 < 32 by omega⟩, rfl⟩
  refine ⟨t, fun a => ?_⟩
  match a with
  | ⟨0, _⟩ =>
    show win0_4.index t 0 * 1 ≤ (y 0).val ∧ (y 0).val < win0_4.index t 0 * 1 + 1
    rw [(index4 t).1]; omega
  | ⟨1, _⟩ =>
    show win0_4.index t 1 * 128 ≤ (y 1).val ∧ (y 1).val < win0_4.index t 1 * 128 + 128
    rw [(index4 t).2.1]; omega
  | ⟨2, _⟩ =>
    show win0_4.index t 2 * 2048 ≤ (y 2).val ∧ (y 2).val < win0_4.index t 2 * 2048 + 2048
    rw [(index4 t).2.2]; omega

/-- Where a block's entry lies in the array. -/
theorem place (t : Fin cfg0.N) (x : S1x128x2048.Idx) : (((cfg0.win 7).blk t).view.emb x (0 : Fin 3)).val = t.val / 8
    ∧ (((cfg0.win 7).blk t).view.emb x (1 : Fin 3)).val = 128 * (t.val % 8) + (x 1).val ∧ (((cfg0.win 7).blk t).view.emb x (2 : Fin 3)).val = (x 2).val := by
  have h0 : (x 0).val < 1 := (x 0).isLt
  refine ⟨?_, ?_, ?_⟩
  · show win0_4.index t 0 * 1 + 1 * (x 0).val = _
    rw [(index4 t).1]; omega
  · show win0_4.index t 1 * 128 + 1 * (x 1).val = _
    rw [(index4 t).2.1]; omega
  · show win0_4.index t 2 * 2048 + 1 * (x 2).val = _
    rw [(index4 t).2.2]; omega

/-- What each point writes. -/
theorem point (t : Fin cfg0.N) (x : S1x128x2048.Idx) :
    Updated (four (pick4 (argP0 m c) (argP1 m c) (argP2 m c) (argP3 m c) (t.val / 8)) (128 * (t.val % 8) + (x 1).val) (x 2).val)
      (at3 (argW m c) (t.val / 8) (128 * (t.val % 8) + (x 1).val) (x 2).val) (at3 (argM m c) (t.val / 8) (128 * (t.val % 8) + (x 1).val) (x 2).val) (at3 (argV m c) (t.val / 8) (128 * (t.val % 8) + (x 1).val) (x 2).val)
      ((dats m 0 c).flushed 7 t x) ((dats m 0 c).flushed 8 t x) ((dats m 0 c).flushed 9 t x) ((dats m 0 c).flushed 10 t x) := by
  have ht : t.val < 32 := t.isLt
  have h1 : (x 1).val < 128 := (x 1).isLt
  have h2 : (x 2).val < 2048 := (x 2).isLt
  obtain hq | hq | hq | hq : t.val / 8 = 0 ∨ t.val / 8 = 1 ∨ t.val / 8 = 2 ∨ t.val / 8 = 3 := by omega
  · rw [Cert.UpF2Ideal.Value.flushed7_A m c t (by omega) (by omega) (by omega) (by omega), Cert.UpF2Ideal.Value.flushed8_A m c t (by omega) (by omega) (by omega) (by omega), Cert.UpF2Ideal.Value.flushed9_A m c t (by omega) (by omega) (by omega) (by omega), Cert.UpF2Ideal.Value.flushed10_A m c t (by omega) (by omega) (by omega) (by omega),
      show pick4 (argP0 m c) (argP1 m c) (argP2 m c) (argP3 m c) (t.val / 8) = argP0 m c by rw [hq]; rfl]
    exact (outs_A c _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x).of_eq (blk0 m c t hq h1 h2) (blk4 m c t h1 h2) (blk5 m c t h1 h2) (blk6 m c t h1 h2)
  · rw [Cert.UpF2Ideal.Value.flushed7_B m c t (by omega) (by omega) (by omega) (by omega), Cert.UpF2Ideal.Value.flushed8_B m c t (by omega) (by omega) (by omega) (by omega), Cert.UpF2Ideal.Value.flushed9_B m c t (by omega) (by omega) (by omega) (by omega), Cert.UpF2Ideal.Value.flushed10_B m c t (by omega) (by omega) (by omega) (by omega),
      show pick4 (argP0 m c) (argP1 m c) (argP2 m c) (argP3 m c) (t.val / 8) = argP1 m c by rw [hq]; rfl]
    exact (outs_B c _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x).of_eq (blk1 m c t hq h1 h2) (blk4 m c t h1 h2) (blk5 m c t h1 h2) (blk6 m c t h1 h2)
  · rw [Cert.UpF2Ideal.Value.flushed7_C m c t (by omega) (by omega) (by omega) (by omega), Cert.UpF2Ideal.Value.flushed8_C m c t (by omega) (by omega) (by omega) (by omega), Cert.UpF2Ideal.Value.flushed9_C m c t (by omega) (by omega) (by omega) (by omega), Cert.UpF2Ideal.Value.flushed10_C m c t (by omega) (by omega) (by omega) (by omega),
      show pick4 (argP0 m c) (argP1 m c) (argP2 m c) (argP3 m c) (t.val / 8) = argP2 m c by rw [hq]; rfl]
    exact (outs_C c _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x).of_eq (blk2 m c t hq h1 h2) (blk4 m c t h1 h2) (blk5 m c t h1 h2) (blk6 m c t h1 h2)
  · rw [Cert.UpF2Ideal.Value.flushed7_D m c t (by omega) (by omega) (by omega) (by omega), Cert.UpF2Ideal.Value.flushed8_D m c t (by omega) (by omega) (by omega) (by omega), Cert.UpF2Ideal.Value.flushed9_D m c t (by omega) (by omega) (by omega) (by omega), Cert.UpF2Ideal.Value.flushed10_D m c t (by omega) (by omega) (by omega) (by omega),
      show pick4 (argP0 m c) (argP1 m c) (argP2 m c) (argP3 m c) (t.val / 8) = argP3 m c by rw [hq]; rfl]
    exact (outs_D c _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x).of_eq (blk3 m c t hq h1 h2) (blk4 m c t h1 h2) (blk5 m c t h1 h2) (blk6 m c t h1 h2)

/-- The gradient: the array. -/
theorem final7 : (dats m 0 c).arrAt 7 cfg0.N = grad m c := by
  refine (dats m 0 c).arrAt_eq_of_cover 7 _ (fun t hf => funext fun x => ?_) fun (y : S4x1024x2048.Idx) => ?_
  · rw [View.read_apply]
    dsimp only [grad]
    have hp : (((cfg0.win 7).blk t).view.emb x (0 : Fin 3)).val = _ ∧ (((cfg0.win 7).blk t).view.emb x (1 : Fin 3)).val = _ ∧ (((cfg0.win 7).blk t).view.emb x (2 : Fin 3)).val = _ := place t x
    rw [hp.1, hp.2.1, hp.2.2]
    exact (point m c t x).1
  · obtain ⟨t, ht⟩ := covered y
    refine ⟨t, flush0_7 _, ?_⟩
    show y ∈ ((View.whole main_v0_0).slice (win0_7.rect t)).set
    rw [View.set_slice_whole, Rect.mem_set_unit]
    exact ht

/-- The change: the array. -/
theorem final8 : (dats m 0 c).arrAt 8 cfg0.N = delta m c := by
  refine (dats m 0 c).arrAt_eq_of_cover 8 _ (fun t hf => funext fun x => ?_) fun (y : S4x1024x2048.Idx) => ?_
  · rw [View.read_apply]
    dsimp only [delta]
    have hp : (((cfg0.win 8).blk t).view.emb x (0 : Fin 3)).val = _ ∧ (((cfg0.win 8).blk t).view.emb x (1 : Fin 3)).val = _ ∧ (((cfg0.win 8).blk t).view.emb x (2 : Fin 3)).val = _ := place t x
    rw [hp.1, hp.2.1, hp.2.2]
    exact (point m c t x).2.1
  · obtain ⟨t, ht⟩ := covered y
    refine ⟨t, flush0_8 _, ?_⟩
    show y ∈ ((View.whole main_v0_1).slice (win0_8.rect t)).set
    rw [View.set_slice_whole, Rect.mem_set_unit]
    exact ht

/-- The first moment: the array. -/
theorem final9 : (dats m 0 c).arrAt 9 cfg0.N = mean m c := by
  refine (dats m 0 c).arrAt_eq_of_cover 9 _ (fun t hf => funext fun x => ?_) fun (y : S4x1024x2048.Idx) => ?_
  · rw [View.read_apply]
    dsimp only [mean]
    have hp : (((cfg0.win 9).blk t).view.emb x (0 : Fin 3)).val = _ ∧ (((cfg0.win 9).blk t).view.emb x (1 : Fin 3)).val = _ ∧ (((cfg0.win 9).blk t).view.emb x (2 : Fin 3)).val = _ := place t x
    rw [hp.1, hp.2.1, hp.2.2]
    exact (point m c t x).2.2.1
  · obtain ⟨t, ht⟩ := covered y
    refine ⟨t, flush0_9 _, ?_⟩
    show y ∈ ((View.whole main_v0_2).slice (win0_9.rect t)).set
    rw [View.set_slice_whole, Rect.mem_set_unit]
    exact ht

/-- The second moment: the array. -/
theorem final10 : (dats m 0 c).arrAt 10 cfg0.N = square m c := by
  refine (dats m 0 c).arrAt_eq_of_cover 10 _ (fun t hf => funext fun x => ?_) fun (y : S4x1024x2048.Idx) => ?_
  · rw [View.read_apply]
    dsimp only [square]
    have hp : (((cfg0.win 10).blk t).view.emb x (0 : Fin 3)).val = _ ∧ (((cfg0.win 10).blk t).view.emb x (1 : Fin 3)).val = _ ∧ (((cfg0.win 10).blk t).view.emb x (2 : Fin 3)).val = _ := place t x
    rw [hp.1, hp.2.1, hp.2.2]
    exact (point m c t x).2.2.2
  · obtain ⟨t, ht⟩ := covered y
    refine ⟨t, flush0_10 _, ?_⟩
    show y ∈ ((View.whole main_v0_3).slice (win0_10.rect t)).set
    rw [View.set_slice_whole, Rect.mem_set_unit]
    exact ht

end

/-- The results, equal entry by entry. -/
theorem algebraic : Cert.algebraic_UpF2Ideal_UpF2RefIdeal :=
  fun m ρ m' ρ' _ hag => by
    refine ⟨fun c => grad m c,
      fun c => delta m c,
      fun c => mean m c,
      fun c => square m c,
      (θ_run UpF2Ideal.defs _ _).mono (fun _ h c => ⟨(h c).1.trans (final7 m c), (h c).2.1.trans (final8 m c), (h c).2.2.1.trans (final9 m c), (h c).2.2.2.1.trans (final10 m c), (h c).2.2.2.2⟩) (UpF2Ideal.Value.run_blocks m ρ),
      (θ_run UpF2RefIdeal.defs _ _).mono (fun _ h c => ?_) (UpF2RefIdeal.Value.run m' ρ')⟩
    obtain ⟨e0, e1, e2, e3, e4, e5, e6⟩ := hag c
    exact ⟨(h c).1.trans ((UpF2RefIdeal.Read.val_main_v12_eq _ _ _ _).trans (funext fun y => (Ref.v12_eq _ _ _ _ y).trans (by rw [e0, e1, e2, e3]))),
      (h c).2.1.trans ((UpF2RefIdeal.Read.val_main_v36_eq m' c).trans (funext fun y => (Ref.v36_eq _ _ _ _ _ _ _ y).trans (by rw [e0, e1, e2, e3, e4, e5, e6]))),
      (h c).2.2.1.trans ((UpF2RefIdeal.Read.val_main_v17_eq _ _ _ _ _).trans (funext fun y => (Ref.v17_eq _ _ _ _ _ y).trans (by rw [e0, e1, e2, e3, e5]))),
      (h c).2.2.2.1.trans ((UpF2RefIdeal.Read.val_main_v23_eq _ _ _ _ _).trans (funext fun y => (Ref.v23_eq _ _ _ _ _ y).trans (by rw [e0, e1, e2, e3, e6]))), (h c).2.2.2.2⟩

/-- The reference runs and leaves its arguments alone; it declares no semaphore. -/
theorem referenceFrame : Cert.quiescent_UpF2RefIdeal :=
  fun m ρ _ => (θ_run UpF2RefIdeal.defs _ _).mono (fun r h => ⟨fun c => (h c).2.2.2.2,
    sem_eq_zero_of_no_sems (by decide) r.2⟩) (UpF2RefIdeal.Value.run m ρ)

end

end Cert.Update.UpF2

end
-- ==== Proof.Update.UpBIn.lean ====
/- The b-layers' input projection's update: the kernel's arrays and the reference's, equal entry by entry. -/
module

public import proofs.«01_k».proof.Defs
public import proofs.«01_k».proof.Proof.Gen.UpBInIdeal.Value
public import proofs.«01_k».proof.Proof.Gen.UpBInRefIdeal.Run
public import proofs.«01_k».proof.Proof.Gen.UpBInRefIdeal.Read
public import proofs.«01_k».proof.Proof.Products.Sums
public import proofs.«01_k».proof.Proof.Update.Blocks

@[expose] public section

set_option maxRecDepth 16384

noncomputable section

namespace Cert.Update.UpBIn

open Idealize.ShloMosaic Idealize.ShloMosaic.TcCoe Idealize.SL.Sem

namespace Ref

open Cert.UpBInRefIdeal Cert.UpBInRefIdeal.Gen Cert.UpBInRefIdeal.Read Idealize.ShloMosaic.StableHlo

variable (P0 P1 : Vec Ideal S4x2048x768 .bf16) (W M V : Vec Ideal S2x2048x768 .f32)

theorem v1_eq (y : S2048x768.Idx) : val_main_v1 (F := Ideal) P0 y = four P0 (y 0).val (y 1).val := by
  pointwise [val_main_v1_apply, val_main_cst_apply, val_main_v0_apply, eq_at3 P0]
  rfl

theorem v3_eq (y : S2048x768.Idx) : val_main_v3 (F := Ideal) P1 y = four P1 (y 0).val (y 1).val := by
  pointwise [val_main_v3_apply, val_main_cst_0_apply, val_main_v2_apply, eq_at3 P1]
  rfl

theorem v6_eq (y : S2x2048x768.Idx) : val_main_v6 (F := Ideal) P0 P1 y = four (pick2 P0 P1 (y 0).val) (y 1).val (y 2).val := by
  have h : (y 0).val < 2 := (y 0).isLt
  unfold val_main_v6 val_main_v4 val_main_v5
  pointwise [v1_eq, v3_eq]
  unfold pick2
  split_ifs <;> first | rfl | (exfalso; omega)

theorem v11_eq (y : S2x2048x768.Idx) : val_main_v11 (F := Ideal) P0 P1 M y = first (four (pick2 P0 P1 (y 0).val) (y 1).val (y 2).val) (at3 M (y 0).val (y 1).val (y 2).val) := by
  unfold val_main_v11 val_main_v10 val_main_v9 val_main_v8 val_main_v7 val_main_cst_1 val_main_cst_2
  pointwise [v6_eq, eq_at3 M]
  rfl

theorem v17_eq (y : S2x2048x768.Idx) : val_main_v17 (F := Ideal) P0 P1 V y = second (four (pick2 P0 P1 (y 0).val) (y 1).val (y 2).val) (at3 V (y 0).val (y 1).val (y 2).val) := by
  unfold val_main_v17 val_main_v16 val_main_v15 val_main_v14 val_main_v13 val_main_v12 val_main_cst_3 val_main_cst_4
  pointwise [v6_eq, eq_at3 V]
  rfl

theorem v30_eq (y : S2x2048x768.Idx) : val_main_v30 (F := Ideal) P0 P1 W M V y
    = change (four (pick2 P0 P1 (y 0).val) (y 1).val (y 2).val) (at3 W (y 0).val (y 1).val (y 2).val) (at3 M (y 0).val (y 1).val (y 2).val) (at3 V (y 0).val (y 1).val (y 2).val) := by
  unfold val_main_v30 val_main_v29 val_main_v28 val_main_v27 val_main_v26 val_main_v25 val_main_v24 val_main_v23 val_main_v22 val_main_v21 val_main_v20 val_main_v19 val_main_v18 val_main_cst_5 val_main_cst_6 val_main_cst_7 val_main_cst_8 val_main_cst_9
  pointwise [v11_eq, v17_eq, eq_at3 W]
  rfl

end Ref

section
open Cert.UpBInIdeal Cert.UpBInIdeal.Gen Cert.Entry Cert.Products

section
variable (c : Dev nD) (i : grid0.Coords) (arg2 : Memref sig .tc .vmem S4x256x768 .bf16) (harg2 : arg2.IsWhole) (arg3 : Memref sig .tc .vmem S4x256x768 .bf16) (harg3 : arg3.IsWhole) (arg4 : Memref sig .tc .vmem S1x256x768 .f32) (harg4 : arg4.IsWhole) (arg5 : Memref sig .tc .vmem S1x256x768 .f32) (harg5 : arg5.IsWhole) (arg6 : Memref sig .tc .vmem S1x256x768 .f32) (harg6 : arg6.IsWhole) (arg7 : Memref sig .tc .vmem S1x256x768 .f32) (harg7 : arg7.IsWhole) (arg8 : Memref sig .tc .vmem S1x256x768 .f32) (harg8 : arg8.IsWhole) (arg9 : Memref sig .tc .vmem S1x256x768 .f32) (harg9 : arg9.IsWhole) (arg10 : Memref sig .tc .vmem S1x256x768 .f32) (harg10 : arg10.IsWhole)
    (x0 : Vec Ideal S4x256x768 .bf16) (x1 : Vec Ideal S4x256x768 .bf16) (x2 : Vec Ideal S1x256x768 .f32) (x3 : Vec Ideal S1x256x768 .f32) (x4 : Vec Ideal S1x256x768 .f32)

/-- A block of layer 0. -/
theorem outs_A (hc0 : cond0_0 i) (hc1 : ¬cond0_1 i) (y : S1x256x768.Idx) : Updated (four x0 (y 1).val (y 2).val) (at3 x2 0 (y 1).val (y 2).val) (at3 x3 0 (y 1).val (y 2).val) (at3 x4 0 (y 1).val (y 2).val)
    (out0_A_5 c i arg2 harg2 arg3 harg3 arg4 harg4 arg5 harg5 arg6 harg6 arg7 harg7 arg8 harg8 arg9 harg9 arg10 harg10 hc0 hc1 x0 x1 x2 x3 x4 y)
    (out0_A_6 c i arg2 harg2 arg3 harg3 arg4 harg4 arg5 harg5 arg6 harg6 arg7 harg7 arg8 harg8 arg9 harg9 arg10 harg10 hc0 hc1 x0 x1 x2 x3 x4 y)
    (out0_A_7 c i arg2 harg2 arg3 harg3 arg4 harg4 arg5 harg5 arg6 harg6 arg7 harg7 arg8 harg8 arg9 harg9 arg10 harg10 hc0 hc1 x0 x1 x2 x3 x4 y)
    (out0_A_8 c i arg2 harg2 arg3 harg3 arg4 harg4 arg5 harg5 arg6 harg6 arg7 harg7 arg8 harg8 arg9 harg9 arg10 harg10 hc0 hc1 x0 x1 x2 x3 x4 y) := by
  unfold out0_A_5 out0_A_6 out0_A_7 out0_A_8 kernelRun0_A
  refine ⟨?_, ?_, ?_, ?_⟩
  all_goals
    dsimp only
    rw [View.read_writes_junk_eq_canon, View.canon_unit_zero zero3]
    dsimp only [kernelRun0_A.sl.r, kernelRun0_A.sl.r_1, kernelRun0_A.sl.r_2, kernelRun0_A.sl.r_3, kernelRun0_A.sl.r_4]
    unfold_payloads
    pointwise [shapeCast_self, readAt_unit3, readAt_unit3_bf16]
    rw [← four_eq]
    try rfl

/-- A block of layer 1. -/
theorem outs_B (hc0 : ¬cond0_0 i) (hc1 : cond0_1 i) (y : S1x256x768.Idx) : Updated (four x1 (y 1).val (y 2).val) (at3 x2 0 (y 1).val (y 2).val) (at3 x3 0 (y 1).val (y 2).val) (at3 x4 0 (y 1).val (y 2).val)
    (out0_B_5 c i arg2 harg2 arg3 harg3 arg4 harg4 arg5 harg5 arg6 harg6 arg7 harg7 arg8 harg8 arg9 harg9 arg10 harg10 hc0 hc1 x0 x1 x2 x3 x4 y)
    (out0_B_6 c i arg2 harg2 arg3 harg3 arg4 harg4 arg5 harg5 arg6 harg6 arg7 harg7 arg8 harg8 arg9 harg9 arg10 harg10 hc0 hc1 x0 x1 x2 x3 x4 y)
    (out0_B_7 c i arg2 harg2 arg3 harg3 arg4 harg4 arg5 harg5 arg6 harg6 arg7 harg7 arg8 harg8 arg9 harg9 arg10 harg10 hc0 hc1 x0 x1 x2 x3 x4 y)
    (out0_B_8 c i arg2 harg2 arg3 harg3 arg4 harg4 arg5 harg5 arg6 harg6 arg7 harg7 arg8 harg8 arg9 harg9 arg10 harg10 hc0 hc1 x0 x1 x2 x3 x4 y) := by
  unfold out0_B_5 out0_B_6 out0_B_7 out0_B_8 kernelRun0_B
  refine ⟨?_, ?_, ?_, ?_⟩
  all_goals
    dsimp only
    rw [View.read_writes_junk_eq_canon, View.canon_unit_zero zero3]
    dsimp only [kernelRun0_B.sl.r, kernelRun0_B.sl.r_1, kernelRun0_B.sl.r_2, kernelRun0_B.sl.r_3, kernelRun0_B.sl.r_4]
    unfold_payloads
    pointwise [shapeCast_self, readAt_unit3, readAt_unit3_bf16]
    rw [← four_eq]
    try rfl

end

section
variable (m : (ℓ : Loc nD τ sig) → Buf (Elt Ideal) ℓ) (c : Dev nD)

abbrev argP0 : Vec Ideal S4x2048x768 .bf16 := m ((c : Thread nD τ).loc main_arg0)
abbrev argP1 : Vec Ideal S4x2048x768 .bf16 := m ((c : Thread nD τ).loc main_arg1)
abbrev argW : Vec Ideal S2x2048x768 .f32 := m ((c : Thread nD τ).loc main_arg2)
abbrev argM : Vec Ideal S2x2048x768 .f32 := m ((c : Thread nD τ).loc main_arg3)
abbrev argV : Vec Ideal S2x2048x768 .f32 := m ((c : Thread nD τ).loc main_arg4)

theorem index0 : ∀ t : Fin cfg0.N, win0_0.index t 0 = 0 ∧ (t.val / 8 = 0 → win0_0.index t 1 = t.val % 8) ∧ win0_0.index t 2 = 0 :=
  (by decide +kernel : ∀ t : Fin grid0.N, win0_0.index t 0 = 0 ∧ (t.val / 8 = 0 → win0_0.index t 1 = t.val % 8) ∧ win0_0.index t 2 = 0)
theorem index1 : ∀ t : Fin cfg0.N, win0_1.index t 0 = 0 ∧ (t.val / 8 = 1 → win0_1.index t 1 = t.val % 8) ∧ win0_1.index t 2 = 0 :=
  (by decide +kernel : ∀ t : Fin grid0.N, win0_1.index t 0 = 0 ∧ (t.val / 8 = 1 → win0_1.index t 1 = t.val % 8) ∧ win0_1.index t 2 = 0)
theorem index2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

theorem blk0 (t : Fin cfg0.N) (ht : t.val / 8 = 0) {j k : ℕ} (hj : j < 256) (hk : k < 768) :
    four (iblk m c 0 t : Vec Ideal S4x256x768 .bf16) j k = four (argP0 m c) (256 * (t.val % 8) + j) k := by
  refine four_congr fun d hd => ?_
  rw [at3_of_lt (iblk m c 0 t : Vec Ideal S4x256x768 .bf16) hd hj hk]
  refine eq_at3_of (argP0 m c) _ ?_ ?_ ?_
  · show win0_0.index t 0 * 4 + 1 * d = _
    rw [(index0 t).1]; omega
  · show win0_0.index t 1 * 256 + 1 * j = _
    rw [(index0 t).2.1 ht]; omega
  · show win0_0.index t 2 * 768 + 1 * k = _
    rw [(index0 t).2.2]; omega
theorem blk1 (t : Fin cfg0.N) (ht : t.val / 8 = 1) {j k : ℕ} (hj : j < 256) (hk : k < 768) :
    four (iblk m c 1 t : Vec Ideal S4x256x768 .bf16) j k = four (argP1 m c) (256 * (t.val % 8) + j) k := by
  refine four_congr fun d hd => ?_
  rw [at3_of_lt (iblk m c 1 t : Vec Ideal S4x256x768 .bf16) hd hj hk]
  refine eq_at3_of (argP1 m c) _ ?_ ?_ ?_
  · show win0_1.index t 0 * 4 + 1 * d = _
    rw [(index1 t).1]; omega
  · show win0_1.index t 1 * 256 + 1 * j = _
    rw [(index1 t).2.1 ht]; omega
  · show win0_1.index t 2 * 768 + 1 * k = _
    rw [(index1 t).2.2]; omega
theorem blk2 (t : Fin cfg0.N) {j k : ℕ} (hj : j < 256) (hk : k < 768) :
    at3 (iblk m c 2 t : Vec Ideal S1x256x768 .f32) 0 j k = at3 (argW m c) (t.val / 8) (256 * (t.val % 8) + j) k := by
  rw [at3_of_lt (iblk m c 2 t : Vec Ideal S1x256x768 .f32) Nat.one_pos hj hk]
  refine eq_at3_of (argW m c) _ ?_ ?_ ?_
  · show win0_2.index t 0 * 1 + 1 * 0 = _
    rw [(index2 t).1]; omega
  · show win0_2.index t 1 * 256 + 1 * j = _
    rw [(index2 t).2.1]; omega
  · show win0_2.index t 2 * 768 + 1 * k = _
    rw [(index2 t).2.2]; omega
theorem blk3 (t : Fin cfg0.N) {j k : ℕ} (hj : j < 256) (hk : k < 768) :
    at3 (iblk m c 3 t : Vec Ideal S1x256x768 .f32) 0 j k = at3 (argM m c) (t.val / 8) (256 * (t.val % 8) + j) k := by
  rw [at3_of_lt (iblk m c 3 t : Vec Ideal S1x256x768 .f32) Nat.one_pos hj hk]
  refine eq_at3_of (argM m c) _ ?_ ?_ ?_
  · show win0_2.index t 0 * 1 + 1 * 0 = _
    rw [(index2 t).1]; omega
  · show win0_2.index t 1 * 256 + 1 * j = _
    rw [(index2 t).2.1]; omega
  · show win0_2.index t 2 * 768 + 1 * k = _
    rw [(index2 t).2.2]; omega
theorem blk4 (t : Fin cfg0.N) {j k : ℕ} (hj : j < 256) (hk : k < 768) :
    at3 (iblk m c 4 t : Vec Ideal S1x256x768 .f32) 0 j k = at3 (argV m c) (t.val / 8) (256 * (t.val % 8) + j) k := by
  rw [at3_of_lt (iblk m c 4 t : Vec Ideal S1x256x768 .f32) Nat.one_pos hj hk]
  refine eq_at3_of (argV m c) _ ?_ ?_ ?_
  · show win0_2.index t 0 * 1 + 1 * 0 = _
    rw [(index2 t).1]; omega
  · show win0_2.index t 1 * 256 + 1 * j = _
    rw [(index2 t).2.1]; omega
  · show win0_2.index t 2 * 768 + 1 * k = _
    rw [(index2 t).2.2]; omega

/-- The gradient. -/
abbrev grad : Vec Ideal S2x2048x768 .f32 := fun y => four (pick2 (argP0 m c) (argP1 m c) (y 0).val) (y 1).val (y 2).val
/-- The change. -/
abbrev delta : Vec Ideal S2x2048x768 .f32 := fun y => change (four (pick2 (argP0 m c) (argP1 m c) (y 0).val) (y 1).val (y 2).val) (at3 (argW m c) (y 0).val (y 1).val (y 2).val) (at3 (argM m c) (y 0).val (y 1).val (y 2).val) (at3 (argV m c) (y 0).val (y 1).val (y 2).val)
/-- The first moment. -/
abbrev mean : Vec Ideal S2x2048x768 .f32 := fun y => first (four (pick2 (argP0 m c) (argP1 m c) (y 0).val) (y 1).val (y 2).val) (at3 (argM m c) (y 0).val (y 1).val (y 2).val)
/-- The second moment. -/
abbrev square : Vec Ideal S2x2048x768 .f32 := fun y => second (four (pick2 (argP0 m c) (argP1 m c) (y 0).val) (y 1).val (y 2).val) (at3 (argV m c) (y 0).val (y 1).val (y 2).val)

/-- Every entry lies in some point's block. -/
theorem covered (y : S2x2048x768.Idx) : ∃ t : Fin cfg0.N, ∀ a, win0_2.index t a * S1x256x768.size a ≤ (y a).val ∧ (y a).val < win0_2.index t a * S1x256x768.size a + S1x256x768.size a := by
  have h0 : (y 0).val < 2 := (y 0).isLt
  have h1 : (y 1).val < 2048 := (y 1).isLt
  have h2 : (y 2).val < 768 := (y 2).isLt
  obtain ⟨t, ht⟩ : ∃ t : Fin cfg0.N, t.val = 8 * (y 0).val + (y 1).val / 256 := ⟨⟨8 * (y 0).val + (y 1).val / 256, show 8 * (y 0).val + (y 1).val / 256 < 16 by omega⟩, rfl⟩
  refine ⟨t, fun a => ?_⟩
  match a with
  | ⟨0, _⟩ =>
    show win0_2.index t 0 * 1 ≤ (y 0).val ∧ (y 0).val < win0_2.index t 0 * 1 + 1
    rw [(index2 t).1]; omega
  | ⟨1, _⟩ =>
    show win0_2.index t 1 * 256 ≤ (y 1).val ∧ (y 1).val < win0_2.index t 1 * 256 + 256
    rw [(index2 t).2.1]; omega
  | ⟨2, _⟩ =>
    show win0_2.index t 2 * 768 ≤ (y 2).val ∧ (y 2).val < win0_2.index t 2 * 768 + 768
    rw [(index2 t).2.2]; omega

/-- Where a block's entry lies in the array. -/
theorem place (t : Fin cfg0.N) (x : S1x256x768.Idx) : (((cfg0.win 5).blk t).view.emb x (0 : Fin 3)).val = t.val / 8
    ∧ (((cfg0.win 5).blk t).view.emb x (1 : Fin 3)).val = 256 * (t.val % 8) + (x 1).val ∧ (((cfg0.win 5).blk t).view.emb x (2 : Fin 3)).val = (x 2).val := by
  have h0 : (x 0).val < 1 := (x 0).isLt
  refine ⟨?_, ?_, ?_⟩
  · show win0_2.index t 0 * 1 + 1 * (x 0).val = _
    rw [(index2 t).1]; omega
  · show win0_2.index t 1 * 256 + 1 * (x 1).val = _
    rw [(index2 t).2.1]; omega
  · show win0_2.index t 2 * 768 + 1 * (x 2).val = _
    rw [(index2 t).2.2]; omega

/-- What each point writes. -/
theorem point (t : Fin cfg0.N) (x : S1x256x768.Idx) :
    Updated (four (pick2 (argP0 m c) (argP1 m c) (t.val / 8)) (256 * (t.val % 8) + (x 1).val) (x 2).val)
      (at3 (argW m c) (t.val / 8) (256 * (t.val % 8) + (x 1).val) (x 2).val) (at3 (argM m c) (t.val / 8) (256 * (t.val % 8) + (x 1).val) (x 2).val) (at3 (argV m c) (t.val / 8) (256 * (t.val % 8) + (x 1).val) (x 2).val)
      ((dats m 0 c).flushed 5 t x) ((dats m 0 c).flushed 6 t x) ((dats m 0 c).flushed 7 t x) ((dats m 0 c).flushed 8 t x) := by
  have ht : t.val < 16 := t.isLt
  have h1 : (x 1).val < 256 := (x 1).isLt
  have h2 : (x 2).val < 768 := (x 2).isLt
  obtain hq | hq : t.val / 8 = 0 ∨ t.val / 8 = 1 := by omega
  · rw [Cert.UpBInIdeal.Value.flushed5_A m c t (by omega) (by omega), Cert.UpBInIdeal.Value.flushed6_A m c t (by omega) (by omega), Cert.UpBInIdeal.Value.flushed7_A m c t (by omega) (by omega), Cert.UpBInIdeal.Value.flushed8_A m c t (by omega) (by omega),
      show pick2 (argP0 m c) (argP1 m c) (t.val / 8) = argP0 m c by rw [hq]; rfl]
    exact (outs_A c _ _ _ _ _ _ _ _ _ _ _ _ _ _ _ _ _ _ _ (iblk m c 0 t) (iblk m c 1 t) (iblk m c 2 t) (iblk m c 3 t) (iblk m c 4 t) _ _ x).of_eq (blk0 m c t hq h1 h2) (blk2 m c t h1 h2) (blk3 m c t h1 h2) (blk4 m c t h1 h2)
  · rw [Cert.UpBInIdeal.Value.flushed5_B m c t (by omega) (by omega), Cert.UpBInIdeal.Value.flushed6_B m c t (by omega) (by omega), Cert.UpBInIdeal.Value.flushed7_B m c t (by omega) (by omega), Cert.UpBInIdeal.Value.flushed8_B m c t (by omega) (by omega),
      show pick2 (argP0 m c) (argP1 m c) (t.val / 8) = argP1 m c by rw [hq]; rfl]
    exact (outs_B c _ _ _ _ _ _ _ _ _ _ _ _ _ _ _ _ _ _ _ (iblk m c 0 t) (iblk m c 1 t) (iblk m c 2 t) (iblk m c 3 t) (iblk m c 4 t) _ _ x).of_eq (blk1 m c t hq h1 h2) (blk2 m c t h1 h2) (blk3 m c t h1 h2) (blk4 m c t h1 h2)

/-- The gradient: the array. -/
theorem final5 : (dats m 0 c).arrAt 5 cfg0.N = grad m c := by
  refine (dats m 0 c).arrAt_eq_of_cover 5 _ (fun t hf => funext fun x => ?_) fun (y : S2x2048x768.Idx) => ?_
  · rw [View.read_apply]
    dsimp only [grad]
    have hp : (((cfg0.win 5).blk t).view.emb x (0 : Fin 3)).val = _ ∧ (((cfg0.win 5).blk t).view.emb x (1 : Fin 3)).val = _ ∧ (((cfg0.win 5).blk t).view.emb x (2 : Fin 3)).val = _ := place t x
    rw [hp.1, hp.2.1, hp.2.2]
    exact (point m c t x).1
  · obtain ⟨t, ht⟩ := covered y
    refine ⟨t, flush0_5 _, ?_⟩
    show y ∈ ((View.whole main_v0_0).slice (win0_5.rect t)).set
    rw [View.set_slice_whole, Rect.mem_set_unit]
    exact ht

/-- The change: the array. -/
theorem final6 : (dats m 0 c).arrAt 6 cfg0.N = delta m c := by
  refine (dats m 0 c).arrAt_eq_of_cover 6 _ (fun t hf => funext fun x => ?_) fun (y : S2x2048x768.Idx) => ?_
  · rw [View.read_apply]
    dsimp only [delta]
    have hp : (((cfg0.win 6).blk t).view.emb x (0 : Fin 3)).val = _ ∧ (((cfg0.win 6).blk t).view.emb x (1 : Fin 3)).val = _ ∧ (((cfg0.win 6).blk t).view.emb x (2 : Fin 3)).val = _ := place t x
    rw [hp.1, hp.2.1, hp.2.2]
    exact (point m c t x).2.1
  · obtain ⟨t, ht⟩ := covered y
    refine ⟨t, flush0_6 _, ?_⟩
    show y ∈ ((View.whole main_v0_1).slice (win0_6.rect t)).set
    rw [View.set_slice_whole, Rect.mem_set_unit]
    exact ht

/-- The first moment: the array. -/
theorem final7 : (dats m 0 c).arrAt 7 cfg0.N = mean m c := by
  refine (dats m 0 c).arrAt_eq_of_cover 7 _ (fun t hf => funext fun x => ?_) fun (y : S2x2048x768.Idx) => ?_
  · rw [View.read_apply]
    dsimp only [mean]
    have hp : (((cfg0.win 7).blk t).view.emb x (0 : Fin 3)).val = _ ∧ (((cfg0.win 7).blk t).view.emb x (1 : Fin 3)).val = _ ∧ (((cfg0.win 7).blk t).view.emb x (2 : Fin 3)).val = _ := place t x
    rw [hp.1, hp.2.1, hp.2.2]
    exact (point m c t x).2.2.1
  · obtain ⟨t, ht⟩ := covered y
    refine ⟨t, flush0_7 _, ?_⟩
    show y ∈ ((View.whole main_v0_2).slice (win0_7.rect t)).set
    rw [View.set_slice_whole, Rect.mem_set_unit]
    exact ht

/-- The second moment: the array. -/
theorem final8 : (dats m 0 c).arrAt 8 cfg0.N = square m c := by
  refine (dats m 0 c).arrAt_eq_of_cover 8 _ (fun t hf => funext fun x => ?_) fun (y : S2x2048x768.Idx) => ?_
  · rw [View.read_apply]
    dsimp only [square]
    have hp : (((cfg0.win 8).blk t).view.emb x (0 : Fin 3)).val = _ ∧ (((cfg0.win 8).blk t).view.emb x (1 : Fin 3)).val = _ ∧ (((cfg0.win 8).blk t).view.emb x (2 : Fin 3)).val = _ := place t x
    rw [hp.1, hp.2.1, hp.2.2]
    exact (point m c t x).2.2.2
  · obtain ⟨t, ht⟩ := covered y
    refine ⟨t, flush0_8 _, ?_⟩
    show y ∈ ((View.whole main_v0_3).slice (win0_8.rect t)).set
    rw [View.set_slice_whole, Rect.mem_set_unit]
    exact ht

end

/-- The results, equal entry by entry. -/
theorem algebraic : Cert.algebraic_UpBInIdeal_UpBInRefIdeal :=
  fun m ρ m' ρ' _ hag => by
    refine ⟨fun c => grad m c,
      fun c => delta m c,
      fun c => mean m c,
      fun c => square m c,
      (θ_run UpBInIdeal.defs _ _).mono (fun _ h c => ⟨(h c).1.trans (final5 m c), (h c).2.1.trans (final6 m c), (h c).2.2.1.trans (final7 m c), (h c).2.2.2.1.trans (final8 m c), (h c).2.2.2.2⟩) (UpBInIdeal.Value.run_blocks m ρ),
      (θ_run UpBInRefIdeal.defs _ _).mono (fun _ h c => ?_) (UpBInRefIdeal.Value.run m' ρ')⟩
    obtain ⟨e0, e1, e2, e3, e4⟩ := hag c
    exact ⟨(h c).1.trans ((UpBInRefIdeal.Read.val_main_v6_eq _ _).trans (funext fun y => (Ref.v6_eq _ _ y).trans (by rw [e0, e1]))),
      (h c).2.1.trans ((UpBInRefIdeal.Read.val_main_v30_eq _ _ _ _ _).trans (funext fun y => (Ref.v30_eq _ _ _ _ _ y).trans (by rw [e0, e1, e2, e3, e4]))),
      (h c).2.2.1.trans ((UpBInRefIdeal.Read.val_main_v11_eq _ _ _).trans (funext fun y => (Ref.v11_eq _ _ _ y).trans (by rw [e0, e1, e3]))),
      (h c).2.2.2.1.trans ((UpBInRefIdeal.Read.val_main_v17_eq _ _ _).trans (funext fun y => (Ref.v17_eq _ _ _ y).trans (by rw [e0, e1, e4]))), (h c).2.2.2.2⟩

/-- The reference runs and leaves its arguments alone; it declares no semaphore. -/
theorem referenceFrame : Cert.quiescent_UpBInRefIdeal :=
  fun m ρ _ => (θ_run UpBInRefIdeal.defs _ _).mono (fun r h => ⟨fun c => (h c).2.2.2.2,
    sem_eq_zero_of_no_sems (by decide) r.2⟩) (UpBInRefIdeal.Value.run m ρ)

end

end Cert.Update.UpBIn

end
-- ==== Proof.Update.UpOut.lean ====
/- The output projections' update: the kernel's arrays and the reference's, equal entry by entry. -/
module

public import proofs.«01_k».proof.Defs
public import proofs.«01_k».proof.Proof.Gen.UpOutIdeal.Value
public import proofs.«01_k».proof.Proof.Gen.UpOutRefIdeal.Run
public import proofs.«01_k».proof.Proof.Gen.UpOutRefIdeal.Read
public import proofs.«01_k».proof.Proof.Products.Sums
public import proofs.«01_k».proof.Proof.Update.Blocks

@[expose] public section

set_option maxRecDepth 16384

noncomputable section

namespace Cert.Update.UpOut

open Idealize.ShloMosaic Idealize.ShloMosaic.TcCoe Idealize.SL.Sem

namespace Ref

open Cert.UpOutRefIdeal Cert.UpOutRefIdeal.Gen Cert.UpOutRefIdeal.Read Idealize.ShloMosaic.StableHlo

variable (P0 P1 : Vec Ideal S4x256x2048 .bf16) (W M V : Vec Ideal S2x256x2048 .f32)

theorem v1_eq (y : S256x2048.Idx) : val_main_v1 (F := Ideal) P0 y = four P0 (y 0).val (y 1).val := by
  pointwise [val_main_v1_apply, val_main_cst_apply, val_main_v0_apply, eq_at3 P0]
  rfl

theorem v3_eq (y : S256x2048.Idx) : val_main_v3 (F := Ideal) P1 y = four P1 (y 0).val (y 1).val := by
  pointwise [val_main_v3_apply, val_main_cst_0_apply, val_main_v2_apply, eq_at3 P1]
  rfl

theorem v6_eq (y : S2x256x2048.Idx) : val_main_v6 (F := Ideal) P0 P1 y = four (pick2 P0 P1 (y 0).val) (y 1).val (y 2).val := by
  have h : (y 0).val < 2 := (y 0).isLt
  unfold val_main_v6 val_main_v4 val_main_v5
  pointwise [v1_eq, v3_eq]
  unfold pick2
  split_ifs <;> first | rfl | (exfalso; omega)

theorem v11_eq (y : S2x256x2048.Idx) : val_main_v11 (F := Ideal) P0 P1 M y = first (four (pick2 P0 P1 (y 0).val) (y 1).val (y 2).val) (at3 M (y 0).val (y 1).val (y 2).val) := by
  unfold val_main_v11 val_main_v10 val_main_v9 val_main_v8 val_main_v7 val_main_cst_1 val_main_cst_2
  pointwise [v6_eq, eq_at3 M]
  rfl

theorem v17_eq (y : S2x256x2048.Idx) : val_main_v17 (F := Ideal) P0 P1 V y = second (four (pick2 P0 P1 (y 0).val) (y 1).val (y 2).val) (at3 V (y 0).val (y 1).val (y 2).val) := by
  unfold val_main_v17 val_main_v16 val_main_v15 val_main_v14 val_main_v13 val_main_v12 val_main_cst_3 val_main_cst_4
  pointwise [v6_eq, eq_at3 V]
  rfl

theorem v30_eq (y : S2x256x2048.Idx) : val_main_v30 (F := Ideal) P0 P1 W M V y
    = change (four (pick2 P0 P1 (y 0).val) (y 1).val (y 2).val) (at3 W (y 0).val (y 1).val (y 2).val) (at3 M (y 0).val (y 1).val (y 2).val) (at3 V (y 0).val (y 1).val (y 2).val) := by
  unfold val_main_v30 val_main_v29 val_main_v28 val_main_v27 val_main_v26 val_main_v25 val_main_v24 val_main_v23 val_main_v22 val_main_v21 val_main_v20 val_main_v19 val_main_v18 val_main_cst_5 val_main_cst_6 val_main_cst_7 val_main_cst_8 val_main_cst_9
  pointwise [v11_eq, v17_eq, eq_at3 W]
  rfl

end Ref

section
open Cert.UpOutIdeal Cert.UpOutIdeal.Gen Cert.Entry Cert.Products

section
variable (c : Dev nD) (i : grid0.Coords) (arg2 : Memref sig .tc .vmem S4x128x2048 .bf16) (harg2 : arg2.IsWhole) (arg3 : Memref sig .tc .vmem S4x128x2048 .bf16) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole)
    (x0 : Vec Ideal S4x128x2048 .bf16) (x1 : Vec Ideal S4x128x2048 .bf16) (x2 : Vec Ideal S1x128x2048 .f32) (x3 : Vec Ideal S1x128x2048 .f32) (x4 : Vec Ideal S1x128x2048 .f32)

/-- A block of layer 0. -/
theorem outs_A (hc0 : cond0_0 i) (hc1 : ¬cond0_1 i) (y : S1x128x2048.Idx) : Updated (four x0 (y 1).val (y 2).val) (at3 x2 0 (y 1).val (y 2).val) (at3 x3 0 (y 1).val (y 2).val) (at3 x4 0 (y 1).val (y 2).val)
    (out0_A_5 c i arg2 harg2 arg3 harg3 arg4 harg4 arg5 harg5 arg6 harg6 arg7 harg7 arg8 harg8 arg9 harg9 arg10 harg10 hc0 hc1 x0 x1 x2 x3 x4 y)
    (out0_A_6 c i arg2 harg2 arg3 harg3 arg4 harg4 arg5 harg5 arg6 harg6 arg7 harg7 arg8 harg8 arg9 harg9 arg10 harg10 hc0 hc1 x0 x1 x2 x3 x4 y)
    (out0_A_7 c i arg2 harg2 arg3 harg3 arg4 harg4 arg5 harg5 arg6 harg6 arg7 harg7 arg8 harg8 arg9 harg9 arg10 harg10 hc0 hc1 x0 x1 x2 x3 x4 y)
    (out0_A_8 c i arg2 harg2 arg3 harg3 arg4 harg4 arg5 harg5 arg6 harg6 arg7 harg7 arg8 harg8 arg9 harg9 arg10 harg10 hc0 hc1 x0 x1 x2 x3 x4 y) := by
  unfold out0_A_5 out0_A_6 out0_A_7 out0_A_8 kernelRun0_A
  refine ⟨?_, ?_, ?_, ?_⟩
  all_goals
    dsimp only
    rw [View.read_writes_junk_eq_canon, View.canon_unit_zero zero3]
    dsimp only [kernelRun0_A.sl.r, kernelRun0_A.sl.r_1, kernelRun0_A.sl.r_2, kernelRun0_A.sl.r_3, kernelRun0_A.sl.r_4]
    unfold_payloads
    pointwise [shapeCast_self, readAt_unit3, readAt_unit3_bf16]
    rw [← four_eq]
    try rfl

/-- A block of layer 1. -/
theorem outs_B (hc0 : ¬cond0_0 i) (hc1 : cond0_1 i) (y : S1x128x2048.Idx) : Updated (four x1 (y 1).val (y 2).val) (at3 x2 0 (y 1).val (y 2).val) (at3 x3 0 (y 1).val (y 2).val) (at3 x4 0 (y 1).val (y 2).val)
    (out0_B_5 c i arg2 harg2 arg3 harg3 arg4 harg4 arg5 harg5 arg6 harg6 arg7 harg7 arg8 harg8 arg9 harg9 arg10 harg10 hc0 hc1 x0 x1 x2 x3 x4 y)
    (out0_B_6 c i arg2 harg2 arg3 harg3 arg4 harg4 arg5 harg5 arg6 harg6 arg7 harg7 arg8 harg8 arg9 harg9 arg10 harg10 hc0 hc1 x0 x1 x2 x3 x4 y)
    (out0_B_7 c i arg2 harg2 arg3 harg3 arg4 harg4 arg5 harg5 arg6 harg6 arg7 harg7 arg8 harg8 arg9 harg9 arg10 harg10 hc0 hc1 x0 x1 x2 x3 x4 y)
    (out0_B_8 c i arg2 harg2 arg3 harg3 arg4 harg4 arg5 harg5 arg6 harg6 arg7 harg7 arg8 harg8 arg9 harg9 arg10 harg10 hc0 hc1 x0 x1 x2 x3 x4 y) := by
  unfold out0_B_5 out0_B_6 out0_B_7 out0_B_8 kernelRun0_B
  refine ⟨?_, ?_, ?_, ?_⟩
  all_goals
    dsimp only
    rw [View.read_writes_junk_eq_canon, View.canon_unit_zero zero3]
    dsimp only [kernelRun0_B.sl.r, kernelRun0_B.sl.r_1, kernelRun0_B.sl.r_2, kernelRun0_B.sl.r_3, kernelRun0_B.sl.r_4]
    unfold_payloads
    pointwise [shapeCast_self, readAt_unit3, readAt_unit3_bf16]
    rw [← four_eq]
    try rfl

end

section
variable (m : (ℓ : Loc nD τ sig) → Buf (Elt Ideal) ℓ) (c : Dev nD)

abbrev argP0 : Vec Ideal S4x256x2048 .bf16 := m ((c : Thread nD τ).loc main_arg0)
abbrev argP1 : Vec Ideal S4x256x2048 .bf16 := m ((c : Thread nD τ).loc main_arg1)
abbrev argW : Vec Ideal S2x256x2048 .f32 := m ((c : Thread nD τ).loc main_arg2)
abbrev argM : Vec Ideal S2x256x2048 .f32 := m ((c : Thread nD τ).loc main_arg3)
abbrev argV : Vec Ideal S2x256x2048 .f32 := m ((c : Thread nD τ).loc main_arg4)

theorem index0 : ∀ t : Fin cfg0.N, win0_0.index t 0 = 0 ∧ (t.val / 2 = 0 → win0_0.index t 1 = t.val % 2) ∧ win0_0.index t 2 = 0 :=
  (by decide +kernel : ∀ t : Fin grid0.N, win0_0.index t 0 = 0 ∧ (t.val / 2 = 0 → win0_0.index t 1 = t.val % 2) ∧ win0_0.index t 2 = 0)
theorem index1 : ∀ t : Fin cfg0.N, win0_1.index t 0 = 0 ∧ (t.val / 2 = 1 → win0_1.index t 1 = t.val % 2) ∧ win0_1.index t 2 = 0 :=
  (by decide +kernel : ∀ t : Fin grid0.N, win0_1.index t 0 = 0 ∧ (t.val / 2 = 1 → win0_1.index t 1 = t.val % 2) ∧ win0_1.index t 2 = 0)
theorem index2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)

theorem blk0 (t : Fin cfg0.N) (ht : t.val / 2 = 0) {j k : ℕ} (hj : j < 128) (hk : k < 2048) :
    four (iblk m c 0 t : Vec Ideal S4x128x2048 .bf16) j k = four (argP0 m c) (128 * (t.val % 2) + j) k := by
  refine four_congr fun d hd => ?_
  rw [at3_of_lt (iblk m c 0 t : Vec Ideal S4x128x2048 .bf16) hd hj hk]
  refine eq_at3_of (argP0 m c) _ ?_ ?_ ?_
  · show win0_0.index t 0 * 4 + 1 * d = _
    rw [(index0 t).1]; omega
  · show win0_0.index t 1 * 128 + 1 * j = _
    rw [(index0 t).2.1 ht]; omega
  · show win0_0.index t 2 * 2048 + 1 * k = _
    rw [(index0 t).2.2]; omega
theorem blk1 (t : Fin cfg0.N) (ht : t.val / 2 = 1) {j k : ℕ} (hj : j < 128) (hk : k < 2048) :
    four (iblk m c 1 t : Vec Ideal S4x128x2048 .bf16) j k = four (argP1 m c) (128 * (t.val % 2) + j) k := by
  refine four_congr fun d hd => ?_
  rw [at3_of_lt (iblk m c 1 t : Vec Ideal S4x128x2048 .bf16) hd hj hk]
  refine eq_at3_of (argP1 m c) _ ?_ ?_ ?_
  · show win0_1.index t 0 * 4 + 1 * d = _
    rw [(index1 t).1]; omega
  · show win0_1.index t 1 * 128 + 1 * j = _
    rw [(index1 t).2.1 ht]; omega
  · show win0_1.index t 2 * 2048 + 1 * k = _
    rw [(index1 t).2.2]; omega
theorem blk2 (t : Fin cfg0.N) {j k : ℕ} (hj : j < 128) (hk : k < 2048) :
    at3 (iblk m c 2 t : Vec Ideal S1x128x2048 .f32) 0 j k = at3 (argW m c) (t.val / 2) (128 * (t.val % 2) + j) k := by
  rw [at3_of_lt (iblk m c 2 t : Vec Ideal S1x128x2048 .f32) Nat.one_pos hj hk]
  refine eq_at3_of (argW m c) _ ?_ ?_ ?_
  · show win0_2.index t 0 * 1 + 1 * 0 = _
    rw [(index2 t).1]; omega
  · show win0_2.index t 1 * 128 + 1 * j = _
    rw [(index2 t).2.1]; omega
  · show win0_2.index t 2 * 2048 + 1 * k = _
    rw [(index2 t).2.2]; omega
theorem blk3 (t : Fin cfg0.N) {j k : ℕ} (hj : j < 128) (hk : k < 2048) :
    at3 (iblk m c 3 t : Vec Ideal S1x128x2048 .f32) 0 j k = at3 (argM m c) (t.val / 2) (128 * (t.val % 2) + j) k := by
  rw [at3_of_lt (iblk m c 3 t : Vec Ideal S1x128x2048 .f32) Nat.one_pos hj hk]
  refine eq_at3_of (argM m c) _ ?_ ?_ ?_
  · show win0_2.index t 0 * 1 + 1 * 0 = _
    rw [(index2 t).1]; omega
  · show win0_2.index t 1 * 128 + 1 * j = _
    rw [(index2 t).2.1]; omega
  · show win0_2.index t 2 * 2048 + 1 * k = _
    rw [(index2 t).2.2]; omega
theorem blk4 (t : Fin cfg0.N) {j k : ℕ} (hj : j < 128) (hk : k < 2048) :
    at3 (iblk m c 4 t : Vec Ideal S1x128x2048 .f32) 0 j k = at3 (argV m c) (t.val / 2) (128 * (t.val % 2) + j) k := by
  rw [at3_of_lt (iblk m c 4 t : Vec Ideal S1x128x2048 .f32) Nat.one_pos hj hk]
  refine eq_at3_of (argV m c) _ ?_ ?_ ?_
  · show win0_2.index t 0 * 1 + 1 * 0 = _
    rw [(index2 t).1]; omega
  · show win0_2.index t 1 * 128 + 1 * j = _
    rw [(index2 t).2.1]; omega
  · show win0_2.index t 2 * 2048 + 1 * k = _
    rw [(index2 t).2.2]; omega

/-- The gradient. -/
abbrev grad : Vec Ideal S2x256x2048 .f32 := fun y => four (pick2 (argP0 m c) (argP1 m c) (y 0).val) (y 1).val (y 2).val
/-- The change. -/
abbrev delta : Vec Ideal S2x256x2048 .f32 := fun y => change (four (pick2 (argP0 m c) (argP1 m c) (y 0).val) (y 1).val (y 2).val) (at3 (argW m c) (y 0).val (y 1).val (y 2).val) (at3 (argM m c) (y 0).val (y 1).val (y 2).val) (at3 (argV m c) (y 0).val (y 1).val (y 2).val)
/-- The first moment. -/
abbrev mean : Vec Ideal S2x256x2048 .f32 := fun y => first (four (pick2 (argP0 m c) (argP1 m c) (y 0).val) (y 1).val (y 2).val) (at3 (argM m c) (y 0).val (y 1).val (y 2).val)
/-- The second moment. -/
abbrev square : Vec Ideal S2x256x2048 .f32 := fun y => second (four (pick2 (argP0 m c) (argP1 m c) (y 0).val) (y 1).val (y 2).val) (at3 (argV m c) (y 0).val (y 1).val (y 2).val)

/-- Every entry lies in some point's block. -/
theorem covered (y : S2x256x2048.Idx) : ∃ t : Fin cfg0.N, ∀ a, win0_2.index t a * S1x128x2048.size a ≤ (y a).val ∧ (y a).val < win0_2.index t a * S1x128x2048.size a + S1x128x2048.size a := by
  have h0 : (y 0).val < 2 := (y 0).isLt
  have h1 : (y 1).val < 256 := (y 1).isLt
  have h2 : (y 2).val < 2048 := (y 2).isLt
  obtain ⟨t, ht⟩ : ∃ t : Fin cfg0.N, t.val = 2 * (y 0).val + (y 1).val / 128 := ⟨⟨2 * (y 0).val + (y 1).val / 128, show 2 * (y 0).val + (y 1).val / 128 < 4 by omega⟩, rfl⟩
  refine ⟨t, fun a => ?_⟩
  match a with
  | ⟨0, _⟩ =>
    show win0_2.index t 0 * 1 ≤ (y 0).val ∧ (y 0).val < win0_2.index t 0 * 1 + 1
    rw [(index2 t).1]; omega
  | ⟨1, _⟩ =>
    show win0_2.index t 1 * 128 ≤ (y 1).val ∧ (y 1).val < win0_2.index t 1 * 128 + 128
    rw [(index2 t).2.1]; omega
  | ⟨2, _⟩ =>
    show win0_2.index t 2 * 2048 ≤ (y 2).val ∧ (y 2).val < win0_2.index t 2 * 2048 + 2048
    rw [(index2 t).2.2]; omega

/-- Where a block's entry lies in the array. -/
theorem place (t : Fin cfg0.N) (x : S1x128x2048.Idx) : (((cfg0.win 5).blk t).view.emb x (0 : Fin 3)).val = t.val / 2
    ∧ (((cfg0.win 5).blk t).view.emb x (1 : Fin 3)).val = 128 * (t.val % 2) + (x 1).val ∧ (((cfg0.win 5).blk t).view.emb x (2 : Fin 3)).val = (x 2).val := by
  have h0 : (x 0).val < 1 := (x 0).isLt
  refine ⟨?_, ?_, ?_⟩
  · show win0_2.index t 0 * 1 + 1 * (x 0).val = _
    rw [(index2 t).1]; omega
  · show win0_2.index t 1 * 128 + 1 * (x 1).val = _
    rw [(index2 t).2.1]; omega
  · show win0_2.index t 2 * 2048 + 1 * (x 2).val = _
    rw [(index2 t).2.2]; omega

/-- What each point writes. -/
theorem point (t : Fin cfg0.N) (x : S1x128x2048.Idx) :
    Updated (four (pick2 (argP0 m c) (argP1 m c) (t.val / 2)) (128 * (t.val % 2) + (x 1).val) (x 2).val)
      (at3 (argW m c) (t.val / 2) (128 * (t.val % 2) + (x 1).val) (x 2).val) (at3 (argM m c) (t.val / 2) (128 * (t.val % 2) + (x 1).val) (x 2).val) (at3 (argV m c) (t.val / 2) (128 * (t.val % 2) + (x 1).val) (x 2).val)
      ((dats m 0 c).flushed 5 t x) ((dats m 0 c).flushed 6 t x) ((dats m 0 c).flushed 7 t x) ((dats m 0 c).flushed 8 t x) := by
  have ht : t.val < 4 := t.isLt
  have h1 : (x 1).val < 128 := (x 1).isLt
  have h2 : (x 2).val < 2048 := (x 2).isLt
  obtain hq | hq : t.val / 2 = 0 ∨ t.val / 2 = 1 := by omega
  · rw [Cert.UpOutIdeal.Value.flushed5_A m c t (by omega) (by omega), Cert.UpOutIdeal.Value.flushed6_A m c t (by omega) (by omega), Cert.UpOutIdeal.Value.flushed7_A m c t (by omega) (by omega), Cert.UpOutIdeal.Value.flushed8_A m c t (by omega) (by omega),
      show pick2 (argP0 m c) (argP1 m c) (t.val / 2) = argP0 m c by rw [hq]; rfl]
    exact (outs_A c _ _ _ _ _ _ _ _ _ _ _ _ _ _ _ _ _ _ _ (iblk m c 0 t) (iblk m c 1 t) (iblk m c 2 t) (iblk m c 3 t) (iblk m c 4 t) _ _ x).of_eq (blk0 m c t hq h1 h2) (blk2 m c t h1 h2) (blk3 m c t h1 h2) (blk4 m c t h1 h2)
  · rw [Cert.UpOutIdeal.Value.flushed5_B m c t (by omega) (by omega), Cert.UpOutIdeal.Value.flushed6_B m c t (by omega) (by omega), Cert.UpOutIdeal.Value.flushed7_B m c t (by omega) (by omega), Cert.UpOutIdeal.Value.flushed8_B m c t (by omega) (by omega),
      show pick2 (argP0 m c) (argP1 m c) (t.val / 2) = argP1 m c by rw [hq]; rfl]
    exact (outs_B c _ _ _ _ _ _ _ _ _ _ _ _ _ _ _ _ _ _ _ (iblk m c 0 t) (iblk m c 1 t) (iblk m c 2 t) (iblk m c 3 t) (iblk m c 4 t) _ _ x).of_eq (blk1 m c t hq h1 h2) (blk2 m c t h1 h2) (blk3 m c t h1 h2) (blk4 m c t h1 h2)

/-- The gradient: the array. -/
theorem final5 : (dats m 0 c).arrAt 5 cfg0.N = grad m c := by
  refine (dats m 0 c).arrAt_eq_of_cover 5 _ (fun t hf => funext fun x => ?_) fun (y : S2x256x2048.Idx) => ?_
  · rw [View.read_apply]
    dsimp only [grad]
    have hp : (((cfg0.win 5).blk t).view.emb x (0 : Fin 3)).val = _ ∧ (((cfg0.win 5).blk t).view.emb x (1 : Fin 3)).val = _ ∧ (((cfg0.win 5).blk t).view.emb x (2 : Fin 3)).val = _ := place t x
    rw [hp.1, hp.2.1, hp.2.2]
    exact (point m c t x).1
  · obtain ⟨t, ht⟩ := covered y
    refine ⟨t, flush0_5 _, ?_⟩
    show y ∈ ((View.whole main_v0_0).slice (win0_5.rect t)).set
    rw [View.set_slice_whole, Rect.mem_set_unit]
    exact ht

/-- The change: the array. -/
theorem final6 : (dats m 0 c).arrAt 6 cfg0.N = delta m c := by
  refine (dats m 0 c).arrAt_eq_of_cover 6 _ (fun t hf => funext fun x => ?_) fun (y : S2x256x2048.Idx) => ?_
  · rw [View.read_apply]
    dsimp only [delta]
    have hp : (((cfg0.win 6).blk t).view.emb x (0 : Fin 3)).val = _ ∧ (((cfg0.win 6).blk t).view.emb x (1 : Fin 3)).val = _ ∧ (((cfg0.win 6).blk t).view.emb x (2 : Fin 3)).val = _ := place t x
    rw [hp.1, hp.2.1, hp.2.2]
    exact (point m c t x).2.1
  · obtain ⟨t, ht⟩ := covered y
    refine ⟨t, flush0_6 _, ?_⟩
    show y ∈ ((View.whole main_v0_1).slice (win0_6.rect t)).set
    rw [View.set_slice_whole, Rect.mem_set_unit]
    exact ht

/-- The first moment: the array. -/
theorem final7 : (dats m 0 c).arrAt 7 cfg0.N = mean m c := by
  refine (dats m 0 c).arrAt_eq_of_cover 7 _ (fun t hf => funext fun x => ?_) fun (y : S2x256x2048.Idx) => ?_
  · rw [View.read_apply]
    dsimp only [mean]
    have hp : (((cfg0.win 7).blk t).view.emb x (0 : Fin 3)).val = _ ∧ (((cfg0.win 7).blk t).view.emb x (1 : Fin 3)).val = _ ∧ (((cfg0.win 7).blk t).view.emb x (2 : Fin 3)).val = _ := place t x
    rw [hp.1, hp.2.1, hp.2.2]
    exact (point m c t x).2.2.1
  · obtain ⟨t, ht⟩ := covered y
    refine ⟨t, flush0_7 _, ?_⟩
    show y ∈ ((View.whole main_v0_2).slice (win0_7.rect t)).set
    rw [View.set_slice_whole, Rect.mem_set_unit]
    exact ht

/-- The second moment: the array. -/
theorem final8 : (dats m 0 c).arrAt 8 cfg0.N = square m c := by
  refine (dats m 0 c).arrAt_eq_of_cover 8 _ (fun t hf => funext fun x => ?_) fun (y : S2x256x2048.Idx) => ?_
  · rw [View.read_apply]
    dsimp only [square]
    have hp : (((cfg0.win 8).blk t).view.emb x (0 : Fin 3)).val = _ ∧ (((cfg0.win 8).blk t).view.emb x (1 : Fin 3)).val = _ ∧ (((cfg0.win 8).blk t).view.emb x (2 : Fin 3)).val = _ := place t x
    rw [hp.1, hp.2.1, hp.2.2]
    exact (point m c t x).2.2.2
  · obtain ⟨t, ht⟩ := covered y
    refine ⟨t, flush0_8 _, ?_⟩
    show y ∈ ((View.whole main_v0_3).slice (win0_8.rect t)).set
    rw [View.set_slice_whole, Rect.mem_set_unit]
    exact ht

end

/-- The results, equal entry by entry. -/
theorem algebraic : Cert.algebraic_UpOutIdeal_UpOutRefIdeal :=
  fun m ρ m' ρ' _ hag => by
    refine ⟨fun c => grad m c,
      fun c => delta m c,
      fun c => mean m c,
      fun c => square m c,
      (θ_run UpOutIdeal.defs _ _).mono (fun _ h c => ⟨(h c).1.trans (final5 m c), (h c).2.1.trans (final6 m c), (h c).2.2.1.trans (final7 m c), (h c).2.2.2.1.trans (final8 m c), (h c).2.2.2.2⟩) (UpOutIdeal.Value.run_blocks m ρ),
      (θ_run UpOutRefIdeal.defs _ _).mono (fun _ h c => ?_) (UpOutRefIdeal.Value.run m' ρ')⟩
    obtain ⟨e0, e1, e2, e3, e4⟩ := hag c
    exact ⟨(h c).1.trans ((UpOutRefIdeal.Read.val_main_v6_eq _ _).trans (funext fun y => (Ref.v6_eq _ _ y).trans (by rw [e0, e1]))),
      (h c).2.1.trans ((UpOutRefIdeal.Read.val_main_v30_eq _ _ _ _ _).trans (funext fun y => (Ref.v30_eq _ _ _ _ _ y).trans (by rw [e0, e1, e2, e3, e4]))),
      (h c).2.2.1.trans ((UpOutRefIdeal.Read.val_main_v11_eq _ _ _).trans (funext fun y => (Ref.v11_eq _ _ _ y).trans (by rw [e0, e1, e3]))),
      (h c).2.2.2.1.trans ((UpOutRefIdeal.Read.val_main_v17_eq _ _ _).trans (funext fun y => (Ref.v17_eq _ _ _ y).trans (by rw [e0, e1, e4]))), (h c).2.2.2.2⟩

/-- The reference runs and leaves its arguments alone; it declares no semaphore. -/
theorem referenceFrame : Cert.quiescent_UpOutRefIdeal :=
  fun m ρ _ => (θ_run UpOutRefIdeal.defs _ _).mono (fun r h => ⟨fun c => (h c).2.2.2.2,
    sem_eq_zero_of_no_sems (by decide) r.2⟩) (UpOutRefIdeal.Value.run m ρ)

end

end Cert.Update.UpOut

end
-- ==== Proof.Update.UpAIn.lean ====
/- The a-layers' input projection's update: the kernel's arrays and the reference's, equal entry by entry. -/
module

public import proofs.«01_k».proof.Defs
public import proofs.«01_k».proof.Proof.Gen.UpAInIdeal.Value
public import proofs.«01_k».proof.Proof.Gen.UpAInRefIdeal.Run
public import proofs.«01_k».proof.Proof.Gen.UpAInRefIdeal.Read
public import proofs.«01_k».proof.Proof.Products.Sums
public import proofs.«01_k».proof.Proof.Update.Blocks

@[expose] public section

set_option maxRecDepth 16384

noncomputable section

namespace Cert.Update.UpAIn

open Idealize.ShloMosaic Idealize.ShloMosaic.TcCoe Idealize.SL.Sem

namespace Ref

open Cert.UpAInRefIdeal Cert.UpAInRefIdeal.Gen Cert.UpAInRefIdeal.Read Idealize.ShloMosaic.StableHlo

variable (P0 P1 : Vec Ideal S4x2048x512 .bf16) (W M V : Vec Ideal S2x2048x512 .f32)

theorem v1_eq (y : S2048x512.Idx) : val_main_v1 (F := Ideal) P0 y = four P0 (y 0).val (y 1).val := by
  pointwise [val_main_v1_apply, val_main_cst_apply, val_main_v0_apply, eq_at3 P0]
  rfl

theorem v3_eq (y : S2048x512.Idx) : val_main_v3 (F := Ideal) P1 y = four P1 (y 0).val (y 1).val := by
  pointwise [val_main_v3_apply, val_main_cst_0_apply, val_main_v2_apply, eq_at3 P1]
  rfl

theorem v6_eq (y : S2x2048x512.Idx) : val_main_v6 (F := Ideal) P0 P1 y = four (pick2 P0 P1 (y 0).val) (y 1).val (y 2).val := by
  have h : (y 0).val < 2 := (y 0).isLt
  unfold val_main_v6 val_main_v4 val_main_v5
  pointwise [v1_eq, v3_eq]
  unfold pick2
  split_ifs <;> first | rfl | (exfalso; omega)

theorem v11_eq (y : S2x2048x512.Idx) : val_main_v11 (F := Ideal) P0 P1 M y = first (four (pick2 P0 P1 (y 0).val) (y 1).val (y 2).val) (at3 M (y 0).val (y 1).val (y 2).val) := by
  unfold val_main_v11 val_main_v10 val_main_v9 val_main_v8 val_main_v7 val_main_cst_1 val_main_cst_2
  pointwise [v6_eq, eq_at3 M]
  rfl

theorem v17_eq (y : S2x2048x512.Idx) : val_main_v17 (F := Ideal) P0 P1 V y = second (four (pick2 P0 P1 (y 0).val) (y 1).val (y 2).val) (at3 V (y 0).val (y 1).val (y 2).val) := by
  unfold val_main_v17 val_main_v16 val_main_v15 val_main_v14 val_main_v13 val_main_v12 val_main_cst_3 val_main_cst_4
  pointwise [v6_eq, eq_at3 V]
  rfl

theorem v30_eq (y : S2x2048x512.Idx) : val_main_v30 (F := Ideal) P0 P1 W M V y
    = change (four (pick2 P0 P1 (y 0).val) (y 1).val (y 2).val) (at3 W (y 0).val (y 1).val (y 2).val) (at3 M (y 0).val (y 1).val (y 2).val) (at3 V (y 0).val (y 1).val (y 2).val) := by
  unfold val_main_v30 val_main_v29 val_main_v28 val_main_v27 val_main_v26 val_main_v25 val_main_v24 val_main_v23 val_main_v22 val_main_v21 val_main_v20 val_main_v19 val_main_v18 val_main_cst_5 val_main_cst_6 val_main_cst_7 val_main_cst_8 val_main_cst_9
  pointwise [v11_eq, v17_eq, eq_at3 W]
  rfl

end Ref

section
open Cert.UpAInIdeal Cert.UpAInIdeal.Gen Cert.Entry Cert.Products

section
variable (c : Dev nD) (i : grid0.Coords) (arg2 : Memref sig .tc .vmem S4x512x512 .bf16) (harg2 : arg2.IsWhole) (arg3 : Memref sig .tc .vmem S4x512x512 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x512x512 .f32) (harg10 : arg10.IsWhole)
    (x0 : Vec Ideal S4x512x512 .bf16) (x1 : Vec Ideal S4x512x512 .bf16) (x2 : Vec Ideal S1x512x512 .f32) (x3 : Vec Ideal S1x512x512 .f32) (x4 : Vec Ideal S1x512x512 .f32)

/-- A block of layer 0. -/
theorem outs_A (hc0 : cond0_0 i) (hc1 : ¬cond0_1 i) (y : S1x512x512.Idx) : Updated (four x0 (y 1).val (y 2).val) (at3 x2 0 (y 1).val (y 2).val) (at3 x3 0 (y 1).val (y 2).val) (at3 x4 0 (y 1).val (y 2).val)
    (out0_A_5 c i arg2 harg2 arg3 harg3 arg4 harg4 arg5 harg5 arg6 harg6 arg7 harg7 arg8 harg8 arg9 harg9 arg10 harg10 hc0 hc1 x0 x1 x2 x3 x4 y)
    (out0_A_6 c i arg2 harg2 arg3 harg3 arg4 harg4 arg5 harg5 arg6 harg6 arg7 harg7 arg8 harg8 arg9 harg9 arg10 harg10 hc0 hc1 x0 x1 x2 x3 x4 y)
    (out0_A_7 c i arg2 harg2 arg3 harg3 arg4 harg4 arg5 harg5 arg6 harg6 arg7 harg7 arg8 harg8 arg9 harg9 arg10 harg10 hc0 hc1 x0 x1 x2 x3 x4 y)
    (out0_A_8 c i arg2 harg2 arg3 harg3 arg4 harg4 arg5 harg5 arg6 harg6 arg7 harg7 arg8 harg8 arg9 harg9 arg10 harg10 hc0 hc1 x0 x1 x2 x3 x4 y) := by
  unfold out0_A_5 out0_A_6 out0_A_7 out0_A_8 kernelRun0_A
  refine ⟨?_, ?_, ?_, ?_⟩
  all_goals
    dsimp only
    rw [View.read_writes_junk_eq_canon, View.canon_unit_zero zero3]
    dsimp only [kernelRun0_A.sl.r, kernelRun0_A.sl.r_1, kernelRun0_A.sl.r_2, kernelRun0_A.sl.r_3, kernelRun0_A.sl.r_4]
    unfold_payloads
    pointwise [shapeCast_self, readAt_unit3, readAt_unit3_bf16]
    rw [← four_eq]
    try rfl

/-- A block of layer 1. -/
theorem outs_B (hc0 : ¬cond0_0 i) (hc1 : cond0_1 i) (y : S1x512x512.Idx) : Updated (four x1 (y 1).val (y 2).val) (at3 x2 0 (y 1).val (y 2).val) (at3 x3 0 (y 1).val (y 2).val) (at3 x4 0 (y 1).val (y 2).val)
    (out0_B_5 c i arg2 harg2 arg3 harg3 arg4 harg4 arg5 harg5 arg6 harg6 arg7 harg7 arg8 harg8 arg9 harg9 arg10 harg10 hc0 hc1 x0 x1 x2 x3 x4 y)
    (out0_B_6 c i arg2 harg2 arg3 harg3 arg4 harg4 arg5 harg5 arg6 harg6 arg7 harg7 arg8 harg8 arg9 harg9 arg10 harg10 hc0 hc1 x0 x1 x2 x3 x4 y)
    (out0_B_7 c i arg2 harg2 arg3 harg3 arg4 harg4 arg5 harg5 arg6 harg6 arg7 harg7 arg8 harg8 arg9 harg9 arg10 harg10 hc0 hc1 x0 x1 x2 x3 x4 y)
    (out0_B_8 c i arg2 harg2 arg3 harg3 arg4 harg4 arg5 harg5 arg6 harg6 arg7 harg7 arg8 harg8 arg9 harg9 arg10 harg10 hc0 hc1 x0 x1 x2 x3 x4 y) := by
  unfold out0_B_5 out0_B_6 out0_B_7 out0_B_8 kernelRun0_B
  refine ⟨?_, ?_, ?_, ?_⟩
  all_goals
    dsimp only
    rw [View.read_writes_junk_eq_canon, View.canon_unit_zero zero3]
    dsimp only [kernelRun0_B.sl.r, kernelRun0_B.sl.r_1, kernelRun0_B.sl.r_2, kernelRun0_B.sl.r_3, kernelRun0_B.sl.r_4]
    unfold_payloads
    pointwise [shapeCast_self, readAt_unit3, readAt_unit3_bf16]
    rw [← four_eq]
    try rfl

end

section
variable (m : (ℓ : Loc nD τ sig) → Buf (Elt Ideal) ℓ) (c : Dev nD)

abbrev argP0 : Vec Ideal S4x2048x512 .bf16 := m ((c : Thread nD τ).loc main_arg0)
abbrev argP1 : Vec Ideal S4x2048x512 .bf16 := m ((c : Thread nD τ).loc main_arg1)
abbrev argW : Vec Ideal S2x2048x512 .f32 := m ((c : Thread nD τ).loc main_arg2)
abbrev argM : Vec Ideal S2x2048x512 .f32 := m ((c : Thread nD τ).loc main_arg3)
abbrev argV : Vec Ideal S2x2048x512 .f32 := m ((c : Thread nD τ).loc main_arg4)

theorem index0 : ∀ t : Fin cfg0.N, win0_0.index t 0 = 0 ∧ (t.val / 4 = 0 → win0_0.index t 1 = t.val % 4) ∧ win0_0.index t 2 = 0 :=
  (by decide +kernel : ∀ t : Fin grid0.N, win0_0.index t 0 = 0 ∧ (t.val / 4 = 0 → win0_0.index t 1 = t.val % 4) ∧ win0_0.index t 2 = 0)
theorem index1 : ∀ t : Fin cfg0.N, win0_1.index t 0 = 0 ∧ (t.val / 4 = 1 → win0_1.index t 1 = t.val % 4) ∧ win0_1.index t 2 = 0 :=
  (by decide +kernel : ∀ t : Fin grid0.N, win0_1.index t 0 = 0 ∧ (t.val / 4 = 1 → win0_1.index t 1 = t.val % 4) ∧ win0_1.index t 2 = 0)
theorem index2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)

theorem blk0 (t : Fin cfg0.N) (ht : t.val / 4 = 0) {j k : ℕ} (hj : j < 512) (hk : k < 512) :
    four (iblk m c 0 t : Vec Ideal S4x512x512 .bf16) j k = four (argP0 m c) (512 * (t.val % 4) + j) k := by
  refine four_congr fun d hd => ?_
  rw [at3_of_lt (iblk m c 0 t : Vec Ideal S4x512x512 .bf16) hd hj hk]
  refine eq_at3_of (argP0 m c) _ ?_ ?_ ?_
  · show win0_0.index t 0 * 4 + 1 * d = _
    rw [(index0 t).1]; omega
  · show win0_0.index t 1 * 512 + 1 * j = _
    rw [(index0 t).2.1 ht]; omega
  · show win0_0.index t 2 * 512 + 1 * k = _
    rw [(index0 t).2.2]; omega
theorem blk1 (t : Fin cfg0.N) (ht : t.val / 4 = 1) {j k : ℕ} (hj : j < 512) (hk : k < 512) :
    four (iblk m c 1 t : Vec Ideal S4x512x512 .bf16) j k = four (argP1 m c) (512 * (t.val % 4) + j) k := by
  refine four_congr fun d hd => ?_
  rw [at3_of_lt (iblk m c 1 t : Vec Ideal S4x512x512 .bf16) hd hj hk]
  refine eq_at3_of (argP1 m c) _ ?_ ?_ ?_
  · show win0_1.index t 0 * 4 + 1 * d = _
    rw [(index1 t).1]; omega
  · show win0_1.index t 1 * 512 + 1 * j = _
    rw [(index1 t).2.1 ht]; omega
  · show win0_1.index t 2 * 512 + 1 * k = _
    rw [(index1 t).2.2]; omega
theorem blk2 (t : Fin cfg0.N) {j k : ℕ} (hj : j < 512) (hk : k < 512) :
    at3 (iblk m c 2 t : Vec Ideal S1x512x512 .f32) 0 j k = at3 (argW m c) (t.val / 4) (512 * (t.val % 4) + j) k := by
  rw [at3_of_lt (iblk m c 2 t : Vec Ideal S1x512x512 .f32) Nat.one_pos hj hk]
  refine eq_at3_of (argW m c) _ ?_ ?_ ?_
  · show win0_2.index t 0 * 1 + 1 * 0 = _
    rw [(index2 t).1]; omega
  · show win0_2.index t 1 * 512 + 1 * j = _
    rw [(index2 t).2.1]; omega
  · show win0_2.index t 2 * 512 + 1 * k = _
    rw [(index2 t).2.2]; omega
theorem blk3 (t : Fin cfg0.N) {j k : ℕ} (hj : j < 512) (hk : k < 512) :
    at3 (iblk m c 3 t : Vec Ideal S1x512x512 .f32) 0 j k = at3 (argM m c) (t.val / 4) (512 * (t.val % 4) + j) k := by
  rw [at3_of_lt (iblk m c 3 t : Vec Ideal S1x512x512 .f32) Nat.one_pos hj hk]
  refine eq_at3_of (argM m c) _ ?_ ?_ ?_
  · show win0_2.index t 0 * 1 + 1 * 0 = _
    rw [(index2 t).1]; omega
  · show win0_2.index t 1 * 512 + 1 * j = _
    rw [(index2 t).2.1]; omega
  · show win0_2.index t 2 * 512 + 1 * k = _
    rw [(index2 t).2.2]; omega
theorem blk4 (t : Fin cfg0.N) {j k : ℕ} (hj : j < 512) (hk : k < 512) :
    at3 (iblk m c 4 t : Vec Ideal S1x512x512 .f32) 0 j k = at3 (argV m c) (t.val / 4) (512 * (t.val % 4) + j) k := by
  rw [at3_of_lt (iblk m c 4 t : Vec Ideal S1x512x512 .f32) Nat.one_pos hj hk]
  refine eq_at3_of (argV m c) _ ?_ ?_ ?_
  · show win0_2.index t 0 * 1 + 1 * 0 = _
    rw [(index2 t).1]; omega
  · show win0_2.index t 1 * 512 + 1 * j = _
    rw [(index2 t).2.1]; omega
  · show win0_2.index t 2 * 512 + 1 * k = _
    rw [(index2 t).2.2]; omega

/-- The gradient. -/
abbrev grad : Vec Ideal S2x2048x512 .f32 := fun y => four (pick2 (argP0 m c) (argP1 m c) (y 0).val) (y 1).val (y 2).val
/-- The change. -/
abbrev delta : Vec Ideal S2x2048x512 .f32 := fun y => change (four (pick2 (argP0 m c) (argP1 m c) (y 0).val) (y 1).val (y 2).val) (at3 (argW m c) (y 0).val (y 1).val (y 2).val) (at3 (argM m c) (y 0).val (y 1).val (y 2).val) (at3 (argV m c) (y 0).val (y 1).val (y 2).val)
/-- The first moment. -/
abbrev mean : Vec Ideal S2x2048x512 .f32 := fun y => first (four (pick2 (argP0 m c) (argP1 m c) (y 0).val) (y 1).val (y 2).val) (at3 (argM m c) (y 0).val (y 1).val (y 2).val)
/-- The second moment. -/
abbrev square : Vec Ideal S2x2048x512 .f32 := fun y => second (four (pick2 (argP0 m c) (argP1 m c) (y 0).val) (y 1).val (y 2).val) (at3 (argV m c) (y 0).val (y 1).val (y 2).val)

/-- Every entry lies in some point's block. -/
theorem covered (y : S2x2048x512.Idx) : ∃ t : Fin cfg0.N, ∀ a, win0_2.index t a * S1x512x512.size a ≤ (y a).val ∧ (y a).val < win0_2.index t a * S1x512x512.size a + S1x512x512.size a := by
  have h0 : (y 0).val < 2 := (y 0).isLt
  have h1 : (y 1).val < 2048 := (y 1).isLt
  have h2 : (y 2).val < 512 := (y 2).isLt
  obtain ⟨t, ht⟩ : ∃ t : Fin cfg0.N, t.val = 4 * (y 0).val + (y 1).val / 512 := ⟨⟨4 * (y 0).val + (y 1).val / 512, show 4 * (y 0).val + (y 1).val / 512 < 8 by omega⟩, rfl⟩
  refine ⟨t, fun a => ?_⟩
  match a with
  | ⟨0, _⟩ =>
    show win0_2.index t 0 * 1 ≤ (y 0).val ∧ (y 0).val < win0_2.index t 0 * 1 + 1
    rw [(index2 t).1]; omega
  | ⟨1, _⟩ =>
    show win0_2.index t 1 * 512 ≤ (y 1).val ∧ (y 1).val < win0_2.index t 1 * 512 + 512
    rw [(index2 t).2.1]; omega
  | ⟨2, _⟩ =>
    show win0_2.index t 2 * 512 ≤ (y 2).val ∧ (y 2).val < win0_2.index t 2 * 512 + 512
    rw [(index2 t).2.2]; omega

/-- Where a block's entry lies in the array. -/
theorem place (t : Fin cfg0.N) (x : S1x512x512.Idx) : (((cfg0.win 5).blk t).view.emb x (0 : Fin 3)).val = t.val / 4
    ∧ (((cfg0.win 5).blk t).view.emb x (1 : Fin 3)).val = 512 * (t.val % 4) + (x 1).val ∧ (((cfg0.win 5).blk t).view.emb x (2 : Fin 3)).val = (x 2).val := by
  have h0 : (x 0).val < 1 := (x 0).isLt
  refine ⟨?_, ?_, ?_⟩
  · show win0_2.index t 0 * 1 + 1 * (x 0).val = _
    rw [(index2 t).1]; omega
  · show win0_2.index t 1 * 512 + 1 * (x 1).val = _
    rw [(index2 t).2.1]; omega
  · show win0_2.index t 2 * 512 + 1 * (x 2).val = _
    rw [(index2 t).2.2]; omega

/-- What each point writes. -/
theorem point (t : Fin cfg0.N) (x : S1x512x512.Idx) :
    Updated (four (pick2 (argP0 m c) (argP1 m c) (t.val / 4)) (512 * (t.val % 4) + (x 1).val) (x 2).val)
      (at3 (argW m c) (t.val / 4) (512 * (t.val % 4) + (x 1).val) (x 2).val) (at3 (argM m c) (t.val / 4) (512 * (t.val % 4) + (x 1).val) (x 2).val) (at3 (argV m c) (t.val / 4) (512 * (t.val % 4) + (x 1).val) (x 2).val)
      ((dats m 0 c).flushed 5 t x) ((dats m 0 c).flushed 6 t x) ((dats m 0 c).flushed 7 t x) ((dats m 0 c).flushed 8 t x) := by
  have ht : t.val < 8 := t.isLt
  have h1 : (x 1).val < 512 := (x 1).isLt
  have h2 : (x 2).val < 512 := (x 2).isLt
  obtain hq | hq : t.val / 4 = 0 ∨ t.val / 4 = 1 := by omega
  · rw [Cert.UpAInIdeal.Value.flushed5_A m c t (by omega) (by omega), Cert.UpAInIdeal.Value.flushed6_A m c t (by omega) (by omega), Cert.UpAInIdeal.Value.flushed7_A m c t (by omega) (by omega), Cert.UpAInIdeal.Value.flushed8_A m c t (by omega) (by omega),
      show pick2 (argP0 m c) (argP1 m c) (t.val / 4) = argP0 m c by rw [hq]; rfl]
    exact (outs_A c _ _ _ _ _ _ _ _ _ _ _ _ _ _ _ _ _ _ _ (iblk m c 0 t) (iblk m c 1 t) (iblk m c 2 t) (iblk m c 3 t) (iblk m c 4 t) _ _ x).of_eq (blk0 m c t hq h1 h2) (blk2 m c t h1 h2) (blk3 m c t h1 h2) (blk4 m c t h1 h2)
  · rw [Cert.UpAInIdeal.Value.flushed5_B m c t (by omega) (by omega), Cert.UpAInIdeal.Value.flushed6_B m c t (by omega) (by omega), Cert.UpAInIdeal.Value.flushed7_B m c t (by omega) (by omega), Cert.UpAInIdeal.Value.flushed8_B m c t (by omega) (by omega),
      show pick2 (argP0 m c) (argP1 m c) (t.val / 4) = argP1 m c by rw [hq]; rfl]
    exact (outs_B c _ _ _ _ _ _ _ _ _ _ _ _ _ _ _ _ _ _ _ (iblk m c 0 t) (iblk m c 1 t) (iblk m c 2 t) (iblk m c 3 t) (iblk m c 4 t) _ _ x).of_eq (blk1 m c t hq h1 h2) (blk2 m c t h1 h2) (blk3 m c t h1 h2) (blk4 m c t h1 h2)

/-- The gradient: the array. -/
theorem final5 : (dats m 0 c).arrAt 5 cfg0.N = grad m c := by
  refine (dats m 0 c).arrAt_eq_of_cover 5 _ (fun t hf => funext fun x => ?_) fun (y : S2x2048x512.Idx) => ?_
  · rw [View.read_apply]
    dsimp only [grad]
    have hp : (((cfg0.win 5).blk t).view.emb x (0 : Fin 3)).val = _ ∧ (((cfg0.win 5).blk t).view.emb x (1 : Fin 3)).val = _ ∧ (((cfg0.win 5).blk t).view.emb x (2 : Fin 3)).val = _ := place t x
    rw [hp.1, hp.2.1, hp.2.2]
    exact (point m c t x).1
  · obtain ⟨t, ht⟩ := covered y
    refine ⟨t, flush0_5 _, ?_⟩
    show y ∈ ((View.whole main_v0_0).slice (win0_5.rect t)).set
    rw [View.set_slice_whole, Rect.mem_set_unit]
    exact ht

/-- The change: the array. -/
theorem final6 : (dats m 0 c).arrAt 6 cfg0.N = delta m c := by
  refine (dats m 0 c).arrAt_eq_of_cover 6 _ (fun t hf => funext fun x => ?_) fun (y : S2x2048x512.Idx) => ?_
  · rw [View.read_apply]
    dsimp only [delta]
    have hp : (((cfg0.win 6).blk t).view.emb x (0 : Fin 3)).val = _ ∧ (((cfg0.win 6).blk t).view.emb x (1 : Fin 3)).val = _ ∧ (((cfg0.win 6).blk t).view.emb x (2 : Fin 3)).val = _ := place t x
    rw [hp.1, hp.2.1, hp.2.2]
    exact (point m c t x).2.1
  · obtain ⟨t, ht⟩ := covered y
    refine ⟨t, flush0_6 _, ?_⟩
    show y ∈ ((View.whole main_v0_1).slice (win0_6.rect t)).set
    rw [View.set_slice_whole, Rect.mem_set_unit]
    exact ht

/-- The first moment: the array. -/
theorem final7 : (dats m 0 c).arrAt 7 cfg0.N = mean m c := by
  refine (dats m 0 c).arrAt_eq_of_cover 7 _ (fun t hf => funext fun x => ?_) fun (y : S2x2048x512.Idx) => ?_
  · rw [View.read_apply]
    dsimp only [mean]
    have hp : (((cfg0.win 7).blk t).view.emb x (0 : Fin 3)).val = _ ∧ (((cfg0.win 7).blk t).view.emb x (1 : Fin 3)).val = _ ∧ (((cfg0.win 7).blk t).view.emb x (2 : Fin 3)).val = _ := place t x
    rw [hp.1, hp.2.1, hp.2.2]
    exact (point m c t x).2.2.1
  · obtain ⟨t, ht⟩ := covered y
    refine ⟨t, flush0_7 _, ?_⟩
    show y ∈ ((View.whole main_v0_2).slice (win0_7.rect t)).set
    rw [View.set_slice_whole, Rect.mem_set_unit]
    exact ht

/-- The second moment: the array. -/
theorem final8 : (dats m 0 c).arrAt 8 cfg0.N = square m c := by
  refine (dats m 0 c).arrAt_eq_of_cover 8 _ (fun t hf => funext fun x => ?_) fun (y : S2x2048x512.Idx) => ?_
  · rw [View.read_apply]
    dsimp only [square]
    have hp : (((cfg0.win 8).blk t).view.emb x (0 : Fin 3)).val = _ ∧ (((cfg0.win 8).blk t).view.emb x (1 : Fin 3)).val = _ ∧ (((cfg0.win 8).blk t).view.emb x (2 : Fin 3)).val = _ := place t x
    rw [hp.1, hp.2.1, hp.2.2]
    exact (point m c t x).2.2.2
  · obtain ⟨t, ht⟩ := covered y
    refine ⟨t, flush0_8 _, ?_⟩
    show y ∈ ((View.whole main_v0_3).slice (win0_8.rect t)).set
    rw [View.set_slice_whole, Rect.mem_set_unit]
    exact ht

end

/-- The results, equal entry by entry. -/
theorem algebraic : Cert.algebraic_UpAInIdeal_UpAInRefIdeal :=
  fun m ρ m' ρ' _ hag => by
    refine ⟨fun c => grad m c,
      fun c => delta m c,
      fun c => mean m c,
      fun c => square m c,
      (θ_run UpAInIdeal.defs _ _).mono (fun _ h c => ⟨(h c).1.trans (final5 m c), (h c).2.1.trans (final6 m c), (h c).2.2.1.trans (final7 m c), (h c).2.2.2.1.trans (final8 m c), (h c).2.2.2.2⟩) (UpAInIdeal.Value.run_blocks m ρ),
      (θ_run UpAInRefIdeal.defs _ _).mono (fun _ h c => ?_) (UpAInRefIdeal.Value.run m' ρ')⟩
    obtain ⟨e0, e1, e2, e3, e4⟩ := hag c
    exact ⟨(h c).1.trans ((UpAInRefIdeal.Read.val_main_v6_eq _ _).trans (funext fun y => (Ref.v6_eq _ _ y).trans (by rw [e0, e1]))),
      (h c).2.1.trans ((UpAInRefIdeal.Read.val_main_v30_eq _ _ _ _ _).trans (funext fun y => (Ref.v30_eq _ _ _ _ _ y).trans (by rw [e0, e1, e2, e3, e4]))),
      (h c).2.2.1.trans ((UpAInRefIdeal.Read.val_main_v11_eq _ _ _).trans (funext fun y => (Ref.v11_eq _ _ _ y).trans (by rw [e0, e1, e3]))),
      (h c).2.2.2.1.trans ((UpAInRefIdeal.Read.val_main_v17_eq _ _ _).trans (funext fun y => (Ref.v17_eq _ _ _ y).trans (by rw [e0, e1, e4]))), (h c).2.2.2.2⟩

/-- The reference runs and leaves its arguments alone; it declares no semaphore. -/
theorem referenceFrame : Cert.quiescent_UpAInRefIdeal :=
  fun m ρ _ => (θ_run UpAInRefIdeal.defs _ _).mono (fun r h => ⟨fun c => (h c).2.2.2.2,
    sem_eq_zero_of_no_sems (by decide) r.2⟩) (UpAInRefIdeal.Value.run m ρ)

end

end Cert.Update.UpAIn

end
-- ==== Proof.Update.UpVec.lean ====
/- The packed vectors' sums and their update: the kernel's arrays and the reference's, equal entry by entry. -/
module

public import proofs.«01_k».proof.Defs
public import proofs.«01_k».proof.Proof.Gen.UpVecIdeal.Value
public import proofs.«01_k».proof.Proof.Gen.UpVecRefIdeal.Run
public import proofs.«01_k».proof.Proof.Gen.UpVecRefIdeal.Read
public import proofs.«01_k».proof.Proof.Update.Adam

@[expose] public section

set_option maxRecDepth 16384

noncomputable section

namespace Cert.Update.UpVec

open Idealize.ShloMosaic Idealize.ShloMosaic.TcCoe Idealize.SL.Sem

/-- The chips' sums, added up. -/
def total (x : (⟨3, ![8, 176, 2048]⟩ : Shape).Idx → EReal) (y : (⟨2, ![176, 2048]⟩ : Shape).Idx) : EReal := ∑ d : Fin 8, x (ix3 d (y 0) (y 1))

/-- The packed vectors' gradients are the first 96 rows. -/
def grads (x : (⟨3, ![8, 176, 2048]⟩ : Shape).Idx → EReal) (y : (⟨2, ![96, 2048]⟩ : Shape).Idx) : EReal :=
  ∑ d : Fin 8, x (ix3 d ⟨(y 0).val, Nat.lt_of_lt_of_le (y 0).isLt (by decide)⟩ (y 1))

namespace Ref

open Cert.UpVecRefIdeal Cert.UpVecRefIdeal.Gen Cert.UpVecRefIdeal.Read Idealize.ShloMosaic.StableHlo

variable (X : Vec Ideal S8x176x2048 .f32) (W M V : Vec Ideal S96x2048 .f32)

theorem v0_eq (y : S176x2048.Idx) : val_main_v0 (F := Ideal) X y = total X y := by
  unfold val_main_v0
  pointwise [val_main_cst]
  rfl

theorem v1_eq (y : S96x2048.Idx) : val_main_v1 (F := Ideal) X y = grads X y := by
  unfold val_main_v1
  pointwise [v0_eq]
  rfl

theorem v6_eq (y : S96x2048.Idx) : val_main_v6 (F := Ideal) X M y = first (grads X y) (M y) := by
  unfold val_main_v6 val_main_v5 val_main_v4 val_main_v3 val_main_v2 val_main_cst_0 val_main_cst_1
  pointwise [v1_eq]
  rfl

theorem v12_eq (y : S96x2048.Idx) : val_main_v12 (F := Ideal) X V y = second (grads X y) (V y) := by
  unfold val_main_v12 val_main_v11 val_main_v10 val_main_v9 val_main_v8 val_main_v7 val_main_cst_2 val_main_cst_3
  pointwise [v1_eq]
  rfl

theorem v25_eq (y : S96x2048.Idx) : val_main_v25 (F := Ideal) X W M V y = change (grads X y) (W y) (M y) (V y) := by
  unfold val_main_v25 val_main_v24 val_main_v23 val_main_v22 val_main_v21 val_main_v20 val_main_v19 val_main_v18 val_main_v17 val_main_v16 val_main_v15 val_main_v14 val_main_v13 val_main_cst_4 val_main_cst_5 val_main_cst_6 val_main_cst_7 val_main_cst_8
  pointwise [v6_eq, v12_eq]
  rfl

end Ref

section
open Cert.UpVecIdeal Cert.UpVecIdeal.Gen Cert.UpVecIdeal.Value

variable (X : Vec Ideal S8x176x2048 .f32) (W M V : Vec Ideal S96x2048 .f32)

theorem G4_eq (y : S176x2048.Idx) : G4 (F := Ideal) X W M V y = total X y := by
  unfold G4
  unfold_payloads
  pointwise []
  exact (Fin.sum_univ_eight fun d => X (ix3 d (y 0) (y 1))).symm

theorem pay6_eq (y : S96x2048.Idx) : k0_pay6 (F := Ideal) X W M V y = grads X y := by
  unfold_payloads
  pointwise []
  exact (Fin.sum_univ_eight fun d => X (ix3 d ⟨(y 0).val, Nat.lt_of_lt_of_le (y 0).isLt (by decide)⟩ (y 1))).symm

theorem G6_eq (y : S96x2048.Idx) : G6 (F := Ideal) X W M V y = first (grads X y) (M y) := by
  unfold G6 k0_pay1
  pointwise [pay6_eq]
  rfl

theorem G7_eq (y : S96x2048.Idx) : G7 (F := Ideal) X W M V y = second (grads X y) (V y) := by
  unfold G7 k0_pay2
  pointwise [pay6_eq]
  rfl

theorem G5_eq (y : S96x2048.Idx) : G5 (F := Ideal) X W M V y = change (grads X y) (W y) (M y) (V y) := by
  unfold G5 k0_pay3 k0_pay2 k0_pay1
  pointwise [pay6_eq]
  rfl

end

/-- The results, equal entry by entry. -/
theorem algebraic : Cert.algebraic_UpVecIdeal_UpVecRefIdeal :=
  fun m ρ m' ρ' _ hag => by
    refine ⟨fun c (y : UpVecIdeal.S176x2048.Idx) => total (m ((c : Thread UpVecIdeal.nD UpVecIdeal.τ).loc UpVecIdeal.main_arg0)) y,
      fun c (y : UpVecIdeal.S96x2048.Idx) => change (grads (m ((c : Thread UpVecIdeal.nD UpVecIdeal.τ).loc UpVecIdeal.main_arg0)) y) ((m ((c : Thread UpVecIdeal.nD UpVecIdeal.τ).loc UpVecIdeal.main_arg1)) y) ((m ((c : Thread UpVecIdeal.nD UpVecIdeal.τ).loc UpVecIdeal.main_arg2)) y) ((m ((c : Thread UpVecIdeal.nD UpVecIdeal.τ).loc UpVecIdeal.main_arg3)) y),
      fun c (y : UpVecIdeal.S96x2048.Idx) => first (grads (m ((c : Thread UpVecIdeal.nD UpVecIdeal.τ).loc UpVecIdeal.main_arg0)) y) ((m ((c : Thread UpVecIdeal.nD UpVecIdeal.τ).loc UpVecIdeal.main_arg2)) y),
      fun c (y : UpVecIdeal.S96x2048.Idx) => second (grads (m ((c : Thread UpVecIdeal.nD UpVecIdeal.τ).loc UpVecIdeal.main_arg0)) y) ((m ((c : Thread UpVecIdeal.nD UpVecIdeal.τ).loc UpVecIdeal.main_arg3)) y),
      (θ_run UpVecIdeal.defs _ _).mono (fun _ h c => ⟨(h c).1.trans (funext fun y => G4_eq _ _ _ _ y),
      (h c).2.1.trans (funext fun y => G5_eq _ _ _ _ y),
      (h c).2.2.1.trans (funext fun y => G6_eq _ _ _ _ y),
      (h c).2.2.2.1.trans (funext fun y => G7_eq _ _ _ _ y), (h c).2.2.2.2⟩) (UpVecIdeal.Value.run m ρ),
      (θ_run UpVecRefIdeal.defs _ _).mono (fun _ h c => ?_) (UpVecRefIdeal.Value.run m' ρ')⟩
    obtain ⟨e0, e1, e2, e3⟩ := hag c
    exact ⟨(h c).1.trans ((UpVecRefIdeal.Read.val_main_v0_eq _).trans ((funext fun y => Ref.v0_eq _ y).trans (by rw [e0]))),
      (h c).2.1.trans ((UpVecRefIdeal.Read.val_main_v25_eq _ _ _ _).trans ((funext fun y => Ref.v25_eq _ _ _ _ y).trans (by rw [e0, e1, e2, e3]))),
      (h c).2.2.1.trans ((UpVecRefIdeal.Read.val_main_v6_eq _ _).trans ((funext fun y => Ref.v6_eq _ _ y).trans (by rw [e0, e2]))),
      (h c).2.2.2.1.trans ((UpVecRefIdeal.Read.val_main_v12_eq _ _).trans ((funext fun y => Ref.v12_eq _ _ y).trans (by rw [e0, e3]))),
      (h c).2.2.2.2⟩

/-- The reference runs and leaves its arguments alone; it declares no semaphore. -/
theorem referenceFrame : Cert.quiescent_UpVecRefIdeal :=
  fun m ρ _ => (θ_run UpVecRefIdeal.defs _ _).mono (fun r h => ⟨fun c => (h c).2.2.2.2,
    sem_eq_zero_of_no_sems (by decide) r.2⟩) (UpVecRefIdeal.Value.run m ρ)

end Cert.Update.UpVec

end
-- ==== Proof.Update.UpConv.lean ====
/- The short convolutions' update: the kernel's arrays and the reference's, equal entry by entry. -/
module

public import proofs.«01_k».proof.Defs
public import proofs.«01_k».proof.Proof.Gen.UpConvIdeal.Value
public import proofs.«01_k».proof.Proof.Gen.UpConvRefIdeal.Run
public import proofs.«01_k».proof.Proof.Gen.UpConvRefIdeal.Read
public import proofs.«01_k».proof.Proof.Update.Adam

@[expose] public section

set_option maxRecDepth 16384

noncomputable section

namespace Cert.Update.UpConv

open Idealize.ShloMosaic Idealize.ShloMosaic.TcCoe Idealize.SL.Sem

namespace Ref

open Cert.UpConvRefIdeal Cert.UpConvRefIdeal.Gen Cert.UpConvRefIdeal.Read Idealize.ShloMosaic.StableHlo

variable (X W M V : Vec Ideal S72x256 .f32)

theorem v4_eq (y : S72x256.Idx) : val_main_v4 (F := Ideal) X M y = first (X y) (M y) := by
  unfold val_main_v4 val_main_v3 val_main_v2 val_main_v1 val_main_v0 val_main_cst val_main_cst_0
  pointwise []
  rfl

theorem v10_eq (y : S72x256.Idx) : val_main_v10 (F := Ideal) X V y = second (X y) (V y) := by
  unfold val_main_v10 val_main_v9 val_main_v8 val_main_v7 val_main_v6 val_main_v5 val_main_cst_1 val_main_cst_2
  pointwise []
  rfl

theorem v23_eq (y : S72x256.Idx) : val_main_v23 (F := Ideal) X W M V y = change (X y) (W y) (M y) (V y) := by
  unfold val_main_v23 val_main_v22 val_main_v21 val_main_v20 val_main_v19 val_main_v18 val_main_v17 val_main_v16 val_main_v15 val_main_v14 val_main_v13 val_main_v12 val_main_v11 val_main_cst_3 val_main_cst_4 val_main_cst_5 val_main_cst_6 val_main_cst_7
  pointwise [v4_eq, v10_eq]
  rfl

end Ref

section
open Cert.UpConvIdeal Cert.UpConvIdeal.Gen Cert.UpConvIdeal.Value

variable (X W M V : Vec Ideal S72x256 .f32)

theorem G5_eq (y : S72x256.Idx) : G5 (F := Ideal) X M y = first (X y) (M y) := by
  unfold G5
  unfold_payloads
  pointwise []
  rfl

theorem G6_eq (y : S72x256.Idx) : G6 (F := Ideal) X V y = second (X y) (V y) := by
  unfold G6
  unfold_payloads
  pointwise []
  rfl

theorem G4_eq (y : S72x256.Idx) : G4 (F := Ideal) X W M V y = change (X y) (W y) (M y) (V y) := by
  unfold G4
  unfold_payloads
  pointwise []
  rfl

end

/-- The results, equal entry by entry. -/
theorem algebraic : Cert.algebraic_UpConvIdeal_UpConvRefIdeal :=
  fun m ρ m' ρ' _ hag => by
    refine ⟨fun c (y : UpConvIdeal.S72x256.Idx) => change ((m ((c : Thread UpConvIdeal.nD UpConvIdeal.τ).loc UpConvIdeal.main_arg0)) y) ((m ((c : Thread UpConvIdeal.nD UpConvIdeal.τ).loc UpConvIdeal.main_arg1)) y) ((m ((c : Thread UpConvIdeal.nD UpConvIdeal.τ).loc UpConvIdeal.main_arg2)) y) ((m ((c : Thread UpConvIdeal.nD UpConvIdeal.τ).loc UpConvIdeal.main_arg3)) y),
      fun c (y : UpConvIdeal.S72x256.Idx) => first ((m ((c : Thread UpConvIdeal.nD UpConvIdeal.τ).loc UpConvIdeal.main_arg0)) y) ((m ((c : Thread UpConvIdeal.nD UpConvIdeal.τ).loc UpConvIdeal.main_arg2)) y),
      fun c (y : UpConvIdeal.S72x256.Idx) => second ((m ((c : Thread UpConvIdeal.nD UpConvIdeal.τ).loc UpConvIdeal.main_arg0)) y) ((m ((c : Thread UpConvIdeal.nD UpConvIdeal.τ).loc UpConvIdeal.main_arg3)) y),
      (θ_run UpConvIdeal.defs _ _).mono (fun _ h c => ⟨(h c).1.trans (funext fun y => G4_eq _ _ _ _ y),
      (h c).2.1.trans (funext fun y => G5_eq _ _ y),
      (h c).2.2.1.trans (funext fun y => G6_eq _ _ y), (h c).2.2.2⟩) (UpConvIdeal.Value.run m ρ),
      (θ_run UpConvRefIdeal.defs _ _).mono (fun _ h c => ?_) (UpConvRefIdeal.Value.run m' ρ')⟩
    obtain ⟨e0, e1, e2, e3⟩ := hag c
    exact ⟨(h c).1.trans ((UpConvRefIdeal.Read.val_main_v23_eq _ _ _ _).trans ((funext fun y => Ref.v23_eq _ _ _ _ y).trans (by rw [e0, e1, e2, e3]))),
      (h c).2.1.trans ((UpConvRefIdeal.Read.val_main_v4_eq _ _).trans ((funext fun y => Ref.v4_eq _ _ y).trans (by rw [e0, e2]))),
      (h c).2.2.1.trans ((UpConvRefIdeal.Read.val_main_v10_eq _ _).trans ((funext fun y => Ref.v10_eq _ _ y).trans (by rw [e0, e3]))),
      (h c).2.2.2⟩

/-- The reference runs and leaves its arguments alone; it declares no semaphore. -/
theorem referenceFrame : Cert.quiescent_UpConvRefIdeal :=
  fun m ρ _ => (θ_run UpConvRefIdeal.defs _ _).mono (fun r h => ⟨fun c => (h c).2.2.2,
    sem_eq_zero_of_no_sems (by decide) r.2⟩) (UpConvRefIdeal.Value.run m ρ)

end Cert.Update.UpConv

end
-- ==== Proof.Gates.BConv.lean ====
/- The forward gated short convolution computes its reference's result. -/
module

public import proofs.«01_k».proof.Defs
public import proofs.«01_k».proof.Proof.Gen.BConvIdeal.Value
public import proofs.«01_k».proof.Proof.Gen.BConvRefIdeal.Run
public import proofs.«01_k».proof.Proof.Gen.BConvRefIdeal.Read
public import proofs.«01_k».proof.Proof.ShortGrad.Closed
public import Idealize.ShloMosaic.Lib.WholeRead
public import Idealize.ShloMosaic.Lib.Pipeline.ReadBack

@[expose] public section

set_option maxRecDepth 16384

noncomputable section

namespace Cert.Gates.BConv

open Idealize.ShloMosaic Idealize.ShloMosaic.TcCoe Idealize.SL.Sem Cert.Entry
open Cert.ShortGrad (gated)

/-- An entry of the gated convolution: the output gate times the three taps over the gated inputs. -/
def conv (Z : (⟨2, ![4096, 6144]⟩ : Shape).Idx → EReal) (W : (⟨2, ![3, 2048]⟩ : Shape).Idx → EReal) (r c : ℕ) : EReal :=
  at2 Z r c * (at2 W 0 c * gated Z r c + at2 W 1 c * gated Z (1 + r) c + at2 W 2 c * gated Z (2 + r) c)

namespace Ref

open Cert.BConvRefIdeal Cert.BConvRefIdeal.Gen Cert.BConvRefIdeal.Read Idealize.ShloMosaic.StableHlo

variable (Z : Vec Ideal S4096x6144 .f32) (W : Vec Ideal S3x2048 .f32)

theorem v5_eq (y : S4098x2048.Idx) : val_main_v5 (F := Ideal) Z y = gated Z (y 0).val (y 1).val := by
  unfold val_main_v5 val_main_v4 val_main_cst val_main_v3 val_main_v1 val_main_v2
  pointwise [eq_at2 Z]
  rfl

theorem v23_eq (y : S4096x2048.Idx) : val_main_v23 (F := Ideal) Z W y = conv Z W (y 0).val (y 1).val := by
  unfold val_main_v23 val_main_v22 val_main_v0 val_main_v21 val_main_v20 val_main_v19 val_main_v18 val_main_v17 val_main_v16
    val_main_v15 val_main_v14 val_main_v13 val_main_v12 val_main_v11 val_main_v10 val_main_cst_0 val_main_v9 val_main_v8 val_main_v7 val_main_v6
  pointwise [v5_eq, eq_at2 W, eq_at2 Z]
  rfl

end Ref

open Cert.BConvIdeal Cert.BConvIdeal.Gen

/-- Row `j` of the gated inputs as the kernel keeps them: eight rows from before the block (zero at the
    first point), then the block's 128. -/
def rows (b : BitVec 1) (x0 : Vec Ideal S128x6144 .f32) (x1 : Vec Ideal S8x6144 .f32) (j c : ℕ) : EReal :=
  if j < 8 then (if b = 1#1 then at2 x1 j (2048 + c) * at2 x1 j (4096 + c) else 0)
  else at2 x0 (j - 8) (2048 + c) * at2 x0 (j - 8) (4096 + c)

section
variable (c : Dev nD) (i : grid0.Coords) (arg1 : Memref sig .tc .vmem S128x6144 .f32) (harg1 : arg1.IsWhole) (arg2 : Memref sig .tc .vmem S8x6144 .f32) (harg2 : arg2.IsWhole) (arg3 : Memref sig .tc .vmem S3x2048 .f32) (harg3 : arg3.IsWhole) (arg4 : Memref sig .tc .vmem S128x2048 .bf16) (harg4 : arg4.IsWhole) (arg5 : Memref sig .tc .vmem S136x2048 .f32) (harg5 : arg5.IsWhole)
    (x0 : Vec Ideal S128x6144 .f32) (x1 : Vec Ideal S8x6144 .f32) (x2 : Vec Ideal S3x2048 .f32)

/-- The first point's test. -/
abbrev bit : BitVec 1 := Scalar.cmpi .sgt (BitVec.ofNat 32 (i 0).val) 0#32

theorem rows_pieces : View.PiecesOf (fun y : S136x2048.Idx => rows (bit i) x0 x1 (y 0).val (y 1).val)
    (kernelRun0_A.sl.HS0_2 c i arg1 harg1 arg2 harg2 x0 x1) := by
  unfold kernelRun0_A.sl.HS0_2
  refine ⟨fun x => ?_, fun x => ?_, trivial⟩
  all_goals
    unfold_payloads
    simp only [emb_unit_val]
    pointwise [shapeCast_self, readAt_unit2, rows]
  rfl

/-- The buffer of gated inputs at an index. -/
theorem canon_rows (y : S136x2048.Idx) :
    View.canon (kernelRun0_A.sl.HS0_2 c i arg1 harg1 arg2 harg2 x0 x1) y = rows (bit i) x0 x1 (y 0).val (y 1).val :=
  View.canon_apply_of_pieces (fun y : S136x2048.Idx => rows (bit i) x0 x1 (y 0).val (y 1).val) _ (rows_pieces c i arg1 harg1 arg2 harg2 x0 x1).mem y
    (View.cover_of_tiledBy (kernelRun0_A.sl.HS0_2 c i arg1 harg1 arg2 harg2 x0 x1) ![8, 2048] (by sl_kernel_rfl) y)

/-- An entry of what a point writes. -/
def blk (r k : ℕ) : EReal :=
  at2 x0 r k * (at2 x2 0 k * rows (bit i) x0 x1 (6 + r) k + at2 x2 1 k * rows (bit i) x0 x1 (7 + r) k
    + at2 x2 2 k * rows (bit i) x0 x1 (8 + r) k)

theorem pieces : View.PiecesOf (fun y : S128x2048.Idx => blk i x0 x1 x2 (y 0).val (y 1).val)
    (kernelRun0_A c i arg1 harg1 arg2 harg2 arg3 harg3 arg4 harg4 arg5 harg5 x0 x1 x2).1 := by
  unfold kernelRun0_A
  dsimp only [kernelRun0_A.sl.r, kernelRun0_A.sl.r_1, kernelRun0_A.sl.r_2, kernelRun0_A.sl.r_3, kernelRun0_A.sl.r_4,
    kernelRun0_A.sl.r_5, kernelRun0_A.sl.v17, kernelRun0_A.sl.v22, kernelRun0_A.sl.v27,
    kernelRun0_A.sl.v37, kernelRun0_A.sl.v42, kernelRun0_A.sl.v47, kernelRun0_A.sl.v57, kernelRun0_A.sl.v62, kernelRun0_A.sl.v67,
    kernelRun0_A.sl.v77, kernelRun0_A.sl.v82, kernelRun0_A.sl.v87, kernelRun0_A.sl.v97, kernelRun0_A.sl.v102,
    kernelRun0_A.sl.v107, kernelRun0_A.sl.v117, kernelRun0_A.sl.v122, kernelRun0_A.sl.v127, kernelRun0_A.sl.v137,
    kernelRun0_A.sl.v142, kernelRun0_A.sl.v147, kernelRun0_A.sl.v157, kernelRun0_A.sl.v162, kernelRun0_A.sl.v167]
  refine ⟨fun x => ?_, fun x => ?_, fun x => ?_, fun x => ?_, fun x => ?_, fun x => ?_, fun x => ?_, fun x => ?_, trivial⟩
  all_goals
    unfold_payloads
    simp only [emb_unit_val]
    pointwise [shapeCast_self, readAt_unit2, readCov_unit2 _ _ (canon_rows c i arg1 harg1 arg2 harg2 x0 x1)]
    rfl

/-- What a point leaves, at an index. -/
theorem out_eq (y : S128x2048.Idx) :
    out0_A_3 c i arg1 harg1 arg2 harg2 arg3 harg3 arg4 harg4 arg5 harg5 x0 x1 x2 y = blk i x0 x1 x2 (y 0).val (y 1).val := by
  unfold out0_A_3
  exact View.read_writes_apply_of_pieces _ _ (fun y : S128x2048.Idx => blk i x0 x1 x2 (y 0).val (y 1).val) _
    (pieces c i arg1 harg1 arg2 harg2 arg3 harg3 arg4 harg4 arg5 harg5 x0 x1 x2).mem y
    (cover0_A_3 c i arg1 harg1 arg2 harg2 arg3 harg3 arg4 harg4 arg5 harg5 x0 x1 x2 y)
end

variable (m : (ℓ : Loc nD τ sig) → Buf (Elt Ideal) ℓ) (c : Dev nD)

/-- The two arguments as launched. -/
abbrev argZ : Vec Ideal S4096x6144 .f32 := m ((c : Thread nD τ).loc main_arg0)
abbrev argW : Vec Ideal S3x2048 .f32 := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val * 16 - 1 ∧ win0_1.index t 1 = 0 :=
  (by decide +kernel : ∀ t : Fin grid0.N, win0_1.index t 0 = t.val * 16 - 1 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

theorem blk0 (t : Fin cfg0.N) {r k : ℕ} (hr : r < 128) (hk : k < 6144) :
    at2 (iblk m c 0 t : Vec Ideal S128x6144 .f32) r k = at2 (argZ m c) (128 * t.val + r) k := by
  refine (at2_of_lt (iblk m c 0 t : Vec Ideal S128x6144 .f32) hr hk).trans (eq_at2_of (argZ m c) _ ?_ ?_)
  · show win0_0.index t 0 * 128 + 1 * r = _
    rw [(index0 t).1]; omega
  · show win0_0.index t 1 * 6144 + 1 * k = _
    rw [(index0 t).2]; omega

theorem blk1 (t : Fin cfg0.N) (ht : 0 < t.val) {r k : ℕ} (hr : r < 8) (hk : k < 6144) :
    at2 (iblk m c 1 t : Vec Ideal S8x6144 .f32) r k = at2 (argZ m c) (128 * t.val + r - 8) k := by
  refine (at2_of_lt (iblk m c 1 t : Vec Ideal S8x6144 .f32) hr hk).trans (eq_at2_of (argZ m c) _ ?_ ?_)
  · show win0_1.index t 0 * 8 + 1 * r = _
    rw [(index1 t).1]; omega
  · show win0_1.index t 1 * 6144 + 1 * k = _
    rw [(index1 t).2]; omega

theorem blk2 (t : Fin cfg0.N) {r k : ℕ} (hr : r < 3) (hk : k < 2048) :
    at2 (iblk m c 2 t : Vec Ideal S3x2048 .f32) r k = at2 (argW m c) r k := by
  refine (at2_of_lt (iblk m c 2 t : Vec Ideal S3x2048 .f32) hr hk).trans (eq_at2_of (argW m c) _ ?_ ?_)
  · show win0_2.index t 0 * 3 + 1 * r = _
    rw [(index2 t).1]; omega
  · show win0_2.index t 1 * 2048 + 1 * k = _
    rw [(index2 t).2]; omega

/-- The rows before the block are used from the second point on. -/
theorem before_iff : ∀ t : Fin cfg0.N, bit (grid0.coords t) = 1#1 ↔ 0 < t.val :=
  (by decide +kernel : ∀ t : Fin grid0.N, bit (grid0.coords t) = 1#1 ↔ 0 < t.val)

theorem rows_eq (t : Fin cfg0.N) {j k : ℕ} (h6 : 6 ≤ j) (hj : j < 136) (hk : k < 2048) :
    rows (bit (grid0.coords t)) (iblk m c 0 t) (iblk m c 1 t) j k = gated (argZ m c) (128 * t.val + j - 6) k := by
  have hN : t.val < 32 := t.isLt
  unfold rows gated
  by_cases h8 : j < 8
  · rw [if_pos h8]
    by_cases h0 : 0 < t.val
    · rw [if_pos ((before_iff t).mpr h0), if_neg (by omega), blk1 m c t h0 h8 (by omega), blk1 m c t h0 h8 (by omega),
        show 128 * t.val + j - 6 - 2 = 128 * t.val + j - 8 by omega]
    · rw [if_neg (fun h => h0 ((before_iff t).mp h)), if_pos (by omega)]
  · rw [if_neg h8, if_neg (by omega), blk0 m c t (by omega) (by omega), blk0 m c t (by omega) (by omega),
      show 128 * t.val + j - 6 - 2 = 128 * t.val + (j - 8) by omega]

theorem blk_eq (t : Fin cfg0.N) {r k : ℕ} (hr : r < 128) (hk : k < 2048) :
    blk (grid0.coords t) (iblk m c 0 t) (iblk m c 1 t) (iblk m c 2 t) r k = conv (argZ m c) (argW m c) (128 * t.val + r) k := by
  unfold blk conv
  rw [blk0 m c t hr (by omega), blk2 m c t (by omega) hk, blk2 m c t (by omega) hk, blk2 m c t (by omega) hk,
    rows_eq m c t (by omega) (by omega) hk, rows_eq m c t (by omega) (by omega) hk, rows_eq m c t (by omega) (by omega) hk,
    show 128 * t.val + (6 + r) - 6 = 128 * t.val + r by omega, show 128 * t.val + (7 + r) - 6 = 1 + (128 * t.val + r) by omega,
    show 128 * t.val + (8 + r) - 6 = 2 + (128 * t.val + r) by omega]

/-- The result array after the run. -/
theorem final3 : (dats m 0 c).arrAt 3 cfg0.N = fun y : S4096x2048.Idx => conv (argZ m c) (argW m c) (y 0).val (y 1).val := by
  refine (dats m 0 c).arrAt_eq_of_cover 3 _ (fun t hf => ?_) fun (y : S4096x2048.Idx) => ?_
  · rw [Cert.BConvIdeal.Value.flushed3_A]
    funext x
    refine (out_eq _ _ _ _ _ _ _ _ _ _ _ _ _ _ _ _).trans ?_
    rw [View.read_apply]
    refine (blk_eq m c t (x 0).isLt (x 1).isLt).trans (congrArg₂ (conv (argZ m c) (argW m c)) ?_ ?_)
    · show 128 * t.val + (x 0).val = win0_3.index t 0 * 128 + 1 * (x 0).val
      rw [(index3 t).1]; omega
    · show (x 1).val = win0_3.index t 1 * 2048 + 1 * (x 1).val
      rw [(index3 t).2]; omega
  · have h0 : (y 0).val < 4096 := (y 0).isLt
    have h1 : (y 1).val < 2048 := (y 1).isLt
    obtain ⟨t, ht⟩ : ∃ t : Fin cfg0.N, t.val = (y 0).val / 128 := ⟨⟨(y 0).val / 128, show (y 0).val / 128 < 32 by omega⟩, rfl⟩
    refine ⟨t, flush0_3 _, ?_⟩
    show y ∈ ((View.whole main_v0).slice (win0_3.rect t)).set
    rw [View.set_slice_whole, Rect.mem_set_unit]
    intro a
    match a with
    | ⟨0, _⟩ =>
      show win0_3.index t 0 * 128 ≤ (y 0).val ∧ (y 0).val < win0_3.index t 0 * 128 + 128
      rw [(index3 t).1]; omega
    | ⟨1, _⟩ =>
      show win0_3.index t 1 * 2048 ≤ (y 1).val ∧ (y 1).val < win0_3.index t 1 * 2048 + 2048
      rw [(index3 t).2]; omega

/-- The two results are equal entry by entry. -/
theorem algebraic : Cert.algebraic_BConvIdeal_BConvRefIdeal :=
  fun m ρ m' ρ' _ hag => by
    refine ⟨fun c (y : S4096x2048.Idx) => conv (argZ m c) (argW m c) (y 0).val (y 1).val,
      (θ_run BConvIdeal.defs _ _).mono (fun _ h c => ⟨(h c).1.trans (final3 m c), (h c).2⟩) (BConvIdeal.Value.run_blocks m ρ),
      (θ_run BConvRefIdeal.defs _ _).mono (fun _ h c => ?_) (BConvRefIdeal.Value.run m' ρ')⟩
    obtain ⟨e0, e1⟩ := hag c
    exact ⟨(h c).1.trans ((BConvRefIdeal.Read.val_main_v23_eq _ _).trans ((funext fun y => Ref.v23_eq _ _ y).trans (by rw [e0, e1]))), (h c).2⟩

/-- The reference runs and leaves its arguments alone; it declares no semaphore. -/
theorem referenceFrame : Cert.quiescent_BConvRefIdeal :=
  fun m ρ _ => (θ_run BConvRefIdeal.defs _ _).mono (fun r h => ⟨fun c => (h c).2,
    sem_eq_zero_of_no_sems (by decide) r.2⟩) (BConvRefIdeal.Value.run m ρ)

end Cert.Gates.BConv

end
-- ==== Proof.Update.Silu.lean ====
/- The conditioning's activation, as the programs compute it. -/
module

public import Idealize.ShloMosaic.Lib.Pointwise
public import Idealize.ShloMosaic.Lib.IdealHost

@[expose] public section

noncomputable section

namespace Cert.Update

open Idealize.ShloMosaic

/-- The activation of one entry. -/
def silu (z : EReal) : EReal := z * Ideal.logistic z

end Cert.Update

end
-- ==== Proof.Update.Modul.lean ====
/- The modulation: the kernel's array and the reference's, equal entry by entry. -/
module

public import proofs.«01_k».proof.Defs
public import proofs.«01_k».proof.Proof.Gen.ModulIdeal.Value
public import proofs.«01_k».proof.Proof.Gen.ModulRefIdeal.Run
public import proofs.«01_k».proof.Proof.Gen.ModulRefIdeal.Read
public import proofs.«01_k».proof.Proof.Products.Sums
public import proofs.«01_k».proof.Proof.Update.Blocks
public import proofs.«01_k».proof.Proof.Update.Silu

@[expose] public section

set_option maxRecDepth 16384

noncomputable section

namespace Cert.Update.Modul

open Idealize.ShloMosaic Idealize.ShloMosaic.TcCoe Idealize.SL.Sem Cert.Entry Cert.Products

/-- Entry `(l, i, k)` of the modulation: layer `l`'s product with the activated conditioning, and its bias. -/
def entry (C : (⟨2, ![8, 2048]⟩ : Shape).Idx → EReal) (W : (⟨3, ![4, 2048, 1536]⟩ : Shape).Idx → EReal) (B : (⟨2, ![4, 1536]⟩ : Shape).Idx → EReal)
    (l i k : ℕ) : EReal := dot (fun j => silu (at2 C i j)) (fun j => at3 W l j k) 2048 + at2 B l k

namespace Ref

open Cert.ModulRefIdeal Cert.ModulRefIdeal.Gen Cert.ModulRefIdeal.Read Idealize.ShloMosaic.StableHlo

variable (C : Vec Ideal S8x2048 .f32) (W : Vec Ideal S4x2048x1536 .f32) (B : Vec Ideal S4x1536 .f32)

theorem act (y : S8x2048.Idx) : val_main_v0 (F := Ideal) C y = silu (at2 C (y 0).val (y 1).val) := by
  unfold val_main_v0 val_main_call0_v5 val_main_call0_v4 val_main_call0_v3 val_main_call0_v2 val_main_call0_v1 val_main_call0_v0 val_main_call0_cst val_main_call0_cst_0
  pointwise [eq_at2 C]
  rfl

theorem layer0 (y : S8x1536.Idx) : val_main_v8 (F := Ideal) C W B y = entry C W B 0 (y 0).val (y 1).val := by
  have h : (y 1).val < 1536 := (y 1).isLt
  rw [val_main_v8_apply, val_main_v3_apply]
  refine congrArg₂ (· + ·) (Eq.trans (Finset.sum_congr rfl fun k _ => ?_) (sum_fin_eq_dot (fun j => silu (at2 C (y 0).val j)) (fun j => at3 W 0 j (y 1).val) 2048)) ?_
  · refine congrArg₂ (· * ·) (act C _) ?_
    have hk : k.val < 2048 := k.isLt
    rw [val_main_v2_apply, val_main_v1_apply]
    refine eq_at3_of W _ rfl ?_ ?_
    · show (k.val * 1536 + (y 1).val) / 1536 % 2048 = _
      omega
    · show (k.val * 1536 + (y 1).val) % 1536 = _
      omega
  · rw [val_main_v7_apply, val_main_v6_apply, val_main_v5_apply, val_main_v4_apply]
    refine eq_at2_of B _ rfl ?_
    show (y 1).val % 1536 = _
    omega

theorem layer1 (y : S8x1536.Idx) : val_main_v17 (F := Ideal) C W B y = entry C W B 1 (y 0).val (y 1).val := by
  have h : (y 1).val < 1536 := (y 1).isLt
  rw [val_main_v17_apply, val_main_v12_apply]
  refine congrArg₂ (· + ·) (Eq.trans (Finset.sum_congr rfl fun k _ => ?_) (sum_fin_eq_dot (fun j => silu (at2 C (y 0).val j)) (fun j => at3 W 1 j (y 1).val) 2048)) ?_
  · refine congrArg₂ (· * ·) (act C _) ?_
    have hk : k.val < 2048 := k.isLt
    rw [val_main_v11_apply, val_main_v10_apply]
    refine eq_at3_of W _ rfl ?_ ?_
    · show (k.val * 1536 + (y 1).val) / 1536 % 2048 = _
      omega
    · show (k.val * 1536 + (y 1).val) % 1536 = _
      omega
  · rw [val_main_v16_apply, val_main_v15_apply, val_main_v14_apply, val_main_v13_apply]
    refine eq_at2_of B _ rfl ?_
    show (y 1).val % 1536 = _
    omega

theorem layer2 (y : S8x1536.Idx) : val_main_v26 (F := Ideal) C W B y = entry C W B 2 (y 0).val (y 1).val := by
  have h : (y 1).val < 1536 := (y 1).isLt
  rw [val_main_v26_apply, val_main_v21_apply]
  refine congrArg₂ (· + ·) (Eq.trans (Finset.sum_congr rfl fun k _ => ?_) (sum_fin_eq_dot (fun j => silu (at2 C (y 0).val j)) (fun j => at3 W 2 j (y 1).val) 2048)) ?_
  · refine congrArg₂ (· * ·) (act C _) ?_
    have hk : k.val < 2048 := k.isLt
    rw [val_main_v20_apply, val_main_v19_apply]
    refine eq_at3_of W _ rfl ?_ ?_
    · show (k.val * 1536 + (y 1).val) / 1536 % 2048 = _
      omega
    · show (k.val * 1536 + (y 1).val) % 1536 = _
      omega
  · rw [val_main_v25_apply, val_main_v24_apply, val_main_v23_apply, val_main_v22_apply]
    refine eq_at2_of B _ rfl ?_
    show (y 1).val % 1536 = _
    omega

theorem layer3 (y : S8x1536.Idx) : val_main_v35 (F := Ideal) C W B y = entry C W B 3 (y 0).val (y 1).val := by
  have h : (y 1).val < 1536 := (y 1).isLt
  rw [val_main_v35_apply, val_main_v30_apply]
  refine congrArg₂ (· + ·) (Eq.trans (Finset.sum_congr rfl fun k _ => ?_) (sum_fin_eq_dot (fun j => silu (at2 C (y 0).val j)) (fun j => at3 W 3 j (y 1).val) 2048)) ?_
  · refine congrArg₂ (· * ·) (act C _) ?_
    have hk : k.val < 2048 := k.isLt
    rw [val_main_v29_apply, val_main_v28_apply]
    refine eq_at3_of W _ rfl ?_ ?_
    · show (k.val * 1536 + (y 1).val) / 1536 % 2048 = _
      omega
    · show (k.val * 1536 + (y 1).val) % 1536 = _
      omega
  · rw [val_main_v34_apply, val_main_v33_apply, val_main_v32_apply, val_main_v31_apply]
    refine eq_at2_of B _ rfl ?_
    show (y 1).val % 1536 = _
    omega

theorem v40_eq (y : S4x8x1536.Idx) : val_main_v40 (F := Ideal) C W B y = entry C W B (y 0).val (y 1).val (y 2).val := by
  have h : (y 0).val < 4 := (y 0).isLt
  have e : (y 0).val = 0 ∨ (y 0).val = 1 ∨ (y 0).val = 2 ∨ (y 0).val = 3 := by omega
  unfold val_main_v40 val_main_v36 val_main_v37 val_main_v38 val_main_v39
  pointwise [layer0, layer1, layer2, layer3]
  obtain e | e | e | e := e <;> rw [e] <;> rfl

end Ref

section
open Cert.ModulIdeal Cert.ModulIdeal.Gen

/-- What one point computes. -/
theorem out_eq (x0 : Vec Ideal S8x2048 .f32) (x1 : Vec Ideal S1x2048x512 .f32) (x2 : Vec Ideal S1x1x512 .f32) (y : S1x8x512.Idx) :
    out0_3 (F := Ideal) x0 x1 x2 y
      = dot (fun j => silu (at2 x0 (y 1).val j)) (fun j => at3 x1 0 j (y 2).val) 2048 + at3 x2 0 0 (y 2).val := by
  unfold out0_3
  rw [View.canon_unit_zero zero3]
  simp only [View.ld_unit_zero (S := S8x2048) zero2, View.ld_unit_zero (S := S1x2048x512) zero3, View.ld_unit_zero (S := S1x1x512) zero3]
  unfold_payloads
  pointwise [eq_at2 x0, eq_at3 x1, eq_at3 x2]
  exact congrArg (· + _) (sum_fin_eq_dot (fun j => silu (at2 x0 (y 1).val j)) (fun j => at3 x1 0 j (y 2).val) 2048)

variable (m : (ℓ : Loc nD τ sig) → Buf (Elt Ideal) ℓ) (c : Dev nD)

abbrev argC : Vec Ideal S8x2048 .f32 := m ((c : Thread nD τ).loc main_arg0)
abbrev argW : Vec Ideal S4x2048x1536 .f32 := m ((c : Thread nD τ).loc main_arg1)
abbrev argB : Vec Ideal S4x1536 .f32 := m ((c : Thread nD τ).loc main_arg2)

/-- The region finds the bias's rows as the host laid them out. -/
theorem bias (y : S4x1x1536.Idx) : (V m c main_v0 : Vec Ideal S4x1x1536 .f32) y = at2 (argB m c) (y 0).val (y 2).val := by
  have e : V m c main_v0 = shapeCast (s := S4x1536) S4x1x1536 (argB m c) shapeCasts_S4x1536_S4x1x1536 := by
    unfold V hostOps0
    rw [StableHlo.after_cons, StableHlo.after_nil, StableHlo.reshape_result]
    rfl
  rw [e]
  have h1 : (y 1).val < 1 := (y 1).isLt
  refine (shapeCast_apply (argB m c) shapeCasts_S4x1536_S4x1x1536 y (ix2 (y 0) (y 2)) ?_).trans (eq_at2_of (argB m c) _ rfl rfl)
  rewrite [Shape.rowMajor_val_three, Shape.rowMajor_val_two]
  show (y 0).val * 1536 + (y 2).val = ((y 0).val * 1 + (y 1).val) * 1536 + (y 2).val
  omega

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val / 3 ∧ win0_1.index t 1 = 0 ∧ win0_1.index t 2 = t.val % 3 :=
  (by decide +kernel : ∀ t : Fin grid0.N, win0_1.index t 0 = t.val / 3 ∧ win0_1.index t 1 = 0 ∧ win0_1.index t 2 = t.val % 3)

theorem blk0 (t : Fin cfg0.N) {i j : ℕ} (hi : i < 8) (hj : j < 2048) : at2 (iblk m c 0 t : Vec Ideal S8x2048 .f32) i j = at2 (argC m c) i j := by
  rw [at2_of_lt (iblk m c 0 t : Vec Ideal S8x2048 .f32) hi hj]
  refine eq_at2_of (argC m c) _ ?_ ?_
  · show win0_0.index t 0 * 8 + 1 * i = _
    rw [(index0 t).1]; omega
  · show win0_0.index t 1 * 2048 + 1 * j = _
    rw [(index0 t).2]; omega

theorem blk1 (t : Fin cfg0.N) {j k : ℕ} (hj : j < 2048) (hk : k < 512) :
    at3 (iblk m c 1 t : Vec Ideal S1x2048x512 .f32) 0 j k = at3 (argW m c) (t.val / 3) j (512 * (t.val % 3) + k) := by
  rw [at3_of_lt (iblk m c 1 t : Vec Ideal S1x2048x512 .f32) Nat.one_pos hj hk]
  refine eq_at3_of (argW m c) _ ?_ ?_ ?_
  · show win0_1.index t 0 * 1 + 1 * 0 = _
    rw [(index1 t).1]; omega
  · show win0_1.index t 1 * 2048 + 1 * j = _
    rw [(index1 t).2.1]; omega
  · show win0_1.index t 2 * 512 + 1 * k = _
    rw [(index1 t).2.2]; omega

theorem blk2 (t : Fin cfg0.N) {k : ℕ} (hk : k < 512) :
    at3 (iblk m c 2 t : Vec Ideal S1x1x512 .f32) 0 0 k = at2 (argB m c) (t.val / 3) (512 * (t.val % 3) + k) := by
  rw [at3_of_lt (iblk m c 2 t : Vec Ideal S1x1x512 .f32) Nat.one_pos Nat.one_pos hk]
  refine (bias m c _).trans (congrArg₂ (at2 (argB m c)) ?_ ?_)
  · show win0_1.index t 0 * 1 + 1 * 0 = _
    rw [(index1 t).1]; omega
  · show win0_1.index t 2 * 512 + 1 * k = _
    rw [(index1 t).2.2]; omega

/-- The modulation of every layer. -/
abbrev total : Vec Ideal S4x8x1536 .f32 := fun y => entry (argC m c) (argW m c) (argB m c) (y 0).val (y 1).val (y 2).val

/-- The array after the run. -/
theorem final : (dats m 0 c).arrAt 3 cfg0.N = total m c := by
  refine (dats m 0 c).arrAt_eq_of_cover 3 _ (fun t hf => ?_) fun (y : S4x8x1536.Idx) => ?_
  · rw [Cert.ModulIdeal.Value.flushed3]
    funext x
    have h0 : (x 0).val < 1 := (x 0).isLt
    have h1 : (x 1).val < 8 := (x 1).isLt
    have h2 : (x 2).val < 512 := (x 2).isLt
    refine (out_eq (iblk m c 0 t) (iblk m c 1 t) (iblk m c 2 t) _).trans ?_
    rw [View.read_apply]
    dsimp only [total]
    have e0 : (((cfg0.win 3).blk t).view.emb x (0 : Fin 3)).val = t.val / 3 := by
      show win0_1.index t 0 * 1 + 1 * (x 0).val = _
      rw [(index1 t).1]; omega
    have e1 : (((cfg0.win 3).blk t).view.emb x (1 : Fin 3)).val = (x 1).val := by
      show win0_1.index t 1 * 8 + 1 * (x 1).val = _
      rw [(index1 t).2.1]; omega
    have e2 : (((cfg0.win 3).blk t).view.emb x (2 : Fin 3)).val = 512 * (t.val % 3) + (x 2).val := by
      show win0_1.index t 2 * 512 + 1 * (x 2).val = _
      rw [(index1 t).2.2]; omega
    rw [e0, e1, e2]
    exact congrArg₂ (· + ·) (dot_congr (fun j hj => congrArg silu (blk0 m c t h1 hj)) fun j hj => blk1 m c t hj h2) (blk2 m c t h2)
  · have h0 : (y 0).val < 4 := (y 0).isLt
    have h1 : (y 1).val < 8 := (y 1).isLt
    have h2 : (y 2).val < 1536 := (y 2).isLt
    obtain ⟨t, ht⟩ : ∃ t : Fin cfg0.N, t.val = 3 * (y 0).val + (y 2).val / 512 := ⟨⟨3 * (y 0).val + (y 2).val / 512, show 3 * (y 0).val + (y 2).val / 512 < 12 by omega⟩, rfl⟩
    refine ⟨t, flush0_3 _, ?_⟩
    show y ∈ ((View.whole main_v1).slice (win0_3.rect t)).set
    rw [View.set_slice_whole, Rect.mem_set_unit]
    intro a
    match a with
    | ⟨0, _⟩ =>
      show win0_1.index t 0 * 1 ≤ (y 0).val ∧ (y 0).val < win0_1.index t 0 * 1 + 1
      rw [(index1 t).1]; omega
    | ⟨1, _⟩ =>
      show win0_1.index t 1 * 8 ≤ (y 1).val ∧ (y 1).val < win0_1.index t 1 * 8 + 8
      rw [(index1 t).2.1]; omega
    | ⟨2, _⟩ =>
      show win0_1.index t 2 * 512 ≤ (y 2).val ∧ (y 2).val < win0_1.index t 2 * 512 + 512
      rw [(index1 t).2.2]; omega

/-- The results, equal entry by entry. -/
theorem algebraic : Cert.algebraic_ModulIdeal_ModulRefIdeal :=
  fun m ρ m' ρ' _ hag => by
    refine ⟨fun c => total m c,
      (θ_run ModulIdeal.defs _ _).mono (fun _ h c => ⟨(h c).1.trans (final m c), (h c).2⟩) (ModulIdeal.Value.run_blocks m ρ),
      (θ_run ModulRefIdeal.defs _ _).mono (fun _ h c => ?_) (ModulRefIdeal.Value.run m' ρ')⟩
    obtain ⟨e0, e1, e2⟩ := hag c
    exact ⟨(h c).1.trans ((ModulRefIdeal.Read.val_main_v40_eq _ _ _).trans (funext fun y => (Ref.v40_eq _ _ _ y).trans (by rw [e0, e1, e2]))), (h c).2⟩

/-- The reference runs and leaves its arguments alone; it declares no semaphore. -/
theorem referenceFrame : Cert.quiescent_ModulRefIdeal :=
  fun m ρ _ => (θ_run ModulRefIdeal.defs _ _).mono (fun r h => ⟨fun c => (h c).2,
    sem_eq_zero_of_no_sems (by decide) r.2⟩) (ModulRefIdeal.Value.run m ρ)

end

end Cert.Update.Modul

end
-- ==== Proof.Update.ModUp.lean ====
/- The modulation weight's gradient and its update: the kernel's arrays and the reference's, equal entry by entry. -/
module

public import proofs.«01_k».proof.Defs
public import proofs.«01_k».proof.Proof.Gen.ModUpIdeal.Frame
public import proofs.«01_k».proof.Proof.Gen.ModUpRefIdeal.Run
public import proofs.«01_k».proof.Proof.Gen.ModUpRefIdeal.Read
public import proofs.«01_k».proof.Proof.Products.Sums
public import proofs.«01_k».proof.Proof.Update.Blocks
public import proofs.«01_k».proof.Proof.Update.Silu

@[expose] public section

set_option maxRecDepth 16384

noncomputable section

namespace Cert.Update.ModUp

open Idealize.ShloMosaic Idealize.ShloMosaic.TcCoe Idealize.SL.Sem Cert.Entry

/-- The batch's sum of the activated conditioning times the modulation's gradient. -/
def batch {A B L C : ℕ} (x : (⟨2, ![A, B]⟩ : Shape).Idx → EReal) (d : (⟨3, ![L, 8, C]⟩ : Shape).Idx → EReal) (l j k : ℕ) : EReal :=
  ∑ b : Fin 8, silu (at2 x j b.val) * at3 d l b.val k

theorem batch_congr {A B L C A' B' L' C' : ℕ} {x : (⟨2, ![A, B]⟩ : Shape).Idx → EReal} {d : (⟨3, ![L, 8, C]⟩ : Shape).Idx → EReal}
    {x' : (⟨2, ![A', B']⟩ : Shape).Idx → EReal} {d' : (⟨3, ![L', 8, C']⟩ : Shape).Idx → EReal} {l j k l' j' k' : ℕ}
    (hx : ∀ b, b < 8 → at2 x j b = at2 x' j' b) (hd : ∀ b, b < 8 → at3 d l b k = at3 d' l' b k') : batch x d l j k = batch x' d' l' j' k' :=
  Finset.sum_congr rfl fun b _ => by rw [hx b.val b.isLt, hd b.val b.isLt]

namespace Ref

open Cert.ModUpRefIdeal Cert.ModUpRefIdeal.Gen Cert.ModUpRefIdeal.Read Idealize.ShloMosaic.StableHlo

variable (X : Vec Ideal S2048x8 .f32) (D : Vec Ideal S4x8x1536 .f32) (W M V : Vec Ideal S4x2048x1536 .f32)

theorem v1_eq (y : S8x2048.Idx) : val_main_v1 (F := Ideal) X y = silu (at2 X (y 1).val (y 0).val) := by
  unfold val_main_v1 val_main_call0_v5 val_main_call0_v4 val_main_call0_v3 val_main_call0_v2 val_main_call0_v1 val_main_call0_v0 val_main_call0_cst val_main_call0_cst_0
  pointwise [val_main_v0_apply, eq_at2 X]
  rfl

theorem v6_eq (y : S4x2048x1536.Idx) : val_main_v6 (F := Ideal) X D y = batch X D (y 0).val (y 1).val (y 2).val := by
  rw [val_main_v6_apply, val_main_v5_apply]
  refine Finset.sum_congr rfl fun b _ => ?_
  rw [val_main_v4_apply, v1_eq, eq_at3 D, mul_comm]

theorem v11_eq (y : S4x2048x1536.Idx) : val_main_v11 (F := Ideal) X D M y = first (batch X D (y 0).val (y 1).val (y 2).val) (at3 M (y 0).val (y 1).val (y 2).val) := by
  unfold val_main_v11 val_main_v10 val_main_v9 val_main_v8 val_main_v7 val_main_cst val_main_cst_0
  pointwise [v6_eq, eq_at3 M]
  rfl

theorem v17_eq (y : S4x2048x1536.Idx) : val_main_v17 (F := Ideal) X D V y = second (batch X D (y 0).val (y 1).val (y 2).val) (at3 V (y 0).val (y 1).val (y 2).val) := by
  unfold val_main_v17 val_main_v16 val_main_v15 val_main_v14 val_main_v13 val_main_v12 val_main_cst_1 val_main_cst_2
  pointwise [v6_eq, eq_at3 V]
  rfl

theorem v30_eq (y : S4x2048x1536.Idx) : val_main_v30 (F := Ideal) X D W M V y
    = change (batch X D (y 0).val (y 1).val (y 2).val) (at3 W (y 0).val (y 1).val (y 2).val) (at3 M (y 0).val (y 1).val (y 2).val) (at3 V (y 0).val (y 1).val (y 2).val) := by
  unfold val_main_v30 val_main_v29 val_main_v28 val_main_v27 val_main_v26 val_main_v25 val_main_v24 val_main_v23 val_main_v22 val_main_v21 val_main_v20 val_main_v19 val_main_v18 val_main_cst_3 val_main_cst_4 val_main_cst_5 val_main_cst_6 val_main_cst_7
  pointwise [v11_eq, v17_eq, eq_at3 W]
  rfl

end Ref

section
open Cert.ModUpIdeal Cert.ModUpIdeal.Gen Cert.Products

section
variable (x0 : Vec Ideal S256x8 .f32) (x1 : Vec Ideal S1x8x1536 .f32) (x2 x3 x4 : Vec Ideal S1x256x1536 .f32)

/-- A block's gradient. -/
theorem pay8_eq (y : S256x1536.Idx) : k0_pay8 (F := Ideal) x0 x1 x2 x3 x4 y = batch x0 x1 0 (y 0).val (y 1).val := by
  unfold k0_pay8
  simp only [View.ld_unit_zero (S := S256x8) zero2, View.ld_unit_zero (S := S1x8x1536) zero3]
  unfold k0_pay3
  pointwise [eq_at2 x0, eq_at3 x1]
  exact (Fin.sum_univ_eight fun b : Fin 8 => silu (at2 x0 (y 0).val b.val) * at3 x1 0 b.val (y 1).val).symm

theorem out5_eq (y : S1x256x1536.Idx) : out0_5 (F := Ideal) x0 x1 x2 x3 x4 y = batch x0 x1 0 (y 1).val (y 2).val := by
  unfold out0_5
  rw [View.canon_unit_zero zero3]
  unfold k0_pay6
  pointwise [pay8_eq]

theorem out7_eq (y : S1x256x1536.Idx) : out0_7 (F := Ideal) x0 x1 x2 x3 x4 y
    = first (batch x0 x1 0 (y 1).val (y 2).val) (at3 x3 0 (y 1).val (y 2).val) := by
  unfold out0_7
  rw [View.canon_unit_zero zero3]
  simp only [View.ld_unit_zero (S := S1x256x1536) zero3]
  unfold k0_pay1 k0_pay4
  pointwise [pay8_eq, eq_at3 x3]
  rfl

theorem out8_eq (y : S1x256x1536.Idx) : out0_8 (F := Ideal) x0 x1 x2 x3 x4 y
    = second (batch x0 x1 0 (y 1).val (y 2).val) (at3 x4 0 (y 1).val (y 2).val) := by
  unfold out0_8
  rw [View.canon_unit_zero zero3]
  simp only [View.ld_unit_zero (S := S1x256x1536) zero3]
  unfold k0_pay2 k0_pay5
  pointwise [pay8_eq, eq_at3 x4]
  rfl

theorem out6_eq (y : S1x256x1536.Idx) : out0_6 (F := Ideal) x0 x1 x2 x3 x4 y
    = change (batch x0 x1 0 (y 1).val (y 2).val) (at3 x2 0 (y 1).val (y 2).val) (at3 x3 0 (y 1).val (y 2).val) (at3 x4 0 (y 1).val (y 2).val) := by
  unfold out0_6
  rw [View.canon_unit_zero zero3]
  simp only [View.ld_unit_zero (S := S1x256x1536) zero3]
  unfold k0_pay7 k0_pay4 k0_pay5
  pointwise [pay8_eq, eq_at3 x2, eq_at3 x3, eq_at3 x4]
  rfl

end

section
variable (m : (ℓ : Loc nD τ sig) → Buf (Elt Ideal) ℓ) (c : Dev nD)

abbrev argX : Vec Ideal S2048x8 .f32 := m ((c : Thread nD τ).loc main_arg0)
abbrev argD : Vec Ideal S4x8x1536 .f32 := m ((c : Thread nD τ).loc main_arg1)
abbrev argW : Vec Ideal S4x2048x1536 .f32 := m ((c : Thread nD τ).loc main_arg2)
abbrev argM : Vec Ideal S4x2048x1536 .f32 := m ((c : Thread nD τ).loc main_arg3)
abbrev argV : Vec Ideal S4x2048x1536 .f32 := m ((c : Thread nD τ).loc main_arg4)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

/-- A block's gradient is the array's there. -/
theorem blk01 (t : Fin cfg0.N) {j k : ℕ} (hj : j < 256) (hk : k < 1536) :
    batch (iblk m c 0 t : Vec Ideal S256x8 .f32) (iblk m c 1 t : Vec Ideal S1x8x1536 .f32) 0 j k
      = batch (argX m c) (argD m c) (t.val / 8) (256 * (t.val % 8) + j) k := by
  refine batch_congr (fun b hb => ?_) fun b hb => ?_
  · rw [at2_of_lt (iblk m c 0 t : Vec Ideal S256x8 .f32) hj hb]
    refine eq_at2_of (argX m c) _ ?_ ?_
    · show win0_0.index t 0 * 256 + 1 * j = _
      rw [(index0 t).1]; omega
    · show win0_0.index t 1 * 8 + 1 * b = _
      rw [(index0 t).2]; omega
  · rw [at3_of_lt (iblk m c 1 t : Vec Ideal S1x8x1536 .f32) Nat.one_pos hb hk]
    refine eq_at3_of (argD m c) _ ?_ ?_ ?_
    · show win0_1.index t 0 * 1 + 1 * 0 = _
      rw [(index1 t).1]; omega
    · show win0_1.index t 1 * 8 + 1 * b = _
      rw [(index1 t).2.1]; omega
    · show win0_1.index t 2 * 1536 + 1 * k = _
      rw [(index1 t).2.2]; omega
theorem blk2 (t : Fin cfg0.N) {j k : ℕ} (hj : j < 256) (hk : k < 1536) :
    at3 (iblk m c 2 t : Vec Ideal S1x256x1536 .f32) 0 j k = at3 (argW m c) (t.val / 8) (256 * (t.val % 8) + j) k := by
  rw [at3_of_lt (iblk m c 2 t : Vec Ideal S1x256x1536 .f32) Nat.one_pos hj hk]
  refine eq_at3_of (argW m c) _ ?_ ?_ ?_
  · show win0_2.index t 0 * 1 + 1 * 0 = _
    rw [(index2 t).1]; omega
  · show win0_2.index t 1 * 256 + 1 * j = _
    rw [(index2 t).2.1]; omega
  · show win0_2.index t 2 * 1536 + 1 * k = _
    rw [(index2 t).2.2]; omega
theorem blk3 (t : Fin cfg0.N) {j k : ℕ} (hj : j < 256) (hk : k < 1536) :
    at3 (iblk m c 3 t : Vec Ideal S1x256x1536 .f32) 0 j k = at3 (argM m c) (t.val / 8) (256 * (t.val % 8) + j) k := by
  rw [at3_of_lt (iblk m c 3 t : Vec Ideal S1x256x1536 .f32) Nat.one_pos hj hk]
  refine eq_at3_of (argM m c) _ ?_ ?_ ?_
  · show win0_2.index t 0 * 1 + 1 * 0 = _
    rw [(index2 t).1]; omega
  · show win0_2.index t 1 * 256 + 1 * j = _
    rw [(index2 t).2.1]; omega
  · show win0_2.index t 2 * 1536 + 1 * k = _
    rw [(index2 t).2.2]; omega
theorem blk4 (t : Fin cfg0.N) {j k : ℕ} (hj : j < 256) (hk : k < 1536) :
    at3 (iblk m c 4 t : Vec Ideal S1x256x1536 .f32) 0 j k = at3 (argV m c) (t.val / 8) (256 * (t.val % 8) + j) k := by
  rw [at3_of_lt (iblk m c 4 t : Vec Ideal S1x256x1536 .f32) Nat.one_pos hj hk]
  refine eq_at3_of (argV m c) _ ?_ ?_ ?_
  · show win0_2.index t 0 * 1 + 1 * 0 = _
    rw [(index2 t).1]; omega
  · show win0_2.index t 1 * 256 + 1 * j = _
    rw [(index2 t).2.1]; omega
  · show win0_2.index t 2 * 1536 + 1 * k = _
    rw [(index2 t).2.2]; omega

/-- The gradient. -/
abbrev grad : Vec Ideal S4x2048x1536 .f32 := fun y => batch (argX m c) (argD m c) (y 0).val (y 1).val (y 2).val
/-- The change. -/
abbrev delta : Vec Ideal S4x2048x1536 .f32 := fun y => change (batch (argX m c) (argD m c) (y 0).val (y 1).val (y 2).val) (at3 (argW m c) (y 0).val (y 1).val (y 2).val) (at3 (argM m c) (y 0).val (y 1).val (y 2).val) (at3 (argV m c) (y 0).val (y 1).val (y 2).val)
/-- The first moment. -/
abbrev mean : Vec Ideal S4x2048x1536 .f32 := fun y => first (batch (argX m c) (argD m c) (y 0).val (y 1).val (y 2).val) (at3 (argM m c) (y 0).val (y 1).val (y 2).val)
/-- The second moment. -/
abbrev square : Vec Ideal S4x2048x1536 .f32 := fun y => second (batch (argX m c) (argD m c) (y 0).val (y 1).val (y 2).val) (at3 (argV m c) (y 0).val (y 1).val (y 2).val)

/-- Every entry lies in some point's block. -/
theorem covered (y : S4x2048x1536.Idx) : ∃ t : Fin cfg0.N, ∀ a, win0_2.index t a * S1x256x1536.size a ≤ (y a).val ∧ (y a).val < win0_2.index t a * S1x256x1536.size a + S1x256x1536.size a := by
  have h0 : (y 0).val < 4 := (y 0).isLt
  have h1 : (y 1).val < 2048 := (y 1).isLt
  have h2 : (y 2).val < 1536 := (y 2).isLt
  obtain ⟨t, ht⟩ : ∃ t : Fin cfg0.N, t.val = 8 * (y 0).val + (y 1).val / 256 := ⟨⟨8 * (y 0).val + (y 1).val / 256, show 8 * (y 0).val + (y 1).val / 256 < 32 by omega⟩, rfl⟩
  refine ⟨t, fun a => ?_⟩
  match a with
  | ⟨0, _⟩ =>
    show win0_2.index t 0 * 1 ≤ (y 0).val ∧ (y 0).val < win0_2.index t 0 * 1 + 1
    rw [(index2 t).1]; omega
  | ⟨1, _⟩ =>
    show win0_2.index t 1 * 256 ≤ (y 1).val ∧ (y 1).val < win0_2.index t 1 * 256 + 256
    rw [(index2 t).2.1]; omega
  | ⟨2, _⟩ =>
    show win0_2.index t 2 * 1536 ≤ (y 2).val ∧ (y 2).val < win0_2.index t 2 * 1536 + 1536
    rw [(index2 t).2.2]; omega

/-- Where a block's entry lies in the array: the output windows move alike. -/
theorem place (t : Fin cfg0.N) (x : S1x256x1536.Idx) : (((cfg0.win 5).blk t).view.emb x (0 : Fin 3)).val = t.val / 8
    ∧ (((cfg0.win 5).blk t).view.emb x (1 : Fin 3)).val = 256 * (t.val % 8) + (x 1).val ∧ (((cfg0.win 5).blk t).view.emb x (2 : Fin 3)).val = (x 2).val := by
  have h0 : (x 0).val < 1 := (x 0).isLt
  refine ⟨?_, ?_, ?_⟩
  · show win0_2.index t 0 * 1 + 1 * (x 0).val = _
    rw [(index2 t).1]; omega
  · show win0_2.index t 1 * 256 + 1 * (x 1).val = _
    rw [(index2 t).2.1]; omega
  · show win0_2.index t 2 * 1536 + 1 * (x 2).val = _
    rw [(index2 t).2.2]; omega

/-- The gradient: the array. -/
theorem final5 : (dats m 0 c).arrAt 5 cfg0.N = grad m c := by
  refine (dats m 0 c).arrAt_eq_of_cover 5 _ (fun t hf => ?_) fun (y : S4x2048x1536.Idx) => ?_
  · show (cfg0.win 5).cut (grid0.coords t) ((dats m 0 c).after 5 t) = _
    rw [after0_5]
    funext x
    have h1 : (x 1).val < 256 := (x 1).isLt
    have h2 : (x 2).val < 1536 := (x 2).isLt
    refine (out5_eq (iblk m c 0 t) (iblk m c 1 t) (iblk m c 2 t) (iblk m c 3 t) (iblk m c 4 t) _).trans ?_
    rw [View.read_apply]
    dsimp only [grad]
    have e0 : (((cfg0.win 5).blk t).view.emb x (0 : Fin 3)).val = _ := (place t x).1
    have e1 : (((cfg0.win 5).blk t).view.emb x (1 : Fin 3)).val = _ := (place t x).2.1
    have e2 : (((cfg0.win 5).blk t).view.emb x (2 : Fin 3)).val = _ := (place t x).2.2
    rw [e0, e1, e2]
    exact blk01 m c t h1 h2
  · obtain ⟨t, ht⟩ := covered y
    refine ⟨t, flush0_5 _, ?_⟩
    show y ∈ ((View.whole main_v0_0).slice (win0_5.rect t)).set
    rw [View.set_slice_whole, Rect.mem_set_unit]
    exact ht

/-- The change: the array. -/
theorem final6 : (dats m 0 c).arrAt 6 cfg0.N = delta m c := by
  refine (dats m 0 c).arrAt_eq_of_cover 6 _ (fun t hf => ?_) fun (y : S4x2048x1536.Idx) => ?_
  · show (cfg0.win 6).cut (grid0.coords t) ((dats m 0 c).after 6 t) = _
    rw [after0_6]
    funext x
    have h1 : (x 1).val < 256 := (x 1).isLt
    have h2 : (x 2).val < 1536 := (x 2).isLt
    refine (out6_eq (iblk m c 0 t) (iblk m c 1 t) (iblk m c 2 t) (iblk m c 3 t) (iblk m c 4 t) _).trans ?_
    rw [View.read_apply]
    dsimp only [delta]
    have e0 : (((cfg0.win 6).blk t).view.emb x (0 : Fin 3)).val = _ := (place t x).1
    have e1 : (((cfg0.win 6).blk t).view.emb x (1 : Fin 3)).val = _ := (place t x).2.1
    have e2 : (((cfg0.win 6).blk t).view.emb x (2 : Fin 3)).val = _ := (place t x).2.2
    rw [e0, e1, e2]
    exact change_congr (blk01 m c t h1 h2) (blk2 m c t h1 h2) (blk3 m c t h1 h2) (blk4 m c t h1 h2)
  · obtain ⟨t, ht⟩ := covered y
    refine ⟨t, flush0_6 _, ?_⟩
    show y ∈ ((View.whole main_v0_1).slice (win0_6.rect t)).set
    rw [View.set_slice_whole, Rect.mem_set_unit]
    exact ht

/-- The first moment: the array. -/
theorem final7 : (dats m 0 c).arrAt 7 cfg0.N = mean m c := by
  refine (dats m 0 c).arrAt_eq_of_cover 7 _ (fun t hf => ?_) fun (y : S4x2048x1536.Idx) => ?_
  · show (cfg0.win 7).cut (grid0.coords t) ((dats m 0 c).after 7 t) = _
    rw [after0_7]
    funext x
    have h1 : (x 1).val < 256 := (x 1).isLt
    have h2 : (x 2).val < 1536 := (x 2).isLt
    refine (out7_eq (iblk m c 0 t) (iblk m c 1 t) (iblk m c 2 t) (iblk m c 3 t) (iblk m c 4 t) _).trans ?_
    rw [View.read_apply]
    dsimp only [mean]
    have e0 : (((cfg0.win 7).blk t).view.emb x (0 : Fin 3)).val = _ := (place t x).1
    have e1 : (((cfg0.win 7).blk t).view.emb x (1 : Fin 3)).val = _ := (place t x).2.1
    have e2 : (((cfg0.win 7).blk t).view.emb x (2 : Fin 3)).val = _ := (place t x).2.2
    rw [e0, e1, e2]
    exact congrArg₂ first (blk01 m c t h1 h2) (blk3 m c t h1 h2)
  · obtain ⟨t, ht⟩ := covered y
    refine ⟨t, flush0_7 _, ?_⟩
    show y ∈ ((View.whole main_v0_2).slice (win0_7.rect t)).set
    rw [View.set_slice_whole, Rect.mem_set_unit]
    exact ht

/-- The second moment: the array. -/
theorem final8 : (dats m 0 c).arrAt 8 cfg0.N = square m c := by
  refine (dats m 0 c).arrAt_eq_of_cover 8 _ (fun t hf => ?_) fun (y : S4x2048x1536.Idx) => ?_
  · show (cfg0.win 8).cut (grid0.coords t) ((dats m 0 c).after 8 t) = _
    rw [after0_8]
    funext x
    have h1 : (x 1).val < 256 := (x 1).isLt
    have h2 : (x 2).val < 1536 := (x 2).isLt
    refine (out8_eq (iblk m c 0 t) (iblk m c 1 t) (iblk m c 2 t) (iblk m c 3 t) (iblk m c 4 t) _).trans ?_
    rw [View.read_apply]
    dsimp only [square]
    have e0 : (((cfg0.win 8).blk t).view.emb x (0 : Fin 3)).val = _ := (place t x).1
    have e1 : (((cfg0.win 8).blk t).view.emb x (1 : Fin 3)).val = _ := (place t x).2.1
    have e2 : (((cfg0.win 8).blk t).view.emb x (2 : Fin 3)).val = _ := (place t x).2.2
    rw [e0, e1, e2]
    exact congrArg₂ second (blk01 m c t h1 h2) (blk4 m c t h1 h2)
  · obtain ⟨t, ht⟩ := covered y
    refine ⟨t, flush0_8 _, ?_⟩
    show y ∈ ((View.whole main_v0_3).slice (win0_8.rect t)).set
    rw [View.set_slice_whole, Rect.mem_set_unit]
    exact ht

/-- An argument is as launched: its window is only read. -/
theorem kept (ρ : Dev nD → PrngReg) (r : PUnit × MemSt nD τ sig (Elt Ideal)) (h : Pipeline.FramePost cfgs (dats m) 0 (V m) r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩

end

/-- The results, equal entry by entry. -/
theorem algebraic : Cert.algebraic_ModUpIdeal_ModUpRefIdeal :=
  fun m ρ m' ρ' _ hag => by
    refine ⟨fun c => grad m c,
      fun c => delta m c,
      fun c => mean m c,
      fun c => square m c,
      (θ_run ModUpIdeal.defs _ _).mono (fun r h c => ⟨((h c).1 5).trans (final5 m c), ((h c).1 6).trans (final6 m c), ((h c).1 7).trans (final7 m c), ((h c).1 8).trans (final8 m c), kept m c ρ r h⟩) (run_main m ρ),
      (θ_run ModUpRefIdeal.defs _ _).mono (fun _ h c => ?_) (ModUpRefIdeal.Value.run m' ρ')⟩
    obtain ⟨e0, e1, e2, e3, e4⟩ := hag c
    exact ⟨(h c).1.trans ((ModUpRefIdeal.Read.val_main_v6_eq _ _).trans (funext fun y => (Ref.v6_eq _ _ y).trans (by rw [e0, e1]))),
      (h c).2.1.trans ((ModUpRefIdeal.Read.val_main_v30_eq _ _ _ _ _).trans (funext fun y => (Ref.v30_eq _ _ _ _ _ y).trans (by rw [e0, e1, e2, e3, e4]))),
      (h c).2.2.1.trans ((ModUpRefIdeal.Read.val_main_v11_eq _ _ _).trans (funext fun y => (Ref.v11_eq _ _ _ y).trans (by rw [e0, e1, e3]))),
      (h c).2.2.2.1.trans ((ModUpRefIdeal.Read.val_main_v17_eq _ _ _).trans (funext fun y => (Ref.v17_eq _ _ _ y).trans (by rw [e0, e1, e4]))), (h c).2.2.2.2⟩

/-- The reference runs and leaves its arguments alone; it declares no semaphore. -/
theorem referenceFrame : Cert.quiescent_ModUpRefIdeal :=
  fun m ρ _ => (θ_run ModUpRefIdeal.defs _ _).mono (fun r h => ⟨fun c => (h c).2.2.2.2,
    sem_eq_zero_of_no_sems (by decide) r.2⟩) (ModUpRefIdeal.Value.run m ρ)

end

end Cert.Update.ModUp

end
-- ==== Proof.lean ====
/- The claim of proofs.«01_k».proof.Defs assembled from its parts. -/
module

public import proofs.«01_k».proof.Defs
public import proofs.«01_k».proof.Proof.Gen.Kernel.Frame
public import proofs.«01_k».proof.Proof.Gen.KernelIdeal.Frame
public import proofs.«01_k».proof.Proof.Gen.FDownT.Frame
public import proofs.«01_k».proof.Proof.Gen.FDownTIdeal.Frame
public import proofs.«01_k».proof.Proof.Gen.FDownG.Frame
public import proofs.«01_k».proof.Proof.Gen.FDownGIdeal.Frame
public import proofs.«01_k».proof.Proof.Gen.FUpT.Frame
public import proofs.«01_k».proof.Proof.Gen.FUpTIdeal.Frame
public import proofs.«01_k».proof.Proof.Gen.FUpG.Frame
public import proofs.«01_k».proof.Proof.Gen.FUpGIdeal.Frame
public import proofs.«01_k».proof.Proof.Gen.BOutT.Frame
public import proofs.«01_k».proof.Proof.Gen.BOutTIdeal.Frame
public import proofs.«01_k».proof.Proof.Gen.BOutG.Frame
public import proofs.«01_k».proof.Proof.Gen.BOutGIdeal.Frame
public import proofs.«01_k».proof.Proof.Gen.BInT.Frame
public import proofs.«01_k».proof.Proof.Gen.BInTIdeal.Frame
public import proofs.«01_k».proof.Proof.Gen.BInG.Frame
public import proofs.«01_k».proof.Proof.Gen.BInGIdeal.Frame
public import proofs.«01_k».proof.Proof.Gen.AInT.Frame
public import proofs.«01_k».proof.Proof.Gen.AInTIdeal.Frame
public import proofs.«01_k».proof.Proof.Gen.AInG.Frame
public import proofs.«01_k».proof.Proof.Gen.AInGIdeal.Frame
public import proofs.«01_k».proof.Proof.Gen.FUp.Frame
public import proofs.«01_k».proof.Proof.Gen.FUpIdeal.Frame
public import proofs.«01_k».proof.Proof.Gen.FDown.Frame
public import proofs.«01_k».proof.Proof.Gen.FDownIdeal.Frame
public import proofs.«01_k».proof.Proof.Gen.BIn.Frame
public import proofs.«01_k».proof.Proof.Gen.BInIdeal.Frame
public import proofs.«01_k».proof.Proof.Gen.BOut.Frame
public import proofs.«01_k».proof.Proof.Gen.BOutIdeal.Frame
public import proofs.«01_k».proof.Proof.Gen.AIn.Frame
public import proofs.«01_k».proof.Proof.Gen.AInIdeal.Frame
public import proofs.«01_k».proof.Proof.Gen.AOut.Frame
public import proofs.«01_k».proof.Proof.Gen.AOutIdeal.Frame
public import proofs.«01_k».proof.Proof.Gen.BwdMid.Frame
public import proofs.«01_k».proof.Proof.Gen.BwdMidIdeal.Frame
public import proofs.«01_k».proof.Proof.Gen.BwdIn.Frame
public import proofs.«01_k».proof.Proof.Gen.BwdInIdeal.Frame
public import proofs.«01_k».proof.Proof.Gen.Loss.Frame
public import proofs.«01_k».proof.Proof.Gen.LossIdeal.Frame
public import proofs.«01_k».proof.Proof.Gen.FwdIn.Frame
public import proofs.«01_k».proof.Proof.Gen.FwdInIdeal.Frame
public import proofs.«01_k».proof.Proof.Gen.FwdMid.Frame
public import proofs.«01_k».proof.Proof.Gen.FwdMidIdeal.Frame
public import proofs.«01_k».proof.Proof.Gen.UpF1.Frame
public import proofs.«01_k».proof.Proof.Gen.UpF1Ideal.Frame
public import proofs.«01_k».proof.Proof.Gen.UpF2.Frame
public import proofs.«01_k».proof.Proof.Gen.UpF2Ideal.Frame
public import proofs.«01_k».proof.Proof.Gen.UpBIn.Frame
public import proofs.«01_k».proof.Proof.Gen.UpBInIdeal.Frame
public import proofs.«01_k».proof.Proof.Gen.UpOut.Frame
public import proofs.«01_k».proof.Proof.Gen.UpOutIdeal.Frame
public import proofs.«01_k».proof.Proof.Gen.UpAIn.Frame
public import proofs.«01_k».proof.Proof.Gen.UpAInIdeal.Frame
public import proofs.«01_k».proof.Proof.Gen.UpVec.Frame
public import proofs.«01_k».proof.Proof.Gen.UpVecIdeal.Frame
public import proofs.«01_k».proof.Proof.Gen.UpConv.Frame
public import proofs.«01_k».proof.Proof.Gen.UpConvIdeal.Frame
public import proofs.«01_k».proof.Proof.Gen.BConv.Frame
public import proofs.«01_k».proof.Proof.Gen.BConvIdeal.Frame
public import proofs.«01_k».proof.Proof.Gen.Modul.Frame
public import proofs.«01_k».proof.Proof.Gen.ModulIdeal.Frame
public import proofs.«01_k».proof.Proof.Gen.ModUp.Frame
public import proofs.«01_k».proof.Proof.Gen.ModUpIdeal.Frame
public import proofs.«01_k».proof.Proof.ShortGrad.Equal
public import proofs.«01_k».proof.Proof.Products.FDownT
public import proofs.«01_k».proof.Proof.Products.FDownG
public import proofs.«01_k».proof.Proof.Products.FUpT
public import proofs.«01_k».proof.Proof.Products.FUpG
public import proofs.«01_k».proof.Proof.Products.BOutT
public import proofs.«01_k».proof.Proof.Products.BOutG
public import proofs.«01_k».proof.Proof.Products.BInT
public import proofs.«01_k».proof.Proof.Products.BInG
public import proofs.«01_k».proof.Proof.Products.AInT
public import proofs.«01_k».proof.Proof.Products.AInG
public import proofs.«01_k».proof.Proof.Products.FUp
public import proofs.«01_k».proof.Proof.Products.FDown
public import proofs.«01_k».proof.Proof.Products.BIn
public import proofs.«01_k».proof.Proof.Products.BOut
public import proofs.«01_k».proof.Proof.Products.AIn
public import proofs.«01_k».proof.Proof.Products.AOut
public import proofs.«01_k».proof.Proof.Norms.BwdMidEqual
public import proofs.«01_k».proof.Proof.Norms.BwdInEqual
public import proofs.«01_k».proof.Proof.Norms.LossEqual
public import proofs.«01_k».proof.Proof.Norms.FwdIn
public import proofs.«01_k».proof.Proof.Norms.FwdMid
public import proofs.«01_k».proof.Proof.Update.UpF1
public import proofs.«01_k».proof.Proof.Update.UpF2
public import proofs.«01_k».proof.Proof.Update.UpBIn
public import proofs.«01_k».proof.Proof.Update.UpOut
public import proofs.«01_k».proof.Proof.Update.UpAIn
public import proofs.«01_k».proof.Proof.Update.UpVec
public import proofs.«01_k».proof.Proof.Update.UpConv
public import proofs.«01_k».proof.Proof.Gates.BConv
public import proofs.«01_k».proof.Proof.Update.Modul
public import proofs.«01_k».proof.Proof.Update.ModUp

@[expose] public section

namespace Cert.Proof

open Idealize.ShloMosaic Idealize.SL.Sem Cert.Kernel

/-- The claims, call by call: the three frames, the idealization, the results. -/
theorem claim : Cert.Claim := ⟨
  Cert.Kernel.Gen.facts, Cert.KernelIdeal.Gen.facts, Cert.ReferenceIdeal.Gen.facts,
  Cert.FDownT.Gen.facts, Cert.FDownTIdeal.Gen.facts, Cert.FDownTRefIdeal.Gen.facts,
  Cert.FDownG.Gen.facts, Cert.FDownGIdeal.Gen.facts, Cert.FDownGRefIdeal.Gen.facts,
  Cert.FUpT.Gen.facts, Cert.FUpTIdeal.Gen.facts, Cert.FUpTRefIdeal.Gen.facts,
  Cert.FUpG.Gen.facts, Cert.FUpGIdeal.Gen.facts, Cert.FUpGRefIdeal.Gen.facts,
  Cert.BOutT.Gen.facts, Cert.BOutTIdeal.Gen.facts, Cert.BOutTRefIdeal.Gen.facts,
  Cert.BOutG.Gen.facts, Cert.BOutGIdeal.Gen.facts, Cert.BOutGRefIdeal.Gen.facts,
  Cert.BInT.Gen.facts, Cert.BInTIdeal.Gen.facts, Cert.BInTRefIdeal.Gen.facts,
  Cert.BInG.Gen.facts, Cert.BInGIdeal.Gen.facts, Cert.BInGRefIdeal.Gen.facts,
  Cert.AInT.Gen.facts, Cert.AInTIdeal.Gen.facts, Cert.AInTRefIdeal.Gen.facts,
  Cert.AInG.Gen.facts, Cert.AInGIdeal.Gen.facts, Cert.AInGRefIdeal.Gen.facts,
  Cert.FUp.Gen.facts, Cert.FUpIdeal.Gen.facts, Cert.FUpRefIdeal.Gen.facts,
  Cert.FDown.Gen.facts, Cert.FDownIdeal.Gen.facts, Cert.FDownRefIdeal.Gen.facts,
  Cert.BIn.Gen.facts, Cert.BInIdeal.Gen.facts, Cert.BInRefIdeal.Gen.facts,
  Cert.BOut.Gen.facts, Cert.BOutIdeal.Gen.facts, Cert.BOutRefIdeal.Gen.facts,
  Cert.AIn.Gen.facts, Cert.AInIdeal.Gen.facts, Cert.AInRefIdeal.Gen.facts,
  Cert.AOut.Gen.facts, Cert.AOutIdeal.Gen.facts, Cert.AOutRefIdeal.Gen.facts,
  Cert.BwdMid.Gen.facts, Cert.BwdMidIdeal.Gen.facts, Cert.BwdMidRefIdeal.Gen.facts,
  Cert.BwdIn.Gen.facts, Cert.BwdInIdeal.Gen.facts, Cert.BwdInRefIdeal.Gen.facts,
  Cert.Loss.Gen.facts, Cert.LossIdeal.Gen.facts, Cert.LossRefIdeal.Gen.facts,
  Cert.FwdIn.Gen.facts, Cert.FwdInIdeal.Gen.facts, Cert.FwdInRefIdeal.Gen.facts,
  Cert.FwdMid.Gen.facts, Cert.FwdMidIdeal.Gen.facts, Cert.FwdMidRefIdeal.Gen.facts,
  Cert.UpF1.Gen.facts, Cert.UpF1Ideal.Gen.facts, Cert.UpF1RefIdeal.Gen.facts,
  Cert.UpF2.Gen.facts, Cert.UpF2Ideal.Gen.facts, Cert.UpF2RefIdeal.Gen.facts,
  Cert.UpBIn.Gen.facts, Cert.UpBInIdeal.Gen.facts, Cert.UpBInRefIdeal.Gen.facts,
  Cert.UpOut.Gen.facts, Cert.UpOutIdeal.Gen.facts, Cert.UpOutRefIdeal.Gen.facts,
  Cert.UpAIn.Gen.facts, Cert.UpAInIdeal.Gen.facts, Cert.UpAInRefIdeal.Gen.facts,
  Cert.UpVec.Gen.facts, Cert.UpVecIdeal.Gen.facts, Cert.UpVecRefIdeal.Gen.facts,
  Cert.UpConv.Gen.facts, Cert.UpConvIdeal.Gen.facts, Cert.UpConvRefIdeal.Gen.facts,
  Cert.BConv.Gen.facts, Cert.BConvIdeal.Gen.facts, Cert.BConvRefIdeal.Gen.facts,
  Cert.Modul.Gen.facts, Cert.ModulIdeal.Gen.facts, Cert.ModulRefIdeal.Gen.facts,
  Cert.ModUp.Gen.facts, Cert.ModUpIdeal.Gen.facts, Cert.ModUpRefIdeal.Gen.facts,
  fun m ρ _ => Cert.Kernel.Gen.frame m ρ, fun m ρ _ => Cert.KernelIdeal.Gen.frame m ρ, Cert.ShortGrad.referenceFrame,
  fun m ρ _ => Cert.FDownT.Gen.frame m ρ, fun m ρ _ => Cert.FDownTIdeal.Gen.frame m ρ, Cert.Products.FDownT.referenceFrame,
  fun m ρ _ => Cert.FDownG.Gen.frame m ρ, fun m ρ _ => Cert.FDownGIdeal.Gen.frame m ρ, Cert.Products.FDownG.referenceFrame,
  fun m ρ _ => Cert.FUpT.Gen.frame m ρ, fun m ρ _ => Cert.FUpTIdeal.Gen.frame m ρ, Cert.Products.FUpT.referenceFrame,
  fun m ρ _ => Cert.FUpG.Gen.frame m ρ, fun m ρ _ => Cert.FUpGIdeal.Gen.frame m ρ, Cert.Products.FUpG.referenceFrame,
  fun m ρ _ => Cert.BOutT.Gen.frame m ρ, fun m ρ _ => Cert.BOutTIdeal.Gen.frame m ρ, Cert.Products.BOutT.referenceFrame,
  fun m ρ _ => Cert.BOutG.Gen.frame m ρ, fun m ρ _ => Cert.BOutGIdeal.Gen.frame m ρ, Cert.Products.BOutG.referenceFrame,
  fun m ρ _ => Cert.BInT.Gen.frame m ρ, fun m ρ _ => Cert.BInTIdeal.Gen.frame m ρ, Cert.Products.BInT.referenceFrame,
  fun m ρ _ => Cert.BInG.Gen.frame m ρ, fun m ρ _ => Cert.BInGIdeal.Gen.frame m ρ, Cert.Products.BInG.referenceFrame,
  fun m ρ _ => Cert.AInT.Gen.frame m ρ, fun m ρ _ => Cert.AInTIdeal.Gen.frame m ρ, Cert.Products.AInT.referenceFrame,
  fun m ρ _ => Cert.AInG.Gen.frame m ρ, fun m ρ _ => Cert.AInGIdeal.Gen.frame m ρ, Cert.Products.AInG.referenceFrame,
  fun m ρ _ => Cert.FUp.Gen.frame m ρ, fun m ρ _ => Cert.FUpIdeal.Gen.frame m ρ, Cert.Products.FUp.referenceFrame,
  fun m ρ _ => Cert.FDown.Gen.frame m ρ, fun m ρ _ => Cert.FDownIdeal.Gen.frame m ρ, Cert.Products.FDown.referenceFrame,
  fun m ρ _ => Cert.BIn.Gen.frame m ρ, fun m ρ _ => Cert.BInIdeal.Gen.frame m ρ, Cert.Products.BIn.referenceFrame,
  fun m ρ _ => Cert.BOut.Gen.frame m ρ, fun m ρ _ => Cert.BOutIdeal.Gen.frame m ρ, Cert.Products.BOut.referenceFrame,
  fun m ρ _ => Cert.AIn.Gen.frame m ρ, fun m ρ _ => Cert.AInIdeal.Gen.frame m ρ, Cert.Products.AIn.referenceFrame,
  fun m ρ _ => Cert.AOut.Gen.frame m ρ, fun m ρ _ => Cert.AOutIdeal.Gen.frame m ρ, Cert.Products.AOut.referenceFrame,
  fun m ρ _ => Cert.BwdMid.Gen.frame m ρ, fun m ρ _ => Cert.BwdMidIdeal.Gen.frame m ρ, Cert.Norms.BwdMid.referenceFrame,
  fun m ρ _ => Cert.BwdIn.Gen.frame m ρ, fun m ρ _ => Cert.BwdInIdeal.Gen.frame m ρ, Cert.Norms.BwdIn.referenceFrame,
  fun m ρ _ => Cert.Loss.Gen.frame m ρ, fun m ρ _ => Cert.LossIdeal.Gen.frame m ρ, Cert.Norms.Loss.referenceFrame,
  fun m ρ _ => Cert.FwdIn.Gen.frame m ρ, fun m ρ _ => Cert.FwdInIdeal.Gen.frame m ρ, Cert.Norms.FwdIn.referenceFrame,
  fun m ρ _ => Cert.FwdMid.Gen.frame m ρ, fun m ρ _ => Cert.FwdMidIdeal.Gen.frame m ρ, Cert.Norms.FwdMid.referenceFrame,
  fun m ρ _ => Cert.UpF1.Gen.frame m ρ, fun m ρ _ => Cert.UpF1Ideal.Gen.frame m ρ, Cert.Update.UpF1.referenceFrame,
  fun m ρ _ => Cert.UpF2.Gen.frame m ρ, fun m ρ _ => Cert.UpF2Ideal.Gen.frame m ρ, Cert.Update.UpF2.referenceFrame,
  fun m ρ _ => Cert.UpBIn.Gen.frame m ρ, fun m ρ _ => Cert.UpBInIdeal.Gen.frame m ρ, Cert.Update.UpBIn.referenceFrame,
  fun m ρ _ => Cert.UpOut.Gen.frame m ρ, fun m ρ _ => Cert.UpOutIdeal.Gen.frame m ρ, Cert.Update.UpOut.referenceFrame,
  fun m ρ _ => Cert.UpAIn.Gen.frame m ρ, fun m ρ _ => Cert.UpAInIdeal.Gen.frame m ρ, Cert.Update.UpAIn.referenceFrame,
  fun m ρ _ => Cert.UpVec.Gen.frame m ρ, fun m ρ _ => Cert.UpVecIdeal.Gen.frame m ρ, Cert.Update.UpVec.referenceFrame,
  fun m ρ _ => Cert.UpConv.Gen.frame m ρ, fun m ρ _ => Cert.UpConvIdeal.Gen.frame m ρ, Cert.Update.UpConv.referenceFrame,
  fun m ρ _ => Cert.BConv.Gen.frame m ρ, fun m ρ _ => Cert.BConvIdeal.Gen.frame m ρ, Cert.Gates.BConv.referenceFrame,
  fun m ρ _ => Cert.Modul.Gen.frame m ρ, fun m ρ _ => Cert.ModulIdeal.Gen.frame m ρ, Cert.Update.Modul.referenceFrame,
  fun m ρ _ => Cert.ModUp.Gen.frame m ρ, fun m ρ _ => Cert.ModUpIdeal.Gen.frame m ρ, Cert.Update.ModUp.referenceFrame,
  trivial, Cert.ShortGrad.algebraic,
  trivial, Cert.Products.FDownT.algebraic,
  trivial, Cert.Products.FDownG.algebraic,
  trivial, Cert.Products.FUpT.algebraic,
  trivial, Cert.Products.FUpG.algebraic,
  trivial, Cert.Products.BOutT.algebraic,
  trivial, Cert.Products.BOutG.algebraic,
  trivial, Cert.Products.BInT.algebraic,
  trivial, Cert.Products.BInG.algebraic,
  trivial, Cert.Products.AInT.algebraic,
  trivial, Cert.Products.AInG.algebraic,
  trivial, Cert.Products.FUp.algebraic,
  trivial, Cert.Products.FDown.algebraic,
  trivial, Cert.Products.BIn.algebraic,
  trivial, Cert.Products.BOut.algebraic,
  trivial, Cert.Products.AIn.algebraic,
  trivial, Cert.Products.AOut.algebraic,
  trivial, Cert.Norms.BwdMid.algebraic,
  trivial, Cert.Norms.BwdIn.algebraic,
  trivial, Cert.Norms.Loss.algebraic,
  trivial, Cert.Norms.FwdIn.algebraic,
  trivial, Cert.Norms.FwdMid.algebraic,
  trivial, Cert.Update.UpF1.algebraic,
  trivial, Cert.Update.UpF2.algebraic,
  trivial, Cert.Update.UpBIn.algebraic,
  trivial, Cert.Update.UpOut.algebraic,
  trivial, Cert.Update.UpAIn.algebraic,
  trivial, Cert.Update.UpVec.algebraic,
  trivial, Cert.Update.UpConv.algebraic,
  trivial, Cert.Gates.BConv.algebraic,
  trivial, Cert.Update.Modul.algebraic,
  trivial, Cert.Update.ModUp.algebraic⟩

end Cert.Proof
